-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_router_finite [hPre_router_finite : Cert.Pre_router_finite.Facts] (m : (ℓ : Loc Cert.MergeIdeal.nD Cert.MergeIdeal.τ Cert.MergeIdeal.sig) → Buf (Elt Ideal) ℓ) : Prop :=
  ∀ c : Dev Cert.MergeIdeal.nD,
    (Cert.Pre_router_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_router_finite [hPre_router_finite : Cert.Pre_router_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_router_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def Pre_MoeS (m : (ℓ : Loc Cert.MoeS.nD Cert.MoeS.τ Cert.MoeS.sig) → Buf (Elt Bits) ℓ) : Prop :=
  True

def Pre_MoeSIdeal (m : (ℓ : Loc Cert.MoeSIdeal.nD Cert.MoeSIdeal.τ Cert.MoeSIdeal.sig) → Buf (Elt Ideal) ℓ) : Prop :=
  True

def Pre_MoeSRefIdeal (m : (ℓ : Loc Cert.MoeSRefIdeal.nD Cert.MoeSRefIdeal.τ Cert.MoeSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSIdeal_router_finite_sample [hPre_router_finite_sample : Cert.Pre_router_finite_sample.Facts] (m : (ℓ : Loc Cert.MergeSIdeal.nD Cert.MergeSIdeal.τ Cert.MergeSIdeal.sig) → Buf (Elt Ideal) ℓ) : Prop :=
  ∀ c : Dev Cert.MergeSIdeal.nD,
    (Cert.Pre_router_finite_sample.fn (F := Ideal) (m ((c.tc : Thread Cert.MergeSIdeal.nD Cert.MergeSIdeal.τ).loc Cert.MergeSIdeal.main_arg0)) (m ((c.tc : Thread Cert.MergeSIdeal.nD Cert.MergeSIdeal.τ).loc Cert.MergeSIdeal.main_arg1)) (m ((c.tc : Thread Cert.MergeSIdeal.nD Cert.MergeSIdeal.τ).loc Cert.MergeSIdeal.main_arg2)) (m ((c.tc : Thread Cert.MergeSIdeal.nD Cert.MergeSIdeal.τ).loc Cert.MergeSIdeal.main_arg3)) (m ((c.tc : Thread Cert.MergeSIdeal.nD Cert.MergeSIdeal.τ).loc Cert.MergeSIdeal.main_arg4)) (m ((c.tc : Thread Cert.MergeSIdeal.nD Cert.MergeSIdeal.τ).loc Cert.MergeSIdeal.main_arg5)) (m ((c.tc : Thread Cert.MergeSIdeal.nD Cert.MergeSIdeal.τ).loc Cert.MergeSIdeal.main_arg6)) (m ((c.tc : Thread Cert.MergeSIdeal.nD Cert.MergeSIdeal.τ).loc Cert.MergeSIdeal.main_arg7)) (m ((c.tc : Thread Cert.MergeSIdeal.nD Cert.MergeSIdeal.τ).loc Cert.MergeSIdeal.main_arg8)) (m ((c.tc : Thread Cert.MergeSIdeal.nD Cert.MergeSIdeal.τ).loc Cert.MergeSIdeal.main_arg9)) (m ((c.tc : Thread Cert.MergeSIdeal.nD Cert.MergeSIdeal.τ).loc Cert.MergeSIdeal.main_arg10)) (m ((c.tc : Thread Cert.MergeSIdeal.nD Cert.MergeSIdeal.τ).loc Cert.MergeSIdeal.main_arg11)) (m ((c.tc : Thread Cert.MergeSIdeal.nD Cert.MergeSIdeal.τ).loc Cert.MergeSIdeal.main_arg12))) = (fun _ => 1#1)

def Pre_MergeSRefIdeal (m : (ℓ : Loc Cert.MergeSRefIdeal.nD Cert.MergeSRefIdeal.τ Cert.MergeSRefIdeal.sig) → Buf (Elt Ideal) ℓ) : Prop :=
  True

def Pre_MergeSRefIdeal_router_finite_sample [hPre_router_finite_sample : Cert.Pre_router_finite_sample.Facts] (m : (ℓ : Loc Cert.MergeSRefIdeal.nD Cert.MergeSRefIdeal.τ Cert.MergeSRefIdeal.sig) → Buf (Elt Ideal) ℓ) : Prop :=
  ∀ c : Dev Cert.MergeSRefIdeal.nD,
    (Cert.Pre_router_finite_sample.fn (F := Ideal) (m ((c.tc : Thread Cert.MergeSRefIdeal.nD Cert.MergeSRefIdeal.τ).loc Cert.MergeSRefIdeal.main_arg0)) (m ((c.tc : Thread Cert.MergeSRefIdeal.nD Cert.MergeSRefIdeal.τ).loc Cert.MergeSRefIdeal.main_arg1)) (m ((c.tc : Thread Cert.MergeSRefIdeal.nD Cert.MergeSRefIdeal.τ).loc Cert.MergeSRefIdeal.main_arg2)) (m ((c.tc : Thread Cert.MergeSRefIdeal.nD Cert.MergeSRefIdeal.τ).loc Cert.MergeSRefIdeal.main_arg3)) (m ((c.tc : Thread Cert.MergeSRefIdeal.nD Cert.MergeSRefIdeal.τ).loc Cert.MergeSRefIdeal.main_arg4)) (m ((c.tc : Thread Cert.MergeSRefIdeal.nD Cert.MergeSRefIdeal.τ).loc Cert.MergeSRefIdeal.main_arg5)) (m ((c.tc : Thread Cert.MergeSRefIdeal.nD Cert.MergeSRefIdeal.τ).loc Cert.MergeSRefIdeal.main_arg6)) (m ((c.tc : Thread Cert.MergeSRefIdeal.nD Cert.MergeSRefIdeal.τ).loc Cert.MergeSRefIdeal.main_arg7)) (m ((c.tc : Thread Cert.MergeSRefIdeal.nD Cert.MergeSRefIdeal.τ).loc Cert.MergeSRefIdeal.main_arg8)) (m ((c.tc : Thread Cert.MergeSRefIdeal.nD Cert.MergeSRefIdeal.τ).loc Cert.MergeSRefIdeal.main_arg9)) (m ((c.tc : Thread Cert.MergeSRefIdeal.nD Cert.MergeSRefIdeal.τ).loc Cert.MergeSRefIdeal.main_arg10)) (m ((c.tc : Thread Cert.MergeSRefIdeal.nD Cert.MergeSRefIdeal.τ).loc Cert.MergeSRefIdeal.main_arg11)) (m ((c.tc : Thread Cert.MergeSRefIdeal.nD Cert.MergeSRefIdeal.τ).loc Cert.MergeSRefIdeal.main_arg12))) = (fun _ => 1#1)

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSIdeal_inproj_finite_sample [hPre_inproj_finite_sample : Cert.Pre_inproj_finite_sample.Facts] (m : (ℓ : Loc Cert.InprojSIdeal.nD Cert.InprojSIdeal.τ Cert.InprojSIdeal.sig) → Buf (Elt Ideal) ℓ) : Prop :=
  ∀ c : Dev Cert.InprojSIdeal.nD,
    (Cert.Pre_inproj_finite_sample.fn (F := Ideal) (m ((c.tc : Thread Cert.InprojSIdeal.nD Cert.InprojSIdeal.τ).loc Cert.InprojSIdeal.main_arg0)) (m ((c.tc : Thread Cert.InprojSIdeal.nD Cert.InprojSIdeal.τ).loc Cert.InprojSIdeal.main_arg1)) (m ((c.tc : Thread Cert.InprojSIdeal.nD Cert.InprojSIdeal.τ).loc Cert.InprojSIdeal.main_arg2)) (m ((c.tc : Thread Cert.InprojSIdeal.nD Cert.InprojSIdeal.τ).loc Cert.InprojSIdeal.main_arg3)) (m ((c.tc : Thread Cert.InprojSIdeal.nD Cert.InprojSIdeal.τ).loc Cert.InprojSIdeal.main_arg4))) = (fun _ => 1#1)

def Pre_InprojSRefIdeal (m : (ℓ : Loc Cert.InprojSRefIdeal.nD Cert.InprojSRefIdeal.τ Cert.InprojSRefIdeal.sig) → Buf (Elt Ideal) ℓ) : Prop :=
  True

def Pre_InprojSRefIdeal_inproj_finite_sample [hPre_inproj_finite_sample : Cert.Pre_inproj_finite_sample.Facts] (m : (ℓ : Loc Cert.InprojSRefIdeal.nD Cert.InprojSRefIdeal.τ Cert.InprojSRefIdeal.sig) → Buf (Elt Ideal) ℓ) : Prop :=
  ∀ c : Dev Cert.InprojSRefIdeal.nD,
    (Cert.Pre_inproj_finite_sample.fn (F := Ideal) (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2)) (m ((c.tc : Thread Cert.InprojSRefIdeal.nD Cert.InprojSRefIdeal.τ).loc Cert.InprojSRefIdeal.main_arg3)) (m ((c.tc : Thread Cert.InprojSRefIdeal.nD Cert.InprojSRefIdeal.τ).loc Cert.InprojSRefIdeal.main_arg4))) = (fun _ => 1#1)

def Pre_WkvS (m : (ℓ : Loc Cert.WkvS.nD Cert.WkvS.τ Cert.WkvS.sig) → Buf (Elt Bits) ℓ) : Prop :=
  True

def Pre_WkvSIdeal (m : (ℓ : Loc Cert.WkvSIdeal.nD Cert.WkvSIdeal.τ Cert.WkvSIdeal.sig) → Buf (Elt Ideal) ℓ) : Prop :=
  True

def Pre_WkvSIdeal_wkv_finite [hPre_wkv_finite : Cert.Pre_wkv_finite.Facts] (m : (ℓ : Loc Cert.WkvSIdeal.nD Cert.WkvSIdeal.τ Cert.WkvSIdeal.sig) → Buf (Elt Ideal) ℓ) : Prop :=
  ∀ c : Dev Cert.WkvSIdeal.nD,
    (Cert.Pre_wkv_finite.fn (F := Ideal) (m ((c.tc : Thread Cert.WkvSIdeal.nD Cert.WkvSIdeal.τ).loc Cert.WkvSIdeal.main_arg0)) (m ((c.tc : Thread Cert.WkvSIdeal.nD Cert.WkvSIdeal.τ).loc Cert.WkvSIdeal.main_arg1)) (m ((c.tc : Thread Cert.WkvSIdeal.nD Cert.WkvSIdeal.τ).loc Cert.WkvSIdeal.main_arg2)) (m ((c.tc : Thread Cert.WkvSIdeal.nD Cert.WkvSIdeal.τ).loc Cert.WkvSIdeal.main_arg3)) (m ((c.tc : Thread Cert.WkvSIdeal.nD Cert.WkvSIdeal.τ).loc Cert.WkvSIdeal.main_arg4)) (m ((c.tc : Thread Cert.WkvSIdeal.nD Cert.WkvSIdeal.τ).loc Cert.WkvSIdeal.main_arg5)) (m ((c.tc : Thread Cert.WkvSIdeal.nD Cert.WkvSIdeal.τ).loc Cert.WkvSIdeal.main_arg6)) (m ((c.tc : Thread Cert.WkvSIdeal.nD Cert.WkvSIdeal.τ).loc Cert.WkvSIdeal.main_arg7)) (m ((c.tc : Thread Cert.WkvSIdeal.nD Cert.WkvSIdeal.τ).loc Cert.WkvSIdeal.main_arg8)) (m ((c.tc : Thread Cert.WkvSIdeal.nD Cert.WkvSIdeal.τ).loc Cert.WkvSIdeal.main_arg9)) (m ((c.tc : Thread Cert.WkvSIdeal.nD Cert.WkvSIdeal.τ).loc Cert.WkvSIdeal.main_arg10)) (m ((c.tc : Thread Cert.WkvSIdeal.nD Cert.WkvSIdeal.τ).loc Cert.WkvSIdeal.main_arg11)) (m ((c.tc : Thread Cert.WkvSIdeal.nD Cert.WkvSIdeal.τ).loc Cert.WkvSIdeal.main_arg12)) (m ((c.tc : Thread Cert.WkvSIdeal.nD Cert.WkvSIdeal.τ).loc Cert.WkvSIdeal.main_arg13))) = (fun _ => 1#1)

def Pre_WkvSRefIdeal (m : (ℓ : Loc Cert.WkvSRefIdeal.nD Cert.WkvSRefIdeal.τ Cert.WkvSRefIdeal.sig) → Buf (Elt Ideal) ℓ) : Prop :=
  True

def Pre_WkvSRefIdeal_wkv_finite [hPre_wkv_finite : Cert.Pre_wkv_finite.Facts] (m : (ℓ : Loc Cert.WkvSRefIdeal.nD Cert.WkvSRefIdeal.τ Cert.WkvSRefIdeal.sig) → Buf (Elt Ideal) ℓ) : Prop :=
  ∀ c : Dev Cert.WkvSRefIdeal.nD,
    (Cert.Pre_wkv_finite.fn (F := Ideal) (m ((c.tc : Thread Cert.WkvSRefIdeal.nD Cert.WkvSRefIdeal.τ).loc Cert.WkvSRefIdeal.main_arg0)) (m ((c.tc : Thread Cert.WkvSRefIdeal.nD Cert.WkvSRefIdeal.τ).loc Cert.WkvSRefIdeal.main_arg1)) (m ((c.tc : Thread Cert.WkvSRefIdeal.nD Cert.WkvSRefIdeal.τ).loc Cert.WkvSRefIdeal.main_arg2)) (m ((c.tc : Thread Cert.WkvSRefIdeal.nD Cert.WkvSRefIdeal.τ).loc Cert.WkvSRefIdeal.main_arg3)) (m ((c.tc : Thread Cert.WkvSRefIdeal.nD Cert.WkvSRefIdeal.τ).loc Cert.WkvSRefIdeal.main_arg4)) (m ((c.tc : Thread Cert.WkvSRefIdeal.nD Cert.WkvSRefIdeal.τ).loc Cert.WkvSRefIdeal.main_arg5)) (m ((c.tc : Thread Cert.WkvSRefIdeal.nD Cert.WkvSRefIdeal.τ).loc Cert.WkvSRefIdeal.main_arg6)) (m ((c.tc : Thread Cert.WkvSRefIdeal.nD Cert.WkvSRefIdeal.τ).loc Cert.WkvSRefIdeal.main_arg7)) (m ((c.tc : Thread Cert.WkvSRefIdeal.nD Cert.WkvSRefIdeal.τ).loc Cert.WkvSRefIdeal.main_arg8)) (m ((c.tc : Thread Cert.WkvSRefIdeal.nD Cert.WkvSRefIdeal.τ).loc Cert.WkvSRefIdeal.main_arg9)) (m ((c.tc : Thread Cert.WkvSRefIdeal.nD Cert.WkvSRefIdeal.τ).loc Cert.WkvSRefIdeal.main_arg10)) (m ((c.tc : Thread Cert.WkvSRefIdeal.nD Cert.WkvSRefIdeal.τ).loc Cert.WkvSRefIdeal.main_arg11)) (m ((c.tc : Thread Cert.WkvSRefIdeal.nD Cert.WkvSRefIdeal.τ).loc Cert.WkvSRefIdeal.main_arg12)) (m ((c.tc : Thread Cert.WkvSRefIdeal.nD Cert.WkvSRefIdeal.τ).loc Cert.WkvSRefIdeal.main_arg13))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9)
      ∧ r.2.mem ((c.tc : Thread Cert.Moe.nD Cert.Moe.τ).loc Cert.Moe.main_arg10) = m ((c.tc : Thread Cert.Moe.nD Cert.Moe.τ).loc Cert.Moe.main_arg10))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
      ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8)
      ∧ r.2.mem ((c.tc : Thread Cert.MoeRefIdeal.nD Cert.MoeRefIdeal.τ).loc Cert.MoeRefIdeal.main_arg9) = m ((c.tc : Thread Cert.MoeRefIdeal.nD Cert.MoeRefIdeal.τ).loc Cert.MoeRefIdeal.main_arg9)
      ∧ r.2.mem ((c.tc : Thread Cert.MoeRefIdeal.nD Cert.MoeRefIdeal.τ).loc Cert.MoeRefIdeal.main_arg10) = m ((c.tc : Thread Cert.MoeRefIdeal.nD Cert.MoeRefIdeal.τ).loc Cert.MoeRefIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_router_finite [hMergeIdeal : Cert.MergeIdeal.Facts] [hPre_router_finite : Cert.Pre_router_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_router_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeRefIdeal_pre_router_finite [hMergeRefIdeal : Cert.MergeRefIdeal.Facts] [hPre_router_finite : Cert.Pre_router_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_router_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_MoeS [hMoeS : Cert.MoeS.Facts] : Prop :=
  ∀ (m : (ℓ : Loc Cert.MoeS.nD Cert.MoeS.τ Cert.MoeS.sig) → Buf (Elt Bits) ℓ) (g : Dev Cert.MoeS.nD → PrngReg), Pre_MoeS m →
    θ_run (Cert.MoeS.defs (F := Bits)) (onTc (τ := Cert.MoeS.τ) (Cert.MoeS.main (F := Bits))) ⟨m, fun _ => 0, g⟩ (fun r => (∀ c : Dev Cert.MoeS.nD,
      r.2.mem ((c.tc : Thread Cert.MoeS.nD Cert.MoeS.τ).loc Cert.MoeS.main_arg0) = m ((c.tc : Thread Cert.MoeS.nD Cert.MoeS.τ).loc Cert.MoeS.main_arg0)
      ∧ r.2.mem ((c.tc : Thread Cert.MoeS.nD Cert.MoeS.τ).loc Cert.MoeS.main_arg1) = m ((c.tc : Thread Cert.MoeS.nD Cert.MoeS.τ).loc Cert.MoeS.main_arg1)
      ∧ r.2.mem ((c.tc : Thread Cert.MoeS.nD Cert.MoeS.τ).loc Cert.MoeS.main_arg2) = m ((c.tc : Thread Cert.MoeS.nD Cert.MoeS.τ).loc Cert.MoeS.main_arg2)
      ∧ r.2.mem ((c.tc : Thread Cert.MoeS.nD Cert.MoeS.τ).loc Cert.MoeS.main_arg3) = m ((c.tc : Thread Cert.MoeS.nD Cert.MoeS.τ).loc Cert.MoeS.main_arg3)
      ∧ r.2.mem ((c.tc : Thread Cert.MoeS.nD Cert.MoeS.τ).loc Cert.MoeS.main_arg4) = m ((c.tc : Thread Cert.MoeS.nD Cert.MoeS.τ).loc Cert.MoeS.main_arg4)
      ∧ r.2.mem ((c.tc : Thread Cert.MoeS.nD Cert.MoeS.τ).loc Cert.MoeS.main_arg5) = m ((c.tc : Thread Cert.MoeS.nD Cert.MoeS.τ).loc Cert.MoeS.main_arg5)
      ∧ r.2.mem ((c.tc : Thread Cert.MoeS.nD Cert.MoeS.τ).loc Cert.MoeS.main_arg6) = m ((c.tc : Thread Cert.MoeS.nD Cert.MoeS.τ).loc Cert.MoeS.main_arg6)
      ∧ r.2.mem ((c.tc : Thread Cert.MoeS.nD Cert.MoeS.τ).loc Cert.MoeS.main_arg7) = m ((c.tc : Thread Cert.MoeS.nD Cert.MoeS.τ).loc Cert.MoeS.main_arg7)
      ∧ r.2.mem ((c.tc : Thread Cert.MoeS.nD Cert.MoeS.τ).loc Cert.MoeS.main_arg8) = m ((c.tc : Thread Cert.MoeS.nD Cert.MoeS.τ).loc Cert.MoeS.main_arg8)
      ∧ r.2.mem ((c.tc : Thread Cert.MoeS.nD Cert.MoeS.τ).loc Cert.MoeS.main_arg9) = m ((c.tc : Thread Cert.MoeS.nD Cert.MoeS.τ).loc Cert.MoeS.main_arg9)
      ∧ r.2.mem ((c.tc : Thread Cert.MoeS.nD Cert.MoeS.τ).loc Cert.MoeS.main_arg10) = m ((c.tc : Thread Cert.MoeS.nD Cert.MoeS.τ).loc Cert.MoeS.main_arg10))
      ∧ r.2.sem = fun _ => 0)

def quiescent_MoeSIdeal [hMoeSIdeal : Cert.MoeSIdeal.Facts] : Prop :=
  ∀ (m : (ℓ : Loc Cert.MoeSIdeal.nD Cert.MoeSIdeal.τ Cert.MoeSIdeal.sig) → Buf (Elt Ideal) ℓ) (g : Dev Cert.MoeSIdeal.nD → PrngReg), Pre_MoeSIdeal m →
    θ_run (Cert.MoeSIdeal.defs (F := Ideal)) (onTc (τ := Cert.MoeSIdeal.τ) (Cert.MoeSIdeal.main (F := Ideal))) ⟨m, fun _ => 0, g⟩ (fun r => (∀ c : Dev Cert.MoeSIdeal.nD,
      r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
      ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
      ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
      ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
      ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
      ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
      ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
      ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7)
      ∧ r.2.mem ((c.tc : Thread Cert.MoeSIdeal.nD Cert.MoeSIdeal.τ).loc Cert.MoeSIdeal.main_arg8) = m ((c.tc : Thread Cert.MoeSIdeal.nD Cert.MoeSIdeal.τ).loc Cert.MoeSIdeal.main_arg8)
      ∧ r.2.mem ((c.tc : Thread Cert.MoeSIdeal.nD Cert.MoeSIdeal.τ).loc Cert.MoeSIdeal.main_arg9) = m ((c.tc : Thread Cert.MoeSIdeal.nD Cert.MoeSIdeal.τ).loc Cert.MoeSIdeal.main_arg9)
      ∧ r.2.mem ((c.tc : Thread Cert.MoeSIdeal.nD Cert.MoeSIdeal.τ).loc Cert.MoeSIdeal.main_arg10) = m ((c.tc : Thread Cert.MoeSIdeal.nD Cert.MoeSIdeal.τ).loc Cert.MoeSIdeal.main_arg10))
      ∧ r.2.sem = fun _ => 0)

def quiescent_MoeSRefIdeal [hMoeSRefIdeal : Cert.MoeSRefIdeal.Facts] : Prop :=
  ∀ (m : (ℓ : Loc Cert.MoeSRefIdeal.nD Cert.MoeSRefIdeal.τ Cert.MoeSRefIdeal.sig) → Buf (Elt Ideal) ℓ) (g : Dev Cert.MoeSRefIdeal.nD → PrngReg), Pre_MoeSRefIdeal m →
    θ_run (Cert.MoeSRefIdeal.defs (F := Ideal)) (onTc (τ := Cert.MoeSRefIdeal.τ) (Cert.MoeSRefIdeal.main (F := Ideal))) ⟨m, fun _ => 0, g⟩ (fun r => (∀ c : Dev Cert.MoeSRefIdeal.nD,
      r.2.mem ((c.tc : Thread Cert.MoeSRefIdeal.nD Cert.MoeSRefIdeal.τ).loc Cert.MoeSRefIdeal.main_arg0) = m ((c.tc : Thread Cert.MoeSRefIdeal.nD Cert.MoeSRefIdeal.τ).loc Cert.MoeSRefIdeal.main_arg0)
      ∧ r.2.mem ((c.tc : Thread Cert.MoeSRefIdeal.nD Cert.MoeSRefIdeal.τ).loc Cert.MoeSRefIdeal.main_arg1) = m ((c.tc : Thread Cert.MoeSRefIdeal.nD Cert.MoeSRefIdeal.τ).loc Cert.MoeSRefIdeal.main_arg1)
      ∧ r.2.mem ((c.tc : Thread Cert.MoeSRefIdeal.nD Cert.MoeSRefIdeal.τ).loc Cert.MoeSRefIdeal.main_arg2) = m ((c.tc : Thread Cert.MoeSRefIdeal.nD Cert.MoeSRefIdeal.τ).loc Cert.MoeSRefIdeal.main_arg2)
      ∧ r.2.mem ((c.tc : Thread Cert.MoeSRefIdeal.nD Cert.MoeSRefIdeal.τ).loc Cert.MoeSRefIdeal.main_arg3) = m ((c.tc : Thread Cert.MoeSRefIdeal.nD Cert.MoeSRefIdeal.τ).loc Cert.MoeSRefIdeal.main_arg3)
      ∧ r.2.mem ((c.tc : Thread Cert.MoeSRefIdeal.nD Cert.MoeSRefIdeal.τ).loc Cert.MoeSRefIdeal.main_arg4) = m ((c.tc : Thread Cert.MoeSRefIdeal.nD Cert.MoeSRefIdeal.τ).loc Cert.MoeSRefIdeal.main_arg4)
      ∧ r.2.mem ((c.tc : Thread Cert.MoeSRefIdeal.nD Cert.MoeSRefIdeal.τ).loc Cert.MoeSRefIdeal.main_arg5) = m ((c.tc : Thread Cert.MoeSRefIdeal.nD Cert.MoeSRefIdeal.τ).loc Cert.MoeSRefIdeal.main_arg5)
      ∧ r.2.mem ((c.tc : Thread Cert.MoeSRefIdeal.nD Cert.MoeSRefIdeal.τ).loc Cert.MoeSRefIdeal.main_arg6) = m ((c.tc : Thread Cert.MoeSRefIdeal.nD Cert.MoeSRefIdeal.τ).loc Cert.MoeSRefIdeal.main_arg6)
      ∧ r.2.mem ((c.tc : Thread Cert.MoeSRefIdeal.nD Cert.MoeSRefIdeal.τ).loc Cert.MoeSRefIdeal.main_arg7) = m ((c.tc : Thread Cert.MoeSRefIdeal.nD Cert.MoeSRefIdeal.τ).loc Cert.MoeSRefIdeal.main_arg7)
      ∧ r.2.mem ((c.tc : Thread Cert.MoeSRefIdeal.nD Cert.MoeSRefIdeal.τ).loc Cert.MoeSRefIdeal.main_arg8) = m ((c.tc : Thread Cert.MoeSRefIdeal.nD Cert.MoeSRefIdeal.τ).loc Cert.MoeSRefIdeal.main_arg8)
      ∧ r.2.mem ((c.tc : Thread Cert.MoeSRefIdeal.nD Cert.MoeSRefIdeal.τ).loc Cert.MoeSRefIdeal.main_arg9) = m ((c.tc : Thread Cert.MoeSRefIdeal.nD Cert.MoeSRefIdeal.τ).loc Cert.MoeSRefIdeal.main_arg9)
      ∧ r.2.mem ((c.tc : Thread Cert.MoeSRefIdeal.nD Cert.MoeSRefIdeal.τ).loc Cert.MoeSRefIdeal.main_arg10) = m ((c.tc : Thread Cert.MoeSRefIdeal.nD Cert.MoeSRefIdeal.τ).loc Cert.MoeSRefIdeal.main_arg10))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9)
      ∧ r.2.mem ((c.tc : Thread Cert.MergeS.nD Cert.MergeS.τ).loc Cert.MergeS.main_arg10) = m ((c.tc : Thread Cert.MergeS.nD Cert.MergeS.τ).loc Cert.MergeS.main_arg10)
      ∧ r.2.mem ((c.tc : Thread Cert.MergeS.nD Cert.MergeS.τ).loc Cert.MergeS.main_arg11) = m ((c.tc : Thread Cert.MergeS.nD Cert.MergeS.τ).loc Cert.MergeS.main_arg11)
      ∧ r.2.mem ((c.tc : Thread Cert.MergeS.nD Cert.MergeS.τ).loc Cert.MergeS.main_arg12) = m ((c.tc : Thread Cert.MergeS.nD Cert.MergeS.τ).loc Cert.MergeS.main_arg12))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
      ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10)
      ∧ r.2.mem ((c.tc : Thread Cert.MergeSIdeal.nD Cert.MergeSIdeal.τ).loc Cert.MergeSIdeal.main_arg11) = m ((c.tc : Thread Cert.MergeSIdeal.nD Cert.MergeSIdeal.τ).loc Cert.MergeSIdeal.main_arg11)
      ∧ r.2.mem ((c.tc : Thread Cert.MergeSIdeal.nD Cert.MergeSIdeal.τ).loc Cert.MergeSIdeal.main_arg12) = m ((c.tc : Thread Cert.MergeSIdeal.nD Cert.MergeSIdeal.τ).loc Cert.MergeSIdeal.main_arg12))
      ∧ r.2.sem = fun _ => 0)

def quiescent_MergeSIdeal_pre_router_finite_sample [hMergeSIdeal : Cert.MergeSIdeal.Facts] [hPre_router_finite_sample : Cert.Pre_router_finite_sample.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal_router_finite_sample m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
      ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10)
      ∧ r.2.mem ((c.tc : Thread Cert.MergeSIdeal.nD Cert.MergeSIdeal.τ).loc Cert.MergeSIdeal.main_arg11) = m ((c.tc : Thread Cert.MergeSIdeal.nD Cert.MergeSIdeal.τ).loc Cert.MergeSIdeal.main_arg11)
      ∧ r.2.mem ((c.tc : Thread Cert.MergeSIdeal.nD Cert.MergeSIdeal.τ).loc Cert.MergeSIdeal.main_arg12) = m ((c.tc : Thread Cert.MergeSIdeal.nD Cert.MergeSIdeal.τ).loc Cert.MergeSIdeal.main_arg12))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9)
      ∧ r.2.mem ((c.tc : Thread Cert.MergeSRefIdeal.nD Cert.MergeSRefIdeal.τ).loc Cert.MergeSRefIdeal.main_arg10) = m ((c.tc : Thread Cert.MergeSRefIdeal.nD Cert.MergeSRefIdeal.τ).loc Cert.MergeSRefIdeal.main_arg10)
      ∧ r.2.mem ((c.tc : Thread Cert.MergeSRefIdeal.nD Cert.MergeSRefIdeal.τ).loc Cert.MergeSRefIdeal.main_arg11) = m ((c.tc : Thread Cert.MergeSRefIdeal.nD Cert.MergeSRefIdeal.τ).loc Cert.MergeSRefIdeal.main_arg11)
      ∧ r.2.mem ((c.tc : Thread Cert.MergeSRefIdeal.nD Cert.MergeSRefIdeal.τ).loc Cert.MergeSRefIdeal.main_arg12) = m ((c.tc : Thread Cert.MergeSRefIdeal.nD Cert.MergeSRefIdeal.τ).loc Cert.MergeSRefIdeal.main_arg12))
      ∧ r.2.sem = fun _ => 0)

def quiescent_MergeSRefIdeal_pre_router_finite_sample [hMergeSRefIdeal : Cert.MergeSRefIdeal.Facts] [hPre_router_finite_sample : Cert.Pre_router_finite_sample.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal_router_finite_sample m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9)
      ∧ r.2.mem ((c.tc : Thread Cert.MergeSRefIdeal.nD Cert.MergeSRefIdeal.τ).loc Cert.MergeSRefIdeal.main_arg10) = m ((c.tc : Thread Cert.MergeSRefIdeal.nD Cert.MergeSRefIdeal.τ).loc Cert.MergeSRefIdeal.main_arg10)
      ∧ r.2.mem ((c.tc : Thread Cert.MergeSRefIdeal.nD Cert.MergeSRefIdeal.τ).loc Cert.MergeSRefIdeal.main_arg11) = m ((c.tc : Thread Cert.MergeSRefIdeal.nD Cert.MergeSRefIdeal.τ).loc Cert.MergeSRefIdeal.main_arg11)
      ∧ r.2.mem ((c.tc : Thread Cert.MergeSRefIdeal.nD Cert.MergeSRefIdeal.τ).loc Cert.MergeSRefIdeal.main_arg12) = m ((c.tc : Thread Cert.MergeSRefIdeal.nD Cert.MergeSRefIdeal.τ).loc Cert.MergeSRefIdeal.main_arg12))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3)
      ∧ r.2.mem ((c.tc : Thread Cert.InprojS.nD Cert.InprojS.τ).loc Cert.InprojS.main_arg4) = m ((c.tc : Thread Cert.InprojS.nD Cert.InprojS.τ).loc Cert.InprojS.main_arg4))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
      ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ r.2.sem = fun _ => 0)

def quiescent_InprojSIdeal_pre_inproj_finite_sample [hInprojSIdeal : Cert.InprojSIdeal.Facts] [hPre_inproj_finite_sample : Cert.Pre_inproj_finite_sample.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal_inproj_finite_sample m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
      ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3)
      ∧ r.2.mem ((c.tc : Thread Cert.InprojSRefIdeal.nD Cert.InprojSRefIdeal.τ).loc Cert.InprojSRefIdeal.main_arg4) = m ((c.tc : Thread Cert.InprojSRefIdeal.nD Cert.InprojSRefIdeal.τ).loc Cert.InprojSRefIdeal.main_arg4))
      ∧ r.2.sem = fun _ => 0)

def quiescent_InprojSRefIdeal_pre_inproj_finite_sample [hInprojSRefIdeal : Cert.InprojSRefIdeal.Facts] [hPre_inproj_finite_sample : Cert.Pre_inproj_finite_sample.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal_inproj_finite_sample m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3)
      ∧ r.2.mem ((c.tc : Thread Cert.InprojSRefIdeal.nD Cert.InprojSRefIdeal.τ).loc Cert.InprojSRefIdeal.main_arg4) = m ((c.tc : Thread Cert.InprojSRefIdeal.nD Cert.InprojSRefIdeal.τ).loc Cert.InprojSRefIdeal.main_arg4))
      ∧ r.2.sem = fun _ => 0)

def quiescent_WkvS [hWkvS : Cert.WkvS.Facts] : Prop :=
  ∀ (m : (ℓ : Loc Cert.WkvS.nD Cert.WkvS.τ Cert.WkvS.sig) → Buf (Elt Bits) ℓ) (g : Dev Cert.WkvS.nD → PrngReg), Pre_WkvS m →
    θ_run (Cert.WkvS.defs (F := Bits)) (onTc (τ := Cert.WkvS.τ) (Cert.WkvS.main (F := Bits))) ⟨m, fun _ => 0, g⟩ (fun r => (∀ c : Dev Cert.WkvS.nD,
      r.2.mem ((c.tc : Thread Cert.WkvS.nD Cert.WkvS.τ).loc Cert.WkvS.main_arg0) = m ((c.tc : Thread Cert.WkvS.nD Cert.WkvS.τ).loc Cert.WkvS.main_arg0)
      ∧ r.2.mem ((c.tc : Thread Cert.WkvS.nD Cert.WkvS.τ).loc Cert.WkvS.main_arg1) = m ((c.tc : Thread Cert.WkvS.nD Cert.WkvS.τ).loc Cert.WkvS.main_arg1)
      ∧ r.2.mem ((c.tc : Thread Cert.WkvS.nD Cert.WkvS.τ).loc Cert.WkvS.main_arg2) = m ((c.tc : Thread Cert.WkvS.nD Cert.WkvS.τ).loc Cert.WkvS.main_arg2)
      ∧ r.2.mem ((c.tc : Thread Cert.WkvS.nD Cert.WkvS.τ).loc Cert.WkvS.main_arg3) = m ((c.tc : Thread Cert.WkvS.nD Cert.WkvS.τ).loc Cert.WkvS.main_arg3)
      ∧ r.2.mem ((c.tc : Thread Cert.WkvS.nD Cert.WkvS.τ).loc Cert.WkvS.main_arg4) = m ((c.tc : Thread Cert.WkvS.nD Cert.WkvS.τ).loc Cert.WkvS.main_arg4)
      ∧ r.2.mem ((c.tc : Thread Cert.WkvS.nD Cert.WkvS.τ).loc Cert.WkvS.main_arg5) = m ((c.tc : Thread Cert.WkvS.nD Cert.WkvS.τ).loc Cert.WkvS.main_arg5)
      ∧ r.2.mem ((c.tc : Thread Cert.WkvS.nD Cert.WkvS.τ).loc Cert.WkvS.main_arg6) = m ((c.tc : Thread Cert.WkvS.nD Cert.WkvS.τ).loc Cert.WkvS.main_arg6)
      ∧ r.2.mem ((c.tc : Thread Cert.WkvS.nD Cert.WkvS.τ).loc Cert.WkvS.main_arg7) = m ((c.tc : Thread Cert.WkvS.nD Cert.WkvS.τ).loc Cert.WkvS.main_arg7)
      ∧ r.2.mem ((c.tc : Thread Cert.WkvS.nD Cert.WkvS.τ).loc Cert.WkvS.main_arg8) = m ((c.tc : Thread Cert.WkvS.nD Cert.WkvS.τ).loc Cert.WkvS.main_arg8)
      ∧ r.2.mem ((c.tc : Thread Cert.WkvS.nD Cert.WkvS.τ).loc Cert.WkvS.main_arg9) = m ((c.tc : Thread Cert.WkvS.nD Cert.WkvS.τ).loc Cert.WkvS.main_arg9)
      ∧ r.2.mem ((c.tc : Thread Cert.WkvS.nD Cert.WkvS.τ).loc Cert.WkvS.main_arg10) = m ((c.tc : Thread Cert.WkvS.nD Cert.WkvS.τ).loc Cert.WkvS.main_arg10)
      ∧ r.2.mem ((c.tc : Thread Cert.WkvS.nD Cert.WkvS.τ).loc Cert.WkvS.main_arg11) = m ((c.tc : Thread Cert.WkvS.nD Cert.WkvS.τ).loc Cert.WkvS.main_arg11)
      ∧ r.2.mem ((c.tc : Thread Cert.WkvS.nD Cert.WkvS.τ).loc Cert.WkvS.main_arg12) = m ((c.tc : Thread Cert.WkvS.nD Cert.WkvS.τ).loc Cert.WkvS.main_arg12)
      ∧ r.2.mem ((c.tc : Thread Cert.WkvS.nD Cert.WkvS.τ).loc Cert.WkvS.main_arg13) = m ((c.tc : Thread Cert.WkvS.nD Cert.WkvS.τ).loc Cert.WkvS.main_arg13))
      ∧ r.2.sem = fun _ => 0)

def quiescent_WkvSIdeal [hWkvSIdeal : Cert.WkvSIdeal.Facts] : Prop :=
  ∀ (m : (ℓ : Loc Cert.WkvSIdeal.nD Cert.WkvSIdeal.τ Cert.WkvSIdeal.sig) → Buf (Elt Ideal) ℓ) (g : Dev Cert.WkvSIdeal.nD → PrngReg), Pre_WkvSIdeal m →
    θ_run (Cert.WkvSIdeal.defs (F := Ideal)) (onTc (τ := Cert.WkvSIdeal.τ) (Cert.WkvSIdeal.main (F := Ideal))) ⟨m, fun _ => 0, g⟩ (fun r => (∀ c : Dev Cert.WkvSIdeal.nD,
      r.2.mem ((c.tc : Thread Cert.WkvSIdeal.nD Cert.WkvSIdeal.τ).loc Cert.WkvSIdeal.main_arg0) = m ((c.tc : Thread Cert.WkvSIdeal.nD Cert.WkvSIdeal.τ).loc Cert.WkvSIdeal.main_arg0)
      ∧ r.2.mem ((c.tc : Thread Cert.WkvSIdeal.nD Cert.WkvSIdeal.τ).loc Cert.WkvSIdeal.main_arg1) = m ((c.tc : Thread Cert.WkvSIdeal.nD Cert.WkvSIdeal.τ).loc Cert.WkvSIdeal.main_arg1)
      ∧ r.2.mem ((c.tc : Thread Cert.WkvSIdeal.nD Cert.WkvSIdeal.τ).loc Cert.WkvSIdeal.main_arg2) = m ((c.tc : Thread Cert.WkvSIdeal.nD Cert.WkvSIdeal.τ).loc Cert.WkvSIdeal.main_arg2)
      ∧ r.2.mem ((c.tc : Thread Cert.WkvSIdeal.nD Cert.WkvSIdeal.τ).loc Cert.WkvSIdeal.main_arg3) = m ((c.tc : Thread Cert.WkvSIdeal.nD Cert.WkvSIdeal.τ).loc Cert.WkvSIdeal.main_arg3)
      ∧ r.2.mem ((c.tc : Thread Cert.WkvSIdeal.nD Cert.WkvSIdeal.τ).loc Cert.WkvSIdeal.main_arg4) = m ((c.tc : Thread Cert.WkvSIdeal.nD Cert.WkvSIdeal.τ).loc Cert.WkvSIdeal.main_arg4)
      ∧ r.2.mem ((c.tc : Thread Cert.WkvSIdeal.nD Cert.WkvSIdeal.τ).loc Cert.WkvSIdeal.main_arg5) = m ((c.tc : Thread Cert.WkvSIdeal.nD Cert.WkvSIdeal.τ).loc Cert.WkvSIdeal.main_arg5)
      ∧ r.2.mem ((c.tc : Thread Cert.WkvSIdeal.nD Cert.WkvSIdeal.τ).loc Cert.WkvSIdeal.main_arg6) = m ((c.tc : Thread Cert.WkvSIdeal.nD Cert.WkvSIdeal.τ).loc Cert.WkvSIdeal.main_arg6)
      ∧ r.2.mem ((c.tc : Thread Cert.WkvSIdeal.nD Cert.WkvSIdeal.τ).loc Cert.WkvSIdeal.main_arg7) = m ((c.tc : Thread Cert.WkvSIdeal.nD Cert.WkvSIdeal.τ).loc Cert.WkvSIdeal.main_arg7)
      ∧ r.2.mem ((c.tc : Thread Cert.WkvSIdeal.nD Cert.WkvSIdeal.τ).loc Cert.WkvSIdeal.main_arg8) = m ((c.tc : Thread Cert.WkvSIdeal.nD Cert.WkvSIdeal.τ).loc Cert.WkvSIdeal.main_arg8)
      ∧ r.2.mem ((c.tc : Thread Cert.WkvSIdeal.nD Cert.WkvSIdeal.τ).loc Cert.WkvSIdeal.main_arg9) = m ((c.tc : Thread Cert.WkvSIdeal.nD Cert.WkvSIdeal.τ).loc Cert.WkvSIdeal.main_arg9)
      ∧ r.2.mem ((c.tc : Thread Cert.WkvSIdeal.nD Cert.WkvSIdeal.τ).loc Cert.WkvSIdeal.main_arg10) = m ((c.tc : Thread Cert.WkvSIdeal.nD Cert.WkvSIdeal.τ).loc Cert.WkvSIdeal.main_arg10)
      ∧ r.2.mem ((c.tc : Thread Cert.WkvSIdeal.nD Cert.WkvSIdeal.τ).loc Cert.WkvSIdeal.main_arg11) = m ((c.tc : Thread Cert.WkvSIdeal.nD Cert.WkvSIdeal.τ).loc Cert.WkvSIdeal.main_arg11)
      ∧ r.2.mem ((c.tc : Thread Cert.WkvSIdeal.nD Cert.WkvSIdeal.τ).loc Cert.WkvSIdeal.main_arg12) = m ((c.tc : Thread Cert.WkvSIdeal.nD Cert.WkvSIdeal.τ).loc Cert.WkvSIdeal.main_arg12)
      ∧ r.2.mem ((c.tc : Thread Cert.WkvSIdeal.nD Cert.WkvSIdeal.τ).loc Cert.WkvSIdeal.main_arg13) = m ((c.tc : Thread Cert.WkvSIdeal.nD Cert.WkvSIdeal.τ).loc Cert.WkvSIdeal.main_arg13))
      ∧ r.2.sem = fun _ => 0)

def quiescent_WkvSIdeal_pre_wkv_finite [hWkvSIdeal : Cert.WkvSIdeal.Facts] [hPre_wkv_finite : Cert.Pre_wkv_finite.Facts] : Prop :=
  ∀ (m : (ℓ : Loc Cert.WkvSIdeal.nD Cert.WkvSIdeal.τ Cert.WkvSIdeal.sig) → Buf (Elt Ideal) ℓ) (g : Dev Cert.WkvSIdeal.nD → PrngReg), Pre_WkvSIdeal_wkv_finite m →
    θ_run (Cert.WkvSIdeal.defs (F := Ideal)) (onTc (τ := Cert.WkvSIdeal.τ) (Cert.WkvSIdeal.main (F := Ideal))) ⟨m, fun _ => 0, g⟩ (fun r => (∀ c : Dev Cert.WkvSIdeal.nD,
      r.2.mem ((c.tc : Thread Cert.WkvSIdeal.nD Cert.WkvSIdeal.τ).loc Cert.WkvSIdeal.main_arg0) = m ((c.tc : Thread Cert.WkvSIdeal.nD Cert.WkvSIdeal.τ).loc Cert.WkvSIdeal.main_arg0)
      ∧ r.2.mem ((c.tc : Thread Cert.WkvSIdeal.nD Cert.WkvSIdeal.τ).loc Cert.WkvSIdeal.main_arg1) = m ((c.tc : Thread Cert.WkvSIdeal.nD Cert.WkvSIdeal.τ).loc Cert.WkvSIdeal.main_arg1)
      ∧ r.2.mem ((c.tc : Thread Cert.WkvSIdeal.nD Cert.WkvSIdeal.τ).loc Cert.WkvSIdeal.main_arg2) = m ((c.tc : Thread Cert.WkvSIdeal.nD Cert.WkvSIdeal.τ).loc Cert.WkvSIdeal.main_arg2)
      ∧ r.2.mem ((c.tc : Thread Cert.WkvSIdeal.nD Cert.WkvSIdeal.τ).loc Cert.WkvSIdeal.main_arg3) = m ((c.tc : Thread Cert.WkvSIdeal.nD Cert.WkvSIdeal.τ).loc Cert.WkvSIdeal.main_arg3)
      ∧ r.2.mem ((c.tc : Thread Cert.WkvSIdeal.nD Cert.WkvSIdeal.τ).loc Cert.WkvSIdeal.main_arg4) = m ((c.tc : Thread Cert.WkvSIdeal.nD Cert.WkvSIdeal.τ).loc Cert.WkvSIdeal.main_arg4)
      ∧ r.2.mem ((c.tc : Thread Cert.WkvSIdeal.nD Cert.WkvSIdeal.τ).loc Cert.WkvSIdeal.main_arg5) = m ((c.tc : Thread Cert.WkvSIdeal.nD Cert.WkvSIdeal.τ).loc Cert.WkvSIdeal.main_arg5)
      ∧ r.2.mem ((c.tc : Thread Cert.WkvSIdeal.nD Cert.WkvSIdeal.τ).loc Cert.WkvSIdeal.main_arg6) = m ((c.tc : Thread Cert.WkvSIdeal.nD Cert.WkvSIdeal.τ).loc Cert.WkvSIdeal.main_arg6)
      ∧ r.2.mem ((c.tc : Thread Cert.WkvSIdeal.nD Cert.WkvSIdeal.τ).loc Cert.WkvSIdeal.main_arg7) = m ((c.tc : Thread Cert.WkvSIdeal.nD Cert.WkvSIdeal.τ).loc Cert.WkvSIdeal.main_arg7)
      ∧ r.2.mem ((c.tc : Thread Cert.WkvSIdeal.nD Cert.WkvSIdeal.τ).loc Cert.WkvSIdeal.main_arg8) = m ((c.tc : Thread Cert.WkvSIdeal.nD Cert.WkvSIdeal.τ).loc Cert.WkvSIdeal.main_arg8)
      ∧ r.2.mem ((c.tc : Thread Cert.WkvSIdeal.nD Cert.WkvSIdeal.τ).loc Cert.WkvSIdeal.main_arg9) = m ((c.tc : Thread Cert.WkvSIdeal.nD Cert.WkvSIdeal.τ).loc Cert.WkvSIdeal.main_arg9)
      ∧ r.2.mem ((c.tc : Thread Cert.WkvSIdeal.nD Cert.WkvSIdeal.τ).loc Cert.WkvSIdeal.main_arg10) = m ((c.tc : Thread Cert.WkvSIdeal.nD Cert.WkvSIdeal.τ).loc Cert.WkvSIdeal.main_arg10)
      ∧ r.2.mem ((c.tc : Thread Cert.WkvSIdeal.nD Cert.WkvSIdeal.τ).loc Cert.WkvSIdeal.main_arg11) = m ((c.tc : Thread Cert.WkvSIdeal.nD Cert.WkvSIdeal.τ).loc Cert.WkvSIdeal.main_arg11)
      ∧ r.2.mem ((c.tc : Thread Cert.WkvSIdeal.nD Cert.WkvSIdeal.τ).loc Cert.WkvSIdeal.main_arg12) = m ((c.tc : Thread Cert.WkvSIdeal.nD Cert.WkvSIdeal.τ).loc Cert.WkvSIdeal.main_arg12)
      ∧ r.2.mem ((c.tc : Thread Cert.WkvSIdeal.nD Cert.WkvSIdeal.τ).loc Cert.WkvSIdeal.main_arg13) = m ((c.tc : Thread Cert.WkvSIdeal.nD Cert.WkvSIdeal.τ).loc Cert.WkvSIdeal.main_arg13))
      ∧ r.2.sem = fun _ => 0)

def quiescent_WkvSRefIdeal [hWkvSRefIdeal : Cert.WkvSRefIdeal.Facts] : Prop :=
  ∀ (m : (ℓ : Loc Cert.WkvSRefIdeal.nD Cert.WkvSRefIdeal.τ Cert.WkvSRefIdeal.sig) → Buf (Elt Ideal) ℓ) (g : Dev Cert.WkvSRefIdeal.nD → PrngReg), Pre_WkvSRefIdeal m →
    θ_run (Cert.WkvSRefIdeal.defs (F := Ideal)) (onTc (τ := Cert.WkvSRefIdeal.τ) (Cert.WkvSRefIdeal.main (F := Ideal))) ⟨m, fun _ => 0, g⟩ (fun r => (∀ c : Dev Cert.WkvSRefIdeal.nD,
      r.2.mem ((c.tc : Thread Cert.WkvSRefIdeal.nD Cert.WkvSRefIdeal.τ).loc Cert.WkvSRefIdeal.main_arg0) = m ((c.tc : Thread Cert.WkvSRefIdeal.nD Cert.WkvSRefIdeal.τ).loc Cert.WkvSRefIdeal.main_arg0)
      ∧ r.2.mem ((c.tc : Thread Cert.WkvSRefIdeal.nD Cert.WkvSRefIdeal.τ).loc Cert.WkvSRefIdeal.main_arg1) = m ((c.tc : Thread Cert.WkvSRefIdeal.nD Cert.WkvSRefIdeal.τ).loc Cert.WkvSRefIdeal.main_arg1)
      ∧ r.2.mem ((c.tc : Thread Cert.WkvSRefIdeal.nD Cert.WkvSRefIdeal.τ).loc Cert.WkvSRefIdeal.main_arg2) = m ((c.tc : Thread Cert.WkvSRefIdeal.nD Cert.WkvSRefIdeal.τ).loc Cert.WkvSRefIdeal.main_arg2)
      ∧ r.2.mem ((c.tc : Thread Cert.WkvSRefIdeal.nD Cert.WkvSRefIdeal.τ).loc Cert.WkvSRefIdeal.main_arg3) = m ((c.tc : Thread Cert.WkvSRefIdeal.nD Cert.WkvSRefIdeal.τ).loc Cert.WkvSRefIdeal.main_arg3)
      ∧ r.2.mem ((c.tc : Thread Cert.WkvSRefIdeal.nD Cert.WkvSRefIdeal.τ).loc Cert.WkvSRefIdeal.main_arg4) = m ((c.tc : Thread Cert.WkvSRefIdeal.nD Cert.WkvSRefIdeal.τ).loc Cert.WkvSRefIdeal.main_arg4)
      ∧ r.2.mem ((c.tc : Thread Cert.WkvSRefIdeal.nD Cert.WkvSRefIdeal.τ).loc Cert.WkvSRefIdeal.main_arg5) = m ((c.tc : Thread Cert.WkvSRefIdeal.nD Cert.WkvSRefIdeal.τ).loc Cert.WkvSRefIdeal.main_arg5)
      ∧ r.2.mem ((c.tc : Thread Cert.WkvSRefIdeal.nD Cert.WkvSRefIdeal.τ).loc Cert.WkvSRefIdeal.main_arg6) = m ((c.tc : Thread Cert.WkvSRefIdeal.nD Cert.WkvSRefIdeal.τ).loc Cert.WkvSRefIdeal.main_arg6)
      ∧ r.2.mem ((c.tc : Thread Cert.WkvSRefIdeal.nD Cert.WkvSRefIdeal.τ).loc Cert.WkvSRefIdeal.main_arg7) = m ((c.tc : Thread Cert.WkvSRefIdeal.nD Cert.WkvSRefIdeal.τ).loc Cert.WkvSRefIdeal.main_arg7)
      ∧ r.2.mem ((c.tc : Thread Cert.WkvSRefIdeal.nD Cert.WkvSRefIdeal.τ).loc Cert.WkvSRefIdeal.main_arg8) = m ((c.tc : Thread Cert.WkvSRefIdeal.nD Cert.WkvSRefIdeal.τ).loc Cert.WkvSRefIdeal.main_arg8)
      ∧ r.2.mem ((c.tc : Thread Cert.WkvSRefIdeal.nD Cert.WkvSRefIdeal.τ).loc Cert.WkvSRefIdeal.main_arg9) = m ((c.tc : Thread Cert.WkvSRefIdeal.nD Cert.WkvSRefIdeal.τ).loc Cert.WkvSRefIdeal.main_arg9)
      ∧ r.2.mem ((c.tc : Thread Cert.WkvSRefIdeal.nD Cert.WkvSRefIdeal.τ).loc Cert.WkvSRefIdeal.main_arg10) = m ((c.tc : Thread Cert.WkvSRefIdeal.nD Cert.WkvSRefIdeal.τ).loc Cert.WkvSRefIdeal.main_arg10)
      ∧ r.2.mem ((c.tc : Thread Cert.WkvSRefIdeal.nD Cert.WkvSRefIdeal.τ).loc Cert.WkvSRefIdeal.main_arg11) = m ((c.tc : Thread Cert.WkvSRefIdeal.nD Cert.WkvSRefIdeal.τ).loc Cert.WkvSRefIdeal.main_arg11)
      ∧ r.2.mem ((c.tc : Thread Cert.WkvSRefIdeal.nD Cert.WkvSRefIdeal.τ).loc Cert.WkvSRefIdeal.main_arg12) = m ((c.tc : Thread Cert.WkvSRefIdeal.nD Cert.WkvSRefIdeal.τ).loc Cert.WkvSRefIdeal.main_arg12)
      ∧ r.2.mem ((c.tc : Thread Cert.WkvSRefIdeal.nD Cert.WkvSRefIdeal.τ).loc Cert.WkvSRefIdeal.main_arg13) = m ((c.tc : Thread Cert.WkvSRefIdeal.nD Cert.WkvSRefIdeal.τ).loc Cert.WkvSRefIdeal.main_arg13))
      ∧ r.2.sem = fun _ => 0)

def quiescent_WkvSRefIdeal_pre_wkv_finite [hWkvSRefIdeal : Cert.WkvSRefIdeal.Facts] [hPre_wkv_finite : Cert.Pre_wkv_finite.Facts] : Prop :=
  ∀ (m : (ℓ : Loc Cert.WkvSRefIdeal.nD Cert.WkvSRefIdeal.τ Cert.WkvSRefIdeal.sig) → Buf (Elt Ideal) ℓ) (g : Dev Cert.WkvSRefIdeal.nD → PrngReg), Pre_WkvSRefIdeal_wkv_finite m →
    θ_run (Cert.WkvSRefIdeal.defs (F := Ideal)) (onTc (τ := Cert.WkvSRefIdeal.τ) (Cert.WkvSRefIdeal.main (F := Ideal))) ⟨m, fun _ => 0, g⟩ (fun r => (∀ c : Dev Cert.WkvSRefIdeal.nD,
      r.2.mem ((c.tc : Thread Cert.WkvSRefIdeal.nD Cert.WkvSRefIdeal.τ).loc Cert.WkvSRefIdeal.main_arg0) = m ((c.tc : Thread Cert.WkvSRefIdeal.nD Cert.WkvSRefIdeal.τ).loc Cert.WkvSRefIdeal.main_arg0)
      ∧ r.2.mem ((c.tc : Thread Cert.WkvSRefIdeal.nD Cert.WkvSRefIdeal.τ).loc Cert.WkvSRefIdeal.main_arg1) = m ((c.tc : Thread Cert.WkvSRefIdeal.nD Cert.WkvSRefIdeal.τ).loc Cert.WkvSRefIdeal.main_arg1)
      ∧ r.2.mem ((c.tc : Thread Cert.WkvSRefIdeal.nD Cert.WkvSRefIdeal.τ).loc Cert.WkvSRefIdeal.main_arg2) = m ((c.tc : Thread Cert.WkvSRefIdeal.nD Cert.WkvSRefIdeal.τ).loc Cert.WkvSRefIdeal.main_arg2)
      ∧ r.2.mem ((c.tc : Thread Cert.WkvSRefIdeal.nD Cert.WkvSRefIdeal.τ).loc Cert.WkvSRefIdeal.main_arg3) = m ((c.tc : Thread Cert.WkvSRefIdeal.nD Cert.WkvSRefIdeal.τ).loc Cert.WkvSRefIdeal.main_arg3)
      ∧ r.2.mem ((c.tc : Thread Cert.WkvSRefIdeal.nD Cert.WkvSRefIdeal.τ).loc Cert.WkvSRefIdeal.main_arg4) = m ((c.tc : Thread Cert.WkvSRefIdeal.nD Cert.WkvSRefIdeal.τ).loc Cert.WkvSRefIdeal.main_arg4)
      ∧ r.2.mem ((c.tc : Thread Cert.WkvSRefIdeal.nD Cert.WkvSRefIdeal.τ).loc Cert.WkvSRefIdeal.main_arg5) = m ((c.tc : Thread Cert.WkvSRefIdeal.nD Cert.WkvSRefIdeal.τ).loc Cert.WkvSRefIdeal.main_arg5)
      ∧ r.2.mem ((c.tc : Thread Cert.WkvSRefIdeal.nD Cert.WkvSRefIdeal.τ).loc Cert.WkvSRefIdeal.main_arg6) = m ((c.tc : Thread Cert.WkvSRefIdeal.nD Cert.WkvSRefIdeal.τ).loc Cert.WkvSRefIdeal.main_arg6)
      ∧ r.2.mem ((c.tc : Thread Cert.WkvSRefIdeal.nD Cert.WkvSRefIdeal.τ).loc Cert.WkvSRefIdeal.main_arg7) = m ((c.tc : Thread Cert.WkvSRefIdeal.nD Cert.WkvSRefIdeal.τ).loc Cert.WkvSRefIdeal.main_arg7)
      ∧ r.2.mem ((c.tc : Thread Cert.WkvSRefIdeal.nD Cert.WkvSRefIdeal.τ).loc Cert.WkvSRefIdeal.main_arg8) = m ((c.tc : Thread Cert.WkvSRefIdeal.nD Cert.WkvSRefIdeal.τ).loc Cert.WkvSRefIdeal.main_arg8)
      ∧ r.2.mem ((c.tc : Thread Cert.WkvSRefIdeal.nD Cert.WkvSRefIdeal.τ).loc Cert.WkvSRefIdeal.main_arg9) = m ((c.tc : Thread Cert.WkvSRefIdeal.nD Cert.WkvSRefIdeal.τ).loc Cert.WkvSRefIdeal.main_arg9)
      ∧ r.2.mem ((c.tc : Thread Cert.WkvSRefIdeal.nD Cert.WkvSRefIdeal.τ).loc Cert.WkvSRefIdeal.main_arg10) = m ((c.tc : Thread Cert.WkvSRefIdeal.nD Cert.WkvSRefIdeal.τ).loc Cert.WkvSRefIdeal.main_arg10)
      ∧ r.2.mem ((c.tc : Thread Cert.WkvSRefIdeal.nD Cert.WkvSRefIdeal.τ).loc Cert.WkvSRefIdeal.main_arg11) = m ((c.tc : Thread Cert.WkvSRefIdeal.nD Cert.WkvSRefIdeal.τ).loc Cert.WkvSRefIdeal.main_arg11)
      ∧ r.2.mem ((c.tc : Thread Cert.WkvSRefIdeal.nD Cert.WkvSRefIdeal.τ).loc Cert.WkvSRefIdeal.main_arg12) = m ((c.tc : Thread Cert.WkvSRefIdeal.nD Cert.WkvSRefIdeal.τ).loc Cert.WkvSRefIdeal.main_arg12)
      ∧ r.2.mem ((c.tc : Thread Cert.WkvSRefIdeal.nD Cert.WkvSRefIdeal.τ).loc Cert.WkvSRefIdeal.main_arg13) = m ((c.tc : Thread Cert.WkvSRefIdeal.nD Cert.WkvSRefIdeal.τ).loc Cert.WkvSRefIdeal.main_arg13))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)
      ∧ m' ((c.tc : Thread Cert.MoeRefIdeal.nD Cert.MoeRefIdeal.τ).loc Cert.MoeRefIdeal.main_arg9) = m ((c.tc : Thread Cert.MoeIdeal.nD Cert.MoeIdeal.τ).loc Cert.MoeIdeal.main_arg9)
      ∧ m' ((c.tc : Thread Cert.MoeRefIdeal.nD Cert.MoeRefIdeal.τ).loc Cert.MoeRefIdeal.main_arg10) = m ((c.tc : Thread Cert.MoeIdeal.nD Cert.MoeIdeal.τ).loc Cert.MoeIdeal.main_arg10)) →
    ∃ (v0 : (c : Dev Cert.MoeIdeal.nD) → Buf (Elt Ideal) ((c.tc : Thread Cert.MoeIdeal.nD Cert.MoeIdeal.τ).loc Cert.MoeIdeal.main_v7)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v7) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9)
          ∧ r.2.mem ((c.tc : Thread Cert.MoeIdeal.nD Cert.MoeIdeal.τ).loc Cert.MoeIdeal.main_arg10) = m ((c.tc : Thread Cert.MoeIdeal.nD Cert.MoeIdeal.τ).loc Cert.MoeIdeal.main_arg10))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v38) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8)
          ∧ r.2.mem ((c.tc : Thread Cert.MoeRefIdeal.nD Cert.MoeRefIdeal.τ).loc Cert.MoeRefIdeal.main_arg9) = m' ((c.tc : Thread Cert.MoeRefIdeal.nD Cert.MoeRefIdeal.τ).loc Cert.MoeRefIdeal.main_arg9)
          ∧ r.2.mem ((c.tc : Thread Cert.MoeRefIdeal.nD Cert.MoeRefIdeal.τ).loc Cert.MoeRefIdeal.main_arg10) = m' ((c.tc : Thread Cert.MoeRefIdeal.nD Cert.MoeRefIdeal.τ).loc Cert.MoeRefIdeal.main_arg10))

def preserves_Merge_MergeIdeal : Prop :=
  True

def algebraic_MergeIdeal_MergeRefIdeal_pre_router_finite [hMergeIdeal : Cert.MergeIdeal.Facts] [hMergeRefIdeal : Cert.MergeRefIdeal.Facts] [hPre_router_finite : Cert.Pre_router_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_router_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)) (v2 : (c : Dev Cert.MergeIdeal.nD) → Buf (Elt Ideal) ((c.tc : Thread Cert.MergeIdeal.nD Cert.MergeIdeal.τ).loc Cert.MergeIdeal.main_v13_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_v13_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v10) = v0 c
          ∧ r.2.mem ((c.tc : Thread Cert.MergeRefIdeal.nD Cert.MergeRefIdeal.τ).loc Cert.MergeRefIdeal.main_v71) = v1 c
          ∧ r.2.mem ((c.tc : Thread Cert.MergeRefIdeal.nD Cert.MergeRefIdeal.τ).loc Cert.MergeRefIdeal.main_v72) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v35_0)) (v1 : (c : Dev Cert.InprojIdeal.nD) → Buf (Elt Ideal) ((c.tc : Thread Cert.InprojIdeal.nD Cert.InprojIdeal.τ).loc Cert.InprojIdeal.main_v35_1)) (v2 : (c : Dev Cert.InprojIdeal.nD) → Buf (Elt Ideal) ((c.tc : Thread Cert.InprojIdeal.nD Cert.InprojIdeal.τ).loc Cert.InprojIdeal.main_v35_2)) (v3 : (c : Dev Cert.InprojIdeal.nD) → Buf (Elt Ideal) ((c.tc : Thread Cert.InprojIdeal.nD Cert.InprojIdeal.τ).loc Cert.InprojIdeal.main_v35_3)) (v4 : (c : Dev Cert.InprojIdeal.nD) → Buf (Elt Ideal) ((c.tc : Thread Cert.InprojIdeal.nD Cert.InprojIdeal.τ).loc Cert.InprojIdeal.main_v35_4)) (v5 : (c : Dev Cert.InprojIdeal.nD) → Buf (Elt Ideal) ((c.tc : Thread Cert.InprojIdeal.nD Cert.InprojIdeal.τ).loc Cert.InprojIdeal.main_v35_5)) (v6 : (c : Dev Cert.InprojIdeal.nD) → Buf (Elt Ideal) ((c.tc : Thread Cert.InprojIdeal.nD Cert.InprojIdeal.τ).loc Cert.InprojIdeal.main_v35_6)) (v7 : (c : Dev Cert.InprojIdeal.nD) → Buf (Elt Ideal) ((c.tc : Thread Cert.InprojIdeal.nD Cert.InprojIdeal.τ).loc Cert.InprojIdeal.main_v35_7)) (v8 : (c : Dev Cert.InprojIdeal.nD) → Buf (Elt Ideal) ((c.tc : Thread Cert.InprojIdeal.nD Cert.InprojIdeal.τ).loc Cert.InprojIdeal.main_v35_8)) (v9 : (c : Dev Cert.InprojIdeal.nD) → Buf (Elt Ideal) ((c.tc : Thread Cert.InprojIdeal.nD Cert.InprojIdeal.τ).loc Cert.InprojIdeal.main_v35_9)) (v10 : (c : Dev Cert.InprojIdeal.nD) → Buf (Elt Ideal) ((c.tc : Thread Cert.InprojIdeal.nD Cert.InprojIdeal.τ).loc Cert.InprojIdeal.main_v35_10)) (v11 : (c : Dev Cert.InprojIdeal.nD) → Buf (Elt Ideal) ((c.tc : Thread Cert.InprojIdeal.nD Cert.InprojIdeal.τ).loc Cert.InprojIdeal.main_v35_11)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v35_0) = v0 c
          ∧ r.2.mem ((c.tc : Thread Cert.InprojIdeal.nD Cert.InprojIdeal.τ).loc Cert.InprojIdeal.main_v35_1) = v1 c
          ∧ r.2.mem ((c.tc : Thread Cert.InprojIdeal.nD Cert.InprojIdeal.τ).loc Cert.InprojIdeal.main_v35_2) = v2 c
          ∧ r.2.mem ((c.tc : Thread Cert.InprojIdeal.nD Cert.InprojIdeal.τ).loc Cert.InprojIdeal.main_v35_3) = v3 c
          ∧ r.2.mem ((c.tc : Thread Cert.InprojIdeal.nD Cert.InprojIdeal.τ).loc Cert.InprojIdeal.main_v35_4) = v4 c
          ∧ r.2.mem ((c.tc : Thread Cert.InprojIdeal.nD Cert.InprojIdeal.τ).loc Cert.InprojIdeal.main_v35_5) = v5 c
          ∧ r.2.mem ((c.tc : Thread Cert.InprojIdeal.nD Cert.InprojIdeal.τ).loc Cert.InprojIdeal.main_v35_6) = v6 c
          ∧ r.2.mem ((c.tc : Thread Cert.InprojIdeal.nD Cert.InprojIdeal.τ).loc Cert.InprojIdeal.main_v35_7) = v7 c
          ∧ r.2.mem ((c.tc : Thread Cert.InprojIdeal.nD Cert.InprojIdeal.τ).loc Cert.InprojIdeal.main_v35_8) = v8 c
          ∧ r.2.mem ((c.tc : Thread Cert.InprojIdeal.nD Cert.InprojIdeal.τ).loc Cert.InprojIdeal.main_v35_9) = v9 c
          ∧ r.2.mem ((c.tc : Thread Cert.InprojIdeal.nD Cert.InprojIdeal.τ).loc Cert.InprojIdeal.main_v35_10) = v10 c
          ∧ r.2.mem ((c.tc : Thread Cert.InprojIdeal.nD Cert.InprojIdeal.τ).loc Cert.InprojIdeal.main_v35_11) = v11 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v194) = v0 c
          ∧ r.2.mem ((c.tc : Thread Cert.InprojRefIdeal.nD Cert.InprojRefIdeal.τ).loc Cert.InprojRefIdeal.main_v198) = v1 c
          ∧ r.2.mem ((c.tc : Thread Cert.InprojRefIdeal.nD Cert.InprojRefIdeal.τ).loc Cert.InprojRefIdeal.main_v191) = v2 c
          ∧ r.2.mem ((c.tc : Thread Cert.InprojRefIdeal.nD Cert.InprojRefIdeal.τ).loc Cert.InprojRefIdeal.main_v192) = v3 c
          ∧ r.2.mem ((c.tc : Thread Cert.InprojRefIdeal.nD Cert.InprojRefIdeal.τ).loc Cert.InprojRefIdeal.main_v199) = v4 c
          ∧ r.2.mem ((c.tc : Thread Cert.InprojRefIdeal.nD Cert.InprojRefIdeal.τ).loc Cert.InprojRefIdeal.main_v200) = v5 c
          ∧ r.2.mem ((c.tc : Thread Cert.InprojRefIdeal.nD Cert.InprojRefIdeal.τ).loc Cert.InprojRefIdeal.main_v202) = v6 c
          ∧ r.2.mem ((c.tc : Thread Cert.InprojRefIdeal.nD Cert.InprojRefIdeal.τ).loc Cert.InprojRefIdeal.main_v193) = v7 c
          ∧ r.2.mem ((c.tc : Thread Cert.InprojRefIdeal.nD Cert.InprojRefIdeal.τ).loc Cert.InprojRefIdeal.main_v204) = v8 c
          ∧ r.2.mem ((c.tc : Thread Cert.InprojRefIdeal.nD Cert.InprojRefIdeal.τ).loc Cert.InprojRefIdeal.main_v206) = v9 c
          ∧ r.2.mem ((c.tc : Thread Cert.InprojRefIdeal.nD Cert.InprojRefIdeal.τ).loc Cert.InprojRefIdeal.main_v214) = v10 c
          ∧ r.2.mem ((c.tc : Thread Cert.InprojRefIdeal.nD Cert.InprojRefIdeal.τ).loc Cert.InprojRefIdeal.main_v222) = v11 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_MoeS_MoeSIdeal : Prop :=
  True

def algebraic_MoeSIdeal_MoeSRefIdeal [hMoeSIdeal : Cert.MoeSIdeal.Facts] [hMoeSRefIdeal : Cert.MoeSRefIdeal.Facts] : Prop :=
  ∀ (m : (ℓ : Loc Cert.MoeSIdeal.nD Cert.MoeSIdeal.τ Cert.MoeSIdeal.sig) → Buf (Elt Ideal) ℓ) (g : Dev Cert.MoeSIdeal.nD → PrngReg)
    (m' : (ℓ : Loc Cert.MoeSRefIdeal.nD Cert.MoeSRefIdeal.τ Cert.MoeSRefIdeal.sig) → Buf (Elt Ideal) ℓ) (g' : Dev Cert.MoeSRefIdeal.nD → PrngReg), Pre_MoeSIdeal m →
    (∀ c : Dev Cert.MoeSIdeal.nD,
      m' ((c.tc : Thread Cert.MoeSRefIdeal.nD Cert.MoeSRefIdeal.τ).loc Cert.MoeSRefIdeal.main_arg0) = m ((c.tc : Thread Cert.MoeSIdeal.nD Cert.MoeSIdeal.τ).loc Cert.MoeSIdeal.main_arg0)
      ∧ m' ((c.tc : Thread Cert.MoeSRefIdeal.nD Cert.MoeSRefIdeal.τ).loc Cert.MoeSRefIdeal.main_arg1) = m ((c.tc : Thread Cert.MoeSIdeal.nD Cert.MoeSIdeal.τ).loc Cert.MoeSIdeal.main_arg1)
      ∧ m' ((c.tc : Thread Cert.MoeSRefIdeal.nD Cert.MoeSRefIdeal.τ).loc Cert.MoeSRefIdeal.main_arg2) = m ((c.tc : Thread Cert.MoeSIdeal.nD Cert.MoeSIdeal.τ).loc Cert.MoeSIdeal.main_arg2)
      ∧ m' ((c.tc : Thread Cert.MoeSRefIdeal.nD Cert.MoeSRefIdeal.τ).loc Cert.MoeSRefIdeal.main_arg3) = m ((c.tc : Thread Cert.MoeSIdeal.nD Cert.MoeSIdeal.τ).loc Cert.MoeSIdeal.main_arg3)
      ∧ m' ((c.tc : Thread Cert.MoeSRefIdeal.nD Cert.MoeSRefIdeal.τ).loc Cert.MoeSRefIdeal.main_arg4) = m ((c.tc : Thread Cert.MoeSIdeal.nD Cert.MoeSIdeal.τ).loc Cert.MoeSIdeal.main_arg4)
      ∧ m' ((c.tc : Thread Cert.MoeSRefIdeal.nD Cert.MoeSRefIdeal.τ).loc Cert.MoeSRefIdeal.main_arg5) = m ((c.tc : Thread Cert.MoeSIdeal.nD Cert.MoeSIdeal.τ).loc Cert.MoeSIdeal.main_arg5)
      ∧ m' ((c.tc : Thread Cert.MoeSRefIdeal.nD Cert.MoeSRefIdeal.τ).loc Cert.MoeSRefIdeal.main_arg6) = m ((c.tc : Thread Cert.MoeSIdeal.nD Cert.MoeSIdeal.τ).loc Cert.MoeSIdeal.main_arg6)
      ∧ m' ((c.tc : Thread Cert.MoeSRefIdeal.nD Cert.MoeSRefIdeal.τ).loc Cert.MoeSRefIdeal.main_arg7) = m ((c.tc : Thread Cert.MoeSIdeal.nD Cert.MoeSIdeal.τ).loc Cert.MoeSIdeal.main_arg7)
      ∧ m' ((c.tc : Thread Cert.MoeSRefIdeal.nD Cert.MoeSRefIdeal.τ).loc Cert.MoeSRefIdeal.main_arg8) = m ((c.tc : Thread Cert.MoeSIdeal.nD Cert.MoeSIdeal.τ).loc Cert.MoeSIdeal.main_arg8)
      ∧ m' ((c.tc : Thread Cert.MoeSRefIdeal.nD Cert.MoeSRefIdeal.τ).loc Cert.MoeSRefIdeal.main_arg9) = m ((c.tc : Thread Cert.MoeSIdeal.nD Cert.MoeSIdeal.τ).loc Cert.MoeSIdeal.main_arg9)
      ∧ m' ((c.tc : Thread Cert.MoeSRefIdeal.nD Cert.MoeSRefIdeal.τ).loc Cert.MoeSRefIdeal.main_arg10) = m ((c.tc : Thread Cert.MoeSIdeal.nD Cert.MoeSIdeal.τ).loc Cert.MoeSIdeal.main_arg10)) →
    ∃ (v0 : (c : Dev Cert.MoeSIdeal.nD) → Buf (Elt Ideal) ((c.tc : Thread Cert.MoeSIdeal.nD Cert.MoeSIdeal.τ).loc Cert.MoeSIdeal.main_v7)),
      θ_run (Cert.MoeSIdeal.defs (F := Ideal)) (onTc (τ := Cert.MoeSIdeal.τ) (Cert.MoeSIdeal.main (F := Ideal))) ⟨m, fun _ => 0, g⟩ (fun r => ∀ c : Dev Cert.MoeSIdeal.nD,
          r.2.mem ((c.tc : Thread Cert.MoeSIdeal.nD Cert.MoeSIdeal.τ).loc Cert.MoeSIdeal.main_v7) = v0 c
          ∧ r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
          ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
          ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
          ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
          ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
          ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
          ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
          ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7)
          ∧ r.2.mem ((c.tc : Thread Cert.MoeSIdeal.nD Cert.MoeSIdeal.τ).loc Cert.MoeSIdeal.main_arg8) = m ((c.tc : Thread Cert.MoeSIdeal.nD Cert.MoeSIdeal.τ).loc Cert.MoeSIdeal.main_arg8)
          ∧ r.2.mem ((c.tc : Thread Cert.MoeSIdeal.nD Cert.MoeSIdeal.τ).loc Cert.MoeSIdeal.main_arg9) = m ((c.tc : Thread Cert.MoeSIdeal.nD Cert.MoeSIdeal.τ).loc Cert.MoeSIdeal.main_arg9)
          ∧ r.2.mem ((c.tc : Thread Cert.MoeSIdeal.nD Cert.MoeSIdeal.τ).loc Cert.MoeSIdeal.main_arg10) = m ((c.tc : Thread Cert.MoeSIdeal.nD Cert.MoeSIdeal.τ).loc Cert.MoeSIdeal.main_arg10))
      ∧ θ_run (Cert.MoeSRefIdeal.defs (F := Ideal)) (onTc (τ := Cert.MoeSRefIdeal.τ) (Cert.MoeSRefIdeal.main (F := Ideal))) ⟨m', fun _ => 0, g'⟩ (fun r => ∀ c : Dev Cert.MoeSRefIdeal.nD,
          r.2.mem ((c.tc : Thread Cert.MoeSRefIdeal.nD Cert.MoeSRefIdeal.τ).loc Cert.MoeSRefIdeal.main_v38) = v0 c
          ∧ r.2.mem ((c.tc : Thread Cert.MoeSRefIdeal.nD Cert.MoeSRefIdeal.τ).loc Cert.MoeSRefIdeal.main_arg0) = m' ((c.tc : Thread Cert.MoeSRefIdeal.nD Cert.MoeSRefIdeal.τ).loc Cert.MoeSRefIdeal.main_arg0)
          ∧ r.2.mem ((c.tc : Thread Cert.MoeSRefIdeal.nD Cert.MoeSRefIdeal.τ).loc Cert.MoeSRefIdeal.main_arg1) = m' ((c.tc : Thread Cert.MoeSRefIdeal.nD Cert.MoeSRefIdeal.τ).loc Cert.MoeSRefIdeal.main_arg1)
          ∧ r.2.mem ((c.tc : Thread Cert.MoeSRefIdeal.nD Cert.MoeSRefIdeal.τ).loc Cert.MoeSRefIdeal.main_arg2) = m' ((c.tc : Thread Cert.MoeSRefIdeal.nD Cert.MoeSRefIdeal.τ).loc Cert.MoeSRefIdeal.main_arg2)
          ∧ r.2.mem ((c.tc : Thread Cert.MoeSRefIdeal.nD Cert.MoeSRefIdeal.τ).loc Cert.MoeSRefIdeal.main_arg3) = m' ((c.tc : Thread Cert.MoeSRefIdeal.nD Cert.MoeSRefIdeal.τ).loc Cert.MoeSRefIdeal.main_arg3)
          ∧ r.2.mem ((c.tc : Thread Cert.MoeSRefIdeal.nD Cert.MoeSRefIdeal.τ).loc Cert.MoeSRefIdeal.main_arg4) = m' ((c.tc : Thread Cert.MoeSRefIdeal.nD Cert.MoeSRefIdeal.τ).loc Cert.MoeSRefIdeal.main_arg4)
          ∧ r.2.mem ((c.tc : Thread Cert.MoeSRefIdeal.nD Cert.MoeSRefIdeal.τ).loc Cert.MoeSRefIdeal.main_arg5) = m' ((c.tc : Thread Cert.MoeSRefIdeal.nD Cert.MoeSRefIdeal.τ).loc Cert.MoeSRefIdeal.main_arg5)
          ∧ r.2.mem ((c.tc : Thread Cert.MoeSRefIdeal.nD Cert.MoeSRefIdeal.τ).loc Cert.MoeSRefIdeal.main_arg6) = m' ((c.tc : Thread Cert.MoeSRefIdeal.nD Cert.MoeSRefIdeal.τ).loc Cert.MoeSRefIdeal.main_arg6)
          ∧ r.2.mem ((c.tc : Thread Cert.MoeSRefIdeal.nD Cert.MoeSRefIdeal.τ).loc Cert.MoeSRefIdeal.main_arg7) = m' ((c.tc : Thread Cert.MoeSRefIdeal.nD Cert.MoeSRefIdeal.τ).loc Cert.MoeSRefIdeal.main_arg7)
          ∧ r.2.mem ((c.tc : Thread Cert.MoeSRefIdeal.nD Cert.MoeSRefIdeal.τ).loc Cert.MoeSRefIdeal.main_arg8) = m' ((c.tc : Thread Cert.MoeSRefIdeal.nD Cert.MoeSRefIdeal.τ).loc Cert.MoeSRefIdeal.main_arg8)
          ∧ r.2.mem ((c.tc : Thread Cert.MoeSRefIdeal.nD Cert.MoeSRefIdeal.τ).loc Cert.MoeSRefIdeal.main_arg9) = m' ((c.tc : Thread Cert.MoeSRefIdeal.nD Cert.MoeSRefIdeal.τ).loc Cert.MoeSRefIdeal.main_arg9)
          ∧ r.2.mem ((c.tc : Thread Cert.MoeSRefIdeal.nD Cert.MoeSRefIdeal.τ).loc Cert.MoeSRefIdeal.main_arg10) = m' ((c.tc : Thread Cert.MoeSRefIdeal.nD Cert.MoeSRefIdeal.τ).loc Cert.MoeSRefIdeal.main_arg10))

def preserves_MergeS_MergeSIdeal : Prop :=
  True

def algebraic_MergeSIdeal_MergeSRefIdeal_pre_router_finite_sample [hMergeSIdeal : Cert.MergeSIdeal.Facts] [hMergeSRefIdeal : Cert.MergeSRefIdeal.Facts] [hPre_router_finite_sample : Cert.Pre_router_finite_sample.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal_router_finite_sample m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)
      ∧ m' ((c.tc : Thread Cert.MergeSRefIdeal.nD Cert.MergeSRefIdeal.τ).loc Cert.MergeSRefIdeal.main_arg9) = m ((c.tc : Thread Cert.MergeSIdeal.nD Cert.MergeSIdeal.τ).loc Cert.MergeSIdeal.main_arg9)
      ∧ m' ((c.tc : Thread Cert.MergeSRefIdeal.nD Cert.MergeSRefIdeal.τ).loc Cert.MergeSRefIdeal.main_arg10) = m ((c.tc : Thread Cert.MergeSIdeal.nD Cert.MergeSIdeal.τ).loc Cert.MergeSIdeal.main_arg10)
      ∧ m' ((c.tc : Thread Cert.MergeSRefIdeal.nD Cert.MergeSRefIdeal.τ).loc Cert.MergeSRefIdeal.main_arg11) = m ((c.tc : Thread Cert.MergeSIdeal.nD Cert.MergeSIdeal.τ).loc Cert.MergeSIdeal.main_arg11)
      ∧ m' ((c.tc : Thread Cert.MergeSRefIdeal.nD Cert.MergeSRefIdeal.τ).loc Cert.MergeSRefIdeal.main_arg12) = m ((c.tc : Thread Cert.MergeSIdeal.nD Cert.MergeSIdeal.τ).loc Cert.MergeSIdeal.main_arg12)) →
    ∃ (v0 : (c : Dev Cert.MergeSIdeal.nD) → Buf (Elt Ideal) ((c.tc : Thread Cert.MergeSIdeal.nD Cert.MergeSIdeal.τ).loc Cert.MergeSIdeal.main_v13_0)) (v1 : (c : Dev Cert.MergeSIdeal.nD) → Buf (Elt Ideal) ((c.tc : Thread Cert.MergeSIdeal.nD Cert.MergeSIdeal.τ).loc Cert.MergeSIdeal.main_v13_1)) (v2 : (c : Dev Cert.MergeSIdeal.nD) → Buf (Elt Ideal) ((c.tc : Thread Cert.MergeSIdeal.nD Cert.MergeSIdeal.τ).loc Cert.MergeSIdeal.main_v13_2)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v13_0) = v0 c
          ∧ r.2.mem ((c.tc : Thread Cert.MergeSIdeal.nD Cert.MergeSIdeal.τ).loc Cert.MergeSIdeal.main_v13_1) = v1 c
          ∧ r.2.mem ((c.tc : Thread Cert.MergeSIdeal.nD Cert.MergeSIdeal.τ).loc Cert.MergeSIdeal.main_v13_2) = v2 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
          ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10)
          ∧ r.2.mem ((c.tc : Thread Cert.MergeSIdeal.nD Cert.MergeSIdeal.τ).loc Cert.MergeSIdeal.main_arg11) = m ((c.tc : Thread Cert.MergeSIdeal.nD Cert.MergeSIdeal.τ).loc Cert.MergeSIdeal.main_arg11)
          ∧ r.2.mem ((c.tc : Thread Cert.MergeSIdeal.nD Cert.MergeSIdeal.τ).loc Cert.MergeSIdeal.main_arg12) = m ((c.tc : Thread Cert.MergeSIdeal.nD Cert.MergeSIdeal.τ).loc Cert.MergeSIdeal.main_arg12))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v10) = v0 c
          ∧ r.2.mem ((c.tc : Thread Cert.MergeSRefIdeal.nD Cert.MergeSRefIdeal.τ).loc Cert.MergeSRefIdeal.main_v71) = v1 c
          ∧ r.2.mem ((c.tc : Thread Cert.MergeSRefIdeal.nD Cert.MergeSRefIdeal.τ).loc Cert.MergeSRefIdeal.main_v72) = v2 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8)
          ∧ r.2.mem ((c.tc : Thread Cert.MergeSRefIdeal.nD Cert.MergeSRefIdeal.τ).loc Cert.MergeSRefIdeal.main_arg9) = m' ((c.tc : Thread Cert.MergeSRefIdeal.nD Cert.MergeSRefIdeal.τ).loc Cert.MergeSRefIdeal.main_arg9)
          ∧ r.2.mem ((c.tc : Thread Cert.MergeSRefIdeal.nD Cert.MergeSRefIdeal.τ).loc Cert.MergeSRefIdeal.main_arg10) = m' ((c.tc : Thread Cert.MergeSRefIdeal.nD Cert.MergeSRefIdeal.τ).loc Cert.MergeSRefIdeal.main_arg10)
          ∧ r.2.mem ((c.tc : Thread Cert.MergeSRefIdeal.nD Cert.MergeSRefIdeal.τ).loc Cert.MergeSRefIdeal.main_arg11) = m' ((c.tc : Thread Cert.MergeSRefIdeal.nD Cert.MergeSRefIdeal.τ).loc Cert.MergeSRefIdeal.main_arg11)
          ∧ r.2.mem ((c.tc : Thread Cert.MergeSRefIdeal.nD Cert.MergeSRefIdeal.τ).loc Cert.MergeSRefIdeal.main_arg12) = m' ((c.tc : Thread Cert.MergeSRefIdeal.nD Cert.MergeSRefIdeal.τ).loc Cert.MergeSRefIdeal.main_arg12))

def preserves_InprojS_InprojSIdeal : Prop :=
  True

def algebraic_InprojSIdeal_InprojSRefIdeal_pre_inproj_finite_sample [hInprojSIdeal : Cert.InprojSIdeal.Facts] [hInprojSRefIdeal : Cert.InprojSRefIdeal.Facts] [hPre_inproj_finite_sample : Cert.Pre_inproj_finite_sample.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal_inproj_finite_sample m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)
      ∧ m' ((c.tc : Thread Cert.InprojSRefIdeal.nD Cert.InprojSRefIdeal.τ).loc Cert.InprojSRefIdeal.main_arg4) = m ((c.tc : Thread Cert.InprojSIdeal.nD Cert.InprojSIdeal.τ).loc Cert.InprojSIdeal.main_arg4)) →
    ∃ (v0 : (c : Dev Cert.InprojSIdeal.nD) → Buf (Elt Ideal) ((c.tc : Thread Cert.InprojSIdeal.nD Cert.InprojSIdeal.τ).loc Cert.InprojSIdeal.main_v40_0)) (v1 : (c : Dev Cert.InprojSIdeal.nD) → Buf (Elt Ideal) ((c.tc : Thread Cert.InprojSIdeal.nD Cert.InprojSIdeal.τ).loc Cert.InprojSIdeal.main_v40_1)) (v2 : (c : Dev Cert.InprojSIdeal.nD) → Buf (Elt Ideal) ((c.tc : Thread Cert.InprojSIdeal.nD Cert.InprojSIdeal.τ).loc Cert.InprojSIdeal.main_v40_2)) (v3 : (c : Dev Cert.InprojSIdeal.nD) → Buf (Elt Ideal) ((c.tc : Thread Cert.InprojSIdeal.nD Cert.InprojSIdeal.τ).loc Cert.InprojSIdeal.main_v40_3)) (v4 : (c : Dev Cert.InprojSIdeal.nD) → Buf (Elt Ideal) ((c.tc : Thread Cert.InprojSIdeal.nD Cert.InprojSIdeal.τ).loc Cert.InprojSIdeal.main_v40_4)) (v5 : (c : Dev Cert.InprojSIdeal.nD) → Buf (Elt Ideal) ((c.tc : Thread Cert.InprojSIdeal.nD Cert.InprojSIdeal.τ).loc Cert.InprojSIdeal.main_v40_5)) (v6 : (c : Dev Cert.InprojSIdeal.nD) → Buf (Elt Ideal) ((c.tc : Thread Cert.InprojSIdeal.nD Cert.InprojSIdeal.τ).loc Cert.InprojSIdeal.main_v40_6)) (v7 : (c : Dev Cert.InprojSIdeal.nD) → Buf (Elt Ideal) ((c.tc : Thread Cert.InprojSIdeal.nD Cert.InprojSIdeal.τ).loc Cert.InprojSIdeal.main_v40_7)) (v8 : (c : Dev Cert.InprojSIdeal.nD) → Buf (Elt Ideal) ((c.tc : Thread Cert.InprojSIdeal.nD Cert.InprojSIdeal.τ).loc Cert.InprojSIdeal.main_v40_8)) (v9 : (c : Dev Cert.InprojSIdeal.nD) → Buf (Elt Ideal) ((c.tc : Thread Cert.InprojSIdeal.nD Cert.InprojSIdeal.τ).loc Cert.InprojSIdeal.main_v40_9)) (v10 : (c : Dev Cert.InprojSIdeal.nD) → Buf (Elt Ideal) ((c.tc : Thread Cert.InprojSIdeal.nD Cert.InprojSIdeal.τ).loc Cert.InprojSIdeal.main_v40_10)) (v11 : (c : Dev Cert.InprojSIdeal.nD) → Buf (Elt Ideal) ((c.tc : Thread Cert.InprojSIdeal.nD Cert.InprojSIdeal.τ).loc Cert.InprojSIdeal.main_v40_11)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v40_0) = v0 c
          ∧ r.2.mem ((c.tc : Thread Cert.InprojSIdeal.nD Cert.InprojSIdeal.τ).loc Cert.InprojSIdeal.main_v40_1) = v1 c
          ∧ r.2.mem ((c.tc : Thread Cert.InprojSIdeal.nD Cert.InprojSIdeal.τ).loc Cert.InprojSIdeal.main_v40_2) = v2 c
          ∧ r.2.mem ((c.tc : Thread Cert.InprojSIdeal.nD Cert.InprojSIdeal.τ).loc Cert.InprojSIdeal.main_v40_3) = v3 c
          ∧ r.2.mem ((c.tc : Thread Cert.InprojSIdeal.nD Cert.InprojSIdeal.τ).loc Cert.InprojSIdeal.main_v40_4) = v4 c
          ∧ r.2.mem ((c.tc : Thread Cert.InprojSIdeal.nD Cert.InprojSIdeal.τ).loc Cert.InprojSIdeal.main_v40_5) = v5 c
          ∧ r.2.mem ((c.tc : Thread Cert.InprojSIdeal.nD Cert.InprojSIdeal.τ).loc Cert.InprojSIdeal.main_v40_6) = v6 c
          ∧ r.2.mem ((c.tc : Thread Cert.InprojSIdeal.nD Cert.InprojSIdeal.τ).loc Cert.InprojSIdeal.main_v40_7) = v7 c
          ∧ r.2.mem ((c.tc : Thread Cert.InprojSIdeal.nD Cert.InprojSIdeal.τ).loc Cert.InprojSIdeal.main_v40_8) = v8 c
          ∧ r.2.mem ((c.tc : Thread Cert.InprojSIdeal.nD Cert.InprojSIdeal.τ).loc Cert.InprojSIdeal.main_v40_9) = v9 c
          ∧ r.2.mem ((c.tc : Thread Cert.InprojSIdeal.nD Cert.InprojSIdeal.τ).loc Cert.InprojSIdeal.main_v40_10) = v10 c
          ∧ r.2.mem ((c.tc : Thread Cert.InprojSIdeal.nD Cert.InprojSIdeal.τ).loc Cert.InprojSIdeal.main_v40_11) = v11 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
          ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v196) = v0 c
          ∧ r.2.mem ((c.tc : Thread Cert.InprojSRefIdeal.nD Cert.InprojSRefIdeal.τ).loc Cert.InprojSRefIdeal.main_v200) = v1 c
          ∧ r.2.mem ((c.tc : Thread Cert.InprojSRefIdeal.nD Cert.InprojSRefIdeal.τ).loc Cert.InprojSRefIdeal.main_v193) = v2 c
          ∧ r.2.mem ((c.tc : Thread Cert.InprojSRefIdeal.nD Cert.InprojSRefIdeal.τ).loc Cert.InprojSRefIdeal.main_v194) = v3 c
          ∧ r.2.mem ((c.tc : Thread Cert.InprojSRefIdeal.nD Cert.InprojSRefIdeal.τ).loc Cert.InprojSRefIdeal.main_v201) = v4 c
          ∧ r.2.mem ((c.tc : Thread Cert.InprojSRefIdeal.nD Cert.InprojSRefIdeal.τ).loc Cert.InprojSRefIdeal.main_v202) = v5 c
          ∧ r.2.mem ((c.tc : Thread Cert.InprojSRefIdeal.nD Cert.InprojSRefIdeal.τ).loc Cert.InprojSRefIdeal.main_v204) = v6 c
          ∧ r.2.mem ((c.tc : Thread Cert.InprojSRefIdeal.nD Cert.InprojSRefIdeal.τ).loc Cert.InprojSRefIdeal.main_v195) = v7 c
          ∧ r.2.mem ((c.tc : Thread Cert.InprojSRefIdeal.nD Cert.InprojSRefIdeal.τ).loc Cert.InprojSRefIdeal.main_v206) = v8 c
          ∧ r.2.mem ((c.tc : Thread Cert.InprojSRefIdeal.nD Cert.InprojSRefIdeal.τ).loc Cert.InprojSRefIdeal.main_v208) = v9 c
          ∧ r.2.mem ((c.tc : Thread Cert.InprojSRefIdeal.nD Cert.InprojSRefIdeal.τ).loc Cert.InprojSRefIdeal.main_v216) = v10 c
          ∧ r.2.mem ((c.tc : Thread Cert.InprojSRefIdeal.nD Cert.InprojSRefIdeal.τ).loc Cert.InprojSRefIdeal.main_v224) = v11 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3)
          ∧ r.2.mem ((c.tc : Thread Cert.InprojSRefIdeal.nD Cert.InprojSRefIdeal.τ).loc Cert.InprojSRefIdeal.main_arg4) = m' ((c.tc : Thread Cert.InprojSRefIdeal.nD Cert.InprojSRefIdeal.τ).loc Cert.InprojSRefIdeal.main_arg4))

def preserves_WkvS_WkvSIdeal : Prop :=
  True

def algebraic_WkvSIdeal_WkvSRefIdeal_pre_wkv_finite [hWkvSIdeal : Cert.WkvSIdeal.Facts] [hWkvSRefIdeal : Cert.WkvSRefIdeal.Facts] [hPre_wkv_finite : Cert.Pre_wkv_finite.Facts] : Prop :=
  ∀ (m : (ℓ : Loc Cert.WkvSIdeal.nD Cert.WkvSIdeal.τ Cert.WkvSIdeal.sig) → Buf (Elt Ideal) ℓ) (g : Dev Cert.WkvSIdeal.nD → PrngReg)
    (m' : (ℓ : Loc Cert.WkvSRefIdeal.nD Cert.WkvSRefIdeal.τ Cert.WkvSRefIdeal.sig) → Buf (Elt Ideal) ℓ) (g' : Dev Cert.WkvSRefIdeal.nD → PrngReg), Pre_WkvSIdeal_wkv_finite m →
    (∀ c : Dev Cert.WkvSIdeal.nD,
      m' ((c.tc : Thread Cert.WkvSRefIdeal.nD Cert.WkvSRefIdeal.τ).loc Cert.WkvSRefIdeal.main_arg0) = m ((c.tc : Thread Cert.WkvSIdeal.nD Cert.WkvSIdeal.τ).loc Cert.WkvSIdeal.main_arg0)
      ∧ m' ((c.tc : Thread Cert.WkvSRefIdeal.nD Cert.WkvSRefIdeal.τ).loc Cert.WkvSRefIdeal.main_arg1) = m ((c.tc : Thread Cert.WkvSIdeal.nD Cert.WkvSIdeal.τ).loc Cert.WkvSIdeal.main_arg1)
      ∧ m' ((c.tc : Thread Cert.WkvSRefIdeal.nD Cert.WkvSRefIdeal.τ).loc Cert.WkvSRefIdeal.main_arg2) = m ((c.tc : Thread Cert.WkvSIdeal.nD Cert.WkvSIdeal.τ).loc Cert.WkvSIdeal.main_arg2)
      ∧ m' ((c.tc : Thread Cert.WkvSRefIdeal.nD Cert.WkvSRefIdeal.τ).loc Cert.WkvSRefIdeal.main_arg3) = m ((c.tc : Thread Cert.WkvSIdeal.nD Cert.WkvSIdeal.τ).loc Cert.WkvSIdeal.main_arg3)
      ∧ m' ((c.tc : Thread Cert.WkvSRefIdeal.nD Cert.WkvSRefIdeal.τ).loc Cert.WkvSRefIdeal.main_arg4) = m ((c.tc : Thread Cert.WkvSIdeal.nD Cert.WkvSIdeal.τ).loc Cert.WkvSIdeal.main_arg4)
      ∧ m' ((c.tc : Thread Cert.WkvSRefIdeal.nD Cert.WkvSRefIdeal.τ).loc Cert.WkvSRefIdeal.main_arg5) = m ((c.tc : Thread Cert.WkvSIdeal.nD Cert.WkvSIdeal.τ).loc Cert.WkvSIdeal.main_arg5)
      ∧ m' ((c.tc : Thread Cert.WkvSRefIdeal.nD Cert.WkvSRefIdeal.τ).loc Cert.WkvSRefIdeal.main_arg6) = m ((c.tc : Thread Cert.WkvSIdeal.nD Cert.WkvSIdeal.τ).loc Cert.WkvSIdeal.main_arg6)
      ∧ m' ((c.tc : Thread Cert.WkvSRefIdeal.nD Cert.WkvSRefIdeal.τ).loc Cert.WkvSRefIdeal.main_arg7) = m ((c.tc : Thread Cert.WkvSIdeal.nD Cert.WkvSIdeal.τ).loc Cert.WkvSIdeal.main_arg7)
      ∧ m' ((c.tc : Thread Cert.WkvSRefIdeal.nD Cert.WkvSRefIdeal.τ).loc Cert.WkvSRefIdeal.main_arg8) = m ((c.tc : Thread Cert.WkvSIdeal.nD Cert.WkvSIdeal.τ).loc Cert.WkvSIdeal.main_arg8)
      ∧ m' ((c.tc : Thread Cert.WkvSRefIdeal.nD Cert.WkvSRefIdeal.τ).loc Cert.WkvSRefIdeal.main_arg9) = m ((c.tc : Thread Cert.WkvSIdeal.nD Cert.WkvSIdeal.τ).loc Cert.WkvSIdeal.main_arg9)
      ∧ m' ((c.tc : Thread Cert.WkvSRefIdeal.nD Cert.WkvSRefIdeal.τ).loc Cert.WkvSRefIdeal.main_arg10) = m ((c.tc : Thread Cert.WkvSIdeal.nD Cert.WkvSIdeal.τ).loc Cert.WkvSIdeal.main_arg10)
      ∧ m' ((c.tc : Thread Cert.WkvSRefIdeal.nD Cert.WkvSRefIdeal.τ).loc Cert.WkvSRefIdeal.main_arg11) = m ((c.tc : Thread Cert.WkvSIdeal.nD Cert.WkvSIdeal.τ).loc Cert.WkvSIdeal.main_arg11)
      ∧ m' ((c.tc : Thread Cert.WkvSRefIdeal.nD Cert.WkvSRefIdeal.τ).loc Cert.WkvSRefIdeal.main_arg12) = m ((c.tc : Thread Cert.WkvSIdeal.nD Cert.WkvSIdeal.τ).loc Cert.WkvSIdeal.main_arg12)
      ∧ m' ((c.tc : Thread Cert.WkvSRefIdeal.nD Cert.WkvSRefIdeal.τ).loc Cert.WkvSRefIdeal.main_arg13) = m ((c.tc : Thread Cert.WkvSIdeal.nD Cert.WkvSIdeal.τ).loc Cert.WkvSIdeal.main_arg13)) →
    ∃ (v0 : (c : Dev Cert.WkvSIdeal.nD) → Buf (Elt Ideal) ((c.tc : Thread Cert.WkvSIdeal.nD Cert.WkvSIdeal.τ).loc Cert.WkvSIdeal.main_v21_1)),
      θ_run (Cert.WkvSIdeal.defs (F := Ideal)) (onTc (τ := Cert.WkvSIdeal.τ) (Cert.WkvSIdeal.main (F := Ideal))) ⟨m, fun _ => 0, g⟩ (fun r => ∀ c : Dev Cert.WkvSIdeal.nD,
          r.2.mem ((c.tc : Thread Cert.WkvSIdeal.nD Cert.WkvSIdeal.τ).loc Cert.WkvSIdeal.main_v21_1) = v0 c
          ∧ r.2.mem ((c.tc : Thread Cert.WkvSIdeal.nD Cert.WkvSIdeal.τ).loc Cert.WkvSIdeal.main_arg0) = m ((c.tc : Thread Cert.WkvSIdeal.nD Cert.WkvSIdeal.τ).loc Cert.WkvSIdeal.main_arg0)
          ∧ r.2.mem ((c.tc : Thread Cert.WkvSIdeal.nD Cert.WkvSIdeal.τ).loc Cert.WkvSIdeal.main_arg1) = m ((c.tc : Thread Cert.WkvSIdeal.nD Cert.WkvSIdeal.τ).loc Cert.WkvSIdeal.main_arg1)
          ∧ r.2.mem ((c.tc : Thread Cert.WkvSIdeal.nD Cert.WkvSIdeal.τ).loc Cert.WkvSIdeal.main_arg2) = m ((c.tc : Thread Cert.WkvSIdeal.nD Cert.WkvSIdeal.τ).loc Cert.WkvSIdeal.main_arg2)
          ∧ r.2.mem ((c.tc : Thread Cert.WkvSIdeal.nD Cert.WkvSIdeal.τ).loc Cert.WkvSIdeal.main_arg3) = m ((c.tc : Thread Cert.WkvSIdeal.nD Cert.WkvSIdeal.τ).loc Cert.WkvSIdeal.main_arg3)
          ∧ r.2.mem ((c.tc : Thread Cert.WkvSIdeal.nD Cert.WkvSIdeal.τ).loc Cert.WkvSIdeal.main_arg4) = m ((c.tc : Thread Cert.WkvSIdeal.nD Cert.WkvSIdeal.τ).loc Cert.WkvSIdeal.main_arg4)
          ∧ r.2.mem ((c.tc : Thread Cert.WkvSIdeal.nD Cert.WkvSIdeal.τ).loc Cert.WkvSIdeal.main_arg5) = m ((c.tc : Thread Cert.WkvSIdeal.nD Cert.WkvSIdeal.τ).loc Cert.WkvSIdeal.main_arg5)
          ∧ r.2.mem ((c.tc : Thread Cert.WkvSIdeal.nD Cert.WkvSIdeal.τ).loc Cert.WkvSIdeal.main_arg6) = m ((c.tc : Thread Cert.WkvSIdeal.nD Cert.WkvSIdeal.τ).loc Cert.WkvSIdeal.main_arg6)
          ∧ r.2.mem ((c.tc : Thread Cert.WkvSIdeal.nD Cert.WkvSIdeal.τ).loc Cert.WkvSIdeal.main_arg7) = m ((c.tc : Thread Cert.WkvSIdeal.nD Cert.WkvSIdeal.τ).loc Cert.WkvSIdeal.main_arg7)
          ∧ r.2.mem ((c.tc : Thread Cert.WkvSIdeal.nD Cert.WkvSIdeal.τ).loc Cert.WkvSIdeal.main_arg8) = m ((c.tc : Thread Cert.WkvSIdeal.nD Cert.WkvSIdeal.τ).loc Cert.WkvSIdeal.main_arg8)
          ∧ r.2.mem ((c.tc : Thread Cert.WkvSIdeal.nD Cert.WkvSIdeal.τ).loc Cert.WkvSIdeal.main_arg9) = m ((c.tc : Thread Cert.WkvSIdeal.nD Cert.WkvSIdeal.τ).loc Cert.WkvSIdeal.main_arg9)
          ∧ r.2.mem ((c.tc : Thread Cert.WkvSIdeal.nD Cert.WkvSIdeal.τ).loc Cert.WkvSIdeal.main_arg10) = m ((c.tc : Thread Cert.WkvSIdeal.nD Cert.WkvSIdeal.τ).loc Cert.WkvSIdeal.main_arg10)
          ∧ r.2.mem ((c.tc : Thread Cert.WkvSIdeal.nD Cert.WkvSIdeal.τ).loc Cert.WkvSIdeal.main_arg11) = m ((c.tc : Thread Cert.WkvSIdeal.nD Cert.WkvSIdeal.τ).loc Cert.WkvSIdeal.main_arg11)
          ∧ r.2.mem ((c.tc : Thread Cert.WkvSIdeal.nD Cert.WkvSIdeal.τ).loc Cert.WkvSIdeal.main_arg12) = m ((c.tc : Thread Cert.WkvSIdeal.nD Cert.WkvSIdeal.τ).loc Cert.WkvSIdeal.main_arg12)
          ∧ r.2.mem ((c.tc : Thread Cert.WkvSIdeal.nD Cert.WkvSIdeal.τ).loc Cert.WkvSIdeal.main_arg13) = m ((c.tc : Thread Cert.WkvSIdeal.nD Cert.WkvSIdeal.τ).loc Cert.WkvSIdeal.main_arg13))
      ∧ θ_run (Cert.WkvSRefIdeal.defs (F := Ideal)) (onTc (τ := Cert.WkvSRefIdeal.τ) (Cert.WkvSRefIdeal.main (F := Ideal))) ⟨m', fun _ => 0, g'⟩ (fun r => ∀ c : Dev Cert.WkvSRefIdeal.nD,
          r.2.mem ((c.tc : Thread Cert.WkvSRefIdeal.nD Cert.WkvSRefIdeal.τ).loc Cert.WkvSRefIdeal.main_v329) = v0 c
          ∧ r.2.mem ((c.tc : Thread Cert.WkvSRefIdeal.nD Cert.WkvSRefIdeal.τ).loc Cert.WkvSRefIdeal.main_arg0) = m' ((c.tc : Thread Cert.WkvSRefIdeal.nD Cert.WkvSRefIdeal.τ).loc Cert.WkvSRefIdeal.main_arg0)
          ∧ r.2.mem ((c.tc : Thread Cert.WkvSRefIdeal.nD Cert.WkvSRefIdeal.τ).loc Cert.WkvSRefIdeal.main_arg1) = m' ((c.tc : Thread Cert.WkvSRefIdeal.nD Cert.WkvSRefIdeal.τ).loc Cert.WkvSRefIdeal.main_arg1)
          ∧ r.2.mem ((c.tc : Thread Cert.WkvSRefIdeal.nD Cert.WkvSRefIdeal.τ).loc Cert.WkvSRefIdeal.main_arg2) = m' ((c.tc : Thread Cert.WkvSRefIdeal.nD Cert.WkvSRefIdeal.τ).loc Cert.WkvSRefIdeal.main_arg2)
          ∧ r.2.mem ((c.tc : Thread Cert.WkvSRefIdeal.nD Cert.WkvSRefIdeal.τ).loc Cert.WkvSRefIdeal.main_arg3) = m' ((c.tc : Thread Cert.WkvSRefIdeal.nD Cert.WkvSRefIdeal.τ).loc Cert.WkvSRefIdeal.main_arg3)
          ∧ r.2.mem ((c.tc : Thread Cert.WkvSRefIdeal.nD Cert.WkvSRefIdeal.τ).loc Cert.WkvSRefIdeal.main_arg4) = m' ((c.tc : Thread Cert.WkvSRefIdeal.nD Cert.WkvSRefIdeal.τ).loc Cert.WkvSRefIdeal.main_arg4)
          ∧ r.2.mem ((c.tc : Thread Cert.WkvSRefIdeal.nD Cert.WkvSRefIdeal.τ).loc Cert.WkvSRefIdeal.main_arg5) = m' ((c.tc : Thread Cert.WkvSRefIdeal.nD Cert.WkvSRefIdeal.τ).loc Cert.WkvSRefIdeal.main_arg5)
          ∧ r.2.mem ((c.tc : Thread Cert.WkvSRefIdeal.nD Cert.WkvSRefIdeal.τ).loc Cert.WkvSRefIdeal.main_arg6) = m' ((c.tc : Thread Cert.WkvSRefIdeal.nD Cert.WkvSRefIdeal.τ).loc Cert.WkvSRefIdeal.main_arg6)
          ∧ r.2.mem ((c.tc : Thread Cert.WkvSRefIdeal.nD Cert.WkvSRefIdeal.τ).loc Cert.WkvSRefIdeal.main_arg7) = m' ((c.tc : Thread Cert.WkvSRefIdeal.nD Cert.WkvSRefIdeal.τ).loc Cert.WkvSRefIdeal.main_arg7)
          ∧ r.2.mem ((c.tc : Thread Cert.WkvSRefIdeal.nD Cert.WkvSRefIdeal.τ).loc Cert.WkvSRefIdeal.main_arg8) = m' ((c.tc : Thread Cert.WkvSRefIdeal.nD Cert.WkvSRefIdeal.τ).loc Cert.WkvSRefIdeal.main_arg8)
          ∧ r.2.mem ((c.tc : Thread Cert.WkvSRefIdeal.nD Cert.WkvSRefIdeal.τ).loc Cert.WkvSRefIdeal.main_arg9) = m' ((c.tc : Thread Cert.WkvSRefIdeal.nD Cert.WkvSRefIdeal.τ).loc Cert.WkvSRefIdeal.main_arg9)
          ∧ r.2.mem ((c.tc : Thread Cert.WkvSRefIdeal.nD Cert.WkvSRefIdeal.τ).loc Cert.WkvSRefIdeal.main_arg10) = m' ((c.tc : Thread Cert.WkvSRefIdeal.nD Cert.WkvSRefIdeal.τ).loc Cert.WkvSRefIdeal.main_arg10)
          ∧ r.2.mem ((c.tc : Thread Cert.WkvSRefIdeal.nD Cert.WkvSRefIdeal.τ).loc Cert.WkvSRefIdeal.main_arg11) = m' ((c.tc : Thread Cert.WkvSRefIdeal.nD Cert.WkvSRefIdeal.τ).loc Cert.WkvSRefIdeal.main_arg11)
          ∧ r.2.mem ((c.tc : Thread Cert.WkvSRefIdeal.nD Cert.WkvSRefIdeal.τ).loc Cert.WkvSRefIdeal.main_arg12) = m' ((c.tc : Thread Cert.WkvSRefIdeal.nD Cert.WkvSRefIdeal.τ).loc Cert.WkvSRefIdeal.main_arg12)
          ∧ r.2.mem ((c.tc : Thread Cert.WkvSRefIdeal.nD Cert.WkvSRefIdeal.τ).loc Cert.WkvSRefIdeal.main_arg13) = m' ((c.tc : Thread Cert.WkvSRefIdeal.nD Cert.WkvSRefIdeal.τ).loc Cert.WkvSRefIdeal.main_arg13))

def Claim : Prop :=
  ∃ (hMoe : Cert.Moe.Facts) (hMoeIdeal : Cert.MoeIdeal.Facts) (hMoeRefIdeal : Cert.MoeRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hMoeS : Cert.MoeS.Facts) (hMoeSIdeal : Cert.MoeSIdeal.Facts) (hMoeSRefIdeal : Cert.MoeSRefIdeal.Facts) (hMergeS : Cert.MergeS.Facts) (hMergeSIdeal : Cert.MergeSIdeal.Facts) (hMergeSRefIdeal : Cert.MergeSRefIdeal.Facts) (hInprojS : Cert.InprojS.Facts) (hInprojSIdeal : Cert.InprojSIdeal.Facts) (hInprojSRefIdeal : Cert.InprojSRefIdeal.Facts) (hWkvS : Cert.WkvS.Facts) (hWkvSIdeal : Cert.WkvSIdeal.Facts) (hWkvSRefIdeal : Cert.WkvSRefIdeal.Facts) (hPre_router_finite : Cert.Pre_router_finite.Facts) (hPre_inproj_finite : Cert.Pre_inproj_finite.Facts) (hPre_router_finite_sample : Cert.Pre_router_finite_sample.Facts) (hPre_inproj_finite_sample : Cert.Pre_inproj_finite_sample.Facts) (hPre_wkv_finite : Cert.Pre_wkv_finite.Facts),
    quiescent_Moe (hMoe := hMoe)
    ∧ quiescent_MoeIdeal (hMoeIdeal := hMoeIdeal)
    ∧ quiescent_MoeRefIdeal (hMoeRefIdeal := hMoeRefIdeal)
    ∧ quiescent_Merge (hMerge := hMerge)
    ∧ quiescent_MergeIdeal (hMergeIdeal := hMergeIdeal)
    ∧ quiescent_MergeIdeal_pre_router_finite (hMergeIdeal := hMergeIdeal) (hPre_router_finite := hPre_router_finite)
    ∧ quiescent_MergeRefIdeal (hMergeRefIdeal := hMergeRefIdeal)
    ∧ quiescent_MergeRefIdeal_pre_router_finite (hMergeRefIdeal := hMergeRefIdeal) (hPre_router_finite := hPre_router_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_MoeS (hMoeS := hMoeS)
    ∧ quiescent_MoeSIdeal (hMoeSIdeal := hMoeSIdeal)
    ∧ quiescent_MoeSRefIdeal (hMoeSRefIdeal := hMoeSRefIdeal)
    ∧ quiescent_MergeS (hMergeS := hMergeS)
    ∧ quiescent_MergeSIdeal (hMergeSIdeal := hMergeSIdeal)
    ∧ quiescent_MergeSIdeal_pre_router_finite_sample (hMergeSIdeal := hMergeSIdeal) (hPre_router_finite_sample := hPre_router_finite_sample)
    ∧ quiescent_MergeSRefIdeal (hMergeSRefIdeal := hMergeSRefIdeal)
    ∧ quiescent_MergeSRefIdeal_pre_router_finite_sample (hMergeSRefIdeal := hMergeSRefIdeal) (hPre_router_finite_sample := hPre_router_finite_sample)
    ∧ quiescent_InprojS (hInprojS := hInprojS)
    ∧ quiescent_InprojSIdeal (hInprojSIdeal := hInprojSIdeal)
    ∧ quiescent_InprojSIdeal_pre_inproj_finite_sample (hInprojSIdeal := hInprojSIdeal) (hPre_inproj_finite_sample := hPre_inproj_finite_sample)
    ∧ quiescent_InprojSRefIdeal (hInprojSRefIdeal := hInprojSRefIdeal)
    ∧ quiescent_InprojSRefIdeal_pre_inproj_finite_sample (hInprojSRefIdeal := hInprojSRefIdeal) (hPre_inproj_finite_sample := hPre_inproj_finite_sample)
    ∧ quiescent_WkvS (hWkvS := hWkvS)
    ∧ quiescent_WkvSIdeal (hWkvSIdeal := hWkvSIdeal)
    ∧ quiescent_WkvSIdeal_pre_wkv_finite (hWkvSIdeal := hWkvSIdeal) (hPre_wkv_finite := hPre_wkv_finite)
    ∧ quiescent_WkvSRefIdeal (hWkvSRefIdeal := hWkvSRefIdeal)
    ∧ quiescent_WkvSRefIdeal_pre_wkv_finite (hWkvSRefIdeal := hWkvSRefIdeal) (hPre_wkv_finite := hPre_wkv_finite)
    ∧ preserves_Moe_MoeIdeal
    ∧ algebraic_MoeIdeal_MoeRefIdeal (hMoeIdeal := hMoeIdeal) (hMoeRefIdeal := hMoeRefIdeal)
    ∧ preserves_Merge_MergeIdeal
    ∧ algebraic_MergeIdeal_MergeRefIdeal_pre_router_finite (hMergeIdeal := hMergeIdeal) (hMergeRefIdeal := hMergeRefIdeal) (hPre_router_finite := hPre_router_finite)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_MoeS_MoeSIdeal
    ∧ algebraic_MoeSIdeal_MoeSRefIdeal (hMoeSIdeal := hMoeSIdeal) (hMoeSRefIdeal := hMoeSRefIdeal)
    ∧ preserves_MergeS_MergeSIdeal
    ∧ algebraic_MergeSIdeal_MergeSRefIdeal_pre_router_finite_sample (hMergeSIdeal := hMergeSIdeal) (hMergeSRefIdeal := hMergeSRefIdeal) (hPre_router_finite_sample := hPre_router_finite_sample)
    ∧ preserves_InprojS_InprojSIdeal
    ∧ algebraic_InprojSIdeal_InprojSRefIdeal_pre_inproj_finite_sample (hInprojSIdeal := hInprojSIdeal) (hInprojSRefIdeal := hInprojSRefIdeal) (hPre_inproj_finite_sample := hPre_inproj_finite_sample)
    ∧ preserves_WkvS_WkvSIdeal
    ∧ algebraic_WkvSIdeal_WkvSRefIdeal_pre_wkv_finite (hWkvSIdeal := hWkvSIdeal) (hWkvSRefIdeal := hWkvSRefIdeal) (hPre_wkv_finite := hPre_wkv_finite)
-- ==== Pre_inproj_finite.lean ====
abbrev S8x8192x1024 : Shape := ⟨3, ![8, 8192, 1024]⟩
abbrev S1024 : Shape := ⟨1, ![1024]⟩
abbrev S1024x4932 : Shape := ⟨2, ![1024, 4932]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4932 : S_.BroadcastsInDim S1024x4932 (![] : Fin 0 → Fin S1024x4932.rank)
  reducesTo_S1024x4932_S_d0_1 : S1024x4932.ReducesTo [0, 1] S_

variable [Facts]

def fn {F : FTy → Type} [FloatOps F] (main_arg0 : FVec F S8x8192x1024 .f32) (main_arg1 : FVec F S1024 .f32) (main_arg2 : FVec F S1024x4932 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4932 .f32 := Host.absf main_arg2
  let main_cst_0 : FVec F S_ .f32 := constant S_ .f32 0x7F800000#32
  let main_v5 : FVec F S1024x4932 .f32 := broadcastInDim S1024x4932 ![] bcast_S_S1024x4932 main_cst_0
  let main_v6 : IVec S1024x4932 1 := cmpf .olt main_v4 main_v5
  let main_c_1 : IVec S_ 1 := constantI S_ 1 1#1
  let main_v7 : IVec S_ 1 := (fun x v => Host.reduce IntOp.andi x v reducesTo_S1024x4932_S_d0_1 h_S_) main_v6 main_c_1
  let main_v8 : IVec S_ 1 := andi main_v3 main_v7
  main_v8
-- ==== Pre_inproj_finite_sample.lean ====
abbrev S128x4x1024 : Shape := ⟨3, ![128, 4, 1024]⟩
abbrev S1024 : Shape := ⟨1, ![1024]⟩
abbrev S1024x4932 : Shape := ⟨2, ![1024, 4932]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4932 : S_.BroadcastsInDim S1024x4932 (![] : Fin 0 → Fin S1024x4932.rank)
  reducesTo_S1024x4932_S_d0_1 : S1024x4932.ReducesTo [0, 1] S_

variable [Facts]

def fn {F : FTy → Type} [FloatOps F] (main_arg0 : FVec F S128x4x1024 .f32) (main_arg1 : FVec F S1024 .f32) (main_arg2 : FVec F S1024x4932 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4932 .f32 := Host.absf main_arg2
  let main_cst_0 : FVec F S_ .f32 := constant S_ .f32 0x7F800000#32
  let main_v5 : FVec F S1024x4932 .f32 := broadcastInDim S1024x4932 ![] bcast_S_S1024x4932 main_cst_0
  let main_v6 : IVec S1024x4932 1 := cmpf .olt main_v4 main_v5
  let main_c_1 : IVec S_ 1 := constantI S_ 1 1#1
  let main_v7 : IVec S_ 1 := (fun x v => Host.reduce IntOp.andi x v reducesTo_S1024x4932_S_d0_1 h_S_) main_v6 main_c_1
  let main_v8 : IVec S_ 1 := andi main_v3 main_v7
  main_v8
-- ==== Pre_router_finite.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg12 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg12
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S65536x1024 .f32) (main_arg1 : FVec F S65536x512 .bf16) (main_arg2 : FVec F S65536x512 .bf16) (main_arg3 : FVec F S65536x1024 .bf16) (main_arg4 : FVec F S65536x1024 .bf16) (main_arg5 : FVec F S512x1024 .f32) (main_arg6 : FVec F S512x1024 .f32) (main_arg7 : FVec F S1024x1024 .f32) (main_arg8 : FVec F S1024 .f32) (main_arg9 : FVec F S1024x4 .f32) (main_arg10 : FVec F S4 .f32) (main_arg11 : FVec F S1024x16 .f32) (main_arg12 : FVec F S16 .f32) : IVec S_ 1 :=
  let main_v0 : FVec F S1024 .f32 := Host.absf main_arg8
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg9
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg10
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg11
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg12 main_v13 main_v16
-- ==== Pre_router_finite_sample.lean ====
abbrev S512x1024 : Shape := ⟨2, ![512, 1024]⟩
abbrev S512x512 : Shape := ⟨2, ![512, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg12 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg12
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S512x1024 .f32) (main_arg1 : FVec F S512x512 .bf16) (main_arg2 : FVec F S512x512 .bf16) (main_arg3 : FVec F S512x1024 .bf16) (main_arg4 : FVec F S512x1024 .bf16) (main_arg5 : FVec F S512x1024 .f32) (main_arg6 : FVec F S512x1024 .f32) (main_arg7 : FVec F S1024x1024 .f32) (main_arg8 : FVec F S1024 .f32) (main_arg9 : FVec F S1024x4 .f32) (main_arg10 : FVec F S4 .f32) (main_arg11 : FVec F S1024x16 .f32) (main_arg12 : FVec F S16 .f32) : IVec S_ 1 :=
  let main_v0 : FVec F S1024 .f32 := Host.absf main_arg8
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg9
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg10
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg11
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg12 main_v13 main_v16
-- ==== Pre_wkv_finite.lean ====
abbrev S128x4x1792 : Shape := ⟨3, ![128, 4, 1792]⟩
abbrev S128x1792 : Shape := ⟨2, ![128, 1792]⟩
abbrev S128x8x64x64 : Shape := ⟨4, ![128, 8, 64, 64]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩

class Facts : Prop where
  bcast_S_S128x4x1792 : S_.BroadcastsInDim S128x4x1792 (![] : Fin 0 → Fin S128x4x1792.rank)
  reducesTo_S128x4x1792_S_d0_1_2 : S128x4x1792.ReducesTo [0, 1, 2] S_
  h_S_ : 0 < S_.numel
  bcast_S_S128x1792 : S_.BroadcastsInDim S128x1792 (![] : Fin 0 → Fin S128x1792.rank)
  reducesTo_S128x1792_S_d0_1 : S128x1792.ReducesTo [0, 1] S_
  bcast_S_S128x8x64x64 : S_.BroadcastsInDim S128x8x64x64 (![] : Fin 0 → Fin S128x8x64x64.rank)
  reducesTo_S128x8x64x64_S_d0_1_2_3 : S128x8x64x64.ReducesTo [0, 1, 2, 3] S_
  bcast_S_S1792 : S_.BroadcastsInDim S1792 (![] : Fin 0 → Fin S1792.rank)
  reducesTo_S1792_S_d0 : S1792.ReducesTo [0] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_

variable [Facts]

def fn_part2 {F : FTy → Type} [FloatOps F] (main_arg7 : FVec F S64x512 .f32) (main_arg9 : FVec F S512 .f32) (main_arg10 : FVec F S512 .f32) (main_v33 : IVec S_ 1) : IVec S_ 1 :=
  let main_v34 : FVec F S64x512 .f32 := Host.absf main_arg7
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512 .f32) (main_arg5 : FVec F S64x512 .f32) (main_arg6 : FVec F S512 .f32) (main_arg7 : FVec F S64x512 .f32) (main_arg9 : FVec F S512 .f32) (main_arg10 : FVec F S512 .f32) (main_v13 : IVec S_ 1) (main_v16 : IVec S1792 1) : IVec S_ 1 :=
  let main_c_5 : IVec S_ 1 := constantI S_ 1 1#1
  let main_v17 : IVec S_ 1 := (fun x v => Host.reduce IntOp.andi x v reducesTo_S1792_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg9 main_arg10 main_v33

def fn {F : FTy → Type} [FloatOps F] (main_arg0 : FVec F S128x4x1792 .f32) (main_arg1 : FVec F S128x1792 .f32) (main_arg2 : FVec F S128x8x64x64 .f32) (main_arg3 : FVec F S1792 .f32) (main_arg4 : FVec F S512 .f32) (main_arg5 : FVec F S64x512 .f32) (main_arg6 : FVec F S512 .f32) (main_arg7 : FVec F S64x512 .f32) (main_arg8 : FVec F S128x512 .f32) (main_arg9 : FVec F S512 .f32) (main_arg10 : FVec F S512 .f32) (main_arg11 : FVec F S512 .f32) (main_arg12 : FVec F S512 .f32) (main_arg13 : FVec F S512 .f32) : IVec S_ 1 :=
  let main_v0 : FVec F S128x4x1792 .f32 := Host.absf main_arg0
  let main_cst : FVec F S_ .f32 := constant S_ .f32 0x7F800000#32
  let main_v1 : FVec F S128x4x1792 .f32 := broadcastInDim S128x4x1792 ![] bcast_S_S128x4x1792 main_cst
  let main_v2 : IVec S128x4x1792 1 := cmpf .olt main_v0 main_v1
  let main_c : IVec S_ 1 := constantI S_ 1 1#1
  let main_v3 : IVec S_ 1 := (fun x v => Host.reduce IntOp.andi x v reducesTo_S128x4x1792_S_d0_1_2 h_S_) main_v2 main_c
  let main_v4 : FVec F S128x1792 .f32 := Host.absf main_arg1
  let main_cst_0 : FVec F S_ .f32 := constant S_ .f32 0x7F800000#32
  let main_v5 : FVec F S128x1792 .f32 := broadcastInDim S128x1792 ![] bcast_S_S128x1792 main_cst_0
  let main_v6 : IVec S128x1792 1 := cmpf .olt main_v4 main_v5
  let main_c_1 : IVec S_ 1 := constantI S_ 1 1#1
  let main_v7 : IVec S_ 1 := (fun x v => Host.reduce IntOp.andi x v reducesTo_S128x1792_S_d0_1 h_S_) main_v6 main_c_1
  let main_v8 : IVec S_ 1 := andi main_v3 main_v7
  let main_v9 : FVec F S128x8x64x64 .f32 := Host.absf main_arg2
  let main_cst_2 : FVec F S_ .f32 := constant S_ .f32 0x7F800000#32
  let main_v10 : FVec F S128x8x64x64 .f32 := broadcastInDim S128x8x64x64 ![] bcast_S_S128x8x64x64 main_cst_2
  let main_v11 : IVec S128x8x64x64 1 := cmpf .olt main_v9 main_v10
  let main_c_3 : IVec S_ 1 := constantI S_ 1 1#1
  let main_v12 : IVec S_ 1 := (fun x v => Host.reduce IntOp.andi x v reducesTo_S128x8x64x64_S_d0_1_2_3 h_S_) main_v11 main_c_3
  let main_v13 : IVec S_ 1 := andi main_v8 main_v12
  let main_v14 : FVec F S1792 .f32 := Host.absf main_arg3
  let main_cst_4 : FVec F S_ .f32 := constant S_ .f32 0x7F800000#32
  let main_v15 : FVec F S1792 .f32 := broadcastInDim S1792 ![] bcast_S_S1792 main_cst_4
  let main_v16 : IVec S1792 1 := cmpf .olt main_v14 main_v15
  fn_part1 (F := F) main_arg4 main_arg5 main_arg6 main_arg7 main_arg9 main_arg10 main_v13 main_v16
-- ==== Moe.lean ====
abbrev S65536x1024 : Shape := ⟨2, ![65536, 1024]⟩
abbrev S65536x128 : Shape := ⟨2, ![65536, 128]⟩
abbrev S65536x256 : Shape := ⟨2, ![65536, 256]⟩
abbrev S16x1024x512 : Shape := ⟨3, ![16, 1024, 512]⟩
abbrev S16x512x1024 : Shape := ⟨3, ![16, 512, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x128 : Shape := ⟨2, ![1024, 128]⟩
abbrev S1024x256 : Shape := ⟨2, ![1024, 256]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 19
  | .vmem => 21
  | .smem => 0
  | _ => 0

abbrev bufTy : (tb : Table) → Fin (tcTables nBuf tb) → BufTy
  | .hbm, ⟨0, _⟩ => ⟨S65536x1024, .bf16⟩
  | .hbm, ⟨1, _⟩ => ⟨S65536x128, .f32⟩
  | .hbm, ⟨2, _⟩ => ⟨S65536x1024, .f32⟩
  | .hbm, ⟨3, _⟩ => ⟨S65536x256, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S16x1024x512, .bf16⟩
  | .hbm, ⟨12, _⟩ => ⟨S16x1024x512, .bf16⟩
  | .hbm, ⟨13, _⟩ => ⟨S16x512x1024, .bf16⟩
  | .hbm, ⟨14, _⟩ => ⟨S1x1024, .f32⟩
  | .hbm, ⟨15, _⟩ => ⟨S1024x1024, .bf16⟩
  | .hbm, ⟨16, _⟩ => ⟨S1x1024, .f32⟩
  | .hbm, ⟨17, _⟩ => ⟨S256x1024, .bf16⟩
  | .hbm, ⟨18, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S256x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MoeIdeal.lean ====
abbrev S65536x1024 : Shape := ⟨2, ![65536, 1024]⟩
abbrev S65536x128 : Shape := ⟨2, ![65536, 128]⟩
abbrev S65536x256 : Shape := ⟨2, ![65536, 256]⟩
abbrev S16x1024x512 : Shape := ⟨3, ![16, 1024, 512]⟩
abbrev S16x512x1024 : Shape := ⟨3, ![16, 512, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x128 : Shape := ⟨2, ![1024, 128]⟩
abbrev S1024x256 : Shape := ⟨2, ![1024, 256]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 19
  | .vmem => 21
  | .smem => 0
  | _ => 0

abbrev bufTy : (tb : Table) → Fin (tcTables nBuf tb) → BufTy
  | .hbm, ⟨0, _⟩ => ⟨S65536x1024, .bf16⟩
  | .hbm, ⟨1, _⟩ => ⟨S65536x128, .f32⟩
  | .hbm, ⟨2, _⟩ => ⟨S65536x1024, .f32⟩
  | .hbm, ⟨3, _⟩ => ⟨S65536x256, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S16x1024x512, .bf16⟩
  | .hbm, ⟨12, _⟩ => ⟨S16x1024x512, .bf16⟩
  | .hbm, ⟨13, _⟩ => ⟨S16x512x1024, .bf16⟩
  | .hbm, ⟨14, _⟩ => ⟨S1x1024, .f32⟩
  | .hbm, ⟨15, _⟩ => ⟨S1024x1024, .bf16⟩
  | .hbm, ⟨16, _⟩ => ⟨S1x1024, .f32⟩
  | .hbm, ⟨17, _⟩ => ⟨S256x1024, .bf16⟩
  | .hbm, ⟨18, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S256x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MoeRefIdeal.lean ====
abbrev S65536x1024 : Shape := ⟨2, ![65536, 1024]⟩
abbrev S65536x128 : Shape := ⟨2, ![65536, 128]⟩
abbrev S65536x256 : Shape := ⟨2, ![65536, 256]⟩
abbrev S16x1024x512 : Shape := ⟨3, ![16, 1024, 512]⟩
abbrev S16x512x1024 : Shape := ⟨3, ![16, 512, 1024]⟩
abbrev S1024 : Shape := ⟨1, ![1024]⟩
abbrev S1024x1024 : Shape := ⟨2, ![1024, 1024]⟩
abbrev S256x1024 : Shape := ⟨2, ![256, 1024]⟩
abbrev S65536x16 : Shape := ⟨2, ![65536, 16]⟩
abbrev S65536x16x512 : Shape := ⟨3, ![65536, 16, 512]⟩
abbrev S_ : Shape := ⟨0, ![]⟩
abbrev S65536x16x1 : Shape := ⟨3, ![65536, 16, 1]⟩
abbrev S16x1024x65536 : Shape := ⟨3, ![16, 1024, 65536]⟩
abbrev S65536x16x1024 : Shape := ⟨3, ![65536, 16, 1024]⟩
abbrev S65536 : Shape := ⟨1, ![65536]⟩
abbrev S65536x1 : Shape := ⟨2, ![65536, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x128, .f32⟩
  | .hbm, ⟨2, _⟩ => ⟨S65536x1024, .f32⟩
  | .hbm, ⟨3, _⟩ => ⟨S65536x256, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S65536x1024, .f32⟩
  | .hbm, ⟨12, _⟩ => ⟨S65536x16, .f32⟩
  | .hbm, ⟨13, _⟩ => ⟨S65536x16x512, .f32⟩
  | .hbm, ⟨14, _⟩ => ⟨S65536x16x512, .f32⟩
  | .hbm, ⟨15, _⟩ => ⟨S65536x16x512, .f32⟩
  | .hbm, ⟨16, _⟩ => ⟨S_, .f32⟩
  | .hbm, ⟨17, _⟩ => ⟨S65536x16x512, .f32⟩
  | .hbm, ⟨18, _⟩ => ⟨S65536x16x512, .f32⟩
  | .hbm, ⟨19, _⟩ => ⟨S_, .f32⟩
  | .hbm, ⟨20, _⟩ => ⟨S65536x16x512, .f32⟩
  | .hbm, ⟨21, _⟩ => ⟨S65536x16x512, .f32⟩
  | .hbm, ⟨22, _⟩ => ⟨S65536x16x512, .f32⟩
  | .hbm, ⟨23, _⟩ => ⟨S65536x16x512, .f32⟩
  | .hbm, ⟨24, _⟩ => ⟨S65536x16x512, .f32⟩
  | .hbm, ⟨25, _⟩ => ⟨S65536x16x1, .f32⟩
  | .hbm, ⟨26, _⟩ => ⟨S16x1024x65536, .f32⟩
  | .hbm, ⟨27, _⟩ => ⟨S65536x16x1024, .f32⟩
  | .hbm, ⟨28, _⟩ => ⟨S65536x16x1024, .f32⟩
  | .hbm, ⟨29, _⟩ => ⟨S65536x16x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536x1024, .f32⟩
  | .hbm, ⟨57, _⟩ => ⟨S65536x1024, .f32⟩
  | .hbm, ⟨58, _⟩ => ⟨S_, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Merge.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S1x1024 : Shape := ⟨2, ![1, 1024]⟩
abbrev S65536x128 : Shape := ⟨2, ![65536, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x16, .f32⟩
  | .hbm, ⟨12, _⟩ => ⟨S16, .f32⟩
  | .hbm, ⟨13, _⟩ => ⟨S_, .f32⟩
  | .hbm, ⟨14, _⟩ => ⟨S1024x108, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S108, .f32⟩
  | .hbm, ⟨22, _⟩ => ⟨S128, .f32⟩
  | .hbm, ⟨23, _⟩ => ⟨S1x128, .f32⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S1x1024, .f32⟩
  | .hbm, ⟨28, _⟩ => ⟨S65536x1024, .f32⟩
  | .hbm, ⟨29, _⟩ => ⟨S65536x1024, .bf16⟩
  | .hbm, ⟨30, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeIdeal.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S1x1024 : Shape := ⟨2, ![1, 1024]⟩
abbrev S65536x128 : Shape := ⟨2, ![65536, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x16, .f32⟩
  | .hbm, ⟨12, _⟩ => ⟨S16, .f32⟩
  | .hbm, ⟨13, _⟩ => ⟨S_, .f32⟩
  | .hbm, ⟨14, _⟩ => ⟨S1024x108, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S108, .f32⟩
  | .hbm, ⟨22, _⟩ => ⟨S128, .f32⟩
  | .hbm, ⟨23, _⟩ => ⟨S1x128, .f32⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S1x1024, .f32⟩
  | .hbm, ⟨28, _⟩ => ⟨S65536x1024, .f32⟩
  | .hbm, ⟨29, _⟩ => ⟨S65536x1024, .bf16⟩
  | .hbm, ⟨30, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4 : Shape := ⟨2, ![65536, 4]⟩
abbrev S1x4 : Shape := ⟨2, ![1, 4]⟩
abbrev S65536x1x1 : Shape := ⟨3, ![65536, 1, 1]⟩
abbrev S1 : Shape := ⟨1, ![1]⟩
abbrev S1x1x1 : Shape := ⟨3, ![1, 1, 1]⟩
abbrev S65536x16 : Shape := ⟨2, ![65536, 16]⟩
abbrev S1x16 : Shape := ⟨2, ![1, 16]⟩
abbrev S65536x4x4 : Shape := ⟨3, ![65536, 4, 4]⟩
abbrev S65536x1x4 : Shape := ⟨3, ![65536, 1, 4]⟩
abbrev S65536x1x4x1 : Shape := ⟨4, ![65536, 1, 4, 1]⟩
abbrev S1x1x1x1 : Shape := ⟨4, ![1, 1, 1, 1]⟩
abbrev S65536x2 : Shape := ⟨2, ![65536, 2]⟩
abbrev S65536x2x1 : Shape := ⟨3, ![65536, 2, 1]⟩
abbrev S1x1x16 : Shape := ⟨3, ![1, 1, 16]⟩
abbrev S65536x2x16 : Shape := ⟨3, ![65536, 2, 16]⟩
abbrev S65536x128 : Shape := ⟨2, ![65536, 128]⟩

abbrev nBuf : Space → Nat
  | .hbm => 150
  | .vmem => 0
  | .smem => 0
  | _ => 0

abbrev hbmTy0_0 (i : Nat) : BufTy := match i % 128 with
  | 0 => ⟨S65536x1024, .f32⟩
  | 1 => ⟨S65536x512, .bf16⟩
  | 2 => ⟨S65536x512, .bf16⟩
  | 3 => ⟨S65536x1024, .bf16⟩
  | 4 => ⟨S65536x1024, .bf16⟩
  | 5 => ⟨S512x1024, .f32⟩
  | 6 => ⟨S512x1024, .f32⟩
  | 7 => ⟨S1024x1024, .f32⟩
  | 8 => ⟨S1024, .f32⟩
  | 9 => ⟨S1024x4, .f32⟩
  | 10 => ⟨S4, .f32⟩
  | 11 => ⟨S1024x16, .f32⟩
  | 12 => ⟨S16, .f32⟩
  | 13 => ⟨S65536x1024, .f32⟩
  | 14 => ⟨S65536x512, .f32⟩
  | 15 => ⟨S65536x1024, .f32⟩
  | 16 => ⟨S65536x1024, .f32⟩
  | 17 => ⟨S65536x1024, .f32⟩
  | 18 => ⟨S65536x512, .f32⟩
  | 19 => ⟨S65536x1024, .f32⟩
  | 20 => ⟨S65536x1024, .f32⟩
  | 21 => ⟨S65536x1024, .f32⟩
  | 22 => ⟨S65536x1024, .f32⟩
  | 23 => ⟨S65536x1024, .f32⟩
  | 24 => ⟨S65536x1024, .f32⟩
  | 25 => ⟨S_, .f32⟩
  | 26 => ⟨S65536, .f32⟩
  | 27 => ⟨S65536x1, .f32⟩
  | 28 => ⟨S_, .f32⟩
  | 29 => ⟨S65536x1, .f32⟩
  | 30 => ⟨S65536x1, .f32⟩
  | 31 => ⟨S_, .f32⟩
  | 32 => ⟨S65536x1, .f32⟩
  | 33 => ⟨S65536x1, .f32⟩
  | 34 => ⟨S65536x1, .f32⟩
  | 35 => ⟨S65536x1024, .f32⟩
  | 36 => ⟨S65536x1024, .f32⟩
  | 37 => ⟨S1x1024, .f32⟩
  | 38 => ⟨S65536x1024, .f32⟩
  | 39 => ⟨S65536x1024, .f32⟩
  | 40 => ⟨S65536x4, .f32⟩
  | 41 => ⟨S1x4, .f32⟩
  | 42 => ⟨S65536x4, .f32⟩
  | 43 => ⟨S65536x4, .f32⟩
  | 44 => ⟨S_, .f32⟩
  | 45 => ⟨S65536, .f32⟩
  | 46 => ⟨S_, .f32⟩
  | 47 => ⟨S65536, .f32⟩
  | 48 => ⟨S65536, .f32⟩
  | 49 => ⟨S65536x1, .f32⟩
  | 50 => ⟨S65536x4, .f32⟩
  | 51 => ⟨S65536x4, .f32⟩
  | 52 => ⟨S65536x4, .f32⟩
  | 53 => ⟨S_, .f32⟩
  | 54 => ⟨S65536, .f32⟩
  | 55 => ⟨S65536x1, .f32⟩
  | 56 => ⟨S65536x4, .f32⟩
  | 57 => ⟨S65536x4, .f32⟩
  | 58 => ⟨S65536x1, .f32⟩
  | 59 => ⟨S65536x1, .i32⟩
  | 60 => ⟨S_, .i32⟩
  | 61 => ⟨S65536x1, .i32⟩
  | 62 => ⟨S65536x1, .i1⟩
  | 63 => ⟨S_, .i32⟩
  | 64 => ⟨S65536x1, .i32⟩
  | 65 => ⟨S65536x1, .i32⟩
  | 66 => ⟨S65536x1, .i32⟩
  | 67 => ⟨S65536x1x1, .i32⟩
  | 68 => ⟨S1, .i32⟩
  | 69 => ⟨S_, .i32⟩
  | 70 => ⟨S65536x1x1, .i32⟩
  | 71 => ⟨S65536x1x1, .i1⟩
  | 72 => ⟨S1x1x1, .i32⟩
  | 73 => ⟨S65536x1x1, .i32⟩
  | 74 => ⟨S65536x1x1, .i1⟩
  | 75 => ⟨S65536x1x1, .i1⟩
  | 76 => ⟨S_, .i1⟩
  | 77 => ⟨S65536x1, .i1⟩
  | 78 => ⟨S65536x1, .f32⟩
  | 79 => ⟨S_, .f32⟩
  | 80 => ⟨S65536x1, .f32⟩
  | 81 => ⟨S65536x1, .f32⟩
  | 82 => ⟨S65536x16, .f32⟩
  | 83 => ⟨S1x16, .f32⟩
  | 84 => ⟨S65536x16, .f32⟩
  | 85 => ⟨S65536x16, .f32⟩
  | 86 => ⟨S65536x4x4, .f32⟩
  | 87 => ⟨S65536x1x1, .i32⟩
  | 88 => ⟨S65536x1x4, .i32⟩
  | 89 => ⟨S_, .i32⟩
  | 90 => ⟨S65536x1x4, .i32⟩
  | 91 => ⟨S65536x1x4, .i1⟩
  | 92 => ⟨S_, .i32⟩
  | 93 => ⟨S65536x1x4, .i32⟩
  | 94 => ⟨S65536x1x4, .i32⟩
  | 95 => ⟨S65536x1x4, .i32⟩
  | 96 => ⟨S65536x1x4x1, .i32⟩
  | 97 => ⟨S1, .i32⟩
  | 98 => ⟨S_, .i32⟩
  | 99 => ⟨S65536x1x4x1, .i32⟩
  | 100 => ⟨S65536x1x4x1, .i1⟩
  | 101 => ⟨S1x1x1x1, .i32⟩
  | 102 => ⟨S65536x1x4x1, .i32⟩
  | 103 => ⟨S65536x1x4x1, .i1⟩
  | 104 => ⟨S65536x1x4x1, .i1⟩
  | 105 => ⟨S_, .i1⟩
  | 106 => ⟨S65536x1x4, .i1⟩
  | 107 => ⟨S65536x1x4, .f32⟩
  | 108 => ⟨S_, .f32⟩
  | 109 => ⟨S65536x1x4, .f32⟩
  | 110 => ⟨S65536x1x4, .f32⟩
  | 111 => ⟨S65536x4, .f32⟩
  | 112 => ⟨S65536x2, .f32⟩
  | 113 => ⟨S65536x2, .i32⟩
  | 114 => ⟨S_, .f32⟩
  | 115 => ⟨S65536, .f32⟩
  | 116 => ⟨S_, .f32⟩
  | 117 => ⟨S65536, .f32⟩
  | 118 => ⟨S65536, .f32⟩
  | 119 => ⟨S65536x1, .f32⟩
  | 120 => ⟨S65536x2, .f32⟩
  | 121 => ⟨S65536x2, .f32⟩
  | 122 => ⟨S65536x2, .f32⟩
  | 123 => ⟨S_, .f32⟩
  | 124 => ⟨S65536, .f32⟩
  | 125 => ⟨S65536x1, .f32⟩
  | 126 => ⟨S65536x2, .f32⟩
  | 127 => ⟨S65536x2, .f32⟩
  | _ => ⟨S65536x1024, .f32⟩

abbrev hbmTy0_1 (i : Nat) : BufTy := match i % 128 with
  | 0 => ⟨S65536x2, .f32⟩
  | 1 => ⟨S65536x2, .f32⟩
  | 2 => ⟨S_, .i32⟩
  | 3 => ⟨S65536x1, .i32⟩
  | 4 => ⟨S65536x1, .i32⟩
  | 5 => ⟨S65536x2, .i32⟩
  | 6 => ⟨S65536x2, .i32⟩
  | 7 => ⟨S65536x2x1, .i32⟩
  | 8 => ⟨S1x1x16, .i32⟩
  | 9 => ⟨S65536x2x16, .i32⟩
  | 10 => ⟨S65536x2x16, .i32⟩
  | 11 => ⟨S65536x2x16, .i1⟩
  | 12 => ⟨S65536x2x16, .f32⟩
  | 13 => ⟨S65536x2x1, .f32⟩
  | 14 => ⟨S65536x2x16, .f32⟩
  | 15 => ⟨S65536x2x16, .f32⟩
  | 16 => ⟨S_, .f32⟩
  | 17 => ⟨S65536x16, .f32⟩
  | 18 => ⟨S65536x1024, .bf16⟩
  | 19 => ⟨S_, .i32⟩
  | 20 => ⟨S_, .f32⟩
  | 21 => ⟨S65536x128, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_values : Ref sig .tc := ⟨.hbm, 58, rfl⟩
abbrev main_indices : Ref sig .tc := ⟨.hbm, 59, rfl⟩
abbrev main_call0_c : Ref sig .tc := ⟨.hbm, 60, rfl⟩
abbrev main_call0_v0 : Ref sig .tc := ⟨.hbm, 61, rfl⟩
abbrev main_call0_v1 : Ref sig .tc := ⟨.hbm, 62, rfl⟩
abbrev main_call0_c_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_c_1 : Ref sig .tc := ⟨.hbm, 68, rfl⟩
abbrev main_call0_c_2 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_3 : Ref sig .tc := ⟨.hbm, 76, rfl⟩
abbrev main_call0_v12 : Ref sig .tc := ⟨.hbm, 77, rfl⟩
abbrev main_call0_v13 : Ref sig .tc := ⟨.hbm, 78, rfl⟩
abbrev main_call0_cst : Ref sig .tc := ⟨.hbm, 79, rfl⟩
abbrev main_call0_v14 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_call1_c : Ref sig .tc := ⟨.hbm, 89, rfl⟩
abbrev main_call1_v0 : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_c_1 : Ref sig .tc := ⟨.hbm, 97, rfl⟩
abbrev main_call1_c_2 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_3 : Ref sig .tc := ⟨.hbm, 105, rfl⟩
abbrev main_call1_v12 : Ref sig .tc := ⟨.hbm, 106, rfl⟩
abbrev main_call1_v13 : Ref sig .tc := ⟨.hbm, 107, rfl⟩
abbrev main_call1_cst : Ref sig .tc := ⟨.hbm, 108, rfl⟩
abbrev main_call1_v14 : Ref sig .tc := ⟨.hbm, 109, rfl⟩
abbrev main_v47 : Ref sig .tc := ⟨.hbm, 110, rfl⟩
abbrev main_v48 : Ref sig .tc := ⟨.hbm, 111, rfl⟩
abbrev main_values_5 : Ref sig .tc := ⟨.hbm, 112, rfl⟩
abbrev main_indices_6 : Ref sig .tc := ⟨.hbm, 113, rfl⟩
abbrev main_cst_7 : Ref sig .tc := ⟨.hbm, 114, rfl⟩
abbrev main_v49 : Ref sig .tc := ⟨.hbm, 115, rfl⟩
abbrev main_cst_8 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_cst_9 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_c : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_10 : Ref sig .tc := ⟨.hbm, 144, rfl⟩
abbrev main_v70 : Ref sig .tc := ⟨.hbm, 145, rfl⟩
abbrev main_v71 : Ref sig .tc := ⟨.hbm, 146, rfl⟩
abbrev main_c_11 : Ref sig .tc := ⟨.hbm, 147, rfl⟩
abbrev main_call3_v0 : Ref sig .tc := ⟨.hbm, 148, rfl⟩
abbrev main_v72 : Ref sig .tc := ⟨.hbm, 149, rfl⟩

abbrev nD : Nat := 1
abbrev τ : Topo := Topo.v7x

variable {F : FTy → Type} [FloatOps F]
-- ==== Inproj.lean ====
abbrev S8x8192x1024 : Shape := ⟨3, ![8, 8192, 1024]⟩
abbrev S1024 : Shape := ⟨1, ![1024]⟩
abbrev S1024x4932 : Shape := ⟨2, ![1024, 4932]⟩
abbrev S64 : Shape := ⟨1, ![64]⟩
abbrev S128x128 : Shape := ⟨2, ![128, 128]⟩
abbrev S1024x2884 : Shape := ⟨2, ![1024, 2884]⟩
abbrev S_ : Shape := ⟨0, ![]⟩
abbrev S1024x60 : Shape := ⟨2, ![1024, 60]⟩
abbrev S1024x2048 : Shape := ⟨2, ![1024, 2048]⟩
abbrev S1024x4992 : Shape := ⟨2, ![1024, 4992]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x256 : Shape := ⟨2, ![8192, 256]⟩
abbrev S65536x1024 : Shape := ⟨2, ![65536, 1024]⟩
abbrev S65536x1792 : Shape := ⟨2, ![65536, 1792]⟩
abbrev S65536x512 : Shape := ⟨2, ![65536, 512]⟩
abbrev S65536x128 : Shape := ⟨2, ![65536, 128]⟩
abbrev S65536x256 : Shape := ⟨2, ![65536, 256]⟩
abbrev S65536x64 : Shape := ⟨2, ![65536, 64]⟩
abbrev S512x1024 : Shape := ⟨2, ![512, 1024]⟩
abbrev S512x256 : Shape := ⟨2, ![512, 256]⟩
abbrev S512x1792 : Shape := ⟨2, ![512, 1792]⟩
abbrev S512x512 : Shape := ⟨2, ![512, 512]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S1024x1792 : Shape := ⟨2, ![1024, 1792]⟩
abbrev S1024x512 : Shape := ⟨2, ![1024, 512]⟩
abbrev S1024x128 : Shape := ⟨2, ![1024, 128]⟩
abbrev S1024x256 : Shape := ⟨2, ![1024, 256]⟩
abbrev S1024x1024 : Shape := ⟨2, ![1024, 1024]⟩

abbrev nBuf : Space → Nat
  | .hbm => 58
  | .vmem => 33
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4932, .f32⟩
  | .hbm, ⟨3, _⟩ => ⟨S64, .f32⟩
  | .hbm, ⟨4, _⟩ => ⟨S64, .f32⟩
  | .hbm, ⟨5, _⟩ => ⟨S128x128, .bf16⟩
  | .hbm, ⟨6, _⟩ => ⟨S1024x2884, .f32⟩
  | .hbm, ⟨7, _⟩ => ⟨S_, .f32⟩
  | .hbm, ⟨8, _⟩ => ⟨S1024x60, .f32⟩
  | .hbm, ⟨9, _⟩ => ⟨S1024x2048, .f32⟩
  | .hbm, ⟨10, _⟩ => ⟨S1024x4992, .f32⟩
  | .hbm, ⟨11, _⟩ => ⟨S1024x4992, .bf16⟩
  | .hbm, ⟨12, _⟩ => ⟨S1x1024, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S8192, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8192x1, .f32⟩
  | .hbm, ⟨31, _⟩ => ⟨S1x8, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S8192x8, .f32⟩
  | .hbm, ⟨37, _⟩ => ⟨S_, .f32⟩
  | .hbm, ⟨38, _⟩ => ⟨S8192x48, .f32⟩
  | .hbm, ⟨39, _⟩ => ⟨S_, .f32⟩
  | .hbm, ⟨40, _⟩ => ⟨S8192x48, .f32⟩
  | .hbm, ⟨41, _⟩ => ⟨S8192x64, .f32⟩
  | .hbm, ⟨42, _⟩ => ⟨S8192x8, .f32⟩
  | .hbm, ⟨43, _⟩ => ⟨S8192x64, .f32⟩
  | .hbm, ⟨44, _⟩ => ⟨S8192x256, .f32⟩
  | .hbm, ⟨45, _⟩ => ⟨S65536x1024, .f32⟩
  | .hbm, ⟨46, _⟩ => ⟨S65536x1792, .f32⟩
  | .hbm, ⟨47, _⟩ => ⟨S65536x512, .bf16⟩
  | .hbm, ⟨48, _⟩ => ⟨S65536x128, .f32⟩
  | .hbm, ⟨49, _⟩ => ⟨S65536x128, .f32⟩
  | .hbm, ⟨50, _⟩ => ⟨S65536x128, .bf16⟩
  | .hbm, ⟨51, _⟩ => ⟨S65536x128, .bf16⟩
  | .hbm, ⟨52, _⟩ => ⟨S65536x256, .bf16⟩
  | .hbm, ⟨53, _⟩ => ⟨S65536x64, .f32⟩
  | .hbm, ⟨54, _⟩ => ⟨S65536x128, .bf16⟩
  | .hbm, ⟨55, _⟩ => ⟨S65536x128, .f32⟩
  | .hbm, ⟨56, _⟩ => ⟨S65536x1024, .bf16⟩
  | .hbm, ⟨57, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4992, .bf16⟩
  | .local _ .vmem, ⟨4, _⟩ => ⟨S512x256, .f32⟩
  | .local _ .vmem, ⟨5, _⟩ => ⟨S512x256, .f32⟩
  | .local _ .vmem, ⟨6, _⟩ => ⟨S1x128, .f32⟩
  | .local _ .vmem, ⟨7, _⟩ => ⟨S1x128, .f32⟩
  | .local _ .vmem, ⟨8, _⟩ => ⟨S128x128, .bf16⟩
  | .local _ .vmem, ⟨9, _⟩ => ⟨S512x1792, .f32⟩
  | .local _ .vmem, ⟨10, _⟩ => ⟨S512x1792, .f32⟩
  | .local _ .vmem, ⟨11, _⟩ => ⟨S512x512, .bf16⟩
  | .local _ .vmem, ⟨12, _⟩ => ⟨S512x512, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x256, .bf16⟩
  | .local _ .vmem, ⟨22, _⟩ => ⟨S512x256, .bf16⟩
  | .local _ .vmem, ⟨23, _⟩ => ⟨S512x64, .f32⟩
  | .local _ .vmem, ⟨24, _⟩ => ⟨S512x64, .f32⟩
  | .local _ .vmem, ⟨25, _⟩ => ⟨S512x128, .bf16⟩
  | .local _ .vmem, ⟨26, _⟩ => ⟨S512x128, .bf16⟩
  | .local _ .vmem, ⟨27, _⟩ => ⟨S512x128, .f32⟩
  | .local _ .vmem, ⟨28, _⟩ => ⟨S512x128, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev main_v35_3 : Ref sig .tc := ⟨.hbm, 49, rfl⟩
abbrev main_v35_4 : Ref sig .tc := ⟨.hbm, 50, rfl⟩
abbrev main_v35_5 : Ref sig .tc := ⟨.hbm, 51, rfl⟩
abbrev main_v35_6 : Ref sig .tc := ⟨.hbm, 52, rfl⟩
abbrev main_v35_7 : Ref sig .tc := ⟨.hbm, 53, rfl⟩
abbrev main_v35_8 : Ref sig .tc := ⟨.hbm, 54, rfl⟩
abbrev main_v35_9 : Ref sig .tc := ⟨.hbm, 55, rfl⟩
abbrev main_v35_10 : Ref sig .tc := ⟨.hbm, 56, rfl⟩
abbrev main_v35_11 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InprojRefIdeal.lean ====
abbrev S8x8192x1024 : Shape := ⟨3, ![8, 8192, 1024]⟩
abbrev S1024 : Shape := ⟨1, ![1024]⟩
abbrev S1024x4932 : Shape := ⟨2, ![1024, 4932]⟩
abbrev S64 : Shape := ⟨1, ![64]⟩
abbrev S8192 : Shape := ⟨1, ![8192]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4932 : Shape := ⟨3, ![8, 8192, 4932]⟩
abbrev S8x8192x1792 : Shape := ⟨3, ![8, 8192, 1792]⟩
abbrev S8x8192x512 : Shape := ⟨3, ![8, 8192, 512]⟩
abbrev S8x8192x128 : Shape := ⟨3, ![8, 8192, 128]⟩
abbrev S8x8192x256 : Shape := ⟨3, ![8, 8192, 256]⟩
abbrev S8x8192x64 : Shape := ⟨3, ![8, 8192, 64]⟩
abbrev S8x8192x4 : Shape := ⟨3, ![8, 8192, 4]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8x8192x8x8 : Shape := ⟨4, ![8, 8192, 8, 8]⟩
abbrev S8x8192x8x48 : Shape := ⟨4, ![8, 8192, 8, 48]⟩
abbrev S1x8192x1x8 : Shape := ⟨4, ![1, 8192, 1, 8]⟩
abbrev S8x8192x2x64 : Shape := ⟨4, ![8, 8192, 2, 64]⟩
abbrev S8x8192x2 : Shape := ⟨3, ![8, 8192, 2]⟩
abbrev S8x8192x2x1 : Shape := ⟨4, ![8, 8192, 2, 1]⟩
abbrev S8x8192x2x8 : Shape := ⟨4, ![8, 8192, 2, 8]⟩
abbrev S8x8192x2x48 : Shape := ⟨4, ![8, 8192, 2, 48]⟩
abbrev S8x8192x4x64 : Shape := ⟨4, ![8, 8192, 4, 64]⟩
abbrev S8x8192x4x8 : Shape := ⟨4, ![8, 8192, 4, 8]⟩
abbrev S8x8192x4x48 : Shape := ⟨4, ![8, 8192, 4, 48]⟩
abbrev S8x8192x1x64 : Shape := ⟨4, ![8, 8192, 1, 64]⟩
abbrev S8x8192x1x8 : Shape := ⟨4, ![8, 8192, 1, 8]⟩
abbrev S8x8192x1x48 : Shape := ⟨4, ![8, 8192, 1, 48]⟩
abbrev S8x8192x68 : Shape := ⟨3, ![8, 8192, 68]⟩
abbrev S65536x128 : Shape := ⟨2, ![65536, 128]⟩
abbrev S65536x64 : Shape := ⟨2, ![65536, 64]⟩
abbrev S65536x1792 : Shape := ⟨2, ![65536, 1792]⟩
abbrev S65536x512 : Shape := ⟨2, ![65536, 512]⟩
abbrev S65536x256 : Shape := ⟨2, ![65536, 256]⟩
abbrev S65536x68 : Shape := ⟨2, ![65536, 68]⟩
abbrev S65536x1024 : Shape := ⟨2, ![65536, 1024]⟩

abbrev nBuf : Space → Nat
  | .hbm => 254
  | .vmem => 0
  | .smem => 0
  | _ => 0

abbrev hbmTy0_0 (i : Nat) : BufTy := match i % 128 with
  | 0 => ⟨S8x8192x1024, .f32⟩
  | 1 => ⟨S1024, .f32⟩
  | 2 => ⟨S1024x4932, .f32⟩
  | 3 => ⟨S64, .f32⟩
  | 4 => ⟨S64, .f32⟩
  | 5 => ⟨S8192, .f32⟩
  | 6 => ⟨S8x8192x1024, .f32⟩
  | 7 => ⟨S_, .f32⟩
  | 8 => ⟨S8x8192, .f32⟩
  | 9 => ⟨S8x8192x1, .f32⟩
  | 10 => ⟨S_, .f32⟩
  | 11 => ⟨S8x8192x1, .f32⟩
  | 12 => ⟨S8x8192x1, .f32⟩
  | 13 => ⟨S_, .f32⟩
  | 14 => ⟨S8x8192x1, .f32⟩
  | 15 => ⟨S8x8192x1, .f32⟩
  | 16 => ⟨S8x8192x1, .f32⟩
  | 17 => ⟨S8x8192x1024, .f32⟩
  | 18 => ⟨S8x8192x1024, .f32⟩
  | 19 => ⟨S1x1x1024, .f32⟩
  | 20 => ⟨S8x8192x1024, .f32⟩
  | 21 => ⟨S8x8192x1024, .f32⟩
  | 22 => ⟨S8x8192x4932, .f32⟩
  | 23 => ⟨S8x8192x1792, .f32⟩
  | 24 => ⟨S8x8192x512, .f32⟩
  | 25 => ⟨S8x8192x128, .f32⟩
  | 26 => ⟨S8x8192x128, .f32⟩
  | 27 => ⟨S8x8192x256, .f32⟩
  | 28 => ⟨S8x8192x64, .f32⟩
  | 29 => ⟨S8x8192x4, .f32⟩
  | 30 => ⟨S8x8192x1024, .f32⟩
  | 31 => ⟨S8x8192x1024, .f32⟩
  | 32 => ⟨S8x8192x8x64, .f32⟩
  | 33 => ⟨S8x8192x8x64, .f32⟩
  | 34 => ⟨S_, .f32⟩
  | 35 => ⟨S8x8192x8, .f32⟩
  | 36 => ⟨S8x8192x8x1, .f32⟩
  | 37 => ⟨S_, .f32⟩
  | 38 => ⟨S8x8192x8x1, .f32⟩
  | 39 => ⟨S8x8192x8x1, .f32⟩
  | 40 => ⟨S_, .f32⟩
  | 41 => ⟨S8x8192x8x1, .f32⟩
  | 42 => ⟨S8x8192x8x1, .f32⟩
  | 43 => ⟨S8x8192x8x1, .f32⟩
  | 44 => ⟨S8x8192x8x64, .f32⟩
  | 45 => ⟨S8x8192x8x64, .f32⟩
  | 46 => ⟨S1x1x1x64, .f32⟩
  | 47 => ⟨S8x8192x8x64, .f32⟩
  | 48 => ⟨S8x8192x8x64, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8192x1, .f32⟩
  | 58 => ⟨S1x8, .f32⟩
  | 59 => ⟨S8192x8, .f32⟩
  | 60 => ⟨S8192x8, .f32⟩
  | 61 => ⟨S8192x8, .f32⟩
  | 62 => ⟨S8192x8, .f32⟩
  | 63 => ⟨S8192x1x8, .f32⟩
  | 64 => ⟨S8192x8, .f32⟩
  | 65 => ⟨S8192x1x8, .f32⟩
  | 66 => ⟨S8x8192x8x8, .f32⟩
  | 67 => ⟨S8x8192x8x8, .f32⟩
  | 68 => ⟨S8x8192x8x48, .f32⟩
  | 69 => ⟨S1x8192x1x8, .f32⟩
  | 70 => ⟨S8x8192x8x8, .f32⟩
  | 71 => ⟨S8x8192x8x8, .f32⟩
  | 72 => ⟨S1x8192x1x8, .f32⟩
  | 73 => ⟨S8x8192x8x8, .f32⟩
  | 74 => ⟨S8x8192x8x8, .f32⟩
  | 75 => ⟨S8x8192x8x8, .f32⟩
  | 76 => ⟨S1x8192x1x8, .f32⟩
  | 77 => ⟨S8x8192x8x8, .f32⟩
  | 78 => ⟨S8x8192x8x8, .f32⟩
  | 79 => ⟨S1x8192x1x8, .f32⟩
  | 80 => ⟨S8x8192x8x8, .f32⟩
  | 81 => ⟨S8x8192x8x8, .f32⟩
  | 82 => ⟨S8x8192x8x8, .f32⟩
  | 83 => ⟨S8x8192x8x64, .f32⟩
  | 84 => ⟨S8x8192x2x64, .f32⟩
  | 85 => ⟨S8x8192x2x64, .f32⟩
  | 86 => ⟨S_, .f32⟩
  | 87 => ⟨S8x8192x2, .f32⟩
  | 88 => ⟨S8x8192x2x1, .f32⟩
  | 89 => ⟨S_, .f32⟩
  | 90 => ⟨S8x8192x2x1, .f32⟩
  | 91 => ⟨S8x8192x2x1, .f32⟩
  | 92 => ⟨S_, .f32⟩
  | 93 => ⟨S8x8192x2x1, .f32⟩
  | 94 => ⟨S8x8192x2x1, .f32⟩
  | 95 => ⟨S8x8192x2x1, .f32⟩
  | 96 => ⟨S8x8192x2x64, .f32⟩
  | 97 => ⟨S8x8192x2x64, .f32⟩
  | 98 => ⟨S1x1x1x64, .f32⟩
  | 99 => ⟨S8x8192x2x64, .f32⟩
  | 100 => ⟨S8x8192x2x64, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S8192x1, .f32⟩
  | 110 => ⟨S1x8, .f32⟩
  | 111 => ⟨S8192x8, .f32⟩
  | 112 => ⟨S8192x8, .f32⟩
  | 113 => ⟨S8192x8, .f32⟩
  | 114 => ⟨S8192x8, .f32⟩
  | 115 => ⟨S8192x1x8, .f32⟩
  | 116 => ⟨S8192x8, .f32⟩
  | 117 => ⟨S8192x1x8, .f32⟩
  | 118 => ⟨S8x8192x2x8, .f32⟩
  | 119 => ⟨S8x8192x2x8, .f32⟩
  | 120 => ⟨S8x8192x2x48, .f32⟩
  | 121 => ⟨S1x8192x1x8, .f32⟩
  | 122 => ⟨S8x8192x2x8, .f32⟩
  | 123 => ⟨S8x8192x2x8, .f32⟩
  | 124 => ⟨S1x8192x1x8, .f32⟩
  | 125 => ⟨S8x8192x2x8, .f32⟩
  | 126 => ⟨S8x8192x2x8, .f32⟩
  | 127 => ⟨S8x8192x2x8, .f32⟩
  | _ => ⟨S8x8192x1024, .f32⟩

abbrev hbmTy0_1 (i : Nat) : BufTy := match i % 128 with
  | 0 => ⟨S1x8192x1x8, .f32⟩
  | 1 => ⟨S8x8192x2x8, .f32⟩
  | 2 => ⟨S8x8192x2x8, .f32⟩
  | 3 => ⟨S1x8192x1x8, .f32⟩
  | 4 => ⟨S8x8192x2x8, .f32⟩
  | 5 => ⟨S8x8192x2x8, .f32⟩
  | 6 => ⟨S8x8192x2x8, .f32⟩
  | 7 => ⟨S8x8192x2x64, .f32⟩
  | 8 => ⟨S8x8192x4x64, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8192x1, .f32⟩
  | 18 => ⟨S1x8, .f32⟩
  | 19 => ⟨S8192x8, .f32⟩
  | 20 => ⟨S8192x8, .f32⟩
  | 21 => ⟨S8192x8, .f32⟩
  | 22 => ⟨S8192x8, .f32⟩
  | 23 => ⟨S8192x1x8, .f32⟩
  | 24 => ⟨S8192x8, .f32⟩
  | 25 => ⟨S8192x1x8, .f32⟩
  | 26 => ⟨S8x8192x4x8, .f32⟩
  | 27 => ⟨S8x8192x4x8, .f32⟩
  | 28 => ⟨S8x8192x4x48, .f32⟩
  | 29 => ⟨S1x8192x1x8, .f32⟩
  | 30 => ⟨S8x8192x4x8, .f32⟩
  | 31 => ⟨S8x8192x4x8, .f32⟩
  | 32 => ⟨S1x8192x1x8, .f32⟩
  | 33 => ⟨S8x8192x4x8, .f32⟩
  | 34 => ⟨S8x8192x4x8, .f32⟩
  | 35 => ⟨S8x8192x4x8, .f32⟩
  | 36 => ⟨S1x8192x1x8, .f32⟩
  | 37 => ⟨S8x8192x4x8, .f32⟩
  | 38 => ⟨S8x8192x4x8, .f32⟩
  | 39 => ⟨S1x8192x1x8, .f32⟩
  | 40 => ⟨S8x8192x4x8, .f32⟩
  | 41 => ⟨S8x8192x4x8, .f32⟩
  | 42 => ⟨S8x8192x4x8, .f32⟩
  | 43 => ⟨S8x8192x4x64, .f32⟩
  | 44 => ⟨S_, .f32⟩
  | 45 => ⟨S8x8192x4x64, .f32⟩
  | 46 => ⟨S8x8192x4x64, .f32⟩
  | 47 => ⟨S8x8192x1x64, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S8192x1, .f32⟩
  | 57 => ⟨S1x8, .f32⟩
  | 58 => ⟨S8192x8, .f32⟩
  | 59 => ⟨S8192x8, .f32⟩
  | 60 => ⟨S8192x8, .f32⟩
  | 61 => ⟨S8192x8, .f32⟩
  | 62 => ⟨S8192x1x8, .f32⟩
  | 63 => ⟨S8192x8, .f32⟩
  | 64 => ⟨S8192x1x8, .f32⟩
  | 65 => ⟨S8x8192x1x8, .f32⟩
  | 66 => ⟨S8x8192x1x8, .f32⟩
  | 67 => ⟨S8x8192x1x48, .f32⟩
  | 68 => ⟨S1x8192x1x8, .f32⟩
  | 69 => ⟨S8x8192x1x8, .f32⟩
  | 70 => ⟨S8x8192x1x8, .f32⟩
  | 71 => ⟨S1x8192x1x8, .f32⟩
  | 72 => ⟨S8x8192x1x8, .f32⟩
  | 73 => ⟨S8x8192x1x8, .f32⟩
  | 74 => ⟨S8x8192x1x8, .f32⟩
  | 75 => ⟨S1x8192x1x8, .f32⟩
  | 76 => ⟨S8x8192x1x8, .f32⟩
  | 77 => ⟨S8x8192x1x8, .f32⟩
  | 78 => ⟨S1x8192x1x8, .f32⟩
  | 79 => ⟨S8x8192x1x8, .f32⟩
  | 80 => ⟨S8x8192x1x8, .f32⟩
  | 81 => ⟨S8x8192x1x8, .f32⟩
  | 82 => ⟨S8x8192x1x64, .f32⟩
  | 83 => ⟨S8x8192x68, .f32⟩
  | 84 => ⟨S_, .f32⟩
  | 85 => ⟨S8x8192x68, .f32⟩
  | 86 => ⟨S8x8192x68, .f32⟩
  | 87 => ⟨S65536x128, .f32⟩
  | 88 => ⟨S65536x128, .f32⟩
  | 89 => ⟨S65536x64, .f32⟩
  | 90 => ⟨S65536x1792, .f32⟩
  | 91 => ⟨S_, .f32⟩
  | 92 => ⟨S8x8192x8x64, .f32⟩
  | 93 => ⟨S8x8192x8x64, .f32⟩
  | 94 => ⟨S65536x512, .f32⟩
  | 95 => ⟨S65536x512, .bf16⟩
  | 96 => ⟨S65536x128, .bf16⟩
  | 97 => ⟨S65536x128, .bf16⟩
  | 98 => ⟨S65536x256, .f32⟩
  | 99 => ⟨S65536x256, .bf16⟩
  | 100 => ⟨S65536x128, .f32⟩
  | 101 => ⟨S65536x128, .bf16⟩
  | 102 => ⟨S65536x68, .f32⟩
  | 103 => ⟨S_, .i32⟩
  | 104 => ⟨S_, .f32⟩
  | 105 => ⟨S65536x128, .f32⟩
  | 106 => ⟨S8x8192x1024, .f32⟩
  | 107 => ⟨S8x8192x1024, .f32⟩
  | 108 => ⟨S_, .f32⟩
  | 109 => ⟨S8x8192x1024, .f32⟩
  | 110 => ⟨S8x8192x1024, .f32⟩
  | 111 => ⟨S_, .f32⟩
  | 112 => ⟨S8x8192x1024, .f32⟩
  | 113 => ⟨S8x8192x1024, .f32⟩
  | 114 => ⟨S65536x1024, .f32⟩
  | 115 => ⟨S65536x1024, .bf16⟩
  | 116 => ⟨S8x8192x1024, .f32⟩
  | 117 => ⟨S8x8192x1024, .f32⟩
  | 118 => ⟨S_, .f32⟩
  | 119 => ⟨S8x8192x1024, .f32⟩
  | 120 => ⟨S8x8192x1024, .f32⟩
  | 121 => ⟨S_, .f32⟩
  | 122 => ⟨S8x8192x1024, .f32⟩
  | 123 => ⟨S8x8192x1024, .f32⟩
  | 124 => ⟨S65536x1024, .f32⟩
  | 125 => ⟨S65536x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_7 : Ref sig .tc := ⟨.hbm, 86, rfl⟩
abbrev main_v73 : Ref sig .tc := ⟨.hbm, 87, rfl⟩
abbrev main_v74 : Ref sig .tc := ⟨.hbm, 88, rfl⟩
abbrev main_cst_8 : Ref sig .tc := ⟨.hbm, 89, rfl⟩
abbrev main_v75 : Ref sig .tc := ⟨.hbm, 90, rfl⟩
abbrev main_v76 : Ref sig .tc := ⟨.hbm, 91, rfl⟩
abbrev main_cst_9 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_10 : Ref sig .tc := ⟨.hbm, 103, rfl⟩
abbrev main_v87 : Ref sig .tc := ⟨.hbm, 104, rfl⟩
abbrev main_v88 : Ref sig .tc := ⟨.hbm, 105, rfl⟩
abbrev main_cst_11 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_cst_12 : Ref sig .tc := ⟨.hbm, 139, rfl⟩
abbrev main_v121 : Ref sig .tc := ⟨.hbm, 140, rfl⟩
abbrev main_v122 : Ref sig .tc := ⟨.hbm, 141, rfl⟩
abbrev main_cst_13 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_cst_14 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_cst_15 : Ref sig .tc := ⟨.hbm, 178, rfl⟩
abbrev main_v157 : Ref sig .tc := ⟨.hbm, 179, rfl⟩
abbrev main_v158 : Ref sig .tc := ⟨.hbm, 180, rfl⟩
abbrev main_cst_16 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_cst_17 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_cst_18 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_c : Ref sig .tc := ⟨.hbm, 231, rfl⟩
abbrev main_call0_v0 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_cst_19 : Ref sig .tc := ⟨.hbm, 236, rfl⟩
abbrev main_v209 : Ref sig .tc := ⟨.hbm, 237, rfl⟩
abbrev main_v210 : Ref sig .tc := ⟨.hbm, 238, rfl⟩
abbrev main_cst_20 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_cst_21 : Ref sig .tc := ⟨.hbm, 246, rfl⟩
abbrev main_v217 : Ref sig .tc := ⟨.hbm, 247, rfl⟩
abbrev main_v218 : Ref sig .tc := ⟨.hbm, 248, rfl⟩
abbrev main_cst_22 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩

abbrev nD : Nat := 1
abbrev τ : Topo := Topo.v7x

variable {F : FTy → Type} [FloatOps F]
-- ==== MoeS.lean ====
abbrev S512x1024 : Shape := ⟨2, ![512, 1024]⟩
abbrev S512x128 : Shape := ⟨2, ![512, 128]⟩
abbrev S512x256 : Shape := ⟨2, ![512, 256]⟩
abbrev S16x1024x512 : Shape := ⟨3, ![16, 1024, 512]⟩
abbrev S16x512x1024 : Shape := ⟨3, ![16, 512, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S512x1024, .bf16⟩
  | .hbm, ⟨1, _⟩ => ⟨S512x128, .f32⟩
  | .hbm, ⟨2, _⟩ => ⟨S512x1024, .f32⟩
  | .hbm, ⟨3, _⟩ => ⟨S512x256, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S16x1024x512, .bf16⟩
  | .hbm, ⟨12, _⟩ => ⟨S16x1024x512, .bf16⟩
  | .hbm, ⟨13, _⟩ => ⟨S16x512x1024, .bf16⟩
  | .hbm, ⟨14, _⟩ => ⟨S1x1024, .f32⟩
  | .hbm, ⟨15, _⟩ => ⟨S1024x1024, .bf16⟩
  | .hbm, ⟨16, _⟩ => ⟨S1x1024, .f32⟩
  | .hbm, ⟨17, _⟩ => ⟨S256x1024, .bf16⟩
  | .hbm, ⟨18, _⟩ => ⟨S512x1024, .f32⟩
  | .local _ .vmem, ⟨0, _⟩ => ⟨S512x1024, .bf16⟩
  | .local _ .vmem, ⟨1, _⟩ => ⟨S512x128, .f32⟩
  | .local _ .vmem, ⟨2, _⟩ => ⟨S512x1024, .f32⟩
  | .local _ .vmem, ⟨3, _⟩ => ⟨S512x256, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== MoeSRefIdeal.lean ====
abbrev S512x1024 : Shape := ⟨2, ![512, 1024]⟩
abbrev S512x128 : Shape := ⟨2, ![512, 128]⟩
abbrev S512x256 : Shape := ⟨2, ![512, 256]⟩
abbrev S16x1024x512 : Shape := ⟨3, ![16, 1024, 512]⟩
abbrev S16x512x1024 : Shape := ⟨3, ![16, 512, 1024]⟩
abbrev S1024 : Shape := ⟨1, ![1024]⟩
abbrev S1024x1024 : Shape := ⟨2, ![1024, 1024]⟩
abbrev S256x1024 : Shape := ⟨2, ![256, 1024]⟩
abbrev S512x16 : Shape := ⟨2, ![512, 16]⟩
abbrev S512x16x512 : Shape := ⟨3, ![512, 16, 512]⟩
abbrev S_ : Shape := ⟨0, ![]⟩
abbrev S512x16x1 : Shape := ⟨3, ![512, 16, 1]⟩
abbrev S512x16x1024 : Shape := ⟨3, ![512, 16, 1024]⟩
abbrev S512 : Shape := ⟨1, ![512]⟩
abbrev S512x1 : Shape := ⟨2, ![512, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x128, .f32⟩
  | .hbm, ⟨2, _⟩ => ⟨S512x1024, .f32⟩
  | .hbm, ⟨3, _⟩ => ⟨S512x256, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S512x1024, .f32⟩
  | .hbm, ⟨12, _⟩ => ⟨S512x16, .f32⟩
  | .hbm, ⟨13, _⟩ => ⟨S512x16x512, .f32⟩
  | .hbm, ⟨14, _⟩ => ⟨S512x16x512, .f32⟩
  | .hbm, ⟨15, _⟩ => ⟨S512x16x512, .f32⟩
  | .hbm, ⟨16, _⟩ => ⟨S_, .f32⟩
  | .hbm, ⟨17, _⟩ => ⟨S512x16x512, .f32⟩
  | .hbm, ⟨18, _⟩ => ⟨S512x16x512, .f32⟩
  | .hbm, ⟨19, _⟩ => ⟨S_, .f32⟩
  | .hbm, ⟨20, _⟩ => ⟨S512x16x512, .f32⟩
  | .hbm, ⟨21, _⟩ => ⟨S512x16x512, .f32⟩
  | .hbm, ⟨22, _⟩ => ⟨S512x16x512, .f32⟩
  | .hbm, ⟨23, _⟩ => ⟨S512x16x512, .f32⟩
  | .hbm, ⟨24, _⟩ => ⟨S512x16x512, .f32⟩
  | .hbm, ⟨25, _⟩ => ⟨S512x16x1, .f32⟩
  | .hbm, ⟨26, _⟩ => ⟨S16x1024x512, .f32⟩
  | .hbm, ⟨27, _⟩ => ⟨S512x16x1024, .f32⟩
  | .hbm, ⟨28, _⟩ => ⟨S512x16x1024, .f32⟩
  | .hbm, ⟨29, _⟩ => ⟨S512x16x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S512x1, .f32⟩
  | .hbm, ⟨44, _⟩ => ⟨S512x1024, .f32⟩
  | .hbm, ⟨45, _⟩ => ⟨S512x1024, .f32⟩
  | .hbm, ⟨46, _⟩ => ⟨S1x1024, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S1x1024, .f32⟩
  | .hbm, ⟨51, _⟩ => ⟨S512x1024, .f32⟩
  | .hbm, ⟨52, _⟩ => ⟨S512x1024, .f32⟩
  | .hbm, ⟨53, _⟩ => ⟨S512x1024, .f32⟩
  | .hbm, ⟨54, _⟩ => ⟨S512x1024, .f32⟩
  | .hbm, ⟨55, _⟩ => ⟨S_, .f32⟩
  | .hbm, ⟨56, _⟩ => ⟨S512x1024, .f32⟩
  | .hbm, ⟨57, _⟩ => ⟨S512x1024, .f32⟩
  | .hbm, ⟨58, _⟩ => ⟨S_, .f32⟩
  | .hbm, ⟨59, _⟩ => ⟨S512x1024, .f32⟩
  | .hbm, ⟨60, _⟩ => ⟨S512x1024, .f32⟩
  | .hbm, ⟨61, _⟩ => ⟨S512x1024, .f32⟩
  | .hbm, ⟨62, _⟩ => ⟨S512x1024, .f32⟩
  | .hbm, ⟨63, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== MergeS.lean ====
abbrev S512x1024 : Shape := ⟨2, ![512, 1024]⟩
abbrev S512x512 : Shape := ⟨2, ![512, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S1x1024 : Shape := ⟨2, ![1, 1024]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S512x1024, .bf16⟩
  | .hbm, ⟨4, _⟩ => ⟨S512x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x16, .f32⟩
  | .hbm, ⟨12, _⟩ => ⟨S16, .f32⟩
  | .hbm, ⟨13, _⟩ => ⟨S_, .f32⟩
  | .hbm, ⟨14, _⟩ => ⟨S1024x108, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S108, .f32⟩
  | .hbm, ⟨22, _⟩ => ⟨S128, .f32⟩
  | .hbm, ⟨23, _⟩ => ⟨S1x128, .f32⟩
  | .hbm, ⟨24, _⟩ => ⟨S512x1024, .bf16⟩
  | .hbm, ⟨25, _⟩ => ⟨S512x1024, .bf16⟩
  | .hbm, ⟨26, _⟩ => ⟨S1024x1024, .bf16⟩
  | .hbm, ⟨27, _⟩ => ⟨S1x1024, .f32⟩
  | .hbm, ⟨28, _⟩ => ⟨S512x1024, .f32⟩
  | .hbm, ⟨29, _⟩ => ⟨S512x1024, .bf16⟩
  | .hbm, ⟨30, _⟩ => ⟨S512x128, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .bf16⟩
  | .local _ .vmem, ⟨14, _⟩ => ⟨S512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== MergeSRefIdeal.lean ====
abbrev S512x1024 : Shape := ⟨2, ![512, 1024]⟩
abbrev S512x512 : Shape := ⟨2, ![512, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4 : Shape := ⟨2, ![512, 4]⟩
abbrev S1x4 : Shape := ⟨2, ![1, 4]⟩
abbrev S512x1x1 : Shape := ⟨3, ![512, 1, 1]⟩
abbrev S1 : Shape := ⟨1, ![1]⟩
abbrev S1x1x1 : Shape := ⟨3, ![1, 1, 1]⟩
abbrev S512x16 : Shape := ⟨2, ![512, 16]⟩
abbrev S1x16 : Shape := ⟨2, ![1, 16]⟩
abbrev S512x4x4 : Shape := ⟨3, ![512, 4, 4]⟩
abbrev S512x1x4 : Shape := ⟨3, ![512, 1, 4]⟩
abbrev S512x1x4x1 : Shape := ⟨4, ![512, 1, 4, 1]⟩
abbrev S1x1x1x1 : Shape := ⟨4, ![1, 1, 1, 1]⟩
abbrev S512x2 : Shape := ⟨2, ![512, 2]⟩
abbrev S512x2x1 : Shape := ⟨3, ![512, 2, 1]⟩
abbrev S1x1x16 : Shape := ⟨3, ![1, 1, 16]⟩
abbrev S512x2x16 : Shape := ⟨3, ![512, 2, 16]⟩
abbrev S512x128 : Shape := ⟨2, ![512, 128]⟩

abbrev nBuf : Space → Nat
  | .hbm => 150
  | .vmem => 0
  | .smem => 0
  | _ => 0

abbrev hbmTy0_0 (i : Nat) : BufTy := match i % 128 with
  | 0 => ⟨S512x1024, .f32⟩
  | 1 => ⟨S512x512, .bf16⟩
  | 2 => ⟨S512x512, .bf16⟩
  | 3 => ⟨S512x1024, .bf16⟩
  | 4 => ⟨S512x1024, .bf16⟩
  | 5 => ⟨S512x1024, .f32⟩
  | 6 => ⟨S512x1024, .f32⟩
  | 7 => ⟨S1024x1024, .f32⟩
  | 8 => ⟨S1024, .f32⟩
  | 9 => ⟨S1024x4, .f32⟩
  | 10 => ⟨S4, .f32⟩
  | 11 => ⟨S1024x16, .f32⟩
  | 12 => ⟨S16, .f32⟩
  | 13 => ⟨S512x1024, .f32⟩
  | 14 => ⟨S512x512, .f32⟩
  | 15 => ⟨S512x1024, .f32⟩
  | 16 => ⟨S512x1024, .f32⟩
  | 17 => ⟨S512x1024, .f32⟩
  | 18 => ⟨S512x512, .f32⟩
  | 19 => ⟨S512x1024, .f32⟩
  | 20 => ⟨S512x1024, .f32⟩
  | 21 => ⟨S512x1024, .f32⟩
  | 22 => ⟨S512x1024, .f32⟩
  | 23 => ⟨S512x1024, .f32⟩
  | 24 => ⟨S512x1024, .f32⟩
  | 25 => ⟨S_, .f32⟩
  | 26 => ⟨S512, .f32⟩
  | 27 => ⟨S512x1, .f32⟩
  | 28 => ⟨S_, .f32⟩
  | 29 => ⟨S512x1, .f32⟩
  | 30 => ⟨S512x1, .f32⟩
  | 31 => ⟨S_, .f32⟩
  | 32 => ⟨S512x1, .f32⟩
  | 33 => ⟨S512x1, .f32⟩
  | 34 => ⟨S512x1, .f32⟩
  | 35 => ⟨S512x1024, .f32⟩
  | 36 => ⟨S512x1024, .f32⟩
  | 37 => ⟨S1x1024, .f32⟩
  | 38 => ⟨S512x1024, .f32⟩
  | 39 => ⟨S512x1024, .f32⟩
  | 40 => ⟨S512x4, .f32⟩
  | 41 => ⟨S1x4, .f32⟩
  | 42 => ⟨S512x4, .f32⟩
  | 43 => ⟨S512x4, .f32⟩
  | 44 => ⟨S_, .f32⟩
  | 45 => ⟨S512, .f32⟩
  | 46 => ⟨S_, .f32⟩
  | 47 => ⟨S512, .f32⟩
  | 48 => ⟨S512, .f32⟩
  | 49 => ⟨S512x1, .f32⟩
  | 50 => ⟨S512x4, .f32⟩
  | 51 => ⟨S512x4, .f32⟩
  | 52 => ⟨S512x4, .f32⟩
  | 53 => ⟨S_, .f32⟩
  | 54 => ⟨S512, .f32⟩
  | 55 => ⟨S512x1, .f32⟩
  | 56 => ⟨S512x4, .f32⟩
  | 57 => ⟨S512x4, .f32⟩
  | 58 => ⟨S512x1, .f32⟩
  | 59 => ⟨S512x1, .i32⟩
  | 60 => ⟨S_, .i32⟩
  | 61 => ⟨S512x1, .i32⟩
  | 62 => ⟨S512x1, .i1⟩
  | 63 => ⟨S_, .i32⟩
  | 64 => ⟨S512x1, .i32⟩
  | 65 => ⟨S512x1, .i32⟩
  | 66 => ⟨S512x1, .i32⟩
  | 67 => ⟨S512x1x1, .i32⟩
  | 68 => ⟨S1, .i32⟩
  | 69 => ⟨S_, .i32⟩
  | 70 => ⟨S512x1x1, .i32⟩
  | 71 => ⟨S512x1x1, .i1⟩
  | 72 => ⟨S1x1x1, .i32⟩
  | 73 => ⟨S512x1x1, .i32⟩
  | 74 => ⟨S512x1x1, .i1⟩
  | 75 => ⟨S512x1x1, .i1⟩
  | 76 => ⟨S_, .i1⟩
  | 77 => ⟨S512x1, .i1⟩
  | 78 => ⟨S512x1, .f32⟩
  | 79 => ⟨S_, .f32⟩
  | 80 => ⟨S512x1, .f32⟩
  | 81 => ⟨S512x1, .f32⟩
  | 82 => ⟨S512x16, .f32⟩
  | 83 => ⟨S1x16, .f32⟩
  | 84 => ⟨S512x16, .f32⟩
  | 85 => ⟨S512x16, .f32⟩
  | 86 => ⟨S512x4x4, .f32⟩
  | 87 => ⟨S512x1x1, .i32⟩
  | 88 => ⟨S512x1x4, .i32⟩
  | 89 => ⟨S_, .i32⟩
  | 90 => ⟨S512x1x4, .i32⟩
  | 91 => ⟨S512x1x4, .i1⟩
  | 92 => ⟨S_, .i32⟩
  | 93 => ⟨S512x1x4, .i32⟩
  | 94 => ⟨S512x1x4, .i32⟩
  | 95 => ⟨S512x1x4, .i32⟩
  | 96 => ⟨S512x1x4x1, .i32⟩
  | 97 => ⟨S1, .i32⟩
  | 98 => ⟨S_, .i32⟩
  | 99 => ⟨S512x1x4x1, .i32⟩
  | 100 => ⟨S512x1x4x1, .i1⟩
  | 101 => ⟨S1x1x1x1, .i32⟩
  | 102 => ⟨S512x1x4x1, .i32⟩
  | 103 => ⟨S512x1x4x1, .i1⟩
  | 104 => ⟨S512x1x4x1, .i1⟩
  | 105 => ⟨S_, .i1⟩
  | 106 => ⟨S512x1x4, .i1⟩
  | 107 => ⟨S512x1x4, .f32⟩
  | 108 => ⟨S_, .f32⟩
  | 109 => ⟨S512x1x4, .f32⟩
  | 110 => ⟨S512x1x4, .f32⟩
  | 111 => ⟨S512x4, .f32⟩
  | 112 => ⟨S512x2, .f32⟩
  | 113 => ⟨S512x2, .i32⟩
  | 114 => ⟨S_, .f32⟩
  | 115 => ⟨S512, .f32⟩
  | 116 => ⟨S_, .f32⟩
  | 117 => ⟨S512, .f32⟩
  | 118 => ⟨S512, .f32⟩
  | 119 => ⟨S512x1, .f32⟩
  | 120 => ⟨S512x2, .f32⟩
  | 121 => ⟨S512x2, .f32⟩
  | 122 => ⟨S512x2, .f32⟩
  | 123 => ⟨S_, .f32⟩
  | 124 => ⟨S512, .f32⟩
  | 125 => ⟨S512x1, .f32⟩
  | 126 => ⟨S512x2, .f32⟩
  | 127 => ⟨S512x2, .f32⟩
  | _ => ⟨S512x1024, .f32⟩

abbrev hbmTy0_1 (i : Nat) : BufTy := match i % 128 with
  | 0 => ⟨S512x2, .f32⟩
  | 1 => ⟨S512x2, .f32⟩
  | 2 => ⟨S_, .i32⟩
  | 3 => ⟨S512x1, .i32⟩
  | 4 => ⟨S512x1, .i32⟩
  | 5 => ⟨S512x2, .i32⟩
  | 6 => ⟨S512x2, .i32⟩
  | 7 => ⟨S512x2x1, .i32⟩
  | 8 => ⟨S1x1x16, .i32⟩
  | 9 => ⟨S512x2x16, .i32⟩
  | 10 => ⟨S512x2x16, .i32⟩
  | 11 => ⟨S512x2x16, .i1⟩
  | 12 => ⟨S512x2x16, .f32⟩
  | 13 => ⟨S512x2x1, .f32⟩
  | 14 => ⟨S512x2x16, .f32⟩
  | 15 => ⟨S512x2x16, .f32⟩
  | 16 => ⟨S_, .f32⟩
  | 17 => ⟨S512x16, .f32⟩
  | 18 => ⟨S512x1024, .bf16⟩
  | 19 => ⟨S_, .i32⟩
  | 20 => ⟨S_, .f32⟩
  | 21 => ⟨S512x128, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_values : Ref sig .tc := ⟨.hbm, 58, rfl⟩
abbrev main_indices : Ref sig .tc := ⟨.hbm, 59, rfl⟩
abbrev main_call0_c : Ref sig .tc := ⟨.hbm, 60, rfl⟩
abbrev main_call0_v0 : Ref sig .tc := ⟨.hbm, 61, rfl⟩
abbrev main_call0_v1 : Ref sig .tc := ⟨.hbm, 62, rfl⟩
abbrev main_call0_c_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_c_1 : Ref sig .tc := ⟨.hbm, 68, rfl⟩
abbrev main_call0_c_2 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_3 : Ref sig .tc := ⟨.hbm, 76, rfl⟩
abbrev main_call0_v12 : Ref sig .tc := ⟨.hbm, 77, rfl⟩
abbrev main_call0_v13 : Ref sig .tc := ⟨.hbm, 78, rfl⟩
abbrev main_call0_cst : Ref sig .tc := ⟨.hbm, 79, rfl⟩
abbrev main_call0_v14 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_call1_c : Ref sig .tc := ⟨.hbm, 89, rfl⟩
abbrev main_call1_v0 : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_c_1 : Ref sig .tc := ⟨.hbm, 97, rfl⟩
abbrev main_call1_c_2 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_3 : Ref sig .tc := ⟨.hbm, 105, rfl⟩
abbrev main_call1_v12 : Ref sig .tc := ⟨.hbm, 106, rfl⟩
abbrev main_call1_v13 : Ref sig .tc := ⟨.hbm, 107, rfl⟩
abbrev main_call1_cst : Ref sig .tc := ⟨.hbm, 108, rfl⟩
abbrev main_call1_v14 : Ref sig .tc := ⟨.hbm, 109, rfl⟩
abbrev main_v47 : Ref sig .tc := ⟨.hbm, 110, rfl⟩
abbrev main_v48 : Ref sig .tc := ⟨.hbm, 111, rfl⟩
abbrev main_values_5 : Ref sig .tc := ⟨.hbm, 112, rfl⟩
abbrev main_indices_6 : Ref sig .tc := ⟨.hbm, 113, rfl⟩
abbrev main_cst_7 : Ref sig .tc := ⟨.hbm, 114, rfl⟩
abbrev main_v49 : Ref sig .tc := ⟨.hbm, 115, rfl⟩
abbrev main_cst_8 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_cst_9 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_c : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_10 : Ref sig .tc := ⟨.hbm, 144, rfl⟩
abbrev main_v70 : Ref sig .tc := ⟨.hbm, 145, rfl⟩
abbrev main_v71 : Ref sig .tc := ⟨.hbm, 146, rfl⟩
abbrev main_c_11 : Ref sig .tc := ⟨.hbm, 147, rfl⟩
abbrev main_call3_v0 : Ref sig .tc := ⟨.hbm, 148, rfl⟩
abbrev main_v72 : Ref sig .tc := ⟨.hbm, 149, rfl⟩

abbrev nD : Nat := 1
abbrev τ : Topo := Topo.v7x

variable {F : FTy → Type} [FloatOps F]
-- ==== InprojS.lean ====
abbrev S128x4x1024 : Shape := ⟨3, ![128, 4, 1024]⟩
abbrev S1024 : Shape := ⟨1, ![1024]⟩
abbrev S1024x4932 : Shape := ⟨2, ![1024, 4932]⟩
abbrev S64 : Shape := ⟨1, ![64]⟩
abbrev S128x128 : Shape := ⟨2, ![128, 128]⟩
abbrev S1024x2884 : Shape := ⟨2, ![1024, 2884]⟩
abbrev S_ : Shape := ⟨0, ![]⟩
abbrev S1024x60 : Shape := ⟨2, ![1024, 60]⟩
abbrev S1024x2048 : Shape := ⟨2, ![1024, 2048]⟩
abbrev S1024x4992 : Shape := ⟨2, ![1024, 4992]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4 : Shape := ⟨1, ![4]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x48 : Shape := ⟨2, ![4, 48]⟩
abbrev S4x64 : Shape := ⟨2, ![4, 64]⟩
abbrev S4x256 : Shape := ⟨2, ![4, 256]⟩
abbrev S1x4x1x256 : Shape := ⟨4, ![1, 4, 1, 256]⟩
abbrev S128x4x1x256 : Shape := ⟨4, ![128, 4, 1, 256]⟩
abbrev S512x256 : Shape := ⟨2, ![512, 256]⟩
abbrev S512x1024 : Shape := ⟨2, ![512, 1024]⟩
abbrev S512x1792 : Shape := ⟨2, ![512, 1792]⟩
abbrev S512x512 : Shape := ⟨2, ![512, 512]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S1024x1792 : Shape := ⟨2, ![1024, 1792]⟩
abbrev S1024x512 : Shape := ⟨2, ![1024, 512]⟩
abbrev S1024x128 : Shape := ⟨2, ![1024, 128]⟩
abbrev S1024x256 : Shape := ⟨2, ![1024, 256]⟩
abbrev S1024x1024 : Shape := ⟨2, ![1024, 1024]⟩

abbrev nBuf : Space → Nat
  | .hbm => 64
  | .vmem => 19
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x4932, .f32⟩
  | .hbm, ⟨3, _⟩ => ⟨S64, .f32⟩
  | .hbm, ⟨4, _⟩ => ⟨S64, .f32⟩
  | .hbm, ⟨5, _⟩ => ⟨S128x128, .bf16⟩
  | .hbm, ⟨6, _⟩ => ⟨S1024x2884, .f32⟩
  | .hbm, ⟨7, _⟩ => ⟨S_, .f32⟩
  | .hbm, ⟨8, _⟩ => ⟨S1024x60, .f32⟩
  | .hbm, ⟨9, _⟩ => ⟨S1024x2048, .f32⟩
  | .hbm, ⟨10, _⟩ => ⟨S1024x4992, .f32⟩
  | .hbm, ⟨11, _⟩ => ⟨S1024x4992, .bf16⟩
  | .hbm, ⟨12, _⟩ => ⟨S1x1024, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S4x1, .f32⟩
  | .hbm, ⟨34, _⟩ => ⟨S1x8, .f32⟩
  | .hbm, ⟨35, _⟩ => ⟨S4x8, .f32⟩
  | .hbm, ⟨36, _⟩ => ⟨S4x8, .f32⟩
  | .hbm, ⟨37, _⟩ => ⟨S4x8, .f32⟩
  | .hbm, ⟨38, _⟩ => ⟨S4x8, .f32⟩
  | .hbm, ⟨39, _⟩ => ⟨S4x8, .f32⟩
  | .hbm, ⟨40, _⟩ => ⟨S_, .f32⟩
  | .hbm, ⟨41, _⟩ => ⟨S4x48, .f32⟩
  | .hbm, ⟨42, _⟩ => ⟨S_, .f32⟩
  | .hbm, ⟨43, _⟩ => ⟨S4x48, .f32⟩
  | .hbm, ⟨44, _⟩ => ⟨S4x64, .f32⟩
  | .hbm, ⟨45, _⟩ => ⟨S4x8, .f32⟩
  | .hbm, ⟨46, _⟩ => ⟨S4x64, .f32⟩
  | .hbm, ⟨47, _⟩ => ⟨S4x256, .f32⟩
  | .hbm, ⟨48, _⟩ => ⟨S1x4x1x256, .f32⟩
  | .hbm, ⟨49, _⟩ => ⟨S128x4x1x256, .f32⟩
  | .hbm, ⟨50, _⟩ => ⟨S512x256, .f32⟩
  | .hbm, ⟨51, _⟩ => ⟨S512x1024, .f32⟩
  | .hbm, ⟨52, _⟩ => ⟨S512x1792, .f32⟩
  | .hbm, ⟨53, _⟩ => ⟨S512x512, .bf16⟩
  | .hbm, ⟨54, _⟩ => ⟨S512x128, .f32⟩
  | .hbm, ⟨55, _⟩ => ⟨S512x128, .f32⟩
  | .hbm, ⟨56, _⟩ => ⟨S512x128, .bf16⟩
  | .hbm, ⟨57, _⟩ => ⟨S512x128, .bf16⟩
  | .hbm, ⟨58, _⟩ => ⟨S512x256, .bf16⟩
  | .hbm, ⟨59, _⟩ => ⟨S512x64, .f32⟩
  | .hbm, ⟨60, _⟩ => ⟨S512x128, .bf16⟩
  | .hbm, ⟨61, _⟩ => ⟨S512x128, .f32⟩
  | .hbm, ⟨62, _⟩ => ⟨S512x1024, .bf16⟩
  | .hbm, ⟨63, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S1024x4992, .bf16⟩
  | .local _ .vmem, ⟨3, _⟩ => ⟨S512x256, .f32⟩
  | .local _ .vmem, ⟨4, _⟩ => ⟨S1x128, .f32⟩
  | .local _ .vmem, ⟨5, _⟩ => ⟨S1x128, .f32⟩
  | .local _ .vmem, ⟨6, _⟩ => ⟨S128x128, .bf16⟩
  | .local _ .vmem, ⟨7, _⟩ => ⟨S512x1792, .f32⟩
  | .local _ .vmem, ⟨8, _⟩ => ⟨S512x512, .bf16⟩
  | .local _ .vmem, ⟨9, _⟩ => ⟨S512x128, .f32⟩
  | .local _ .vmem, ⟨10, _⟩ => ⟨S512x128, .f32⟩
  | .local _ .vmem, ⟨11, _⟩ => ⟨S512x128, .bf16⟩
  | .local _ .vmem, ⟨12, _⟩ => ⟨S512x128, .bf16⟩
  | .local _ .vmem, ⟨13, _⟩ => ⟨S512x256, .bf16⟩
  | .local _ .vmem, ⟨14, _⟩ => ⟨S512x64, .f32⟩
  | .local _ .vmem, ⟨15, _⟩ => ⟨S512x128, .bf16⟩
  | .local _ .vmem, ⟨16, _⟩ => ⟨S512x128, .f32⟩
  | .local _ .vmem, ⟨17, _⟩ => ⟨S512x1024, .bf16⟩
  | .local _ .vmem, ⟨18, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev main_v40_3 : Ref sig .tc := ⟨.hbm, 55, rfl⟩
abbrev main_v40_4 : Ref sig .tc := ⟨.hbm, 56, rfl⟩
abbrev main_v40_5 : Ref sig .tc := ⟨.hbm, 57, rfl⟩
abbrev main_v40_6 : Ref sig .tc := ⟨.hbm, 58, rfl⟩
abbrev main_v40_7 : Ref sig .tc := ⟨.hbm, 59, rfl⟩
abbrev main_v40_8 : Ref sig .tc := ⟨.hbm, 60, rfl⟩
abbrev main_v40_9 : Ref sig .tc := ⟨.hbm, 61, rfl⟩
abbrev main_v40_10 : Ref sig .tc := ⟨.hbm, 62, rfl⟩
abbrev main_v40_11 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1792 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== InprojSRefIdeal.lean ====
abbrev S128x4x1024 : Shape := ⟨3, ![128, 4, 1024]⟩
abbrev S1024 : Shape := ⟨1, ![1024]⟩
abbrev S1024x4932 : Shape := ⟨2, ![1024, 4932]⟩
abbrev S64 : Shape := ⟨1, ![64]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x4932 : Shape := ⟨3, ![128, 4, 4932]⟩
abbrev S128x4x1792 : Shape := ⟨3, ![128, 4, 1792]⟩
abbrev S128x4x512 : Shape := ⟨3, ![128, 4, 512]⟩
abbrev S128x4x128 : Shape := ⟨3, ![128, 4, 128]⟩
abbrev S128x4x256 : Shape := ⟨3, ![128, 4, 256]⟩
abbrev S128x4x64 : Shape := ⟨3, ![128, 4, 64]⟩
abbrev S128x4x4 : Shape := ⟨3, ![128, 4, 4]⟩
abbrev S128x4x8x64 : Shape := ⟨4, ![128, 4, 8, 64]⟩
abbrev S128x4x8 : Shape := ⟨3, ![128, 4, 8]⟩
abbrev S128x4x8x1 : Shape := ⟨4, ![128, 4, 8, 1]⟩
abbrev S1x1x1x64 : Shape := ⟨4, ![1, 1, 1, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S128x4x8x8 : Shape := ⟨4, ![128, 4, 8, 8]⟩
abbrev S128x4x8x48 : Shape := ⟨4, ![128, 4, 8, 48]⟩
abbrev S1x4x1x8 : Shape := ⟨4, ![1, 4, 1, 8]⟩
abbrev S128x4x2x64 : Shape := ⟨4, ![128, 4, 2, 64]⟩
abbrev S128x4x2 : Shape := ⟨3, ![128, 4, 2]⟩
abbrev S128x4x2x1 : Shape := ⟨4, ![128, 4, 2, 1]⟩
abbrev S128x4x2x8 : Shape := ⟨4, ![128, 4, 2, 8]⟩
abbrev S128x4x2x48 : Shape := ⟨4, ![128, 4, 2, 48]⟩
abbrev S128x4x4x64 : Shape := ⟨4, ![128, 4, 4, 64]⟩
abbrev S128x4x4x8 : Shape := ⟨4, ![128, 4, 4, 8]⟩
abbrev S128x4x4x48 : Shape := ⟨4, ![128, 4, 4, 48]⟩
abbrev S128x4x1x64 : Shape := ⟨4, ![128, 4, 1, 64]⟩
abbrev S128x4x1x8 : Shape := ⟨4, ![128, 4, 1, 8]⟩
abbrev S128x4x1x48 : Shape := ⟨4, ![128, 4, 1, 48]⟩
abbrev S128x4x68 : Shape := ⟨3, ![128, 4, 68]⟩
abbrev S512x128 : Shape := ⟨2, ![512, 128]⟩
abbrev S512x64 : Shape := ⟨2, ![512, 64]⟩
abbrev S512x1792 : Shape := ⟨2, ![512, 1792]⟩
abbrev S512x512 : Shape := ⟨2, ![512, 512]⟩
abbrev S512x256 : Shape := ⟨2, ![512, 256]⟩
abbrev S512x68 : Shape := ⟨2, ![512, 68]⟩
abbrev S512x1024 : Shape := ⟨2, ![512, 1024]⟩

abbrev nBuf : Space → Nat
  | .hbm => 257
  | .vmem => 0
  | .smem => 0
  | _ => 0

abbrev hbmTy0_0 (i : Nat) : BufTy := match i % 128 with
  | 0 => ⟨S128x4x1024, .f32⟩
  | 1 => ⟨S1024, .f32⟩
  | 2 => ⟨S1024x4932, .f32⟩
  | 3 => ⟨S64, .f32⟩
  | 4 => ⟨S64, .f32⟩
  | 5 => ⟨S4, .f32⟩
  | 6 => ⟨S_, .f32⟩
  | 7 => ⟨S4, .f32⟩
  | 8 => ⟨S4, .f32⟩
  | 9 => ⟨S128x4x1024, .f32⟩
  | 10 => ⟨S_, .f32⟩
  | 11 => ⟨S128x4, .f32⟩
  | 12 => ⟨S128x4x1, .f32⟩
  | 13 => ⟨S_, .f32⟩
  | 14 => ⟨S128x4x1, .f32⟩
  | 15 => ⟨S128x4x1, .f32⟩
  | 16 => ⟨S_, .f32⟩
  | 17 => ⟨S128x4x1, .f32⟩
  | 18 => ⟨S128x4x1, .f32⟩
  | 19 => ⟨S128x4x1, .f32⟩
  | 20 => ⟨S128x4x1024, .f32⟩
  | 21 => ⟨S128x4x1024, .f32⟩
  | 22 => ⟨S1x1x1024, .f32⟩
  | 23 => ⟨S128x4x1024, .f32⟩
  | 24 => ⟨S128x4x1024, .f32⟩
  | 25 => ⟨S128x4x4932, .f32⟩
  | 26 => ⟨S128x4x1792, .f32⟩
  | 27 => ⟨S128x4x512, .f32⟩
  | 28 => ⟨S128x4x128, .f32⟩
  | 29 => ⟨S128x4x128, .f32⟩
  | 30 => ⟨S128x4x256, .f32⟩
  | 31 => ⟨S128x4x64, .f32⟩
  | 32 => ⟨S128x4x4, .f32⟩
  | 33 => ⟨S128x4x1024, .f32⟩
  | 34 => ⟨S128x4x1024, .f32⟩
  | 35 => ⟨S128x4x8x64, .f32⟩
  | 36 => ⟨S128x4x8x64, .f32⟩
  | 37 => ⟨S_, .f32⟩
  | 38 => ⟨S128x4x8, .f32⟩
  | 39 => ⟨S128x4x8x1, .f32⟩
  | 40 => ⟨S_, .f32⟩
  | 41 => ⟨S128x4x8x1, .f32⟩
  | 42 => ⟨S128x4x8x1, .f32⟩
  | 43 => ⟨S_, .f32⟩
  | 44 => ⟨S128x4x8x1, .f32⟩
  | 45 => ⟨S128x4x8x1, .f32⟩
  | 46 => ⟨S128x4x8x1, .f32⟩
  | 47 => ⟨S128x4x8x64, .f32⟩
  | 48 => ⟨S128x4x8x64, .f32⟩
  | 49 => ⟨S1x1x1x64, .f32⟩
  | 50 => ⟨S128x4x8x64, .f32⟩
  | 51 => ⟨S128x4x8x64, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S4x1, .f32⟩
  | 61 => ⟨S1x8, .f32⟩
  | 62 => ⟨S4x8, .f32⟩
  | 63 => ⟨S4x8, .f32⟩
  | 64 => ⟨S4x8, .f32⟩
  | 65 => ⟨S4x8, .f32⟩
  | 66 => ⟨S4x1x8, .f32⟩
  | 67 => ⟨S4x8, .f32⟩
  | 68 => ⟨S4x1x8, .f32⟩
  | 69 => ⟨S128x4x8x8, .f32⟩
  | 70 => ⟨S128x4x8x8, .f32⟩
  | 71 => ⟨S128x4x8x48, .f32⟩
  | 72 => ⟨S1x4x1x8, .f32⟩
  | 73 => ⟨S128x4x8x8, .f32⟩
  | 74 => ⟨S128x4x8x8, .f32⟩
  | 75 => ⟨S1x4x1x8, .f32⟩
  | 76 => ⟨S128x4x8x8, .f32⟩
  | 77 => ⟨S128x4x8x8, .f32⟩
  | 78 => ⟨S128x4x8x8, .f32⟩
  | 79 => ⟨S1x4x1x8, .f32⟩
  | 80 => ⟨S128x4x8x8, .f32⟩
  | 81 => ⟨S128x4x8x8, .f32⟩
  | 82 => ⟨S1x4x1x8, .f32⟩
  | 83 => ⟨S128x4x8x8, .f32⟩
  | 84 => ⟨S128x4x8x8, .f32⟩
  | 85 => ⟨S128x4x8x8, .f32⟩
  | 86 => ⟨S128x4x8x64, .f32⟩
  | 87 => ⟨S128x4x2x64, .f32⟩
  | 88 => ⟨S128x4x2x64, .f32⟩
  | 89 => ⟨S_, .f32⟩
  | 90 => ⟨S128x4x2, .f32⟩
  | 91 => ⟨S128x4x2x1, .f32⟩
  | 92 => ⟨S_, .f32⟩
  | 93 => ⟨S128x4x2x1, .f32⟩
  | 94 => ⟨S128x4x2x1, .f32⟩
  | 95 => ⟨S_, .f32⟩
  | 96 => ⟨S128x4x2x1, .f32⟩
  | 97 => ⟨S128x4x2x1, .f32⟩
  | 98 => ⟨S128x4x2x1, .f32⟩
  | 99 => ⟨S128x4x2x64, .f32⟩
  | 100 => ⟨S128x4x2x64, .f32⟩
  | 101 => ⟨S1x1x1x64, .f32⟩
  | 102 => ⟨S128x4x2x64, .f32⟩
  | 103 => ⟨S128x4x2x64, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S4x1, .f32⟩
  | 113 => ⟨S1x8, .f32⟩
  | 114 => ⟨S4x8, .f32⟩
  | 115 => ⟨S4x8, .f32⟩
  | 116 => ⟨S4x8, .f32⟩
  | 117 => ⟨S4x8, .f32⟩
  | 118 => ⟨S4x1x8, .f32⟩
  | 119 => ⟨S4x8, .f32⟩
  | 120 => ⟨S4x1x8, .f32⟩
  | 121 => ⟨S128x4x2x8, .f32⟩
  | 122 => ⟨S128x4x2x8, .f32⟩
  | 123 => ⟨S128x4x2x48, .f32⟩
  | 124 => ⟨S1x4x1x8, .f32⟩
  | 125 => ⟨S128x4x2x8, .f32⟩
  | 126 => ⟨S128x4x2x8, .f32⟩
  | 127 => ⟨S1x4x1x8, .f32⟩
  | _ => ⟨S128x4x1024, .f32⟩

abbrev hbmTy0_1 (i : Nat) : BufTy := match i % 128 with
  | 0 => ⟨S128x4x2x8, .f32⟩
  | 1 => ⟨S128x4x2x8, .f32⟩
  | 2 => ⟨S128x4x2x8, .f32⟩
  | 3 => ⟨S1x4x1x8, .f32⟩
  | 4 => ⟨S128x4x2x8, .f32⟩
  | 5 => ⟨S128x4x2x8, .f32⟩
  | 6 => ⟨S1x4x1x8, .f32⟩
  | 7 => ⟨S128x4x2x8, .f32⟩
  | 8 => ⟨S128x4x2x8, .f32⟩
  | 9 => ⟨S128x4x2x8, .f32⟩
  | 10 => ⟨S128x4x2x64, .f32⟩
  | 11 => ⟨S128x4x4x64, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4x1, .f32⟩
  | 21 => ⟨S1x8, .f32⟩
  | 22 => ⟨S4x8, .f32⟩
  | 23 => ⟨S4x8, .f32⟩
  | 24 => ⟨S4x8, .f32⟩
  | 25 => ⟨S4x8, .f32⟩
  | 26 => ⟨S4x1x8, .f32⟩
  | 27 => ⟨S4x8, .f32⟩
  | 28 => ⟨S4x1x8, .f32⟩
  | 29 => ⟨S128x4x4x8, .f32⟩
  | 30 => ⟨S128x4x4x8, .f32⟩
  | 31 => ⟨S128x4x4x48, .f32⟩
  | 32 => ⟨S1x4x1x8, .f32⟩
  | 33 => ⟨S128x4x4x8, .f32⟩
  | 34 => ⟨S128x4x4x8, .f32⟩
  | 35 => ⟨S1x4x1x8, .f32⟩
  | 36 => ⟨S128x4x4x8, .f32⟩
  | 37 => ⟨S128x4x4x8, .f32⟩
  | 38 => ⟨S128x4x4x8, .f32⟩
  | 39 => ⟨S1x4x1x8, .f32⟩
  | 40 => ⟨S128x4x4x8, .f32⟩
  | 41 => ⟨S128x4x4x8, .f32⟩
  | 42 => ⟨S1x4x1x8, .f32⟩
  | 43 => ⟨S128x4x4x8, .f32⟩
  | 44 => ⟨S128x4x4x8, .f32⟩
  | 45 => ⟨S128x4x4x8, .f32⟩
  | 46 => ⟨S128x4x4x64, .f32⟩
  | 47 => ⟨S_, .f32⟩
  | 48 => ⟨S128x4x4x64, .f32⟩
  | 49 => ⟨S128x4x4x64, .f32⟩
  | 50 => ⟨S128x4x1x64, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4x1, .f32⟩
  | 60 => ⟨S1x8, .f32⟩
  | 61 => ⟨S4x8, .f32⟩
  | 62 => ⟨S4x8, .f32⟩
  | 63 => ⟨S4x8, .f32⟩
  | 64 => ⟨S4x8, .f32⟩
  | 65 => ⟨S4x1x8, .f32⟩
  | 66 => ⟨S4x8, .f32⟩
  | 67 => ⟨S4x1x8, .f32⟩
  | 68 => ⟨S128x4x1x8, .f32⟩
  | 69 => ⟨S128x4x1x8, .f32⟩
  | 70 => ⟨S128x4x1x48, .f32⟩
  | 71 => ⟨S1x4x1x8, .f32⟩
  | 72 => ⟨S128x4x1x8, .f32⟩
  | 73 => ⟨S128x4x1x8, .f32⟩
  | 74 => ⟨S1x4x1x8, .f32⟩
  | 75 => ⟨S128x4x1x8, .f32⟩
  | 76 => ⟨S128x4x1x8, .f32⟩
  | 77 => ⟨S128x4x1x8, .f32⟩
  | 78 => ⟨S1x4x1x8, .f32⟩
  | 79 => ⟨S128x4x1x8, .f32⟩
  | 80 => ⟨S128x4x1x8, .f32⟩
  | 81 => ⟨S1x4x1x8, .f32⟩
  | 82 => ⟨S128x4x1x8, .f32⟩
  | 83 => ⟨S128x4x1x8, .f32⟩
  | 84 => ⟨S128x4x1x8, .f32⟩
  | 85 => ⟨S128x4x1x64, .f32⟩
  | 86 => ⟨S128x4x68, .f32⟩
  | 87 => ⟨S_, .f32⟩
  | 88 => ⟨S128x4x68, .f32⟩
  | 89 => ⟨S128x4x68, .f32⟩
  | 90 => ⟨S512x128, .f32⟩
  | 91 => ⟨S512x128, .f32⟩
  | 92 => ⟨S512x64, .f32⟩
  | 93 => ⟨S512x1792, .f32⟩
  | 94 => ⟨S_, .f32⟩
  | 95 => ⟨S128x4x8x64, .f32⟩
  | 96 => ⟨S128x4x8x64, .f32⟩
  | 97 => ⟨S512x512, .f32⟩
  | 98 => ⟨S512x512, .bf16⟩
  | 99 => ⟨S512x128, .bf16⟩
  | 100 => ⟨S512x128, .bf16⟩
  | 101 => ⟨S512x256, .f32⟩
  | 102 => ⟨S512x256, .bf16⟩
  | 103 => ⟨S512x128, .f32⟩
  | 104 => ⟨S512x128, .bf16⟩
  | 105 => ⟨S512x68, .f32⟩
  | 106 => ⟨S_, .i32⟩
  | 107 => ⟨S_, .f32⟩
  | 108 => ⟨S512x128, .f32⟩
  | 109 => ⟨S128x4x1024, .f32⟩
  | 110 => ⟨S128x4x1024, .f32⟩
  | 111 => ⟨S_, .f32⟩
  | 112 => ⟨S128x4x1024, .f32⟩
  | 113 => ⟨S128x4x1024, .f32⟩
  | 114 => ⟨S_, .f32⟩
  | 115 => ⟨S128x4x1024, .f32⟩
  | 116 => ⟨S128x4x1024, .f32⟩
  | 117 => ⟨S512x1024, .f32⟩
  | 118 => ⟨S512x1024, .bf16⟩
  | 119 => ⟨S128x4x1024, .f32⟩
  | 120 => ⟨S128x4x1024, .f32⟩
  | 121 => ⟨S_, .f32⟩
  | 122 => ⟨S128x4x1024, .f32⟩
  | 123 => ⟨S128x4x1024, .f32⟩
  | 124 => ⟨S_, .f32⟩
  | 125 => ⟨S128x4x1024, .f32⟩
  | 126 => ⟨S128x4x1024, .f32⟩
  | 127 => ⟨S512x1024, .f32⟩
  | _ => ⟨S128x4x1024, .f32⟩

abbrev hbmTy0_2 (i : Nat) : BufTy := match i % 128 with
  | 0 => ⟨S512x1024, .bf16⟩
  | _ => ⟨S128x4x1024, .f32⟩

abbrev hbmTy (i : Nat) : BufTy := match i / 128 with
  | 0 => hbmTy0_0 i
  | 1 => hbmTy0_1 i
  | 2 => hbmTy0_2 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_8 : Ref sig .tc := ⟨.hbm, 89, rfl⟩
abbrev main_v75 : Ref sig .tc := ⟨.hbm, 90, rfl⟩
abbrev main_v76 : Ref sig .tc := ⟨.hbm, 91, rfl⟩
abbrev main_cst_9 : Ref sig .tc := ⟨.hbm, 92, rfl⟩
abbrev main_v77 : Ref sig .tc := ⟨.hbm, 93, rfl⟩
abbrev main_v78 : Ref sig .tc := ⟨.hbm, 94, rfl⟩
abbrev main_cst_10 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_11 : Ref sig .tc := ⟨.hbm, 106, rfl⟩
abbrev main_v89 : Ref sig .tc := ⟨.hbm, 107, rfl⟩
abbrev main_v90 : Ref sig .tc := ⟨.hbm, 108, rfl⟩
abbrev main_cst_12 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_13 : Ref sig .tc := ⟨.hbm, 142, rfl⟩
abbrev main_v123 : Ref sig .tc := ⟨.hbm, 143, rfl⟩
abbrev main_v124 : Ref sig .tc := ⟨.hbm, 144, rfl⟩
abbrev main_cst_14 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_cst_15 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_cst_16 : Ref sig .tc := ⟨.hbm, 181, rfl⟩
abbrev main_v159 : Ref sig .tc := ⟨.hbm, 182, rfl⟩
abbrev main_v160 : Ref sig .tc := ⟨.hbm, 183, rfl⟩
abbrev main_cst_17 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_cst_18 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_cst_19 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_c : Ref sig .tc := ⟨.hbm, 234, rfl⟩
abbrev main_call0_v0 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_cst_20 : Ref sig .tc := ⟨.hbm, 239, rfl⟩
abbrev main_v211 : Ref sig .tc := ⟨.hbm, 240, rfl⟩
abbrev main_v212 : Ref sig .tc := ⟨.hbm, 241, rfl⟩
abbrev main_cst_21 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_cst_22 : Ref sig .tc := ⟨.hbm, 249, rfl⟩
abbrev main_v219 : Ref sig .tc := ⟨.hbm, 250, rfl⟩
abbrev main_v220 : Ref sig .tc := ⟨.hbm, 251, rfl⟩
abbrev main_cst_23 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩

abbrev nD : Nat := 1
abbrev τ : Topo := Topo.v7x

variable {F : FTy → Type} [FloatOps F]
-- ==== WkvS.lean ====
abbrev S128x4x1792 : Shape := ⟨3, ![128, 4, 1792]⟩
abbrev S128x1792 : Shape := ⟨2, ![128, 1792]⟩
abbrev S128x8x64x64 : Shape := ⟨4, ![128, 8, 64, 64]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S128x128 : Shape := ⟨2, ![128, 128]⟩
abbrev S_ : Shape := ⟨0, ![]⟩
abbrev S64x1024 : Shape := ⟨2, ![64, 1024]⟩
abbrev S128x1024 : Shape := ⟨2, ![128, 1024]⟩
abbrev S1x1792 : Shape := ⟨2, ![1, 1792]⟩
abbrev S1x512 : Shape := ⟨2, ![1, 512]⟩
abbrev S128x16x1792 : Shape := ⟨3, ![128, 16, 1792]⟩
abbrev S128x1x1792 : Shape := ⟨3, ![128, 1, 1792]⟩
abbrev S128x64x8x64 : Shape := ⟨4, ![128, 64, 8, 64]⟩
abbrev S128x64x512 : Shape := ⟨3, ![128, 64, 512]⟩
abbrev S128x16x512 : Shape := ⟨3, ![128, 16, 512]⟩
abbrev S1x16x1792 : Shape := ⟨3, ![1, 16, 1792]⟩
abbrev S1x1x1792 : Shape := ⟨3, ![1, 1, 1792]⟩
abbrev S1x64x512 : Shape := ⟨3, ![1, 64, 512]⟩
abbrev S1x16x512 : Shape := ⟨3, ![1, 16, 512]⟩
abbrev S16x512 : Shape := ⟨2, ![16, 512]⟩
abbrev S1x128x512 : Shape := ⟨3, ![1, 128, 512]⟩
abbrev S1x128x64 : Shape := ⟨3, ![1, 128, 64]⟩
abbrev S1x4x128x128 : Shape := ⟨4, ![1, 4, 128, 128]⟩
abbrev S16x1792 : Shape := ⟨2, ![16, 1792]⟩
abbrev S16x128 : Shape := ⟨2, ![16, 128]⟩
abbrev S16x1024 : Shape := ⟨2, ![16, 1024]⟩
abbrev S16x16 : Shape := ⟨2, ![16, 16]⟩
abbrev S256x512 : Shape := ⟨2, ![256, 512]⟩
abbrev S256x256 : Shape := ⟨2, ![256, 256]⟩
abbrev S128x64 : Shape := ⟨2, ![128, 64]⟩
abbrev S1x1x128x128 : Shape := ⟨4, ![1, 1, 128, 128]⟩
abbrev S256x64 : Shape := ⟨2, ![256, 64]⟩
abbrev S64x128 : Shape := ⟨2, ![64, 128]⟩

abbrev nBuf : Space → Nat
  | .hbm => 42
  | .vmem => 30
  | .smem => 0
  | _ => 0

abbrev bufTy : (tb : Table) → Fin (tcTables nBuf tb) → BufTy
  | .hbm, ⟨0, _⟩ => ⟨S128x4x1792, .f32⟩
  | .hbm, ⟨1, _⟩ => ⟨S128x1792, .f32⟩
  | .hbm, ⟨2, _⟩ => ⟨S128x8x64x64, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S128x128, .bf16⟩
  | .hbm, ⟨15, _⟩ => ⟨S64x512, .bf16⟩
  | .hbm, ⟨16, _⟩ => ⟨S_, .f32⟩
  | .hbm, ⟨17, _⟩ => ⟨S64x512, .f32⟩
  | .hbm, ⟨18, _⟩ => ⟨S64x1024, .f32⟩
  | .hbm, ⟨19, _⟩ => ⟨S64x1024, .f32⟩
  | .hbm, ⟨20, _⟩ => ⟨S128x1024, .f32⟩
  | .hbm, ⟨21, _⟩ => ⟨S128x1024, .bf16⟩
  | .hbm, ⟨22, _⟩ => ⟨S128x1024, .f32⟩
  | .hbm, ⟨23, _⟩ => ⟨S128x1024, .f32⟩
  | .hbm, ⟨24, _⟩ => ⟨S128x1024, .bf16⟩
  | .hbm, ⟨25, _⟩ => ⟨S1x1792, .f32⟩
  | .hbm, ⟨26, _⟩ => ⟨S1x512, .f32⟩
  | .hbm, ⟨27, _⟩ => ⟨S1x512, .f32⟩
  | .hbm, ⟨28, _⟩ => ⟨S128x512, .bf16⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .i32⟩
  | .hbm, ⟨35, _⟩ => ⟨S_, .f32⟩
  | .hbm, ⟨36, _⟩ => ⟨S128x16x1792, .f32⟩
  | .hbm, ⟨37, _⟩ => ⟨S128x1x1792, .f32⟩
  | .hbm, ⟨38, _⟩ => ⟨S128x64x8x64, .f32⟩
  | .hbm, ⟨39, _⟩ => ⟨S128x64x512, .f32⟩
  | .hbm, ⟨40, _⟩ => ⟨S128x16x512, .bf16⟩
  | .hbm, ⟨41, _⟩ => ⟨S128x64x512, .f32⟩
  | .local _ .vmem, ⟨0, _⟩ => ⟨S1x16x1792, .f32⟩
  | .local _ .vmem, ⟨1, _⟩ => ⟨S1x16x1792, .f32⟩
  | .local _ .vmem, ⟨2, _⟩ => ⟨S1x1x1792, .f32⟩
  | .local _ .vmem, ⟨3, _⟩ => ⟨S1x1x1792, .f32⟩
  | .local _ .vmem, ⟨4, _⟩ => ⟨S1x64x512, .f32⟩
  | .local _ .vmem, ⟨5, _⟩ => ⟨S1x64x512, .f32⟩
  | .local _ .vmem, ⟨6, _⟩ => ⟨S1x1792, .f32⟩
  | .local _ .vmem, ⟨7, _⟩ => ⟨S1x512, .f32⟩
  | .local _ .vmem, ⟨8, _⟩ => ⟨S128x1024, .bf16⟩
  | .local _ .vmem, ⟨9, _⟩ => ⟨S128x1024, .bf16⟩
  | .local _ .vmem, ⟨10, _⟩ => ⟨S1x512, .f32⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S128x128, .bf16⟩
  | .local _ .vmem, ⟨18, _⟩ => ⟨S64x512, .bf16⟩
  | .local _ .vmem, ⟨19, _⟩ => ⟨S1x16x512, .bf16⟩
  | .local _ .vmem, ⟨20, _⟩ => ⟨S1x16x512, .bf16⟩
  | .local _ .vmem, ⟨21, _⟩ => ⟨S1x64x512, .f32⟩
  | .local _ .vmem, ⟨22, _⟩ => ⟨S1x64x512, .f32⟩
  | .local _ .vmem, ⟨23, _⟩ => ⟨S64x512, .f32⟩
  | .local _ .vmem, ⟨24, _⟩ => ⟨S1x1792, .f32⟩
  | .local _ .vmem, ⟨25, _⟩ => ⟨S16x512, .f32⟩
  | .local _ .vmem, ⟨26, _⟩ => ⟨S1x128x512, .bf16⟩
  | .local _ .vmem, ⟨27, _⟩ => ⟨S1x128x64, .f32⟩
  | .local _ .vmem, ⟨28, _⟩ => ⟨S1x4x128x128, .bf16⟩
  | .local _ .vmem, ⟨29, _⟩ => ⟨S1x64x512, .f32⟩
  | _, _ => ⟨S128x4x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_cst_1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_245 : BitVec 32 := 0#32
  let v668 : BitVec 1 := Scalar.cmpi .eq arg1 c0_i32_245
  let v669 : BitVec 32 := Scalar.extui v668
  let c0_i32_246 : BitVec 32 := 0#32
  let v670 : BitVec 1 := Scalar.cmpi .ne v669 c0_i32_246
  v670

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x16x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== WkvSRefIdeal.lean ====
abbrev S128x4x1792 : Shape := ⟨3, ![128, 4, 1792]⟩
abbrev S128x1792 : Shape := ⟨2, ![128, 1792]⟩
abbrev S128x8x64x64 : Shape := ⟨4, ![128, 8, 64, 64]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S128x1x1792 : Shape := ⟨3, ![128, 1, 1792]⟩
abbrev S1x1792 : Shape := ⟨2, ![1, 1792]⟩
abbrev S128x64 : Shape := ⟨2, ![128, 64]⟩
abbrev S1x512 : Shape := ⟨2, ![1, 512]⟩
abbrev S_ : Shape := ⟨0, ![]⟩
abbrev S128x8x64 : Shape := ⟨3, ![128, 8, 64]⟩
abbrev S128x8 : Shape := ⟨2, ![128, 8]⟩
abbrev S128x8x1 : Shape := ⟨3, ![128, 8, 1]⟩
abbrev S128x8x1x64 : Shape := ⟨4, ![128, 8, 1, 64]⟩
abbrev S128x8x64x1 : Shape := ⟨4, ![128, 8, 64, 1]⟩
abbrev S128x64x8x64 : Shape := ⟨4, ![128, 64, 8, 64]⟩
abbrev S128x64x512 : Shape := ⟨3, ![128, 64, 512]⟩

abbrev nBuf : Space → Nat
  | .hbm => 376
  | .vmem => 0
  | .smem => 0
  | _ => 0

abbrev hbmTy0_0 (i : Nat) : BufTy := match i % 128 with
  | 0 => ⟨S128x4x1792, .f32⟩
  | 1 => ⟨S128x1792, .f32⟩
  | 2 => ⟨S128x8x64x64, .f32⟩
  | 3 => ⟨S1792, .f32⟩
  | 4 => ⟨S512, .f32⟩
  | 5 => ⟨S64x512, .f32⟩
  | 6 => ⟨S512, .f32⟩
  | 7 => ⟨S64x512, .f32⟩
  | 8 => ⟨S128x512, .f32⟩
  | 9 => ⟨S512, .f32⟩
  | 10 => ⟨S512, .f32⟩
  | 11 => ⟨S512, .f32⟩
  | 12 => ⟨S512, .f32⟩
  | 13 => ⟨S512, .f32⟩
  | 14 => ⟨S128x1x1792, .f32⟩
  | 15 => ⟨S128x1792, .f32⟩
  | 16 => ⟨S128x1792, .f32⟩
  | 17 => ⟨S1x1792, .f32⟩
  | 18 => ⟨S128x1792, .f32⟩
  | 19 => ⟨S128x1792, .f32⟩
  | 20 => ⟨S128x1792, .f32⟩
  | 21 => ⟨S128x512, .f32⟩
  | 22 => ⟨S128x512, .f32⟩
  | 23 => ⟨S128x64, .f32⟩
  | 24 => ⟨S128x64, .f32⟩
  | 25 => ⟨S128x64, .f32⟩
  | 26 => ⟨S128x512, .f32⟩
  | 27 => ⟨S1x512, .f32⟩
  | 28 => ⟨S128x512, .f32⟩
  | 29 => ⟨S128x512, .f32⟩
  | 30 => ⟨S128x512, .f32⟩
  | 31 => ⟨S_, .f32⟩
  | 32 => ⟨S128x512, .f32⟩
  | 33 => ⟨S128x512, .f32⟩
  | 34 => ⟨S128x512, .f32⟩
  | 35 => ⟨S128x512, .f32⟩
  | 36 => ⟨S128x512, .f32⟩
  | 37 => ⟨S128x512, .f32⟩
  | 38 => ⟨S128x512, .f32⟩
  | 39 => ⟨S128x512, .f32⟩
  | 40 => ⟨S_, .f32⟩
  | 41 => ⟨S128x512, .f32⟩
  | 42 => ⟨S128x512, .f32⟩
  | 43 => ⟨S128x512, .f32⟩
  | 44 => ⟨S128x512, .f32⟩
  | 45 => ⟨S128x512, .f32⟩
  | 46 => ⟨S128x512, .f32⟩
  | 47 => ⟨S1x512, .f32⟩
  | 48 => ⟨S128x512, .f32⟩
  | 49 => ⟨S128x512, .f32⟩
  | 50 => ⟨S128x512, .f32⟩
  | 51 => ⟨S128x512, .f32⟩
  | 52 => ⟨S_, .f32⟩
  | 53 => ⟨S128x512, .f32⟩
  | 54 => ⟨S128x512, .f32⟩
  | 55 => ⟨S_, .f32⟩
  | 56 => ⟨S128x512, .f32⟩
  | 57 => ⟨S128x512, .f32⟩
  | 58 => ⟨S1x512, .f32⟩
  | 59 => ⟨S128x512, .f32⟩
  | 60 => ⟨S128x512, .f32⟩
  | 61 => ⟨S128x8x64, .f32⟩
  | 62 => ⟨S128x8x64, .f32⟩
  | 63 => ⟨S_, .f32⟩
  | 64 => ⟨S128x8, .f32⟩
  | 65 => ⟨S128x8x1, .f32⟩
  | 66 => ⟨S128x8x1, .f32⟩
  | 67 => ⟨S_, .f32⟩
  | 68 => ⟨S128x8x1, .f32⟩
  | 69 => ⟨S128x8x1, .f32⟩
  | 70 => ⟨S128x8x64, .f32⟩
  | 71 => ⟨S128x8x64, .f32⟩
  | 72 => ⟨S_, .f32⟩
  | 73 => ⟨S128x512, .f32⟩
  | 74 => ⟨S128x512, .f32⟩
  | 75 => ⟨S1x512, .f32⟩
  | 76 => ⟨S128x512, .f32⟩
  | 77 => ⟨S128x512, .f32⟩
  | 78 => ⟨S_, .f32⟩
  | 79 => ⟨S128x512, .f32⟩
  | 80 => ⟨S128x512, .f32⟩
  | 81 => ⟨S128x512, .f32⟩
  | 82 => ⟨S128x8x64, .f32⟩
  | 83 => ⟨S128x8x64, .f32⟩
  | 84 => ⟨S128x8x64, .f32⟩
  | 85 => ⟨S128x8x1x64, .f32⟩
  | 86 => ⟨S128x8x64x64, .f32⟩
  | 87 => ⟨S128x8x64x64, .f32⟩
  | 88 => ⟨S128x8x64x1, .f32⟩
  | 89 => ⟨S128x8x64, .f32⟩
  | 90 => ⟨S128x8x64, .f32⟩
  | 91 => ⟨S128x8x1x64, .f32⟩
  | 92 => ⟨S128x8x64x64, .f32⟩
  | 93 => ⟨S128x8x64x64, .f32⟩
  | 94 => ⟨S128x8x64x64, .f32⟩
  | 95 => ⟨S128x8x64x64, .f32⟩
  | 96 => ⟨S128x8x64, .f32⟩
  | 97 => ⟨S128x8x64x1, .f32⟩
  | 98 => ⟨S128x8x64, .f32⟩
  | 99 => ⟨S128x8x1x64, .f32⟩
  | 100 => ⟨S128x8x64x64, .f32⟩
  | 101 => ⟨S128x8x64x64, .f32⟩
  | 102 => ⟨S128x8x64x64, .f32⟩
  | 103 => ⟨S128x8x64x64, .f32⟩
  | 104 => ⟨S128x1x1792, .f32⟩
  | 105 => ⟨S128x1792, .f32⟩
  | 106 => ⟨S128x1792, .f32⟩
  | 107 => ⟨S1x1792, .f32⟩
  | 108 => ⟨S128x1792, .f32⟩
  | 109 => ⟨S128x1792, .f32⟩
  | 110 => ⟨S128x1792, .f32⟩
  | 111 => ⟨S128x512, .f32⟩
  | 112 => ⟨S128x512, .f32⟩
  | 113 => ⟨S128x64, .f32⟩
  | 114 => ⟨S128x64, .f32⟩
  | 115 => ⟨S128x64, .f32⟩
  | 116 => ⟨S128x512, .f32⟩
  | 117 => ⟨S1x512, .f32⟩
  | 118 => ⟨S128x512, .f32⟩
  | 119 => ⟨S128x512, .f32⟩
  | 120 => ⟨S128x512, .f32⟩
  | 121 => ⟨S_, .f32⟩
  | 122 => ⟨S128x512, .f32⟩
  | 123 => ⟨S128x512, .f32⟩
  | 124 => ⟨S128x512, .f32⟩
  | 125 => ⟨S128x512, .f32⟩
  | 126 => ⟨S128x512, .f32⟩
  | 127 => ⟨S128x512, .f32⟩
  | _ => ⟨S128x4x1792, .f32⟩

abbrev hbmTy0_1 (i : Nat) : BufTy := match i % 128 with
  | 0 => ⟨S128x512, .f32⟩
  | 1 => ⟨S128x512, .f32⟩
  | 2 => ⟨S_, .f32⟩
  | 3 => ⟨S128x512, .f32⟩
  | 4 => ⟨S128x512, .f32⟩
  | 5 => ⟨S128x512, .f32⟩
  | 6 => ⟨S128x512, .f32⟩
  | 7 => ⟨S128x512, .f32⟩
  | 8 => ⟨S128x512, .f32⟩
  | 9 => ⟨S1x512, .f32⟩
  | 10 => ⟨S128x512, .f32⟩
  | 11 => ⟨S128x512, .f32⟩
  | 12 => ⟨S128x512, .f32⟩
  | 13 => ⟨S128x512, .f32⟩
  | 14 => ⟨S_, .f32⟩
  | 15 => ⟨S128x512, .f32⟩
  | 16 => ⟨S128x512, .f32⟩
  | 17 => ⟨S_, .f32⟩
  | 18 => ⟨S128x512, .f32⟩
  | 19 => ⟨S128x512, .f32⟩
  | 20 => ⟨S1x512, .f32⟩
  | 21 => ⟨S128x512, .f32⟩
  | 22 => ⟨S128x512, .f32⟩
  | 23 => ⟨S128x8x64, .f32⟩
  | 24 => ⟨S128x8x64, .f32⟩
  | 25 => ⟨S_, .f32⟩
  | 26 => ⟨S128x8, .f32⟩
  | 27 => ⟨S128x8x1, .f32⟩
  | 28 => ⟨S128x8x1, .f32⟩
  | 29 => ⟨S_, .f32⟩
  | 30 => ⟨S128x8x1, .f32⟩
  | 31 => ⟨S128x8x1, .f32⟩
  | 32 => ⟨S128x8x64, .f32⟩
  | 33 => ⟨S128x8x64, .f32⟩
  | 34 => ⟨S_, .f32⟩
  | 35 => ⟨S128x512, .f32⟩
  | 36 => ⟨S128x512, .f32⟩
  | 37 => ⟨S1x512, .f32⟩
  | 38 => ⟨S128x512, .f32⟩
  | 39 => ⟨S128x512, .f32⟩
  | 40 => ⟨S_, .f32⟩
  | 41 => ⟨S128x512, .f32⟩
  | 42 => ⟨S128x512, .f32⟩
  | 43 => ⟨S128x512, .f32⟩
  | 44 => ⟨S128x8x64, .f32⟩
  | 45 => ⟨S128x8x64, .f32⟩
  | 46 => ⟨S128x8x64, .f32⟩
  | 47 => ⟨S128x8x1x64, .f32⟩
  | 48 => ⟨S128x8x64x64, .f32⟩
  | 49 => ⟨S128x8x64x64, .f32⟩
  | 50 => ⟨S128x8x64x1, .f32⟩
  | 51 => ⟨S128x8x64, .f32⟩
  | 52 => ⟨S128x8x64, .f32⟩
  | 53 => ⟨S128x8x1x64, .f32⟩
  | 54 => ⟨S128x8x64x64, .f32⟩
  | 55 => ⟨S128x8x64x64, .f32⟩
  | 56 => ⟨S128x8x64x64, .f32⟩
  | 57 => ⟨S128x8x64x64, .f32⟩
  | 58 => ⟨S128x8x64, .f32⟩
  | 59 => ⟨S128x8x64x1, .f32⟩
  | 60 => ⟨S128x8x64, .f32⟩
  | 61 => ⟨S128x8x1x64, .f32⟩
  | 62 => ⟨S128x8x64x64, .f32⟩
  | 63 => ⟨S128x8x64x64, .f32⟩
  | 64 => ⟨S128x8x64x64, .f32⟩
  | 65 => ⟨S128x8x64x64, .f32⟩
  | 66 => ⟨S128x1x1792, .f32⟩
  | 67 => ⟨S128x1792, .f32⟩
  | 68 => ⟨S128x1792, .f32⟩
  | 69 => ⟨S1x1792, .f32⟩
  | 70 => ⟨S128x1792, .f32⟩
  | 71 => ⟨S128x1792, .f32⟩
  | 72 => ⟨S128x1792, .f32⟩
  | 73 => ⟨S128x512, .f32⟩
  | 74 => ⟨S128x512, .f32⟩
  | 75 => ⟨S128x64, .f32⟩
  | 76 => ⟨S128x64, .f32⟩
  | 77 => ⟨S128x64, .f32⟩
  | 78 => ⟨S128x512, .f32⟩
  | 79 => ⟨S1x512, .f32⟩
  | 80 => ⟨S128x512, .f32⟩
  | 81 => ⟨S128x512, .f32⟩
  | 82 => ⟨S128x512, .f32⟩
  | 83 => ⟨S_, .f32⟩
  | 84 => ⟨S128x512, .f32⟩
  | 85 => ⟨S128x512, .f32⟩
  | 86 => ⟨S128x512, .f32⟩
  | 87 => ⟨S128x512, .f32⟩
  | 88 => ⟨S128x512, .f32⟩
  | 89 => ⟨S128x512, .f32⟩
  | 90 => ⟨S128x512, .f32⟩
  | 91 => ⟨S128x512, .f32⟩
  | 92 => ⟨S_, .f32⟩
  | 93 => ⟨S128x512, .f32⟩
  | 94 => ⟨S128x512, .f32⟩
  | 95 => ⟨S128x512, .f32⟩
  | 96 => ⟨S128x512, .f32⟩
  | 97 => ⟨S128x512, .f32⟩
  | 98 => ⟨S128x512, .f32⟩
  | 99 => ⟨S1x512, .f32⟩
  | 100 => ⟨S128x512, .f32⟩
  | 101 => ⟨S128x512, .f32⟩
  | 102 => ⟨S128x512, .f32⟩
  | 103 => ⟨S128x512, .f32⟩
  | 104 => ⟨S_, .f32⟩
  | 105 => ⟨S128x512, .f32⟩
  | 106 => ⟨S128x512, .f32⟩
  | 107 => ⟨S_, .f32⟩
  | 108 => ⟨S128x512, .f32⟩
  | 109 => ⟨S128x512, .f32⟩
  | 110 => ⟨S1x512, .f32⟩
  | 111 => ⟨S128x512, .f32⟩
  | 112 => ⟨S128x512, .f32⟩
  | 113 => ⟨S128x8x64, .f32⟩
  | 114 => ⟨S128x8x64, .f32⟩
  | 115 => ⟨S_, .f32⟩
  | 116 => ⟨S128x8, .f32⟩
  | 117 => ⟨S128x8x1, .f32⟩
  | 118 => ⟨S128x8x1, .f32⟩
  | 119 => ⟨S_, .f32⟩
  | 120 => ⟨S128x8x1, .f32⟩
  | 121 => ⟨S128x8x1, .f32⟩
  | 122 => ⟨S128x8x64, .f32⟩
  | 123 => ⟨S128x8x64, .f32⟩
  | 124 => ⟨S_, .f32⟩
  | 125 => ⟨S128x512, .f32⟩
  | 126 => ⟨S128x512, .f32⟩
  | 127 => ⟨S1x512, .f32⟩
  | _ => ⟨S128x4x1792, .f32⟩

abbrev hbmTy0_2 (i : Nat) : BufTy := match i % 128 with
  | 0 => ⟨S128x512, .f32⟩
  | 1 => ⟨S128x512, .f32⟩
  | 2 => ⟨S_, .f32⟩
  | 3 => ⟨S128x512, .f32⟩
  | 4 => ⟨S128x512, .f32⟩
  | 5 => ⟨S128x512, .f32⟩
  | 6 => ⟨S128x8x64, .f32⟩
  | 7 => ⟨S128x8x64, .f32⟩
  | 8 => ⟨S128x8x64, .f32⟩
  | 9 => ⟨S128x8x1x64, .f32⟩
  | 10 => ⟨S128x8x64x64, .f32⟩
  | 11 => ⟨S128x8x64x64, .f32⟩
  | 12 => ⟨S128x8x64x1, .f32⟩
  | 13 => ⟨S128x8x64, .f32⟩
  | 14 => ⟨S128x8x64, .f32⟩
  | 15 => ⟨S128x8x1x64, .f32⟩
  | 16 => ⟨S128x8x64x64, .f32⟩
  | 17 => ⟨S128x8x64x64, .f32⟩
  | 18 => ⟨S128x8x64x64, .f32⟩
  | 19 => ⟨S128x8x64x64, .f32⟩
  | 20 => ⟨S128x8x64, .f32⟩
  | 21 => ⟨S128x8x64x1, .f32⟩
  | 22 => ⟨S128x8x64, .f32⟩
  | 23 => ⟨S128x8x1x64, .f32⟩
  | 24 => ⟨S128x8x64x64, .f32⟩
  | 25 => ⟨S128x8x64x64, .f32⟩
  | 26 => ⟨S128x8x64x64, .f32⟩
  | 27 => ⟨S128x8x64x64, .f32⟩
  | 28 => ⟨S128x1x1792, .f32⟩
  | 29 => ⟨S128x1792, .f32⟩
  | 30 => ⟨S128x1792, .f32⟩
  | 31 => ⟨S1x1792, .f32⟩
  | 32 => ⟨S128x1792, .f32⟩
  | 33 => ⟨S128x1792, .f32⟩
  | 34 => ⟨S128x1792, .f32⟩
  | 35 => ⟨S128x512, .f32⟩
  | 36 => ⟨S128x512, .f32⟩
  | 37 => ⟨S128x64, .f32⟩
  | 38 => ⟨S128x64, .f32⟩
  | 39 => ⟨S128x64, .f32⟩
  | 40 => ⟨S128x512, .f32⟩
  | 41 => ⟨S1x512, .f32⟩
  | 42 => ⟨S128x512, .f32⟩
  | 43 => ⟨S128x512, .f32⟩
  | 44 => ⟨S128x512, .f32⟩
  | 45 => ⟨S_, .f32⟩
  | 46 => ⟨S128x512, .f32⟩
  | 47 => ⟨S128x512, .f32⟩
  | 48 => ⟨S128x512, .f32⟩
  | 49 => ⟨S128x512, .f32⟩
  | 50 => ⟨S128x512, .f32⟩
  | 51 => ⟨S128x512, .f32⟩
  | 52 => ⟨S128x512, .f32⟩
  | 53 => ⟨S128x512, .f32⟩
  | 54 => ⟨S_, .f32⟩
  | 55 => ⟨S128x512, .f32⟩
  | 56 => ⟨S128x512, .f32⟩
  | 57 => ⟨S128x512, .f32⟩
  | 58 => ⟨S128x512, .f32⟩
  | 59 => ⟨S128x512, .f32⟩
  | 60 => ⟨S128x512, .f32⟩
  | 61 => ⟨S1x512, .f32⟩
  | 62 => ⟨S128x512, .f32⟩
  | 63 => ⟨S128x512, .f32⟩
  | 64 => ⟨S128x512, .f32⟩
  | 65 => ⟨S128x512, .f32⟩
  | 66 => ⟨S_, .f32⟩
  | 67 => ⟨S128x512, .f32⟩
  | 68 => ⟨S128x512, .f32⟩
  | 69 => ⟨S_, .f32⟩
  | 70 => ⟨S128x512, .f32⟩
  | 71 => ⟨S128x512, .f32⟩
  | 72 => ⟨S1x512, .f32⟩
  | 73 => ⟨S128x512, .f32⟩
  | 74 => ⟨S128x512, .f32⟩
  | 75 => ⟨S128x8x64, .f32⟩
  | 76 => ⟨S128x8x64, .f32⟩
  | 77 => ⟨S_, .f32⟩
  | 78 => ⟨S128x8, .f32⟩
  | 79 => ⟨S128x8x1, .f32⟩
  | 80 => ⟨S128x8x1, .f32⟩
  | 81 => ⟨S_, .f32⟩
  | 82 => ⟨S128x8x1, .f32⟩
  | 83 => ⟨S128x8x1, .f32⟩
  | 84 => ⟨S128x8x64, .f32⟩
  | 85 => ⟨S128x8x64, .f32⟩
  | 86 => ⟨S_, .f32⟩
  | 87 => ⟨S128x512, .f32⟩
  | 88 => ⟨S128x512, .f32⟩
  | 89 => ⟨S1x512, .f32⟩
  | 90 => ⟨S128x512, .f32⟩
  | 91 => ⟨S128x512, .f32⟩
  | 92 => ⟨S_, .f32⟩
  | 93 => ⟨S128x512, .f32⟩
  | 94 => ⟨S128x512, .f32⟩
  | 95 => ⟨S128x512, .f32⟩
  | 96 => ⟨S128x8x64, .f32⟩
  | 97 => ⟨S128x8x64, .f32⟩
  | 98 => ⟨S128x8x64, .f32⟩
  | 99 => ⟨S128x8x1x64, .f32⟩
  | 100 => ⟨S128x8x64x64, .f32⟩
  | 101 => ⟨S128x8x64x64, .f32⟩
  | 102 => ⟨S128x8x64x1, .f32⟩
  | 103 => ⟨S128x8x64, .f32⟩
  | 104 => ⟨S128x8x64, .f32⟩
  | 105 => ⟨S128x8x1x64, .f32⟩
  | 106 => ⟨S128x8x64x64, .f32⟩
  | 107 => ⟨S128x8x64x64, .f32⟩
  | 108 => ⟨S128x8x64x64, .f32⟩
  | 109 => ⟨S128x8x64x64, .f32⟩
  | 110 => ⟨S128x8x64, .f32⟩
  | 111 => ⟨S128x8x64x1, .f32⟩
  | 112 => ⟨S128x8x64, .f32⟩
  | 113 => ⟨S128x8x1x64, .f32⟩
  | 114 => ⟨S128x8x64x64, .f32⟩
  | 115 => ⟨S128x8x64x64, .f32⟩
  | 116 => ⟨S128x8x64x64, .f32⟩
  | 117 => ⟨S128x8x64x64, .f32⟩
  | 118 => ⟨S128x64x8x64, .f32⟩
  | 119 => ⟨S128x64x512, .f32⟩
  | _ => ⟨S128x4x1792, .f32⟩

abbrev hbmTy (i : Nat) : BufTy := match i / 128 with
  | 0 => hbmTy0_0 i
  | 1 => hbmTy0_1 i
  | 2 => hbmTy0_2 i
  | _ => ⟨S128x4x1792, .f32⟩

abbrev bufTy : (tb : Table) → Fin (tcTables nBuf tb) → BufTy
  | .hbm, ⟨i, _⟩ => hbmTy i
  | _, _ => ⟨S128x4x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_7 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_8 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_9 : Ref sig .tc := ⟨.hbm, 142, rfl⟩
abbrev main_v118 : Ref sig .tc := ⟨.hbm, 143, rfl⟩
abbrev main_v119 : Ref sig .tc := ⟨.hbm, 144, rfl⟩
abbrev main_cst_10 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_11 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_12 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_13 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_14 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_cst_15 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_cst_16 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_cst_17 : Ref sig .tc := ⟨.hbm, 232, rfl⟩
abbrev main_v200 : Ref sig .tc := ⟨.hbm, 233, rfl⟩
abbrev main_v201 : Ref sig .tc := ⟨.hbm, 234, rfl⟩
abbrev main_cst_18 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_cst_19 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_cst_20 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_cst_21 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_cst_22 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_cst_23 : Ref sig .tc := ⟨.hbm, 301, rfl⟩
abbrev main_v263 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_cst_24 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_cst_25 : Ref sig .tc := ⟨.hbm, 322, rfl⟩
abbrev main_v282 : Ref sig .tc := ⟨.hbm, 323, rfl⟩
abbrev main_v283 : Ref sig .tc := ⟨.hbm, 324, rfl⟩
abbrev main_cst_26 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_cst_27 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_cst_28 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_cst_29 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_cst_30 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩

abbrev nD : Nat := 1
abbrev τ : Topo := Topo.v7x

variable {F : FTy → Type} [FloatOps F]
-- ==== Proof.Moe.Spec.lean ====
/- The expert layer and the gated embedding at one element, over plain functions into the extended reals: what both programs
   are shown to compute. -/
module

public import Idealize.ShloMosaic.Lib.Pointwise

@[expose] public section

noncomputable section

namespace Cert.MoeOwn

open Idealize.ShloMosaic

/-- `z / (1 + exp (-z))`. -/
def silu (z : EReal) : EReal := z * Ideal.div 1 (1 + Ideal.exp (-z))

/-- One hidden unit of one expert: the gate's column `a` through `silu`, times the column `b`. -/
def hidden {n : ℕ} (x a b : Fin n → EReal) : EReal := silu (∑ k, x k * a k) * ∑ k, x k * b k

/-- The normalised row `x` at lane `k`, weighted by `g`. -/
def normed {n : ℕ} (x g : Fin n → EReal) (k : Fin n) : EReal :=
  x k * Ideal.rsqrt (Ideal.div (∑ l, x l * x l) (Ideal.ofBits FTy.f32 1149239296#32) + Ideal.ofBits FTy.f32 897988541#32) * g k

/-- The row `x` at a lane with the gated embedding `q` added: the gate is the logistic function of the normalised row times
    the column `w` plus `b`. -/
def withPle {n : ℕ} (x g w : Fin n → EReal) (b q : EReal) (l : Fin n) : EReal :=
  x l + Ideal.div 1 (1 + Ideal.exp (-((∑ k, normed x g k * w k) + b))) * q

end Cert.MoeOwn

end
-- ==== Proof.Moe.Pay.lean ====
/- What the vector expressions of the expert kernel's body are at one element. -/
module

public import proofs.«01_k».proof.Proof.Gen.MoeIdeal.Skeleton
public import proofs.«01_k».proof.Proof.Moe.Spec

@[expose] public section

set_option maxRecDepth 16384

noncomputable section

namespace Cert.MoeIdeal.Own

open Idealize.ShloMosaic Idealize.ShloMosaic.TcCoe Idealize.SL.Sem
open Cert.MoeIdeal Cert.MoeIdeal.Gen Cert.MoeOwn

/-- The kernel's lane test holds at one lane only. -/
theorem lane_eq (x n : ℕ) (hn : n < 16) (hx : x < 128) :
    IntOp.cmpi CmpIPredicate.eq (BitVec.ofNat 32 x) (Scalar.addi (BitVec.ofNat 32 n) 4#32) = BitVec.ofBool (decide (x = n + 4)) := by
  unfold IntOp.cmpi
  congr 1
  show (BitVec.ofNat 32 x == BitVec.ofNat 32 n + 4#32) = _
  rw [Bool.eq_iff_iff, beq_iff_eq, decide_eq_true_iff, ← BitVec.toNat_inj]
  simp only [BitVec.toNat_add, BitVec.toNat_ofNat]
  omega

/-- The zero fill of the accumulator. -/
theorem pay5_apply (j : S1024x1024.Idx) : k0_pay5 (F := Ideal) j = 0 := by
  pointwise [k0_pay5]

/-- One expert's share is added into the accumulator. -/
theorem pay1_apply (g : FVec Ideal S1024x1 .f32) (acc : FVec Ideal S1024x1024 .f32) (h : FVec Ideal S1024x512 .bf16)
    (w : FVec Ideal S512x1024 .bf16) (r l : Fin 1024) :
    k0_pay1 (F := Ideal) g acc h w (ix2 r l) = acc (ix2 r l) + g (ix2 r 0) * ∑ k : Fin 512, h (ix2 r k) * w (ix2 k l) := by
  pointwise [k0_pay1]

/-- The gate column of the grid's expert: a sum over lanes of the gate masked to that lane. -/
theorem pay6_apply (i : grid0.Coords) (v : FVec Ideal S1024x128 .f32) (r : Fin 1024) (z : Fin 1) :
    k0_pay6 (F := Ideal) i v (ix2 r z) = v (ix2 r ⟨(i 1).val + 4, by have : (i 1).val < 16 := (i 1).isLt; omega⟩) := by
  have hi : (i 1).val < 16 := (i 1).isLt
  pointwise [k0_pay6]
  rw [Finset.sum_eq_single (⟨(i 1).val + 4, by omega⟩ : Fin 128)]
  · rw [lane_eq _ _ hi (by omega)]
    simp [Scalar.select]
  · intro x _ hx
    rw [lane_eq _ _ hi x.isLt]
    have : ¬ x.val = (i 1).val + 4 := fun h => hx (Fin.ext h)
    simp [this, Scalar.select]
  · intro h
    exact absurd (Finset.mem_univ _) h

/-- One hidden unit of the grid's expert. -/
theorem pay7_apply (x : FVec Ideal S1024x1024 .bf16) (a b : FVec Ideal S1x1024x512 .bf16) (r : Fin 1024) (f : Fin 512) :
    k0_pay7 (F := Ideal) x a b (ix2 r f)
      = MoeOwn.hidden (fun k => x (ix2 r k)) (fun k => a (ix3 0 k f)) (fun k => b (ix3 0 k f)) := by
  pointwise [k0_pay7]
  simp only [MoeOwn.hidden, silu, zero_sub]

/-- The expert's output weights without their unit axis. -/
theorem pay8_apply (w : FVec Ideal S1x512x1024 .bf16) (f : Fin 512) (l : Fin 1024) :
    k0_pay8 (F := Ideal) w (ix2 f l) = w (ix3 0 f l) := by
  pointwise [k0_pay8]

/-- The last point's result: the residual plus the accumulator, with the gated embedding added. -/
theorem pay4_apply (x acc : FVec Ideal S1024x1024 .f32) (g : FVec Ideal S1x1024 .f32) (wg : FVec Ideal S1024x1024 .bf16)
    (b : FVec Ideal S1x1024 .f32) (p : FVec Ideal S1024x256 .f32) (wp : FVec Ideal S256x1024 .bf16) (r l : Fin 1024) :
    k0_pay2 (F := Ideal) (k0_pay3 x acc) (k0_pay4 x acc g wg b p wp) (ix2 r l)
      = withPle (fun k => x (ix2 r k) + acc (ix2 r k)) (fun k => g (ix2 0 k)) (fun k => wg (ix2 k l)) (b (ix2 0 l))
          (∑ k : Fin 256, p (ix2 r k) * wp (ix2 k l)) l := by
  pointwise [k0_pay4, k0_pay3, k0_pay2]
  simp only [withPle, normed, zero_sub]

end Cert.MoeIdeal.Own

end
-- ==== Proof.Moe.Ref.lean ====
/- The reference of the expert layer at one element. -/
module

public import proofs.«01_k».proof.Proof.Gen.MoeRefIdeal.Run
public import proofs.«01_k».proof.Proof.Moe.Spec

@[expose] public section

set_option maxRecDepth 16384

noncomputable section

namespace Cert.MoeRefIdeal.Own

open Idealize.ShloMosaic Idealize.ShloMosaic.TcCoe Idealize.SL.Sem
open Cert.MoeRefIdeal Cert.MoeRefIdeal.Gen

/-- The hidden units of all experts, as the reference writes them. -/
def hidVec (A0 : FVec Ideal S65536x1024 .bf16) (A4 A5 : FVec Ideal S16x1024x512 .f32) : FVec Ideal S65536x16x512 .f32 :=
  (mulf (mulf (Host.dotGeneral dot_S65536x1024_S16x1024x512_S65536x16x512_1_1_0_02_n_n none (extf .f32 A0 bitsLt_bf16_f32) A5) (Host.divf (broadcastInDim S65536x16x512 ![] bcast_S_S65536x16x512 (constant S_ .f32 0x3F800000#32)) (addf (broadcastInDim S65536x16x512 ![] bcast_S_S65536x16x512 (constant S_ .f32 0x3F800000#32)) (Host.exp (Host.negf (Host.dotGeneral dot_S65536x1024_S16x1024x512_S65536x16x512_1_1_0_02_n_n none (extf .f32 A0 bitsLt_bf16_f32) A5)))))) (Host.dotGeneral dot_S65536x1024_S16x1024x512_S65536x16x512_1_1_0_02_n_n none (extf .f32 A0 bitsLt_bf16_f32) A4))

/-- The residual plus the weighted experts, as the reference writes it. -/
def resVec (A1 : FVec Ideal S65536x128 .f32) (A2 : FVec Ideal S65536x1024 .f32) (A6 : FVec Ideal S16x512x1024 .f32)
    (H : FVec Ideal S65536x16x512 .f32) : FVec Ideal S65536x1024 .f32 :=
  (addf A2 (Host.reduceAdd (mulf (broadcastInDim S65536x16x1024 ![0, 1, 2] bcast_S65536x16x1_S65536x16x1024_0_1_2 (broadcastInDim S65536x16x1 ![0, 1] bcast_S65536x16_S65536x16x1_0_1 (extractStridedSlice S65536x16 ![0, 4] A1 slices_S65536x128_S65536x16_0_4))) (transpose S65536x16x1024 [2, 0, 1] (Host.dotGeneral dot_S16x512x1024_S65536x16x512_S16x1024x65536_1_2_2_0_0_1 none A6 H) transposes_S16x1024x65536_S65536x16x1024_2_0_1)) (constant S_ .f32 0x00000000#32) reducesTo_S65536x16x1024_S65536x1024_d1 h_S_))

/-- The gated embedding added to the rows `X`, as the reference writes it. -/
def pleVec (X : FVec Ideal S65536x1024 .f32) (A3 : FVec Ideal S65536x256 .f32) (A7 : FVec Ideal S1024 .f32)
    (A8 : FVec Ideal S1024x1024 .f32) (A9 : FVec Ideal S1024 .f32) (A10 : FVec Ideal S256x1024 .f32) : FVec Ideal S65536x1024 .f32 :=
  addf X (mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (addf (Host.dotGeneral dot_S65536x1024_S1024x1024_S65536x1024_1_0_0_1_n_n none (mulf (mulf X (broadcastInDim S65536x1024 ![0, 1] bcast_S65536x1_S65536x1024_0_1 (Host.rsqrt (addf (Host.divf (broadcastInDim S65536x1 ![0] bcast_S65536_S65536x1_0 (Host.reduceAdd (mulf X X) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 A7))) A8) (broadcastInDim S65536x1024 ![0, 1] bcast_S1x1024_S65536x1024_0_1 (broadcastInDim S1x1024 ![1] bcast_S1024_S1x1024_1 A9))))))) (Host.dotGeneral dot_S65536x256_S256x1024_S65536x1024_1_0_0_1_n_n none A3 A10))

/-- One hidden unit. -/
theorem hidVec_apply (A0 : FVec Ideal S65536x1024 .bf16) (A4 A5 : FVec Ideal S16x1024x512 .f32) (r : Fin 65536) (e : Fin 16)
    (f : Fin 512) : hidVec A0 A4 A5 (ix3 r e f)
      = MoeOwn.hidden (fun k => A0 (ix2 r k)) (fun k => A5 (ix3 e k f)) (fun k => A4 (ix3 e k f)) := by
  pointwise [hidVec]
  simp only [MoeOwn.hidden, MoeOwn.silu]

/-- The residual plus the experts at one element. -/
theorem resVec_apply (A1 : FVec Ideal S65536x128 .f32) (A2 : FVec Ideal S65536x1024 .f32) (A6 : FVec Ideal S16x512x1024 .f32)
    (H : FVec Ideal S65536x16x512 .f32) (r : Fin 65536) (l : Fin 1024) : resVec A1 A2 A6 H (ix2 r l)
      = A2 (ix2 r l) + ∑ e : Fin 16, A1 (ix2 r ⟨e.val + 4, by omega⟩) * ∑ f : Fin 512, H (ix3 r e f) * A6 (ix3 e f l) := by
  pointwise [resVec]
  refine congrArg (A2 (ix2 r l) + ·) (Finset.sum_congr rfl fun e _ => congrArg₂ (· * ·) (congrArg A1 ?_) (Finset.sum_congr rfl fun f _ => mul_comm _ _))
  exact congrArg (ix2 r) (Fin.ext (Nat.add_comm _ _))

/-- The reference's result at one element. -/
theorem pleVec_apply (X : FVec Ideal S65536x1024 .f32) (A3 : FVec Ideal S65536x256 .f32) (A7 : FVec Ideal S1024 .f32)
    (A8 : FVec Ideal S1024x1024 .f32) (A9 : FVec Ideal S1024 .f32) (A10 : FVec Ideal S256x1024 .f32) (r : Fin 65536) (l : Fin 1024) :
    pleVec X A3 A7 A8 A9 A10 (ix2 r l)
      = MoeOwn.withPle (fun k => X (ix2 r k)) (fun k => A7 (ix1 k)) (fun k => A8 (ix2 k l)) (A9 (ix1 l))
          (∑ k : Fin 256, A3 (ix2 r k) * A10 (ix2 k l)) l := by
  pointwise [pleVec]
  simp only [MoeOwn.withPle, MoeOwn.normed]

/-- The reference's run ends at these terms over its arguments. -/
theorem res_eq (m : (ℓ : Loc nD τ sig) → Buf (Elt Ideal) ℓ) (c : Dev nD) :
    Value.res_main_v38 (F := Ideal) m c
      = pleVec (resVec (m ((c.tc : Thread nD τ).loc main_arg1)) (m ((c.tc : Thread nD τ).loc main_arg2))
          (m ((c.tc : Thread nD τ).loc main_arg6))
          (hidVec (m ((c.tc : Thread nD τ).loc main_arg0)) (m ((c.tc : Thread nD τ).loc main_arg4)) (m ((c.tc : Thread nD τ).loc main_arg5))))
        (m ((c.tc : Thread nD τ).loc main_arg3)) (m ((c.tc : Thread nD τ).loc main_arg7)) (m ((c.tc : Thread nD τ).loc main_arg8))
        (m ((c.tc : Thread nD τ).loc main_arg9)) (m ((c.tc : Thread nD τ).loc main_arg10)) := by
  unfold Value.res_main_v38 pleVec resVec hidVec
  rfl

end Cert.MoeRefIdeal.Own

end
-- ==== Proof.Moe.Kernel.lean ====
/- The expert kernel's result array at one element. -/
module

public import proofs.«01_k».proof.Proof.Gen.MoeIdeal.Value
public import proofs.«01_k».proof.Proof.Moe.Pay
public import proofs.«01_k».proof.Proof.Moe.Ref
public import Idealize.ShloMosaic.Lib.Pipeline.ValueKit

@[expose] public section

set_option maxRecDepth 16384

noncomputable section

namespace Cert.MoeIdeal.Own

open Idealize.ShloMosaic Idealize.ShloMosaic.TcCoe Idealize.SL.Sem
open Idealize.ShloMosaic.Pipeline (Dat)
open Cert.MoeIdeal Cert.MoeIdeal.Gen

variable (m : (ℓ : Loc nD τ sig) → Buf (Elt Ideal) ℓ)

/-- Where each window's block lies at a grid point: tiles of rows by the quotient, experts by the remainder. -/
theorem idx : ∀ t : Fin cfg0.N, win0_0.index t = ![t.val / 16, 0] ∧ win0_1.index t = ![t.val / 16, 0]
    ∧ win0_2.index t = ![t.val / 16, 0] ∧ win0_3.index t = ![t.val / 16, 0] ∧ win0_4.index t = ![t.val % 16, 0, 0]
    ∧ win0_5.index t = ![t.val % 16, 0, 0] ∧ win0_6.index t = ![t.val % 16, 0, 0] ∧ win0_7.index t = ![0, 0]
    ∧ win0_8.index t = ![0, 0] ∧ win0_9.index t = ![0, 0] ∧ win0_10.index t = ![0, 0] ∧ win0_11.index t = ![t.val / 16, 0]
    ∧ (grid0.coords t 1).val = t.val % 16 :=
  (by decide +kernel : ∀ t : Fin grid0.N, _)

/-- What a grid point adds to the accumulator, at an element of the block. -/
def part (c : Dev nD) (t : Fin cfg0.N) (j : S1024x1024.Idx) : EReal :=
  k0_pay6 (F := Ideal) (grid0.coords t) (iblk m c 1 t) (ix2 (j 0) 0)
    * ∑ k : Fin 512, k0_pay7 (F := Ideal) (iblk m c 0 t) (iblk m c 4 t) (iblk m c 5 t) (ix2 (j 0) k)
        * k0_pay8 (F := Ideal) (iblk m c 6 t) (ix2 k (j 1))

/-- The accumulating payload is the accumulator plus the point's part. -/
theorem pay1_part (c : Dev nD) (t : Fin cfg0.N) (acc : FVec Ideal S1024x1024 .f32) (j : S1024x1024.Idx) :
    k0_pay1 (F := Ideal) (k0_pay6 (grid0.coords t) (iblk m c 1 t)) acc (k0_pay7 (iblk m c 0 t) (iblk m c 4 t) (iblk m c 5 t))
      (k0_pay8 (iblk m c 6 t)) j = acc j + part m c t j := by
  obtain ⟨a, b, rfl⟩ : ∃ a b : Fin 1024, j = ix2 a b := ⟨j 0, j 1, eq_ix2 j⟩
  exact pay1_apply _ _ _ _ a b

/-- At the last expert of a tile of rows the accumulator holds the sum of the sixteen experts' parts. -/
theorem acc_sum (c : Dev nD) (t : Fin cfg0.N) (ht : t.val % 16 = 15) (j : S1024x1024.Idx) :
    (outsAt0 m c t.val t.isLt).2 j = ∑ s : Fin 16, part m c ⟨16 * (t.val / 16) + s.val, Pipeline.run_point_lt_of_flush t ht s⟩ j := by
  rw [Pipeline.eq_sum_fin_of_reset_step_apply_of_flush (fun n h => (outsAt0 m c n h).2) 16 (fun _ => 0) (fun p j => part m c p j)
    (fun t h j => by
      rw [outsAt0_A m c t h (by omega)]
      frame_out
      rw [pay1_part, pay5_apply])
    (fun t h j => by
      by_cases h1 : t.val % 16 = 15
      · rw [outsAt0_C m c t h h1]; frame_out
        rw [pay1_part]
        exact congrArg (· + part m c t j) (congrFun ((Memref.isWhole_whole cc0_scratch0).read_unread _) j)
      · rw [outsAt0_B m c t h h1]; frame_out
        rw [pay1_part]
        exact congrArg (· + part m c t j) (congrFun ((Memref.isWhole_whole cc0_scratch0).read_unread _) j)) t ht j, zero_add]

/-- At the last expert the output block is the last payload over the finished accumulator. -/
theorem out_last (c : Dev nD) (t : Fin cfg0.N) (ht : t.val % 16 = 15) :
    (outsAt0 m c t.val t.isLt).1 = k0_pay2 (F := Ideal) (k0_pay3 (iblk m c 2 t) (outsAt0 m c t.val t.isLt).2)
      (k0_pay4 (iblk m c 2 t) (outsAt0 m c t.val t.isLt).2 (iblk m c 7 t) (iblk m c 8 t) (iblk m c 9 t) (iblk m c 3 t) (iblk m c 10 t)) := by
  rw [outsAt0_C m c t (by omega) ht]
  frame_out

/-- The row of the arrays that a tile's row stands for. -/
def row (t : Fin cfg0.N) (a : Fin 1024) : Fin 65536 := ⟨t.val / 16 * 1024 + a.val, by have := lt_of_lt_of_eq t.isLt N_0; omega⟩

/-- The expert of a grid point. -/
def expert (t : Fin cfg0.N) : Fin 16 := ⟨t.val % 16, by omega⟩

theorem read0 (c : Dev nD) (t : Fin cfg0.N) (a k : Fin 1024) :
    (iblk m c 0 t : FVec Ideal S1024x1024 .bf16) (ix2 a k) = (m ((c : Thread nD τ).loc main_arg0) : FVec Ideal S65536x1024 .bf16) (ix2 (row t a) k) := by
  unfold row
  blk_ext [iblk, V_main_arg0, idx t]

theorem read1 (c : Dev nD) (t : Fin cfg0.N) (a : Fin 1024) (k : Fin 128) :
    (iblk m c 1 t : FVec Ideal S1024x128 .f32) (ix2 a k) = (m ((c : Thread nD τ).loc main_arg1) : FVec Ideal S65536x128 .f32) (ix2 (row t a) k) := by
  unfold row
  blk_ext [iblk, V_main_arg1, idx t]

theorem read2 (c : Dev nD) (t : Fin cfg0.N) (a k : Fin 1024) :
    (iblk m c 2 t : FVec Ideal S1024x1024 .f32) (ix2 a k) = (m ((c : Thread nD τ).loc main_arg2) : FVec Ideal S65536x1024 .f32) (ix2 (row t a) k) := by
  unfold row
  blk_ext [iblk, V_main_arg2, idx t]

theorem read3 (c : Dev nD) (t : Fin cfg0.N) (a : Fin 1024) (k : Fin 256) :
    (iblk m c 3 t : FVec Ideal S1024x256 .f32) (ix2 a k) = (m ((c : Thread nD τ).loc main_arg3) : FVec Ideal S65536x256 .f32) (ix2 (row t a) k) := by
  unfold row
  blk_ext [iblk, V_main_arg3, idx t]

theorem read4 (c : Dev nD) (t : Fin cfg0.N) (k : Fin 1024) (f : Fin 512) :
    (iblk m c 4 t : FVec Ideal S1x1024x512 .bf16) (ix3 0 k f) = (m ((c : Thread nD τ).loc main_arg5) : FVec Ideal S16x1024x512 .f32) (ix3 (expert t) k f) := by
  unfold expert
  blk_point [iblk, idx t]

theorem read5 (c : Dev nD) (t : Fin cfg0.N) (k : Fin 1024) (f : Fin 512) :
    (iblk m c 5 t : FVec Ideal S1x1024x512 .bf16) (ix3 0 k f) = (m ((c : Thread nD τ).loc main_arg4) : FVec Ideal S16x1024x512 .f32) (ix3 (expert t) k f) := by
  unfold expert
  blk_point [iblk, idx t]

theorem read6 (c : Dev nD) (t : Fin cfg0.N) (f : Fin 512) (k : Fin 1024) :
    (iblk m c 6 t : FVec Ideal S1x512x1024 .bf16) (ix3 0 f k) = (m ((c : Thread nD τ).loc main_arg6) : FVec Ideal S16x512x1024 .f32) (ix3 (expert t) f k) := by
  unfold expert
  blk_point [iblk, idx t]

theorem read7 (c : Dev nD) (t : Fin cfg0.N) (k : Fin 1024) :
    (iblk m c 7 t : FVec Ideal S1x1024 .f32) (ix2 0 k) = (m ((c : Thread nD τ).loc main_arg7) : FVec Ideal S1024 .f32) (ix1 k) := by
  blk_point [iblk, idx t]

theorem read8 (c : Dev nD) (t : Fin cfg0.N) (k l : Fin 1024) :
    (iblk m c 8 t : FVec Ideal S1024x1024 .bf16) (ix2 k l) = (m ((c : Thread nD τ).loc main_arg8) : FVec Ideal S1024x1024 .f32) (ix2 k l) := by
  blk_point [iblk, idx t]

theorem read9 (c : Dev nD) (t : Fin cfg0.N) (k : Fin 1024) :
    (iblk m c 9 t : FVec Ideal S1x1024 .f32) (ix2 0 k) = (m ((c : Thread nD τ).loc main_arg9) : FVec Ideal S1024 .f32) (ix1 k) := by
  blk_point [iblk, idx t]

theorem read10 (c : Dev nD) (t : Fin cfg0.N) (k : Fin 256) (l : Fin 1024) :
    (iblk m c 10 t : FVec Ideal S256x1024 .bf16) (ix2 k l) = (m ((c : Thread nD τ).loc main_arg10) : FVec Ideal S256x1024 .f32) (ix2 k l) := by
  blk_point [iblk, idx t]

/-- Argument 0, at its own type. -/
abbrev arg0 (c : Dev nD) : FVec Ideal S65536x1024 .bf16 := m ((c : Thread nD τ).loc main_arg0)

/-- Argument 1, at its own type. -/
abbrev arg1 (c : Dev nD) : FVec Ideal S65536x128 .f32 := m ((c : Thread nD τ).loc main_arg1)

/-- Argument 2, at its own type. -/
abbrev arg2 (c : Dev nD) : FVec Ideal S65536x1024 .f32 := m ((c : Thread nD τ).loc main_arg2)

/-- Argument 3, at its own type. -/
abbrev arg3 (c : Dev nD) : FVec Ideal S65536x256 .f32 := m ((c : Thread nD τ).loc main_arg3)

/-- Argument 4, at its own type. -/
abbrev arg4 (c : Dev nD) : FVec Ideal S16x1024x512 .f32 := m ((c : Thread nD τ).loc main_arg4)

/-- Argument 5, at its own type. -/
abbrev arg5 (c : Dev nD) : FVec Ideal S16x1024x512 .f32 := m ((c : Thread nD τ).loc main_arg5)

/-- Argument 6, at its own type. -/
abbrev arg6 (c : Dev nD) : FVec Ideal S16x512x1024 .f32 := m ((c : Thread nD τ).loc main_arg6)

/-- Argument 7, at its own type. -/
abbrev arg7 (c : Dev nD) : FVec Ideal S1024 .f32 := m ((c : Thread nD τ).loc main_arg7)

/-- Argument 8, at its own type. -/
abbrev arg8 (c : Dev nD) : FVec Ideal S1024x1024 .f32 := m ((c : Thread nD τ).loc main_arg8)

/-- Argument 9, at its own type. -/
abbrev arg9 (c : Dev nD) : FVec Ideal S1024 .f32 := m ((c : Thread nD τ).loc main_arg9)

/-- Argument 10, at its own type. -/
abbrev arg10 (c : Dev nD) : FVec Ideal S256x1024 .f32 := m ((c : Thread nD τ).loc main_arg10)

/-- The residual's block at a point. -/
abbrev blk2 (c : Dev nD) (t : Fin cfg0.N) : FVec Ideal S1024x1024 .f32 := iblk m c 2 t

/-- The accumulator after a point. -/
abbrev acc (c : Dev nD) (t : Fin cfg0.N) : FVec Ideal S1024x1024 .f32 := (outsAt0 m c t.val t.isLt).2

/-- A point's part over the arrays: one expert's weighted share of a row. -/
theorem part_eq (c : Dev nD) (t : Fin cfg0.N) (e : Fin 16) (he : expert t = e) (a b : Fin 1024) :
    part m c t (ix2 a b) = arg1 m c (ix2 (row t a) ⟨e.val + 4, by omega⟩)
      * ∑ f : Fin 512, MoeOwn.hidden (fun k => arg0 m c (ix2 (row t a) k))
            (fun k => arg5 m c (ix3 e k f))
            (fun k => arg4 m c (ix3 e k f))
          * arg6 m c (ix3 e f b) := by
  subst he
  have hc : (grid0.coords t 1).val = t.val % 16 := (idx t).2.2.2.2.2.2.2.2.2.2.2.2
  have h1 : ∀ f : Fin 512, k0_pay7 (F := Ideal) (iblk m c 0 t) (iblk m c 4 t) (iblk m c 5 t) (ix2 a f)
      = MoeOwn.hidden (fun k => arg0 m c (ix2 (row t a) k))
            (fun k => arg5 m c (ix3 (expert t) k f))
            (fun k => arg4 m c (ix3 (expert t) k f)) := fun f =>
    (pay7_apply _ _ _ a f).trans (by
      congr 1
      · exact funext fun k => read0 m c t a k
      · exact funext fun k => read4 m c t k f
      · exact funext fun k => read5 m c t k f)
  have h2 : ∀ f : Fin 512, k0_pay8 (F := Ideal) (iblk m c 6 t) (ix2 f b)
      = arg6 m c (ix3 (expert t) f b) := fun f =>
    (pay8_apply _ f b).trans (read6 m c t f b)
  have h3 : k0_pay6 (F := Ideal) (grid0.coords t) (iblk m c 1 t) (ix2 a 0)
      = arg1 m c (ix2 (row t a) ⟨(expert t).val + 4, by omega⟩) :=
    (pay6_apply _ _ a 0).trans ((read1 m c t a _).trans (congrArg _ (congrArg (ix2 (row t a)) (Fin.ext (congrArg (· + 4) hc)))))
  show k0_pay6 (F := Ideal) (grid0.coords t) (iblk m c 1 t) (ix2 a 0)
    * ∑ k : Fin 512, k0_pay7 (F := Ideal) (iblk m c 0 t) (iblk m c 4 t) (iblk m c 5 t) (ix2 a k)
        * k0_pay8 (F := Ideal) (iblk m c 6 t) (ix2 k b) = _
  exact congrArg₂ (· * ·) h3 (Finset.sum_congr rfl fun f _ => congrArg₂ (· * ·) (h1 f) (h2 f))

/-- The reference's rows before the gated embedding, over the kernel's own arguments. -/
abbrev xRef (c : Dev nD) : FVec Ideal S65536x1024 .f32 :=
  MoeRefIdeal.Own.resVec (arg1 m c) (arg2 m c) (arg6 m c)
    (MoeRefIdeal.Own.hidVec (arg0 m c) (arg4 m c) (arg5 m c))

/-- At the last expert the residual plus the accumulator is the reference's row. -/
theorem x_eq (c : Dev nD) (t : Fin cfg0.N) (ht : t.val % 16 = 15) (a k : Fin 1024) :
    blk2 m c t (ix2 a k) + acc m c t (ix2 a k) = xRef m c (ix2 (row t a) k) := by
  refine Eq.trans ?_ (MoeRefIdeal.Own.resVec_apply _ _ _ _ (row t a) k).symm
  refine congrArg₂ (· + ·) (read2 m c t a k) ((acc_sum m c t ht (ix2 a k)).trans (Finset.sum_congr rfl fun s _ => ?_))
  have hr : row ⟨16 * (t.val / 16) + s.val, Pipeline.run_point_lt_of_flush t ht s⟩ a = row t a := Fin.ext (by
    show (16 * (t.val / 16) + s.val) / 16 * 1024 + a.val = t.val / 16 * 1024 + a.val
    omega)
  have he : expert ⟨16 * (t.val / 16) + s.val, Pipeline.run_point_lt_of_flush t ht s⟩ = s := Fin.ext (by
    show (16 * (t.val / 16) + s.val) % 16 = s.val
    omega)
  rw [part_eq m c _ s he, hr]
  exact congrArg _ (Finset.sum_congr rfl fun f _ => congrArg (· * _) (MoeRefIdeal.Own.hidVec_apply _ _ _ (row t a) s f).symm)

/-- The kernel's result array is the reference's term over the kernel's arguments. -/
theorem final (c : Dev nD) : Value.G11 (F := Ideal) m c
    = MoeRefIdeal.Own.pleVec (xRef m c) (arg3 m c) (arg7 m c)
        (arg8 m c) (arg9 m c) (arg10 m c) := by
  rw [← Value.final11]
  refine (dats m 0 c).arrAt_eq_of_covers 11 _ (by decide +kernel) fun t hf y => ?_
  have ht : t.val % 16 = 15 := (flush0_11 t).mp hf
  blk_simp
  rw [after0_11, out_last m c t ht]
  obtain ⟨a, b, rfl⟩ : ∃ a b : Fin 1024, y = ix2 a b := ⟨y 0, y 1, eq_ix2 y⟩
  have hemb : ((cfg0.win 11).blk t).view.emb (ix2 a b) = ix2 (row t a) b := by
    unfold row
    blk_ext [idx t]
  rw [hemb]
  refine (pay4_apply _ _ _ _ _ _ _ a b).trans (Eq.trans ?_ (MoeRefIdeal.Own.pleVec_apply _ _ _ _ _ _ (row t a) b).symm)
  congr 1
  · exact funext fun k => x_eq m c t ht a k
  · exact funext fun k => read7 m c t k
  · exact funext fun k => read8 m c t k b
  · exact read9 m c t b
  · exact Finset.sum_congr rfl fun k _ => congrArg₂ (· * ·) (read3 m c t a k) (read10 m c t k b)

end Cert.MoeIdeal.Own

end
-- ==== Proof.Merge.Top.lean ====
/- The first greatest position of a finite row: what a stable descending sort puts in front, and what a maximum over lanes with
   the least lane that attains it finds. -/
module

public import Idealize.ShloMosaic.Lib.Pointwise
public import Idealize.ShloMosaic.Lib.SortFacts

@[expose] public section

noncomputable section

namespace Cert.RouteOwn

open Idealize.ShloMosaic

/-- `i` is the first position at which `v` is greatest. -/
structure IsTop {n : ℕ} (v : Fin n → EReal) (i : Fin n) : Prop where
  le : ∀ j, v j ≤ v i
  lt : ∀ j, j < i → v j < v i

/-- `v` with one position lowered to `⊥`. -/
def without {n : ℕ} (v : Fin n → EReal) (i : Fin n) (j : Fin n) : EReal := if j = i then ⊥ else v j

/-! ### The stable sort, greater first -/

/-- Position `i` comes before position `j`: its value is greater, or the values are equal and `i` is less. -/
def Before {n : ℕ} (v : Fin n → EReal) (i j : Fin n) : Prop := v j < v i ∨ v i = v j ∧ i < j

theorem Before.trans {n : ℕ} {v : Fin n → EReal} {i j k : Fin n} (h : Before v i j) (h' : Before v j k) : Before v i k := by
  rcases h with h | ⟨h, g⟩ <;> rcases h' with h' | ⟨h', g'⟩
  · exact .inl (h'.trans h)
  · exact .inl (h' ▸ h)
  · exact .inl (h ▸ h')
  · exact .inr ⟨h.trans h', g.trans g'⟩

/-- Inserting a position that is less than all others into a sorted list leaves it sorted. -/
theorem pairwise_insert {n : ℕ} (v : Fin n → EReal) (before : Fin n → Fin n → Bool)
    (hb : ∀ i j, before i j = true ↔ v j < v i) (a : Fin n) (l : List (Fin n)) (hl : l.Pairwise (Before v))
    (ha : ∀ b ∈ l, a < b) : (insertBefore before a l).Pairwise (Before v) := by
  induction l with
  | nil => exact List.pairwise_singleton _ _
  | cons b l ih =>
    rw [List.pairwise_cons] at hl
    unfold insertBefore
    by_cases h : before b a = true
    · rw [if_pos h, List.pairwise_cons]
      refine ⟨fun c hc => ?_, ih hl.2 fun c hc => ha c (List.mem_cons_of_mem _ hc)⟩
      rcases List.mem_cons.mp ((perm_insertBefore before a l).mem_iff.mp hc) with rfl | hc
      · exact .inl ((hb _ _).mp h)
      · exact hl.1 c hc
    · rw [if_neg h]
      have hab : Before v a b := by
        rcases lt_or_eq_of_le (not_lt.mp fun g => h ((hb _ _).mpr g)) with g | g
        · exact .inl g
        · exact .inr ⟨g.symm, ha b List.mem_cons_self⟩
      refine List.pairwise_cons.mpr ⟨fun c hc => ?_, List.pairwise_cons.mpr hl⟩
      rcases List.mem_cons.mp hc with rfl | hc
      · exact hab
      · exact hab.trans (hl.1 c hc)

/-- The stable sort of an increasing list of positions is sorted. -/
theorem pairwise_sort {n : ℕ} (v : Fin n → EReal) (before : Fin n → Fin n → Bool)
    (hb : ∀ i j, before i j = true ↔ v j < v i) (l : List (Fin n)) (hl : l.Pairwise (· < ·)) :
    (stableSort before l).Pairwise (Before v) := by
  induction l with
  | nil => exact List.Pairwise.nil
  | cons a l ih =>
    rw [List.pairwise_cons] at hl
    exact pairwise_insert v before hb a _ (ih hl.2) fun b hm => hl.1 b ((perm_stableSort before l).mem_iff.mp hm)

/-- The positions of the sorted row, in order. -/
theorem sorted_before {n : ℕ} (v : Fin n → EReal) (before : Fin n → Fin n → Bool)
    (hb : ∀ i j, before i j = true ↔ v j < v i) {k k' : Fin n} (h : k < k') :
    Before v (sortedFrom before k) (sortedFrom before k') := by
  have hp := pairwise_sort v before hb (List.finRange n) (List.pairwise_lt_finRange n)
  exact List.pairwise_iff_get.mp hp _ _ h

/-- The sorted row's first position is the first greatest one. -/
theorem isTop_sorted_zero {n : ℕ} (v : Fin (n + 1) → EReal) (before : Fin (n + 1) → Fin (n + 1) → Bool)
    (hb : ∀ i j, before i j = true ↔ v j < v i) : IsTop v (sortedFrom before 0) := by
  have key : ∀ j, j = sortedFrom before 0 ∨ Before v (sortedFrom before 0) j := fun j => by
    obtain ⟨k, rfl⟩ := sortedFrom_surjective before j
    rcases Fin.eq_zero_or_eq_succ k with rfl | ⟨k, rfl⟩
    · exact .inl rfl
    · exact .inr (sorted_before v before hb (Fin.succ_pos k))
  constructor
  · intro j
    rcases key j with rfl | h | ⟨h, -⟩
    · exact le_rfl
    · exact h.le
    · exact h.ge
  · intro j hj
    rcases key j with h | h | ⟨-, h⟩
    · exact absurd (h ▸ hj) (lt_irrefl _)
    · exact h
    · exact absurd (hj.trans h) (lt_irrefl _)

/-- The sorted row's second position is the first greatest one of the others. -/
theorem isTop_sorted_one {n : ℕ} (v : Fin (n + 2) → EReal) (before : Fin (n + 2) → Fin (n + 2) → Bool)
    (hb : ∀ i j, before i j = true ↔ v j < v i) (hv : ∀ j, v j ≠ ⊥) :
    sortedFrom before 1 ≠ sortedFrom before 0 ∧ IsTop (without v (sortedFrom before 0)) (sortedFrom before 1) := by
  have hne : sortedFrom before 1 ≠ sortedFrom before 0 := fun h => by
    have := sortedFrom_injective before h
    exact absurd (congrArg Fin.val this) Nat.one_ne_zero
  have key : ∀ j, j = sortedFrom before 0 ∨ j = sortedFrom before 1 ∨ Before v (sortedFrom before 1) j := fun j => by
    obtain ⟨k, rfl⟩ := sortedFrom_surjective before j
    rcases Fin.eq_zero_or_eq_succ k with rfl | ⟨k, rfl⟩
    · exact .inl rfl
    · rcases Fin.eq_zero_or_eq_succ k with rfl | ⟨k, rfl⟩
      · exact .inr (.inl rfl)
      · exact .inr (.inr (sorted_before v before hb (by simp [Fin.lt_def])))
  refine ⟨hne, ?_, ?_⟩
  · intro j
    unfold without
    rw [if_neg hne]
    split
    · exact bot_le
    · rename_i h0
      rcases key j with h | rfl | h | ⟨h, -⟩
      · exact absurd h h0
      · exact le_rfl
      · exact h.le
      · exact h.ge
  · intro j hj
    unfold without
    rw [if_neg hne]
    split
    · exact bot_lt_iff_ne_bot.mpr (hv _)
    · rename_i h0
      rcases key j with h | h | h | ⟨-, h⟩
      · exact absurd h h0
      · exact absurd (h ▸ hj) (lt_irrefl _)
      · exact h
      · exact absurd (hj.trans h) (lt_irrefl _)

/-! ### A maximum over lanes and the least lane that attains it -/

/-- The greatest value is the value at the first greatest position. -/
theorem IsTop.fold_max {n : ℕ} {w : Fin n → EReal} {i : Fin n} (h : IsTop w i) :
    Finset.univ.fold max (⊥ : EReal) w = w i :=
  le_antisymm ((Finset.fold_max_le _).mpr ⟨bot_le, fun j _ => h.le j⟩)
    ((Finset.le_fold_max _).mpr (.inr ⟨i, Finset.mem_univ i, le_rfl⟩))

/-- The least number of a lane that attains the greatest value is the first greatest position. -/
theorem IsTop.fold_min {n : ℕ} {w : Fin n → EReal} {i : Fin n} (h : IsTop w i) (b : EReal) (hb : ((i.val : ℝ) : EReal) ≤ b) :
    Finset.univ.fold min (⊤ : EReal) (fun l : Fin n => if w l = w i then (((l.val : ℕ) : ℝ) : EReal) else b) = ((i.val : ℝ) : EReal) := by
  refine le_antisymm ((Finset.fold_min_le _).mpr (.inr ⟨i, Finset.mem_univ i, by rw [if_pos rfl]⟩))
    ((Finset.le_fold_min _).mpr ⟨le_top, fun j _ => ?_⟩)
  split
  · rename_i hj
    have : i ≤ j := not_lt.mp fun g => absurd (h.lt j g) (hj ▸ lt_irrefl _)
    exact EReal.coe_le_coe_iff.mpr (Nat.cast_le.mpr this)
  · exact hb

/-- A row laid into more lanes, in order, with `⊥` in the others: its first greatest position goes along. -/
theorem IsTop.lift {n m : ℕ} {v : Fin n → EReal} {w : Fin m → EReal} {i : Fin n} (h : IsTop v i) (φ : Fin n → Fin m)
    (hφ : StrictMono φ) (hw : ∀ j, w (φ j) = v j) (h0 : ∀ l, (∀ j, l ≠ φ j) → w l = ⊥) (hi : v i ≠ ⊥) : IsTop w (φ i) := by
  constructor
  · intro l
    by_cases hl : ∃ j, l = φ j
    · obtain ⟨j, rfl⟩ := hl
      rw [hw, hw]
      exact h.le j
    · rw [h0 l (not_exists.mp hl)]
      exact bot_le
  · intro l g
    rw [hw]
    by_cases hl : ∃ j, l = φ j
    · obtain ⟨j, rfl⟩ := hl
      rw [hw]
      exact h.lt j (hφ.lt_iff_lt.mp g)
    · rw [h0 l (not_exists.mp hl)]
      exact bot_lt_iff_ne_bot.mpr hi

/-- A row has at most one first greatest position. -/
theorem IsTop.unique {n : ℕ} {v : Fin n → EReal} {i j : Fin n} (h : IsTop v i) (h' : IsTop v j) : i = j := by
  rcases lt_trichotomy i j with g | g | g
  · exact absurd (h'.lt i g) (not_lt.mpr (h.le j))
  · exact g
  · exact absurd (h.lt j g) (not_lt.mpr (h'.le i))

end Cert.RouteOwn

end
-- ==== Proof.Merge.Spec.lean ====
/- The merge of the two branches and the two-level routing at one row, over plain functions into the extended reals. -/
module

public import proofs.«01_k».proof.Proof.Moe.Spec
public import proofs.«01_k».proof.Proof.Merge.Top

@[expose] public section

noncomputable section

namespace Cert.RouteOwn

open Idealize.ShloMosaic

/-- The row `x` plus the two branches: each one's row times its matrix, weighted lane by lane, the sum times the matrix `wo`. -/
def joined {n d : ℕ} (x ga gb : Fin d → EReal) (oa ob : Fin n → EReal) (wa wb : Fin n → Fin d → EReal)
    (wo : Fin d → Fin d → EReal) (l : Fin d) : EReal :=
  x l + ∑ k, (ga k * ∑ j, oa j * wa j k + gb k * ∑ j, ob j * wb j k) * wo k l

/-- The weight that the softmax gives to position `s`, when that is the greatest. -/
def share {n : ℕ} (g : Fin n → EReal) (s : Fin n) : EReal := Ideal.div 1 (∑ j, Ideal.exp (g j - g s))

/-- The four experts' scores of group `s`. -/
def members (e : Fin 16 → EReal) (s j : Fin 4) : EReal := e ⟨4 * s.val + j.val, by omega⟩

/-- The weight of the best expert of the group: the group's share `q` times the larger of two softmax weights. -/
def firstW (q a b : EReal) : EReal := Ideal.div q (1 + Ideal.exp (b - a))

/-- The weight of the second expert. -/
def secondW (q a b : EReal) : EReal := Ideal.div (q * Ideal.exp (b - a)) (1 + Ideal.exp (b - a))

/-- The gate at a lane: lane `4 + e` is expert `e`'s; the two chosen experts `i`, `j` of group `s` have weights, others 0. -/
def gateAt (g : Fin 4 → EReal) (e : Fin 16 → EReal) (s i j : Fin 4) (l : Fin 128) : EReal :=
  (if l.val = 4 + (4 * s.val + i.val) then firstW (share g s) (members e s i) (members e s j) else 0)
    + (if l.val = 4 + (4 * s.val + j.val) then secondW (share g s) (members e s i) (members e s j) else 0)

/-! ### The printed constants -/

theorem lit_1024 : Ideal.ofBits FTy.f32 0x44800000#32 = ((1024 : ℝ) : EReal) := by
  simp [Ideal.ofBits, Ideal.ieee]
  rw [← EReal.coe_mul]
  norm_num

theorem lit_eps : ∃ r : ℝ, 0 < r ∧ Ideal.ofBits FTy.f32 0x358637BD#32 = (r : EReal) := by
  refine ⟨8796093 * (2 ^ 43)⁻¹, by positivity, ?_⟩
  simp [Ideal.ofBits, Ideal.ieee]

theorem lit_128 : Ideal.ofBits FTy.f32 0x43000000#32 = ((128 : ℝ) : EReal) := by
  simp [Ideal.ofBits, Ideal.ieee]
  rw [← EReal.coe_mul]
  norm_num

theorem lit_neg_one : Ideal.ofBits FTy.f32 0xBF800000#32 = ((-1 : ℝ) : EReal) := by
  simp [Ideal.ofBits, Ideal.ieee]
  rw [← EReal.coe_mul]
  norm_num

theorem lit_bot : Ideal.ofBits FTy.f32 0xFF800000#32 = ⊥ := by
  simp [Ideal.ofBits, Ideal.ieee]

theorem lit_top : Ideal.ofBits FTy.f32 0x7F800000#32 = ⊤ := by
  simp [Ideal.ofBits, Ideal.ieee]

/-! ### Values that are real -/

/-- A value that is neither infinity. -/
def IsReal (x : EReal) : Prop := ∃ r : ℝ, x = (r : EReal)

theorem fin_mul {x y : EReal} (hx : IsReal x) (hy : IsReal y) : IsReal (x * y) := by
  obtain ⟨a, rfl⟩ := hx
  obtain ⟨b, rfl⟩ := hy
  exact ⟨a * b, (EReal.coe_mul a b).symm⟩

theorem fin_add {x y : EReal} (hx : IsReal x) (hy : IsReal y) : IsReal (x + y) := by
  obtain ⟨a, rfl⟩ := hx
  obtain ⟨b, rfl⟩ := hy
  exact ⟨a + b, (EReal.coe_add a b).symm⟩

theorem fin_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact fin_add (h a (Finset.mem_insert_self a s)) (ih fun i hi => h i (Finset.mem_insert_of_mem hi))

theorem fin_sub_self {x : EReal} (hx : IsReal x) : x - x = 0 := by
  obtain ⟨a, rfl⟩ := hx
  rw [← EReal.coe_sub, sub_self, EReal.coe_zero]

theorem fin_ne_bot {x : EReal} (hx : IsReal x) : x ≠ ⊥ := by
  obtain ⟨a, rfl⟩ := hx
  exact EReal.coe_ne_bot a

/-- A square is not negative. -/
theorem sq_nonneg (x : EReal) : 0 ≤ x * x := by
  induction x with
  | bot => simp
  | top => simp
  | coe a => rw [← EReal.coe_mul]; exact EReal.coe_nonneg.mpr (mul_self_nonneg a)

/-- The normalised row is real wherever its weight is: when an entry of the row is infinite, the factor is zero. -/
theorem normed_fin {n : ℕ} (x g : Fin n → EReal) (k : Fin n) (hg : IsReal (g k)) : IsReal (MoeOwn.normed x g k) := by
  unfold MoeOwn.normed
  refine fin_mul ?_ hg
  obtain ⟨ε, hε, hlit⟩ := lit_eps
  rw [show (897988541#32) = 0x358637BD#32 from rfl, show (1149239296#32) = 0x44800000#32 from rfl, hlit, lit_1024]
  have h0 : 0 ≤ ∑ l, x l * x l := Finset.sum_nonneg fun l _ => sq_nonneg (x l)
  have hdiv : ∀ y : EReal, Ideal.div y ((1024 : ℝ) : EReal) = y * ((1024⁻¹ : ℝ) : EReal) := fun y => by
    unfold Ideal.div
    rw [if_neg (by exact_mod_cast (by norm_num : (1024 : ℝ) ≠ 0)), EReal.coe_inv]
  rw [hdiv]
  by_cases hx : ∀ l, IsReal (x l)
  · obtain ⟨s, hs⟩ := fin_sum Finset.univ (fun l => x l * x l) fun l _ => fin_mul (hx l) (hx l)
    rw [hs] at h0 ⊢
    have hs0 : 0 ≤ s := EReal.coe_nonneg.mp h0
    rw [← EReal.coe_mul, ← EReal.coe_add]
    have hp : 0 < s * 1024⁻¹ + ε := by positivity
    refine fin_mul (hx k) ⟨(Real.sqrt (s * 1024⁻¹ + ε))⁻¹, ?_⟩
    show (if s * 1024⁻¹ + ε < 0 then ⊥ else if s * 1024⁻¹ + ε = 0 then ⊤ else _) = _
    rw [if_neg hp.le.not_gt, if_neg hp.ne']
  · obtain ⟨l, hl⟩ := not_forall.mp hx
    have htop : x l * x l = ⊤ := by
      generalize x l = y at hl
      induction y with
      | bot => rfl
      | top => rfl
      | coe a => exact absurd ⟨a, rfl⟩ hl
    have hs : ∑ l, x l * x l = ⊤ :=
      top_le_iff.mp (htop ▸ Finset.single_le_sum (f := fun l => x l * x l) (fun i _ => sq_nonneg (x i)) (Finset.mem_univ l))
    rw [hs, EReal.top_mul_coe_of_pos (by norm_num), EReal.top_add_coe]
    exact ⟨0, by show x k * 0 = _; simp⟩

end Cert.RouteOwn

end
-- ==== Proof.Merge.Pay.lean ====
/- What the vector expressions of the merge-and-route kernel's body are at one element. -/
module

public import proofs.«01_k».proof.Proof.Gen.MergeIdeal.Skeleton
public import proofs.«01_k».proof.Proof.Merge.Spec

@[expose] public section

set_option maxRecDepth 16384

noncomputable section

namespace Cert.MergeIdeal.Own

open Idealize.ShloMosaic Idealize.ShloMosaic.TcCoe Idealize.SL.Sem
open Cert.MergeIdeal Cert.MergeIdeal.Gen Cert.RouteOwn

/-- The joined row. -/
theorem pay2_apply (ga : FVec Ideal S512x1024 .bf16) (oa : FVec Ideal S512x512 .bf16) (wa gb : FVec Ideal S512x1024 .bf16)
    (ob : FVec Ideal S512x512 .bf16) (wb : FVec Ideal S512x1024 .bf16) (x : FVec Ideal S512x1024 .f32)
    (wo : FVec Ideal S1024x1024 .bf16) (r : Fin 512) (l : Fin 1024) :
    k0_pay2 (F := Ideal) ga oa wa gb ob wb x wo (ix2 r l)
      = joined (fun k => x (ix2 r k)) (fun k => ga (ix2 r k)) (fun k => gb (ix2 r k)) (fun j => oa (ix2 r j)) (fun j => ob (ix2 r j))
          (fun j k => wa (ix2 j k)) (fun j k => wb (ix2 j k)) (fun k l => wo (ix2 k l)) l := by
  pointwise [k0_pay2]
  rfl

/-- The factor that normalises a row. -/
theorem pay4_apply (ga : FVec Ideal S512x1024 .bf16) (oa : FVec Ideal S512x512 .bf16) (wa gb : FVec Ideal S512x1024 .bf16)
    (ob : FVec Ideal S512x512 .bf16) (wb : FVec Ideal S512x1024 .bf16) (x : FVec Ideal S512x1024 .f32)
    (wo : FVec Ideal S1024x1024 .bf16) (r : Fin 512) (z : Fin 1) :
    k0_pay4 (F := Ideal) ga oa wa gb ob wb x wo (ix2 r z)
      = Ideal.rsqrt (Ideal.div (∑ l, k0_pay2 (F := Ideal) ga oa wa gb ob wb x wo (ix2 r l) * k0_pay2 (F := Ideal) ga oa wa gb ob wb x wo (ix2 r l))
          (Ideal.ofBits FTy.f32 1149239296#32) + Ideal.ofBits FTy.f32 897988541#32) := by
  pointwise [k0_pay4]

/-- A row times its factor and its weights. -/
theorem pay5_apply (x : FVec Ideal S512x1024 .f32) (g : FVec Ideal S1x1024 .f32) (d : FVec Ideal S512x1 .f32) (r : Fin 512)
    (k : Fin 1024) : k0_pay5 (F := Ideal) x g d (ix2 r k) = x (ix2 r k) * d (ix2 r 0) * g (ix2 0 k) := by
  pointwise [k0_pay5]

/-- The routers' scores of a row: where the row is real and the weights' low parts are zero, one product. -/
theorem pay7_apply (x : FVec Ideal S512x1024 .f32) (g : FVec Ideal S1x1024 .f32) (d : FVec Ideal S512x1 .f32)
    (hi lo : FVec Ideal S1024x128 .bf16) (b : FVec Ideal S1x128 .f32) (r : Fin 512) (l : Fin 128)
    (hx : ∀ k, IsReal (k0_pay5 (F := Ideal) x g d (ix2 r k))) (hlo : ∀ k, lo (ix2 k l) = 0) :
    k0_pay7 (F := Ideal) x g d hi lo b (ix2 r l) = ∑ k, k0_pay5 (F := Ideal) x g d (ix2 r k) * hi (ix2 k l) + b (ix2 0 l) := by
  pointwise [k0_pay7]
  simp only [fin_sub_self (hx _), hlo, zero_mul, mul_zero, Finset.sum_const_zero, add_zero]

/-- The number of a lane. -/
theorem pay8_apply (r : Fin 512) (l : Fin 128) : k0_pay8 (F := Ideal) (ix2 r l) = (((l.val : ℕ) : ℝ) : EReal) := by
  pointwise [k0_pay8]
  show (((BitVec.ofNat 32 l.val).toInt : ℝ) : EReal) = _
  rw [(by decide +kernel : ∀ l : Fin 128, (BitVec.ofNat 32 l.val).toInt = (l.val : ℤ)) l, Int.cast_natCast]

/-- The groups' lanes are the first four. -/
theorem pay9_apply (r : Fin 512) (l : Fin 128) : k0_pay9 (ix2 r l) = BitVec.ofBool (decide (l.val < 4)) := by
  pointwise [k0_pay9]
  exact (by decide +kernel : ∀ l : Fin 128, IntOp.cmpi CmpIPredicate.slt (BitVec.ofNat 32 l.val) 4#32 = BitVec.ofBool (decide (l.val < 4))) l

section Groups

variable (x : FVec Ideal S512x1024 .f32) (g : FVec Ideal S1x1024 .f32) (d : FVec Ideal S512x1 .f32)
    (hi lo : FVec Ideal S1024x128 .bf16) (b : FVec Ideal S1x128 .f32) (r : Fin 512)

/-- The scores of the four groups, in the lanes of a row. -/
theorem pay10_apply (l : Fin 128) : k0_pay10 (F := Ideal) x g d hi lo b (ix2 r l)
    = if l.val < 4 then k0_pay7 (F := Ideal) x g d hi lo b (ix2 r l) else ⊥ := by
  pointwise [k0_pay10]
  rw [pay9_apply, lit_bot]
  by_cases h : l.val < 4 <;> simp [h, Scalar.select]

/-- The lane of a group. -/
def grpLane (j : Fin 4) : Fin 128 := ⟨j.val, by omega⟩

variable {s : Fin 4} (hs : IsTop (fun j => k0_pay7 (F := Ideal) x g d hi lo b (ix2 r (grpLane j))) s)
    (hb : k0_pay7 (F := Ideal) x g d hi lo b (ix2 r (grpLane s)) ≠ ⊥)
include hs hb

/-- The first greatest group is the first greatest lane. -/
theorem grp_top : IsTop (fun l => k0_pay10 (F := Ideal) x g d hi lo b (ix2 r l)) (grpLane s) :=
  hs.lift grpLane (fun _ _ h => h) (fun j => by
      show k0_pay10 (F := Ideal) x g d hi lo b (ix2 r (grpLane j)) = _
      rw [pay10_apply, if_pos (show (grpLane j).val < 4 from j.isLt)])
    (fun l hl => by
      show k0_pay10 (F := Ideal) x g d hi lo b (ix2 r l) = ⊥
      rw [pay10_apply, if_neg fun h => hl ⟨l.val, h⟩ rfl]) hb

/-- The greatest group score. -/
theorem pay11_apply (z : Fin 1) : k0_pay11 (F := Ideal) x g d hi lo b (ix2 r z)
    = k0_pay7 (F := Ideal) x g d hi lo b (ix2 r (grpLane s)) := by
  pointwise [k0_pay11]
  rw [show (4286578688#32) = 0xFF800000#32 from rfl, lit_bot]
  refine (grp_top x g d hi lo b r hs hb).fold_max.trans ?_
  show k0_pay10 (F := Ideal) x g d hi lo b (ix2 r (grpLane s)) = _
  rw [pay10_apply, if_pos (show (grpLane s).val < 4 from s.isLt)]

/-- The number of the chosen group. -/
theorem pay12_apply (z : Fin 1) : k0_pay12 (F := Ideal) x g d hi lo b (ix2 r z) = (((s.val : ℕ) : ℝ) : EReal) := by
  have h10 : k0_pay10 (F := Ideal) x g d hi lo b (ix2 r (grpLane s)) = k0_pay7 (F := Ideal) x g d hi lo b (ix2 r (grpLane s)) := by
    rw [pay10_apply, if_pos (show (grpLane s).val < 4 from s.isLt)]
  pointwise [k0_pay12]
  rw [show (2139095040#32) = 0x7F800000#32 from rfl, lit_top, show (1124073472#32) = 0x43000000#32 from rfl, lit_128]
  simp only [pay8_apply]
  rw [pay11_apply x g d hi lo b r hs hb, ← h10]
  exact (grp_top x g d hi lo b r hs hb).fold_min _ (EReal.coe_le_coe_iff.mpr (by
    have : (grpLane s).val ≤ 128 := (grpLane s).isLt.le
    exact_mod_cast this))

/-- The chosen group's weight. -/
theorem share_apply (z : Fin 1) : k0_pay14 (F := Ideal) (k0_pay13 (F := Ideal) x g d hi lo b) (ix2 r z)
    = share (fun j => k0_pay7 (F := Ideal) x g d hi lo b (ix2 r (grpLane j))) s := by
  pointwise [k0_pay14, k0_pay13]
  simp only [pay9_apply, pay10_apply, pay11_apply x g d hi lo b r hs hb]
  unfold share
  congr 1
  rw [Fin.sum_univ_two_halves 4 124 rfl]
  rw [Finset.sum_eq_zero (s := (Finset.univ : Finset (Fin 124))), add_zero]
  · refine Finset.sum_congr rfl fun j _ => ?_
    have hj : (⟨j.val, by omega⟩ : Fin 128) = grpLane j := rfl
    simp [Scalar.select, grpLane]
  · intro j _
    simp [Scalar.select]

end Groups

/-- Whether a lane is one of the chosen group's experts. -/
theorem lane_test (l : Fin 128) (s : Fin 4) (w : BitVec 32) (hw : w = BitVec.ofNat 32 l.val) (q : EReal)
    (hq : q = (((s.val : ℕ) : ℝ) : EReal)) :
    (Scalar.select (IntOp.andi (IntOp.cmpi CmpIPredicate.sge (IntOp.subi w 4#32) 0#32)
        (IntOp.cmpi CmpIPredicate.slt (IntOp.subi w 4#32) 16#32))
      (FloatOps.sitofp (F := Ideal) FTy.f32 (IntOp.shrsi ArithUnit.vector (IntOp.subi w 4#32) 2#32))
      (Ideal.ofBits FTy.f32 3212836864#32) = q) ↔ 4 ≤ l.val ∧ l.val < 20 ∧ (l.val - 4) / 4 = s.val := by
  subst hw hq
  rw [(by decide +kernel : ∀ l : Fin 128, IntOp.andi (IntOp.cmpi CmpIPredicate.sge (IntOp.subi (BitVec.ofNat 32 l.val) 4#32) 0#32)
        (IntOp.cmpi CmpIPredicate.slt (IntOp.subi (BitVec.ofNat 32 l.val) 4#32) 16#32)
      = BitVec.ofBool (decide (4 ≤ l.val ∧ l.val < 20))) l]
  by_cases h : 4 ≤ l.val ∧ l.val < 20
  · have hw : (IntOp.shrsi ArithUnit.vector (IntOp.subi (BitVec.ofNat 32 l.val) 4#32) 2#32).toInt = (((l.val - 4) / 4 : ℕ) : ℤ) :=
      (by decide +kernel : ∀ l : Fin 128, 4 ≤ l.val ∧ l.val < 20 →
        (IntOp.shrsi ArithUnit.vector (IntOp.subi (BitVec.ofNat 32 l.val) 4#32) 2#32).toInt = (((l.val - 4) / 4 : ℕ) : ℤ)) l h
    have hf : FloatOps.sitofp (F := Ideal) FTy.f32 (IntOp.shrsi ArithUnit.vector (IntOp.subi (BitVec.ofNat 32 l.val) 4#32) 2#32)
        = ((((l.val - 4) / 4 : ℕ) : ℝ) : EReal) := by
      show (((IntOp.shrsi ArithUnit.vector (IntOp.subi (BitVec.ofNat 32 l.val) 4#32) 2#32).toInt : ℝ) : EReal) = _
      rw [hw, Int.cast_natCast]
    simp only [h, and_self, decide_true, Scalar.select, BitVec.ofBool_true, ↓reduceIte, true_and]
    rw [hf, EReal.coe_eq_coe_iff, Nat.cast_inj]
  · rw [show (3212836864#32) = 0xBF800000#32 from rfl, lit_neg_one]
    simp only [h, decide_false, Scalar.select, BitVec.ofBool_false]
    refine ⟨fun g => ?_, fun g => absurd ⟨g.1, g.2.1⟩ h⟩
    exfalso
    rw [if_neg (by decide), EReal.coe_eq_coe_iff] at g
    have : (0 : ℝ) ≤ (s.val : ℝ) := Nat.cast_nonneg _
    linarith

section Experts

variable (v : FVec Ideal S512x128 .f32) (w : IVec S512x128 32) (q : FVec Ideal S512x1 .f32) (r : Fin 512) {s : Fin 4}
    (hw : ∀ l : Fin 128, w (ix2 r l) = BitVec.ofNat 32 l.val) (hq : q (ix2 r 0) = (((s.val : ℕ) : ℝ) : EReal))

/-- The lane of an expert of a group. -/
def expLane (s j : Fin 4) : Fin 128 := ⟨4 + (4 * s.val + j.val), by omega⟩

theorem expLane_mono (s : Fin 4) : StrictMono (expLane s) := fun i j h => by
  show 4 + (4 * s.val + i.val) < 4 + (4 * s.val + j.val)
  have : i.val < j.val := h
  omega

include hw hq

/-- The scores of the chosen group's experts, in the lanes of a row. -/
theorem pay15_apply (l : Fin 128) : k0_pay15 (F := Ideal) v w q (ix2 r l)
    = if 4 ≤ l.val ∧ l.val < 20 ∧ (l.val - 4) / 4 = s.val then v (ix2 r l) else ⊥ := by
  pointwise [k0_pay15]
  rw [show (4286578688#32) = 0xFF800000#32 from rfl, lit_bot]
  exact if_congr (lane_test l s _ (hw l) _ hq) rfl rfl

theorem pay15_lane (j : Fin 4) : k0_pay15 (F := Ideal) v w q (ix2 r (expLane s j)) = v (ix2 r (expLane s j)) := by
  rw [pay15_apply v w q r hw hq, if_pos]
  show 4 ≤ 4 + (4 * s.val + j.val) ∧ 4 + (4 * s.val + j.val) < 20 ∧ (4 + (4 * s.val + j.val) - 4) / 4 = s.val
  omega

theorem pay15_other (l : Fin 128) (hl : ∀ j, l ≠ expLane s j) : k0_pay15 (F := Ideal) v w q (ix2 r l) = ⊥ := by
  rw [pay15_apply v w q r hw hq, if_neg]
  rintro ⟨h1, h2, h3⟩
  exact hl ⟨(l.val - 4) % 4, by omega⟩ (Fin.ext (show l.val = 4 + (4 * s.val + (l.val - 4) % 4) by omega))

variable {i j : Fin 4} (hi : IsTop (fun k => v (ix2 r (expLane s k))) i) (hv : ∀ k, v (ix2 r (expLane s k)) ≠ ⊥)
include hi hv

theorem exp_top : IsTop (fun l => k0_pay15 (F := Ideal) v w q (ix2 r l)) (expLane s i) :=
  hi.lift (expLane s) (expLane_mono s) (pay15_lane v w q r hw hq) (pay15_other v w q r hw hq) (hv i)

/-- The best expert's score. -/
theorem pay16_apply (z : Fin 1) : k0_pay16 (F := Ideal) v w q (ix2 r z) = v (ix2 r (expLane s i)) := by
  pointwise [k0_pay16]
  rw [show (4286578688#32) = 0xFF800000#32 from rfl, lit_bot]
  exact (exp_top v w q r hw hq hi hv).fold_max.trans (pay15_lane v w q r hw hq i)

/-- The best expert's lane. -/
theorem pay17_apply (z : Fin 1) : k0_pay17 (F := Ideal) v w k0_pay8 q (ix2 r z) = ((((expLane s i).val : ℕ) : ℝ) : EReal) := by
  pointwise [k0_pay17]
  rw [show (2139095040#32) = 0x7F800000#32 from rfl, lit_top, show (1124073472#32) = 0x43000000#32 from rfl, lit_128]
  simp only [pay8_apply]
  rw [pay16_apply v w q r hw hq hi hv, ← pay15_lane v w q r hw hq i]
  exact (exp_top v w q r hw hq hi hv).fold_min _ (EReal.coe_le_coe_iff.mpr (by
    have : (expLane s i).val ≤ 128 := (expLane s i).isLt.le
    exact_mod_cast this))

/-- The group's scores without the best one. -/
theorem pay18_apply (l : Fin 128) : k0_pay18 (F := Ideal) v w k0_pay8 q (ix2 r l)
    = if l = expLane s i then ⊥ else k0_pay15 (F := Ideal) v w q (ix2 r l) := by
  pointwise [k0_pay18]
  rw [show (4286578688#32) = 0xFF800000#32 from rfl, lit_bot, pay8_apply, pay17_apply v w q r hw hq hi hv]
  refine if_congr ?_ rfl rfl
  rw [EReal.coe_eq_coe_iff, Nat.cast_inj, Fin.ext_iff]

variable (hij : j ≠ i) (hj : IsTop (without (fun k => v (ix2 r (expLane s k))) i) j)
include hij hj

theorem exp_top2 : IsTop (fun l => k0_pay18 (F := Ideal) v w k0_pay8 q (ix2 r l)) (expLane s j) := by
  refine hj.lift (expLane s) (expLane_mono s) (fun k => ?_) (fun l hl => ?_) ?_
  · show k0_pay18 (F := Ideal) v w k0_pay8 q (ix2 r (expLane s k)) = _
    rw [pay18_apply v w q r hw hq hi hv, pay15_lane v w q r hw hq]
    exact if_congr (expLane_mono s).injective.eq_iff rfl rfl
  · show k0_pay18 (F := Ideal) v w k0_pay8 q (ix2 r l) = ⊥
    rw [pay18_apply v w q r hw hq hi hv, pay15_other v w q r hw hq l hl, ite_self]
  · unfold without
    rw [if_neg hij]
    exact hv j

theorem pay18_lane : k0_pay18 (F := Ideal) v w k0_pay8 q (ix2 r (expLane s j)) = v (ix2 r (expLane s j)) := by
  rw [pay18_apply v w q r hw hq hi hv, if_neg fun h => hij ((expLane_mono s).injective h), pay15_lane v w q r hw hq]

/-- The second expert's score. -/
theorem pay19_apply (z : Fin 1) : k0_pay19 (F := Ideal) v w k0_pay8 q (ix2 r z) = v (ix2 r (expLane s j)) := by
  pointwise [k0_pay19]
  rw [show (4286578688#32) = 0xFF800000#32 from rfl, lit_bot]
  exact (exp_top2 v w q r hw hq hi hv hij hj).fold_max.trans (pay18_lane v w q r hw hq hi hv hij hj)

/-- The second expert's lane. -/
theorem pay20_apply (z : Fin 1) : k0_pay20 (F := Ideal) v w k0_pay8 q (ix2 r z) = ((((expLane s j).val : ℕ) : ℝ) : EReal) := by
  pointwise [k0_pay20]
  rw [show (2139095040#32) = 0x7F800000#32 from rfl, lit_top, show (1124073472#32) = 0x43000000#32 from rfl, lit_128]
  simp only [pay8_apply]
  rw [pay19_apply v w q r hw hq hi hv hij hj, ← pay18_lane v w q r hw hq hi hv hij hj]
  exact (exp_top2 v w q r hw hq hi hv hij hj).fold_min _ (EReal.coe_le_coe_iff.mpr (by
    have : (expLane s j).val ≤ 128 := (expLane s j).isLt.le
    exact_mod_cast this))

/-- The gate that the kernel writes at a lane. -/
theorem gate_apply (p : FVec Ideal S512x1 .f32) (l : Fin 128) :
    k0_pay1 (F := Ideal) k0_pay8 p (k0_pay17 v w k0_pay8 q) (k0_pay20 v w k0_pay8 q) (k0_pay21 v w k0_pay8 q)
        (k0_pay22 v w k0_pay8 q) (ix2 r l)
      = (if l.val = 4 + (4 * s.val + i.val) then firstW (p (ix2 r 0)) (v (ix2 r (expLane s i))) (v (ix2 r (expLane s j))) else 0)
        + (if l.val = 4 + (4 * s.val + j.val) then secondW (p (ix2 r 0)) (v (ix2 r (expLane s i))) (v (ix2 r (expLane s j))) else 0) := by
  have h21 : k0_pay21 (F := Ideal) v w k0_pay8 q (ix2 r 0)
      = Ideal.exp (v (ix2 r (expLane s j)) - v (ix2 r (expLane s i))) := by
    pointwise [k0_pay21]
    rw [pay19_apply v w q r hw hq hi hv hij hj, pay16_apply v w q r hw hq hi hv]
  pointwise [k0_pay1, k0_pay22]
  rw [h21, pay8_apply, pay17_apply v w q r hw hq hi hv, pay20_apply v w q r hw hq hi hv hij hj]
  exact congrArg₂ (· + ·) (if_congr (by rw [EReal.coe_eq_coe_iff, Nat.cast_inj]; rfl) rfl rfl)
    (if_congr (by rw [EReal.coe_eq_coe_iff, Nat.cast_inj]; rfl) rfl rfl)

end Experts

end Cert.MergeIdeal.Own

end
-- ==== Proof.Merge.Block.lean ====
/- What the merge-and-route kernel's body leaves in its three output blocks, from the input blocks, one row at a time. -/
module

public import proofs.«01_k».proof.Proof.Gen.MergeIdeal.Frame
public import proofs.«01_k».proof.Proof.Merge.Pay
public import Idealize.ShloMosaic.Lib.Pipeline.ValueKit

@[expose] public section

set_option maxRecDepth 16384

noncomputable section

namespace Cert.MergeIdeal.Own

open Idealize.ShloMosaic Idealize.ShloMosaic.TcCoe Idealize.SL.Sem
open Cert.MergeIdeal Cert.MergeIdeal.Gen Cert.RouteOwn

variable (x0 : FVec Ideal S512x1024 .f32) (x1 x2 : FVec Ideal S512x512 .bf16) (x3 x4 x5 x6 : FVec Ideal S512x1024 .bf16)
  (x7 : FVec Ideal S1024x1024 .bf16) (x8 : FVec Ideal S1x1024 .f32) (x9 x10 : FVec Ideal S1024x128 .bf16) (x11 : FVec Ideal S1x128 .f32)

/-- The joined rows of a block. -/
abbrev bX : FVec Ideal S512x1024 .f32 := k0_pay2 (F := Ideal) x3 x1 x5 x4 x2 x6 x0 x7

/-- The factors of a block's rows. -/
abbrev bD : FVec Ideal S512x1 .f32 := k0_pay4 (F := Ideal) x3 x1 x5 x4 x2 x6 x0 x7

/-- The scores of a block's rows. -/
abbrev bL : FVec Ideal S512x128 .f32 :=
  k0_pay7 (F := Ideal) (bX x0 x1 x2 x3 x4 x5 x6 x7) (k0_pay3 x8) (bD x0 x1 x2 x3 x4 x5 x6 x7) x9 x10 x11

/-- The chosen groups of a block's rows. -/
abbrev bS : FVec Ideal S512x1 .f32 :=
  k0_pay12 (F := Ideal) (bX x0 x1 x2 x3 x4 x5 x6 x7) (k0_pay3 x8) (bD x0 x1 x2 x3 x4 x5 x6 x7) x9 x10 x11

/-- The numbers of the lanes. -/
abbrev bI : IVec S512x128 32 := iota .tc S512x128 32 [1] iota_S512x128_d1_w32

theorem out12_eq : out0_12 (F := Ideal) x0 x1 x2 x3 x4 x5 x6 x7 x8 x9 x10 x11 = bX x0 x1 x2 x3 x4 x5 x6 x7 := by
  frame_out

theorem out13_eq : out0_13 (F := Ideal) x0 x1 x2 x3 x4 x5 x6 x7 x8 x9 x10 x11
    = k0_pay6 (F := Ideal) (bX x0 x1 x2 x3 x4 x5 x6 x7) (k0_pay3 x8) (bD x0 x1 x2 x3 x4 x5 x6 x7) := by
  unfold_out out0_13
  frame_out

theorem out14_eq : out0_14 (F := Ideal) x0 x1 x2 x3 x4 x5 x6 x7 x8 x9 x10 x11
    = k0_pay1 (F := Ideal) k0_pay8
        (k0_pay14 (k0_pay13 (bX x0 x1 x2 x3 x4 x5 x6 x7) (k0_pay3 x8) (bD x0 x1 x2 x3 x4 x5 x6 x7) x9 x10 x11))
        (k0_pay17 (bL x0 x1 x2 x3 x4 x5 x6 x7 x8 x9 x10 x11) bI k0_pay8 (bS x0 x1 x2 x3 x4 x5 x6 x7 x8 x9 x10 x11))
        (k0_pay20 (bL x0 x1 x2 x3 x4 x5 x6 x7 x8 x9 x10 x11) bI k0_pay8 (bS x0 x1 x2 x3 x4 x5 x6 x7 x8 x9 x10 x11))
        (k0_pay21 (bL x0 x1 x2 x3 x4 x5 x6 x7 x8 x9 x10 x11) bI k0_pay8 (bS x0 x1 x2 x3 x4 x5 x6 x7 x8 x9 x10 x11))
        (k0_pay22 (bL x0 x1 x2 x3 x4 x5 x6 x7 x8 x9 x10 x11) bI k0_pay8 (bS x0 x1 x2 x3 x4 x5 x6 x7 x8 x9 x10 x11)) := by
  unfold_out out0_14
  frame_out

/-- A normalised row of a block. -/
theorem norm_row (r : Fin 512) (k : Fin 1024) :
    k0_pay5 (F := Ideal) (bX x0 x1 x2 x3 x4 x5 x6 x7) (k0_pay3 x8) (bD x0 x1 x2 x3 x4 x5 x6 x7) (ix2 r k)
      = MoeOwn.normed (fun k => bX x0 x1 x2 x3 x4 x5 x6 x7 (ix2 r k)) (fun k => x8 (ix2 0 k)) k := by
  have h3 : k0_pay3 (F := Ideal) x8 (ix2 0 k) = x8 (ix2 0 k) := by
    pointwise [k0_pay3]
  rw [pay5_apply, h3]
  exact congrArg (fun d => bX x0 x1 x2 x3 x4 x5 x6 x7 (ix2 r k) * d * x8 (ix2 0 k)) (pay4_apply x3 x1 x5 x4 x2 x6 x0 x7 r 0)

/-- The second output's row. -/
theorem out13_apply (r : Fin 512) (k : Fin 1024) : out0_13 (F := Ideal) x0 x1 x2 x3 x4 x5 x6 x7 x8 x9 x10 x11 (ix2 r k)
    = MoeOwn.normed (fun k => bX x0 x1 x2 x3 x4 x5 x6 x7 (ix2 r k)) (fun k => x8 (ix2 0 k)) k := by
  rw [out13_eq, ← norm_row]
  pointwise [k0_pay6]

/-- The third output's row, where the scores are real: `g` and `e` are the groups' and the experts' scores. -/
theorem out14_apply (r : Fin 512) (g : Fin 4 → EReal) (e : Fin 16 → EReal) (s i j : Fin 4)
    (hT : ∀ k, IsReal (MoeOwn.normed (fun k => bX x0 x1 x2 x3 x4 x5 x6 x7 (ix2 r k)) (fun k => x8 (ix2 0 k)) k))
    (hlo : ∀ k l, x10 (ix2 k l) = 0)
    (hg : ∀ n : Fin 4, g n = ∑ k, MoeOwn.normed (fun k => bX x0 x1 x2 x3 x4 x5 x6 x7 (ix2 r k)) (fun k => x8 (ix2 0 k)) k
        * x9 (ix2 k ⟨n.val, by omega⟩) + x11 (ix2 0 ⟨n.val, by omega⟩))
    (he : ∀ n : Fin 16, e n = ∑ k, MoeOwn.normed (fun k => bX x0 x1 x2 x3 x4 x5 x6 x7 (ix2 r k)) (fun k => x8 (ix2 0 k)) k
        * x9 (ix2 k ⟨4 + n.val, by omega⟩) + x11 (ix2 0 ⟨4 + n.val, by omega⟩))
    (rg : ∀ n, IsReal (g n)) (re : ∀ n, IsReal (e n))
    (hs : IsTop g s) (hi : IsTop (members e s) i) (hij : j ≠ i) (hj : IsTop (without (members e s) i) j) (l : Fin 128) :
    out0_14 (F := Ideal) x0 x1 x2 x3 x4 x5 x6 x7 x8 x9 x10 x11 (ix2 r l) = gateAt g e s i j l := by
  have hrow : ∀ l, bL x0 x1 x2 x3 x4 x5 x6 x7 x8 x9 x10 x11 (ix2 r l)
      = ∑ k, MoeOwn.normed (fun k => bX x0 x1 x2 x3 x4 x5 x6 x7 (ix2 r k)) (fun k => x8 (ix2 0 k)) k * x9 (ix2 k l) + x11 (ix2 0 l) := fun l => by
    refine (pay7_apply _ _ _ _ _ _ r l (fun k => ?_) (fun k => hlo k l)).trans ?_
    · rw [norm_row]; exact hT k
    · simp only [norm_row]
  have hgl : (fun n => bL x0 x1 x2 x3 x4 x5 x6 x7 x8 x9 x10 x11 (ix2 r (grpLane n))) = g := funext fun n => (hrow _).trans (hg n).symm
  have hel : (fun n => bL x0 x1 x2 x3 x4 x5 x6 x7 x8 x9 x10 x11 (ix2 r (expLane s n))) = members e s := funext fun n => (hrow _).trans (he ⟨4 * s.val + n.val, by omega⟩).symm
  have hgs : bL x0 x1 x2 x3 x4 x5 x6 x7 x8 x9 x10 x11 (ix2 r (grpLane s)) = g s := congrFun hgl s
  have hes : ∀ n, bL x0 x1 x2 x3 x4 x5 x6 x7 x8 x9 x10 x11 (ix2 r (expLane s n)) = members e s n := congrFun hel
  have hw : ∀ l : Fin 128, bI (ix2 r l) = BitVec.ofNat 32 l.val := fun l => by
    pointwise [bI]
  have hst : IsTop (fun n => bL x0 x1 x2 x3 x4 x5 x6 x7 x8 x9 x10 x11 (ix2 r (grpLane n))) s := by rw [hgl]; exact hs
  have hnb : bL x0 x1 x2 x3 x4 x5 x6 x7 x8 x9 x10 x11 (ix2 r (grpLane s)) ≠ ⊥ := fun h => fin_ne_bot (rg s) (hgs.symm.trans h)
  have hq : bS x0 x1 x2 x3 x4 x5 x6 x7 x8 x9 x10 x11 (ix2 r 0) = (((s.val : ℕ) : ℝ) : EReal) :=
    pay12_apply _ _ _ _ _ _ r hst hnb 0
  have hp : k0_pay14 (k0_pay13 (F := Ideal) (bX x0 x1 x2 x3 x4 x5 x6 x7) (k0_pay3 x8) (bD x0 x1 x2 x3 x4 x5 x6 x7) x9 x10 x11) (ix2 r 0)
      = share g s :=
    (share_apply _ _ _ _ _ _ r hst hnb 0).trans (congrArg (fun g => share g s) hgl)
  rw [out14_eq, gate_apply _ bI _ r hw hq (by rw [hel]; exact hi) (fun n => by rw [hes]; exact fin_ne_bot (re _)) hij
    (by rw [hel]; exact hj), hp, hes, hes]
  rfl

end Cert.MergeIdeal.Own

end
-- ==== Proof.Merge.Reads.lean ====
/- What the merge-and-route kernel's windows read, from the arguments that the host hands on or only casts. -/
module

public import proofs.«01_k».proof.Proof.Gen.MergeIdeal.Value
public import proofs.«01_k».proof.Proof.Merge.Block

@[expose] public section

set_option maxRecDepth 16384

noncomputable section

namespace Cert.MergeIdeal.Own

open Idealize.ShloMosaic Idealize.ShloMosaic.TcCoe Idealize.SL.Sem
open Idealize.ShloMosaic.Pipeline (Dat)
open Cert.MergeIdeal Cert.MergeIdeal.Gen Cert.RouteOwn

variable (m : (ℓ : Loc nD τ sig) → Buf (Elt Ideal) ℓ)

/-- Where each window's block lies at a grid point: the row tiles move, the weights stay. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] :=
  (by decide +kernel : ∀ t : Fin grid0.N, _)

/-- The row of the arrays that a tile's row stands for. -/
def row (t : Fin cfg0.N) (a : Fin 512) : Fin 65536 := ⟨t.val * 512 + a.val, by have := lt_of_lt_of_eq t.isLt N_0; omega⟩

/-- Argument 0, at its own type. -/
abbrev arg0 (c : Dev nD) : FVec Ideal S65536x1024 .f32 := m ((c : Thread nD τ).loc main_arg0)

/-- Argument 1, at its own type. -/
abbrev arg1 (c : Dev nD) : FVec Ideal S65536x512 .bf16 := m ((c : Thread nD τ).loc main_arg1)

/-- Argument 2, at its own type. -/
abbrev arg2 (c : Dev nD) : FVec Ideal S65536x512 .bf16 := m ((c : Thread nD τ).loc main_arg2)

/-- Argument 3, at its own type. -/
abbrev arg3 (c : Dev nD) : FVec Ideal S65536x1024 .bf16 := m ((c : Thread nD τ).loc main_arg3)

/-- Argument 4, at its own type. -/
abbrev arg4 (c : Dev nD) : FVec Ideal S65536x1024 .bf16 := m ((c : Thread nD τ).loc main_arg4)

/-- Argument 5, at its own type. -/
abbrev arg5 (c : Dev nD) : FVec Ideal S512x1024 .f32 := m ((c : Thread nD τ).loc main_arg5)

/-- Argument 6, at its own type. -/
abbrev arg6 (c : Dev nD) : FVec Ideal S512x1024 .f32 := m ((c : Thread nD τ).loc main_arg6)

/-- Argument 7, at its own type. -/
abbrev arg7 (c : Dev nD) : FVec Ideal S1024x1024 .f32 := m ((c : Thread nD τ).loc main_arg7)

/-- Argument 8, at its own type. -/
abbrev arg8 (c : Dev nD) : FVec Ideal S1024 .f32 := m ((c : Thread nD τ).loc main_arg8)

/-- Argument 9, at its own type. -/
abbrev arg9 (c : Dev nD) : FVec Ideal S1024x4 .f32 := m ((c : Thread nD τ).loc main_arg9)

/-- Argument 10, at its own type. -/
abbrev arg10 (c : Dev nD) : FVec Ideal S4 .f32 := m ((c : Thread nD τ).loc main_arg10)

/-- Argument 11, at its own type. -/
abbrev arg11 (c : Dev nD) : FVec Ideal S1024x16 .f32 := m ((c : Thread nD τ).loc main_arg11)

/-- Argument 12, at its own type. -/
abbrev arg12 (c : Dev nD) : FVec Ideal S16 .f32 := m ((c : Thread nD τ).loc main_arg12)

variable (c : Dev nD) (t : Fin cfg0.N)

theorem read0 (a : Fin 512) (k : Fin 1024) : (iblk m c 0 t : FVec Ideal S512x1024 .f32) (ix2 a k) = arg0 m c (ix2 (row t a) k) := by
  unfold row
  blk_ext [iblk, V_main_arg0, idx t]

theorem read1 (a : Fin 512) (k : Fin 512) : (iblk m c 1 t : FVec Ideal S512x512 .bf16) (ix2 a k) = arg1 m c (ix2 (row t a) k) := by
  unfold row
  blk_ext [iblk, V_main_arg1, idx t]

theorem read2 (a : Fin 512) (k : Fin 512) : (iblk m c 2 t : FVec Ideal S512x512 .bf16) (ix2 a k) = arg2 m c (ix2 (row t a) k) := by
  unfold row
  blk_ext [iblk, V_main_arg2, idx t]

theorem read3 (a : Fin 512) (k : Fin 1024) : (iblk m c 3 t : FVec Ideal S512x1024 .bf16) (ix2 a k) = arg3 m c (ix2 (row t a) k) := by
  unfold row
  blk_ext [iblk, V_main_arg3, idx t]

theorem read4 (a : Fin 512) (k : Fin 1024) : (iblk m c 4 t : FVec Ideal S512x1024 .bf16) (ix2 a k) = arg4 m c (ix2 (row t a) k) := by
  unfold row
  blk_ext [iblk, V_main_arg4, idx t]

theorem read5 (j : Fin 512) (k : Fin 1024) : (iblk m c 5 t : FVec Ideal S512x1024 .bf16) (ix2 j k) = arg5 m c (ix2 j k) := by
  blk_point [iblk, idx t]

theorem read6 (j : Fin 512) (k : Fin 1024) : (iblk m c 6 t : FVec Ideal S512x1024 .bf16) (ix2 j k) = arg6 m c (ix2 j k) := by
  blk_point [iblk, idx t]

theorem read7 (k l : Fin 1024) : (iblk m c 7 t : FVec Ideal S1024x1024 .bf16) (ix2 k l) = arg7 m c (ix2 k l) := by
  blk_point [iblk, idx t]

theorem read8 (k : Fin 1024) : (iblk m c 8 t : FVec Ideal S1x1024 .f32) (ix2 0 k) = arg8 m c (ix1 k) := by
  blk_point [iblk, idx t]

end Cert.MergeIdeal.Own

end
-- ==== Proof.Merge.Host.lean ====
/- The router's weights as the host lays them out: both matrices side by side, padded to a whole tile. -/
module

public import proofs.«01_k».proof.Proof.Merge.Reads

@[expose] public section

set_option maxRecDepth 16384

noncomputable section

namespace Cert.MergeIdeal.Own

open Idealize.ShloMosaic Idealize.ShloMosaic.TcCoe Idealize.SL.Sem
open Cert.MergeIdeal Cert.MergeIdeal.Gen Cert.RouteOwn

/-- The groups' weights, the experts' weights and zeros, side by side. -/
def catW (A : FVec Ideal S1024x4 .f32) (B : FVec Ideal S1024x16 .f32) : FVec Ideal S1024x128 .f32 :=
  concatenate S1024x128 1 [⟨S1024x4, A⟩, ⟨S1024x16, B⟩, ⟨S1024x108, broadcastInDim S1024x108 ![] bcast_S_S1024x108 (constant (F := Ideal) S_ .f32 0x00000000#32)⟩]
    concatenates_S1024x4_S1024x16_S1024x108_S1024x128_d1

/-- The groups' biases, the experts' biases and zeros, one after the other. -/
def catB (A : FVec Ideal S4 .f32) (B : FVec Ideal S16 .f32) : FVec Ideal S128 .f32 :=
  concatenate S128 0 [⟨S4, A⟩, ⟨S16, B⟩, ⟨S108, broadcastInDim S108 ![] bcast_S_S108 (constant (F := Ideal) S_ .f32 0x00000000#32)⟩]
    concatenates_S4_S16_S108_S128_d0

theorem catW_group (A : FVec Ideal S1024x4 .f32) (B : FVec Ideal S1024x16 .f32) (k : Fin 1024) (n : Fin 4) :
    catW A B (ix2 k ⟨n.val, by omega⟩) = A (ix2 k n) := by
  pointwise [catW]

theorem catW_expert (A : FVec Ideal S1024x4 .f32) (B : FVec Ideal S1024x16 .f32) (k : Fin 1024) (n : Fin 16) :
    catW A B (ix2 k ⟨4 + n.val, by omega⟩) = B (ix2 k n) := by
  pointwise [catW]

theorem catB_group (A : FVec Ideal S4 .f32) (B : FVec Ideal S16 .f32) (n : Fin 4) :
    catB A B (ix1 ⟨n.val, by omega⟩) = A (ix1 n) := by
  pointwise [catB]

theorem catB_expert (A : FVec Ideal S4 .f32) (B : FVec Ideal S16 .f32) (n : Fin 16) :
    catB A B (ix1 ⟨4 + n.val, by omega⟩) = B (ix1 n) := by
  pointwise [catB]

theorem catW_real (A : FVec Ideal S1024x4 .f32) (B : FVec Ideal S1024x16 .f32) (hA : ∀ i, IsReal (A i)) (hB : ∀ i, IsReal (B i))
    (k : Fin 1024) (l : Fin 128) : IsReal (catW A B (ix2 k l)) := by
  pointwise [catW]
  split
  · exact hA _
  · split
    · exact hB _
    · exact ⟨0, rfl⟩

variable (m : (ℓ : Loc nD τ sig) → Buf (Elt Ideal) ℓ) (c : Dev nD) (t : Fin cfg0.N)

/-- The host array, as a term over the arguments. -/
theorem V_w : (V m c main_v1 : FVec Ideal S1024x128 .f32) = catW (arg9 m c) (arg11 m c) := by
  show StableHlo.after hostOps0 _ (Proc.devRef .tc main_v1) = _
  after_results
  rfl

/-- The host array, as a term over the arguments. -/
theorem V_hi : (V m c main_v2 : FVec Ideal S1024x128 .bf16) = truncf .bf16 (catW (arg9 m c) (arg11 m c)) bitsLt_bf16_f32 := by
  show StableHlo.after hostOps0 _ (Proc.devRef .tc main_v2) = _
  after_results
  rfl

/-- The host array, as a term over the arguments. -/
theorem V_lo : (V m c main_v5 : FVec Ideal S1024x128 .bf16) = truncf .bf16 (subf (catW (arg9 m c) (arg11 m c))
    (extf .f32 (truncf .bf16 (catW (arg9 m c) (arg11 m c)) bitsLt_bf16_f32) bitsLt_bf16_f32)) bitsLt_bf16_f32 := by
  show StableHlo.after hostOps0 _ (Proc.devRef .tc main_v5) = _
  after_results
  rfl

/-- The host array, as a term over the arguments. -/
theorem V_b : (V m c main_v8 : FVec Ideal S1x128 .f32) = shapeCast S1x128 (catB (arg10 m c) (arg12 m c)) shapeCasts_S128_S1x128 := by
  show StableHlo.after hostOps0 _ (Proc.devRef .tc main_v8) = _
  after_results
  rfl

theorem at9 (k : Fin 1024) (l : Fin 128) :
    (iblk m c 9 t : FVec Ideal S1024x128 .bf16) (ix2 k l) = (V m c main_v2 : FVec Ideal S1024x128 .bf16) (ix2 k l) := by
  blk_ext [iblk, idx t]

theorem at10 (k : Fin 1024) (l : Fin 128) :
    (iblk m c 10 t : FVec Ideal S1024x128 .bf16) (ix2 k l) = (V m c main_v5 : FVec Ideal S1024x128 .bf16) (ix2 k l) := by
  blk_ext [iblk, idx t]

theorem at11 (z : Fin 1) (l : Fin 128) :
    (iblk m c 11 t : FVec Ideal S1x128 .f32) (ix2 z l) = (V m c main_v8 : FVec Ideal S1x128 .f32) (ix2 z l) := by
  blk_ext [iblk, idx t]

end Cert.MergeIdeal.Own

end
-- ==== Proof.Merge.RefTerms.lean ====
/- The terms at which the reference of the merge and the routing ends, in stages. -/
module

public import proofs.«01_k».proof.Proof.Gen.MergeRefIdeal.Run
public import proofs.«01_k».proof.Proof.Merge.Spec

@[expose] public section

set_option maxRecDepth 16384

noncomputable section

namespace Cert.MergeRefIdeal.Own

open Idealize.ShloMosaic Idealize.ShloMosaic.TcCoe Idealize.ShloMosaic.StableHlo Idealize.SL.Sem
open Cert.MergeRefIdeal Cert.MergeRefIdeal.Gen

/-- The residual plus the two branches, as the reference writes it. -/
def x1Vec (A0 : FVec Ideal S65536x1024 .f32) (A1 A2 : FVec Ideal S65536x512 .bf16) (A3 A4 : FVec Ideal S65536x1024 .bf16) (A5 A6 : FVec Ideal S512x1024 .f32) (A7 : FVec Ideal S1024x1024 .f32) : FVec Ideal S65536x1024 .f32 :=
  addf A0 (Host.dotGeneral dot_S65536x1024_S1024x1024_S65536x1024_1_0_0_1_n_n none (addf (mulf (extf .f32 A3 bitsLt_bf16_f32) (Host.dotGeneral dot_S65536x512_S512x1024_S65536x1024_1_0_0_1_n_n none (extf .f32 A1 bitsLt_bf16_f32) A5)) (mulf (extf .f32 A4 bitsLt_bf16_f32) (Host.dotGeneral dot_S65536x512_S512x1024_S65536x1024_1_0_0_1_n_n none (extf .f32 A2 bitsLt_bf16_f32) A6))) A7)

/-- The normalised rows. -/
def tVec (X : FVec Ideal S65536x1024 .f32) (A8 : FVec Ideal S1024 .f32) : FVec Ideal S65536x1024 .f32 :=
  mulf (mulf X (broadcastInDim S65536x1024 ![0, 1] bcast_S65536x1_S65536x1024_0_1 (Host.rsqrt (addf (Host.divf (broadcastInDim S65536x1 ![0] bcast_S65536_S65536x1_0 (Host.reduceAdd (mulf X X) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 A8))

/-- The groups' scores. -/
def gVec (T : FVec Ideal S65536x1024 .f32) (A9 : FVec Ideal S1024x4 .f32) (A10 : FVec Ideal S4 .f32) : FVec Ideal S65536x4 .f32 :=
  addf (Host.dotGeneral dot_S65536x1024_S1024x4_S65536x4_1_0_0_1_n_n none T A9) (broadcastInDim S65536x4 ![0, 1] bcast_S1x4_S65536x4_0_1 (broadcastInDim S1x4 ![1] bcast_S4_S1x4_1 A10))

/-- The exponentials of the groups' scores, less the greatest. -/
def exVec (G : FVec Ideal S65536x4 .f32) : FVec Ideal S65536x4 .f32 :=
  Host.exp (subf G (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf G (constant S_ .f32 0xFF800000#32) reducesTo_S65536x4_S65536_d1 h_S_)))))

/-- The chosen groups. -/
def ixVec (G : FVec Ideal S65536x4 .f32) : IVec S65536x1 32 :=
  (Host.topK S65536x1 1 (FloatOps.cmpfTotal .gt) G sliceFits_S65536x4_S65536x1).2

/-- The groups' softmax, from the exponentials. -/
def nrVec (P : FVec Ideal S65536x4 .f32) : FVec Ideal S65536x4 .f32 :=
  Host.divf P (broadcastInDim S65536x4 ![0, 1] bcast_S65536x1_S65536x4_0_1 (broadcastInDim S65536x1 ![0] bcast_S65536_S65536x1_0 (Host.reduceAdd P (constant S_ .f32 0x00000000#32) reducesTo_S65536x4_S65536_d1 h_S_)))

/-- The chosen groups, as index words of the first gather. -/
def w0Vec (I : IVec S65536x1 32) : IVec S65536x1x1 32 :=
  shapeCast _ (select (cmpi .slt I (broadcastInDim S65536x1 ![] bcast_S_S65536x1 (constantI S_ 32 0#32))) (addi I (broadcastInDim S65536x1 ![] bcast_S_S65536x1 (constantI S_ 32 4#32))) I) shapeCasts_S65536x1_S65536x1x1

/-- The chosen groups' weights. -/
def gwVec (W : IVec S65536x1x1 32) (P : FVec Ideal S65536x4 .f32) : FVec Ideal S65536x1 .f32 :=
  select (Host.reduce IntOp.andi (andi (cmpi .sge W (broadcastInDim S65536x1x1 ![] bcast_S_S65536x1x1 (constantI S_ 32 0#32))) (cmpi .sle W (broadcastInDim S65536x1x1 ![0, 1, 2] bcast_S1x1x1_S65536x1x1_0_1_2 (broadcastInDim S1x1x1 ![2] bcast_S1_S1x1x1_2 (constantI S1 32 3#32))))) (constantI S_ 1 1#1) reducesTo_S65536x1x1_S65536x1_d2 h_S_) (Host.gather gather_S65536x4_S65536x1x1_S65536x1_n_1_0_0_1_2_11 P W) (broadcastInDim S65536x1 ![] bcast_S_S65536x1 (constant S_ .f32 0x7FC00000#32))

/-- The chosen groups, as index words of the second gather. -/
def w1Vec (I : IVec S65536x1 32) : IVec S65536x1x4x1 32 :=
  shapeCast _ (select (cmpi .slt (broadcastInDim S65536x1x4 ![0, 1, 2] bcast_S65536x1x1_S65536x1x4_0_1_2 (broadcastInDim S65536x1x1 ![0, 1] bcast_S65536x1_S65536x1x1_0_1 I)) (broadcastInDim S65536x1x4 ![] bcast_S_S65536x1x4 (constantI S_ 32 0#32))) (addi (broadcastInDim S65536x1x4 ![0, 1, 2] bcast_S65536x1x1_S65536x1x4_0_1_2 (broadcastInDim S65536x1x1 ![0, 1] bcast_S65536x1_S65536x1x1_0_1 I)) (broadcastInDim S65536x1x4 ![] bcast_S_S65536x1x4 (constantI S_ 32 4#32))) (broadcastInDim S65536x1x4 ![0, 1, 2] bcast_S65536x1x1_S65536x1x4_0_1_2 (broadcastInDim S65536x1x1 ![0, 1] bcast_S65536x1_S65536x1x1_0_1 I))) shapeCasts_S65536x1x4_S65536x1x4x1

/-- The experts' scores by group. -/
def eVec (T : FVec Ideal S65536x1024 .f32) (A11 : FVec Ideal S1024x16 .f32) (A12 : FVec Ideal S16 .f32) : FVec Ideal S65536x4x4 .f32 :=
  shapeCast _ (addf (Host.dotGeneral dot_S65536x1024_S1024x16_S65536x16_1_0_0_1_n_n none T A11) (broadcastInDim S65536x16 ![0, 1] bcast_S1x16_S65536x16_0_1 (broadcastInDim S1x16 ![1] bcast_S16_S1x16_1 A12))) shapeCasts_S65536x16_S65536x4x4

/-- The scores of the chosen group's experts. -/
def memVec (W : IVec S65536x1x4x1 32) (E : FVec Ideal S65536x4x4 .f32) : FVec Ideal S65536x4 .f32 :=
  shapeCast _ (select (Host.reduce IntOp.andi (andi (cmpi .sge W (broadcastInDim S65536x1x4x1 ![] bcast_S_S65536x1x4x1 (constantI S_ 32 0#32))) (cmpi .sle W (broadcastInDim S65536x1x4x1 ![0, 1, 2, 3] bcast_S1x1x1x1_S65536x1x4x1_0_1_2_3 (broadcastInDim S1x1x1x1 ![3] bcast_S1_S1x1x1x1_3 (constantI S1 32 3#32))))) (constantI S_ 1 1#1) reducesTo_S65536x1x4x1_S65536x1x4_d3 h_S_) (Host.gather gather_S65536x4x4_S65536x1x4x1_S65536x1x4_n_1_02_02_1_3_111 E W) (broadcastInDim S65536x1x4 ![] bcast_S_S65536x1x4 (constant S_ .f32 0x7FC00000#32))) shapeCasts_S65536x1x4_S65536x4

/-- The two best scores. -/
def valVec (M : FVec Ideal S65536x4 .f32) : FVec Ideal S65536x2 .f32 :=
  (Host.topK S65536x2 1 (FloatOps.cmpfTotal .gt) M sliceFits_S65536x4_S65536x2).1

/-- The two best experts in their group. -/
def ix2Vec (M : FVec Ideal S65536x4 .f32) : IVec S65536x2 32 :=
  (Host.topK S65536x2 1 (FloatOps.cmpfTotal .gt) M sliceFits_S65536x4_S65536x2).2

/-- The exponentials of the two best scores, less the greatest. -/
def e2Vec (V : FVec Ideal S65536x2 .f32) : FVec Ideal S65536x2 .f32 :=
  Host.exp (subf V (broadcastInDim S65536x2 ![0, 1] bcast_S65536x1_S65536x2_0_1 (broadcastInDim S65536x1 ![0] bcast_S65536_S65536x1_0 (maximumf (broadcastInDim S65536 ![] bcast_S_S65536 (constant S_ .f32 0xFF800000#32)) (Host.reduce FloatOps.maximumf V (constant S_ .f32 0xFF800000#32) reducesTo_S65536x2_S65536_d1 h_S_)))))

/-- The two experts' weights. -/
def twVec (P : FVec Ideal S65536x2 .f32) (Q : FVec Ideal S65536x1 .f32) : FVec Ideal S65536x2 .f32 :=
  mulf (Host.divf P (broadcastInDim S65536x2 ![0, 1] bcast_S65536x1_S65536x2_0_1 (broadcastInDim S65536x1 ![0] bcast_S65536_S65536x1_0 (Host.reduceAdd P (constant S_ .f32 0x00000000#32) reducesTo_S65536x2_S65536_d1 h_S_)))) (broadcastInDim S65536x2 ![0, 1] bcast_S65536x1_S65536x2_0_1 Q)

/-- The two experts' numbers. -/
def idVec (I : IVec S65536x1 32) (J : IVec S65536x2 32) : IVec S65536x2 32 :=
  addi (broadcastInDim S65536x2 ![0, 1] bcast_S65536x1_S65536x2_0_1 (muli I (broadcastInDim S65536x1 ![] bcast_S_S65536x1 (constantI S_ 32 4#32)))) J

/-- The weights in the sixteen experts' places. -/
def hotVec (D : IVec S65536x2 32) (U : FVec Ideal S65536x2 .f32) : FVec Ideal S65536x16 .f32 :=
  Host.reduceAdd (mulf (uitofp .f32 (cmpi .eq (broadcastInDim S65536x2x16 ![0, 1, 2] bcast_S65536x2x1_S65536x2x16_0_1_2 (broadcastInDim S65536x2x1 ![0, 1] bcast_S65536x2_S65536x2x1_0_1 D)) (broadcastInDim S65536x2x16 ![0, 1, 2] bcast_S1x1x16_S65536x2x16_0_1_2 (iotaInDim S1x1x16 32 2)))) (broadcastInDim S65536x2x16 ![0, 1, 2] bcast_S65536x2x1_S65536x2x16_0_1_2 (broadcastInDim S65536x2x1 ![0, 1] bcast_S65536x2_S65536x2x1_0_1 U))) (constant S_ .f32 0x00000000#32) reducesTo_S65536x2x16_S65536x16_d1 h_S_

/-- The gate, in the lanes of a row. -/
def padVec (H : FVec Ideal S65536x16 .f32) : FVec Ideal S65536x128 .f32 :=
  pad S65536x128 ![0, 4] ![0, 108] ![0, 0] H (sitofp .f32 (constantI S_ 32 0#32)) pads_S65536x16_S65536x128_000_41080 h_S_

/-- The gate of the reference from its normalised rows and the weights. -/
def gateVec (T : FVec Ideal S65536x1024 .f32) (A9 : FVec Ideal S1024x4 .f32) (A10 : FVec Ideal S4 .f32) (A11 : FVec Ideal S1024x16 .f32)
    (A12 : FVec Ideal S16 .f32) : FVec Ideal S65536x128 .f32 :=
  padVec (hotVec (idVec (ixVec (gVec T A9 A10)) (ix2Vec (memVec (w1Vec (ixVec (gVec T A9 A10))) (eVec T A11 A12))))
    (twVec (e2Vec (valVec (memVec (w1Vec (ixVec (gVec T A9 A10))) (eVec T A11 A12))))
      (gwVec (w0Vec (ixVec (gVec T A9 A10))) (nrVec (exVec (gVec T A9 A10))))))

variable (m : (ℓ : Loc nD τ sig) → Buf (Elt Ideal) ℓ) (c : Dev nD)

/-- The reference's first result. -/
theorem x1_eq : Value.res_main_v10 (F := Ideal) (launchContents m c)
    = x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_main_v10 x1Vec
  rfl

/-- The reference's normalised rows. -/
theorem t_eq : Value.res_main_v23 (F := Ideal) (launchContents m c)
    = tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := by
  unfold Value.res_main_v23
  rw [x1_eq]
  unfold tVec
  rfl

end Cert.MergeRefIdeal.Own

end
-- ==== Proof.Merge.Choose.lean ====
/- The reference's sorts and gathers at one row: the two places where it chooses. -/
module

public import proofs.«01_k».proof.Proof.Merge.RefTerms

@[expose] public section

set_option maxRecDepth 16384

noncomputable section

namespace Cert.MergeRefIdeal.Own

open Idealize.ShloMosaic Idealize.ShloMosaic.TcCoe Idealize.ShloMosaic.StableHlo Idealize.SL.Sem
open Cert.MergeRefIdeal Cert.MergeRefIdeal.Gen Cert.RouteOwn

/-- The order in which the sort of a row puts two positions. -/
def rowBefore {n : ℕ} (v : Fin n → EReal) (i j : Fin n) : Bool := Ideal.cmp .ogt (v i) (v j) == 1#1

theorem rowBefore_iff {n : ℕ} (v : Fin n → EReal) (i j : Fin n) : rowBefore v i j = true ↔ v j < v i := by
  unfold rowBefore Ideal.cmp
  by_cases h : v j < v i <;> simp [h]

/-- Of a row's greatest entries, the one in place `p`: its value and its position. -/
theorem topK_at {k : ℕ} (x : FVec Ideal S65536x4 .f32) (h : S65536x4.Slices (fun _ => 0) ⟨2, ![65536, k]⟩) (r : Fin 65536)
    (l : Fin k) (p : Fin 4) (hp : p.val = l.val) :
    (Host.topK ⟨2, ![65536, k]⟩ 1 (FloatOps.cmpfTotal .gt) x h).1 (ix2 r l)
        = x (ix2 r (sortedFrom (rowBefore fun j => x (ix2 r j)) p))
      ∧ (Host.topK ⟨2, ![65536, k]⟩ 1 (FloatOps.cmpfTotal .gt) x h).2 (ix2 r l)
        = BitVec.ofNat 32 (sortedFrom (rowBefore fun j => x (ix2 r j)) p).val := by
  have al : ∀ q c : Fin 4, Shape.Idx.along (s := S65536x4) (ix2 r q) (1 : Fin 2) c = ix2 r c := fun q c => by
    funext a
    match a with
    | ⟨0, _⟩ => rfl
    | ⟨1, _⟩ => rfl
  have hJ : (fun a => ⟨0 + ((ix2 r l : (⟨2, ![65536, k]⟩ : Shape).Idx) (a.cast h.1.symm)).val,
      Nat.lt_of_lt_of_le (Nat.add_lt_add_left ((ix2 r l : (⟨2, ![65536, k]⟩ : Shape).Idx) _).isLt _) (h.2 a)⟩ : S65536x4.Idx) = ix2 r p := by
    funext a
    refine Fin.ext ?_
    match a with
    | ⟨0, _⟩ => exact Nat.zero_add _
    | ⟨1, _⟩ => exact (Nat.zero_add _).trans hp.symm
  have hs : sortedFrom (fun q q' : Fin 4 => (FloatOps.cmpfTotal (F := Ideal) (φ := FTy.f32) .gt
        (x (Shape.Idx.along (s := S65536x4) (ix2 r p) (1 : Fin 2) q)) (x (Shape.Idx.along (s := S65536x4) (ix2 r p) (1 : Fin 2) q'))) == 1#1) p
      = sortedFrom (rowBefore fun j => x (ix2 r j)) p := by
    simp only [al]
    rfl
  unfold Host.topK Host.sort2 extractStridedSlice
  dsimp only
  rw [hJ]
  constructor
  · refine Eq.trans ?_ (congrArg (fun c => x (ix2 r c)) hs)
    exact congrArg x (al p _)
  · rw [← hs]
    rfl

/-- The first gather reads the row's entry that the index word names. -/
theorem gather_one (x : FVec Ideal S65536x4 .f32) (W : IVec S65536x1x1 32) (r : Fin 65536) (l : Fin 1) (s : Fin 4)
    (hW : W (ix3 r 0 0) = BitVec.ofNat 32 s.val) :
    Host.gather gather_S65536x4_S65536x1x1_S65536x1_n_1_0_0_1_2_11 x W (ix2 r l) = x (ix2 r s) := by
  unfold Host.gather
  congr 1
  funext a
  refine Fin.ext ?_
  show gather_S65536x4_S65536x1x1_S65536x1_n_1_0_0_1_2_11.start (ix2 r l) W a + gather_S65536x4_S65536x1x1_S65536x1_n_1_0_0_1_2_11.batchCoord (ix2 r l) a
      + gather_S65536x4_S65536x1x1_S65536x1_n_1_0_0_1_2_11.offCoord (ix2 r l) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S65536x4_S65536x1x1_S65536x1_n_1_0_0_1_2_11.operandBatchingDims from List.mem_singleton.mpr rfl)]
    exact Nat.zero_add _
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S65536x4_S65536x1x1_S65536x1_n_1_0_0_1_2_11.startIndexMap from List.mem_singleton.mpr rfl)]
    have hsi : gather_S65536x4_S65536x1x1_S65536x1_n_1_0_0_1_2_11.siIdx (ix2 r l)
        ⟨List.idxOf (1 : Fin 2) gather_S65536x4_S65536x1x1_S65536x1_n_1_0_0_1_2_11.startIndexMap,
          List.idxOf_lt_length_iff.2 (List.mem_singleton.mpr rfl)⟩ = ix3 r 0 0 := by
      funext b; refine Fin.ext ?_
      match b with
      | ⟨0, _⟩ => rfl
      | ⟨1, _⟩ => exact congrArg Fin.val (Subsingleton.elim l 0)
      | ⟨2, _⟩ => rfl
    rw [hsi, hW]
    exact (by decide +kernel : ∀ s : Fin 4, min (BitVec.ofNat 32 s.val).toInt.toNat 3 + 0 + 0 = s.val) s

/-- The second gather reads the group that the index word names. -/
theorem gather_two (x : FVec Ideal S65536x4x4 .f32) (W : IVec S65536x1x4x1 32) (r : Fin 65536) (l : Fin 1) (j s : Fin 4)
    (hW : W (ix4 r 0 j 0) = BitVec.ofNat 32 s.val) :
    Host.gather gather_S65536x4x4_S65536x1x4x1_S65536x1x4_n_1_02_02_1_3_111 x W (ix3 r l j) = x (ix3 r s j) := by
  unfold Host.gather
  congr 1
  funext a
  refine Fin.ext ?_
  show gather_S65536x4x4_S65536x1x4x1_S65536x1x4_n_1_02_02_1_3_111.start (ix3 r l j) W a
      + gather_S65536x4x4_S65536x1x4x1_S65536x1x4_n_1_02_02_1_3_111.batchCoord (ix3 r l j) a
      + gather_S65536x4x4_S65536x1x4x1_S65536x1x4_n_1_02_02_1_3_111.offCoord (ix3 r l j) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (show (0 : Fin 3) ∈ ([0, 2] : List (Fin 3)) by decide),
      GatherDims.offCoord_eq_zero _ _ _ (fun h => ((GatherDims.mem_sKept _ _).mp h).2 (show (0 : Fin 3) ∈ ([0, 2] : List (Fin 3)) by decide))]
    unfold GatherDims.batchCoord
    rw [dif_pos (show (0 : Fin 3) ∈ gather_S65536x4x4_S65536x1x4x1_S65536x1x4_n_1_02_02_1_3_111.operandBatchingDims by decide)]
    exact Nat.zero_add _
  · rw [GatherDims.batchCoord_eq_zero _ _ _ (fun h => absurd (show (1 : Fin 3) ∈ ([0, 2] : List (Fin 3)) from h) (by decide)),
      GatherDims.offCoord_eq_zero _ _ _ (fun h => ((GatherDims.mem_sKept _ _).mp h).1 (List.mem_singleton.mpr rfl))]
    unfold GatherDims.start
    rw [dif_pos (show (1 : Fin 3) ∈ gather_S65536x4x4_S65536x1x4x1_S65536x1x4_n_1_02_02_1_3_111.startIndexMap from List.mem_singleton.mpr rfl)]
    have hsi : gather_S65536x4x4_S65536x1x4x1_S65536x1x4_n_1_02_02_1_3_111.siIdx (ix3 r l j)
        ⟨List.idxOf (1 : Fin 3) gather_S65536x4x4_S65536x1x4x1_S65536x1x4_n_1_02_02_1_3_111.startIndexMap,
          List.idxOf_lt_length_iff.2 (List.mem_singleton.mpr rfl)⟩ = ix4 r 0 j 0 := by
      funext b; refine Fin.ext ?_
      match b with
      | ⟨0, _⟩ => rfl
      | ⟨1, _⟩ => exact congrArg Fin.val (Subsingleton.elim l 0)
      | ⟨2, _⟩ => rfl
      | ⟨3, _⟩ => rfl
    rw [hsi, hW]
    exact (by decide +kernel : ∀ s : Fin 4, min (BitVec.ofNat 32 s.val).toInt.toNat 3 + 0 + 0 = s.val) s
  · rw [GatherDims.start_batching _ _ _ _ (show (2 : Fin 3) ∈ ([0, 2] : List (Fin 3)) by decide),
      GatherDims.offCoord_eq_zero _ _ _ (fun h => ((GatherDims.mem_sKept _ _).mp h).2 (show (2 : Fin 3) ∈ ([0, 2] : List (Fin 3)) by decide))]
    unfold GatherDims.batchCoord
    rw [dif_pos (show (2 : Fin 3) ∈ gather_S65536x4x4_S65536x1x4x1_S65536x1x4_n_1_02_02_1_3_111.operandBatchingDims by decide)]
    exact Nat.zero_add _

/-- An index word of a group is in range: it is taken as it is. -/
theorem word_kept (s : Fin 4) : Scalar.select (IntOp.cmpi CmpIPredicate.slt (BitVec.ofNat 32 s.val) 0#32)
    (IntOp.addi (BitVec.ofNat 32 s.val) 4#32) (BitVec.ofNat 32 s.val) = BitVec.ofNat 32 s.val :=
  (by decide +kernel : ∀ s : Fin 4, Scalar.select (IntOp.cmpi CmpIPredicate.slt (BitVec.ofNat 32 s.val) 0#32)
    (IntOp.addi (BitVec.ofNat 32 s.val) 4#32) (BitVec.ofNat 32 s.val) = BitVec.ofNat 32 s.val) s

/-- And the range test holds. -/
theorem word_inside (f : Fin 1 → BitVec 32) (s : Fin 4) (h : f 0 = BitVec.ofNat 32 s.val) :
    Finset.fold IntOp.andi (1#1) (fun x => IntOp.andi (IntOp.cmpi CmpIPredicate.sge (f x) 0#32)
      (IntOp.cmpi CmpIPredicate.sle (f x) 3#32)) Finset.univ = 1#1 := by
  rw [Finset.univ_unique, Finset.fold_singleton]
  show IntOp.andi (IntOp.andi (IntOp.cmpi CmpIPredicate.sge (f 0) 0#32) (IntOp.cmpi CmpIPredicate.sle (f 0) 3#32)) 1#1 = _
  rw [h]
  exact (by decide +kernel : ∀ s : Fin 4, IntOp.andi (IntOp.andi (IntOp.cmpi CmpIPredicate.sge (BitVec.ofNat 32 s.val) 0#32)
    (IntOp.cmpi CmpIPredicate.sle (BitVec.ofNat 32 s.val) 3#32)) 1#1 = 1#1) s

end Cert.MergeRefIdeal.Own

end
-- ==== Proof.Merge.Ref.lean ====
/- The reference of the merge and the routing at one element. -/
module

public import proofs.«01_k».proof.Proof.Merge.Choose

@[expose] public section

set_option maxRecDepth 16384

noncomputable section

namespace Cert.MergeRefIdeal.Own

open Idealize.ShloMosaic Idealize.ShloMosaic.TcCoe Idealize.ShloMosaic.StableHlo Idealize.SL.Sem
open Cert.MergeRefIdeal Cert.MergeRefIdeal.Gen Cert.RouteOwn

/-- The reference's joined rows. -/
theorem x1Vec_apply (A0 : FVec Ideal S65536x1024 .f32) (A1 A2 : FVec Ideal S65536x512 .bf16) (A3 A4 : FVec Ideal S65536x1024 .bf16)
    (A5 A6 : FVec Ideal S512x1024 .f32) (A7 : FVec Ideal S1024x1024 .f32) (r : Fin 65536) (l : Fin 1024) :
    x1Vec A0 A1 A2 A3 A4 A5 A6 A7 (ix2 r l)
      = joined (fun k => A0 (ix2 r k)) (fun k => A3 (ix2 r k)) (fun k => A4 (ix2 r k)) (fun j => A1 (ix2 r j)) (fun j => A2 (ix2 r j))
          (fun j k => A5 (ix2 j k)) (fun j k => A6 (ix2 j k)) (fun k l => A7 (ix2 k l)) l := by
  pointwise [x1Vec]
  rfl

/-- The reference's normalised rows. -/
theorem tVec_apply (X : FVec Ideal S65536x1024 .f32) (A8 : FVec Ideal S1024 .f32) (r : Fin 65536) (l : Fin 1024) :
    tVec X A8 (ix2 r l) = MoeOwn.normed (fun k => X (ix2 r k)) (fun k => A8 (ix1 k)) l := by
  pointwise [tVec]
  rfl

/-- The groups' scores. -/
theorem gVec_apply (T : FVec Ideal S65536x1024 .f32) (A9 : FVec Ideal S1024x4 .f32) (A10 : FVec Ideal S4 .f32) (r : Fin 65536)
    (l : Fin 4) : gVec T A9 A10 (ix2 r l) = ∑ x, T (ix2 r x) * A9 (ix2 x l) + A10 (ix1 l) := by
  pointwise [gVec]

/-- The experts' scores. -/
theorem eVec_apply (T : FVec Ideal S65536x1024 .f32) (A11 : FVec Ideal S1024x16 .f32) (A12 : FVec Ideal S16 .f32) (r : Fin 65536)
    (s j : Fin 4) : eVec T A11 A12 (ix3 r s j)
      = members (fun k => ∑ x, T (ix2 r x) * A11 (ix2 x k) + A12 (ix1 k)) s j := by
  have hk : ∀ h, (⟨s.val * 4 + j.val, h⟩ : Fin 16) = ⟨4 * s.val + j.val, by omega⟩ := fun _ => Fin.ext (show s.val * 4 + j.val = 4 * s.val + j.val by omega)
  pointwise [eVec]
  unfold members
  simp only [hk]

theorem exp_zero' : Ideal.exp (0 : EReal) = 1 := by
  rw [← EReal.coe_zero]
  show ((Real.exp 0 : ℝ) : EReal) = 1
  rw [Real.exp_zero, EReal.coe_one]

theorem exp_real {x : EReal} (hx : IsReal x) : ∃ y : ℝ, 0 < y ∧ Ideal.exp x = (y : EReal) := by
  obtain ⟨a, rfl⟩ := hx
  exact ⟨Real.exp a, Real.exp_pos a, rfl⟩

theorem real_sub {x y : EReal} (hx : IsReal x) (hy : IsReal y) : IsReal (x - y) := by
  obtain ⟨a, rfl⟩ := hx
  obtain ⟨b, rfl⟩ := hy
  exact ⟨a - b, (EReal.coe_sub a b).symm⟩

/-- The softmax weight of the greatest group. -/
theorem nrVec_apply (G : FVec Ideal S65536x4 .f32) (r : Fin 65536) (s : Fin 4) (hs : IsTop (fun j => G (ix2 r j)) s)
    (hG : IsReal (G (ix2 r s))) : nrVec (exVec G) (ix2 r s) = share (fun j => G (ix2 r j)) s := by
  have hmax : Finset.univ.fold max (⊥ : EReal) (fun x : Fin 4 => G (ix2 r x)) = G (ix2 r s) := hs.fold_max
  have hex : ∀ j, exVec G (ix2 r j) = Ideal.exp (G (ix2 r j) - G (ix2 r s)) := fun j => by
    pointwise [exVec]
    rw [show (4286578688#32) = 0xFF800000#32 from rfl, lit_bot, max_eq_right bot_le]
    exact congrArg (fun y => Ideal.exp (G (ix2 r j) - y)) hmax
  pointwise [nrVec]
  unfold share
  simp only [hex]
  rw [fin_sub_self hG, exp_zero']

/-- The first choice: the greatest group. -/
theorem group_at (G : FVec Ideal S65536x4 .f32) (r : Fin 65536) :
    ∃ s, IsTop (fun j => G (ix2 r j)) s ∧ ixVec G (ix2 r 0) = BitVec.ofNat 32 s.val :=
  ⟨sortedFrom (rowBefore fun j => G (ix2 r j)) 0, isTop_sorted_zero _ _ (rowBefore_iff _),
    (topK_at G sliceFits_S65536x4_S65536x1 r (0 : Fin 1) 0 rfl).2⟩

/-- The second choice: the two greatest scores of a row. -/
theorem two_at (M : FVec Ideal S65536x4 .f32) (r : Fin 65536) (hM : ∀ j, M (ix2 r j) ≠ ⊥) :
    ∃ i j, IsTop (fun k => M (ix2 r k)) i ∧ j ≠ i ∧ IsTop (without (fun k => M (ix2 r k)) i) j
      ∧ ix2Vec M (ix2 r 0) = BitVec.ofNat 32 i.val ∧ ix2Vec M (ix2 r 1) = BitVec.ofNat 32 j.val
      ∧ valVec M (ix2 r 0) = M (ix2 r i) ∧ valVec M (ix2 r 1) = M (ix2 r j) := by
  have h1 := isTop_sorted_one (fun k => M (ix2 r k)) _ (rowBefore_iff _) hM
  have t0 := topK_at M sliceFits_S65536x4_S65536x2 r (0 : Fin 2) 0 rfl
  have t1 := topK_at M sliceFits_S65536x4_S65536x2 r (1 : Fin 2) 1 rfl
  exact ⟨_, _, isTop_sorted_zero _ _ (rowBefore_iff _), h1.1, h1.2, t0.2, t1.2, t0.1, t1.1⟩

/-- The chosen group's weight. -/
theorem gwVec_apply (I : IVec S65536x1 32) (P : FVec Ideal S65536x4 .f32) (r : Fin 65536) (l : Fin 1) (s : Fin 4)
    (hI : I (ix2 r 0) = BitVec.ofNat 32 s.val) : gwVec (w0Vec I) P (ix2 r l) = P (ix2 r s) := by
  have hw : ∀ x : Fin 1, w0Vec I (ix3 r 0 x) = BitVec.ofNat 32 s.val := fun x => by
    pointwise [w0Vec]
    rw [hI]
    exact word_kept s
  pointwise [gwVec]
  rw [word_inside (fun x => w0Vec I (ix3 r 0 x)) s (hw 0), gather_one P _ r l s (hw 0)]
  rfl

/-- The chosen group's scores. -/
theorem memVec_apply (I : IVec S65536x1 32) (E : FVec Ideal S65536x4x4 .f32) (r : Fin 65536) (l s : Fin 4)
    (hI : I (ix2 r 0) = BitVec.ofNat 32 s.val) : memVec (w1Vec I) E (ix2 r l) = E (ix3 r s l) := by
  have hw : ∀ x : Fin 1, w1Vec I (ix4 r 0 l x) = BitVec.ofNat 32 s.val := fun x => by
    pointwise [w1Vec]
    rw [hI]
    exact word_kept s
  pointwise [memVec]
  rw [word_inside (fun x => w1Vec I (ix4 r 0 l x)) s (hw 0), gather_two E _ r 0 l s (hw 0)]
  rfl

/-- The two weights. -/
theorem twVec_apply (V : FVec Ideal S65536x2 .f32) (Q : FVec Ideal S65536x1 .f32) (r : Fin 65536)
    (h0 : IsReal (V (ix2 r 0))) (h1 : IsReal (V (ix2 r 1))) (hle : V (ix2 r 1) ≤ V (ix2 r 0)) :
    twVec (e2Vec V) Q (ix2 r 0) = firstW (Q (ix2 r 0)) (V (ix2 r 0)) (V (ix2 r 1))
      ∧ twVec (e2Vec V) Q (ix2 r 1) = secondW (Q (ix2 r 0)) (V (ix2 r 0)) (V (ix2 r 1)) := by
  have hmax : Finset.univ.fold max (⊥ : EReal) (fun x : Fin 2 => V (ix2 r x)) = V (ix2 r 0) :=
    le_antisymm ((Finset.fold_max_le _).mpr ⟨bot_le, fun j _ => by
        rcases (by decide : ∀ j : Fin 2, j = 0 ∨ j = 1) j with rfl | rfl
        · exact le_rfl
        · exact hle⟩)
      ((Finset.le_fold_max _).mpr (.inr ⟨0, Finset.mem_univ _, le_rfl⟩))
  have hex : ∀ j, e2Vec V (ix2 r j) = Ideal.exp (V (ix2 r j) - V (ix2 r 0)) := fun j => by
    pointwise [e2Vec]
    rw [show (4286578688#32) = 0xFF800000#32 from rfl, lit_bot, max_eq_right bot_le]
    exact congrArg (fun y => Ideal.exp (V (ix2 r j) - y)) hmax
  obtain ⟨y, hy, he⟩ := exp_real (real_sub h1 h0)
  have hne : (1 : EReal) + (y : EReal) ≠ 0 := by
    rw [← EReal.coe_one, ← EReal.coe_add]
    exact fun h => (by positivity : (0 : ℝ) < 1 + y).ne' (EReal.coe_eq_zero.mp h)
  have tw : ∀ l, twVec (e2Vec V) Q (ix2 r l) = Ideal.div (e2Vec V (ix2 r l)) (∑ x, e2Vec V (ix2 r x)) * Q (ix2 r 0) := fun l => by
    pointwise [twVec]
  rw [tw, tw, Fin.sum_univ_two, hex, hex, fin_sub_self h0, exp_zero', he]
  unfold firstW secondW Ideal.div
  rw [he, if_neg hne, if_neg hne, if_neg hne, if_neg hne]
  constructor
  · rw [one_mul, mul_comm]
  · rw [mul_comm, mul_assoc]

/-- One position of a one-hot row times a weight. -/
theorem hot_one (k l : Fin 16) (w : BitVec 32) (hw : w = BitVec.ofNat 32 k.val) (u : EReal) :
    FloatOps.uitofp (F := Ideal) FTy.f32 (IntOp.cmpi CmpIPredicate.eq w (BitVec.ofNat 32 l.val)) * u = if l.val = k.val then u else 0 := by
  subst hw
  rw [(by decide +kernel : ∀ k l : Fin 16, IntOp.cmpi CmpIPredicate.eq (BitVec.ofNat 32 k.val) (BitVec.ofNat 32 l.val)
    = BitVec.ofBool (decide (l.val = k.val))) k l]
  by_cases h : l.val = k.val
  · rw [if_pos h, h]
    simp only [decide_true]
    show (((1 : ℕ) : ℝ) : EReal) * u = u
    rw [Nat.cast_one, EReal.coe_one, one_mul]
  · rw [if_neg h]
    simp only [h, decide_false]
    show (((0 : ℕ) : ℝ) : EReal) * u = 0
    rw [Nat.cast_zero, EReal.coe_zero, zero_mul]

/-- The number of an expert of a group, as the reference computes it. -/
theorem id_word (s i : Fin 4) : IntOp.addi (IntOp.muli (BitVec.ofNat 32 s.val) 4#32) (BitVec.ofNat 32 i.val)
    = BitVec.ofNat 32 (4 * s.val + i.val) :=
  (by decide +kernel : ∀ s i : Fin 4, IntOp.addi (IntOp.muli (BitVec.ofNat 32 s.val) 4#32) (BitVec.ofNat 32 i.val)
    = BitVec.ofNat 32 (4 * s.val + i.val)) s i

/-- The two weights in their experts' lanes, zeros elsewhere. -/
theorem placed_apply (I : IVec S65536x1 32) (J : IVec S65536x2 32) (U : FVec Ideal S65536x2 .f32) (r : Fin 65536) (l : Fin 128)
    (s i j : Fin 4) (hI : I (ix2 r 0) = BitVec.ofNat 32 s.val) (h0 : J (ix2 r 0) = BitVec.ofNat 32 i.val)
    (h1 : J (ix2 r 1) = BitVec.ofNat 32 j.val) : padVec (hotVec (idVec I J) U) (ix2 r l)
      = (if l.val = 4 + (4 * s.val + i.val) then U (ix2 r 0) else 0) + (if l.val = 4 + (4 * s.val + j.val) then U (ix2 r 1) else 0) := by
  have d0 : idVec I J (ix2 r 0) = BitVec.ofNat 32 (4 * s.val + i.val) := by
    pointwise [idVec]
    rw [hI, h0, id_word]
  have d1 : idVec I J (ix2 r 1) = BitVec.ofNat 32 (4 * s.val + j.val) := by
    pointwise [idVec]
    rw [hI, h1, id_word]
  have hot : ∀ k : Fin 16, hotVec (idVec I J) U (ix2 r k)
      = (if k.val = 4 * s.val + i.val then U (ix2 r 0) else 0) + (if k.val = 4 * s.val + j.val then U (ix2 r 1) else 0) := fun k => by
    pointwise [hotVec]
    rw [Fin.sum_univ_two, hot_one ⟨4 * s.val + i.val, by omega⟩ k _ d0, hot_one ⟨4 * s.val + j.val, by omega⟩ k _ d1]
  pointwise [padVec]
  by_cases h : 4 ≤ l.val ∧ l.val - 4 < 16
  · rw [dif_pos h, hot]
    exact congrArg₂ (· + ·) (if_congr (by show l.val - 4 = _ ↔ _; omega) rfl rfl) (if_congr (by show l.val - 4 = _ ↔ _; omega) rfl rfl)
  · rw [dif_neg h, if_neg (by omega), if_neg (by omega), add_zero]
    show (((0#32 : BitVec 32).toInt : ℝ) : EReal) = 0
    simp

/-- The reference's gate at a row of real scores: the first greatest group's share, over its two best experts. -/
theorem gateVec_apply (T : FVec Ideal S65536x1024 .f32) (A9 : FVec Ideal S1024x4 .f32) (A10 : FVec Ideal S4 .f32)
    (A11 : FVec Ideal S1024x16 .f32) (A12 : FVec Ideal S16 .f32) (r : Fin 65536) (g : Fin 4 → EReal) (e : Fin 16 → EReal)
    (hg : g = fun l => ∑ x, T (ix2 r x) * A9 (ix2 x l) + A10 (ix1 l)) (he : e = fun k => ∑ x, T (ix2 r x) * A11 (ix2 x k) + A12 (ix1 k))
    (rg : ∀ l, IsReal (g l)) (re : ∀ k, IsReal (e k)) :
    ∃ s i j, IsTop g s ∧ IsTop (members e s) i ∧ j ≠ i ∧ IsTop (without (members e s) i) j
      ∧ ∀ l, gateVec T A9 A10 A11 A12 (ix2 r l) = gateAt g e s i j l := by
  have hG : (fun l => gVec T A9 A10 (ix2 r l)) = g := by
    subst hg
    funext l
    exact gVec_apply T A9 A10 r l
  obtain ⟨s, hs, hI⟩ := group_at (gVec T A9 A10) r
  have hM : (fun l => memVec (w1Vec (ixVec (gVec T A9 A10))) (eVec T A11 A12) (ix2 r l)) = members e s := by
    subst he
    funext l
    exact (memVec_apply _ _ r l s hI).trans (eVec_apply T A11 A12 r s l)
  have hMl : ∀ l, memVec (w1Vec (ixVec (gVec T A9 A10))) (eVec T A11 A12) (ix2 r l) = members e s l := fun l => congrFun hM l
  obtain ⟨i, j, hi, hij, hj, i0, i1, v0, v1⟩ := two_at (memVec (w1Vec (ixVec (gVec T A9 A10))) (eVec T A11 A12)) r
    (fun l => by rw [hMl]; exact fin_ne_bot (re _))
  rw [hMl] at v0 v1
  rw [hM] at hi hj
  have hsh : nrVec (exVec (gVec T A9 A10)) (ix2 r s) = share g s := by
    rw [nrVec_apply _ r s hs (by rw [show gVec T A9 A10 (ix2 r s) = g s from congrFun hG s]; exact rg s), hG]
  obtain ⟨u0, u1⟩ := twVec_apply (valVec (memVec (w1Vec (ixVec (gVec T A9 A10))) (eVec T A11 A12)))
    (gwVec (w0Vec (ixVec (gVec T A9 A10))) (nrVec (exVec (gVec T A9 A10)))) r (by rw [v0]; exact re _) (by rw [v1]; exact re _)
    (by rw [v0, v1]; exact hi.le j)
  rw [v0, v1, gwVec_apply _ _ r 0 s hI, hsh] at u0 u1
  rw [hG] at hs
  refine ⟨s, i, j, hs, hi, hij, hj, fun l => ?_⟩
  unfold gateVec gateAt
  rw [placed_apply _ _ _ r l s i j hI i0 i1, u0, u1]

end Cert.MergeRefIdeal.Own

end
-- ==== Proof.Merge.Kernel.lean ====
/- The merge-and-route kernel's result arrays are the reference's terms over the kernel's arguments. -/
module

public import proofs.«01_k».proof.Proof.Merge.Host
public import proofs.«01_k».proof.Proof.Merge.Ref

@[expose] public section

set_option maxRecDepth 16384

noncomputable section

namespace Cert.MergeIdeal.Own

open Idealize.ShloMosaic Idealize.ShloMosaic.TcCoe Idealize.SL.Sem
open Idealize.ShloMosaic.Pipeline (Dat)
open Cert.MergeIdeal Cert.MergeIdeal.Gen Cert.RouteOwn

variable (m : (ℓ : Loc nD τ sig) → Buf (Elt Ideal) ℓ) (c : Dev nD) (t : Fin cfg0.N)

theorem read9g (k : Fin 1024) (n : Fin 4) :
    (iblk m c 9 t : FVec Ideal S1024x128 .bf16) (ix2 k ⟨n.val, by omega⟩) = arg9 m c (ix2 k n) :=
  (at9 m c t k _).trans ((congrFun (V_hi m c) _).trans (catW_group _ _ k n))

theorem read9e (k : Fin 1024) (n : Fin 16) :
    (iblk m c 9 t : FVec Ideal S1024x128 .bf16) (ix2 k ⟨4 + n.val, by omega⟩) = arg11 m c (ix2 k n) :=
  (at9 m c t k _).trans ((congrFun (V_hi m c) _).trans (catW_expert _ _ k n))

/-- The biases' row, before it is reshaped. -/
theorem read11 (l : Fin 128) : (iblk m c 11 t : FVec Ideal S1x128 .f32) (ix2 0 l) = catB (arg10 m c) (arg12 m c) (ix1 l) := by
  refine (at11 m c t 0 l).trans ((congrFun (V_b m c) _).trans ?_)
  generalize catB (arg10 m c) (arg12 m c) = B
  pointwise

theorem read11g (n : Fin 4) : (iblk m c 11 t : FVec Ideal S1x128 .f32) (ix2 0 ⟨n.val, by omega⟩) = arg10 m c (ix1 n) :=
  (read11 m c t _).trans (catB_group _ _ n)

theorem read11e (n : Fin 16) : (iblk m c 11 t : FVec Ideal S1x128 .f32) (ix2 0 ⟨4 + n.val, by omega⟩) = arg12 m c (ix1 n) :=
  (read11 m c t _).trans (catB_expert _ _ n)

/-- What the weights lose in the cast, which is nothing where they are real. -/
theorem read10 (h9 : ∀ i, IsReal (arg9 m c i)) (h11 : ∀ i, IsReal (arg11 m c i)) (k : Fin 1024) (l : Fin 128) :
    ((iblk m c 10 t : FVec Ideal S1024x128 .bf16) (ix2 k l) : EReal) = (0 : EReal) :=
  (at10 m c t k l).trans ((congrFun (V_lo m c) _).trans (fin_sub_self (catW_real _ _ h9 h11 k l)))

/-- The reference's joined rows, over the kernel's arguments. -/
abbrev xRef : FVec Ideal S65536x1024 .f32 := MergeRefIdeal.Own.x1Vec (arg0 m c) (arg1 m c) (arg2 m c) (arg3 m c) (arg4 m c) (arg5 m c) (arg6 m c) (arg7 m c)

/-- The reference's normalised rows, over the kernel's arguments. -/
abbrev tRef : FVec Ideal S65536x1024 .f32 := MergeRefIdeal.Own.tVec (xRef m c) (arg8 m c)

/-- The kernel's joined rows are the reference's. -/
theorem x_row (a : Fin 512) (k : Fin 1024) :
    bX (iblk m c 0 t) (iblk m c 1 t) (iblk m c 2 t) (iblk m c 3 t) (iblk m c 4 t) (iblk m c 5 t) (iblk m c 6 t) (iblk m c 7 t) (ix2 a k)
      = (xRef m c) (ix2 (row t a) k) := by
  refine (pay2_apply _ _ _ _ _ _ _ _ a k).trans (Eq.trans ?_ (MergeRefIdeal.Own.x1Vec_apply _ _ _ _ _ _ _ _ (row t a) k).symm)
  congr 1
  · exact funext fun k => read0 m c t a k
  · exact funext fun k => read3 m c t a k
  · exact funext fun k => read4 m c t a k
  · exact funext fun k => read1 m c t a k
  · exact funext fun k => read2 m c t a k
  · exact funext fun j => funext fun k => read5 m c t j k
  · exact funext fun j => funext fun k => read6 m c t j k
  · exact funext fun j => funext fun k => read7 m c t j k

/-- The kernel's normalised rows are the reference's. -/
theorem t_row (a : Fin 512) (k : Fin 1024) :
    MoeOwn.normed (fun k => bX (iblk m c 0 t) (iblk m c 1 t) (iblk m c 2 t) (iblk m c 3 t) (iblk m c 4 t) (iblk m c 5 t) (iblk m c 6 t) (iblk m c 7 t) (ix2 a k))
      (fun k => (iblk m c 8 t : FVec Ideal S1x1024 .f32) (ix2 0 k)) k = (tRef m c) (ix2 (row t a) k) := by
  refine Eq.trans ?_ (MergeRefIdeal.Own.tVec_apply _ _ (row t a) k).symm
  congr 1
  · exact funext fun k => x_row m c t a k
  · exact funext fun k => read8 m c t k

/-- The reference's normalised rows are real where the norm's weights are. -/
theorem t_real (h8 : ∀ i, IsReal (arg8 m c i)) (r : Fin 65536) (k : Fin 1024) : IsReal (tRef m c (ix2 r k)) := by
  obtain ⟨v, hv⟩ := normed_fin (fun k => xRef m c (ix2 r k)) (fun k => arg8 m c (ix1 k)) k (h8 _)
  exact ⟨v, (MergeRefIdeal.Own.tVec_apply _ _ r k).trans hv⟩

/-- The first result. -/
theorem final12 : (dats m 0 c).arrAt 12 cfg0.N = xRef m c := by
  refine (dats m 0 c).arrAt_eq_of_covers 12 _ (by decide +kernel) fun t hf y => ?_
  blk_simp
  rw [after0_12, out12_eq]
  obtain ⟨a, b, rfl⟩ : ∃ (a : Fin 512) (b : Fin 1024), y = ix2 a b := ⟨y 0, y 1, eq_ix2 y⟩
  have hemb : ((cfg0.win 12).blk t).view.emb (ix2 a b) = ix2 (row t a) b := by
    unfold row
    blk_ext [idx t]
  rw [hemb]
  exact x_row m c t a b

/-- The second result. -/
theorem final13 : (dats m 0 c).arrAt 13 cfg0.N = truncf .bf16 (tRef m c) bitsLt_bf16_f32 := by
  refine (dats m 0 c).arrAt_eq_of_covers 13 _ (by decide +kernel) fun t hf y => ?_
  blk_simp
  rw [after0_13]
  obtain ⟨a, b, rfl⟩ : ∃ (a : Fin 512) (b : Fin 1024), y = ix2 a b := ⟨y 0, y 1, eq_ix2 y⟩
  have hemb : ((cfg0.win 13).blk t).view.emb (ix2 a b) = ix2 (row t a) b := by
    unfold row
    blk_ext [idx t]
  rw [hemb]
  exact (out13_apply _ _ _ _ _ _ _ _ _ _ _ _ a b).trans (t_row m c t a b)

/-- The third result, where the norm's weights and the router's are real. -/
theorem final14 (h8 : ∀ i, IsReal (arg8 m c i)) (h9 : ∀ i, IsReal (arg9 m c i)) (h10 : ∀ i, IsReal (arg10 m c i))
    (h11 : ∀ i, IsReal (arg11 m c i)) (h12 : ∀ i, IsReal (arg12 m c i)) :
    (dats m 0 c).arrAt 14 cfg0.N = MergeRefIdeal.Own.gateVec (tRef m c) (arg9 m c) (arg10 m c) (arg11 m c) (arg12 m c) := by
  refine (dats m 0 c).arrAt_eq_of_covers 14 _ (by decide +kernel) fun t hf y => ?_
  blk_simp
  rw [after0_14]
  obtain ⟨a, b, rfl⟩ : ∃ (a : Fin 512) (b : Fin 128), y = ix2 a b := ⟨y 0, y 1, eq_ix2 y⟩
  have hemb : ((cfg0.win 14).blk t).view.emb (ix2 a b) = ix2 (row t a) b := by
    unfold row
    blk_ext [idx t]
  rw [hemb]
  have rg : ∀ l : Fin 4, IsReal (∑ x : Fin 1024, (tRef m c) (ix2 (row t a) x) * arg9 m c (ix2 x l) + arg10 m c (ix1 l)) := fun l =>
    fin_add (fin_sum _ _ fun x _ => fin_mul (t_real m c h8 _ x) (h9 _)) (h10 _)
  have re : ∀ l : Fin 16, IsReal (∑ x : Fin 1024, (tRef m c) (ix2 (row t a) x) * arg11 m c (ix2 x l) + arg12 m c (ix1 l)) := fun l =>
    fin_add (fin_sum _ _ fun x _ => fin_mul (t_real m c h8 _ x) (h11 _)) (h12 _)
  obtain ⟨s, i, j, hs, hi, hij, hj, hgate⟩ := MergeRefIdeal.Own.gateVec_apply (tRef m c) (arg9 m c) (arg10 m c) (arg11 m c) (arg12 m c)
    (row t a) _ _ rfl rfl rg re
  refine (out14_apply _ _ _ _ _ _ _ _ _ _ _ _ a _ _ s i j (fun k => ?_) (fun k l => read10 m c t h9 h11 k l) (fun n => ?_)
    (fun n => ?_) rg re hs hi hij hj b).trans (hgate b).symm
  · rw [t_row]
    exact t_real m c h8 _ k
  · exact congrArg₂ (· + ·) (Finset.sum_congr rfl fun k _ => congrArg₂ (· * ·) (t_row m c t a k).symm (read9g m c t k n).symm)
      (read11g m c t n).symm
  · exact congrArg₂ (· + ·) (Finset.sum_congr rfl fun k _ => congrArg₂ (· * ·) (t_row m c t a k).symm (read9e m c t k n).symm)
      (read11e m c t n).symm

end Cert.MergeIdeal.Own

end
-- ==== Proof.Merge.GateTerm.lean ====
/- The gates that the reference returns, as the staged term. -/
module

public import proofs.«01_k».proof.Proof.Merge.RefTerms

@[expose] public section

set_option maxRecDepth 16384

noncomputable section

namespace Cert.MergeRefIdeal.Own

open Idealize.ShloMosaic Idealize.ShloMosaic.TcCoe Idealize.ShloMosaic.StableHlo Idealize.SL.Sem
open Cert.MergeRefIdeal Cert.MergeRefIdeal.Gen Cert.MergeRefIdeal.Value

variable (m : (ℓ : Loc nD τ sig) → Buf (Elt Ideal) ℓ) (c : Dev nD)

/-- The groups' scores. -/
theorem g_eq : Value.res_main_v27 (F := Ideal) (launchContents m c)
    = (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))) := by
  unfold Value.res_main_v27
  rw [t_eq]
  unfold gVec
  rfl

/-- Their exponentials. -/
theorem ex_eq : Value.res_main_v34 (F := Ideal) (launchContents m c)
    = exVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))) := by
  unfold Value.res_main_v34
  rw [g_eq]
  unfold exVec
  rfl

/-- The chosen groups. -/
theorem ix_eq : Value.res_main_indices (F := Ideal) (launchContents m c)
    = ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))) := by
  unfold Value.res_main_indices
  rw [g_eq]
  unfold ixVec
  rfl

/-- The positions of the groups' shares. -/
theorem w0_eq : Value.res_main_call0_v5 (F := Ideal) (launchContents m c)
    = w0Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10)))) := by
  unfold Value.res_main_call0_v5
  rw [ix_eq]
  unfold w0Vec
  rfl

/-- The positions of the members' scores. -/
theorem w1_eq : Value.res_main_call1_v5 (F := Ideal) (launchContents m c)
    = w1Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10)))) := by
  unfold Value.res_main_call1_v5 Value.res_main_v46
  rw [ix_eq]
  unfold w1Vec
  rfl

/-- The members' scores. -/
theorem mem_eq : Value.res_main_v48 (F := Ideal) (launchContents m c)
    = memVec (w1Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))))) (eVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg11)) (m ((c.tc : Thread nD τ).loc main_arg12))) := by
  unfold Value.res_main_v48
  rw [w1_eq, t_eq]
  unfold memVec eVec
  rfl

/-- The two greatest of them. -/
theorem val_eq : Value.res_main_values_5 (F := Ideal) (launchContents m c)
    = valVec (memVec (w1Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))))) (eVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg11)) (m ((c.tc : Thread nD τ).loc main_arg12)))) := by
  unfold Value.res_main_values_5
  rw [mem_eq]
  unfold valVec
  rfl

/-- Their exponentials. -/
theorem e2_eq : Value.res_main_v55 (F := Ideal) (launchContents m c)
    = e2Vec (valVec (memVec (w1Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))))) (eVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg11)) (m ((c.tc : Thread nD τ).loc main_arg12))))) := by
  unfold Value.res_main_v55
  rw [val_eq]
  unfold e2Vec
  rfl

/-- The reference's third result. -/
theorem gate_eq :
    (pad S65536x128 ![0, 4] ![0, 108] ![0, 0] (Host.reduceAdd (mulf (uitofp .f32 (cmpi .eq (broadcastInDim S65536x2x16 ![0, 1, 2] bcast_S65536x2x1_S65536x2x16_0_1_2 (broadcastInDim S65536x2x1 ![0, 1] bcast_S65536x2_S65536x2x1_0_1 (addi (broadcastInDim S65536x2 ![0, 1] bcast_S65536x1_S65536x2_0_1 (muli (res_main_indices (launchContents m c)) (broadcastInDim S65536x1 ![] bcast_S_S65536x1 (constantI S_ 32 4#32)))) ((Host.topK S65536x2 1 (FloatOps.cmpfTotal .gt) (res_main_v48 (launchContents m c)) sliceFits_S65536x4_S65536x2).2)))) (broadcastInDim S65536x2x16 ![0, 1, 2] bcast_S1x1x16_S65536x2x16_0_1_2 (iotaInDim S1x1x16 32 2)))) (broadcastInDim S65536x2x16 ![0, 1, 2] bcast_S65536x2x1_S65536x2x16_0_1_2 (broadcastInDim S65536x2x1 ![0, 1] bcast_S65536x2_S65536x2x1_0_1 (mulf (Host.divf (res_main_v55 (launchContents m c)) (broadcastInDim S65536x2 ![0, 1] bcast_S65536x1_S65536x2_0_1 (broadcastInDim S65536x1 ![0] bcast_S65536_S65536x1_0 (Host.reduceAdd (res_main_v55 (launchContents m c)) (constant S_ .f32 0x00000000#32) reducesTo_S65536x2_S65536_d1 h_S_)))) (broadcastInDim S65536x2 ![0, 1] bcast_S65536x1_S65536x2_0_1 (select (Host.reduce IntOp.andi (andi (cmpi .sge (res_main_call0_v5 (launchContents m c)) (broadcastInDim S65536x1x1 ![] bcast_S_S65536x1x1 (constantI S_ 32 0#32))) (cmpi .sle (res_main_call0_v5 (launchContents m c)) (broadcastInDim S65536x1x1 ![0, 1, 2] bcast_S1x1x1_S65536x1x1_0_1_2 (broadcastInDim S1x1x1 ![2] bcast_S1_S1x1x1_2 (constantI S1 32 3#32))))) (constantI S_ 1 1#1) reducesTo_S65536x1x1_S65536x1_d2 h_S_) (Host.gather gather_S65536x4_S65536x1x1_S65536x1_n_1_0_0_1_2_11 (Host.divf (res_main_v34 (launchContents m c)) (broadcastInDim S65536x4 ![0, 1] bcast_S65536x1_S65536x4_0_1 (broadcastInDim S65536x1 ![0] bcast_S65536_S65536x1_0 (Host.reduceAdd (res_main_v34 (launchContents m c)) (constant S_ .f32 0x00000000#32) reducesTo_S65536x4_S65536_d1 h_S_)))) (res_main_call0_v5 (launchContents m c))) (broadcastInDim S65536x1 ![] bcast_S_S65536x1 (constant S_ .f32 0x7FC00000#32)))))))) (constant S_ .f32 0x00000000#32) reducesTo_S65536x2x16_S65536x16_d1 h_S_) (sitofp .f32 (constantI S_ 32 0#32)) pads_S65536x16_S65536x128_000_41080 h_S_)
    = gateVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) := by
  rw [mem_eq, e2_eq, ix_eq, w0_eq, ex_eq]
  unfold gateVec padVec hotVec idVec twVec gwVec nrVec ix2Vec
  rfl

end Cert.MergeRefIdeal.Own

end
-- ==== Proof.Merge.Pre.lean ====
/- What the precondition says of the router's weights: every entry is a real number. -/
module

public import proofs.«01_k».proof.Defs
public import proofs.«01_k».proof.Proof.Gen.Pre_router_finite
public import proofs.«01_k».proof.Proof.Merge.Reads
public import Idealize.ShloMosaic.Lib.ReduceAll

@[expose] public section

set_option maxRecDepth 16384

noncomputable section

namespace Cert.MergeIdeal.Own

open Idealize.ShloMosaic Idealize.ShloMosaic.TcCoe Idealize.SL.Sem
open Cert.MergeIdeal Cert.MergeIdeal.Gen Cert.RouteOwn

/-- A number whose absolute value is under the greatest is real. -/
theorem real_of_abs (x : EReal) (h : FloatOps.cmpf (F := Ideal) (φ := .f32) .olt (FloatOps.absf (F := Ideal) (φ := .f32) x)
    (FloatOps.ofBits (F := Ideal) .f32 0x7F800000#32) = 1#1) : IsReal x := by
  have h' : max x (-x) < ⊤ := by
    have := (Ideal.cmp_olt_eq_one (x := max x (-x)) (y := Ideal.ofBits FTy.f32 0x7F800000#32)).mp h
    rwa [lit_top] at this
  induction x with
  | bot => simp at h'
  | top => simp at h'
  | coe r => exact ⟨r, rfl⟩

theorem and_one (a b : BitVec 1) (h : IntOp.andi a b = 1#1) : a = 1#1 ∧ b = 1#1 := by
  revert a b
  decide

/-- The precondition, taken apart. -/
theorem pre_real (m : (ℓ : Loc nD τ sig) → Buf (Elt Ideal) ℓ) (h : Pre_MergeIdeal_router_finite m) (c : Dev nD) :
    (∀ i, IsReal (arg8 m c i)) ∧ (∀ i, IsReal (arg9 m c i)) ∧ (∀ i, IsReal (arg10 m c i)) ∧ (∀ i, IsReal (arg11 m c i))
      ∧ ∀ i, IsReal (arg12 m c i) := by
  have hall : ∀ j, Cert.Pre_router_finite.fn (F := Ideal) (arg0 m c) (arg1 m c) (arg2 m c) (arg3 m c) (arg4 m c) (arg5 m c) (arg6 m c) (arg7 m c) (arg8 m c) (arg9 m c) (arg10 m c) (arg11 m c) (arg12 m c) j = 1#1 := fun j => congrFun (h c) j
  have e := hall ix0
  dsimp only [Cert.Pre_router_finite.fn, Cert.Pre_router_finite.fn_part1] at e
  obtain ⟨e, e12⟩ := and_one _ _ e
  obtain ⟨e, e11⟩ := and_one _ _ e
  obtain ⟨e, e10⟩ := and_one _ _ e
  obtain ⟨e8, e9⟩ := and_one _ _ e
  refine ⟨fun i => ?_, fun i => ?_, fun i => ?_, fun i => ?_, fun i => ?_⟩
  · exact real_of_abs _ (Host.reduce_andi_all _ _ _ _ _ e8 i)
  · exact real_of_abs _ (Host.reduce_andi_all _ _ _ _ _ e9 i)
  · exact real_of_abs _ (Host.reduce_andi_all _ _ _ _ _ e10 i)
  · exact real_of_abs _ (Host.reduce_andi_all _ _ _ _ _ e11 i)
  · exact real_of_abs _ (Host.reduce_andi_all _ _ _ _ _ e12 i)

end Cert.MergeIdeal.Own

end
-- ==== Proof.Inproj.Spec.lean ====
/- The normalised heads and the rotary embedding at one element, over plain functions into the extended reals. -/
module

public import proofs.«01_k».proof.Proof.Merge.Spec

@[expose] public section

noncomputable section

namespace Cert.InprojOwn

open Idealize.ShloMosaic

/-- One head's vector `u`, normalised and weighted by `g`, at lane `d`. -/
def headNorm (u g : Fin 64 → EReal) (d : Fin 64) : EReal :=
  u d * Ideal.rsqrt (Ideal.div (∑ e, u e * u e) (Ideal.ofBits FTy.f32 0x42800000#32) + Ideal.ofBits FTy.f32 0x358637BD#32) * g d

/-- The rotary embedding of one head's vector `u`: lanes 0–7 and 8–15 are turned by the angles of cosines `c` and sines `s`, the
    others are kept. -/
def rope (u : Fin 64 → EReal) (c s : Fin 8 → EReal) (d : Fin 64) : EReal :=
  if h : d.val < 8 then u d * c ⟨d.val, h⟩ - u ⟨d.val + 8, by omega⟩ * s ⟨d.val, h⟩
  else if h' : d.val < 16 then u d * c ⟨d.val - 8, by omega⟩ + u ⟨d.val - 8, by omega⟩ * s ⟨d.val - 8, by omega⟩
  else u d

/-- One projection of the normalised row `x`: along the column `w`. -/
def proj {n : ℕ} (x g w : Fin n → EReal) : EReal := ∑ k, MoeOwn.normed x g k * w k

/-- The logistic function. -/
def logistic (z : EReal) : EReal := Ideal.div 1 (1 + Ideal.exp (-z))

/-- Lane `d` of the first or the second head in a tile of two heads. -/
def lane (p : Fin 2) (d : Fin 64) : Fin 128 := ⟨64 * p.val + d.val, by omega⟩

theorem exists_lane (l : Fin 128) : ∃ p d, l = lane p d :=
  ⟨⟨l.val / 64, by omega⟩, ⟨l.val % 64, by omega⟩, Fin.ext (by show l.val = 64 * (l.val / 64) + l.val % 64; omega)⟩

/-- The cosines over a tile's lanes: 1 where nothing is turned. -/
def cosLane (c : Fin 8 → EReal) (d : Fin 64) : EReal :=
  if h : d.val < 8 then c ⟨d.val, h⟩ else if h' : d.val < 16 then c ⟨d.val - 8, by omega⟩ else 1

/-- The signed sines over a tile's lanes: 0 where nothing is turned. -/
def sinLane (s : Fin 8 → EReal) (d : Fin 64) : EReal :=
  if h : d.val < 8 then -s ⟨d.val, h⟩ else if h' : d.val < 16 then s ⟨d.val - 8, by omega⟩ else 0

theorem lit_64 : Ideal.ofBits FTy.f32 0x42800000#32 = ((64 : ℝ) : EReal) := by
  simp [Ideal.ofBits, Ideal.ieee]
  rw [← EReal.coe_mul]
  norm_num

theorem lit_64th : Ideal.ofBits FTy.f32 0x3C800000#32 = ((1 / 64 : ℝ) : EReal) := by
  simp [Ideal.ofBits, Ideal.ieee]
  rw [← EReal.coe_mul]
  norm_num

/-- The product with a 64th is the quotient by 64. -/
theorem mul_64th (x : EReal) : x * Ideal.ofBits FTy.f32 0x3C800000#32 = Ideal.div x (Ideal.ofBits FTy.f32 0x42800000#32) := by
  rw [lit_64, lit_64th, Ideal.div, if_neg (by exact_mod_cast (by norm_num : (64 : ℝ) ≠ 0)), ← EReal.coe_inv]
  norm_num

/-- A projection is real where the norm's weights and the column are. -/
theorem proj_fin {n : ℕ} (x g w : Fin n → EReal) (hg : ∀ k, RouteOwn.IsReal (g k)) (hw : ∀ k, RouteOwn.IsReal (w k)) :
    RouteOwn.IsReal (proj x g w) :=
  RouteOwn.fin_sum _ _ fun k _ => RouteOwn.fin_mul (RouteOwn.normed_fin x g k (hg k)) (hw k)

end Cert.InprojOwn

end
-- ==== Proof.Inproj.Pay.lean ====
/- What the vector expressions of the projection kernel's body are at one element. -/
module

public import proofs.«01_k».proof.Proof.Gen.InprojIdeal.Skeleton
public import proofs.«01_k».proof.Proof.Inproj.Spec
public import Idealize.ShloMosaic.Lib.KernelVsHost

@[expose] public section

set_option maxRecDepth 16384

noncomputable section

namespace Cert.InprojIdeal.Own

open Idealize.ShloMosaic Idealize.ShloMosaic.TcCoe Idealize.SL.Sem
open Cert.InprojIdeal Cert.InprojIdeal.Gen Cert.RouteOwn Cert.InprojOwn

/-- The rotary embedding of a tile of two heads, as the body writes it. -/
def ropeT (C S u : FVec Ideal S512x128 .f32) : FVec Ideal S512x128 .f32 :=
  addf (mulf u C) (mulf (select k0_pay6 (dynamicRotate 1 120#32 none u rotates_S512x128_d1) (dynamicRotate 1 8#32 none u rotates_S512x128_d1)) S)

/-- The sums of the squares of each head's lanes, as the body writes them: in three parts, through the matrix `B`. -/
def sumT (u : FVec Ideal S512x128 .f32) (B : FVec Ideal S128x128 .bf16) : FVec Ideal S512x128 .f32 :=
  have s : FVec Ideal S512x128 .f32 := mulf u u
  have s1 : FVec Ideal S512x128 .f32 := subf s (extf .f32 (truncf .bf16 s bitsLt_bf16_f32) bitsLt_bf16_f32)
  have s2 : FVec Ideal S512x128 .f32 := subf s1 (extf .f32 (truncf .bf16 s1 bitsLt_bf16_f32) bitsLt_bf16_f32)
  addf (addf (addf (broadcast S512x128 (Scalar.ofBits (F := Ideal) .f32 0x00000000#32))
    (matmul dot_S512x128_S128x128_S512x128_1_0_0_1_n_n none (truncf .bf16 s bitsLt_bf16_f32) B (constant S512x128 .f32 0x00000000#32)))
    (matmul dot_S512x128_S128x128_S512x128_1_0_0_1_n_n none (truncf .bf16 s1 bitsLt_bf16_f32) B (constant S512x128 .f32 0x00000000#32)))
    (matmul dot_S512x128_S128x128_S512x128_1_0_0_1_n_n none (truncf .bf16 s2 bitsLt_bf16_f32) B (constant S512x128 .f32 0x00000000#32))

/-- The normalisation of a tile of two heads, as the body writes it. -/
def headT (u : FVec Ideal S512x128 .f32) (B : FVec Ideal S128x128 .bf16) (g : FVec Ideal S1x128 .f32) : FVec Ideal S512x128 .f32 :=
  mulf (mulf u (rsqrt (addf (mulf (sumT u B) (broadcast S512x128 (Scalar.ofBits (F := Ideal) .f32 0x3C800000#32)))
    (broadcast S512x128 (Scalar.ofBits (F := Ideal) .f32 0x358637BD#32))))) (broadcastTo S512x128 g broadcasts_S1x128_S512x128)

/-- A tile of the queries, as the body writes it. -/
def queryT (C S u : FVec Ideal S512x128 .f32) (B : FVec Ideal S128x128 .bf16) (g : FVec Ideal S1x128 .f32) : FVec Ideal S512x128 .bf16 :=
  truncf .bf16 (mulf (ropeT C S (headT u B g)) (broadcast S512x128 (Scalar.ofBits (F := Ideal) .f32 0x3E38AA3B#32))) bitsLt_bf16_f32

/-- A tile of the index queries, as the body writes it. -/
def indexT (C S u : FVec Ideal S512x128 .f32) : FVec Ideal S512x128 .bf16 :=
  truncf .bf16 (mulf (ropeT C S u) (broadcast S512x128 (Scalar.ofBits (F := Ideal) .f32 0x3E000000#32))) bitsLt_bf16_f32

section Same

variable (C S u : FVec Ideal S512x128 .f32) (B : FVec Ideal S128x128 .bf16) (g : FVec Ideal S1x128 .f32) (Z : FVec Ideal S512x512 .f32)

theorem pay10_eq : k0_pay10 (F := Ideal) C S k0_pay6 B u g = queryT C S u B (k0_pay12 g) := rfl

theorem pay18_eq : k0_pay18 (F := Ideal) C S k0_pay6 B (k0_pay11 Z) g (k0_pay14 Z) (k0_pay15 Z) (k0_pay16 Z) (k0_pay17 Z)
    = queryT C S (k0_pay11 Z) B g := rfl

theorem pay27_eq : k0_pay27 (F := Ideal) C S k0_pay6 B (k0_pay19 Z) g (k0_pay25 Z) (k0_pay26 B Z) = queryT C S (k0_pay19 Z) B g := rfl

theorem pay31_eq : k0_pay31 (F := Ideal) C S k0_pay6 (k0_pay28 Z) g (k0_pay30 B Z) = queryT C S (k0_pay28 Z) B g := rfl

variable (h : FVec Ideal S512x1024 .bf16) (w : FVec Ideal S1024x128 .bf16) (w2 : FVec Ideal S1024x256 .bf16)

theorem pay32_eq : k0_pay32 (F := Ideal) h B w g = headT (k0_pay36 h w) B (k0_pay12 g) := rfl

theorem pay34_eq : k0_pay34 (F := Ideal) C S k0_pay6 (k0_pay32 h B w g) (k0_pay33 h B w g) = ropeT C S (headT (k0_pay36 h w) B (k0_pay12 g)) := rfl

theorem pay35_eq : k0_pay35 (F := Ideal) C S k0_pay6 (k0_pay32 h B w g) (k0_pay33 h B w g)
    = truncf .bf16 (ropeT C S (headT (k0_pay36 h w) B (k0_pay12 g))) bitsLt_bf16_f32 := rfl

theorem pay39_eq : k0_pay39 (F := Ideal) h C S k0_pay6 w2
    = indexT C S (extractStridedSlice S512x128 ![0, 0] (k0_pay38 h w2) slices_S512x256_o0_0_S512x128) := rfl

theorem pay43_eq : k0_pay43 (F := Ideal) S (k0_pay41 h k0_pay6 w2) (k0_pay42 h C w2)
    = indexT C S (extractStridedSlice S512x128 ![0, 128] (k0_pay38 h w2) slices_S512x256_o0_128_S512x128) := rfl

theorem pay45_eq : k0_pay45 (F := Ideal) h C S (iota .tc S512x128 32 [1] iota_S512x128_d1_w32) k0_pay6 w
    = select (cmpi .slt (iota .tc S512x128 32 [1] iota_S512x128_d1_w32) (broadcast S512x128 64#32)) (ropeT C S (k0_pay44 h w))
        (broadcast S512x128 (Scalar.ofBits (F := Ideal) .f32 0x00000000#32)) := rfl

end Same

/-! ### At one element -/

/-- The kernel's test of a lane: whether its number within its head is under 8. -/
theorem pay6_apply (r : Fin 512) (p : Fin 2) (d : Fin 64) : k0_pay6 (ix2 r (lane p d)) = BitVec.ofBool (decide (d.val < 8)) := by
  pointwise [k0_pay6]
  exact (by decide +kernel : ∀ (p : Fin 2) (d : Fin 64),
    IntOp.cmpi CmpIPredicate.slt (IntOp.andi (BitVec.ofNat 32 (lane p d).val) 63#32) 8#32 = BitVec.ofBool (decide (d.val < 8))) p d

theorem roll_apply (u : FVec Ideal S512x128 .f32) (n : BitVec 32) (r : Fin 512) (l k : Fin 128)
    (h : k.val = (l.val + 128 - n.toNat % 128) % 128) : dynamicRotate 1 n none u rotates_S512x128_d1 (ix2 r l) = u (ix2 r k) :=
  dynamicRotate_apply (s := S512x128) 1 n u _ (ix2 r l) (ix2 r k) (by
    intro b
    fin_cases b
    · rfl
    · exact h)

/-- The rotary embedding of a tile, head by head. -/
theorem ropeT_apply (C S u : FVec Ideal S512x128 .f32) (c s : Fin 8 → EReal) (r : Fin 512) (p : Fin 2) (d : Fin 64)
    (hC : C (ix2 r (lane p d)) = cosLane c d) (hS : S (ix2 r (lane p d)) = sinLane s d) :
    ropeT C S u (ix2 r (lane p d)) = rope (fun e => u (ix2 r (lane p e))) c s d := by
  have e : ropeT C S u (ix2 r (lane p d)) = u (ix2 r (lane p d)) * C (ix2 r (lane p d))
      + Scalar.select (k0_pay6 (ix2 r (lane p d))) (dynamicRotate 1 120#32 none u rotates_S512x128_d1 (ix2 r (lane p d)))
          (dynamicRotate 1 8#32 none u rotates_S512x128_d1 (ix2 r (lane p d))) * S (ix2 r (lane p d)) := rfl
  rw [e, pay6_apply, hC, hS]
  unfold rope cosLane sinLane
  by_cases h : d.val < 8
  · rw [roll_apply u 120#32 r (lane p d) (lane p ⟨d.val + 8, by omega⟩) (by
      show 64 * p.val + (d.val + 8) = (64 * p.val + d.val + 128 - 120) % 128
      omega)]
    simp only [h, decide_true, BitVec.ofBool_true, Scalar.select, ↓reduceIte, ↓reduceDIte, mul_neg, sub_eq_add_neg]
  · by_cases h' : d.val < 16
    · rw [roll_apply u 8#32 r (lane p d) (lane p ⟨d.val - 8, by omega⟩) (by
        show 64 * p.val + (d.val - 8) = (64 * p.val + d.val + 128 - 8) % 128
        omega)]
      simp [h, h', Scalar.select]
    · simp [h, h']

/-- Adding up over the lanes of one head. -/
theorem sum_lanes (f : Fin 128 → EReal) (p : Fin 2) :
    ∑ k : Fin 128, f k * (if k.val / 64 = p.val then 1 else 0) = ∑ e : Fin 64, f (lane p e) := by
  rw [Fin.sum_univ_two_halves 64 64 rfl]
  have h0 : ∀ i : Fin 64, i.val / 64 = 0 := fun i => by omega
  have h1 : ∀ i : Fin 64, (64 + i.val) / 64 = 1 := fun i => by omega
  fin_cases p
  · simp [h0, h1, lane]
  · simp [h0, h1, lane]

/-- The sums of the squares, where the rows are real. -/
theorem sumT_apply (u : FVec Ideal S512x128 .f32) (B : FVec Ideal S128x128 .bf16) (r : Fin 512) (p : Fin 2) (d : Fin 64)
    (hu : ∀ k, IsReal (u (ix2 r k)))
    (hB : ∀ k l : Fin 128, B (ix2 k l) = if k.val / 64 = l.val / 64 then 1 else 0) :
    sumT u B (ix2 r (lane p d)) = ∑ e : Fin 64, u (ix2 r (lane p e)) * u (ix2 r (lane p e)) := by
  pointwise [sumT]
  simp only [fin_sub_self (fin_mul (hu _) (hu _)), sub_zero, zero_mul, Finset.sum_const_zero, add_zero, hB]
  have hl : (lane p d).val / 64 = p.val := by
    show (64 * p.val + d.val) / 64 = p.val
    omega
  rw [hl]
  exact sum_lanes (fun k => u (ix2 r k) * u (ix2 r k)) p

/-- The normalisation of a tile, head by head, where the rows are real. -/
theorem headT_apply (u : FVec Ideal S512x128 .f32) (B : FVec Ideal S128x128 .bf16) (g : FVec Ideal S1x128 .f32) (r : Fin 512) (p : Fin 2)
    (d : Fin 64) (hu : ∀ k, IsReal (u (ix2 r k)))
    (hB : ∀ k l : Fin 128, B (ix2 k l) = if k.val / 64 = l.val / 64 then 1 else 0) :
    headT u B g (ix2 r (lane p d)) = headNorm (fun e => u (ix2 r (lane p e))) (fun e => g (ix2 0 (lane p e))) d := by
  have e := sumT_apply u B r p d hu hB
  revert e
  unfold headT
  generalize sumT u B = s
  intro e
  pointwise
  rw [e, headNorm, mul_64th]

/-- A projection of a block's rows. -/
theorem pay8_apply (x : FVec Ideal S512x1024 .f32) (g : FVec Ideal S1x1024 .f32) (w : FVec Ideal S1024x512 .bf16) (r : Fin 512) (l : Fin 512) :
    k0_pay8 (F := Ideal) x g w (ix2 r l) = proj (fun k => x (ix2 r k)) (fun k => g (ix2 0 k)) (fun k => w (ix2 k l)) := by
  pointwise [k0_pay8, k0_pay3]
  rfl

theorem pay7_apply (x : FVec Ideal S512x1024 .f32) (g : FVec Ideal S1x1024 .f32) (w : FVec Ideal S1024x1792 .bf16) (r : Fin 512) (l : Fin 1792) :
    k0_pay7 (F := Ideal) x g w (ix2 r l) = proj (fun k => x (ix2 r k)) (fun k => g (ix2 0 k)) (fun k => w (ix2 k l)) := by
  pointwise [k0_pay7, k0_pay3]
  rfl

theorem pay36_apply (x : FVec Ideal S512x1024 .f32) (g : FVec Ideal S1x1024 .f32) (w : FVec Ideal S1024x128 .bf16) (r : Fin 512) (l : Fin 128) :
    k0_pay36 (F := Ideal) (k0_pay3 x g) w (ix2 r l) = proj (fun k => x (ix2 r k)) (fun k => g (ix2 0 k)) (fun k => w (ix2 k l)) := by
  pointwise [k0_pay36, k0_pay3]
  rfl

theorem pay44_apply (x : FVec Ideal S512x1024 .f32) (g : FVec Ideal S1x1024 .f32) (w : FVec Ideal S1024x128 .bf16) (r : Fin 512) (l : Fin 128) :
    k0_pay44 (F := Ideal) (k0_pay3 x g) w (ix2 r l) = proj (fun k => x (ix2 r k)) (fun k => g (ix2 0 k)) (fun k => w (ix2 k l)) := by
  pointwise [k0_pay44, k0_pay3]
  rfl

theorem pay38_apply (x : FVec Ideal S512x1024 .f32) (g : FVec Ideal S1x1024 .f32) (w : FVec Ideal S1024x256 .bf16) (r : Fin 512) (l : Fin 256) :
    k0_pay38 (F := Ideal) (k0_pay3 x g) w (ix2 r l) = proj (fun k => x (ix2 r k)) (fun k => g (ix2 0 k)) (fun k => w (ix2 k l)) := by
  pointwise [k0_pay38, k0_pay3]
  rfl

theorem gateA_apply (x : FVec Ideal S512x1024 .f32) (g : FVec Ideal S1x1024 .f32) (w : FVec Ideal S1024x1024 .bf16) (r : Fin 512) (l : Fin 1024) :
    k0_pay1 (F := Ideal) (k0_pay49 (k0_pay3 x g) w) (ix2 r l)
      = logistic (proj (fun k => x (ix2 r k)) (fun k => g (ix2 0 k)) (fun k => w (ix2 k l))) := by
  pointwise [k0_pay1, k0_pay49, k0_pay3]
  rw [zero_sub]
  rfl

theorem gateB_apply (x : FVec Ideal S512x1024 .f32) (g : FVec Ideal S1x1024 .f32) (w : FVec Ideal S1024x1024 .bf16) (r : Fin 512) (l : Fin 1024) :
    k0_pay2 (F := Ideal) (k0_pay3 x g) w (ix2 r l)
      = logistic (proj (fun k => x (ix2 r k)) (fun k => g (ix2 0 k)) (fun k => w (ix2 k l))) := by
  pointwise [k0_pay2, k0_pay3]
  rw [zero_sub]
  rfl

/-- A tile of the queries at one element, where the rows are real. -/
theorem queryT_apply (C S u : FVec Ideal S512x128 .f32) (B : FVec Ideal S128x128 .bf16) (g : FVec Ideal S1x128 .f32) (c s : Fin 8 → EReal)
    (r : Fin 512) (p : Fin 2) (d : Fin 64) (hC : C (ix2 r (lane p d)) = cosLane c d) (hS : S (ix2 r (lane p d)) = sinLane s d)
    (hu : ∀ k, IsReal (u (ix2 r k))) (hB : ∀ k l : Fin 128, B (ix2 k l) = if k.val / 64 = l.val / 64 then 1 else 0) :
    queryT C S u B g (ix2 r (lane p d))
      = rope (headNorm (fun e => u (ix2 r (lane p e))) (fun e => g (ix2 0 (lane p e)))) c s d * Ideal.ofBits FTy.f32 0x3E38AA3B#32 := by
  refine Eq.trans ?_ (congrArg (· * Ideal.ofBits FTy.f32 0x3E38AA3B#32)
    ((ropeT_apply C S (headT u B g) c s r p d hC hS).trans (congrArg (fun v => rope v c s d) (funext fun e => headT_apply u B g r p e hu hB))))
  rfl

/-- A tile of the index queries at one element. -/
theorem indexT_apply (C S u : FVec Ideal S512x128 .f32) (c s : Fin 8 → EReal)
    (r : Fin 512) (p : Fin 2) (d : Fin 64) (hC : C (ix2 r (lane p d)) = cosLane c d) (hS : S (ix2 r (lane p d)) = sinLane s d) :
    indexT C S u (ix2 r (lane p d)) = rope (fun e => u (ix2 r (lane p e))) c s d * Ideal.ofBits FTy.f32 0x3E000000#32 :=
  congrArg (· * Ideal.ofBits FTy.f32 0x3E000000#32) (ropeT_apply C S u c s r p d hC hS)

/-- A tile of the keys at one element, where the rows are real. -/
theorem keyT_apply (C S u : FVec Ideal S512x128 .f32) (B : FVec Ideal S128x128 .bf16) (g : FVec Ideal S1x128 .f32) (c s : Fin 8 → EReal)
    (r : Fin 512) (p : Fin 2) (d : Fin 64) (hC : C (ix2 r (lane p d)) = cosLane c d) (hS : S (ix2 r (lane p d)) = sinLane s d)
    (hu : ∀ k, IsReal (u (ix2 r k))) (hB : ∀ k l : Fin 128, B (ix2 k l) = if k.val / 64 = l.val / 64 then 1 else 0) :
    ropeT C S (headT u B g) (ix2 r (lane p d))
      = rope (headNorm (fun e => u (ix2 r (lane p e))) (fun e => g (ix2 0 (lane p e)))) c s d :=
  (ropeT_apply C S (headT u B g) c s r p d hC hS).trans (congrArg (fun v => rope v c s d) (funext fun e => headT_apply u B g r p e hu hB))

/-- The turned index keys, which stand in a tile's first 64 lanes. -/
theorem pay45_apply (h : FVec Ideal S512x1024 .bf16) (C S : FVec Ideal S512x128 .f32) (w : FVec Ideal S1024x128 .bf16) (c s : Fin 8 → EReal)
    (r : Fin 512) (p : Fin 2) (d : Fin 64) (hC : C (ix2 r (lane p d)) = cosLane c d) (hS : S (ix2 r (lane p d)) = sinLane s d) :
    k0_pay45 (F := Ideal) h C S (iota .tc S512x128 32 [1] iota_S512x128_d1_w32) k0_pay6 w (ix2 r (lane p d))
      = if p.val = 0 then rope (fun e => k0_pay44 (F := Ideal) h w (ix2 r (lane 0 e))) c s d else 0 := by
  rw [pay45_eq]
  have hr := ropeT_apply C S (k0_pay44 (F := Ideal) h w) c s r p d hC hS
  revert hr
  generalize ropeT C S (k0_pay44 (F := Ideal) h w) = R
  intro hr
  pointwise
  rw [(by decide +kernel : ∀ (p : Fin 2) (d : Fin 64),
    IntOp.cmpi CmpIPredicate.slt (BitVec.ofNat 32 (lane p d).val) 64#32 = BitVec.ofBool (decide (p.val = 0))) p d, hr]
  by_cases hp : p.val = 0
  · obtain rfl : p = 0 := Fin.ext hp
    simp [Scalar.select]
  · simp [hp, Scalar.select]

/-- The index keys, twice side by side. -/
theorem pay47_apply (h : FVec Ideal S512x1024 .bf16) (C S : FVec Ideal S512x128 .f32) (w : FVec Ideal S1024x128 .bf16) (c s : Fin 8 → EReal)
    (r : Fin 512) (p : Fin 2) (d : Fin 64) (hC : ∀ p d, C (ix2 r (lane p d)) = cosLane c d) (hS : ∀ p d, S (ix2 r (lane p d)) = sinLane s d) :
    k0_pay47 (F := Ideal) h C S (iota .tc S512x128 32 [1] iota_S512x128_d1_w32) k0_pay6 w (ix2 r (lane p d))
      = rope (fun e => k0_pay44 (F := Ideal) h w (ix2 r (lane 0 e))) c s d := by
  have hr := fun p d => pay45_apply h C S w c s r p d (hC p d) (hS p d)
  revert hr
  unfold k0_pay47
  generalize k0_pay45 (F := Ideal) h C S (iota .tc S512x128 32 [1] iota_S512x128_d1_w32) k0_pay6 w = R
  intro hr
  show R (ix2 r (lane p d)) + dynamicRotate 1 64#32 none R rotates_S512x128_d1 (ix2 r (lane p d)) = _
  rw [roll_apply R 64#32 r (lane p d) (lane (1 - p) d) (by
    show 64 * (1 - p).val + d.val = (64 * p.val + d.val + 128 - 64) % 128
    fin_cases p
    · show 64 * 1 + d.val = (64 * 0 + d.val + 128 - 64) % 128
      omega
    · show 64 * 0 + d.val = (64 * 1 + d.val + 128 - 64) % 128
      omega), hr, hr]
  fin_cases p
  · simp
  · simp

/-- The index weights' tile. -/
theorem pay48_apply (x : FVec Ideal S512x1024 .f32) (g : FVec Ideal S1x1024 .f32) (w : FVec Ideal S1024x128 .bf16) (r : Fin 512) (l : Fin 128) :
    k0_pay48 (F := Ideal) (k0_pay3 x g) w (ix2 r l)
      = proj (fun k => x (ix2 r k)) (fun k => g (ix2 0 k)) (fun k => w (ix2 k l)) * Ideal.ofBits FTy.f32 0x3F000000#32 :=
  congrArg (· * Ideal.ofBits FTy.f32 0x3F000000#32) (pay44_apply x g w r l)

end Cert.InprojIdeal.Own

end
-- ==== Proof.Inproj.Block.lean ====
/- What the projection kernel's body leaves in its twelve output blocks, from the input blocks, one row at a time. -/
module

public import proofs.«01_k».proof.Proof.Gen.InprojIdeal.Frame
public import proofs.«01_k».proof.Proof.Inproj.Pay
public import Idealize.ShloMosaic.Lib.Pipeline.ValueKit

@[expose] public section

set_option maxRecDepth 16384

noncomputable section

namespace Cert.InprojIdeal.Own

open Idealize.ShloMosaic Idealize.ShloMosaic.TcCoe Idealize.SL.Sem
open Cert.InprojIdeal Cert.InprojIdeal.Gen Cert.RouteOwn Cert.InprojOwn

/-! ### The columns that the body takes of the weights -/

section Columns

variable (W : FVec Ideal S1024x4992 .bf16) (k : Fin 1024)

theorem ld5 (l : Fin 1792) : View.ld (Val := Elt Ideal) (e' := .bf16) W r0_5 (ix2 k l) = W (ix2 k ⟨l.val, by omega⟩) :=
  View.ld_unit_apply_of (Val := Elt Ideal) (S := S1024x4992) (e := .bf16) W ![0, 0] S1024x1792.size inb_S1024x4992_S1024x1792_0_0 (ix2 k l) _
    (fun a => match a with | 0 => (Nat.zero_add _).symm | 1 => (Nat.zero_add _).symm)

theorem ld7 (l : Fin 512) : View.ld (Val := Elt Ideal) (e' := .bf16) W r0_7 (ix2 k l) = W (ix2 k ⟨1792 + l.val, by omega⟩) :=
  View.ld_unit_apply_of (Val := Elt Ideal) (S := S1024x4992) (e := .bf16) W ![0, 1792] S1024x512.size inb_S1024x4992_S1024x512_0_1792 (ix2 k l) _
    (fun a => match a with | 0 => (Nat.zero_add _).symm | 1 => rfl)

theorem ld13 (l : Fin 128) : View.ld (Val := Elt Ideal) (e' := .bf16) W r0_13 (ix2 k l) = W (ix2 k ⟨2304 + l.val, by omega⟩) :=
  View.ld_unit_apply_of (Val := Elt Ideal) (S := S1024x4992) (e := .bf16) W ![0, 2304] S1024x128.size inb_S1024x4992_S1024x128_0_2304 (ix2 k l) _
    (fun a => match a with | 0 => (Nat.zero_add _).symm | 1 => rfl)

theorem ld15 (l : Fin 128) : View.ld (Val := Elt Ideal) (e' := .bf16) W r0_15 (ix2 k l) = W (ix2 k ⟨2432 + l.val, by omega⟩) :=
  View.ld_unit_apply_of (Val := Elt Ideal) (S := S1024x4992) (e := .bf16) W ![0, 2432] S1024x128.size inb_S1024x4992_S1024x128_0_2432 (ix2 k l) _
    (fun a => match a with | 0 => (Nat.zero_add _).symm | 1 => rfl)

theorem ld16 (l : Fin 256) : View.ld (Val := Elt Ideal) (e' := .bf16) W r0_16 (ix2 k l) = W (ix2 k ⟨2560 + l.val, by omega⟩) :=
  View.ld_unit_apply_of (Val := Elt Ideal) (S := S1024x4992) (e := .bf16) W ![0, 2560] S1024x256.size inb_S1024x4992_S1024x256_0_2560 (ix2 k l) _
    (fun a => match a with | 0 => (Nat.zero_add _).symm | 1 => rfl)

theorem ld17 (l : Fin 128) : View.ld (Val := Elt Ideal) (e' := .bf16) W r0_17 (ix2 k l) = W (ix2 k ⟨2816 + l.val, by omega⟩) :=
  View.ld_unit_apply_of (Val := Elt Ideal) (S := S1024x4992) (e := .bf16) W ![0, 2816] S1024x128.size inb_S1024x4992_S1024x128_0_2816 (ix2 k l) _
    (fun a => match a with | 0 => (Nat.zero_add _).symm | 1 => rfl)

theorem ld19 (l : Fin 1024) : View.ld (Val := Elt Ideal) (e' := .bf16) W r0_19 (ix2 k l) = W (ix2 k ⟨2944 + l.val, by omega⟩) :=
  View.ld_unit_apply_of (Val := Elt Ideal) (S := S1024x4992) (e := .bf16) W ![0, 2944] S1024x1024.size inb_S1024x4992_S1024x1024_0_2944 (ix2 k l) _
    (fun a => match a with | 0 => (Nat.zero_add _).symm | 1 => rfl)

theorem ld20 (l : Fin 1024) : View.ld (Val := Elt Ideal) (e' := .bf16) W r0_20 (ix2 k l) = W (ix2 k ⟨3968 + l.val, by omega⟩) :=
  View.ld_unit_apply_of (Val := Elt Ideal) (S := S1024x4992) (e := .bf16) W ![0, 3968] S1024x1024.size inb_S1024x4992_S1024x1024_0_3968 (ix2 k l) _
    (fun a => match a with | 0 => (Nat.zero_add _).symm | 1 => rfl)

end Columns

variable (x0 : FVec Ideal S512x1024 .f32) (x1 : FVec Ideal S1x1024 .f32) (x2 : FVec Ideal S1024x4992 .bf16)
  (x3 : FVec Ideal S512x256 .f32) (x4 x5 : FVec Ideal S1x128 .f32) (x6 : FVec Ideal S128x128 .bf16)

/-- The cosines of a block. -/
abbrev bC : FVec Ideal S512x128 .f32 := k0_pay4 (View.ld x3 r0_2)

/-- The signed sines of a block. -/
abbrev bS : FVec Ideal S512x128 .f32 := k0_pay5 (View.ld x3 r0_3)

/-- The queries' projections of a block. -/
abbrev bQ : FVec Ideal S512x512 .f32 := k0_pay8 x0 x1 (View.ld x2 r0_7)

theorem bC_apply (r : Fin 512) (l : Fin 128) : bC x3 (ix2 r l) = x3 (ix2 r ⟨l.val, by omega⟩) := by
  have e : View.ld (Val := Elt Ideal) (e' := .f32) x3 r0_2 (ix2 r l) = x3 (ix2 r ⟨l.val, by omega⟩) := View.ld_unit_apply_of (Val := Elt Ideal) (S := S512x256) (e := .f32)
    x3 ![0, 0] S512x128.size inb_S512x256_S512x128_0_0 (ix2 r l) _ (fun a => match a with | 0 => (Nat.zero_add _).symm | 1 => (Nat.zero_add _).symm)
  refine Eq.trans ?_ e
  show k0_pay4 (F := Ideal) (View.ld (Val := Elt Ideal) (e' := .f32) x3 r0_2) (ix2 r l) = View.ld (Val := Elt Ideal) (e' := .f32) x3 r0_2 (ix2 r l)
  generalize View.ld (Val := Elt Ideal) (e' := .f32) x3 r0_2 = v
  pointwise [k0_pay4]

theorem bS_apply (r : Fin 512) (l : Fin 128) : bS x3 (ix2 r l) = x3 (ix2 r ⟨128 + l.val, by omega⟩) := by
  have e : View.ld (Val := Elt Ideal) (e' := .f32) x3 r0_3 (ix2 r l) = x3 (ix2 r ⟨128 + l.val, by omega⟩) := View.ld_unit_apply_of (Val := Elt Ideal) (S := S512x256) (e := .f32)
    x3 ![0, 128] S512x128.size inb_S512x256_S512x128_0_128 (ix2 r l) _ (fun a => match a with | 0 => (Nat.zero_add _).symm | 1 => rfl)
  refine Eq.trans ?_ e
  show k0_pay5 (F := Ideal) (View.ld (Val := Elt Ideal) (e' := .f32) x3 r0_3) (ix2 r l) = View.ld (Val := Elt Ideal) (e' := .f32) x3 r0_3 (ix2 r l)
  generalize View.ld (Val := Elt Ideal) (e' := .f32) x3 r0_3 = v
  pointwise [k0_pay5]

theorem out7_eq : out0_7 (F := Ideal) x0 x1 x2 x3 x4 x5 x6 = k0_pay7 (F := Ideal) x0 x1 (View.ld x2 r0_5) := by
  frame_out

theorem out9_eq : out0_9 (F := Ideal) x0 x1 x2 x3 x4 x5 x6
    = ropeT (bC x3) (bS x3) (headT (k0_pay36 (F := Ideal) (k0_pay3 (F := Ideal) x0 x1) (View.ld x2 r0_13)) x6 (k0_pay12 (F := Ideal) x5)) := by
  rw [← pay34_eq]
  unfold_out out0_9
  frame_out

theorem out10_eq : out0_10 (F := Ideal) x0 x1 x2 x3 x4 x5 x6 = k0_pay36 (F := Ideal) (k0_pay3 (F := Ideal) x0 x1) (View.ld x2 r0_15) := by
  unfold_out out0_10
  frame_out

theorem out11_eq : out0_11 (F := Ideal) x0 x1 x2 x3 x4 x5 x6
    = truncf .bf16 (ropeT (bC x3) (bS x3) (headT (k0_pay36 (F := Ideal) (k0_pay3 (F := Ideal) x0 x1) (View.ld x2 r0_13)) x6 (k0_pay12 (F := Ideal) x5))) bitsLt_bf16_f32 := by
  rw [← pay35_eq]
  unfold_out out0_11
  frame_out

theorem out12_eq : out0_12 (F := Ideal) x0 x1 x2 x3 x4 x5 x6 = k0_pay37 (F := Ideal) (k0_pay3 (F := Ideal) x0 x1) (View.ld x2 r0_15) := by
  unfold_out out0_12
  frame_out

theorem out14_eq : out0_14 (F := Ideal) x0 x1 x2 x3 x4 x5 x6
    = k0_pay46 (F := Ideal) (k0_pay3 (F := Ideal) x0 x1) (bC x3) (bS x3) (iota .tc S512x128 32 [1] iota_S512x128_d1_w32) k0_pay6 (View.ld x2 r0_17) := by
  unfold_out out0_14
  frame_out

theorem out15_eq : out0_15 (F := Ideal) x0 x1 x2 x3 x4 x5 x6
    = k0_pay47 (F := Ideal) (k0_pay3 (F := Ideal) x0 x1) (bC x3) (bS x3) (iota .tc S512x128 32 [1] iota_S512x128_d1_w32) k0_pay6 (View.ld x2 r0_17) := by
  unfold_out out0_15
  frame_out

theorem out16_eq : out0_16 (F := Ideal) x0 x1 x2 x3 x4 x5 x6 = k0_pay48 (F := Ideal) (k0_pay3 (F := Ideal) x0 x1) (View.ld x2 r0_17) := by
  unfold_out out0_16
  frame_out

theorem out17_eq : out0_17 (F := Ideal) x0 x1 x2 x3 x4 x5 x6 = k0_pay1 (F := Ideal) (k0_pay49 (F := Ideal) (k0_pay3 (F := Ideal) x0 x1) (View.ld x2 r0_19)) := by
  unfold_out out0_17
  frame_out

theorem out18_eq : out0_18 (F := Ideal) x0 x1 x2 x3 x4 x5 x6 = k0_pay2 (F := Ideal) (k0_pay3 (F := Ideal) x0 x1) (View.ld x2 r0_20) := by
  unfold_out out0_18
  frame_out

theorem out8_eq : out0_8 (F := Ideal) x0 x1 x2 x3 x4 x5 x6
    = View.canon [⟨r0_12, queryT (bC x3) (bS x3) (k0_pay28 (F := Ideal) (bQ x0 x1 x2)) x6 (k0_pay12 (F := Ideal) x4)⟩,
        ⟨r0_11, queryT (bC x3) (bS x3) (k0_pay19 (F := Ideal) (bQ x0 x1 x2)) x6 (k0_pay12 (F := Ideal) x4)⟩,
        ⟨r0_10, queryT (bC x3) (bS x3) (k0_pay11 (F := Ideal) (bQ x0 x1 x2)) x6 (k0_pay12 (F := Ideal) x4)⟩,
        ⟨r0_9, queryT (bC x3) (bS x3) (k0_pay9 (F := Ideal) x0 x1 (View.ld x2 r0_7)) x6 (k0_pay12 (F := Ideal) x4)⟩] := by
  rw [← pay31_eq, ← pay27_eq, ← pay18_eq, ← pay10_eq]
  unfold_out out0_8
  simp (disch := decide) only [View.ld_unit_lit']
  rfl

theorem out13_eq : out0_13 (F := Ideal) x0 x1 x2 x3 x4 x5 x6
    = View.canon [⟨r0_3, indexT (bC x3) (bS x3) (extractStridedSlice S512x128 ![0, 128] (k0_pay38 (F := Ideal) (k0_pay3 (F := Ideal) x0 x1) (View.ld x2 r0_16)) slices_S512x256_o0_128_S512x128)⟩,
        ⟨r0_2, indexT (bC x3) (bS x3) (extractStridedSlice S512x128 ![0, 0] (k0_pay38 (F := Ideal) (k0_pay3 (F := Ideal) x0 x1) (View.ld x2 r0_16)) slices_S512x256_o0_0_S512x128)⟩] := by
  rw [← pay39_eq, ← pay43_eq]
  unfold_out out0_13
  simp (disch := decide) only [View.ld_unit_lit']

/-! ### The blocks at one row -/

/-- Column `l` of the projection of a block's row `r`. -/
def zT (x0 : FVec Ideal S512x1024 .f32) (x1 : FVec Ideal S1x1024 .f32) (x2 : FVec Ideal S1024x4992 .bf16) (r : Fin 512) (l : Fin 4992) : EReal :=
  proj (fun k => x0 (ix2 r k)) (fun k => x1 (ix2 0 k)) (fun k => x2 (ix2 k l))

section Rows

variable (r : Fin 512)

theorem out7_apply (l : Fin 1792) : out0_7 (F := Ideal) x0 x1 x2 x3 x4 x5 x6 (ix2 r l) = zT x0 x1 x2 r ⟨l.val, by omega⟩ := by
  rw [out7_eq]
  exact (pay7_apply _ _ _ r l).trans (congrArg (proj _ _) (funext fun k => ld5 x2 k l))

theorem out10_apply (l : Fin 128) : out0_10 (F := Ideal) x0 x1 x2 x3 x4 x5 x6 (ix2 r l) = zT x0 x1 x2 r ⟨2432 + l.val, by omega⟩ := by
  rw [out10_eq]
  exact (pay36_apply _ _ _ r l).trans (congrArg (proj _ _) (funext fun k => ld15 x2 k l))

theorem out12_apply (l : Fin 128) : out0_12 (F := Ideal) x0 x1 x2 x3 x4 x5 x6 (ix2 r l) = zT x0 x1 x2 r ⟨2432 + l.val, by omega⟩ := by
  rw [out12_eq]
  exact (pay36_apply _ _ _ r l).trans (congrArg (proj _ _) (funext fun k => ld15 x2 k l))

theorem out16_apply (l : Fin 128) : out0_16 (F := Ideal) x0 x1 x2 x3 x4 x5 x6 (ix2 r l)
    = zT x0 x1 x2 r ⟨2816 + l.val, by omega⟩ * Ideal.ofBits FTy.f32 0x3F000000#32 := by
  rw [out16_eq]
  exact (pay48_apply _ _ _ r l).trans (congrArg (· * Ideal.ofBits FTy.f32 0x3F000000#32) (congrArg (proj _ _) (funext fun k => ld17 x2 k l)))

theorem out17_apply (l : Fin 1024) : out0_17 (F := Ideal) x0 x1 x2 x3 x4 x5 x6 (ix2 r l)
    = logistic (zT x0 x1 x2 r ⟨2944 + l.val, by omega⟩) := by
  rw [out17_eq]
  exact (gateA_apply _ _ _ r l).trans (congrArg logistic (congrArg (proj _ _) (funext fun k => ld19 x2 k l)))

theorem out18_apply (l : Fin 1024) : out0_18 (F := Ideal) x0 x1 x2 x3 x4 x5 x6 (ix2 r l)
    = logistic (zT x0 x1 x2 r ⟨3968 + l.val, by omega⟩) := by
  rw [out18_eq]
  exact (gateB_apply _ _ _ r l).trans (congrArg logistic (congrArg (proj _ _) (funext fun k => ld20 x2 k l)))

theorem bQ_apply (l : Fin 512) : bQ x0 x1 x2 (ix2 r l) = zT x0 x1 x2 r ⟨1792 + l.val, by omega⟩ :=
  (pay8_apply _ _ _ r l).trans (congrArg (proj _ _) (funext fun k => ld7 x2 k l))

theorem tileK_apply (l : Fin 128) : k0_pay36 (F := Ideal) (k0_pay3 x0 x1) (View.ld x2 r0_13) (ix2 r l) = zT x0 x1 x2 r ⟨2304 + l.val, by omega⟩ :=
  (pay36_apply _ _ _ r l).trans (congrArg (proj _ _) (funext fun k => ld13 x2 k l))

theorem tileI_apply (l : Fin 256) : k0_pay38 (F := Ideal) (k0_pay3 x0 x1) (View.ld x2 r0_16) (ix2 r l) = zT x0 x1 x2 r ⟨2560 + l.val, by omega⟩ :=
  (pay38_apply _ _ _ r l).trans (congrArg (proj _ _) (funext fun k => ld16 x2 k l))

theorem tileJ_apply (l : Fin 128) : k0_pay44 (F := Ideal) (k0_pay3 x0 x1) (View.ld x2 r0_17) (ix2 r l) = zT x0 x1 x2 r ⟨2816 + l.val, by omega⟩ :=
  (pay44_apply _ _ _ r l).trans (congrArg (proj _ _) (funext fun k => ld17 x2 k l))

theorem weight_apply (v : FVec Ideal S1x128 .f32) (l : Fin 128) : k0_pay12 (F := Ideal) v (ix2 0 l) = v (ix2 0 l) := by
  pointwise [k0_pay12]

theorem tileQ3 (Z : FVec Ideal S512x512 .f32) (l : Fin 128) : k0_pay28 (F := Ideal) Z (ix2 r l) = Z (ix2 r ⟨384 + l.val, by omega⟩) := by
  pointwise [k0_pay28]

theorem tileQ2 (Z : FVec Ideal S512x512 .f32) (l : Fin 128) : k0_pay19 (F := Ideal) Z (ix2 r l) = Z (ix2 r ⟨256 + l.val, by omega⟩) := by
  pointwise [k0_pay19]

theorem tileQ1 (Z : FVec Ideal S512x512 .f32) (l : Fin 128) : k0_pay11 (F := Ideal) Z (ix2 r l) = Z (ix2 r ⟨128 + l.val, by omega⟩) := by
  pointwise [k0_pay11]

theorem tileQ0 (l : Fin 128) : k0_pay9 (F := Ideal) x0 x1 (View.ld x2 r0_7) (ix2 r l) = bQ x0 x1 x2 (ix2 r ⟨l.val, by omega⟩) := by
  show k0_pay9 (F := Ideal) x0 x1 (View.ld x2 r0_7) (ix2 r l) = k0_pay8 (F := Ideal) x0 x1 (View.ld x2 r0_7) (ix2 r ⟨l.val, by omega⟩)
  unfold k0_pay9
  generalize k0_pay8 (F := Ideal) x0 x1 (View.ld x2 r0_7) = Z
  pointwise

variable (c s : Fin 8 → EReal) (g : Fin 64 → EReal)
  (hc : ∀ p d, x3 (ix2 r ⟨(lane p d).val, Nat.lt_add_left 128 (lane p d).isLt⟩) = cosLane c d)
  (hs : ∀ p d, x3 (ix2 r ⟨128 + (lane p d).val, Nat.add_lt_add_left (lane p d).isLt 128⟩) = sinLane s d)
  (hB : ∀ k l : Fin 128, x6 (ix2 k l) = if k.val / 64 = l.val / 64 then 1 else 0)
  (hr : ∀ l, IsReal (zT x0 x1 x2 r l))

include hc hs hB hr in
theorem out9_apply (hg : ∀ p d, x5 (ix2 0 (lane p d)) = g d) (p : Fin 2) (d : Fin 64) :
    out0_9 (F := Ideal) x0 x1 x2 x3 x4 x5 x6 (ix2 r (lane p d))
      = rope (headNorm (fun e => zT x0 x1 x2 r ⟨2304 + (lane p e).val, by omega⟩) g) c s d := by
  rw [out9_eq, keyT_apply _ _ _ _ _ c s r p d ((bC_apply x3 r _).trans (hc p d)) ((bS_apply x3 r _).trans (hs p d))
    (fun k => by rw [tileK_apply]; exact hr _) hB]
  simp only [tileK_apply, weight_apply, hg]

include hc hs hB hr in
theorem out11_apply (hg : ∀ p d, x5 (ix2 0 (lane p d)) = g d) (p : Fin 2) (d : Fin 64) :
    out0_11 (F := Ideal) x0 x1 x2 x3 x4 x5 x6 (ix2 r (lane p d))
      = rope (headNorm (fun e => zT x0 x1 x2 r ⟨2304 + (lane p e).val, by omega⟩) g) c s d := by
  rw [← out9_apply x0 x1 x2 x3 x4 x5 x6 r c s g hc hs hB hr hg p d, out9_eq, out11_eq]
  rfl

include hc hs in
theorem out14_apply (d : Fin 64) :
    out0_14 (F := Ideal) x0 x1 x2 x3 x4 x5 x6 (ix2 r d) = rope (fun e => zT x0 x1 x2 r ⟨2816 + (lane 0 e).val, by omega⟩) c s d := by
  have e := pay45_apply (k0_pay3 (F := Ideal) x0 x1) (bC x3) (bS x3)
    (View.ld (Val := Elt Ideal) (e' := .bf16) x2 r0_17) c s r 0 d ((bC_apply x3 r _).trans (hc 0 d)) ((bS_apply x3 r _).trans (hs 0 d))
  simp only [tileJ_apply] at e
  rw [out14_eq]
  refine Eq.trans ?_ (e.trans (if_pos rfl))
  unfold k0_pay46
  generalize k0_pay45 (F := Ideal) _ _ _ _ _ _ = R
  pointwise
  exact congrArg R (congrArg (ix2 r) (Fin.ext (by show d.val = 64 * 0 + d.val; omega)))

include hc hs in
theorem out15_apply (p : Fin 2) (d : Fin 64) :
    out0_15 (F := Ideal) x0 x1 x2 x3 x4 x5 x6 (ix2 r (lane p d)) = rope (fun e => zT x0 x1 x2 r ⟨2816 + (lane 0 e).val, by omega⟩) c s d := by
  rw [out15_eq, pay47_apply _ _ _ _ c s r p d (fun p d => (bC_apply x3 r _).trans (hc p d)) (fun p d => (bS_apply x3 r _).trans (hs p d))]
  simp only [tileJ_apply]

include hc hs hB hr in
/-- One tile of the queries: the columns `n` to `n + 127`. -/
theorem query_tile (hg : ∀ p d, x4 (ix2 0 (lane p d)) = g d) (n : ℕ) (hn : n + 128 ≤ 512) (hn' : n % 128 = 0) (U : FVec Ideal S512x128 .f32)
    (hU : ∀ l : Fin 128, U (ix2 r l) = bQ x0 x1 x2 (ix2 r ⟨n + l.val, by omega⟩)) (h : Fin 8) (d : Fin 64) :
    View.TileAt (Val := Elt Ideal) (e := .bf16) (S := S512x512) (ix2 r (⟨64 * h.val + d.val, by omega⟩ : Fin 512)) ![0, n] S512x128.size
      (queryT (bC x3) (bS x3) U x6 (k0_pay12 x4))
      (rope (headNorm (fun e => zT x0 x1 x2 r ⟨1792 + (64 * h.val + e.val), by omega⟩) g) c s d * Ideal.ofBits FTy.f32 0x3E38AA3B#32) := by
  intro x hx
  obtain ⟨a, l, rfl⟩ : ∃ (a : Fin 512) (b : Fin 128), x = ix2 a b := ⟨x 0, x 1, eq_ix2 x⟩
  obtain ⟨p, q, rfl⟩ := exists_lane l
  have h0 : r.val = 0 + a.val := hx 0
  have h1 : 64 * h.val + d.val = n + (64 * p.val + q.val) := hx 1
  obtain rfl : a = r := Fin.ext (by omega)
  obtain rfl : q = d := Fin.ext (by omega)
  have hp : n + 64 * p.val = 64 * h.val := by omega
  rw [queryT_apply _ _ _ _ _ c s a p q ((bC_apply x3 a _).trans (hc p q)) ((bS_apply x3 a _).trans (hs p q))
    (fun k => by rw [hU, bQ_apply]; exact hr _) hB]
  refine congrArg (fun v => rope v c s q * Ideal.ofBits FTy.f32 0x3E38AA3B#32) ?_
  refine congrArg₂ headNorm (funext fun e => ?_) (funext fun e => (weight_apply _ _).trans (hg p e))
  rw [hU, bQ_apply]
  refine congrArg (zT x0 x1 x2 a) (Fin.ext ?_)
  show 1792 + (n + (64 * p.val + e.val)) = 1792 + (64 * h.val + e.val)
  omega

include hc hs hB hr in
theorem out8_apply (hg : ∀ p d, x4 (ix2 0 (lane p d)) = g d) (h : Fin 8) (d : Fin 64) :
    out0_8 (F := Ideal) x0 x1 x2 x3 x4 x5 x6 (ix2 r (⟨64 * h.val + d.val, by omega⟩ : Fin 512))
      = rope (headNorm (fun e => zT x0 x1 x2 r ⟨1792 + (64 * h.val + e.val), by omega⟩) g) c s d * Ideal.ofBits FTy.f32 0x3E38AA3B#32 := by
  have T := query_tile x0 x1 x2 x3 x4 x6 r c s g hc hs hB hr hg
  rw [out8_eq]
  refine View.canon_eq_of_allAt _ _ _ (cover0_8 _ _ _ _ _) ?_
  refine View.allAt_cons_unit _ _ _ _ _ (T 384 (by omega) (by omega) _ (fun l => tileQ3 r _ l) h d) ?_
  refine View.allAt_cons_unit _ _ _ _ _ (T 256 (by omega) (by omega) _ (fun l => tileQ2 r _ l) h d) ?_
  refine View.allAt_cons_unit _ _ _ _ _ (T 128 (by omega) (by omega) _ (fun l => tileQ1 r _ l) h d) ?_
  refine View.allAt_cons_unit _ _ _ _ _ (T 0 (by omega) (by omega) _ (fun l => (tileQ0 x0 x1 x2 r l).trans
    (congrArg (bQ x0 x1 x2) (congrArg (ix2 r) (Fin.ext (by show l.val = 0 + l.val; omega))))) h d) ?_
  exact View.allAt_nil _ _

include hc hs in
/-- One tile of the index queries: the columns `n` to `n + 127`. -/
theorem index_tile (n : ℕ) (hn : n + 128 ≤ 256) (hn' : n % 128 = 0) (U : FVec Ideal S512x128 .f32)
    (hU : ∀ l : Fin 128, U (ix2 r l) = zT x0 x1 x2 r ⟨2560 + (n + l.val), by omega⟩) (h : Fin 4) (d : Fin 64) :
    View.TileAt (Val := Elt Ideal) (e := .bf16) (S := S512x256) (ix2 r (⟨64 * h.val + d.val, by omega⟩ : Fin 256)) ![0, n] S512x128.size
      (indexT (bC x3) (bS x3) U)
      (rope (fun e => zT x0 x1 x2 r ⟨2560 + (64 * h.val + e.val), by omega⟩) c s d * Ideal.ofBits FTy.f32 0x3E000000#32) := by
  intro x hx
  obtain ⟨a, l, rfl⟩ : ∃ (a : Fin 512) (b : Fin 128), x = ix2 a b := ⟨x 0, x 1, eq_ix2 x⟩
  obtain ⟨p, q, rfl⟩ := exists_lane l
  have h0 : r.val = 0 + a.val := hx 0
  have h1 : 64 * h.val + d.val = n + (64 * p.val + q.val) := hx 1
  obtain rfl : a = r := Fin.ext (by omega)
  obtain rfl : q = d := Fin.ext (by omega)
  rw [indexT_apply _ _ _ c s a p q ((bC_apply x3 a _).trans (hc p q)) ((bS_apply x3 a _).trans (hs p q))]
  refine congrArg (fun v => rope v c s q * Ideal.ofBits FTy.f32 0x3E000000#32) (funext fun e => ?_)
  rw [hU]
  refine congrArg (zT x0 x1 x2 a) (Fin.ext ?_)
  show 2560 + (n + (64 * p.val + e.val)) = 2560 + (64 * h.val + e.val)
  omega

theorem half_apply (Z : FVec Ideal S512x256 .f32) (l : Fin 128) :
    extractStridedSlice S512x128 ![0, 128] Z slices_S512x256_o0_128_S512x128 (ix2 r l) = Z (ix2 r ⟨128 + l.val, by omega⟩)
      ∧ extractStridedSlice S512x128 ![0, 0] Z slices_S512x256_o0_0_S512x128 (ix2 r l) = Z (ix2 r ⟨0 + l.val, by omega⟩) := by
  constructor <;> pointwise

include hc hs in
theorem out13_apply (h : Fin 4) (d : Fin 64) :
    out0_13 (F := Ideal) x0 x1 x2 x3 x4 x5 x6 (ix2 r (⟨64 * h.val + d.val, by omega⟩ : Fin 256))
      = rope (fun e => zT x0 x1 x2 r ⟨2560 + (64 * h.val + e.val), by omega⟩) c s d * Ideal.ofBits FTy.f32 0x3E000000#32 := by
  have T := index_tile x0 x1 x2 x3 r c s hc hs
  rw [out13_eq]
  refine View.canon_eq_of_allAt _ _ _ (cover0_13 _ _ _) ?_
  refine View.allAt_cons_unit _ _ _ _ _ (T 128 (by omega) (by omega) _ (fun l => (half_apply r _ l).1.trans (tileI_apply x0 x1 x2 r _)) h d) ?_
  refine View.allAt_cons_unit _ _ _ _ _ (T 0 (by omega) (by omega) _ (fun l => (half_apply r _ l).2.trans (tileI_apply x0 x1 x2 r _)) h d) ?_
  exact View.allAt_nil _ _

end Rows

end Cert.InprojIdeal.Own

end
-- ==== Proof.Inproj.Lit.lean ====
/- The constant matrix of the projection kernel: which entries are 1. -/
module

public import proofs.«01_k».proof.InprojIdeal
public import Idealize.ShloMosaic.Lib.Pointwise

@[expose] public section

set_option maxRecDepth 16384

namespace Cert.InprojIdeal.Own

open Idealize.ShloMosaic Cert.InprojIdeal

/-- The constant matrix's entries: 1 where both numbers stand for lanes of one head. -/
theorem lit_apply : ∀ k l : Fin 128, lit0 (S128x128.rowMajor (ix2 k l)) = if k.val / 64 = l.val / 64 then 0x3F80#16 else 0#16 := by
  decide +kernel

end Cert.InprojIdeal.Own
-- ==== Proof.Inproj.Reads.lean ====
/- What the projection kernel's windows read, from the arguments and from the arrays that the host lays out. -/
module

public import proofs.«01_k».proof.Proof.Gen.InprojIdeal.Value
public import proofs.«01_k».proof.Proof.Inproj.Block
public import proofs.«01_k».proof.Proof.Inproj.Lit

@[expose] public section

set_option maxRecDepth 16384

noncomputable section

namespace Cert.InprojIdeal.Own

open Idealize.ShloMosaic Idealize.ShloMosaic.TcCoe Idealize.SL.Sem
open Idealize.ShloMosaic.Pipeline (Dat)
open Cert.InprojIdeal Cert.InprojIdeal.Gen Cert.RouteOwn Cert.InprojOwn

variable (m : (ℓ : Loc nD τ sig) → Buf (Elt Ideal) ℓ)

/-- Where each window's block lies at a grid point: the row tiles move, the angles' tiles start over with each batch, the weights stay. -/
theorem idx : ∀ t : Fin cfg0.N, win0_0.index t = ![t.val, 0] ∧ win0_1.index t = ![0, 0]
    ∧ win0_2.index t = ![0, 0] ∧ win0_3.index t = ![t.val % 16, 0] ∧ win0_4.index t = ![0, 0]
    ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] :=
  (by decide +kernel : ∀ t : Fin grid0.N, _)

/-- The row of the arrays that a tile's row stands for. -/
def row (t : Fin cfg0.N) (a : Fin 512) : Fin 65536 := ⟨t.val * 512 + a.val, by have := lt_of_lt_of_eq t.isLt N_0; omega⟩

/-- The position in its batch of a tile's row. -/
def pos (t : Fin cfg0.N) (a : Fin 512) : Fin 8192 := ⟨t.val % 16 * 512 + a.val, by omega⟩

/-- Argument 0, at its own type. -/
abbrev arg0 (c : Dev nD) : FVec Ideal S8x8192x1024 .f32 := m ((c : Thread nD τ).loc main_arg0)

/-- Argument 1, at its own type. -/
abbrev arg1 (c : Dev nD) : FVec Ideal S1024 .f32 := m ((c : Thread nD τ).loc main_arg1)

/-- Argument 2, at its own type. -/
abbrev arg2 (c : Dev nD) : FVec Ideal S1024x4932 .f32 := m ((c : Thread nD τ).loc main_arg2)

/-- Argument 3, at its own type. -/
abbrev arg3 (c : Dev nD) : FVec Ideal S64 .f32 := m ((c : Thread nD τ).loc main_arg3)

/-- Argument 4, at its own type. -/
abbrev arg4 (c : Dev nD) : FVec Ideal S64 .f32 := m ((c : Thread nD τ).loc main_arg4)

/-- The weights' columns with 60 columns of zeros before the gates'. -/
def catW (w : FVec Ideal S1024x4932 .f32) : FVec Ideal S1024x4992 .f32 :=
  concatenate S1024x4992 1 [⟨S1024x2884, extractStridedSlice S1024x2884 ![0, 0] w slices_S1024x4932_S1024x2884_0_0⟩, ⟨S1024x60, broadcastInDim S1024x60 ![] bcast_S_S1024x60 (constant (F := Ideal) S_ .f32 0x00000000#32)⟩, ⟨S1024x2048, extractStridedSlice S1024x2048 ![0, 2884] w slices_S1024x4932_S1024x2048_0_2884⟩]
    concatenates_S1024x2884_S1024x60_S1024x2048_S1024x4992_d1

theorem catW_low (w : FVec Ideal S1024x4932 .f32) (k : Fin 1024) (l : Fin 2884) : catW w (ix2 k ⟨l.val, by omega⟩) = w (ix2 k ⟨l.val, by omega⟩) := by
  pointwise [catW]

theorem catW_zero (w : FVec Ideal S1024x4932 .f32) (k : Fin 1024) (l : Fin 60) : catW w (ix2 k ⟨2884 + l.val, by omega⟩) = (0 : EReal) := by
  pointwise [catW]

theorem catW_high (w : FVec Ideal S1024x4932 .f32) (k : Fin 1024) (l : Fin 2048) :
    catW w (ix2 k ⟨2944 + l.val, by omega⟩) = w (ix2 k ⟨2884 + l.val, by omega⟩) := by
  pointwise [catW]
  rw [dif_neg (by omega), dif_neg (by omega)]
  exact congrArg w (congrArg (ix2 k) (Fin.ext (by show 2884 + (2944 + l.val - 2884 - 60) = 2884 + l.val; omega)))

theorem catW_real (w : FVec Ideal S1024x4932 .f32) (h : ∀ i, IsReal (w i)) (k : Fin 1024) (l : Fin 4992) : IsReal (catW w (ix2 k l)) := by
  pointwise [catW]
  split
  · exact h _
  · split
    · exact ⟨0, rfl⟩
    · exact h _

/-- The angles, by position and by lane. -/
def angT : FVec Ideal S8192x8 .f32 :=
  mulf (broadcastInDim S8192x8 ![0, 1] bcast_S8192x1_S8192x8_0_1 (broadcastInDim S8192x1 ![0] bcast_S8192_S8192x1_0 (sitofp (F := Ideal) .f32 (iotaInDim S8192 32 0)))) (broadcastInDim S8192x8 ![0, 1] bcast_S1x8_S8192x8_0_1 (broadcastInDim S1x8 ![1] bcast_S8_S1x8_1 (Host.powf (F := Ideal) (broadcastInDim S8 ![] bcast_S_S8 (constant (F := Ideal) S_ .f32 0x48F42400#32)) (Host.divf (F := Ideal) (Host.negf (F := Ideal) (sitofp (F := Ideal) .f32 (iotaInDim S8 32 0))) (broadcastInDim S8 ![] bcast_S_S8 (constant (F := Ideal) S_ .f32 0x41000000#32))))))

/-- The cosines of one head's lanes. -/
def cosT (C : FVec Ideal S8192x8 .f32) : FVec Ideal S8192x64 .f32 :=
  concatenate S8192x64 1 [⟨S8192x8, C⟩, ⟨S8192x8, C⟩, ⟨S8192x48, broadcastInDim S8192x48 ![] bcast_S_S8192x48 (constant (F := Ideal) S_ .f32 0x3F800000#32)⟩]
    concatenates_S8192x8_S8192x8_S8192x48_S8192x64_d1

/-- The signed sines of one head's lanes. -/
def sinT (S : FVec Ideal S8192x8 .f32) : FVec Ideal S8192x64 .f32 :=
  concatenate S8192x64 1 [⟨S8192x8, Host.negf (F := Ideal) S⟩, ⟨S8192x8, S⟩, ⟨S8192x48, broadcastInDim S8192x48 ![] bcast_S_S8192x48 (constant (F := Ideal) S_ .f32 0x00000000#32)⟩]
    concatenates_S8192x8_S8192x8_S8192x48_S8192x64_d1

/-- Both tables, each for two heads. -/
def tabT (C S : FVec Ideal S8192x64 .f32) : FVec Ideal S8192x256 .f32 :=
  concatenate S8192x256 1 [⟨S8192x64, C⟩, ⟨S8192x64, C⟩, ⟨S8192x64, S⟩, ⟨S8192x64, S⟩]
    concatenates_S8192x64_S8192x64_S8192x64_S8192x64_S8192x256_d1

theorem cosT_apply (C : FVec Ideal S8192x8 .f32) (s : Fin 8192) (d : Fin 64) : cosT C (ix2 s d) = cosLane (fun j => C (ix2 s j)) d := by
  unfold cosLane
  pointwise [cosT]
  by_cases h1 : d.val < 8
  · rw [dif_pos h1, dif_pos h1]
  · by_cases h2 : d.val < 16
    · rw [dif_neg h1, dif_pos (by omega), dif_neg h1, dif_pos h2]
    · rw [dif_neg h1, dif_neg (by omega), dif_neg h1, dif_neg h2]

theorem sinT_apply (S : FVec Ideal S8192x8 .f32) (s : Fin 8192) (d : Fin 64) : sinT S (ix2 s d) = sinLane (fun j => S (ix2 s j)) d := by
  unfold sinLane
  pointwise [sinT]
  by_cases h1 : d.val < 8
  · rw [dif_pos h1, dif_pos h1]
  · by_cases h2 : d.val < 16
    · rw [dif_neg h1, dif_pos (by omega), dif_neg h1, dif_pos h2]
    · rw [dif_neg h1, dif_neg (by omega), dif_neg h1, dif_neg h2]

theorem tabT_cos (C S : FVec Ideal S8192x64 .f32) (s : Fin 8192) (p : Fin 2) (d : Fin 64) :
    tabT C S (ix2 s ⟨(lane p d).val, by omega⟩) = C (ix2 s d) := by
  unfold lane
  fin_cases p
  · pointwise [tabT]
  · pointwise [tabT]

theorem tabT_sin (C S : FVec Ideal S8192x64 .f32) (s : Fin 8192) (p : Fin 2) (d : Fin 64) :
    tabT C S (ix2 s ⟨128 + (lane p d).val, by omega⟩) = S (ix2 s d) := by
  unfold lane
  fin_cases p
  · pointwise [tabT]
    rw [dif_neg (by omega), dif_neg (by omega), dif_pos (by omega)]
    exact congrArg S (congrArg (ix2 s) (Fin.ext (by show 128 + d.val - 64 - 64 = d.val; omega)))
  · pointwise [tabT]
    rw [dif_neg (by omega), dif_neg (by omega), dif_neg (by omega)]
    exact congrArg S (congrArg (ix2 s) (Fin.ext (by show 128 + (64 + d.val) - 64 - 64 - 64 = d.val; omega)))

/-- The heads' weights for two heads. -/
def twiceT (g : FVec Ideal S64 .f32) : FVec Ideal S1x128 .f32 :=
  shapeCast S1x128 (shapeCast S128 (broadcastInDim S2x64 ![0, 1] bcast_S1x64_S2x64_0_1 (shapeCast S1x64 g shapeCasts_S64_S1x64)) shapeCasts_S2x64_S128) shapeCasts_S128_S1x128

theorem twiceT_apply (g : FVec Ideal S64 .f32) (p : Fin 2) (d : Fin 64) : twiceT g (ix2 0 (lane p d)) = g (ix1 d) := by
  unfold lane
  pointwise [twiceT]

theorem xRow_apply (X : FVec Ideal S8x8192x1024 .f32) (R : Fin 65536) (k : Fin 1024) :
    shapeCast S65536x1024 X shapeCasts_S8x8192x1024_S65536x1024 (ix2 R k) = X (ix3 ⟨R.val / 8192, by omega⟩ ⟨R.val % 8192, by omega⟩ k) := by
  pointwise

variable (c : Dev nD) (t : Fin cfg0.N)

theorem V_one (k l : Fin 128) : ((V m c main_cst : FVec Ideal S128x128 .bf16) (ix2 k l) : EReal) = (if k.val / 64 = l.val / 64 then (1 : EReal) else (0 : EReal)) := by
  have e : (V m c main_cst : FVec Ideal S128x128 .bf16) = (fun i => FloatOps.ofBits (F := Ideal) .bf16 (lit0 (S128x128.rowMajor i)) : FVec Ideal S128x128 .bf16) := by
    show StableHlo.after hostOps0 _ (Proc.devRef .tc main_cst) = _
    after_results
    rfl
  rw [congrFun e (ix2 k l), lit_apply]
  split_ifs
  · show Ideal.ofBits FTy.bf16 0x3F80#16 = 1
    simp [Ideal.ofBits, Ideal.ieee]
    rw [← EReal.coe_mul]
    norm_num
  · show Ideal.ofBits FTy.bf16 0#16 = 0
    simp [Ideal.ofBits, Ideal.ieee]

theorem V_w : (V m c main_v4 : FVec Ideal S1024x4992 .bf16) = truncf .bf16 (catW (arg2 m c)) bitsLt_bf16_f32 := by
  show StableHlo.after hostOps0 _ (Proc.devRef .tc main_v4) = _
  after_results
  rfl

theorem V_tab : (V m c main_v33 : FVec Ideal S8192x256 .f32) = tabT (cosT (Host.cos (F := Ideal) angT)) (sinT (Host.sin (F := Ideal) angT)) := by
  show StableHlo.after hostOps0 _ (Proc.devRef .tc main_v33) = _
  after_results
  rfl

theorem V_q : (V m c main_v9 : FVec Ideal S1x128 .f32) = twiceT (arg3 m c) := by
  show StableHlo.after hostOps0 _ (Proc.devRef .tc main_v9) = _
  after_results
  rfl

theorem V_k : (V m c main_v13 : FVec Ideal S1x128 .f32) = twiceT (arg4 m c) := by
  show StableHlo.after hostOps0 _ (Proc.devRef .tc main_v13) = _
  after_results
  rfl

theorem V_x : (V m c main_v34 : FVec Ideal S65536x1024 .f32) = shapeCast S65536x1024 (arg0 m c) shapeCasts_S8x8192x1024_S65536x1024 := by
  show StableHlo.after hostOps0 _ (Proc.devRef .tc main_v34) = _
  after_results
  rfl

theorem V_g : (V m c main_v5 : FVec Ideal S1x1024 .f32) = shapeCast S1x1024 (arg1 m c) shapeCasts_S1024_S1x1024 := by
  show StableHlo.after hostOps0 _ (Proc.devRef .tc main_v5) = _
  after_results
  rfl

theorem at0 (a : Fin 512) (k : Fin 1024) :
    (iblk m c 0 t : FVec Ideal S512x1024 .f32) (ix2 a k) = (V m c main_v34 : FVec Ideal S65536x1024 .f32) (ix2 (row t a) k) := by
  unfold row
  blk_ext [iblk, idx t]

theorem at1 (k : Fin 1024) :
    (iblk m c 1 t : FVec Ideal S1x1024 .f32) (ix2 0 k) = (V m c main_v5 : FVec Ideal S1x1024 .f32) (ix2 0 k) := by
  blk_ext [iblk, idx t]

theorem at2 (k : Fin 1024) (l : Fin 4992) :
    (iblk m c 2 t : FVec Ideal S1024x4992 .bf16) (ix2 k l) = (V m c main_v4 : FVec Ideal S1024x4992 .bf16) (ix2 k l) := by
  blk_ext [iblk, idx t]

theorem at3 (a : Fin 512) (l : Fin 256) :
    (iblk m c 3 t : FVec Ideal S512x256 .f32) (ix2 a l) = (V m c main_v33 : FVec Ideal S8192x256 .f32) (ix2 (pos t a) l) := by
  unfold pos
  blk_ext [iblk, idx t]

theorem at4 (l : Fin 128) :
    (iblk m c 4 t : FVec Ideal S1x128 .f32) (ix2 0 l) = (V m c main_v9 : FVec Ideal S1x128 .f32) (ix2 0 l) := by
  blk_ext [iblk, idx t]

theorem at5 (l : Fin 128) :
    (iblk m c 5 t : FVec Ideal S1x128 .f32) (ix2 0 l) = (V m c main_v13 : FVec Ideal S1x128 .f32) (ix2 0 l) := by
  blk_ext [iblk, idx t]

theorem at6 (k l : Fin 128) :
    (iblk m c 6 t : FVec Ideal S128x128 .bf16) (ix2 k l) = (V m c main_cst : FVec Ideal S128x128 .bf16) (ix2 k l) := by
  blk_ext [iblk, idx t]

/-- Row `a` of a block of the inputs. -/
theorem read0 (a : Fin 512) (k : Fin 1024) :
    (iblk m c 0 t : FVec Ideal S512x1024 .f32) (ix2 a k)
      = arg0 m c (ix3 ⟨(row t a).val / 8192, by omega⟩ ⟨(row t a).val % 8192, by omega⟩ k) := by
  exact (at0 m c t a k).trans ((congrFun (V_x m c) _).trans (xRow_apply _ _ k))

theorem read1 (k : Fin 1024) : (iblk m c 1 t : FVec Ideal S1x1024 .f32) (ix2 0 k) = arg1 m c (ix1 k) := by
  refine (at1 m c t k).trans ((congrFun (V_g m c) _).trans ?_)
  generalize arg1 m c = X
  pointwise

theorem read2 (k : Fin 1024) (l : Fin 4992) : (iblk m c 2 t : FVec Ideal S1024x4992 .bf16) (ix2 k l) = catW (arg2 m c) (ix2 k l) :=
  (at2 m c t k l).trans (congrFun (V_w m c) _)

theorem read3c (a : Fin 512) (p : Fin 2) (d : Fin 64) :
    (iblk m c 3 t : FVec Ideal S512x256 .f32) (ix2 a ⟨(lane p d).val, by omega⟩)
      = cosLane (fun j => Host.cos (F := Ideal) angT (ix2 (pos t a) j)) d :=
  (at3 m c t a _).trans ((congrFun (V_tab m c) _).trans ((tabT_cos _ _ _ p d).trans (cosT_apply _ _ d)))

theorem read3s (a : Fin 512) (p : Fin 2) (d : Fin 64) :
    (iblk m c 3 t : FVec Ideal S512x256 .f32) (ix2 a ⟨128 + (lane p d).val, by omega⟩)
      = sinLane (fun j => Host.sin (F := Ideal) angT (ix2 (pos t a) j)) d :=
  (at3 m c t a _).trans ((congrFun (V_tab m c) _).trans ((tabT_sin _ _ _ p d).trans (sinT_apply _ _ d)))

theorem read4 (p : Fin 2) (d : Fin 64) : (iblk m c 4 t : FVec Ideal S1x128 .f32) (ix2 0 (lane p d)) = arg3 m c (ix1 d) :=
  (at4 m c t _).trans ((congrFun (V_q m c) _).trans (twiceT_apply _ p d))

theorem read5 (p : Fin 2) (d : Fin 64) : (iblk m c 5 t : FVec Ideal S1x128 .f32) (ix2 0 (lane p d)) = arg4 m c (ix1 d) :=
  (at5 m c t _).trans ((congrFun (V_k m c) _).trans (twiceT_apply _ p d))

theorem read6 (k l : Fin 128) : ((iblk m c 6 t : FVec Ideal S128x128 .bf16) (ix2 k l) : EReal) = (if k.val / 64 = l.val / 64 then (1 : EReal) else (0 : EReal)) :=
  (at6 m c t k l).trans (V_one m c k l)

end Cert.InprojIdeal.Own

end
-- ==== Proof.Inproj.RefHead.lean ====
/- The projection reference's twelve results: as named functions of the arguments, and at one element. -/
module

public import proofs.«01_k».proof.InprojRefIdeal
public import proofs.«01_k».proof.Proof.Gen.InprojRefIdeal.Run
public import proofs.«01_k».proof.Proof.Inproj.Spec
public import Idealize.ShloMosaic.Lib.Pointwise

@[expose] public section

set_option maxRecDepth 16384

noncomputable section

namespace Cert.InprojRefIdeal.Own

open Idealize.ShloMosaic Idealize.ShloMosaic.TcCoe Idealize.ShloMosaic.StableHlo Idealize.SL.Sem
open Cert.InprojRefIdeal Cert.InprojRefIdeal.Gen Cert.RouteOwn Cert.InprojOwn

/-- The batch of a row. -/
def bOf (R : Fin 65536) : Fin 8 := ⟨R.val / 8192, by omega⟩

/-- The position of a row in its batch. -/
def sOf (R : Fin 65536) : Fin 8192 := ⟨R.val % 8192, by omega⟩

/-- The normalised rows' projections. -/
def zVec (x : FVec Ideal S8x8192x1024 .f32) (g : FVec Ideal S1024 .f32) (w : FVec Ideal S1024x4932 .f32) : FVec Ideal S8x8192x4932 .f32 :=
  Host.dotGeneral (F := Ideal) dot_S8x8192x1024_S1024x4932_S8x8192x4932_2_0_01_1_n_n none (mulf (mulf x (broadcastInDim S8x8192x1024 ![0, 1, 2] bcast_S8x8192x1_S8x8192x1024_0_1_2 (Host.rsqrt (F := Ideal) (addf (Host.divf (F := Ideal) (broadcastInDim S8x8192x1 ![0, 1] bcast_S8x8192_S8x8192x1_0_1 (Host.reduceAdd (F := Ideal) (mulf x x) (constant (F := Ideal) S_ .f32 0x00000000#32) reducesTo_S8x8192x1024_S8x8192_d2 h_S_)) (broadcastInDim S8x8192x1 ![] bcast_S_S8x8192x1 (constant (F := Ideal) S_ .f32 0x44800000#32))) (broadcastInDim S8x8192x1 ![] bcast_S_S8x8192x1 (constant (F := Ideal) S_ .f32 0x358637BD#32)))))) (broadcastInDim S8x8192x1024 ![0, 1, 2] bcast_S1x1x1024_S8x8192x1024_0_1_2 (broadcastInDim S1x1x1024 ![2] bcast_S1024_S1x1x1024_2 g))) w

/-- Column `l` of the projection of row `(b, s)`. -/
def zRow (x : FVec Ideal S8x8192x1024 .f32) (g : FVec Ideal S1024 .f32) (w : FVec Ideal S1024x4932 .f32) (b : Fin 8) (s : Fin 8192)
    (l : Fin 4932) : EReal :=
  proj (fun k => x (ix3 b s k)) (fun k => g (ix1 k)) (fun k => w (ix2 k l))

theorem zVec_apply (x : FVec Ideal S8x8192x1024 .f32) (g : FVec Ideal S1024 .f32) (w : FVec Ideal S1024x4932 .f32) (b : Fin 8) (s : Fin 8192)
    (l : Fin 4932) : zVec x g w (ix3 b s l) = zRow x g w b s l := by
  pointwise [zVec]
  rfl

/-- The angles of the rotary embedding, by position and by lane. -/
def angVec : FVec Ideal S8192x8 .f32 :=
  mulf (broadcastInDim S8192x8 ![0, 1] bcast_S8192x1_S8192x8_0_1 (broadcastInDim S8192x1 ![0] bcast_S8192_S8192x1_0 (sitofp (F := Ideal) .f32 (iotaInDim S8192 32 0)))) (broadcastInDim S8192x8 ![0, 1] bcast_S1x8_S8192x8_0_1 (broadcastInDim S1x8 ![1] bcast_S8_S1x8_1 (Host.powf (F := Ideal) (broadcastInDim S8 ![] bcast_S_S8 (constant (F := Ideal) S_ .f32 0x48F42400#32)) (Host.divf (F := Ideal) (Host.negf (F := Ideal) (sitofp (F := Ideal) .f32 (iotaInDim S8 32 0))) (broadcastInDim S8 ![] bcast_S_S8 (constant (F := Ideal) S_ .f32 0x41000000#32))))))

/-- The angles' cosines. -/
def cosVec : FVec Ideal S8192x8 .f32 := Host.cos (F := Ideal) angVec

/-- The angles' sines. -/
def sinVec : FVec Ideal S8192x8 .f32 := Host.sin (F := Ideal) angVec

/-- The normalised heads, of the 8. -/
def norm8Vec (u : FVec Ideal S8x8192x8x64 .f32) (g : FVec Ideal S64 .f32) : FVec Ideal S8x8192x8x64 .f32 :=
  mulf (mulf u (broadcastInDim S8x8192x8x64 ![0, 1, 2, 3] bcast_S8x8192x8x1_S8x8192x8x64_0_1_2_3 (Host.rsqrt (F := Ideal) (addf (Host.divf (F := Ideal) (broadcastInDim S8x8192x8x1 ![0, 1, 2] bcast_S8x8192x8_S8x8192x8x1_0_1_2 (Host.reduceAdd (F := Ideal) (mulf u u) (constant (F := Ideal) S_ .f32 0x00000000#32) reducesTo_S8x8192x8x64_S8x8192x8_d3 h_S_)) (broadcastInDim S8x8192x8x1 ![] bcast_S_S8x8192x8x1 (constant (F := Ideal) S_ .f32 0x42800000#32))) (broadcastInDim S8x8192x8x1 ![] bcast_S_S8x8192x8x1 (constant (F := Ideal) S_ .f32 0x358637BD#32)))))) (broadcastInDim S8x8192x8x64 ![0, 1, 2, 3] bcast_S1x1x1x64_S8x8192x8x64_0_1_2_3 (broadcastInDim S1x1x1x64 ![3] bcast_S64_S1x1x1x64_3 g))

theorem norm8Vec_apply (u : FVec Ideal S8x8192x8x64 .f32) (g : FVec Ideal S64 .f32) (b : Fin 8) (s : Fin 8192) (h : Fin 8) (d : Fin 64) :
    norm8Vec u g (ix4 b s h d) = headNorm (fun e => u (ix4 b s h e)) (fun e => g (ix1 e)) d := by
  pointwise [norm8Vec]
  rfl

/-- The normalised heads, of the 2. -/
def norm2Vec (u : FVec Ideal S8x8192x2x64 .f32) (g : FVec Ideal S64 .f32) : FVec Ideal S8x8192x2x64 .f32 :=
  mulf (mulf u (broadcastInDim S8x8192x2x64 ![0, 1, 2, 3] bcast_S8x8192x2x1_S8x8192x2x64_0_1_2_3 (Host.rsqrt (F := Ideal) (addf (Host.divf (F := Ideal) (broadcastInDim S8x8192x2x1 ![0, 1, 2] bcast_S8x8192x2_S8x8192x2x1_0_1_2 (Host.reduceAdd (F := Ideal) (mulf u u) (constant (F := Ideal) S_ .f32 0x00000000#32) reducesTo_S8x8192x2x64_S8x8192x2_d3 h_S_)) (broadcastInDim S8x8192x2x1 ![] bcast_S_S8x8192x2x1 (constant (F := Ideal) S_ .f32 0x42800000#32))) (broadcastInDim S8x8192x2x1 ![] bcast_S_S8x8192x2x1 (constant (F := Ideal) S_ .f32 0x358637BD#32)))))) (broadcastInDim S8x8192x2x64 ![0, 1, 2, 3] bcast_S1x1x1x64_S8x8192x2x64_0_1_2_3 (broadcastInDim S1x1x1x64 ![3] bcast_S64_S1x1x1x64_3 g))

theorem norm2Vec_apply (u : FVec Ideal S8x8192x2x64 .f32) (g : FVec Ideal S64 .f32) (b : Fin 8) (s : Fin 8192) (h : Fin 2) (d : Fin 64) :
    norm2Vec u g (ix4 b s h d) = headNorm (fun e => u (ix4 b s h e)) (fun e => g (ix1 e)) d := by
  pointwise [norm2Vec]
  rfl

/-- The rotary embedding of the 8 heads, over the cosines and the sines. -/
def rope8Vec (u : FVec Ideal S8x8192x8x64 .f32) (C S : FVec Ideal S8192x8 .f32) : FVec Ideal S8x8192x8x64 .f32 :=
  concatenate S8x8192x8x64 3 [⟨S8x8192x8x8, (subf (mulf (extractStridedSlice S8x8192x8x8 ![0, 0, 0, 0] u slices_S8x8192x8x64_S8x8192x8x8_0_0_0_0) (broadcastInDim S8x8192x8x8 ![0, 1, 2, 3] bcast_S1x8192x1x8_S8x8192x8x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S8x8192x8x8 ![0, 0, 0, 8] u slices_S8x8192x8x64_S8x8192x8x8_0_0_0_8) (broadcastInDim S8x8192x8x8 ![0, 1, 2, 3] bcast_S1x8192x1x8_S8x8192x8x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S8x8192x8x8, (addf (mulf (extractStridedSlice S8x8192x8x8 ![0, 0, 0, 8] u slices_S8x8192x8x64_S8x8192x8x8_0_0_0_8) (broadcastInDim S8x8192x8x8 ![0, 1, 2, 3] bcast_S1x8192x1x8_S8x8192x8x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S8x8192x8x8 ![0, 0, 0, 0] u slices_S8x8192x8x64_S8x8192x8x8_0_0_0_0) (broadcastInDim S8x8192x8x8 ![0, 1, 2, 3] bcast_S1x8192x1x8_S8x8192x8x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S8x8192x8x48, extractStridedSlice S8x8192x8x48 ![0, 0, 0, 16] u slices_S8x8192x8x64_S8x8192x8x48_0_0_0_16⟩] concatenates_S8x8192x8x8_S8x8192x8x8_S8x8192x8x48_S8x8192x8x64_d3

theorem rope8Vec_apply (u : FVec Ideal S8x8192x8x64 .f32) (C S : FVec Ideal S8192x8 .f32) (b : Fin 8) (s : Fin 8192) (h : Fin 8) (d : Fin 64) :
    rope8Vec u C S (ix4 b s h d) = rope (fun e => u (ix4 b s h e)) (fun j => C (ix2 s j)) (fun j => S (ix2 s j)) d := by
  unfold rope
  split_ifs with h1 h2
  · obtain ⟨j, hj⟩ : ∃ j : Fin 8, j.val = d.val := ⟨⟨d.val, h1⟩, rfl⟩
    obtain rfl : d = ⟨j.val, lt_of_lt_of_le j.isLt (by decide)⟩ := Fin.ext hj.symm
    pointwise [rope8Vec]
    simp only [Nat.add_comm]
  · obtain ⟨j, hj⟩ : ∃ j : Fin 8, 8 + j.val = d.val := ⟨⟨d.val - 8, by omega⟩, by show 8 + (d.val - 8) = d.val; omega⟩
    obtain rfl : d = ⟨8 + j.val, lt_of_lt_of_le (Nat.add_lt_add_left j.isLt 8) (by decide)⟩ := Fin.ext hj.symm
    pointwise [rope8Vec]
  · obtain ⟨j, hj⟩ : ∃ j : Fin 48, 16 + j.val = d.val := ⟨⟨d.val - 16, by omega⟩, by show 16 + (d.val - 16) = d.val; omega⟩
    obtain rfl : d = ⟨16 + j.val, lt_of_lt_of_le (Nat.add_lt_add_left j.isLt 16) (by decide)⟩ := Fin.ext hj.symm
    pointwise [rope8Vec]
    rw [dif_neg h1, dif_neg (by omega)]
    exact congrArg u (congrArg (ix4 b s h) (Fin.ext (by show 16 + (16 + j.val - 8 - 8) = 16 + j.val; omega)))

/-- The rotary embedding of the 2 heads, over the cosines and the sines. -/
def rope2Vec (u : FVec Ideal S8x8192x2x64 .f32) (C S : FVec Ideal S8192x8 .f32) : FVec Ideal S8x8192x2x64 .f32 :=
  concatenate S8x8192x2x64 3 [⟨S8x8192x2x8, (subf (mulf (extractStridedSlice S8x8192x2x8 ![0, 0, 0, 0] u slices_S8x8192x2x64_S8x8192x2x8_0_0_0_0) (broadcastInDim S8x8192x2x8 ![0, 1, 2, 3] bcast_S1x8192x1x8_S8x8192x2x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S8x8192x2x8 ![0, 0, 0, 8] u slices_S8x8192x2x64_S8x8192x2x8_0_0_0_8) (broadcastInDim S8x8192x2x8 ![0, 1, 2, 3] bcast_S1x8192x1x8_S8x8192x2x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S8x8192x2x8, (addf (mulf (extractStridedSlice S8x8192x2x8 ![0, 0, 0, 8] u slices_S8x8192x2x64_S8x8192x2x8_0_0_0_8) (broadcastInDim S8x8192x2x8 ![0, 1, 2, 3] bcast_S1x8192x1x8_S8x8192x2x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S8x8192x2x8 ![0, 0, 0, 0] u slices_S8x8192x2x64_S8x8192x2x8_0_0_0_0) (broadcastInDim S8x8192x2x8 ![0, 1, 2, 3] bcast_S1x8192x1x8_S8x8192x2x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S8x8192x2x48, extractStridedSlice S8x8192x2x48 ![0, 0, 0, 16] u slices_S8x8192x2x64_S8x8192x2x48_0_0_0_16⟩] concatenates_S8x8192x2x8_S8x8192x2x8_S8x8192x2x48_S8x8192x2x64_d3

theorem rope2Vec_apply (u : FVec Ideal S8x8192x2x64 .f32) (C S : FVec Ideal S8192x8 .f32) (b : Fin 8) (s : Fin 8192) (h : Fin 2) (d : Fin 64) :
    rope2Vec u C S (ix4 b s h d) = rope (fun e => u (ix4 b s h e)) (fun j => C (ix2 s j)) (fun j => S (ix2 s j)) d := by
  unfold rope
  split_ifs with h1 h2
  · obtain ⟨j, hj⟩ : ∃ j : Fin 8, j.val = d.val := ⟨⟨d.val, h1⟩, rfl⟩
    obtain rfl : d = ⟨j.val, lt_of_lt_of_le j.isLt (by decide)⟩ := Fin.ext hj.symm
    pointwise [rope2Vec]
    simp only [Nat.add_comm]
  · obtain ⟨j, hj⟩ : ∃ j : Fin 8, 8 + j.val = d.val := ⟨⟨d.val - 8, by omega⟩, by show 8 + (d.val - 8) = d.val; omega⟩
    obtain rfl : d = ⟨8 + j.val, lt_of_lt_of_le (Nat.add_lt_add_left j.isLt 8) (by decide)⟩ := Fin.ext hj.symm
    pointwise [rope2Vec]
  · obtain ⟨j, hj⟩ : ∃ j : Fin 48, 16 + j.val = d.val := ⟨⟨d.val - 16, by omega⟩, by show 16 + (d.val - 16) = d.val; omega⟩
    obtain rfl : d = ⟨16 + j.val, lt_of_lt_of_le (Nat.add_lt_add_left j.isLt 16) (by decide)⟩ := Fin.ext hj.symm
    pointwise [rope2Vec]
    rw [dif_neg h1, dif_neg (by omega)]
    exact congrArg u (congrArg (ix4 b s h) (Fin.ext (by show 16 + (16 + j.val - 8 - 8) = 16 + j.val; omega)))

/-- The rotary embedding of the 4 heads, over the cosines and the sines. -/
def rope4Vec (u : FVec Ideal S8x8192x4x64 .f32) (C S : FVec Ideal S8192x8 .f32) : FVec Ideal S8x8192x4x64 .f32 :=
  concatenate S8x8192x4x64 3 [⟨S8x8192x4x8, (subf (mulf (extractStridedSlice S8x8192x4x8 ![0, 0, 0, 0] u slices_S8x8192x4x64_S8x8192x4x8_0_0_0_0) (broadcastInDim S8x8192x4x8 ![0, 1, 2, 3] bcast_S1x8192x1x8_S8x8192x4x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S8x8192x4x8 ![0, 0, 0, 8] u slices_S8x8192x4x64_S8x8192x4x8_0_0_0_8) (broadcastInDim S8x8192x4x8 ![0, 1, 2, 3] bcast_S1x8192x1x8_S8x8192x4x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S8x8192x4x8, (addf (mulf (extractStridedSlice S8x8192x4x8 ![0, 0, 0, 8] u slices_S8x8192x4x64_S8x8192x4x8_0_0_0_8) (broadcastInDim S8x8192x4x8 ![0, 1, 2, 3] bcast_S1x8192x1x8_S8x8192x4x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S8x8192x4x8 ![0, 0, 0, 0] u slices_S8x8192x4x64_S8x8192x4x8_0_0_0_0) (broadcastInDim S8x8192x4x8 ![0, 1, 2, 3] bcast_S1x8192x1x8_S8x8192x4x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S8x8192x4x48, extractStridedSlice S8x8192x4x48 ![0, 0, 0, 16] u slices_S8x8192x4x64_S8x8192x4x48_0_0_0_16⟩] concatenates_S8x8192x4x8_S8x8192x4x8_S8x8192x4x48_S8x8192x4x64_d3

theorem rope4Vec_apply (u : FVec Ideal S8x8192x4x64 .f32) (C S : FVec Ideal S8192x8 .f32) (b : Fin 8) (s : Fin 8192) (h : Fin 4) (d : Fin 64) :
    rope4Vec u C S (ix4 b s h d) = rope (fun e => u (ix4 b s h e)) (fun j => C (ix2 s j)) (fun j => S (ix2 s j)) d := by
  unfold rope
  split_ifs with h1 h2
  · obtain ⟨j, hj⟩ : ∃ j : Fin 8, j.val = d.val := ⟨⟨d.val, h1⟩, rfl⟩
    obtain rfl : d = ⟨j.val, lt_of_lt_of_le j.isLt (by decide)⟩ := Fin.ext hj.symm
    pointwise [rope4Vec]
    simp only [Nat.add_comm]
  · obtain ⟨j, hj⟩ : ∃ j : Fin 8, 8 + j.val = d.val := ⟨⟨d.val - 8, by omega⟩, by show 8 + (d.val - 8) = d.val; omega⟩
    obtain rfl : d = ⟨8 + j.val, lt_of_lt_of_le (Nat.add_lt_add_left j.isLt 8) (by decide)⟩ := Fin.ext hj.symm
    pointwise [rope4Vec]
  · obtain ⟨j, hj⟩ : ∃ j : Fin 48, 16 + j.val = d.val := ⟨⟨d.val - 16, by omega⟩, by show 16 + (d.val - 16) = d.val; omega⟩
    obtain rfl : d = ⟨16 + j.val, lt_of_lt_of_le (Nat.add_lt_add_left j.isLt 16) (by decide)⟩ := Fin.ext hj.symm
    pointwise [rope4Vec]
    rw [dif_neg h1, dif_neg (by omega)]
    exact congrArg u (congrArg (ix4 b s h) (Fin.ext (by show 16 + (16 + j.val - 8 - 8) = 16 + j.val; omega)))

/-- The rotary embedding of the one head, over the cosines and the sines. -/
def rope1Vec (u : FVec Ideal S8x8192x1x64 .f32) (C S : FVec Ideal S8192x8 .f32) : FVec Ideal S8x8192x1x64 .f32 :=
  concatenate S8x8192x1x64 3 [⟨S8x8192x1x8, (subf (mulf (extractStridedSlice S8x8192x1x8 ![0, 0, 0, 0] u slices_S8x8192x1x64_S8x8192x1x8_0_0_0_0) (broadcastInDim S8x8192x1x8 ![0, 1, 2, 3] bcast_S1x8192x1x8_S8x8192x1x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S8x8192x1x8 ![0, 0, 0, 8] u slices_S8x8192x1x64_S8x8192x1x8_0_0_0_8) (broadcastInDim S8x8192x1x8 ![0, 1, 2, 3] bcast_S1x8192x1x8_S8x8192x1x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S8x8192x1x8, (addf (mulf (extractStridedSlice S8x8192x1x8 ![0, 0, 0, 8] u slices_S8x8192x1x64_S8x8192x1x8_0_0_0_8) (broadcastInDim S8x8192x1x8 ![0, 1, 2, 3] bcast_S1x8192x1x8_S8x8192x1x8_0_1_2_3 (broadcastInDim S1x8192x1x8 ![1, 2, 3] bcast_S8192x1x8_S1x8192x1x8_1_2_3 (broadcastInDim S8192x1x8 ![0, 2] bcast_S8192x8_S8192x1x8_0_2 C)))) (mulf (extractStridedSlice S8x8192x1x8 ![0, 0, 0, 0] u slices_S8x8192x1x64_S8x8192x1x8_0_0_0_0) (broadcastInDim S8x8192x1x8 ![0, 1, 2, 3] bcast_S1x8192x1x8_S8x8192x1x8_0_1_2_3 (broadcastInDim S1x8192x1x8 ![1, 2, 3] bcast_S8192x1x8_S1x8192x1x8_1_2_3 (broadcastInDim S8192x1x8 ![0, 2] bcast_S8192x8_S8192x1x8_0_2 S)))))⟩, ⟨S8x8192x1x48, extractStridedSlice S8x8192x1x48 ![0, 0, 0, 16] u slices_S8x8192x1x64_S8x8192x1x48_0_0_0_16⟩] concatenates_S8x8192x1x8_S8x8192x1x8_S8x8192x1x48_S8x8192x1x64_d3

theorem rope1Vec_apply (u : FVec Ideal S8x8192x1x64 .f32) (C S : FVec Ideal S8192x8 .f32) (b : Fin 8) (s : Fin 8192) (h : Fin 1) (d : Fin 64) :
    rope1Vec u C S (ix4 b s h d) = rope (fun e => u (ix4 b s h e)) (fun j => C (ix2 s j)) (fun j => S (ix2 s j)) d := by
  obtain rfl : h = (0 : Fin 1) := Subsingleton.elim _ _
  unfold rope
  split_ifs with h1 h2
  · obtain ⟨j, hj⟩ : ∃ j : Fin 8, j.val = d.val := ⟨⟨d.val, h1⟩, rfl⟩
    obtain rfl : d = ⟨j.val, lt_of_lt_of_le j.isLt (by decide)⟩ := Fin.ext hj.symm
    pointwise [rope1Vec]
    simp only [Nat.add_comm]
  · obtain ⟨j, hj⟩ : ∃ j : Fin 8, 8 + j.val = d.val := ⟨⟨d.val - 8, by omega⟩, by show 8 + (d.val - 8) = d.val; omega⟩
    obtain rfl : d = ⟨8 + j.val, lt_of_lt_of_le (Nat.add_lt_add_left j.isLt 8) (by decide)⟩ := Fin.ext hj.symm
    pointwise [rope1Vec]
  · obtain ⟨j, hj⟩ : ∃ j : Fin 48, 16 + j.val = d.val := ⟨⟨d.val - 16, by omega⟩, by show 16 + (d.val - 16) = d.val; omega⟩
    obtain rfl : d = ⟨16 + j.val, lt_of_lt_of_le (Nat.add_lt_add_left j.isLt 16) (by decide)⟩ := Fin.ext hj.symm
    pointwise [rope1Vec]
    rw [dif_neg h1, dif_neg (by omega)]
    exact congrArg u (congrArg (ix4 b s 0) (Fin.ext (by show 16 + (16 + j.val - 8 - 8) = 16 + j.val; omega)))

end Cert.InprojRefIdeal.Own

end
-- ==== Proof.Inproj.Ref.lean ====
/- The projection reference's twelve results, as functions of the arguments and at one element. -/
module

public import proofs.«01_k».proof.Proof.Inproj.RefHead

@[expose] public section

set_option maxRecDepth 16384

noncomputable section

namespace Cert.InprojRefIdeal.Own

open Idealize.ShloMosaic Idealize.ShloMosaic.TcCoe Idealize.ShloMosaic.StableHlo Idealize.SL.Sem
open Cert.InprojRefIdeal Cert.InprojRefIdeal.Gen Cert.RouteOwn Cert.InprojOwn

variable (z : FVec Ideal S8x8192x4932 .f32) (gq gk : FVec Ideal S64 .f32) (R : Fin 65536)

/-- The first branch's columns. -/
def aVec : FVec Ideal S65536x1792 .f32 :=
  shapeCast _ (extractStridedSlice S8x8192x1792 ![0, 0, 0] z slices_S8x8192x4932_S8x8192x1792_0_0_0) shapeCasts_S8x8192x1792_S65536x1792

theorem aVec_apply (l : Fin 1792) : aVec z (ix2 R l) = z (ix3 (bOf R) (sOf R) ⟨l.val, by omega⟩) := by
  unfold bOf sOf
  pointwise [aVec]

/-- The queries, head by head. -/
def qHeads : FVec Ideal S8x8192x8x64 .f32 :=
  shapeCast _ (extractStridedSlice S8x8192x512 ![0, 0, 1792] z slices_S8x8192x4932_S8x8192x512_0_0_1792) shapeCasts_S8x8192x512_S8x8192x8x64

theorem qHeads_apply (b : Fin 8) (s : Fin 8192) (h : Fin 8) (d : Fin 64) :
    qHeads z (ix4 b s h d) = z (ix3 b s ⟨1792 + (64 * h.val + d.val), by omega⟩) := by
  pointwise [qHeads]
  exact congrArg z (congrArg (ix3 b s) (Fin.ext (by show 1792 + (h.val * 64 + d.val) = 1792 + (64 * h.val + d.val); omega)))

/-- The queries. -/
def qVec : FVec Ideal S65536x512 .bf16 :=
  truncf .bf16 (shapeCast _ (mulf (rope8Vec (norm8Vec (qHeads z) gq) cosVec sinVec) (broadcastInDim S8x8192x8x64 ![] bcast_S_S8x8192x8x64 (constant (F := Ideal) S_ .f32 0x3E38AA3B#32))) shapeCasts_S8x8192x8x64_S65536x512) bitsLt_bf16_f32

theorem qFlat_apply (u : FVec Ideal S8x8192x8x64 .f32) (h : Fin 8) (d : Fin 64) :
    shapeCast S65536x512 u shapeCasts_S8x8192x8x64_S65536x512 (ix2 R (⟨64 * h.val + d.val, by omega⟩ : Fin 512)) = u (ix4 (bOf R) (sOf R) h d) := by
  unfold bOf sOf
  pointwise

theorem qVec_apply (h : Fin 8) (d : Fin 64) :
    qVec z gq (ix2 R (⟨64 * h.val + d.val, by omega⟩ : Fin 512))
      = rope (headNorm (fun e => z (ix3 (bOf R) (sOf R) ⟨1792 + (64 * h.val + e.val), by omega⟩)) (fun e => gq (ix1 e)))
          (fun j => cosVec (ix2 (sOf R) j)) (fun j => sinVec (ix2 (sOf R) j)) d * Ideal.ofBits FTy.f32 0x3E38AA3B#32 := by
  refine Eq.trans (qFlat_apply R (mulf (rope8Vec (norm8Vec (qHeads z) gq) cosVec sinVec) (broadcastInDim S8x8192x8x64 ![] bcast_S_S8x8192x8x64 (constant (F := Ideal) S_ .f32 0x3E38AA3B#32))) h d) ?_
  show rope8Vec (norm8Vec (qHeads z) gq) cosVec sinVec (ix4 (bOf R) (sOf R) h d) * Ideal.ofBits FTy.f32 0x3E38AA3B#32 = _
  rw [rope8Vec_apply]
  simp only [norm8Vec_apply, qHeads_apply]

/-- The keys, head by head. -/
def kHeads : FVec Ideal S8x8192x2x64 .f32 :=
  shapeCast _ (extractStridedSlice S8x8192x128 ![0, 0, 2304] z slices_S8x8192x4932_S8x8192x128_0_0_2304) shapeCasts_S8x8192x128_S8x8192x2x64

theorem kHeads_apply (b : Fin 8) (s : Fin 8192) (h : Fin 2) (d : Fin 64) :
    kHeads z (ix4 b s h d) = z (ix3 b s ⟨2304 + (64 * h.val + d.val), by omega⟩) := by
  pointwise [kHeads]
  exact congrArg z (congrArg (ix3 b s) (Fin.ext (by show 2304 + (h.val * 64 + d.val) = 2304 + (64 * h.val + d.val); omega)))

/-- The keys. -/
def kVec : FVec Ideal S65536x128 .f32 :=
  shapeCast _ (rope2Vec (norm2Vec (kHeads z) gk) cosVec sinVec) shapeCasts_S8x8192x2x64_S65536x128

theorem kFlat_apply (u : FVec Ideal S8x8192x2x64 .f32) (h : Fin 2) (d : Fin 64) :
    shapeCast S65536x128 u shapeCasts_S8x8192x2x64_S65536x128 (ix2 R (lane h d)) = u (ix4 (bOf R) (sOf R) h d) := by
  unfold bOf sOf lane
  pointwise

theorem kVec_apply (h : Fin 2) (d : Fin 64) :
    kVec z gk (ix2 R (lane h d))
      = rope (headNorm (fun e => z (ix3 (bOf R) (sOf R) ⟨2304 + (64 * h.val + e.val), by omega⟩)) (fun e => gk (ix1 e)))
          (fun j => cosVec (ix2 (sOf R) j)) (fun j => sinVec (ix2 (sOf R) j)) d := by
  refine (kFlat_apply R _ h d).trans ((rope2Vec_apply _ _ _ _ _ _ _).trans ?_)
  refine congrArg (fun v => rope v _ _ d) (funext fun e => (norm2Vec_apply _ _ _ _ _ _).trans ?_)
  simp only [kHeads_apply]

/-- The values. -/
def vVec : FVec Ideal S65536x128 .f32 :=
  shapeCast _ (extractStridedSlice S8x8192x128 ![0, 0, 2432] z slices_S8x8192x4932_S8x8192x128_0_0_2432) shapeCasts_S8x8192x128_S65536x128

theorem vVec_apply (l : Fin 128) : vVec z (ix2 R l) = z (ix3 (bOf R) (sOf R) ⟨2432 + l.val, by omega⟩) := by
  unfold bOf sOf
  pointwise [vVec]

/-- The index queries, head by head. -/
def qiHeads : FVec Ideal S8x8192x4x64 .f32 :=
  shapeCast _ (extractStridedSlice S8x8192x256 ![0, 0, 2560] z slices_S8x8192x4932_S8x8192x256_0_0_2560) shapeCasts_S8x8192x256_S8x8192x4x64

theorem qiHeads_apply (b : Fin 8) (s : Fin 8192) (h : Fin 4) (d : Fin 64) :
    qiHeads z (ix4 b s h d) = z (ix3 b s ⟨2560 + (64 * h.val + d.val), by omega⟩) := by
  pointwise [qiHeads]
  exact congrArg z (congrArg (ix3 b s) (Fin.ext (by show 2560 + (h.val * 64 + d.val) = 2560 + (64 * h.val + d.val); omega)))

/-- The index queries. -/
def qiVec : FVec Ideal S65536x256 .bf16 :=
  truncf .bf16 (shapeCast _ (mulf (rope4Vec (qiHeads z) cosVec sinVec) (broadcastInDim S8x8192x4x64 ![] bcast_S_S8x8192x4x64 (constant (F := Ideal) S_ .f32 0x3E000000#32))) shapeCasts_S8x8192x4x64_S65536x256) bitsLt_bf16_f32

theorem qiFlat_apply (u : FVec Ideal S8x8192x4x64 .f32) (h : Fin 4) (d : Fin 64) :
    shapeCast S65536x256 u shapeCasts_S8x8192x4x64_S65536x256 (ix2 R (⟨64 * h.val + d.val, by omega⟩ : Fin 256)) = u (ix4 (bOf R) (sOf R) h d) := by
  unfold bOf sOf
  pointwise

theorem qiVec_apply (h : Fin 4) (d : Fin 64) :
    qiVec z (ix2 R (⟨64 * h.val + d.val, by omega⟩ : Fin 256))
      = rope (fun e => z (ix3 (bOf R) (sOf R) ⟨2560 + (64 * h.val + e.val), by omega⟩))
          (fun j => cosVec (ix2 (sOf R) j)) (fun j => sinVec (ix2 (sOf R) j)) d * Ideal.ofBits FTy.f32 0x3E000000#32 := by
  refine Eq.trans (qiFlat_apply R (mulf (rope4Vec (qiHeads z) cosVec sinVec) (broadcastInDim S8x8192x4x64 ![] bcast_S_S8x8192x4x64 (constant (F := Ideal) S_ .f32 0x3E000000#32))) h d) ?_
  show rope4Vec (qiHeads z) cosVec sinVec (ix4 (bOf R) (sOf R) h d) * Ideal.ofBits FTy.f32 0x3E000000#32 = _
  rw [rope4Vec_apply]
  simp only [qiHeads_apply]

/-- The index keys' columns. -/
def kiCols : FVec Ideal S8x8192x64 .f32 := extractStridedSlice S8x8192x64 ![0, 0, 2816] z slices_S8x8192x4932_S8x8192x64_0_0_2816

/-- The index keys. -/
def kiVec : FVec Ideal S65536x64 .f32 :=
  shapeCast _ (rope1Vec (broadcastInDim S8x8192x1x64 ![0, 1, 3] bcast_S8x8192x64_S8x8192x1x64_0_1_3 (kiCols z)) cosVec sinVec) shapeCasts_S8x8192x1x64_S65536x64

theorem kiHead_apply (b : Fin 8) (s : Fin 8192) (d : Fin 64) :
    broadcastInDim S8x8192x1x64 ![0, 1, 3] bcast_S8x8192x64_S8x8192x1x64_0_1_3 (kiCols z) (ix4 b s 0 d) = z (ix3 b s ⟨2816 + d.val, by omega⟩) := by
  pointwise [kiCols]

theorem kiFlat_apply (u : FVec Ideal S8x8192x1x64 .f32) (d : Fin 64) :
    shapeCast S65536x64 u shapeCasts_S8x8192x1x64_S65536x64 (ix2 R d) = u (ix4 (bOf R) (sOf R) 0 d) := by
  unfold bOf sOf
  pointwise

theorem kiVec_apply (d : Fin 64) :
    kiVec z (ix2 R d) = rope (fun e => z (ix3 (bOf R) (sOf R) ⟨2816 + e.val, by omega⟩))
          (fun j => cosVec (ix2 (sOf R) j)) (fun j => sinVec (ix2 (sOf R) j)) d := by
  refine (kiFlat_apply R _ d).trans ((rope1Vec_apply _ _ _ _ _ _ _).trans ?_)
  exact congrArg (fun v => rope v _ _ d) (funext fun e => kiHead_apply z _ _ e)

/-- The index keys, twice side by side. -/
def kiTwice (u : FVec Ideal S65536x64 .f32) : FVec Ideal S65536x128 .bf16 :=
  truncf .bf16 (concatenate S65536x128 1 [⟨S65536x64, u⟩, ⟨S65536x64, u⟩] concatenates_S65536x64_S65536x64_S65536x128_d1) bitsLt_bf16_f32

theorem kiTwice_apply (u : FVec Ideal S65536x64 .f32) (p : Fin 2) (d : Fin 64) : kiTwice u (ix2 R (lane p d)) = u (ix2 R d) := by
  unfold lane
  fin_cases p
  · pointwise [kiTwice]
  · pointwise [kiTwice]

/-- The index weights, in the columns after the unturned index keys. -/
def wiVec : FVec Ideal S65536x128 .f32 :=
  pad S65536x128 ![0, 0] ![0, 60] ![0, 0] (shapeCast _ (mulf (concatenate S8x8192x68 2 [⟨S8x8192x64, kiCols z⟩, ⟨S8x8192x4, extractStridedSlice S8x8192x4 ![0, 0, 2880] z slices_S8x8192x4932_S8x8192x4_0_0_2880⟩] concatenates_S8x8192x64_S8x8192x4_S8x8192x68_d2) (broadcastInDim S8x8192x68 ![] bcast_S_S8x8192x68 (constant (F := Ideal) S_ .f32 0x3F000000#32))) shapeCasts_S8x8192x68_S65536x68) (sitofp (F := Ideal) .f32 (constantI S_ 32 0#32)) pads_S65536x68_S65536x128_000_0600 h_S_

theorem wiVec_apply (l : Fin 68) : wiVec z (ix2 R ⟨l.val, by omega⟩)
    = z (ix3 (bOf R) (sOf R) ⟨2816 + l.val, by omega⟩) * Ideal.ofBits FTy.f32 0x3F000000#32 := by
  unfold bOf sOf
  pointwise [wiVec, kiCols]
  by_cases h : l.val < 64
  · rw [dif_pos h]
  · rw [dif_neg h]
    refine congrArg (fun i => z (ix3 _ _ i) * Ideal.ofBits FTy.f32 0x3F000000#32) (Fin.ext ?_)
    show 2880 + (l.val - 64) = 2816 + l.val
    omega

theorem wiVec_rest (l : Fin 60) : wiVec z (ix2 R ⟨68 + l.val, by omega⟩) = (0 : EReal) := by
  pointwise [wiVec, kiCols]
  show (((0#32 : BitVec 32).toInt : ℝ) : EReal) = 0
  simp

/-- The first gate. -/
def gaVec : FVec Ideal S65536x1024 .bf16 :=
  truncf .bf16 (shapeCast _ (Host.divf (F := Ideal) (broadcastInDim S8x8192x1024 ![] bcast_S_S8x8192x1024 (constant (F := Ideal) S_ .f32 0x3F800000#32)) (addf (broadcastInDim S8x8192x1024 ![] bcast_S_S8x8192x1024 (constant (F := Ideal) S_ .f32 0x3F800000#32)) (Host.exp (F := Ideal) (Host.negf (F := Ideal) (extractStridedSlice S8x8192x1024 ![0, 0, 2884] z slices_S8x8192x4932_S8x8192x1024_0_0_2884))))) shapeCasts_S8x8192x1024_S65536x1024) bitsLt_bf16_f32

theorem gaVec_apply (l : Fin 1024) : gaVec z (ix2 R l) = logistic (z (ix3 (bOf R) (sOf R) ⟨2884 + l.val, by omega⟩)) := by
  unfold bOf sOf
  pointwise [gaVec]
  rfl

/-- The second gate. -/
def gbVec : FVec Ideal S65536x1024 .bf16 :=
  truncf .bf16 (shapeCast _ (Host.divf (F := Ideal) (broadcastInDim S8x8192x1024 ![] bcast_S_S8x8192x1024 (constant (F := Ideal) S_ .f32 0x3F800000#32)) (addf (broadcastInDim S8x8192x1024 ![] bcast_S_S8x8192x1024 (constant (F := Ideal) S_ .f32 0x3F800000#32)) (Host.exp (F := Ideal) (Host.negf (F := Ideal) (extractStridedSlice S8x8192x1024 ![0, 0, 3908] z slices_S8x8192x4932_S8x8192x1024_0_0_3908))))) shapeCasts_S8x8192x1024_S65536x1024) bitsLt_bf16_f32

theorem gbVec_apply (l : Fin 1024) : gbVec z (ix2 R l) = logistic (z (ix3 (bOf R) (sOf R) ⟨3908 + l.val, by omega⟩)) := by
  unfold bOf sOf
  pointwise [gbVec]
  rfl

end Cert.InprojRefIdeal.Own

end
-- ==== Proof.Inproj.Kernel.lean ====
/- The projection kernel's twelve result arrays are the reference's terms over the kernel's arguments. -/
module

public import proofs.«01_k».proof.Proof.Inproj.Reads
public import proofs.«01_k».proof.Proof.Inproj.Ref

@[expose] public section

set_option maxRecDepth 16384

noncomputable section

namespace Cert.InprojIdeal.Own

open Idealize.ShloMosaic Idealize.ShloMosaic.TcCoe Idealize.SL.Sem
open Idealize.ShloMosaic.Pipeline (Dat)
open Cert.InprojIdeal Cert.InprojIdeal.Gen Cert.RouteOwn Cert.InprojOwn
open Cert.InprojRefIdeal.Own (bOf sOf zVec cosVec sinVec aVec qVec kVec vVec qiVec kiVec kiTwice wiVec gaVec gbVec)

variable (m : (ℓ : Loc nD τ sig) → Buf (Elt Ideal) ℓ) (c : Dev nD)

/-- The reference's projections, over the kernel's arguments. -/
abbrev zRef : FVec Ideal InprojRefIdeal.S8x8192x4932 .f32 := zVec (arg0 m c) (arg1 m c) (arg2 m c)

section Tile

variable (t : Fin cfg0.N) (a : Fin 512)

theorem pos_eq : pos t a = sOf (row t a) := by
  have := lt_of_lt_of_eq t.isLt N_0
  exact Fin.ext (by show t.val % 16 * 512 + a.val = (t.val * 512 + a.val) % 8192; omega)

theorem ang_eq : angT = InprojRefIdeal.Own.angVec := rfl

/-- The cosines of a row's position. -/
abbrev cosR (j : Fin 8) : EReal := cosVec (ix2 (sOf (row t a)) j)

/-- The sines of a row's position. -/
abbrev sinR (j : Fin 8) : EReal := sinVec (ix2 (sOf (row t a)) j)

theorem cos_eq : (fun j => Host.cos (F := Ideal) angT (ix2 (pos t a) j)) = cosR t a := by
  rw [pos_eq]
  rfl

theorem sin_eq : (fun j => Host.sin (F := Ideal) angT (ix2 (pos t a) j)) = sinR t a := by
  rw [pos_eq]
  rfl

theorem hcos (p : Fin 2) (d : Fin 64) :
    (iblk m c 3 t : FVec Ideal S512x256 .f32) (ix2 a ⟨(lane p d).val, by omega⟩) = cosLane (cosR t a) d :=
  (read3c m c t a p d).trans (congrArg (fun f => cosLane f d) (cos_eq t a))

theorem hsin (p : Fin 2) (d : Fin 64) :
    (iblk m c 3 t : FVec Ideal S512x256 .f32) (ix2 a ⟨128 + (lane p d).val, by omega⟩) = sinLane (sinR t a) d :=
  (read3s m c t a p d).trans (congrArg (fun f => sinLane f d) (sin_eq t a))

/-- A column of a tile's projections. -/
abbrev zK (l : Fin 4992) : EReal := zT (iblk m c 0 t) (iblk m c 1 t) (iblk m c 2 t) a l

theorem z_col (l : Fin 4992) : zK m c t a l
    = proj (fun k => arg0 m c (ix3 (bOf (row t a)) (sOf (row t a)) k)) (fun k => arg1 m c (ix1 k)) (fun k => catW (arg2 m c) (ix2 k l)) := by
  unfold zK zT
  congr 1
  · exact funext fun k => read0 m c t a k
  · exact funext fun k => read1 m c t k
  · exact funext fun k => read2 m c t k l

theorem z_low (l : Fin 4992) (h : l.val < 2884) :
    zK m c t a l = zRef m c (ix3 (bOf (row t a)) (sOf (row t a)) ⟨l.val, lt_trans h (by norm_num)⟩) := by
  refine (z_col m c t a l).trans (Eq.trans ?_ (InprojRefIdeal.Own.zVec_apply _ _ _ _ _ _).symm)
  exact congrArg (proj _ _) (funext fun k => catW_low _ k ⟨l.val, h⟩)

theorem z_high (l : Fin 2048) :
    zK m c t a ⟨2944 + l.val, by omega⟩ = zRef m c (ix3 (bOf (row t a)) (sOf (row t a)) ⟨2884 + l.val, by omega⟩) := by
  refine (z_col m c t a _).trans (Eq.trans ?_ (InprojRefIdeal.Own.zVec_apply _ _ _ _ _ _).symm)
  exact congrArg (proj _ _) (funext fun k => catW_high _ k l)

theorem z_zero (l : Fin 60) : zK m c t a ⟨2884 + l.val, by omega⟩ = 0 := by
  refine (z_col m c t a _).trans ?_
  unfold proj
  refine Finset.sum_eq_zero fun k _ => ?_
  exact (congrArg (_ * ·) (catW_zero _ k l)).trans (mul_zero _)

variable (h1 : ∀ i, IsReal (arg1 m c i)) (h2 : ∀ i, IsReal (arg2 m c i))

include h1 h2 in
theorem z_real (l : Fin 4992) : IsReal (zK m c t a l) := by
  rw [z_col]
  exact proj_fin _ _ _ (fun k => h1 _) (fun k => catW_real _ h2 k l)

end Tile

theorem exists_col8 (b : Fin 512) : ∃ (h : Fin 8) (d : Fin 64), b = ⟨64 * h.val + d.val, lt_of_le_of_lt (by omega : 64 * h.val + d.val ≤ 511) (by norm_num)⟩ :=
  ⟨⟨b.val / 64, by omega⟩, ⟨b.val % 64, by omega⟩, Fin.ext (by show b.val = 64 * (b.val / 64) + b.val % 64; omega)⟩

theorem exists_col4 (b : Fin 256) : ∃ (h : Fin 4) (d : Fin 64), b = ⟨64 * h.val + d.val, lt_of_le_of_lt (by omega : 64 * h.val + d.val ≤ 255) (by norm_num)⟩ :=
  ⟨⟨b.val / 64, by omega⟩, ⟨b.val % 64, by omega⟩, Fin.ext (by show b.val = 64 * (b.val / 64) + b.val % 64; omega)⟩

theorem final7 : (dats m 0 c).arrAt 7 cfg0.N = aVec (zRef m c) := by
  refine (dats m 0 c).arrAt_eq_of_covers 7 _ (by decide +kernel) fun t hf y => ?_
  blk_simp
  rw [after0_7]
  obtain ⟨a, b, rfl⟩ : ∃ (a : Fin 512) (b : Fin 1792), y = ix2 a b := ⟨y 0, y 1, eq_ix2 y⟩
  have hemb : ((cfg0.win 7).blk t).view.emb (ix2 a b) = ix2 (row t a) b := by
    unfold row
    blk_ext [idx t]
  rw [hemb]
  exact (out7_apply (iblk m c 0 t) (iblk m c 1 t) (iblk m c 2 t) (iblk m c 3 t) (iblk m c 4 t) (iblk m c 5 t) (iblk m c 6 t) a b).trans ((z_low m c t a _ (by show b.val < 2884; omega)).trans (InprojRefIdeal.Own.aVec_apply _ _ b).symm)

theorem final8 (h1 : ∀ i, IsReal (arg1 m c i)) (h2 : ∀ i, IsReal (arg2 m c i)) : (dats m 0 c).arrAt 8 cfg0.N = qVec (zRef m c) (arg3 m c) := by
  refine (dats m 0 c).arrAt_eq_of_covers 8 _ (by decide +kernel) fun t hf y => ?_
  blk_simp
  rw [after0_8]
  obtain ⟨a, b, rfl⟩ : ∃ (a : Fin 512) (b : Fin 512), y = ix2 a b := ⟨y 0, y 1, eq_ix2 y⟩
  have hemb : ((cfg0.win 8).blk t).view.emb (ix2 a b) = ix2 (row t a) b := by
    unfold row
    blk_ext [idx t]
  rw [hemb]
  obtain ⟨h, d, rfl⟩ := exists_col8 b
  refine (out8_apply (iblk m c 0 t) (iblk m c 1 t) (iblk m c 2 t) (iblk m c 3 t) (iblk m c 4 t) (iblk m c 5 t) (iblk m c 6 t) a (cosR t a) (sinR t a) (fun d => arg3 m c (ix1 d)) (hcos m c t a) (hsin m c t a) (read6 m c t)
    (z_real m c t a h1 h2) (read4 m c t) h d).trans (Eq.trans ?_ (InprojRefIdeal.Own.qVec_apply _ _ (row t a) h d).symm)
  exact congrArg (fun v => rope (headNorm v _) _ _ d * _) (funext fun e => z_low m c t a _ (by show 1792 + (64 * h.val + e.val) < 2884; omega))

theorem final9 (h1 : ∀ i, IsReal (arg1 m c i)) (h2 : ∀ i, IsReal (arg2 m c i)) : (dats m 0 c).arrAt 9 cfg0.N = kVec (zRef m c) (arg4 m c) := by
  refine (dats m 0 c).arrAt_eq_of_covers 9 _ (by decide +kernel) fun t hf y => ?_
  blk_simp
  rw [after0_9]
  obtain ⟨a, b, rfl⟩ : ∃ (a : Fin 512) (b : Fin 128), y = ix2 a b := ⟨y 0, y 1, eq_ix2 y⟩
  have hemb : ((cfg0.win 9).blk t).view.emb (ix2 a b) = ix2 (row t a) b := by
    unfold row
    blk_ext [idx t]
  rw [hemb]
  obtain ⟨p, d, rfl⟩ := exists_lane b
  refine (out9_apply (iblk m c 0 t) (iblk m c 1 t) (iblk m c 2 t) (iblk m c 3 t) (iblk m c 4 t) (iblk m c 5 t) (iblk m c 6 t) a (cosR t a) (sinR t a) (fun d => arg4 m c (ix1 d)) (hcos m c t a) (hsin m c t a) (read6 m c t)
    (z_real m c t a h1 h2) (read5 m c t) p d).trans (Eq.trans ?_ (InprojRefIdeal.Own.kVec_apply _ _ (row t a) p d).symm)
  exact congrArg (fun v => rope (headNorm v _) _ _ d) (funext fun e => z_low m c t a ⟨2304 + (lane p e).val, by omega⟩ (by show 2304 + (64 * p.val + e.val) < 2884; omega))

theorem final11 (h1 : ∀ i, IsReal (arg1 m c i)) (h2 : ∀ i, IsReal (arg2 m c i)) : (dats m 0 c).arrAt 11 cfg0.N = (truncf .bf16 (kVec (zRef m c) (arg4 m c)) bitsLt_bf16_f32 : FVec Ideal S65536x128 .bf16) := by
  refine (dats m 0 c).arrAt_eq_of_covers 11 _ (by decide +kernel) fun t hf y => ?_
  blk_simp
  rw [after0_11]
  obtain ⟨a, b, rfl⟩ : ∃ (a : Fin 512) (b : Fin 128), y = ix2 a b := ⟨y 0, y 1, eq_ix2 y⟩
  have hemb : ((cfg0.win 11).blk t).view.emb (ix2 a b) = ix2 (row t a) b := by
    unfold row
    blk_ext [idx t]
  rw [hemb]
  obtain ⟨p, d, rfl⟩ := exists_lane b
  refine (out11_apply (iblk m c 0 t) (iblk m c 1 t) (iblk m c 2 t) (iblk m c 3 t) (iblk m c 4 t) (iblk m c 5 t) (iblk m c 6 t) a (cosR t a) (sinR t a) (fun d => arg4 m c (ix1 d)) (hcos m c t a) (hsin m c t a) (read6 m c t)
    (z_real m c t a h1 h2) (read5 m c t) p d).trans (Eq.trans ?_ (InprojRefIdeal.Own.kVec_apply _ _ (row t a) p d).symm)
  exact congrArg (fun v => rope (headNorm v _) _ _ d) (funext fun e => z_low m c t a ⟨2304 + (lane p e).val, by omega⟩ (by show 2304 + (64 * p.val + e.val) < 2884; omega))

theorem final10 : (dats m 0 c).arrAt 10 cfg0.N = vVec (zRef m c) := by
  refine (dats m 0 c).arrAt_eq_of_covers 10 _ (by decide +kernel) fun t hf y => ?_
  blk_simp
  rw [after0_10]
  obtain ⟨a, b, rfl⟩ : ∃ (a : Fin 512) (b : Fin 128), y = ix2 a b := ⟨y 0, y 1, eq_ix2 y⟩
  have hemb : ((cfg0.win 10).blk t).view.emb (ix2 a b) = ix2 (row t a) b := by
    unfold row
    blk_ext [idx t]
  rw [hemb]
  exact (out10_apply (iblk m c 0 t) (iblk m c 1 t) (iblk m c 2 t) (iblk m c 3 t) (iblk m c 4 t) (iblk m c 5 t) (iblk m c 6 t) a b).trans ((z_low m c t a _ (by show 2432 + b.val < 2884; omega)).trans (InprojRefIdeal.Own.vVec_apply _ _ b).symm)

theorem final12 : (dats m 0 c).arrAt 12 cfg0.N = (truncf .bf16 (vVec (zRef m c)) bitsLt_bf16_f32 : FVec Ideal S65536x128 .bf16) := by
  refine (dats m 0 c).arrAt_eq_of_covers 12 _ (by decide +kernel) fun t hf y => ?_
  blk_simp
  rw [after0_12]
  obtain ⟨a, b, rfl⟩ : ∃ (a : Fin 512) (b : Fin 128), y = ix2 a b := ⟨y 0, y 1, eq_ix2 y⟩
  have hemb : ((cfg0.win 12).blk t).view.emb (ix2 a b) = ix2 (row t a) b := by
    unfold row
    blk_ext [idx t]
  rw [hemb]
  exact (out12_apply (iblk m c 0 t) (iblk m c 1 t) (iblk m c 2 t) (iblk m c 3 t) (iblk m c 4 t) (iblk m c 5 t) (iblk m c 6 t) a b).trans ((z_low m c t a _ (by show 2432 + b.val < 2884; omega)).trans (InprojRefIdeal.Own.vVec_apply _ _ b).symm)

theorem final13 : (dats m 0 c).arrAt 13 cfg0.N = qiVec (zRef m c) := by
  refine (dats m 0 c).arrAt_eq_of_covers 13 _ (by decide +kernel) fun t hf y => ?_
  blk_simp
  rw [after0_13]
  obtain ⟨a, b, rfl⟩ : ∃ (a : Fin 512) (b : Fin 256), y = ix2 a b := ⟨y 0, y 1, eq_ix2 y⟩
  have hemb : ((cfg0.win 13).blk t).view.emb (ix2 a b) = ix2 (row t a) b := by
    unfold row
    blk_ext [idx t]
  rw [hemb]
  obtain ⟨h, d, rfl⟩ := exists_col4 b
  refine (out13_apply (iblk m c 0 t) (iblk m c 1 t) (iblk m c 2 t) (iblk m c 3 t) (iblk m c 4 t) (iblk m c 5 t) (iblk m c 6 t) a (cosR t a) (sinR t a) (hcos m c t a) (hsin m c t a) h d).trans (Eq.trans ?_ (InprojRefIdeal.Own.qiVec_apply _ (row t a) h d).symm)
  exact congrArg (fun v => rope v _ _ d * _) (funext fun e => z_low m c t a _ (by show 2560 + (64 * h.val + e.val) < 2884; omega))

theorem ki_row (t : Fin cfg0.N) (a : Fin 512) (d : Fin 64) :
    rope (fun e => zK m c t a ⟨2816 + (lane 0 e).val, by omega⟩) (cosR t a) (sinR t a) d = kiVec (zRef m c) (ix2 (row t a) d) := by
  refine Eq.trans ?_ (InprojRefIdeal.Own.kiVec_apply _ (row t a) d).symm
  refine congrArg (fun v => rope v _ _ d) (funext fun e => ?_)
  refine (z_low m c t a ⟨2816 + (lane 0 e).val, by omega⟩ (by show 2816 + (64 * 0 + e.val) < 2884; omega)).trans ?_
  have hi : (⟨2816 + (lane 0 e).val, by omega⟩ : Fin 4932) = ⟨2816 + e.val, by omega⟩ := Fin.ext (by show 2816 + (64 * 0 + e.val) = 2816 + e.val; omega)
  exact congrArg (fun i => zRef m c (ix3 (bOf (row t a)) (sOf (row t a)) i)) hi

theorem final14 : (dats m 0 c).arrAt 14 cfg0.N = kiVec (zRef m c) := by
  refine (dats m 0 c).arrAt_eq_of_covers 14 _ (by decide +kernel) fun t hf y => ?_
  blk_simp
  rw [after0_14]
  obtain ⟨a, b, rfl⟩ : ∃ (a : Fin 512) (b : Fin 64), y = ix2 a b := ⟨y 0, y 1, eq_ix2 y⟩
  have hemb : ((cfg0.win 14).blk t).view.emb (ix2 a b) = ix2 (row t a) b := by
    unfold row
    blk_ext [idx t]
  rw [hemb]
  exact (out14_apply (iblk m c 0 t) (iblk m c 1 t) (iblk m c 2 t) (iblk m c 3 t) (iblk m c 4 t) (iblk m c 5 t) (iblk m c 6 t) a (cosR t a) (sinR t a) (hcos m c t a) (hsin m c t a) b).trans (ki_row m c t a b)

theorem final15 : (dats m 0 c).arrAt 15 cfg0.N = kiTwice (kiVec (zRef m c)) := by
  refine (dats m 0 c).arrAt_eq_of_covers 15 _ (by decide +kernel) fun t hf y => ?_
  blk_simp
  rw [after0_15]
  obtain ⟨a, b, rfl⟩ : ∃ (a : Fin 512) (b : Fin 128), y = ix2 a b := ⟨y 0, y 1, eq_ix2 y⟩
  have hemb : ((cfg0.win 15).blk t).view.emb (ix2 a b) = ix2 (row t a) b := by
    unfold row
    blk_ext [idx t]
  rw [hemb]
  obtain ⟨p, d, rfl⟩ := exists_lane b
  exact (out15_apply (iblk m c 0 t) (iblk m c 1 t) (iblk m c 2 t) (iblk m c 3 t) (iblk m c 4 t) (iblk m c 5 t) (iblk m c 6 t) a (cosR t a) (sinR t a) (hcos m c t a) (hsin m c t a) p d).trans
    ((ki_row m c t a d).trans (InprojRefIdeal.Own.kiTwice_apply (row t a) _ p d).symm)

theorem final16 : (dats m 0 c).arrAt 16 cfg0.N = wiVec (zRef m c) := by
  refine (dats m 0 c).arrAt_eq_of_covers 16 _ (by decide +kernel) fun t hf y => ?_
  blk_simp
  rw [after0_16]
  obtain ⟨a, b, rfl⟩ : ∃ (a : Fin 512) (b : Fin 128), y = ix2 a b := ⟨y 0, y 1, eq_ix2 y⟩
  have hemb : ((cfg0.win 16).blk t).view.emb (ix2 a b) = ix2 (row t a) b := by
    unfold row
    blk_ext [idx t]
  rw [hemb]
  refine (out16_apply (iblk m c 0 t) (iblk m c 1 t) (iblk m c 2 t) (iblk m c 3 t) (iblk m c 4 t) (iblk m c 5 t) (iblk m c 6 t) a b).trans ?_
  by_cases hb : b.val < 68
  · exact (congrArg (· * _) (z_low m c t a _ (by show 2816 + b.val < 2884; omega))).trans (InprojRefIdeal.Own.wiVec_apply _ (row t a) ⟨b.val, hb⟩).symm
  · have e : (⟨2816 + b.val, by omega⟩ : Fin 4992) = ⟨2884 + (⟨b.val - 68, by omega⟩ : Fin 60).val, by show 2884 + (b.val - 68) < 4992; omega⟩ :=
      Fin.ext (by show 2816 + b.val = 2884 + (b.val - 68); omega)
    have e' : b = ⟨68 + (⟨b.val - 68, by omega⟩ : Fin 60).val, by show 68 + (b.val - 68) < 128; omega⟩ := Fin.ext (by show b.val = 68 + (b.val - 68); omega)
    refine (congrArg (fun i => zK m c t a i * _) e).trans ((congrArg (· * _) (z_zero m c t a _)).trans ((zero_mul _).trans ?_))
    exact ((InprojRefIdeal.Own.wiVec_rest (zRef m c) (row t a) ⟨b.val - 68, by omega⟩).symm.trans (congrArg (fun i => wiVec (zRef m c) (ix2 (row t a) i)) e'.symm))

theorem final17 : (dats m 0 c).arrAt 17 cfg0.N = gaVec (zRef m c) := by
  refine (dats m 0 c).arrAt_eq_of_covers 17 _ (by decide +kernel) fun t hf y => ?_
  blk_simp
  rw [after0_17]
  obtain ⟨a, b, rfl⟩ : ∃ (a : Fin 512) (b : Fin 1024), y = ix2 a b := ⟨y 0, y 1, eq_ix2 y⟩
  have hemb : ((cfg0.win 17).blk t).view.emb (ix2 a b) = ix2 (row t a) b := by
    unfold row
    blk_ext [idx t]
  rw [hemb]
  exact (out17_apply (iblk m c 0 t) (iblk m c 1 t) (iblk m c 2 t) (iblk m c 3 t) (iblk m c 4 t) (iblk m c 5 t) (iblk m c 6 t) a b).trans ((congrArg logistic (z_high m c t a ⟨b.val, by omega⟩)).trans (InprojRefIdeal.Own.gaVec_apply _ (row t a) b).symm)

theorem final18 : (dats m 0 c).arrAt 18 cfg0.N = gbVec (zRef m c) := by
  refine (dats m 0 c).arrAt_eq_of_covers 18 _ (by decide +kernel) fun t hf y => ?_
  blk_simp
  rw [after0_18]
  obtain ⟨a, b, rfl⟩ : ∃ (a : Fin 512) (b : Fin 1024), y = ix2 a b := ⟨y 0, y 1, eq_ix2 y⟩
  have hemb : ((cfg0.win 18).blk t).view.emb (ix2 a b) = ix2 (row t a) b := by
    unfold row
    blk_ext [idx t]
  rw [hemb]
  have e : (⟨3968 + b.val, by omega⟩ : Fin 4992) = ⟨2944 + (⟨1024 + b.val, by omega⟩ : Fin 2048).val, by show 2944 + (1024 + b.val) < 4992; omega⟩ :=
    Fin.ext (by show 3968 + b.val = 2944 + (1024 + b.val); omega)
  refine (out18_apply (iblk m c 0 t) (iblk m c 1 t) (iblk m c 2 t) (iblk m c 3 t) (iblk m c 4 t) (iblk m c 5 t) (iblk m c 6 t) a b).trans ((congrArg (fun i => logistic (zK m c t a i)) e).trans ((congrArg logistic (z_high m c t a _)).trans ?_))
  refine Eq.trans (congrArg (fun i => logistic (zRef m c (ix3 _ _ i))) (Fin.ext ?_)) (InprojRefIdeal.Own.gbVec_apply _ (row t a) b).symm
  show 2884 + (1024 + b.val) = 3908 + b.val
  omega

end Cert.InprojIdeal.Own

end
-- ==== Proof.Inproj.RefTerms.lean ====
/- The projection reference's results, each the named function of the arguments. -/
module

public import proofs.«01_k».proof.Proof.Inproj.Ref

@[expose] public section

set_option maxRecDepth 16384

noncomputable section

namespace Cert.InprojRefIdeal.Own

open Idealize.ShloMosaic Idealize.ShloMosaic.TcCoe Idealize.ShloMosaic.StableHlo Idealize.SL.Sem
open Cert.InprojRefIdeal Cert.InprojRefIdeal.Gen

variable (m : (ℓ : Loc nD τ sig) → Buf (Elt Ideal) ℓ) (c : Dev nD)

/-- The projections, of the program's arguments. -/
abbrev zOf : FVec Ideal S8x8192x4932 .f32 :=
  zVec (m ((c.tc : Thread nD τ).loc main_arg0)) (m ((c.tc : Thread nD τ).loc main_arg1)) (m ((c.tc : Thread nD τ).loc main_arg2))

theorem z_eq : Value.res_main_v14 (F := Ideal) (launchContents m c) = zOf m c := rfl

theorem cos_q : Host.cos (F := Ideal) (φ := .f32) (s := S8192x8) (Value.res_main_v48 (F := Ideal) (launchContents m c)) = cosVec := rfl

theorem qn_eq : Value.res_main_v37 (F := Ideal) (launchContents m c) = norm8Vec (qHeads (zOf m c)) (m ((c.tc : Thread nD τ).loc main_arg3)) := rfl

theorem kn_eq : Value.res_main_v84 (F := Ideal) (launchContents m c) = norm2Vec (kHeads (zOf m c)) (m ((c.tc : Thread nD τ).loc main_arg4)) := rfl

theorem qi_eq : Value.res_main_v118 (F := Ideal) (launchContents m c) = qiHeads (zOf m c) := rfl

theorem ki_eq : Value.res_main_v193 (F := Ideal) (launchContents m c) = kiVec (zOf m c) := rfl

/-- All twelve results. -/
theorem run (ρ : Dev nD → PrngReg) :
    θ_run defs (onTc (τ := τ) (main (F := Ideal))) ⟨m, fun _ => 0, ρ⟩ fun r => ∀ c : Dev nD,
      r.2.mem ((c.tc : Thread nD τ).loc main_v194) = aVec (zOf m c)
      ∧ r.2.mem ((c.tc : Thread nD τ).loc main_v198) = qVec (zOf m c) (m ((c.tc : Thread nD τ).loc main_arg3))
      ∧ r.2.mem ((c.tc : Thread nD τ).loc main_v191) = kVec (zOf m c) (m ((c.tc : Thread nD τ).loc main_arg4))
      ∧ r.2.mem ((c.tc : Thread nD τ).loc main_v192) = vVec (zOf m c)
      ∧ r.2.mem ((c.tc : Thread nD τ).loc main_v199) = truncf .bf16 (kVec (zOf m c) (m ((c.tc : Thread nD τ).loc main_arg4))) bitsLt_bf16_f32
      ∧ r.2.mem ((c.tc : Thread nD τ).loc main_v200) = truncf .bf16 (vVec (zOf m c)) bitsLt_bf16_f32
      ∧ r.2.mem ((c.tc : Thread nD τ).loc main_v202) = qiVec (zOf m c)
      ∧ r.2.mem ((c.tc : Thread nD τ).loc main_v193) = kiVec (zOf m c)
      ∧ r.2.mem ((c.tc : Thread nD τ).loc main_v204) = kiTwice (kiVec (zOf m c))
      ∧ r.2.mem ((c.tc : Thread nD τ).loc main_v206) = wiVec (zOf m c)
      ∧ r.2.mem ((c.tc : Thread nD τ).loc main_v214) = gaVec (zOf m c)
      ∧ r.2.mem ((c.tc : Thread nD τ).loc main_v222) = gbVec (zOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run (F := Ideal) m ρ)
  obtain ⟨h0, h1, h2, h3, h4, h5, h6, h7, h8, h9, h10, h11, ha⟩ := h c
  exact ⟨h0.trans rfl, h1.trans rfl, h2.trans rfl, h3.trans rfl, h4.trans rfl, h5.trans rfl, h6.trans rfl, h7.trans rfl, h8.trans rfl,
    h9.trans rfl, h10.trans rfl, h11.trans rfl, ha⟩

end Cert.InprojRefIdeal.Own

end
-- ==== Proof.Inproj.Pre.lean ====
/- What the precondition says of the projection's weights: every entry is a real number. -/
module

public import proofs.«01_k».proof.Defs
public import proofs.«01_k».proof.Proof.Gen.Pre_inproj_finite
public import proofs.«01_k».proof.Proof.Inproj.Reads
public import proofs.«01_k».proof.Proof.Merge.Pre

@[expose] public section

set_option maxRecDepth 16384

noncomputable section

namespace Cert.InprojIdeal.Own

open Idealize.ShloMosaic Idealize.ShloMosaic.TcCoe Idealize.SL.Sem
open Cert.InprojIdeal Cert.InprojIdeal.Gen Cert.RouteOwn

/-- The precondition, taken apart. -/
theorem pre_real (m : (ℓ : Loc nD τ sig) → Buf (Elt Ideal) ℓ) (h : Pre_InprojIdeal_inproj_finite m) (c : Dev nD) :
    (∀ i, IsReal (arg1 m c i)) ∧ ∀ i, IsReal (arg2 m c i) := by
  have hall : ∀ j, Cert.Pre_inproj_finite.fn (F := Ideal) (arg0 m c) (arg1 m c) (arg2 m c) (arg3 m c) (arg4 m c) j = 1#1 := fun j => congrFun (h c) j
  have e := hall ix0
  dsimp only [Cert.Pre_inproj_finite.fn] at e
  obtain ⟨e1, e2⟩ := MergeIdeal.Own.and_one _ _ e
  refine ⟨fun i => ?_, fun i => ?_⟩
  · exact MergeIdeal.Own.real_of_abs _ (Host.reduce_andi_all _ _ _ _ _ e1 i)
  · exact MergeIdeal.Own.real_of_abs _ (Host.reduce_andi_all _ _ _ _ _ e2 i)

end Cert.InprojIdeal.Own

end
-- ==== Proof.MoeS.Pay.lean ====
/- What the vector expressions of the expert kernel's body are at one element. -/
module

public import proofs.«01_k».proof.Proof.Gen.MoeSIdeal.Skeleton
public import proofs.«01_k».proof.Proof.Moe.Pay

@[expose] public section

set_option maxRecDepth 16384

noncomputable section

namespace Cert.MoeSIdeal.Own

open Idealize.ShloMosaic Idealize.ShloMosaic.TcCoe Idealize.SL.Sem
open Cert.MoeSIdeal Cert.MoeSIdeal.Gen Cert.MoeOwn

/-- The zero fill of the accumulator. -/
theorem pay5_apply (j : S512x1024.Idx) : k0_pay5 (F := Ideal) j = 0 := by
  pointwise [k0_pay5]

/-- One expert's share is added into the accumulator. -/
theorem pay1_apply (g : FVec Ideal S512x1 .f32) (acc : FVec Ideal S512x1024 .f32) (h : FVec Ideal S512x512 .bf16)
    (w : FVec Ideal S512x1024 .bf16) (r : Fin 512) (l : Fin 1024) :
    k0_pay1 (F := Ideal) g acc h w (ix2 r l) = acc (ix2 r l) + g (ix2 r 0) * ∑ k : Fin 512, h (ix2 r k) * w (ix2 k l) := by
  pointwise [k0_pay1]

/-- The gate column of the grid's expert: a sum over lanes of the gate masked to that lane. -/
theorem pay6_apply (i : grid0.Coords) (v : FVec Ideal S512x128 .f32) (r : Fin 512) (z : Fin 1) :
    k0_pay6 (F := Ideal) i v (ix2 r z) = v (ix2 r ⟨(i 1).val + 4, by have : (i 1).val < 16 := (i 1).isLt; omega⟩) := by
  have hi : (i 1).val < 16 := (i 1).isLt
  pointwise [k0_pay6]
  rw [Finset.sum_eq_single (⟨(i 1).val + 4, by omega⟩ : Fin 128)]
  · rw [MoeIdeal.Own.lane_eq _ _ hi (by omega)]
    simp [Scalar.select]
  · intro x _ hx
    rw [MoeIdeal.Own.lane_eq _ _ hi x.isLt]
    have : ¬ x.val = (i 1).val + 4 := fun h => hx (Fin.ext h)
    simp [this, Scalar.select]
  · intro h
    exact absurd (Finset.mem_univ _) h

/-- One hidden unit of the grid's expert. -/
theorem pay7_apply (x : FVec Ideal S512x1024 .bf16) (a b : FVec Ideal S1x1024x512 .bf16) (r : Fin 512) (f : Fin 512) :
    k0_pay7 (F := Ideal) x a b (ix2 r f)
      = MoeOwn.hidden (fun k => x (ix2 r k)) (fun k => a (ix3 0 k f)) (fun k => b (ix3 0 k f)) := by
  pointwise [k0_pay7]
  simp only [MoeOwn.hidden, silu, zero_sub]

/-- The expert's output weights without their unit axis. -/
theorem pay8_apply (w : FVec Ideal S1x512x1024 .bf16) (f : Fin 512) (l : Fin 1024) :
    k0_pay8 (F := Ideal) w (ix2 f l) = w (ix3 0 f l) := by
  pointwise [k0_pay8]

/-- The last point's result: the residual plus the accumulator, with the gated embedding added. -/
theorem pay4_apply (x acc : FVec Ideal S512x1024 .f32) (g : FVec Ideal S1x1024 .f32) (wg : FVec Ideal S1024x1024 .bf16)
    (b : FVec Ideal S1x1024 .f32) (p : FVec Ideal S512x256 .f32) (wp : FVec Ideal S256x1024 .bf16) (r : Fin 512) (l : Fin 1024) :
    k0_pay2 (F := Ideal) (k0_pay3 x acc) (k0_pay4 x acc g wg b p wp) (ix2 r l)
      = withPle (fun k => x (ix2 r k) + acc (ix2 r k)) (fun k => g (ix2 0 k)) (fun k => wg (ix2 k l)) (b (ix2 0 l))
          (∑ k : Fin 256, p (ix2 r k) * wp (ix2 k l)) l := by
  pointwise [k0_pay4, k0_pay3, k0_pay2]
  simp only [withPle, normed, zero_sub]

end Cert.MoeSIdeal.Own

end
-- ==== Proof.MoeS.Ref.lean ====
/- The reference of the expert layer at one element. -/
module

public import proofs.«01_k».proof.Proof.Gen.MoeSRefIdeal.Run
public import proofs.«01_k».proof.Proof.Moe.Spec

@[expose] public section

set_option maxRecDepth 16384

noncomputable section

namespace Cert.MoeSRefIdeal.Own

open Idealize.ShloMosaic Idealize.ShloMosaic.TcCoe Idealize.SL.Sem
open Cert.MoeSRefIdeal Cert.MoeSRefIdeal.Gen

/-- The hidden units of all experts, as the reference writes them. -/
def hidVec (A0 : FVec Ideal S512x1024 .bf16) (A4 A5 : FVec Ideal S16x1024x512 .f32) : FVec Ideal S512x16x512 .f32 :=
  (mulf (mulf (Host.dotGeneral dot_S512x1024_S16x1024x512_S512x16x512_1_1_0_02_n_n none (extf .f32 A0 bitsLt_bf16_f32) A5) (Host.divf (broadcastInDim S512x16x512 ![] bcast_S_S512x16x512 (constant S_ .f32 0x3F800000#32)) (addf (broadcastInDim S512x16x512 ![] bcast_S_S512x16x512 (constant S_ .f32 0x3F800000#32)) (Host.exp (Host.negf (Host.dotGeneral dot_S512x1024_S16x1024x512_S512x16x512_1_1_0_02_n_n none (extf .f32 A0 bitsLt_bf16_f32) A5)))))) (Host.dotGeneral dot_S512x1024_S16x1024x512_S512x16x512_1_1_0_02_n_n none (extf .f32 A0 bitsLt_bf16_f32) A4))

/-- The residual plus the weighted experts, as the reference writes it. -/
def resVec (A1 : FVec Ideal S512x128 .f32) (A2 : FVec Ideal S512x1024 .f32) (A6 : FVec Ideal S16x512x1024 .f32)
    (H : FVec Ideal S512x16x512 .f32) : FVec Ideal S512x1024 .f32 :=
  (addf A2 (Host.reduceAdd (mulf (broadcastInDim S512x16x1024 ![0, 1, 2] bcast_S512x16x1_S512x16x1024_0_1_2 (broadcastInDim S512x16x1 ![0, 1] bcast_S512x16_S512x16x1_0_1 (extractStridedSlice S512x16 ![0, 4] A1 slices_S512x128_S512x16_0_4))) (transpose S512x16x1024 [2, 0, 1] (Host.dotGeneral dot_S16x512x1024_S512x16x512_S16x1024x512_1_2_2_0_0_1 none A6 H) transposes_S16x1024x512_S512x16x1024_2_0_1)) (constant S_ .f32 0x00000000#32) reducesTo_S512x16x1024_S512x1024_d1 h_S_))

/-- The gated embedding added to the rows `X`, as the reference writes it. -/
def pleVec (X : FVec Ideal S512x1024 .f32) (A3 : FVec Ideal S512x256 .f32) (A7 : FVec Ideal S1024 .f32)
    (A8 : FVec Ideal S1024x1024 .f32) (A9 : FVec Ideal S1024 .f32) (A10 : FVec Ideal S256x1024 .f32) : FVec Ideal S512x1024 .f32 :=
  addf X (mulf (Host.divf (broadcastInDim S512x1024 ![] bcast_S_S512x1024 (constant S_ .f32 0x3F800000#32)) (addf (broadcastInDim S512x1024 ![] bcast_S_S512x1024 (constant S_ .f32 0x3F800000#32)) (Host.exp (Host.negf (addf (Host.dotGeneral dot_S512x1024_S1024x1024_S512x1024_1_0_0_1_n_n none (mulf (mulf X (broadcastInDim S512x1024 ![0, 1] bcast_S512x1_S512x1024_0_1 (Host.rsqrt (addf (Host.divf (broadcastInDim S512x1 ![0] bcast_S512_S512x1_0 (Host.reduceAdd (mulf X X) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 A7))) A8) (broadcastInDim S512x1024 ![0, 1] bcast_S1x1024_S512x1024_0_1 (broadcastInDim S1x1024 ![1] bcast_S1024_S1x1024_1 A9))))))) (Host.dotGeneral dot_S512x256_S256x1024_S512x1024_1_0_0_1_n_n none A3 A10))

/-- One hidden unit. -/
theorem hidVec_apply (A0 : FVec Ideal S512x1024 .bf16) (A4 A5 : FVec Ideal S16x1024x512 .f32) (r : Fin 512) (e : Fin 16)
    (f : Fin 512) : hidVec A0 A4 A5 (ix3 r e f)
      = MoeOwn.hidden (fun k => A0 (ix2 r k)) (fun k => A5 (ix3 e k f)) (fun k => A4 (ix3 e k f)) := by
  pointwise [hidVec]
  simp only [MoeOwn.hidden, MoeOwn.silu]

/-- The residual plus the experts at one element. -/
theorem resVec_apply (A1 : FVec Ideal S512x128 .f32) (A2 : FVec Ideal S512x1024 .f32) (A6 : FVec Ideal S16x512x1024 .f32)
    (H : FVec Ideal S512x16x512 .f32) (r : Fin 512) (l : Fin 1024) : resVec A1 A2 A6 H (ix2 r l)
      = A2 (ix2 r l) + ∑ e : Fin 16, A1 (ix2 r ⟨e.val + 4, by omega⟩) * ∑ f : Fin 512, H (ix3 r e f) * A6 (ix3 e f l) := by
  pointwise [resVec]
  refine congrArg (A2 (ix2 r l) + ·) (Finset.sum_congr rfl fun e _ => congrArg₂ (· * ·) (congrArg A1 ?_) (Finset.sum_congr rfl fun f _ => mul_comm _ _))
  exact congrArg (ix2 r) (Fin.ext (Nat.add_comm _ _))

/-- The reference's result at one element. -/
theorem pleVec_apply (X : FVec Ideal S512x1024 .f32) (A3 : FVec Ideal S512x256 .f32) (A7 : FVec Ideal S1024 .f32)
    (A8 : FVec Ideal S1024x1024 .f32) (A9 : FVec Ideal S1024 .f32) (A10 : FVec Ideal S256x1024 .f32) (r : Fin 512) (l : Fin 1024) :
    pleVec X A3 A7 A8 A9 A10 (ix2 r l)
      = MoeOwn.withPle (fun k => X (ix2 r k)) (fun k => A7 (ix1 k)) (fun k => A8 (ix2 k l)) (A9 (ix1 l))
          (∑ k : Fin 256, A3 (ix2 r k) * A10 (ix2 k l)) l := by
  pointwise [pleVec]
  simp only [MoeOwn.withPle, MoeOwn.normed]

/-- The reference's run ends at these terms over its arguments. -/
theorem res_eq (m : (ℓ : Loc nD τ sig) → Buf (Elt Ideal) ℓ) (c : Dev nD) :
    Value.res_main_v38 (F := Ideal) m c
      = pleVec (resVec (m ((c.tc : Thread nD τ).loc main_arg1)) (m ((c.tc : Thread nD τ).loc main_arg2))
          (m ((c.tc : Thread nD τ).loc main_arg6))
          (hidVec (m ((c.tc : Thread nD τ).loc main_arg0)) (m ((c.tc : Thread nD τ).loc main_arg4)) (m ((c.tc : Thread nD τ).loc main_arg5))))
        (m ((c.tc : Thread nD τ).loc main_arg3)) (m ((c.tc : Thread nD τ).loc main_arg7)) (m ((c.tc : Thread nD τ).loc main_arg8))
        (m ((c.tc : Thread nD τ).loc main_arg9)) (m ((c.tc : Thread nD τ).loc main_arg10)) := by
  unfold Value.res_main_v38 pleVec resVec hidVec
  rfl

end Cert.MoeSRefIdeal.Own

end
-- ==== Proof.MoeS.Kernel.lean ====
/- The expert kernel's result array at one element. -/
module

public import proofs.«01_k».proof.Proof.Gen.MoeSIdeal.Value
public import proofs.«01_k».proof.Proof.MoeS.Pay
public import proofs.«01_k».proof.Proof.MoeS.Ref
public import Idealize.ShloMosaic.Lib.Pipeline.ValueKit

@[expose] public section

set_option maxRecDepth 16384

noncomputable section

namespace Cert.MoeSIdeal.Own

open Idealize.ShloMosaic Idealize.ShloMosaic.TcCoe Idealize.SL.Sem
open Idealize.ShloMosaic.Pipeline (Dat)
open Cert.MoeSIdeal Cert.MoeSIdeal.Gen

variable (m : (ℓ : Loc nD τ sig) → Buf (Elt Ideal) ℓ)

/-- Where each window's block lies at a grid point: tiles of rows by the quotient, experts by the remainder. -/
theorem idx : ∀ t : Fin cfg0.N, win0_0.index t = ![t.val / 16, 0] ∧ win0_1.index t = ![t.val / 16, 0]
    ∧ win0_2.index t = ![t.val / 16, 0] ∧ win0_3.index t = ![t.val / 16, 0] ∧ win0_4.index t = ![t.val % 16, 0, 0]
    ∧ win0_5.index t = ![t.val % 16, 0, 0] ∧ win0_6.index t = ![t.val % 16, 0, 0] ∧ win0_7.index t = ![0, 0]
    ∧ win0_8.index t = ![0, 0] ∧ win0_9.index t = ![0, 0] ∧ win0_10.index t = ![0, 0] ∧ win0_11.index t = ![t.val / 16, 0]
    ∧ (grid0.coords t 1).val = t.val % 16 :=
  (by decide +kernel : ∀ t : Fin grid0.N, _)

/-- What a grid point adds to the accumulator, at an element of the block. -/
def part (c : Dev nD) (t : Fin cfg0.N) (j : S512x1024.Idx) : EReal :=
  k0_pay6 (F := Ideal) (grid0.coords t) (iblk m c 1 t) (ix2 (j 0) 0)
    * ∑ k : Fin 512, k0_pay7 (F := Ideal) (iblk m c 0 t) (iblk m c 4 t) (iblk m c 5 t) (ix2 (j 0) k)
        * k0_pay8 (F := Ideal) (iblk m c 6 t) (ix2 k (j 1))

/-- The accumulating payload is the accumulator plus the point's part. -/
theorem pay1_part (c : Dev nD) (t : Fin cfg0.N) (acc : FVec Ideal S512x1024 .f32) (j : S512x1024.Idx) :
    k0_pay1 (F := Ideal) (k0_pay6 (grid0.coords t) (iblk m c 1 t)) acc (k0_pay7 (iblk m c 0 t) (iblk m c 4 t) (iblk m c 5 t))
      (k0_pay8 (iblk m c 6 t)) j = acc j + part m c t j := by
  obtain ⟨a, b, rfl⟩ : ∃ (a : Fin 512) (b : Fin 1024), j = ix2 a b := ⟨j 0, j 1, eq_ix2 j⟩
  exact pay1_apply _ _ _ _ a b

/-- At the last expert of a tile of rows the accumulator holds the sum of the sixteen experts' parts. -/
theorem acc_sum (c : Dev nD) (t : Fin cfg0.N) (ht : t.val % 16 = 15) (j : S512x1024.Idx) :
    (outsAt0 m c t.val t.isLt).2 j = ∑ s : Fin 16, part m c ⟨16 * (t.val / 16) + s.val, Pipeline.run_point_lt_of_flush t ht s⟩ j := by
  rw [Pipeline.eq_sum_fin_of_reset_step_apply_of_flush (fun n h => (outsAt0 m c n h).2) 16 (fun _ => 0) (fun p j => part m c p j)
    (fun t h j => by
      rw [outsAt0_A m c t h (by omega)]
      frame_out
      rw [pay1_part, pay5_apply])
    (fun t h j => by
      by_cases h1 : t.val % 16 = 15
      · rw [outsAt0_C m c t h h1]; frame_out
        rw [pay1_part]
        exact congrArg (· + part m c t j) (congrFun ((Memref.isWhole_whole cc0_scratch0).read_unread _) j)
      · rw [outsAt0_B m c t h h1]; frame_out
        rw [pay1_part]
        exact congrArg (· + part m c t j) (congrFun ((Memref.isWhole_whole cc0_scratch0).read_unread _) j)) t ht j, zero_add]

/-- At the last expert the output block is the last payload over the finished accumulator. -/
theorem out_last (c : Dev nD) (t : Fin cfg0.N) (ht : t.val % 16 = 15) :
    (outsAt0 m c t.val t.isLt).1 = k0_pay2 (F := Ideal) (k0_pay3 (iblk m c 2 t) (outsAt0 m c t.val t.isLt).2)
      (k0_pay4 (iblk m c 2 t) (outsAt0 m c t.val t.isLt).2 (iblk m c 7 t) (iblk m c 8 t) (iblk m c 9 t) (iblk m c 3 t) (iblk m c 10 t)) := by
  rw [outsAt0_C m c t (by omega) ht]
  frame_out

/-- The row of the arrays that a tile's row stands for. -/
def row (t : Fin cfg0.N) (a : Fin 512) : Fin 512 := ⟨t.val / 16 * 512 + a.val, by have := lt_of_lt_of_eq t.isLt N_0; omega⟩

/-- The expert of a grid point. -/
def expert (t : Fin cfg0.N) : Fin 16 := ⟨t.val % 16, by omega⟩

theorem read0 (c : Dev nD) (t : Fin cfg0.N) (a : Fin 512) (k : Fin 1024) :
    (iblk m c 0 t : FVec Ideal S512x1024 .bf16) (ix2 a k) = (m ((c : Thread nD τ).loc main_arg0) : FVec Ideal S512x1024 .bf16) (ix2 (row t a) k) := by
  unfold row
  blk_ext [iblk, V_main_arg0, idx t]

theorem read1 (c : Dev nD) (t : Fin cfg0.N) (a : Fin 512) (k : Fin 128) :
    (iblk m c 1 t : FVec Ideal S512x128 .f32) (ix2 a k) = (m ((c : Thread nD τ).loc main_arg1) : FVec Ideal S512x128 .f32) (ix2 (row t a) k) := by
  unfold row
  blk_ext [iblk, V_main_arg1, idx t]

theorem read2 (c : Dev nD) (t : Fin cfg0.N) (a : Fin 512) (k : Fin 1024) :
    (iblk m c 2 t : FVec Ideal S512x1024 .f32) (ix2 a k) = (m ((c : Thread nD τ).loc main_arg2) : FVec Ideal S512x1024 .f32) (ix2 (row t a) k) := by
  unfold row
  blk_ext [iblk, V_main_arg2, idx t]

theorem read3 (c : Dev nD) (t : Fin cfg0.N) (a : Fin 512) (k : Fin 256) :
    (iblk m c 3 t : FVec Ideal S512x256 .f32) (ix2 a k) = (m ((c : Thread nD τ).loc main_arg3) : FVec Ideal S512x256 .f32) (ix2 (row t a) k) := by
  unfold row
  blk_ext [iblk, V_main_arg3, idx t]

theorem read4 (c : Dev nD) (t : Fin cfg0.N) (k : Fin 1024) (f : Fin 512) :
    (iblk m c 4 t : FVec Ideal S1x1024x512 .bf16) (ix3 0 k f) = (m ((c : Thread nD τ).loc main_arg5) : FVec Ideal S16x1024x512 .f32) (ix3 (expert t) k f) := by
  unfold expert
  blk_point [iblk, idx t]

theorem read5 (c : Dev nD) (t : Fin cfg0.N) (k : Fin 1024) (f : Fin 512) :
    (iblk m c 5 t : FVec Ideal S1x1024x512 .bf16) (ix3 0 k f) = (m ((c : Thread nD τ).loc main_arg4) : FVec Ideal S16x1024x512 .f32) (ix3 (expert t) k f) := by
  unfold expert
  blk_point [iblk, idx t]

theorem read6 (c : Dev nD) (t : Fin cfg0.N) (f : Fin 512) (k : Fin 1024) :
    (iblk m c 6 t : FVec Ideal S1x512x1024 .bf16) (ix3 0 f k) = (m ((c : Thread nD τ).loc main_arg6) : FVec Ideal S16x512x1024 .f32) (ix3 (expert t) f k) := by
  unfold expert
  blk_point [iblk, idx t]

theorem read7 (c : Dev nD) (t : Fin cfg0.N) (k : Fin 1024) :
    (iblk m c 7 t : FVec Ideal S1x1024 .f32) (ix2 0 k) = (m ((c : Thread nD τ).loc main_arg7) : FVec Ideal S1024 .f32) (ix1 k) := by
  blk_point [iblk, idx t]

theorem read8 (c : Dev nD) (t : Fin cfg0.N) (k l : Fin 1024) :
    (iblk m c 8 t : FVec Ideal S1024x1024 .bf16) (ix2 k l) = (m ((c : Thread nD τ).loc main_arg8) : FVec Ideal S1024x1024 .f32) (ix2 k l) := by
  blk_point [iblk, idx t]

theorem read9 (c : Dev nD) (t : Fin cfg0.N) (k : Fin 1024) :
    (iblk m c 9 t : FVec Ideal S1x1024 .f32) (ix2 0 k) = (m ((c : Thread nD τ).loc main_arg9) : FVec Ideal S1024 .f32) (ix1 k) := by
  blk_point [iblk, idx t]

theorem read10 (c : Dev nD) (t : Fin cfg0.N) (k : Fin 256) (l : Fin 1024) :
    (iblk m c 10 t : FVec Ideal S256x1024 .bf16) (ix2 k l) = (m ((c : Thread nD τ).loc main_arg10) : FVec Ideal S256x1024 .f32) (ix2 k l) := by
  blk_point [iblk, idx t]

/-- Argument 0, at its own type. -/
abbrev arg0 (c : Dev nD) : FVec Ideal S512x1024 .bf16 := m ((c : Thread nD τ).loc main_arg0)

/-- Argument 1, at its own type. -/
abbrev arg1 (c : Dev nD) : FVec Ideal S512x128 .f32 := m ((c : Thread nD τ).loc main_arg1)

/-- Argument 2, at its own type. -/
abbrev arg2 (c : Dev nD) : FVec Ideal S512x1024 .f32 := m ((c : Thread nD τ).loc main_arg2)

/-- Argument 3, at its own type. -/
abbrev arg3 (c : Dev nD) : FVec Ideal S512x256 .f32 := m ((c : Thread nD τ).loc main_arg3)

/-- Argument 4, at its own type. -/
abbrev arg4 (c : Dev nD) : FVec Ideal S16x1024x512 .f32 := m ((c : Thread nD τ).loc main_arg4)

/-- Argument 5, at its own type. -/
abbrev arg5 (c : Dev nD) : FVec Ideal S16x1024x512 .f32 := m ((c : Thread nD τ).loc main_arg5)

/-- Argument 6, at its own type. -/
abbrev arg6 (c : Dev nD) : FVec Ideal S16x512x1024 .f32 := m ((c : Thread nD τ).loc main_arg6)

/-- Argument 7, at its own type. -/
abbrev arg7 (c : Dev nD) : FVec Ideal S1024 .f32 := m ((c : Thread nD τ).loc main_arg7)

/-- Argument 8, at its own type. -/
abbrev arg8 (c : Dev nD) : FVec Ideal S1024x1024 .f32 := m ((c : Thread nD τ).loc main_arg8)

/-- Argument 9, at its own type. -/
abbrev arg9 (c : Dev nD) : FVec Ideal S1024 .f32 := m ((c : Thread nD τ).loc main_arg9)

/-- Argument 10, at its own type. -/
abbrev arg10 (c : Dev nD) : FVec Ideal S256x1024 .f32 := m ((c : Thread nD τ).loc main_arg10)

/-- The residual's block at a point. -/
abbrev blk2 (c : Dev nD) (t : Fin cfg0.N) : FVec Ideal S512x1024 .f32 := iblk m c 2 t

/-- The accumulator after a point. -/
abbrev acc (c : Dev nD) (t : Fin cfg0.N) : FVec Ideal S512x1024 .f32 := (outsAt0 m c t.val t.isLt).2

/-- A point's part over the arrays: one expert's weighted share of a row. -/
theorem part_eq (c : Dev nD) (t : Fin cfg0.N) (e : Fin 16) (he : expert t = e) (a : Fin 512) (b : Fin 1024) :
    part m c t (ix2 a b) = arg1 m c (ix2 (row t a) ⟨e.val + 4, by omega⟩)
      * ∑ f : Fin 512, MoeOwn.hidden (fun k => arg0 m c (ix2 (row t a) k))
            (fun k => arg5 m c (ix3 e k f))
            (fun k => arg4 m c (ix3 e k f))
          * arg6 m c (ix3 e f b) := by
  subst he
  have hc : (grid0.coords t 1).val = t.val % 16 := (idx t).2.2.2.2.2.2.2.2.2.2.2.2
  have h1 : ∀ f : Fin 512, k0_pay7 (F := Ideal) (iblk m c 0 t) (iblk m c 4 t) (iblk m c 5 t) (ix2 a f)
      = MoeOwn.hidden (fun k => arg0 m c (ix2 (row t a) k))
            (fun k => arg5 m c (ix3 (expert t) k f))
            (fun k => arg4 m c (ix3 (expert t) k f)) := fun f =>
    (pay7_apply _ _ _ a f).trans (by
      congr 1
      · exact funext fun k => read0 m c t a k
      · exact funext fun k => read4 m c t k f
      · exact funext fun k => read5 m c t k f)
  have h2 : ∀ f : Fin 512, k0_pay8 (F := Ideal) (iblk m c 6 t) (ix2 f b)
      = arg6 m c (ix3 (expert t) f b) := fun f =>
    (pay8_apply _ f b).trans (read6 m c t f b)
  have h3 : k0_pay6 (F := Ideal) (grid0.coords t) (iblk m c 1 t) (ix2 a 0)
      = arg1 m c (ix2 (row t a) ⟨(expert t).val + 4, by omega⟩) :=
    (pay6_apply _ _ a 0).trans ((read1 m c t a _).trans (congrArg _ (congrArg (ix2 (row t a)) (Fin.ext (congrArg (· + 4) hc)))))
  show k0_pay6 (F := Ideal) (grid0.coords t) (iblk m c 1 t) (ix2 a 0)
    * ∑ k : Fin 512, k0_pay7 (F := Ideal) (iblk m c 0 t) (iblk m c 4 t) (iblk m c 5 t) (ix2 a k)
        * k0_pay8 (F := Ideal) (iblk m c 6 t) (ix2 k b) = _
  exact congrArg₂ (· * ·) h3 (Finset.sum_congr rfl fun f _ => congrArg₂ (· * ·) (h1 f) (h2 f))

/-- The reference's rows before the gated embedding, over the kernel's own arguments. -/
abbrev xRef (c : Dev nD) : FVec Ideal S512x1024 .f32 :=
  MoeSRefIdeal.Own.resVec (arg1 m c) (arg2 m c) (arg6 m c)
    (MoeSRefIdeal.Own.hidVec (arg0 m c) (arg4 m c) (arg5 m c))

/-- At the last expert the residual plus the accumulator is the reference's row. -/
theorem x_eq (c : Dev nD) (t : Fin cfg0.N) (ht : t.val % 16 = 15) (a : Fin 512) (k : Fin 1024) :
    blk2 m c t (ix2 a k) + acc m c t (ix2 a k) = xRef m c (ix2 (row t a) k) := by
  refine Eq.trans ?_ (MoeSRefIdeal.Own.resVec_apply _ _ _ _ (row t a) k).symm
  refine congrArg₂ (· + ·) (read2 m c t a k) ((acc_sum m c t ht (ix2 a k)).trans (Finset.sum_congr rfl fun s _ => ?_))
  have hr : row ⟨16 * (t.val / 16) + s.val, Pipeline.run_point_lt_of_flush t ht s⟩ a = row t a := Fin.ext (by
    show (16 * (t.val / 16) + s.val) / 16 * 512 + a.val = t.val / 16 * 512 + a.val
    omega)
  have he : expert ⟨16 * (t.val / 16) + s.val, Pipeline.run_point_lt_of_flush t ht s⟩ = s := Fin.ext (by
    show (16 * (t.val / 16) + s.val) % 16 = s.val
    omega)
  rw [part_eq m c _ s he, hr]
  exact congrArg _ (Finset.sum_congr rfl fun f _ => congrArg (· * _) (MoeSRefIdeal.Own.hidVec_apply _ _ _ (row t a) s f).symm)

/-- The kernel's result array is the reference's term over the kernel's arguments. -/
theorem final (c : Dev nD) : Value.G11 (F := Ideal) m c
    = MoeSRefIdeal.Own.pleVec (xRef m c) (arg3 m c) (arg7 m c)
        (arg8 m c) (arg9 m c) (arg10 m c) := by
  rw [← Value.final11]
  refine (dats m 0 c).arrAt_eq_of_covers 11 _ (by decide +kernel) fun t hf y => ?_
  have ht : t.val % 16 = 15 := (flush0_11 t).mp hf
  blk_simp
  rw [after0_11, out_last m c t ht]
  obtain ⟨a, b, rfl⟩ : ∃ (a : Fin 512) (b : Fin 1024), y = ix2 a b := ⟨y 0, y 1, eq_ix2 y⟩
  have hemb : ((cfg0.win 11).blk t).view.emb (ix2 a b) = ix2 (row t a) b := by
    unfold row
    blk_ext [idx t]
  rw [hemb]
  refine (pay4_apply _ _ _ _ _ _ _ a b).trans (Eq.trans ?_ (MoeSRefIdeal.Own.pleVec_apply _ _ _ _ _ _ (row t a) b).symm)
  congr 1
  · exact funext fun k => x_eq m c t ht a k
  · exact funext fun k => read7 m c t k
  · exact funext fun k => read8 m c t k b
  · exact read9 m c t b
  · exact Finset.sum_congr rfl fun k _ => congrArg₂ (· * ·) (read3 m c t a k) (read10 m c t k b)

end Cert.MoeSIdeal.Own

end
-- ==== Proof.MergeS.Same.lean ====
/- A block of the sample's merge and routing holds what a block of the prompt's holds: the bodies are the same. -/
module

public import proofs.«01_k».proof.Proof.Gen.MergeSIdeal.Frame
public import proofs.«01_k».proof.Proof.Merge.Block

@[expose] public section

set_option maxRecDepth 16384

noncomputable section

namespace Cert.MergeSIdeal.Own

open Idealize.ShloMosaic Idealize.ShloMosaic.TcCoe Idealize.SL.Sem
open Cert.MergeSIdeal Cert.MergeSIdeal.Gen

variable (x0 : FVec Ideal S512x1024 .f32) (x1 x2 : FVec Ideal S512x512 .bf16) (x3 x4 x5 x6 : FVec Ideal S512x1024 .bf16)
  (x7 : FVec Ideal S1024x1024 .bf16) (x8 : FVec Ideal S1x1024 .f32) (x9 x10 : FVec Ideal S1024x128 .bf16) (x11 : FVec Ideal S1x128 .f32)

theorem out12_same : out0_12 (F := Ideal) x0 x1 x2 x3 x4 x5 x6 x7 x8 x9 x10 x11
    = MergeIdeal.Gen.out0_12 (F := Ideal) x0 x1 x2 x3 x4 x5 x6 x7 x8 x9 x10 x11 := rfl

theorem out13_same : out0_13 (F := Ideal) x0 x1 x2 x3 x4 x5 x6 x7 x8 x9 x10 x11
    = MergeIdeal.Gen.out0_13 (F := Ideal) x0 x1 x2 x3 x4 x5 x6 x7 x8 x9 x10 x11 := rfl

theorem out14_same : out0_14 (F := Ideal) x0 x1 x2 x3 x4 x5 x6 x7 x8 x9 x10 x11
    = MergeIdeal.Gen.out0_14 (F := Ideal) x0 x1 x2 x3 x4 x5 x6 x7 x8 x9 x10 x11 := rfl

end Cert.MergeSIdeal.Own

end
-- ==== Proof.MergeS.Reads.lean ====
/- What the merge-and-route kernel's windows read, from the arguments that the host hands on or only casts. -/
module

public import proofs.«01_k».proof.Proof.Gen.MergeSIdeal.Value
public import proofs.«01_k».proof.Proof.MergeS.Same

@[expose] public section

set_option maxRecDepth 16384

noncomputable section

namespace Cert.MergeSIdeal.Own

open Idealize.ShloMosaic Idealize.ShloMosaic.TcCoe Idealize.SL.Sem
open Idealize.ShloMosaic.Pipeline (Dat)
open Cert.MergeSIdeal Cert.MergeSIdeal.Gen Cert.RouteOwn

variable (m : (ℓ : Loc nD τ sig) → Buf (Elt Ideal) ℓ)

/-- Where each window's block lies at a grid point: the row tiles move, the weights stay. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] :=
  (by decide +kernel : ∀ t : Fin grid0.N, _)

/-- The row of the arrays that a tile's row stands for. -/
def row (t : Fin cfg0.N) (a : Fin 512) : Fin 512 := ⟨t.val * 512 + a.val, by have := lt_of_lt_of_eq t.isLt N_0; omega⟩

/-- Argument 0, at its own type. -/
abbrev arg0 (c : Dev nD) : FVec Ideal S512x1024 .f32 := m ((c : Thread nD τ).loc main_arg0)

/-- Argument 1, at its own type. -/
abbrev arg1 (c : Dev nD) : FVec Ideal S512x512 .bf16 := m ((c : Thread nD τ).loc main_arg1)

/-- Argument 2, at its own type. -/
abbrev arg2 (c : Dev nD) : FVec Ideal S512x512 .bf16 := m ((c : Thread nD τ).loc main_arg2)

/-- Argument 3, at its own type. -/
abbrev arg3 (c : Dev nD) : FVec Ideal S512x1024 .bf16 := m ((c : Thread nD τ).loc main_arg3)

/-- Argument 4, at its own type. -/
abbrev arg4 (c : Dev nD) : FVec Ideal S512x1024 .bf16 := m ((c : Thread nD τ).loc main_arg4)

/-- Argument 5, at its own type. -/
abbrev arg5 (c : Dev nD) : FVec Ideal S512x1024 .f32 := m ((c : Thread nD τ).loc main_arg5)

/-- Argument 6, at its own type. -/
abbrev arg6 (c : Dev nD) : FVec Ideal S512x1024 .f32 := m ((c : Thread nD τ).loc main_arg6)

/-- Argument 7, at its own type. -/
abbrev arg7 (c : Dev nD) : FVec Ideal S1024x1024 .f32 := m ((c : Thread nD τ).loc main_arg7)

/-- Argument 8, at its own type. -/
abbrev arg8 (c : Dev nD) : FVec Ideal S1024 .f32 := m ((c : Thread nD τ).loc main_arg8)

/-- Argument 9, at its own type. -/
abbrev arg9 (c : Dev nD) : FVec Ideal S1024x4 .f32 := m ((c : Thread nD τ).loc main_arg9)

/-- Argument 10, at its own type. -/
abbrev arg10 (c : Dev nD) : FVec Ideal S4 .f32 := m ((c : Thread nD τ).loc main_arg10)

/-- Argument 11, at its own type. -/
abbrev arg11 (c : Dev nD) : FVec Ideal S1024x16 .f32 := m ((c : Thread nD τ).loc main_arg11)

/-- Argument 12, at its own type. -/
abbrev arg12 (c : Dev nD) : FVec Ideal S16 .f32 := m ((c : Thread nD τ).loc main_arg12)

variable (c : Dev nD) (t : Fin cfg0.N)

theorem read0 (a : Fin 512) (k : Fin 1024) : (iblk m c 0 t : FVec Ideal S512x1024 .f32) (ix2 a k) = arg0 m c (ix2 (row t a) k) := by
  unfold row
  blk_ext [iblk, V_main_arg0, idx t]

theorem read1 (a : Fin 512) (k : Fin 512) : (iblk m c 1 t : FVec Ideal S512x512 .bf16) (ix2 a k) = arg1 m c (ix2 (row t a) k) := by
  unfold row
  blk_ext [iblk, V_main_arg1, idx t]

theorem read2 (a : Fin 512) (k : Fin 512) : (iblk m c 2 t : FVec Ideal S512x512 .bf16) (ix2 a k) = arg2 m c (ix2 (row t a) k) := by
  unfold row
  blk_ext [iblk, V_main_arg2, idx t]

theorem read3 (a : Fin 512) (k : Fin 1024) : (iblk m c 3 t : FVec Ideal S512x1024 .bf16) (ix2 a k) = arg3 m c (ix2 (row t a) k) := by
  unfold row
  blk_ext [iblk, V_main_arg3, idx t]

theorem read4 (a : Fin 512) (k : Fin 1024) : (iblk m c 4 t : FVec Ideal S512x1024 .bf16) (ix2 a k) = arg4 m c (ix2 (row t a) k) := by
  unfold row
  blk_ext [iblk, V_main_arg4, idx t]

theorem read5 (j : Fin 512) (k : Fin 1024) : (iblk m c 5 t : FVec Ideal S512x1024 .bf16) (ix2 j k) = arg5 m c (ix2 j k) := by
  blk_point [iblk, idx t]

theorem read6 (j : Fin 512) (k : Fin 1024) : (iblk m c 6 t : FVec Ideal S512x1024 .bf16) (ix2 j k) = arg6 m c (ix2 j k) := by
  blk_point [iblk, idx t]

theorem read7 (k l : Fin 1024) : (iblk m c 7 t : FVec Ideal S1024x1024 .bf16) (ix2 k l) = arg7 m c (ix2 k l) := by
  blk_point [iblk, idx t]

theorem read8 (k : Fin 1024) : (iblk m c 8 t : FVec Ideal S1x1024 .f32) (ix2 0 k) = arg8 m c (ix1 k) := by
  blk_point [iblk, idx t]

end Cert.MergeSIdeal.Own

end
-- ==== Proof.MergeS.Host.lean ====
/- The router's weights as the host lays them out: both matrices side by side, padded to a whole tile. -/
module

public import proofs.«01_k».proof.Proof.MergeS.Reads

@[expose] public section

set_option maxRecDepth 16384

noncomputable section

namespace Cert.MergeSIdeal.Own

open Idealize.ShloMosaic Idealize.ShloMosaic.TcCoe Idealize.SL.Sem
open Cert.MergeSIdeal Cert.MergeSIdeal.Gen Cert.RouteOwn

/-- The groups' weights, the experts' weights and zeros, side by side. -/
def catW (A : FVec Ideal S1024x4 .f32) (B : FVec Ideal S1024x16 .f32) : FVec Ideal S1024x128 .f32 :=
  concatenate S1024x128 1 [⟨S1024x4, A⟩, ⟨S1024x16, B⟩, ⟨S1024x108, broadcastInDim S1024x108 ![] bcast_S_S1024x108 (constant (F := Ideal) S_ .f32 0x00000000#32)⟩]
    concatenates_S1024x4_S1024x16_S1024x108_S1024x128_d1

/-- The groups' biases, the experts' biases and zeros, one after the other. -/
def catB (A : FVec Ideal S4 .f32) (B : FVec Ideal S16 .f32) : FVec Ideal S128 .f32 :=
  concatenate S128 0 [⟨S4, A⟩, ⟨S16, B⟩, ⟨S108, broadcastInDim S108 ![] bcast_S_S108 (constant (F := Ideal) S_ .f32 0x00000000#32)⟩]
    concatenates_S4_S16_S108_S128_d0

theorem catW_group (A : FVec Ideal S1024x4 .f32) (B : FVec Ideal S1024x16 .f32) (k : Fin 1024) (n : Fin 4) :
    catW A B (ix2 k ⟨n.val, by omega⟩) = A (ix2 k n) := by
  pointwise [catW]

theorem catW_expert (A : FVec Ideal S1024x4 .f32) (B : FVec Ideal S1024x16 .f32) (k : Fin 1024) (n : Fin 16) :
    catW A B (ix2 k ⟨4 + n.val, by omega⟩) = B (ix2 k n) := by
  pointwise [catW]

theorem catB_group (A : FVec Ideal S4 .f32) (B : FVec Ideal S16 .f32) (n : Fin 4) :
    catB A B (ix1 ⟨n.val, by omega⟩) = A (ix1 n) := by
  pointwise [catB]

theorem catB_expert (A : FVec Ideal S4 .f32) (B : FVec Ideal S16 .f32) (n : Fin 16) :
    catB A B (ix1 ⟨4 + n.val, by omega⟩) = B (ix1 n) := by
  pointwise [catB]

theorem catW_real (A : FVec Ideal S1024x4 .f32) (B : FVec Ideal S1024x16 .f32) (hA : ∀ i, IsReal (A i)) (hB : ∀ i, IsReal (B i))
    (k : Fin 1024) (l : Fin 128) : IsReal (catW A B (ix2 k l)) := by
  pointwise [catW]
  split
  · exact hA _
  · split
    · exact hB _
    · exact ⟨0, rfl⟩

variable (m : (ℓ : Loc nD τ sig) → Buf (Elt Ideal) ℓ) (c : Dev nD) (t : Fin cfg0.N)

/-- The host array, as a term over the arguments. -/
theorem V_w : (V m c main_v1 : FVec Ideal S1024x128 .f32) = catW (arg9 m c) (arg11 m c) := by
  show StableHlo.after hostOps0 _ (Proc.devRef .tc main_v1) = _
  after_results
  rfl

/-- The host array, as a term over the arguments. -/
theorem V_hi : (V m c main_v2 : FVec Ideal S1024x128 .bf16) = truncf .bf16 (catW (arg9 m c) (arg11 m c)) bitsLt_bf16_f32 := by
  show StableHlo.after hostOps0 _ (Proc.devRef .tc main_v2) = _
  after_results
  rfl

/-- The host array, as a term over the arguments. -/
theorem V_lo : (V m c main_v5 : FVec Ideal S1024x128 .bf16) = truncf .bf16 (subf (catW (arg9 m c) (arg11 m c))
    (extf .f32 (truncf .bf16 (catW (arg9 m c) (arg11 m c)) bitsLt_bf16_f32) bitsLt_bf16_f32)) bitsLt_bf16_f32 := by
  show StableHlo.after hostOps0 _ (Proc.devRef .tc main_v5) = _
  after_results
  rfl

/-- The host array, as a term over the arguments. -/
theorem V_b : (V m c main_v8 : FVec Ideal S1x128 .f32) = shapeCast S1x128 (catB (arg10 m c) (arg12 m c)) shapeCasts_S128_S1x128 := by
  show StableHlo.after hostOps0 _ (Proc.devRef .tc main_v8) = _
  after_results
  rfl

theorem at9 (k : Fin 1024) (l : Fin 128) :
    (iblk m c 9 t : FVec Ideal S1024x128 .bf16) (ix2 k l) = (V m c main_v2 : FVec Ideal S1024x128 .bf16) (ix2 k l) := by
  blk_ext [iblk, idx t]

theorem at10 (k : Fin 1024) (l : Fin 128) :
    (iblk m c 10 t : FVec Ideal S1024x128 .bf16) (ix2 k l) = (V m c main_v5 : FVec Ideal S1024x128 .bf16) (ix2 k l) := by
  blk_ext [iblk, idx t]

theorem at11 (z : Fin 1) (l : Fin 128) :
    (iblk m c 11 t : FVec Ideal S1x128 .f32) (ix2 z l) = (V m c main_v8 : FVec Ideal S1x128 .f32) (ix2 z l) := by
  blk_ext [iblk, idx t]

end Cert.MergeSIdeal.Own

end
-- ==== Proof.MergeS.RefTerms.lean ====
/- The terms at which the reference of the merge and the routing ends, in stages. -/
module

public import proofs.«01_k».proof.Proof.Gen.MergeSRefIdeal.Run
public import proofs.«01_k».proof.Proof.Merge.Spec

@[expose] public section

set_option maxRecDepth 16384

noncomputable section

namespace Cert.MergeSRefIdeal.Own

open Idealize.ShloMosaic Idealize.ShloMosaic.TcCoe Idealize.ShloMosaic.StableHlo Idealize.SL.Sem
open Cert.MergeSRefIdeal Cert.MergeSRefIdeal.Gen

/-- The residual plus the two branches, as the reference writes it. -/
def x1Vec (A0 : FVec Ideal S512x1024 .f32) (A1 A2 : FVec Ideal S512x512 .bf16) (A3 A4 : FVec Ideal S512x1024 .bf16) (A5 A6 : FVec Ideal S512x1024 .f32) (A7 : FVec Ideal S1024x1024 .f32) : FVec Ideal S512x1024 .f32 :=
  addf A0 (Host.dotGeneral dot_S512x1024_S1024x1024_S512x1024_1_0_0_1_n_n none (addf (mulf (extf .f32 A3 bitsLt_bf16_f32) (Host.dotGeneral dot_S512x512_S512x1024_S512x1024_1_0_0_1_n_n none (extf .f32 A1 bitsLt_bf16_f32) A5)) (mulf (extf .f32 A4 bitsLt_bf16_f32) (Host.dotGeneral dot_S512x512_S512x1024_S512x1024_1_0_0_1_n_n none (extf .f32 A2 bitsLt_bf16_f32) A6))) A7)

/-- The normalised rows. -/
def tVec (X : FVec Ideal S512x1024 .f32) (A8 : FVec Ideal S1024 .f32) : FVec Ideal S512x1024 .f32 :=
  mulf (mulf X (broadcastInDim S512x1024 ![0, 1] bcast_S512x1_S512x1024_0_1 (Host.rsqrt (addf (Host.divf (broadcastInDim S512x1 ![0] bcast_S512_S512x1_0 (Host.reduceAdd (mulf X X) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 A8))

/-- The groups' scores. -/
def gVec (T : FVec Ideal S512x1024 .f32) (A9 : FVec Ideal S1024x4 .f32) (A10 : FVec Ideal S4 .f32) : FVec Ideal S512x4 .f32 :=
  addf (Host.dotGeneral dot_S512x1024_S1024x4_S512x4_1_0_0_1_n_n none T A9) (broadcastInDim S512x4 ![0, 1] bcast_S1x4_S512x4_0_1 (broadcastInDim S1x4 ![1] bcast_S4_S1x4_1 A10))

/-- The exponentials of the groups' scores, less the greatest. -/
def exVec (G : FVec Ideal S512x4 .f32) : FVec Ideal S512x4 .f32 :=
  Host.exp (subf G (broadcastInDim S512x4 ![0, 1] bcast_S512x1_S512x4_0_1 (broadcastInDim S512x1 ![0] bcast_S512_S512x1_0 (maximumf (broadcastInDim S512 ![] bcast_S_S512 (constant S_ .f32 0xFF800000#32)) (Host.reduce FloatOps.maximumf G (constant S_ .f32 0xFF800000#32) reducesTo_S512x4_S512_d1 h_S_)))))

/-- The chosen groups. -/
def ixVec (G : FVec Ideal S512x4 .f32) : IVec S512x1 32 :=
  (Host.topK S512x1 1 (FloatOps.cmpfTotal .gt) G sliceFits_S512x4_S512x1).2

/-- The groups' softmax, from the exponentials. -/
def nrVec (P : FVec Ideal S512x4 .f32) : FVec Ideal S512x4 .f32 :=
  Host.divf P (broadcastInDim S512x4 ![0, 1] bcast_S512x1_S512x4_0_1 (broadcastInDim S512x1 ![0] bcast_S512_S512x1_0 (Host.reduceAdd P (constant S_ .f32 0x00000000#32) reducesTo_S512x4_S512_d1 h_S_)))

/-- The chosen groups, as index words of the first gather. -/
def w0Vec (I : IVec S512x1 32) : IVec S512x1x1 32 :=
  shapeCast _ (select (cmpi .slt I (broadcastInDim S512x1 ![] bcast_S_S512x1 (constantI S_ 32 0#32))) (addi I (broadcastInDim S512x1 ![] bcast_S_S512x1 (constantI S_ 32 4#32))) I) shapeCasts_S512x1_S512x1x1

/-- The chosen groups' weights. -/
def gwVec (W : IVec S512x1x1 32) (P : FVec Ideal S512x4 .f32) : FVec Ideal S512x1 .f32 :=
  select (Host.reduce IntOp.andi (andi (cmpi .sge W (broadcastInDim S512x1x1 ![] bcast_S_S512x1x1 (constantI S_ 32 0#32))) (cmpi .sle W (broadcastInDim S512x1x1 ![0, 1, 2] bcast_S1x1x1_S512x1x1_0_1_2 (broadcastInDim S1x1x1 ![2] bcast_S1_S1x1x1_2 (constantI S1 32 3#32))))) (constantI S_ 1 1#1) reducesTo_S512x1x1_S512x1_d2 h_S_) (Host.gather gather_S512x4_S512x1x1_S512x1_n_1_0_0_1_2_11 P W) (broadcastInDim S512x1 ![] bcast_S_S512x1 (constant S_ .f32 0x7FC00000#32))

/-- The chosen groups, as index words of the second gather. -/
def w1Vec (I : IVec S512x1 32) : IVec S512x1x4x1 32 :=
  shapeCast _ (select (cmpi .slt (broadcastInDim S512x1x4 ![0, 1, 2] bcast_S512x1x1_S512x1x4_0_1_2 (broadcastInDim S512x1x1 ![0, 1] bcast_S512x1_S512x1x1_0_1 I)) (broadcastInDim S512x1x4 ![] bcast_S_S512x1x4 (constantI S_ 32 0#32))) (addi (broadcastInDim S512x1x4 ![0, 1, 2] bcast_S512x1x1_S512x1x4_0_1_2 (broadcastInDim S512x1x1 ![0, 1] bcast_S512x1_S512x1x1_0_1 I)) (broadcastInDim S512x1x4 ![] bcast_S_S512x1x4 (constantI S_ 32 4#32))) (broadcastInDim S512x1x4 ![0, 1, 2] bcast_S512x1x1_S512x1x4_0_1_2 (broadcastInDim S512x1x1 ![0, 1] bcast_S512x1_S512x1x1_0_1 I))) shapeCasts_S512x1x4_S512x1x4x1

/-- The experts' scores by group. -/
def eVec (T : FVec Ideal S512x1024 .f32) (A11 : FVec Ideal S1024x16 .f32) (A12 : FVec Ideal S16 .f32) : FVec Ideal S512x4x4 .f32 :=
  shapeCast _ (addf (Host.dotGeneral dot_S512x1024_S1024x16_S512x16_1_0_0_1_n_n none T A11) (broadcastInDim S512x16 ![0, 1] bcast_S1x16_S512x16_0_1 (broadcastInDim S1x16 ![1] bcast_S16_S1x16_1 A12))) shapeCasts_S512x16_S512x4x4

/-- The scores of the chosen group's experts. -/
def memVec (W : IVec S512x1x4x1 32) (E : FVec Ideal S512x4x4 .f32) : FVec Ideal S512x4 .f32 :=
  shapeCast _ (select (Host.reduce IntOp.andi (andi (cmpi .sge W (broadcastInDim S512x1x4x1 ![] bcast_S_S512x1x4x1 (constantI S_ 32 0#32))) (cmpi .sle W (broadcastInDim S512x1x4x1 ![0, 1, 2, 3] bcast_S1x1x1x1_S512x1x4x1_0_1_2_3 (broadcastInDim S1x1x1x1 ![3] bcast_S1_S1x1x1x1_3 (constantI S1 32 3#32))))) (constantI S_ 1 1#1) reducesTo_S512x1x4x1_S512x1x4_d3 h_S_) (Host.gather gather_S512x4x4_S512x1x4x1_S512x1x4_n_1_02_02_1_3_111 E W) (broadcastInDim S512x1x4 ![] bcast_S_S512x1x4 (constant S_ .f32 0x7FC00000#32))) shapeCasts_S512x1x4_S512x4

/-- The two best scores. -/
def valVec (M : FVec Ideal S512x4 .f32) : FVec Ideal S512x2 .f32 :=
  (Host.topK S512x2 1 (FloatOps.cmpfTotal .gt) M sliceFits_S512x4_S512x2).1

/-- The two best experts in their group. -/
def ix2Vec (M : FVec Ideal S512x4 .f32) : IVec S512x2 32 :=
  (Host.topK S512x2 1 (FloatOps.cmpfTotal .gt) M sliceFits_S512x4_S512x2).2

/-- The exponentials of the two best scores, less the greatest. -/
def e2Vec (V : FVec Ideal S512x2 .f32) : FVec Ideal S512x2 .f32 :=
  Host.exp (subf V (broadcastInDim S512x2 ![0, 1] bcast_S512x1_S512x2_0_1 (broadcastInDim S512x1 ![0] bcast_S512_S512x1_0 (maximumf (broadcastInDim S512 ![] bcast_S_S512 (constant S_ .f32 0xFF800000#32)) (Host.reduce FloatOps.maximumf V (constant S_ .f32 0xFF800000#32) reducesTo_S512x2_S512_d1 h_S_)))))

/-- The two experts' weights. -/
def twVec (P : FVec Ideal S512x2 .f32) (Q : FVec Ideal S512x1 .f32) : FVec Ideal S512x2 .f32 :=
  mulf (Host.divf P (broadcastInDim S512x2 ![0, 1] bcast_S512x1_S512x2_0_1 (broadcastInDim S512x1 ![0] bcast_S512_S512x1_0 (Host.reduceAdd P (constant S_ .f32 0x00000000#32) reducesTo_S512x2_S512_d1 h_S_)))) (broadcastInDim S512x2 ![0, 1] bcast_S512x1_S512x2_0_1 Q)

/-- The two experts' numbers. -/
def idVec (I : IVec S512x1 32) (J : IVec S512x2 32) : IVec S512x2 32 :=
  addi (broadcastInDim S512x2 ![0, 1] bcast_S512x1_S512x2_0_1 (muli I (broadcastInDim S512x1 ![] bcast_S_S512x1 (constantI S_ 32 4#32)))) J

/-- The weights in the sixteen experts' places. -/
def hotVec (D : IVec S512x2 32) (U : FVec Ideal S512x2 .f32) : FVec Ideal S512x16 .f32 :=
  Host.reduceAdd (mulf (uitofp .f32 (cmpi .eq (broadcastInDim S512x2x16 ![0, 1, 2] bcast_S512x2x1_S512x2x16_0_1_2 (broadcastInDim S512x2x1 ![0, 1] bcast_S512x2_S512x2x1_0_1 D)) (broadcastInDim S512x2x16 ![0, 1, 2] bcast_S1x1x16_S512x2x16_0_1_2 (iotaInDim S1x1x16 32 2)))) (broadcastInDim S512x2x16 ![0, 1, 2] bcast_S512x2x1_S512x2x16_0_1_2 (broadcastInDim S512x2x1 ![0, 1] bcast_S512x2_S512x2x1_0_1 U))) (constant S_ .f32 0x00000000#32) reducesTo_S512x2x16_S512x16_d1 h_S_

/-- The gate, in the lanes of a row. -/
def padVec (H : FVec Ideal S512x16 .f32) : FVec Ideal S512x128 .f32 :=
  pad S512x128 ![0, 4] ![0, 108] ![0, 0] H (sitofp .f32 (constantI S_ 32 0#32)) pads_S512x16_S512x128_000_41080 h_S_

/-- The gate of the reference from its normalised rows and the weights. -/
def gateVec (T : FVec Ideal S512x1024 .f32) (A9 : FVec Ideal S1024x4 .f32) (A10 : FVec Ideal S4 .f32) (A11 : FVec Ideal S1024x16 .f32)
    (A12 : FVec Ideal S16 .f32) : FVec Ideal S512x128 .f32 :=
  padVec (hotVec (idVec (ixVec (gVec T A9 A10)) (ix2Vec (memVec (w1Vec (ixVec (gVec T A9 A10))) (eVec T A11 A12))))
    (twVec (e2Vec (valVec (memVec (w1Vec (ixVec (gVec T A9 A10))) (eVec T A11 A12))))
      (gwVec (w0Vec (ixVec (gVec T A9 A10))) (nrVec (exVec (gVec T A9 A10))))))

variable (m : (ℓ : Loc nD τ sig) → Buf (Elt Ideal) ℓ) (c : Dev nD)

/-- The reference's first result. -/
theorem x1_eq : Value.res_main_v10 (F := Ideal) (launchContents m c)
    = x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_main_v10 x1Vec
  rfl

/-- The reference's normalised rows. -/
theorem t_eq : Value.res_main_v23 (F := Ideal) (launchContents m c)
    = tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := by
  unfold Value.res_main_v23
  rw [x1_eq]
  unfold tVec
  rfl

end Cert.MergeSRefIdeal.Own

end
-- ==== Proof.MergeS.Choose.lean ====
/- The reference's sorts and gathers at one row: the two places where it chooses. -/
module

public import proofs.«01_k».proof.Proof.MergeS.RefTerms

@[expose] public section

set_option maxRecDepth 16384

noncomputable section

namespace Cert.MergeSRefIdeal.Own

open Idealize.ShloMosaic Idealize.ShloMosaic.TcCoe Idealize.ShloMosaic.StableHlo Idealize.SL.Sem
open Cert.MergeSRefIdeal Cert.MergeSRefIdeal.Gen Cert.RouteOwn

/-- The order in which the sort of a row puts two positions. -/
def rowBefore {n : ℕ} (v : Fin n → EReal) (i j : Fin n) : Bool := Ideal.cmp .ogt (v i) (v j) == 1#1

theorem rowBefore_iff {n : ℕ} (v : Fin n → EReal) (i j : Fin n) : rowBefore v i j = true ↔ v j < v i := by
  unfold rowBefore Ideal.cmp
  by_cases h : v j < v i <;> simp [h]

/-- Of a row's greatest entries, the one in place `p`: its value and its position. -/
theorem topK_at {k : ℕ} (x : FVec Ideal S512x4 .f32) (h : S512x4.Slices (fun _ => 0) ⟨2, ![512, k]⟩) (r : Fin 512)
    (l : Fin k) (p : Fin 4) (hp : p.val = l.val) :
    (Host.topK ⟨2, ![512, k]⟩ 1 (FloatOps.cmpfTotal .gt) x h).1 (ix2 r l)
        = x (ix2 r (sortedFrom (rowBefore fun j => x (ix2 r j)) p))
      ∧ (Host.topK ⟨2, ![512, k]⟩ 1 (FloatOps.cmpfTotal .gt) x h).2 (ix2 r l)
        = BitVec.ofNat 32 (sortedFrom (rowBefore fun j => x (ix2 r j)) p).val := by
  have al : ∀ q c : Fin 4, Shape.Idx.along (s := S512x4) (ix2 r q) (1 : Fin 2) c = ix2 r c := fun q c => by
    funext a
    match a with
    | ⟨0, _⟩ => rfl
    | ⟨1, _⟩ => rfl
  have hJ : (fun a => ⟨0 + ((ix2 r l : (⟨2, ![512, k]⟩ : Shape).Idx) (a.cast h.1.symm)).val,
      Nat.lt_of_lt_of_le (Nat.add_lt_add_left ((ix2 r l : (⟨2, ![512, k]⟩ : Shape).Idx) _).isLt _) (h.2 a)⟩ : S512x4.Idx) = ix2 r p := by
    funext a
    refine Fin.ext ?_
    match a with
    | ⟨0, _⟩ => exact Nat.zero_add _
    | ⟨1, _⟩ => exact (Nat.zero_add _).trans hp.symm
  have hs : sortedFrom (fun q q' : Fin 4 => (FloatOps.cmpfTotal (F := Ideal) (φ := FTy.f32) .gt
        (x (Shape.Idx.along (s := S512x4) (ix2 r p) (1 : Fin 2) q)) (x (Shape.Idx.along (s := S512x4) (ix2 r p) (1 : Fin 2) q'))) == 1#1) p
      = sortedFrom (rowBefore fun j => x (ix2 r j)) p := by
    simp only [al]
    rfl
  unfold Host.topK Host.sort2 extractStridedSlice
  dsimp only
  rw [hJ]
  constructor
  · refine Eq.trans ?_ (congrArg (fun c => x (ix2 r c)) hs)
    exact congrArg x (al p _)
  · rw [← hs]
    rfl

/-- The first gather reads the row's entry that the index word names. -/
theorem gather_one (x : FVec Ideal S512x4 .f32) (W : IVec S512x1x1 32) (r : Fin 512) (l : Fin 1) (s : Fin 4)
    (hW : W (ix3 r 0 0) = BitVec.ofNat 32 s.val) :
    Host.gather gather_S512x4_S512x1x1_S512x1_n_1_0_0_1_2_11 x W (ix2 r l) = x (ix2 r s) := by
  unfold Host.gather
  congr 1
  funext a
  refine Fin.ext ?_
  show gather_S512x4_S512x1x1_S512x1_n_1_0_0_1_2_11.start (ix2 r l) W a + gather_S512x4_S512x1x1_S512x1_n_1_0_0_1_2_11.batchCoord (ix2 r l) a
      + gather_S512x4_S512x1x1_S512x1_n_1_0_0_1_2_11.offCoord (ix2 r l) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S512x4_S512x1x1_S512x1_n_1_0_0_1_2_11.operandBatchingDims from List.mem_singleton.mpr rfl)]
    exact Nat.zero_add _
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S512x4_S512x1x1_S512x1_n_1_0_0_1_2_11.startIndexMap from List.mem_singleton.mpr rfl)]
    have hsi : gather_S512x4_S512x1x1_S512x1_n_1_0_0_1_2_11.siIdx (ix2 r l)
        ⟨List.idxOf (1 : Fin 2) gather_S512x4_S512x1x1_S512x1_n_1_0_0_1_2_11.startIndexMap,
          List.idxOf_lt_length_iff.2 (List.mem_singleton.mpr rfl)⟩ = ix3 r 0 0 := by
      funext b; refine Fin.ext ?_
      match b with
      | ⟨0, _⟩ => rfl
      | ⟨1, _⟩ => exact congrArg Fin.val (Subsingleton.elim l 0)
      | ⟨2, _⟩ => rfl
    rw [hsi, hW]
    exact (by decide +kernel : ∀ s : Fin 4, min (BitVec.ofNat 32 s.val).toInt.toNat 3 + 0 + 0 = s.val) s

/-- The second gather reads the group that the index word names. -/
theorem gather_two (x : FVec Ideal S512x4x4 .f32) (W : IVec S512x1x4x1 32) (r : Fin 512) (l : Fin 1) (j s : Fin 4)
    (hW : W (ix4 r 0 j 0) = BitVec.ofNat 32 s.val) :
    Host.gather gather_S512x4x4_S512x1x4x1_S512x1x4_n_1_02_02_1_3_111 x W (ix3 r l j) = x (ix3 r s j) := by
  unfold Host.gather
  congr 1
  funext a
  refine Fin.ext ?_
  show gather_S512x4x4_S512x1x4x1_S512x1x4_n_1_02_02_1_3_111.start (ix3 r l j) W a
      + gather_S512x4x4_S512x1x4x1_S512x1x4_n_1_02_02_1_3_111.batchCoord (ix3 r l j) a
      + gather_S512x4x4_S512x1x4x1_S512x1x4_n_1_02_02_1_3_111.offCoord (ix3 r l j) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (show (0 : Fin 3) ∈ ([0, 2] : List (Fin 3)) by decide),
      GatherDims.offCoord_eq_zero _ _ _ (fun h => ((GatherDims.mem_sKept _ _).mp h).2 (show (0 : Fin 3) ∈ ([0, 2] : List (Fin 3)) by decide))]
    unfold GatherDims.batchCoord
    rw [dif_pos (show (0 : Fin 3) ∈ gather_S512x4x4_S512x1x4x1_S512x1x4_n_1_02_02_1_3_111.operandBatchingDims by decide)]
    exact Nat.zero_add _
  · rw [GatherDims.batchCoord_eq_zero _ _ _ (fun h => absurd (show (1 : Fin 3) ∈ ([0, 2] : List (Fin 3)) from h) (by decide)),
      GatherDims.offCoord_eq_zero _ _ _ (fun h => ((GatherDims.mem_sKept _ _).mp h).1 (List.mem_singleton.mpr rfl))]
    unfold GatherDims.start
    rw [dif_pos (show (1 : Fin 3) ∈ gather_S512x4x4_S512x1x4x1_S512x1x4_n_1_02_02_1_3_111.startIndexMap from List.mem_singleton.mpr rfl)]
    have hsi : gather_S512x4x4_S512x1x4x1_S512x1x4_n_1_02_02_1_3_111.siIdx (ix3 r l j)
        ⟨List.idxOf (1 : Fin 3) gather_S512x4x4_S512x1x4x1_S512x1x4_n_1_02_02_1_3_111.startIndexMap,
          List.idxOf_lt_length_iff.2 (List.mem_singleton.mpr rfl)⟩ = ix4 r 0 j 0 := by
      funext b; refine Fin.ext ?_
      match b with
      | ⟨0, _⟩ => rfl
      | ⟨1, _⟩ => exact congrArg Fin.val (Subsingleton.elim l 0)
      | ⟨2, _⟩ => rfl
      | ⟨3, _⟩ => rfl
    rw [hsi, hW]
    exact (by decide +kernel : ∀ s : Fin 4, min (BitVec.ofNat 32 s.val).toInt.toNat 3 + 0 + 0 = s.val) s
  · rw [GatherDims.start_batching _ _ _ _ (show (2 : Fin 3) ∈ ([0, 2] : List (Fin 3)) by decide),
      GatherDims.offCoord_eq_zero _ _ _ (fun h => ((GatherDims.mem_sKept _ _).mp h).2 (show (2 : Fin 3) ∈ ([0, 2] : List (Fin 3)) by decide))]
    unfold GatherDims.batchCoord
    rw [dif_pos (show (2 : Fin 3) ∈ gather_S512x4x4_S512x1x4x1_S512x1x4_n_1_02_02_1_3_111.operandBatchingDims by decide)]
    exact Nat.zero_add _

/-- An index word of a group is in range: it is taken as it is. -/
theorem word_kept (s : Fin 4) : Scalar.select (IntOp.cmpi CmpIPredicate.slt (BitVec.ofNat 32 s.val) 0#32)
    (IntOp.addi (BitVec.ofNat 32 s.val) 4#32) (BitVec.ofNat 32 s.val) = BitVec.ofNat 32 s.val :=
  (by decide +kernel : ∀ s : Fin 4, Scalar.select (IntOp.cmpi CmpIPredicate.slt (BitVec.ofNat 32 s.val) 0#32)
    (IntOp.addi (BitVec.ofNat 32 s.val) 4#32) (BitVec.ofNat 32 s.val) = BitVec.ofNat 32 s.val) s

/-- And the range test holds. -/
theorem word_inside (f : Fin 1 → BitVec 32) (s : Fin 4) (h : f 0 = BitVec.ofNat 32 s.val) :
    Finset.fold IntOp.andi (1#1) (fun x => IntOp.andi (IntOp.cmpi CmpIPredicate.sge (f x) 0#32)
      (IntOp.cmpi CmpIPredicate.sle (f x) 3#32)) Finset.univ = 1#1 := by
  rw [Finset.univ_unique, Finset.fold_singleton]
  show IntOp.andi (IntOp.andi (IntOp.cmpi CmpIPredicate.sge (f 0) 0#32) (IntOp.cmpi CmpIPredicate.sle (f 0) 3#32)) 1#1 = _
  rw [h]
  exact (by decide +kernel : ∀ s : Fin 4, IntOp.andi (IntOp.andi (IntOp.cmpi CmpIPredicate.sge (BitVec.ofNat 32 s.val) 0#32)
    (IntOp.cmpi CmpIPredicate.sle (BitVec.ofNat 32 s.val) 3#32)) 1#1 = 1#1) s

end Cert.MergeSRefIdeal.Own

end
-- ==== Proof.MergeS.Ref.lean ====
/- The reference of the merge and the routing at one element. -/
module

public import proofs.«01_k».proof.Proof.MergeS.Choose

@[expose] public section

set_option maxRecDepth 16384

noncomputable section

namespace Cert.MergeSRefIdeal.Own

open Idealize.ShloMosaic Idealize.ShloMosaic.TcCoe Idealize.ShloMosaic.StableHlo Idealize.SL.Sem
open Cert.MergeSRefIdeal Cert.MergeSRefIdeal.Gen Cert.RouteOwn

/-- The reference's joined rows. -/
theorem x1Vec_apply (A0 : FVec Ideal S512x1024 .f32) (A1 A2 : FVec Ideal S512x512 .bf16) (A3 A4 : FVec Ideal S512x1024 .bf16)
    (A5 A6 : FVec Ideal S512x1024 .f32) (A7 : FVec Ideal S1024x1024 .f32) (r : Fin 512) (l : Fin 1024) :
    x1Vec A0 A1 A2 A3 A4 A5 A6 A7 (ix2 r l)
      = joined (fun k => A0 (ix2 r k)) (fun k => A3 (ix2 r k)) (fun k => A4 (ix2 r k)) (fun j => A1 (ix2 r j)) (fun j => A2 (ix2 r j))
          (fun j k => A5 (ix2 j k)) (fun j k => A6 (ix2 j k)) (fun k l => A7 (ix2 k l)) l := by
  pointwise [x1Vec]
  rfl

/-- The reference's normalised rows. -/
theorem tVec_apply (X : FVec Ideal S512x1024 .f32) (A8 : FVec Ideal S1024 .f32) (r : Fin 512) (l : Fin 1024) :
    tVec X A8 (ix2 r l) = MoeOwn.normed (fun k => X (ix2 r k)) (fun k => A8 (ix1 k)) l := by
  pointwise [tVec]
  rfl

/-- The groups' scores. -/
theorem gVec_apply (T : FVec Ideal S512x1024 .f32) (A9 : FVec Ideal S1024x4 .f32) (A10 : FVec Ideal S4 .f32) (r : Fin 512)
    (l : Fin 4) : gVec T A9 A10 (ix2 r l) = ∑ x, T (ix2 r x) * A9 (ix2 x l) + A10 (ix1 l) := by
  pointwise [gVec]

/-- The experts' scores. -/
theorem eVec_apply (T : FVec Ideal S512x1024 .f32) (A11 : FVec Ideal S1024x16 .f32) (A12 : FVec Ideal S16 .f32) (r : Fin 512)
    (s j : Fin 4) : eVec T A11 A12 (ix3 r s j)
      = members (fun k => ∑ x, T (ix2 r x) * A11 (ix2 x k) + A12 (ix1 k)) s j := by
  have hk : ∀ h, (⟨s.val * 4 + j.val, h⟩ : Fin 16) = ⟨4 * s.val + j.val, by omega⟩ := fun _ => Fin.ext (show s.val * 4 + j.val = 4 * s.val + j.val by omega)
  pointwise [eVec]
  unfold members
  simp only [hk]

theorem exp_zero' : Ideal.exp (0 : EReal) = 1 := by
  rw [← EReal.coe_zero]
  show ((Real.exp 0 : ℝ) : EReal) = 1
  rw [Real.exp_zero, EReal.coe_one]

theorem exp_real {x : EReal} (hx : IsReal x) : ∃ y : ℝ, 0 < y ∧ Ideal.exp x = (y : EReal) := by
  obtain ⟨a, rfl⟩ := hx
  exact ⟨Real.exp a, Real.exp_pos a, rfl⟩

theorem real_sub {x y : EReal} (hx : IsReal x) (hy : IsReal y) : IsReal (x - y) := by
  obtain ⟨a, rfl⟩ := hx
  obtain ⟨b, rfl⟩ := hy
  exact ⟨a - b, (EReal.coe_sub a b).symm⟩

/-- The softmax weight of the greatest group. -/
theorem nrVec_apply (G : FVec Ideal S512x4 .f32) (r : Fin 512) (s : Fin 4) (hs : IsTop (fun j => G (ix2 r j)) s)
    (hG : IsReal (G (ix2 r s))) : nrVec (exVec G) (ix2 r s) = share (fun j => G (ix2 r j)) s := by
  have hmax : Finset.univ.fold max (⊥ : EReal) (fun x : Fin 4 => G (ix2 r x)) = G (ix2 r s) := hs.fold_max
  have hex : ∀ j, exVec G (ix2 r j) = Ideal.exp (G (ix2 r j) - G (ix2 r s)) := fun j => by
    pointwise [exVec]
    rw [show (4286578688#32) = 0xFF800000#32 from rfl, lit_bot, max_eq_right bot_le]
    exact congrArg (fun y => Ideal.exp (G (ix2 r j) - y)) hmax
  pointwise [nrVec]
  unfold share
  simp only [hex]
  rw [fin_sub_self hG, exp_zero']

/-- The first choice: the greatest group. -/
theorem group_at (G : FVec Ideal S512x4 .f32) (r : Fin 512) :
    ∃ s, IsTop (fun j => G (ix2 r j)) s ∧ ixVec G (ix2 r 0) = BitVec.ofNat 32 s.val :=
  ⟨sortedFrom (rowBefore fun j => G (ix2 r j)) 0, isTop_sorted_zero _ _ (rowBefore_iff _),
    (topK_at G sliceFits_S512x4_S512x1 r (0 : Fin 1) 0 rfl).2⟩

/-- The second choice: the two greatest scores of a row. -/
theorem two_at (M : FVec Ideal S512x4 .f32) (r : Fin 512) (hM : ∀ j, M (ix2 r j) ≠ ⊥) :
    ∃ i j, IsTop (fun k => M (ix2 r k)) i ∧ j ≠ i ∧ IsTop (without (fun k => M (ix2 r k)) i) j
      ∧ ix2Vec M (ix2 r 0) = BitVec.ofNat 32 i.val ∧ ix2Vec M (ix2 r 1) = BitVec.ofNat 32 j.val
      ∧ valVec M (ix2 r 0) = M (ix2 r i) ∧ valVec M (ix2 r 1) = M (ix2 r j) := by
  have h1 := isTop_sorted_one (fun k => M (ix2 r k)) _ (rowBefore_iff _) hM
  have t0 := topK_at M sliceFits_S512x4_S512x2 r (0 : Fin 2) 0 rfl
  have t1 := topK_at M sliceFits_S512x4_S512x2 r (1 : Fin 2) 1 rfl
  exact ⟨_, _, isTop_sorted_zero _ _ (rowBefore_iff _), h1.1, h1.2, t0.2, t1.2, t0.1, t1.1⟩

/-- The chosen group's weight. -/
theorem gwVec_apply (I : IVec S512x1 32) (P : FVec Ideal S512x4 .f32) (r : Fin 512) (l : Fin 1) (s : Fin 4)
    (hI : I (ix2 r 0) = BitVec.ofNat 32 s.val) : gwVec (w0Vec I) P (ix2 r l) = P (ix2 r s) := by
  have hw : ∀ x : Fin 1, w0Vec I (ix3 r 0 x) = BitVec.ofNat 32 s.val := fun x => by
    pointwise [w0Vec]
    rw [hI]
    exact word_kept s
  pointwise [gwVec]
  rw [word_inside (fun x => w0Vec I (ix3 r 0 x)) s (hw 0), gather_one P _ r l s (hw 0)]
  rfl

/-- The chosen group's scores. -/
theorem memVec_apply (I : IVec S512x1 32) (E : FVec Ideal S512x4x4 .f32) (r : Fin 512) (l s : Fin 4)
    (hI : I (ix2 r 0) = BitVec.ofNat 32 s.val) : memVec (w1Vec I) E (ix2 r l) = E (ix3 r s l) := by
  have hw : ∀ x : Fin 1, w1Vec I (ix4 r 0 l x) = BitVec.ofNat 32 s.val := fun x => by
    pointwise [w1Vec]
    rw [hI]
    exact word_kept s
  pointwise [memVec]
  rw [word_inside (fun x => w1Vec I (ix4 r 0 l x)) s (hw 0), gather_two E _ r 0 l s (hw 0)]
  rfl

/-- The two weights. -/
theorem twVec_apply (V : FVec Ideal S512x2 .f32) (Q : FVec Ideal S512x1 .f32) (r : Fin 512)
    (h0 : IsReal (V (ix2 r 0))) (h1 : IsReal (V (ix2 r 1))) (hle : V (ix2 r 1) ≤ V (ix2 r 0)) :
    twVec (e2Vec V) Q (ix2 r 0) = firstW (Q (ix2 r 0)) (V (ix2 r 0)) (V (ix2 r 1))
      ∧ twVec (e2Vec V) Q (ix2 r 1) = secondW (Q (ix2 r 0)) (V (ix2 r 0)) (V (ix2 r 1)) := by
  have hmax : Finset.univ.fold max (⊥ : EReal) (fun x : Fin 2 => V (ix2 r x)) = V (ix2 r 0) :=
    le_antisymm ((Finset.fold_max_le _).mpr ⟨bot_le, fun j _ => by
        rcases (by decide : ∀ j : Fin 2, j = 0 ∨ j = 1) j with rfl | rfl
        · exact le_rfl
        · exact hle⟩)
      ((Finset.le_fold_max _).mpr (.inr ⟨0, Finset.mem_univ _, le_rfl⟩))
  have hex : ∀ j, e2Vec V (ix2 r j) = Ideal.exp (V (ix2 r j) - V (ix2 r 0)) := fun j => by
    pointwise [e2Vec]
    rw [show (4286578688#32) = 0xFF800000#32 from rfl, lit_bot, max_eq_right bot_le]
    exact congrArg (fun y => Ideal.exp (V (ix2 r j) - y)) hmax
  obtain ⟨y, hy, he⟩ := exp_real (real_sub h1 h0)
  have hne : (1 : EReal) + (y : EReal) ≠ 0 := by
    rw [← EReal.coe_one, ← EReal.coe_add]
    exact fun h => (by positivity : (0 : ℝ) < 1 + y).ne' (EReal.coe_eq_zero.mp h)
  have tw : ∀ l, twVec (e2Vec V) Q (ix2 r l) = Ideal.div (e2Vec V (ix2 r l)) (∑ x, e2Vec V (ix2 r x)) * Q (ix2 r 0) := fun l => by
    pointwise [twVec]
  rw [tw, tw, Fin.sum_univ_two, hex, hex, fin_sub_self h0, exp_zero', he]
  unfold firstW secondW Ideal.div
  rw [he, if_neg hne, if_neg hne, if_neg hne, if_neg hne]
  constructor
  · rw [one_mul, mul_comm]
  · rw [mul_comm, mul_assoc]

/-- One position of a one-hot row times a weight. -/
theorem hot_one (k l : Fin 16) (w : BitVec 32) (hw : w = BitVec.ofNat 32 k.val) (u : EReal) :
    FloatOps.uitofp (F := Ideal) FTy.f32 (IntOp.cmpi CmpIPredicate.eq w (BitVec.ofNat 32 l.val)) * u = if l.val = k.val then u else 0 := by
  subst hw
  rw [(by decide +kernel : ∀ k l : Fin 16, IntOp.cmpi CmpIPredicate.eq (BitVec.ofNat 32 k.val) (BitVec.ofNat 32 l.val)
    = BitVec.ofBool (decide (l.val = k.val))) k l]
  by_cases h : l.val = k.val
  · rw [if_pos h, h]
    simp only [decide_true]
    show (((1 : ℕ) : ℝ) : EReal) * u = u
    rw [Nat.cast_one, EReal.coe_one, one_mul]
  · rw [if_neg h]
    simp only [h, decide_false]
    show (((0 : ℕ) : ℝ) : EReal) * u = 0
    rw [Nat.cast_zero, EReal.coe_zero, zero_mul]

/-- The number of an expert of a group, as the reference computes it. -/
theorem id_word (s i : Fin 4) : IntOp.addi (IntOp.muli (BitVec.ofNat 32 s.val) 4#32) (BitVec.ofNat 32 i.val)
    = BitVec.ofNat 32 (4 * s.val + i.val) :=
  (by decide +kernel : ∀ s i : Fin 4, IntOp.addi (IntOp.muli (BitVec.ofNat 32 s.val) 4#32) (BitVec.ofNat 32 i.val)
    = BitVec.ofNat 32 (4 * s.val + i.val)) s i

/-- The two weights in their experts' lanes, zeros elsewhere. -/
theorem placed_apply (I : IVec S512x1 32) (J : IVec S512x2 32) (U : FVec Ideal S512x2 .f32) (r : Fin 512) (l : Fin 128)
    (s i j : Fin 4) (hI : I (ix2 r 0) = BitVec.ofNat 32 s.val) (h0 : J (ix2 r 0) = BitVec.ofNat 32 i.val)
    (h1 : J (ix2 r 1) = BitVec.ofNat 32 j.val) : padVec (hotVec (idVec I J) U) (ix2 r l)
      = (if l.val = 4 + (4 * s.val + i.val) then U (ix2 r 0) else 0) + (if l.val = 4 + (4 * s.val + j.val) then U (ix2 r 1) else 0) := by
  have d0 : idVec I J (ix2 r 0) = BitVec.ofNat 32 (4 * s.val + i.val) := by
    pointwise [idVec]
    rw [hI, h0, id_word]
  have d1 : idVec I J (ix2 r 1) = BitVec.ofNat 32 (4 * s.val + j.val) := by
    pointwise [idVec]
    rw [hI, h1, id_word]
  have hot : ∀ k : Fin 16, hotVec (idVec I J) U (ix2 r k)
      = (if k.val = 4 * s.val + i.val then U (ix2 r 0) else 0) + (if k.val = 4 * s.val + j.val then U (ix2 r 1) else 0) := fun k => by
    pointwise [hotVec]
    rw [Fin.sum_univ_two, hot_one ⟨4 * s.val + i.val, by omega⟩ k _ d0, hot_one ⟨4 * s.val + j.val, by omega⟩ k _ d1]
  pointwise [padVec]
  by_cases h : 4 ≤ l.val ∧ l.val - 4 < 16
  · rw [dif_pos h, hot]
    exact congrArg₂ (· + ·) (if_congr (by show l.val - 4 = _ ↔ _; omega) rfl rfl) (if_congr (by show l.val - 4 = _ ↔ _; omega) rfl rfl)
  · rw [dif_neg h, if_neg (by omega), if_neg (by omega), add_zero]
    show (((0#32 : BitVec 32).toInt : ℝ) : EReal) = 0
    simp

/-- The reference's gate at a row of real scores: the first greatest group's share, over its two best experts. -/
theorem gateVec_apply (T : FVec Ideal S512x1024 .f32) (A9 : FVec Ideal S1024x4 .f32) (A10 : FVec Ideal S4 .f32)
    (A11 : FVec Ideal S1024x16 .f32) (A12 : FVec Ideal S16 .f32) (r : Fin 512) (g : Fin 4 → EReal) (e : Fin 16 → EReal)
    (hg : g = fun l => ∑ x, T (ix2 r x) * A9 (ix2 x l) + A10 (ix1 l)) (he : e = fun k => ∑ x, T (ix2 r x) * A11 (ix2 x k) + A12 (ix1 k))
    (rg : ∀ l, IsReal (g l)) (re : ∀ k, IsReal (e k)) :
    ∃ s i j, IsTop g s ∧ IsTop (members e s) i ∧ j ≠ i ∧ IsTop (without (members e s) i) j
      ∧ ∀ l, gateVec T A9 A10 A11 A12 (ix2 r l) = gateAt g e s i j l := by
  have hG : (fun l => gVec T A9 A10 (ix2 r l)) = g := by
    subst hg
    funext l
    exact gVec_apply T A9 A10 r l
  obtain ⟨s, hs, hI⟩ := group_at (gVec T A9 A10) r
  have hM : (fun l => memVec (w1Vec (ixVec (gVec T A9 A10))) (eVec T A11 A12) (ix2 r l)) = members e s := by
    subst he
    funext l
    exact (memVec_apply _ _ r l s hI).trans (eVec_apply T A11 A12 r s l)
  have hMl : ∀ l, memVec (w1Vec (ixVec (gVec T A9 A10))) (eVec T A11 A12) (ix2 r l) = members e s l := fun l => congrFun hM l
  obtain ⟨i, j, hi, hij, hj, i0, i1, v0, v1⟩ := two_at (memVec (w1Vec (ixVec (gVec T A9 A10))) (eVec T A11 A12)) r
    (fun l => by rw [hMl]; exact fin_ne_bot (re _))
  rw [hMl] at v0 v1
  rw [hM] at hi hj
  have hsh : nrVec (exVec (gVec T A9 A10)) (ix2 r s) = share g s := by
    rw [nrVec_apply _ r s hs (by rw [show gVec T A9 A10 (ix2 r s) = g s from congrFun hG s]; exact rg s), hG]
  obtain ⟨u0, u1⟩ := twVec_apply (valVec (memVec (w1Vec (ixVec (gVec T A9 A10))) (eVec T A11 A12)))
    (gwVec (w0Vec (ixVec (gVec T A9 A10))) (nrVec (exVec (gVec T A9 A10)))) r (by rw [v0]; exact re _) (by rw [v1]; exact re _)
    (by rw [v0, v1]; exact hi.le j)
  rw [v0, v1, gwVec_apply _ _ r 0 s hI, hsh] at u0 u1
  rw [hG] at hs
  refine ⟨s, i, j, hs, hi, hij, hj, fun l => ?_⟩
  unfold gateVec gateAt
  rw [placed_apply _ _ _ r l s i j hI i0 i1, u0, u1]

end Cert.MergeSRefIdeal.Own

end
-- ==== Proof.MergeS.Kernel.lean ====
/- The merge-and-route kernel's result arrays are the reference's terms over the kernel's arguments. -/
module

public import proofs.«01_k».proof.Proof.MergeS.Host
public import proofs.«01_k».proof.Proof.MergeS.Ref

@[expose] public section

set_option maxRecDepth 16384

noncomputable section

namespace Cert.MergeSIdeal.Own

open Idealize.ShloMosaic Idealize.ShloMosaic.TcCoe Idealize.SL.Sem
open Idealize.ShloMosaic.Pipeline (Dat)
open Cert.MergeSIdeal Cert.MergeSIdeal.Gen Cert.RouteOwn
open Cert.MergeIdeal.Own (bX pay2_apply out12_eq out13_apply out14_apply)

variable (m : (ℓ : Loc nD τ sig) → Buf (Elt Ideal) ℓ) (c : Dev nD) (t : Fin cfg0.N)

theorem read9g (k : Fin 1024) (n : Fin 4) :
    (iblk m c 9 t : FVec Ideal S1024x128 .bf16) (ix2 k ⟨n.val, by omega⟩) = arg9 m c (ix2 k n) :=
  (at9 m c t k _).trans ((congrFun (V_hi m c) _).trans (catW_group _ _ k n))

theorem read9e (k : Fin 1024) (n : Fin 16) :
    (iblk m c 9 t : FVec Ideal S1024x128 .bf16) (ix2 k ⟨4 + n.val, by omega⟩) = arg11 m c (ix2 k n) :=
  (at9 m c t k _).trans ((congrFun (V_hi m c) _).trans (catW_expert _ _ k n))

/-- The biases' row, before it is reshaped. -/
theorem read11 (l : Fin 128) : (iblk m c 11 t : FVec Ideal S1x128 .f32) (ix2 0 l) = catB (arg10 m c) (arg12 m c) (ix1 l) := by
  refine (at11 m c t 0 l).trans ((congrFun (V_b m c) _).trans ?_)
  generalize catB (arg10 m c) (arg12 m c) = B
  pointwise

theorem read11g (n : Fin 4) : (iblk m c 11 t : FVec Ideal S1x128 .f32) (ix2 0 ⟨n.val, by omega⟩) = arg10 m c (ix1 n) :=
  (read11 m c t _).trans (catB_group _ _ n)

theorem read11e (n : Fin 16) : (iblk m c 11 t : FVec Ideal S1x128 .f32) (ix2 0 ⟨4 + n.val, by omega⟩) = arg12 m c (ix1 n) :=
  (read11 m c t _).trans (catB_expert _ _ n)

/-- What the weights lose in the cast, which is nothing where they are real. -/
theorem read10 (h9 : ∀ i, IsReal (arg9 m c i)) (h11 : ∀ i, IsReal (arg11 m c i)) (k : Fin 1024) (l : Fin 128) :
    ((iblk m c 10 t : FVec Ideal S1024x128 .bf16) (ix2 k l) : EReal) = (0 : EReal) :=
  (at10 m c t k l).trans ((congrFun (V_lo m c) _).trans (fin_sub_self (catW_real _ _ h9 h11 k l)))

/-- The reference's joined rows, over the kernel's arguments. -/
abbrev xRef : FVec Ideal S512x1024 .f32 := MergeSRefIdeal.Own.x1Vec (arg0 m c) (arg1 m c) (arg2 m c) (arg3 m c) (arg4 m c) (arg5 m c) (arg6 m c) (arg7 m c)

/-- The reference's normalised rows, over the kernel's arguments. -/
abbrev tRef : FVec Ideal S512x1024 .f32 := MergeSRefIdeal.Own.tVec (xRef m c) (arg8 m c)

/-- The kernel's joined rows are the reference's. -/
theorem x_row (a : Fin 512) (k : Fin 1024) :
    bX (iblk m c 0 t) (iblk m c 1 t) (iblk m c 2 t) (iblk m c 3 t) (iblk m c 4 t) (iblk m c 5 t) (iblk m c 6 t) (iblk m c 7 t) (ix2 a k)
      = (xRef m c) (ix2 (row t a) k) := by
  refine (pay2_apply _ _ _ _ _ _ _ _ a k).trans (Eq.trans ?_ (MergeSRefIdeal.Own.x1Vec_apply _ _ _ _ _ _ _ _ (row t a) k).symm)
  congr 1
  · exact funext fun k => read0 m c t a k
  · exact funext fun k => read3 m c t a k
  · exact funext fun k => read4 m c t a k
  · exact funext fun k => read1 m c t a k
  · exact funext fun k => read2 m c t a k
  · exact funext fun j => funext fun k => read5 m c t j k
  · exact funext fun j => funext fun k => read6 m c t j k
  · exact funext fun j => funext fun k => read7 m c t j k

/-- The kernel's normalised rows are the reference's. -/
theorem t_row (a : Fin 512) (k : Fin 1024) :
    MoeOwn.normed (fun k => bX (iblk m c 0 t) (iblk m c 1 t) (iblk m c 2 t) (iblk m c 3 t) (iblk m c 4 t) (iblk m c 5 t) (iblk m c 6 t) (iblk m c 7 t) (ix2 a k))
      (fun k => (iblk m c 8 t : FVec Ideal S1x1024 .f32) (ix2 0 k)) k = (tRef m c) (ix2 (row t a) k) := by
  refine Eq.trans ?_ (MergeSRefIdeal.Own.tVec_apply _ _ (row t a) k).symm
  congr 1
  · exact funext fun k => x_row m c t a k
  · exact funext fun k => read8 m c t k

/-- The reference's normalised rows are real where the norm's weights are. -/
theorem t_real (h8 : ∀ i, IsReal (arg8 m c i)) (r : Fin 512) (k : Fin 1024) : IsReal (tRef m c (ix2 r k)) := by
  obtain ⟨v, hv⟩ := normed_fin (fun k => xRef m c (ix2 r k)) (fun k => arg8 m c (ix1 k)) k (h8 _)
  exact ⟨v, (MergeSRefIdeal.Own.tVec_apply _ _ r k).trans hv⟩

/-- The first result. -/
theorem final12 : (dats m 0 c).arrAt 12 cfg0.N = xRef m c := by
  refine (dats m 0 c).arrAt_eq_of_covers 12 _ (by decide +kernel) fun t hf y => ?_
  blk_simp
  rw [after0_12, out12_same, out12_eq]
  obtain ⟨a, b, rfl⟩ : ∃ (a : Fin 512) (b : Fin 1024), y = ix2 a b := ⟨y 0, y 1, eq_ix2 y⟩
  have hemb : ((cfg0.win 12).blk t).view.emb (ix2 a b) = ix2 (row t a) b := by
    unfold row
    blk_ext [idx t]
  rw [hemb]
  exact x_row m c t a b

/-- The second result. -/
theorem final13 : (dats m 0 c).arrAt 13 cfg0.N = truncf .bf16 (tRef m c) bitsLt_bf16_f32 := by
  refine (dats m 0 c).arrAt_eq_of_covers 13 _ (by decide +kernel) fun t hf y => ?_
  blk_simp
  rw [after0_13, out13_same]
  obtain ⟨a, b, rfl⟩ : ∃ (a : Fin 512) (b : Fin 1024), y = ix2 a b := ⟨y 0, y 1, eq_ix2 y⟩
  have hemb : ((cfg0.win 13).blk t).view.emb (ix2 a b) = ix2 (row t a) b := by
    unfold row
    blk_ext [idx t]
  rw [hemb]
  exact (out13_apply _ _ _ _ _ _ _ _ _ _ _ _ a b).trans (t_row m c t a b)

/-- The third result, where the norm's weights and the router's are real. -/
theorem final14 (h8 : ∀ i, IsReal (arg8 m c i)) (h9 : ∀ i, IsReal (arg9 m c i)) (h10 : ∀ i, IsReal (arg10 m c i))
    (h11 : ∀ i, IsReal (arg11 m c i)) (h12 : ∀ i, IsReal (arg12 m c i)) :
    (dats m 0 c).arrAt 14 cfg0.N = MergeSRefIdeal.Own.gateVec (tRef m c) (arg9 m c) (arg10 m c) (arg11 m c) (arg12 m c) := by
  refine (dats m 0 c).arrAt_eq_of_covers 14 _ (by decide +kernel) fun t hf y => ?_
  blk_simp
  rw [after0_14, out14_same]
  obtain ⟨a, b, rfl⟩ : ∃ (a : Fin 512) (b : Fin 128), y = ix2 a b := ⟨y 0, y 1, eq_ix2 y⟩
  have hemb : ((cfg0.win 14).blk t).view.emb (ix2 a b) = ix2 (row t a) b := by
    unfold row
    blk_ext [idx t]
  rw [hemb]
  have rg : ∀ l : Fin 4, IsReal (∑ x : Fin 1024, (tRef m c) (ix2 (row t a) x) * arg9 m c (ix2 x l) + arg10 m c (ix1 l)) := fun l =>
    fin_add (fin_sum _ _ fun x _ => fin_mul (t_real m c h8 _ x) (h9 _)) (h10 _)
  have re : ∀ l : Fin 16, IsReal (∑ x : Fin 1024, (tRef m c) (ix2 (row t a) x) * arg11 m c (ix2 x l) + arg12 m c (ix1 l)) := fun l =>
    fin_add (fin_sum _ _ fun x _ => fin_mul (t_real m c h8 _ x) (h11 _)) (h12 _)
  obtain ⟨s, i, j, hs, hi, hij, hj, hgate⟩ := MergeSRefIdeal.Own.gateVec_apply (tRef m c) (arg9 m c) (arg10 m c) (arg11 m c) (arg12 m c)
    (row t a) _ _ rfl rfl rg re
  refine (out14_apply _ _ _ _ _ _ _ _ _ _ _ _ a _ _ s i j (fun k => ?_) (fun k l => read10 m c t h9 h11 k l) (fun n => ?_)
    (fun n => ?_) rg re hs hi hij hj b).trans (hgate b).symm
  · rw [t_row]
    exact t_real m c h8 _ k
  · exact congrArg₂ (· + ·) (Finset.sum_congr rfl fun k _ => congrArg₂ (· * ·) (t_row m c t a k).symm (read9g m c t k n).symm)
      (read11g m c t n).symm
  · exact congrArg₂ (· + ·) (Finset.sum_congr rfl fun k _ => congrArg₂ (· * ·) (t_row m c t a k).symm (read9e m c t k n).symm)
      (read11e m c t n).symm

end Cert.MergeSIdeal.Own

end
-- ==== Proof.MergeS.GateTerm.lean ====
/- The gates that the reference returns, as the staged term. -/
module

public import proofs.«01_k».proof.Proof.MergeS.RefTerms

@[expose] public section

set_option maxRecDepth 16384

noncomputable section

namespace Cert.MergeSRefIdeal.Own

open Idealize.ShloMosaic Idealize.ShloMosaic.TcCoe Idealize.ShloMosaic.StableHlo Idealize.SL.Sem
open Cert.MergeSRefIdeal Cert.MergeSRefIdeal.Gen Cert.MergeSRefIdeal.Value

variable (m : (ℓ : Loc nD τ sig) → Buf (Elt Ideal) ℓ) (c : Dev nD)

/-- The groups' scores. -/
theorem g_eq : Value.res_main_v27 (F := Ideal) (launchContents m c)
    = (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))) := by
  unfold Value.res_main_v27
  rw [t_eq]
  unfold gVec
  rfl

/-- Their exponentials. -/
theorem ex_eq : Value.res_main_v34 (F := Ideal) (launchContents m c)
    = exVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))) := by
  unfold Value.res_main_v34
  rw [g_eq]
  unfold exVec
  rfl

/-- The chosen groups. -/
theorem ix_eq : Value.res_main_indices (F := Ideal) (launchContents m c)
    = ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))) := by
  unfold Value.res_main_indices
  rw [g_eq]
  unfold ixVec
  rfl

/-- The positions of the groups' shares. -/
theorem w0_eq : Value.res_main_call0_v5 (F := Ideal) (launchContents m c)
    = w0Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10)))) := by
  unfold Value.res_main_call0_v5
  rw [ix_eq]
  unfold w0Vec
  rfl

/-- The positions of the members' scores. -/
theorem w1_eq : Value.res_main_call1_v5 (F := Ideal) (launchContents m c)
    = w1Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10)))) := by
  unfold Value.res_main_call1_v5 Value.res_main_v46
  rw [ix_eq]
  unfold w1Vec
  rfl

/-- The members' scores. -/
theorem mem_eq : Value.res_main_v48 (F := Ideal) (launchContents m c)
    = memVec (w1Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))))) (eVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg11)) (m ((c.tc : Thread nD τ).loc main_arg12))) := by
  unfold Value.res_main_v48
  rw [w1_eq, t_eq]
  unfold memVec eVec
  rfl

/-- The two greatest of them. -/
theorem val_eq : Value.res_main_values_5 (F := Ideal) (launchContents m c)
    = valVec (memVec (w1Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))))) (eVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg11)) (m ((c.tc : Thread nD τ).loc main_arg12)))) := by
  unfold Value.res_main_values_5
  rw [mem_eq]
  unfold valVec
  rfl

/-- Their exponentials. -/
theorem e2_eq : Value.res_main_v55 (F := Ideal) (launchContents m c)
    = e2Vec (valVec (memVec (w1Vec (ixVec (gVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10))))) (eVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg11)) (m ((c.tc : Thread nD τ).loc main_arg12))))) := by
  unfold Value.res_main_v55
  rw [val_eq]
  unfold e2Vec
  rfl

/-- The reference's third result. -/
theorem gate_eq :
    (pad S512x128 ![0, 4] ![0, 108] ![0, 0] (Host.reduceAdd (mulf (uitofp .f32 (cmpi .eq (broadcastInDim S512x2x16 ![0, 1, 2] bcast_S512x2x1_S512x2x16_0_1_2 (broadcastInDim S512x2x1 ![0, 1] bcast_S512x2_S512x2x1_0_1 (addi (broadcastInDim S512x2 ![0, 1] bcast_S512x1_S512x2_0_1 (muli (res_main_indices (launchContents m c)) (broadcastInDim S512x1 ![] bcast_S_S512x1 (constantI S_ 32 4#32)))) ((Host.topK S512x2 1 (FloatOps.cmpfTotal .gt) (res_main_v48 (launchContents m c)) sliceFits_S512x4_S512x2).2)))) (broadcastInDim S512x2x16 ![0, 1, 2] bcast_S1x1x16_S512x2x16_0_1_2 (iotaInDim S1x1x16 32 2)))) (broadcastInDim S512x2x16 ![0, 1, 2] bcast_S512x2x1_S512x2x16_0_1_2 (broadcastInDim S512x2x1 ![0, 1] bcast_S512x2_S512x2x1_0_1 (mulf (Host.divf (res_main_v55 (launchContents m c)) (broadcastInDim S512x2 ![0, 1] bcast_S512x1_S512x2_0_1 (broadcastInDim S512x1 ![0] bcast_S512_S512x1_0 (Host.reduceAdd (res_main_v55 (launchContents m c)) (constant S_ .f32 0x00000000#32) reducesTo_S512x2_S512_d1 h_S_)))) (broadcastInDim S512x2 ![0, 1] bcast_S512x1_S512x2_0_1 (select (Host.reduce IntOp.andi (andi (cmpi .sge (res_main_call0_v5 (launchContents m c)) (broadcastInDim S512x1x1 ![] bcast_S_S512x1x1 (constantI S_ 32 0#32))) (cmpi .sle (res_main_call0_v5 (launchContents m c)) (broadcastInDim S512x1x1 ![0, 1, 2] bcast_S1x1x1_S512x1x1_0_1_2 (broadcastInDim S1x1x1 ![2] bcast_S1_S1x1x1_2 (constantI S1 32 3#32))))) (constantI S_ 1 1#1) reducesTo_S512x1x1_S512x1_d2 h_S_) (Host.gather gather_S512x4_S512x1x1_S512x1_n_1_0_0_1_2_11 (Host.divf (res_main_v34 (launchContents m c)) (broadcastInDim S512x4 ![0, 1] bcast_S512x1_S512x4_0_1 (broadcastInDim S512x1 ![0] bcast_S512_S512x1_0 (Host.reduceAdd (res_main_v34 (launchContents m c)) (constant S_ .f32 0x00000000#32) reducesTo_S512x4_S512_d1 h_S_)))) (res_main_call0_v5 (launchContents m c))) (broadcastInDim S512x1 ![] bcast_S_S512x1 (constant S_ .f32 0x7FC00000#32)))))))) (constant S_ .f32 0x00000000#32) reducesTo_S512x2x16_S512x16_d1 h_S_) (sitofp .f32 (constantI S_ 32 0#32)) pads_S512x16_S512x128_000_41080 h_S_)
    = gateVec (tVec (x1Vec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) := by
  rw [mem_eq, e2_eq, ix_eq, w0_eq, ex_eq]
  unfold gateVec padVec hotVec idVec twVec gwVec nrVec ix2Vec
  rfl

end Cert.MergeSRefIdeal.Own

end
-- ==== Proof.MergeS.Pre.lean ====
/- What the precondition says of the router's weights: every entry is a real number. -/
module

public import proofs.«01_k».proof.Defs
public import proofs.«01_k».proof.Proof.Gen.Pre_router_finite_sample
public import proofs.«01_k».proof.Proof.MergeS.Reads
public import proofs.«01_k».proof.Proof.Merge.Pre

@[expose] public section

set_option maxRecDepth 16384

noncomputable section

namespace Cert.MergeSIdeal.Own

open Idealize.ShloMosaic Idealize.ShloMosaic.TcCoe Idealize.SL.Sem
open Cert.MergeSIdeal Cert.MergeSIdeal.Gen Cert.RouteOwn

/-- The precondition, taken apart. -/
theorem pre_real (m : (ℓ : Loc nD τ sig) → Buf (Elt Ideal) ℓ) (h : Pre_MergeSIdeal_router_finite_sample m) (c : Dev nD) :
    (∀ i, IsReal (arg8 m c i)) ∧ (∀ i, IsReal (arg9 m c i)) ∧ (∀ i, IsReal (arg10 m c i)) ∧ (∀ i, IsReal (arg11 m c i))
      ∧ ∀ i, IsReal (arg12 m c i) := by
  have hall : ∀ j, Cert.Pre_router_finite_sample.fn (F := Ideal) (arg0 m c) (arg1 m c) (arg2 m c) (arg3 m c) (arg4 m c) (arg5 m c) (arg6 m c) (arg7 m c) (arg8 m c) (arg9 m c) (arg10 m c) (arg11 m c) (arg12 m c) j = 1#1 := fun j => congrFun (h c) j
  have e := hall ix0
  dsimp only [Cert.Pre_router_finite_sample.fn, Cert.Pre_router_finite_sample.fn_part1] at e
  obtain ⟨e, e12⟩ := MergeIdeal.Own.and_one _ _ e
  obtain ⟨e, e11⟩ := MergeIdeal.Own.and_one _ _ e
  obtain ⟨e, e10⟩ := MergeIdeal.Own.and_one _ _ e
  obtain ⟨e8, e9⟩ := MergeIdeal.Own.and_one _ _ e
  refine ⟨fun i => ?_, fun i => ?_, fun i => ?_, fun i => ?_, fun i => ?_⟩
  · exact MergeIdeal.Own.real_of_abs _ (Host.reduce_andi_all _ _ _ _ _ e8 i)
  · exact MergeIdeal.Own.real_of_abs _ (Host.reduce_andi_all _ _ _ _ _ e9 i)
  · exact MergeIdeal.Own.real_of_abs _ (Host.reduce_andi_all _ _ _ _ _ e10 i)
  · exact MergeIdeal.Own.real_of_abs _ (Host.reduce_andi_all _ _ _ _ _ e11 i)
  · exact MergeIdeal.Own.real_of_abs _ (Host.reduce_andi_all _ _ _ _ _ e12 i)

end Cert.MergeSIdeal.Own

end
-- ==== Proof.InprojS.Same.lean ====
/- A block of the sample's projections holds what a block of the prompt's holds: the bodies are the same. -/
module

public import proofs.«01_k».proof.Proof.Gen.InprojSIdeal.Frame
public import proofs.«01_k».proof.Proof.Inproj.Block

@[expose] public section

set_option maxRecDepth 16384

noncomputable section

namespace Cert.InprojSIdeal.Own

open Idealize.ShloMosaic Idealize.ShloMosaic.TcCoe Idealize.SL.Sem
open Cert.InprojSIdeal Cert.InprojSIdeal.Gen

variable (x0 : FVec Ideal S512x1024 .f32) (x1 : FVec Ideal S1x1024 .f32) (x2 : FVec Ideal S1024x4992 .bf16)
  (x3 : FVec Ideal S512x256 .f32) (x4 x5 : FVec Ideal S1x128 .f32) (x6 : FVec Ideal S128x128 .bf16)

theorem out7_same : out0_7 (F := Ideal) x0 x1 x2 x3 x4 x5 x6 = InprojIdeal.Gen.out0_7 (F := Ideal) x0 x1 x2 x3 x4 x5 x6 := rfl

theorem out8_same : out0_8 (F := Ideal) x0 x1 x2 x3 x4 x5 x6 = InprojIdeal.Gen.out0_8 (F := Ideal) x0 x1 x2 x3 x4 x5 x6 := rfl

theorem out9_same : out0_9 (F := Ideal) x0 x1 x2 x3 x4 x5 x6 = InprojIdeal.Gen.out0_9 (F := Ideal) x0 x1 x2 x3 x4 x5 x6 := rfl

theorem out10_same : out0_10 (F := Ideal) x0 x1 x2 x3 x4 x5 x6 = InprojIdeal.Gen.out0_10 (F := Ideal) x0 x1 x2 x3 x4 x5 x6 := rfl

theorem out11_same : out0_11 (F := Ideal) x0 x1 x2 x3 x4 x5 x6 = InprojIdeal.Gen.out0_11 (F := Ideal) x0 x1 x2 x3 x4 x5 x6 := rfl

theorem out12_same : out0_12 (F := Ideal) x0 x1 x2 x3 x4 x5 x6 = InprojIdeal.Gen.out0_12 (F := Ideal) x0 x1 x2 x3 x4 x5 x6 := rfl

theorem out13_same : out0_13 (F := Ideal) x0 x1 x2 x3 x4 x5 x6 = InprojIdeal.Gen.out0_13 (F := Ideal) x0 x1 x2 x3 x4 x5 x6 := rfl

theorem out14_same : out0_14 (F := Ideal) x0 x1 x2 x3 x4 x5 x6 = InprojIdeal.Gen.out0_14 (F := Ideal) x0 x1 x2 x3 x4 x5 x6 := rfl

theorem out15_same : out0_15 (F := Ideal) x0 x1 x2 x3 x4 x5 x6 = InprojIdeal.Gen.out0_15 (F := Ideal) x0 x1 x2 x3 x4 x5 x6 := rfl

theorem out16_same : out0_16 (F := Ideal) x0 x1 x2 x3 x4 x5 x6 = InprojIdeal.Gen.out0_16 (F := Ideal) x0 x1 x2 x3 x4 x5 x6 := rfl

theorem out17_same : out0_17 (F := Ideal) x0 x1 x2 x3 x4 x5 x6 = InprojIdeal.Gen.out0_17 (F := Ideal) x0 x1 x2 x3 x4 x5 x6 := rfl

theorem out18_same : out0_18 (F := Ideal) x0 x1 x2 x3 x4 x5 x6 = InprojIdeal.Gen.out0_18 (F := Ideal) x0 x1 x2 x3 x4 x5 x6 := rfl

/-- The constant matrix is the same. -/
theorem lit_same : lit0 = InprojIdeal.lit0 := rfl

end Cert.InprojSIdeal.Own

end
-- ==== Proof.InprojS.Reads.lean ====
/- What the projection kernel's windows read, from the arguments and from the arrays that the host lays out. -/
module

public import proofs.«01_k».proof.Proof.Gen.InprojSIdeal.Value
public import proofs.«01_k».proof.Proof.InprojS.Same
public import proofs.«01_k».proof.Proof.Inproj.Reads

@[expose] public section

set_option maxRecDepth 16384

noncomputable section

namespace Cert.InprojSIdeal.Own

open Idealize.ShloMosaic Idealize.ShloMosaic.TcCoe Idealize.SL.Sem
open Idealize.ShloMosaic.Pipeline (Dat)
open Cert.InprojSIdeal Cert.InprojSIdeal.Gen Cert.RouteOwn Cert.InprojOwn
open Cert.InprojIdeal.Own (catW twiceT twiceT_apply)

variable (m : (ℓ : Loc nD τ sig) → Buf (Elt Ideal) ℓ)

/-- Where each window's block lies at a grid point: the row tiles move, the angles and the weights stay. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] :=
  (by decide +kernel : ∀ t : Fin grid0.N, _)

/-- The row of the arrays that a tile's row stands for. -/
def row (t : Fin cfg0.N) (a : Fin 512) : Fin 512 := ⟨t.val * 512 + a.val, by have := lt_of_lt_of_eq t.isLt N_0; omega⟩

/-- The position in its batch of a tile's row. -/
def pos (a : Fin 512) : Fin 4 := ⟨a.val % 4, by omega⟩

/-- Argument 0, at its own type. -/
abbrev arg0 (c : Dev nD) : FVec Ideal S128x4x1024 .f32 := m ((c : Thread nD τ).loc main_arg0)

/-- Argument 1, at its own type. -/
abbrev arg1 (c : Dev nD) : FVec Ideal S1024 .f32 := m ((c : Thread nD τ).loc main_arg1)

/-- Argument 2, at its own type. -/
abbrev arg2 (c : Dev nD) : FVec Ideal S1024x4932 .f32 := m ((c : Thread nD τ).loc main_arg2)

/-- Argument 3, at its own type. -/
abbrev arg3 (c : Dev nD) : FVec Ideal S64 .f32 := m ((c : Thread nD τ).loc main_arg3)

/-- Argument 4, at its own type. -/
abbrev arg4 (c : Dev nD) : FVec Ideal S64 .f32 := m ((c : Thread nD τ).loc main_arg4)

/-- The angles, by position and by lane. -/
def angT : FVec Ideal S4x8 .f32 :=
  mulf (broadcastInDim S4x8 ![0, 1] bcast_S4x1_S4x8_0_1 (broadcastInDim S4x1 ![0] bcast_S4_S4x1_0 (addf (broadcastInDim S4 ![] bcast_S_S4 (constant (F := Ideal) S_ .f32 0x46000000#32)) (sitofp (F := Ideal) .f32 (iotaInDim S4 32 0))))) (broadcastInDim S4x8 ![0, 1] bcast_S1x8_S4x8_0_1 (broadcastInDim S1x8 ![1] bcast_S8_S1x8_1 (Host.powf (F := Ideal) (broadcastInDim S8 ![] bcast_S_S8 (constant (F := Ideal) S_ .f32 0x48F42400#32)) (Host.divf (F := Ideal) (Host.negf (F := Ideal) (sitofp (F := Ideal) .f32 (iotaInDim S8 32 0))) (broadcastInDim S8 ![] bcast_S_S8 (constant (F := Ideal) S_ .f32 0x41000000#32))))))

/-- The cosines of one head's lanes. -/
def cosT (C : FVec Ideal S4x8 .f32) : FVec Ideal S4x64 .f32 :=
  concatenate S4x64 1 [⟨S4x8, C⟩, ⟨S4x8, C⟩, ⟨S4x48, broadcastInDim S4x48 ![] bcast_S_S4x48 (constant (F := Ideal) S_ .f32 0x3F800000#32)⟩]
    concatenates_S4x8_S4x8_S4x48_S4x64_d1

/-- The signed sines of one head's lanes. -/
def sinT (S : FVec Ideal S4x8 .f32) : FVec Ideal S4x64 .f32 :=
  concatenate S4x64 1 [⟨S4x8, Host.negf (F := Ideal) S⟩, ⟨S4x8, S⟩, ⟨S4x48, broadcastInDim S4x48 ![] bcast_S_S4x48 (constant (F := Ideal) S_ .f32 0x00000000#32)⟩]
    concatenates_S4x8_S4x8_S4x48_S4x64_d1

/-- Both tables, each for two heads. -/
def tabT (C S : FVec Ideal S4x64 .f32) : FVec Ideal S4x256 .f32 :=
  concatenate S4x256 1 [⟨S4x64, C⟩, ⟨S4x64, C⟩, ⟨S4x64, S⟩, ⟨S4x64, S⟩]
    concatenates_S4x64_S4x64_S4x64_S4x64_S4x256_d1

theorem cosT_apply (C : FVec Ideal S4x8 .f32) (s : Fin 4) (d : Fin 64) : cosT C (ix2 s d) = cosLane (fun j => C (ix2 s j)) d := by
  unfold cosLane
  pointwise [cosT]
  by_cases h1 : d.val < 8
  · rw [dif_pos h1, dif_pos h1]
  · by_cases h2 : d.val < 16
    · rw [dif_neg h1, dif_pos (by omega), dif_neg h1, dif_pos h2]
    · rw [dif_neg h1, dif_neg (by omega), dif_neg h1, dif_neg h2]

theorem sinT_apply (S : FVec Ideal S4x8 .f32) (s : Fin 4) (d : Fin 64) : sinT S (ix2 s d) = sinLane (fun j => S (ix2 s j)) d := by
  unfold sinLane
  pointwise [sinT]
  by_cases h1 : d.val < 8
  · rw [dif_pos h1, dif_pos h1]
  · by_cases h2 : d.val < 16
    · rw [dif_neg h1, dif_pos (by omega), dif_neg h1, dif_pos h2]
    · rw [dif_neg h1, dif_neg (by omega), dif_neg h1, dif_neg h2]

theorem tabT_cos (C S : FVec Ideal S4x64 .f32) (s : Fin 4) (p : Fin 2) (d : Fin 64) :
    tabT C S (ix2 s ⟨(lane p d).val, by omega⟩) = C (ix2 s d) := by
  unfold lane
  fin_cases p
  · pointwise [tabT]
  · pointwise [tabT]

theorem tabT_sin (C S : FVec Ideal S4x64 .f32) (s : Fin 4) (p : Fin 2) (d : Fin 64) :
    tabT C S (ix2 s ⟨128 + (lane p d).val, by omega⟩) = S (ix2 s d) := by
  unfold lane
  fin_cases p
  · pointwise [tabT]
    rw [dif_neg (by omega), dif_neg (by omega), dif_pos (by omega)]
    exact congrArg S (congrArg (ix2 s) (Fin.ext (by show 128 + d.val - 64 - 64 = d.val; omega)))
  · pointwise [tabT]
    rw [dif_neg (by omega), dif_neg (by omega), dif_neg (by omega)]
    exact congrArg S (congrArg (ix2 s) (Fin.ext (by show 128 + (64 + d.val) - 64 - 64 - 64 = d.val; omega)))

/-- The tables repeated for the 128 batches. -/
def tileT (T : FVec Ideal S4x256 .f32) : FVec Ideal S512x256 .f32 :=
  shapeCast S512x256 (broadcastInDim S128x4x1x256 ![0, 1, 2, 3] bcast_S1x4x1x256_S128x4x1x256_0_1_2_3 (shapeCast S1x4x1x256 T shapeCasts_S4x256_S1x4x1x256)) shapeCasts_S128x4x1x256_S512x256

theorem tileT_apply (T : FVec Ideal S4x256 .f32) (a : Fin 512) (l : Fin 256) : tileT T (ix2 a l) = T (ix2 (pos a) l) := by
  unfold pos
  pointwise [tileT]

theorem xRow_apply (X : FVec Ideal S128x4x1024 .f32) (R : Fin 512) (k : Fin 1024) :
    shapeCast S512x1024 X shapeCasts_S128x4x1024_S512x1024 (ix2 R k) = X (ix3 ⟨R.val / 4, by omega⟩ ⟨R.val % 4, by omega⟩ k) := by
  pointwise

variable (c : Dev nD) (t : Fin cfg0.N)

theorem V_one (k l : Fin 128) : ((V m c main_cst : FVec Ideal S128x128 .bf16) (ix2 k l) : EReal) = (if k.val / 64 = l.val / 64 then (1 : EReal) else (0 : EReal)) := by
  have e : (V m c main_cst : FVec Ideal S128x128 .bf16) = (fun i => FloatOps.ofBits (F := Ideal) .bf16 (lit0 (S128x128.rowMajor i)) : FVec Ideal S128x128 .bf16) := by
    show StableHlo.after hostOps0 _ (Proc.devRef .tc main_cst) = _
    after_results
    rfl
  rw [congrFun e (ix2 k l), lit_same]
  refine Eq.trans (congrArg (FloatOps.ofBits (F := Ideal) .bf16) (InprojIdeal.Own.lit_apply k l)) ?_
  split_ifs
  · show Ideal.ofBits FTy.bf16 0x3F80#16 = 1
    simp [Ideal.ofBits, Ideal.ieee]
    rw [← EReal.coe_mul]
    norm_num
  · show Ideal.ofBits FTy.bf16 0#16 = 0
    simp [Ideal.ofBits, Ideal.ieee]

theorem V_w : (V m c main_v4 : FVec Ideal S1024x4992 .bf16) = truncf .bf16 (catW (arg2 m c)) bitsLt_bf16_f32 := by
  show StableHlo.after hostOps0 _ (Proc.devRef .tc main_v4) = _
  after_results
  rfl

theorem V_tab : (V m c main_v38 : FVec Ideal S512x256 .f32) = tileT (tabT (cosT (Host.cos (F := Ideal) angT)) (sinT (Host.sin (F := Ideal) angT))) := by
  show StableHlo.after hostOps0 _ (Proc.devRef .tc main_v38) = _
  after_results
  rfl

theorem V_q : (V m c main_v9 : FVec Ideal S1x128 .f32) = twiceT (arg3 m c) := by
  show StableHlo.after hostOps0 _ (Proc.devRef .tc main_v9) = _
  after_results
  rfl

theorem V_k : (V m c main_v13 : FVec Ideal S1x128 .f32) = twiceT (arg4 m c) := by
  show StableHlo.after hostOps0 _ (Proc.devRef .tc main_v13) = _
  after_results
  rfl

theorem V_x : (V m c main_v39 : FVec Ideal S512x1024 .f32) = shapeCast S512x1024 (arg0 m c) shapeCasts_S128x4x1024_S512x1024 := by
  show StableHlo.after hostOps0 _ (Proc.devRef .tc main_v39) = _
  after_results
  rfl

theorem V_g : (V m c main_v5 : FVec Ideal S1x1024 .f32) = shapeCast S1x1024 (arg1 m c) shapeCasts_S1024_S1x1024 := by
  show StableHlo.after hostOps0 _ (Proc.devRef .tc main_v5) = _
  after_results
  rfl

theorem at0 (a : Fin 512) (k : Fin 1024) :
    (iblk m c 0 t : FVec Ideal S512x1024 .f32) (ix2 a k) = (V m c main_v39 : FVec Ideal S512x1024 .f32) (ix2 (row t a) k) := by
  unfold row
  blk_ext [iblk, idx t]

theorem at1 (k : Fin 1024) :
    (iblk m c 1 t : FVec Ideal S1x1024 .f32) (ix2 0 k) = (V m c main_v5 : FVec Ideal S1x1024 .f32) (ix2 0 k) := by
  blk_ext [iblk, idx t]

theorem at2 (k : Fin 1024) (l : Fin 4992) :
    (iblk m c 2 t : FVec Ideal S1024x4992 .bf16) (ix2 k l) = (V m c main_v4 : FVec Ideal S1024x4992 .bf16) (ix2 k l) := by
  blk_ext [iblk, idx t]

theorem at3 (a : Fin 512) (l : Fin 256) :
    (iblk m c 3 t : FVec Ideal S512x256 .f32) (ix2 a l) = (V m c main_v38 : FVec Ideal S512x256 .f32) (ix2 a l) := by
  blk_ext [iblk, idx t]

theorem at4 (l : Fin 128) :
    (iblk m c 4 t : FVec Ideal S1x128 .f32) (ix2 0 l) = (V m c main_v9 : FVec Ideal S1x128 .f32) (ix2 0 l) := by
  blk_ext [iblk, idx t]

theorem at5 (l : Fin 128) :
    (iblk m c 5 t : FVec Ideal S1x128 .f32) (ix2 0 l) = (V m c main_v13 : FVec Ideal S1x128 .f32) (ix2 0 l) := by
  blk_ext [iblk, idx t]

theorem at6 (k l : Fin 128) :
    (iblk m c 6 t : FVec Ideal S128x128 .bf16) (ix2 k l) = (V m c main_cst : FVec Ideal S128x128 .bf16) (ix2 k l) := by
  blk_ext [iblk, idx t]

/-- Row `a` of a block of the inputs. -/
theorem read0 (a : Fin 512) (k : Fin 1024) :
    (iblk m c 0 t : FVec Ideal S512x1024 .f32) (ix2 a k)
      = arg0 m c (ix3 ⟨(row t a).val / 4, by omega⟩ ⟨(row t a).val % 4, by omega⟩ k) := by
  exact (at0 m c t a k).trans ((congrFun (V_x m c) _).trans (xRow_apply _ _ k))

theorem read1 (k : Fin 1024) : (iblk m c 1 t : FVec Ideal S1x1024 .f32) (ix2 0 k) = arg1 m c (ix1 k) := by
  refine (at1 m c t k).trans ((congrFun (V_g m c) _).trans ?_)
  generalize arg1 m c = X
  pointwise

theorem read2 (k : Fin 1024) (l : Fin 4992) : (iblk m c 2 t : FVec Ideal S1024x4992 .bf16) (ix2 k l) = catW (arg2 m c) (ix2 k l) :=
  (at2 m c t k l).trans (congrFun (V_w m c) _)

theorem read3c (a : Fin 512) (p : Fin 2) (d : Fin 64) :
    (iblk m c 3 t : FVec Ideal S512x256 .f32) (ix2 a ⟨(lane p d).val, by omega⟩)
      = cosLane (fun j => Host.cos (F := Ideal) angT (ix2 (pos a) j)) d :=
  (at3 m c t a _).trans ((congrFun (V_tab m c) _).trans ((tileT_apply _ _ _).trans ((tabT_cos _ _ _ p d).trans (cosT_apply _ _ d))))

theorem read3s (a : Fin 512) (p : Fin 2) (d : Fin 64) :
    (iblk m c 3 t : FVec Ideal S512x256 .f32) (ix2 a ⟨128 + (lane p d).val, by omega⟩)
      = sinLane (fun j => Host.sin (F := Ideal) angT (ix2 (pos a) j)) d :=
  (at3 m c t a _).trans ((congrFun (V_tab m c) _).trans ((tileT_apply _ _ _).trans ((tabT_sin _ _ _ p d).trans (sinT_apply _ _ d))))

theorem read4 (p : Fin 2) (d : Fin 64) : (iblk m c 4 t : FVec Ideal S1x128 .f32) (ix2 0 (lane p d)) = arg3 m c (ix1 d) :=
  (at4 m c t _).trans ((congrFun (V_q m c) _).trans (twiceT_apply _ p d))

theorem read5 (p : Fin 2) (d : Fin 64) : (iblk m c 5 t : FVec Ideal S1x128 .f32) (ix2 0 (lane p d)) = arg4 m c (ix1 d) :=
  (at5 m c t _).trans ((congrFun (V_k m c) _).trans (twiceT_apply _ p d))

theorem read6 (k l : Fin 128) : ((iblk m c 6 t : FVec Ideal S128x128 .bf16) (ix2 k l) : EReal) = (if k.val / 64 = l.val / 64 then (1 : EReal) else (0 : EReal)) :=
  (at6 m c t k l).trans (V_one m c k l)

end Cert.InprojSIdeal.Own

end
-- ==== Proof.InprojS.RefHead.lean ====
/- The projection reference's twelve results: as named functions of the arguments, and at one element. -/
module

public import proofs.«01_k».proof.InprojSRefIdeal
public import proofs.«01_k».proof.Proof.Gen.InprojSRefIdeal.Run
public import proofs.«01_k».proof.Proof.Inproj.Spec
public import Idealize.ShloMosaic.Lib.Pointwise

@[expose] public section

set_option maxRecDepth 16384

noncomputable section

namespace Cert.InprojSRefIdeal.Own

open Idealize.ShloMosaic Idealize.ShloMosaic.TcCoe Idealize.ShloMosaic.StableHlo Idealize.SL.Sem
open Cert.InprojSRefIdeal Cert.InprojSRefIdeal.Gen Cert.RouteOwn Cert.InprojOwn

/-- The batch of a row. -/
def bOf (R : Fin 512) : Fin 128 := ⟨R.val / 4, by omega⟩

/-- The position of a row in its batch. -/
def sOf (R : Fin 512) : Fin 4 := ⟨R.val % 4, by omega⟩

/-- The normalised rows' projections. -/
def zVec (x : FVec Ideal S128x4x1024 .f32) (g : FVec Ideal S1024 .f32) (w : FVec Ideal S1024x4932 .f32) : FVec Ideal S128x4x4932 .f32 :=
  Host.dotGeneral (F := Ideal) dot_S128x4x1024_S1024x4932_S128x4x4932_2_0_01_1_n_n none (mulf (mulf x (broadcastInDim S128x4x1024 ![0, 1, 2] bcast_S128x4x1_S128x4x1024_0_1_2 (Host.rsqrt (F := Ideal) (addf (Host.divf (F := Ideal) (broadcastInDim S128x4x1 ![0, 1] bcast_S128x4_S128x4x1_0_1 (Host.reduceAdd (F := Ideal) (mulf x x) (constant (F := Ideal) S_ .f32 0x00000000#32) reducesTo_S128x4x1024_S128x4_d2 h_S_)) (broadcastInDim S128x4x1 ![] bcast_S_S128x4x1 (constant (F := Ideal) S_ .f32 0x44800000#32))) (broadcastInDim S128x4x1 ![] bcast_S_S128x4x1 (constant (F := Ideal) S_ .f32 0x358637BD#32)))))) (broadcastInDim S128x4x1024 ![0, 1, 2] bcast_S1x1x1024_S128x4x1024_0_1_2 (broadcastInDim S1x1x1024 ![2] bcast_S1024_S1x1x1024_2 g))) w

/-- Column `l` of the projection of row `(b, s)`. -/
def zRow (x : FVec Ideal S128x4x1024 .f32) (g : FVec Ideal S1024 .f32) (w : FVec Ideal S1024x4932 .f32) (b : Fin 128) (s : Fin 4)
    (l : Fin 4932) : EReal :=
  proj (fun k => x (ix3 b s k)) (fun k => g (ix1 k)) (fun k => w (ix2 k l))

theorem zVec_apply (x : FVec Ideal S128x4x1024 .f32) (g : FVec Ideal S1024 .f32) (w : FVec Ideal S1024x4932 .f32) (b : Fin 128) (s : Fin 4)
    (l : Fin 4932) : zVec x g w (ix3 b s l) = zRow x g w b s l := by
  pointwise [zVec]
  rfl

/-- The angles of the rotary embedding, by position and by lane. -/
def angVec : FVec Ideal S4x8 .f32 :=
  mulf (broadcastInDim S4x8 ![0, 1] bcast_S4x1_S4x8_0_1 (broadcastInDim S4x1 ![0] bcast_S4_S4x1_0 (addf (broadcastInDim S4 ![] bcast_S_S4 (constant (F := Ideal) S_ .f32 0x46000000#32)) (sitofp (F := Ideal) .f32 (iotaInDim S4 32 0))))) (broadcastInDim S4x8 ![0, 1] bcast_S1x8_S4x8_0_1 (broadcastInDim S1x8 ![1] bcast_S8_S1x8_1 (Host.powf (F := Ideal) (broadcastInDim S8 ![] bcast_S_S8 (constant (F := Ideal) S_ .f32 0x48F42400#32)) (Host.divf (F := Ideal) (Host.negf (F := Ideal) (sitofp (F := Ideal) .f32 (iotaInDim S8 32 0))) (broadcastInDim S8 ![] bcast_S_S8 (constant (F := Ideal) S_ .f32 0x41000000#32))))))

/-- The angles' cosines. -/
def cosVec : FVec Ideal S4x8 .f32 := Host.cos (F := Ideal) angVec

/-- The angles' sines. -/
def sinVec : FVec Ideal S4x8 .f32 := Host.sin (F := Ideal) angVec

/-- The normalised heads, of the 8. -/
def norm8Vec (u : FVec Ideal S128x4x8x64 .f32) (g : FVec Ideal S64 .f32) : FVec Ideal S128x4x8x64 .f32 :=
  mulf (mulf u (broadcastInDim S128x4x8x64 ![0, 1, 2, 3] bcast_S128x4x8x1_S128x4x8x64_0_1_2_3 (Host.rsqrt (F := Ideal) (addf (Host.divf (F := Ideal) (broadcastInDim S128x4x8x1 ![0, 1, 2] bcast_S128x4x8_S128x4x8x1_0_1_2 (Host.reduceAdd (F := Ideal) (mulf u u) (constant (F := Ideal) S_ .f32 0x00000000#32) reducesTo_S128x4x8x64_S128x4x8_d3 h_S_)) (broadcastInDim S128x4x8x1 ![] bcast_S_S128x4x8x1 (constant (F := Ideal) S_ .f32 0x42800000#32))) (broadcastInDim S128x4x8x1 ![] bcast_S_S128x4x8x1 (constant (F := Ideal) S_ .f32 0x358637BD#32)))))) (broadcastInDim S128x4x8x64 ![0, 1, 2, 3] bcast_S1x1x1x64_S128x4x8x64_0_1_2_3 (broadcastInDim S1x1x1x64 ![3] bcast_S64_S1x1x1x64_3 g))

theorem norm8Vec_apply (u : FVec Ideal S128x4x8x64 .f32) (g : FVec Ideal S64 .f32) (b : Fin 128) (s : Fin 4) (h : Fin 8) (d : Fin 64) :
    norm8Vec u g (ix4 b s h d) = headNorm (fun e => u (ix4 b s h e)) (fun e => g (ix1 e)) d := by
  pointwise [norm8Vec]
  rfl

/-- The normalised heads, of the 2. -/
def norm2Vec (u : FVec Ideal S128x4x2x64 .f32) (g : FVec Ideal S64 .f32) : FVec Ideal S128x4x2x64 .f32 :=
  mulf (mulf u (broadcastInDim S128x4x2x64 ![0, 1, 2, 3] bcast_S128x4x2x1_S128x4x2x64_0_1_2_3 (Host.rsqrt (F := Ideal) (addf (Host.divf (F := Ideal) (broadcastInDim S128x4x2x1 ![0, 1, 2] bcast_S128x4x2_S128x4x2x1_0_1_2 (Host.reduceAdd (F := Ideal) (mulf u u) (constant (F := Ideal) S_ .f32 0x00000000#32) reducesTo_S128x4x2x64_S128x4x2_d3 h_S_)) (broadcastInDim S128x4x2x1 ![] bcast_S_S128x4x2x1 (constant (F := Ideal) S_ .f32 0x42800000#32))) (broadcastInDim S128x4x2x1 ![] bcast_S_S128x4x2x1 (constant (F := Ideal) S_ .f32 0x358637BD#32)))))) (broadcastInDim S128x4x2x64 ![0, 1, 2, 3] bcast_S1x1x1x64_S128x4x2x64_0_1_2_3 (broadcastInDim S1x1x1x64 ![3] bcast_S64_S1x1x1x64_3 g))

theorem norm2Vec_apply (u : FVec Ideal S128x4x2x64 .f32) (g : FVec Ideal S64 .f32) (b : Fin 128) (s : Fin 4) (h : Fin 2) (d : Fin 64) :
    norm2Vec u g (ix4 b s h d) = headNorm (fun e => u (ix4 b s h e)) (fun e => g (ix1 e)) d := by
  pointwise [norm2Vec]
  rfl

/-- The rotary embedding of the 8 heads, over the cosines and the sines. -/
def rope8Vec (u : FVec Ideal S128x4x8x64 .f32) (C S : FVec Ideal S4x8 .f32) : FVec Ideal S128x4x8x64 .f32 :=
  concatenate S128x4x8x64 3 [⟨S128x4x8x8, (subf (mulf (extractStridedSlice S128x4x8x8 ![0, 0, 0, 0] u slices_S128x4x8x64_S128x4x8x8_0_0_0_0) (broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 C)))) (mulf (extractStridedSlice S128x4x8x8 ![0, 0, 0, 8] u slices_S128x4x8x64_S128x4x8x8_0_0_0_8) (broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 S)))))⟩, ⟨S128x4x8x8, (addf (mulf (extractStridedSlice S128x4x8x8 ![0, 0, 0, 8] u slices_S128x4x8x64_S128x4x8x8_0_0_0_8) (broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 C)))) (mulf (extractStridedSlice S128x4x8x8 ![0, 0, 0, 0] u slices_S128x4x8x64_S128x4x8x8_0_0_0_0) (broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 S)))))⟩, ⟨S128x4x8x48, extractStridedSlice S128x4x8x48 ![0, 0, 0, 16] u slices_S128x4x8x64_S128x4x8x48_0_0_0_16⟩] concatenates_S128x4x8x8_S128x4x8x8_S128x4x8x48_S128x4x8x64_d3

theorem rope8Vec_apply (u : FVec Ideal S128x4x8x64 .f32) (C S : FVec Ideal S4x8 .f32) (b : Fin 128) (s : Fin 4) (h : Fin 8) (d : Fin 64) :
    rope8Vec u C S (ix4 b s h d) = rope (fun e => u (ix4 b s h e)) (fun j => C (ix2 s j)) (fun j => S (ix2 s j)) d := by
  unfold rope
  split_ifs with h1 h2
  · obtain ⟨j, hj⟩ : ∃ j : Fin 8, j.val = d.val := ⟨⟨d.val, h1⟩, rfl⟩
    obtain rfl : d = ⟨j.val, lt_of_lt_of_le j.isLt (by decide)⟩ := Fin.ext hj.symm
    pointwise [rope8Vec]
    simp only [Nat.add_comm]
  · obtain ⟨j, hj⟩ : ∃ j : Fin 8, 8 + j.val = d.val := ⟨⟨d.val - 8, by omega⟩, by show 8 + (d.val - 8) = d.val; omega⟩
    obtain rfl : d = ⟨8 + j.val, lt_of_lt_of_le (Nat.add_lt_add_left j.isLt 8) (by decide)⟩ := Fin.ext hj.symm
    pointwise [rope8Vec]
  · obtain ⟨j, hj⟩ : ∃ j : Fin 48, 16 + j.val = d.val := ⟨⟨d.val - 16, by omega⟩, by show 16 + (d.val - 16) = d.val; omega⟩
    obtain rfl : d = ⟨16 + j.val, lt_of_lt_of_le (Nat.add_lt_add_left j.isLt 16) (by decide)⟩ := Fin.ext hj.symm
    pointwise [rope8Vec]
    rw [dif_neg h1, dif_neg (by omega)]
    exact congrArg u (congrArg (ix4 b s h) (Fin.ext (by show 16 + (16 + j.val - 8 - 8) = 16 + j.val; omega)))

/-- The rotary embedding of the 2 heads, over the cosines and the sines. -/
def rope2Vec (u : FVec Ideal S128x4x2x64 .f32) (C S : FVec Ideal S4x8 .f32) : FVec Ideal S128x4x2x64 .f32 :=
  concatenate S128x4x2x64 3 [⟨S128x4x2x8, (subf (mulf (extractStridedSlice S128x4x2x8 ![0, 0, 0, 0] u slices_S128x4x2x64_S128x4x2x8_0_0_0_0) (broadcastInDim S128x4x2x8 ![0, 1, 2, 3] bcast_S1x4x1x8_S128x4x2x8_0_1_2_3 (broadcastInDim S1x4x1x8 ![1, 2, 3] bcast_S4x1x8_S1x4x1x8_1_2_3 (broadcastInDim S4x1x8 ![0, 2] bcast_S4x8_S4x1x8_0_2 C)))) (mulf (extractStridedSlice S128x4x2x8 ![0, 0, 0, 8] u slices_S128x4x2x64_S128x4x2x8_0_0_0_8) (broadcastInDim S128x4x2x8 ![0, 1, 2, 3] bcast_S1x4x1x8_S128x4x2x8_0_1_2_3 (broadcastInDim S1x4x1x8 ![1, 2, 3] bcast_S4x1x8_S1x4x1x8_1_2_3 (broadcastInDim S4x1x8 ![0, 2] bcast_S4x8_S4x1x8_0_2 S)))))⟩, ⟨S128x4x2x8, (addf (mulf (extractStridedSlice S128x4x2x8 ![0, 0, 0, 8] u slices_S128x4x2x64_S128x4x2x8_0_0_0_8) (broadcastInDim S128x4x2x8 ![0, 1, 2, 3] bcast_S1x4x1x8_S128x4x2x8_0_1_2_3 (broadcastInDim S1x4x1x8 ![1, 2, 3] bcast_S4x1x8_S1x4x1x8_1_2_3 (broadcastInDim S4x1x8 ![0, 2] bcast_S4x8_S4x1x8_0_2 C)))) (mulf (extractStridedSlice S128x4x2x8 ![0, 0, 0, 0] u slices_S128x4x2x64_S128x4x2x8_0_0_0_0) (broadcastInDim S128x4x2x8 ![0, 1, 2, 3] bcast_S1x4x1x8_S128x4x2x8_0_1_2_3 (broadcastInDim S1x4x1x8 ![1, 2, 3] bcast_S4x1x8_S1x4x1x8_1_2_3 (broadcastInDim S4x1x8 ![0, 2] bcast_S4x8_S4x1x8_0_2 S)))))⟩, ⟨S128x4x2x48, extractStridedSlice S128x4x2x48 ![0, 0, 0, 16] u slices_S128x4x2x64_S128x4x2x48_0_0_0_16⟩] concatenates_S128x4x2x8_S128x4x2x8_S128x4x2x48_S128x4x2x64_d3

theorem rope2Vec_apply (u : FVec Ideal S128x4x2x64 .f32) (C S : FVec Ideal S4x8 .f32) (b : Fin 128) (s : Fin 4) (h : Fin 2) (d : Fin 64) :
    rope2Vec u C S (ix4 b s h d) = rope (fun e => u (ix4 b s h e)) (fun j => C (ix2 s j)) (fun j => S (ix2 s j)) d := by
  unfold rope
  split_ifs with h1 h2
  · obtain ⟨j, hj⟩ : ∃ j : Fin 8, j.val = d.val := ⟨⟨d.val, h1⟩, rfl⟩
    obtain rfl : d = ⟨j.val, lt_of_lt_of_le j.isLt (by decide)⟩ := Fin.ext hj.symm
    pointwise [rope2Vec]
    simp only [Nat.add_comm]
  · obtain ⟨j, hj⟩ : ∃ j : Fin 8, 8 + j.val = d.val := ⟨⟨d.val - 8, by omega⟩, by show 8 + (d.val - 8) = d.val; omega⟩
    obtain rfl : d = ⟨8 + j.val, lt_of_lt_of_le (Nat.add_lt_add_left j.isLt 8) (by decide)⟩ := Fin.ext hj.symm
    pointwise [rope2Vec]
  · obtain ⟨j, hj⟩ : ∃ j : Fin 48, 16 + j.val = d.val := ⟨⟨d.val - 16, by omega⟩, by show 16 + (d.val - 16) = d.val; omega⟩
    obtain rfl : d = ⟨16 + j.val, lt_of_lt_of_le (Nat.add_lt_add_left j.isLt 16) (by decide)⟩ := Fin.ext hj.symm
    pointwise [rope2Vec]
    rw [dif_neg h1, dif_neg (by omega)]
    exact congrArg u (congrArg (ix4 b s h) (Fin.ext (by show 16 + (16 + j.val - 8 - 8) = 16 + j.val; omega)))

/-- The rotary embedding of the 4 heads, over the cosines and the sines. -/
def rope4Vec (u : FVec Ideal S128x4x4x64 .f32) (C S : FVec Ideal S4x8 .f32) : FVec Ideal S128x4x4x64 .f32 :=
  concatenate S128x4x4x64 3 [⟨S128x4x4x8, (subf (mulf (extractStridedSlice S128x4x4x8 ![0, 0, 0, 0] u slices_S128x4x4x64_S128x4x4x8_0_0_0_0) (broadcastInDim S128x4x4x8 ![0, 1, 2, 3] bcast_S1x4x1x8_S128x4x4x8_0_1_2_3 (broadcastInDim S1x4x1x8 ![1, 2, 3] bcast_S4x1x8_S1x4x1x8_1_2_3 (broadcastInDim S4x1x8 ![0, 2] bcast_S4x8_S4x1x8_0_2 C)))) (mulf (extractStridedSlice S128x4x4x8 ![0, 0, 0, 8] u slices_S128x4x4x64_S128x4x4x8_0_0_0_8) (broadcastInDim S128x4x4x8 ![0, 1, 2, 3] bcast_S1x4x1x8_S128x4x4x8_0_1_2_3 (broadcastInDim S1x4x1x8 ![1, 2, 3] bcast_S4x1x8_S1x4x1x8_1_2_3 (broadcastInDim S4x1x8 ![0, 2] bcast_S4x8_S4x1x8_0_2 S)))))⟩, ⟨S128x4x4x8, (addf (mulf (extractStridedSlice S128x4x4x8 ![0, 0, 0, 8] u slices_S128x4x4x64_S128x4x4x8_0_0_0_8) (broadcastInDim S128x4x4x8 ![0, 1, 2, 3] bcast_S1x4x1x8_S128x4x4x8_0_1_2_3 (broadcastInDim S1x4x1x8 ![1, 2, 3] bcast_S4x1x8_S1x4x1x8_1_2_3 (broadcastInDim S4x1x8 ![0, 2] bcast_S4x8_S4x1x8_0_2 C)))) (mulf (extractStridedSlice S128x4x4x8 ![0, 0, 0, 0] u slices_S128x4x4x64_S128x4x4x8_0_0_0_0) (broadcastInDim S128x4x4x8 ![0, 1, 2, 3] bcast_S1x4x1x8_S128x4x4x8_0_1_2_3 (broadcastInDim S1x4x1x8 ![1, 2, 3] bcast_S4x1x8_S1x4x1x8_1_2_3 (broadcastInDim S4x1x8 ![0, 2] bcast_S4x8_S4x1x8_0_2 S)))))⟩, ⟨S128x4x4x48, extractStridedSlice S128x4x4x48 ![0, 0, 0, 16] u slices_S128x4x4x64_S128x4x4x48_0_0_0_16⟩] concatenates_S128x4x4x8_S128x4x4x8_S128x4x4x48_S128x4x4x64_d3

theorem rope4Vec_apply (u : FVec Ideal S128x4x4x64 .f32) (C S : FVec Ideal S4x8 .f32) (b : Fin 128) (s : Fin 4) (h : Fin 4) (d : Fin 64) :
    rope4Vec u C S (ix4 b s h d) = rope (fun e => u (ix4 b s h e)) (fun j => C (ix2 s j)) (fun j => S (ix2 s j)) d := by
  unfold rope
  split_ifs with h1 h2
  · obtain ⟨j, hj⟩ : ∃ j : Fin 8, j.val = d.val := ⟨⟨d.val, h1⟩, rfl⟩
    obtain rfl : d = ⟨j.val, lt_of_lt_of_le j.isLt (by decide)⟩ := Fin.ext hj.symm
    pointwise [rope4Vec]
    simp only [Nat.add_comm]
  · obtain ⟨j, hj⟩ : ∃ j : Fin 8, 8 + j.val = d.val := ⟨⟨d.val - 8, by omega⟩, by show 8 + (d.val - 8) = d.val; omega⟩
    obtain rfl : d = ⟨8 + j.val, lt_of_lt_of_le (Nat.add_lt_add_left j.isLt 8) (by decide)⟩ := Fin.ext hj.symm
    pointwise [rope4Vec]
  · obtain ⟨j, hj⟩ : ∃ j : Fin 48, 16 + j.val = d.val := ⟨⟨d.val - 16, by omega⟩, by show 16 + (d.val - 16) = d.val; omega⟩
    obtain rfl : d = ⟨16 + j.val, lt_of_lt_of_le (Nat.add_lt_add_left j.isLt 16) (by decide)⟩ := Fin.ext hj.symm
    pointwise [rope4Vec]
    rw [dif_neg h1, dif_neg (by omega)]
    exact congrArg u (congrArg (ix4 b s h) (Fin.ext (by show 16 + (16 + j.val - 8 - 8) = 16 + j.val; omega)))

/-- The rotary embedding of the one head, over the cosines and the sines. -/
def rope1Vec (u : FVec Ideal S128x4x1x64 .f32) (C S : FVec Ideal S4x8 .f32) : FVec Ideal S128x4x1x64 .f32 :=
  concatenate S128x4x1x64 3 [⟨S128x4x1x8, (subf (mulf (extractStridedSlice S128x4x1x8 ![0, 0, 0, 0] u slices_S128x4x1x64_S128x4x1x8_0_0_0_0) (broadcastInDim S128x4x1x8 ![0, 1, 2, 3] bcast_S1x4x1x8_S128x4x1x8_0_1_2_3 (broadcastInDim S1x4x1x8 ![1, 2, 3] bcast_S4x1x8_S1x4x1x8_1_2_3 (broadcastInDim S4x1x8 ![0, 2] bcast_S4x8_S4x1x8_0_2 C)))) (mulf (extractStridedSlice S128x4x1x8 ![0, 0, 0, 8] u slices_S128x4x1x64_S128x4x1x8_0_0_0_8) (broadcastInDim S128x4x1x8 ![0, 1, 2, 3] bcast_S1x4x1x8_S128x4x1x8_0_1_2_3 (broadcastInDim S1x4x1x8 ![1, 2, 3] bcast_S4x1x8_S1x4x1x8_1_2_3 (broadcastInDim S4x1x8 ![0, 2] bcast_S4x8_S4x1x8_0_2 S)))))⟩, ⟨S128x4x1x8, (addf (mulf (extractStridedSlice S128x4x1x8 ![0, 0, 0, 8] u slices_S128x4x1x64_S128x4x1x8_0_0_0_8) (broadcastInDim S128x4x1x8 ![0, 1, 2, 3] bcast_S1x4x1x8_S128x4x1x8_0_1_2_3 (broadcastInDim S1x4x1x8 ![1, 2, 3] bcast_S4x1x8_S1x4x1x8_1_2_3 (broadcastInDim S4x1x8 ![0, 2] bcast_S4x8_S4x1x8_0_2 C)))) (mulf (extractStridedSlice S128x4x1x8 ![0, 0, 0, 0] u slices_S128x4x1x64_S128x4x1x8_0_0_0_0) (broadcastInDim S128x4x1x8 ![0, 1, 2, 3] bcast_S1x4x1x8_S128x4x1x8_0_1_2_3 (broadcastInDim S1x4x1x8 ![1, 2, 3] bcast_S4x1x8_S1x4x1x8_1_2_3 (broadcastInDim S4x1x8 ![0, 2] bcast_S4x8_S4x1x8_0_2 S)))))⟩, ⟨S128x4x1x48, extractStridedSlice S128x4x1x48 ![0, 0, 0, 16] u slices_S128x4x1x64_S128x4x1x48_0_0_0_16⟩] concatenates_S128x4x1x8_S128x4x1x8_S128x4x1x48_S128x4x1x64_d3

theorem rope1Vec_apply (u : FVec Ideal S128x4x1x64 .f32) (C S : FVec Ideal S4x8 .f32) (b : Fin 128) (s : Fin 4) (h : Fin 1) (d : Fin 64) :
    rope1Vec u C S (ix4 b s h d) = rope (fun e => u (ix4 b s h e)) (fun j => C (ix2 s j)) (fun j => S (ix2 s j)) d := by
  obtain rfl : h = (0 : Fin 1) := Subsingleton.elim _ _
  unfold rope
  split_ifs with h1 h2
  · obtain ⟨j, hj⟩ : ∃ j : Fin 8, j.val = d.val := ⟨⟨d.val, h1⟩, rfl⟩
    obtain rfl : d = ⟨j.val, lt_of_lt_of_le j.isLt (by decide)⟩ := Fin.ext hj.symm
    pointwise [rope1Vec]
    simp only [Nat.add_comm]
  · obtain ⟨j, hj⟩ : ∃ j : Fin 8, 8 + j.val = d.val := ⟨⟨d.val - 8, by omega⟩, by show 8 + (d.val - 8) = d.val; omega⟩
    obtain rfl : d = ⟨8 + j.val, lt_of_lt_of_le (Nat.add_lt_add_left j.isLt 8) (by decide)⟩ := Fin.ext hj.symm
    pointwise [rope1Vec]
  · obtain ⟨j, hj⟩ : ∃ j : Fin 48, 16 + j.val = d.val := ⟨⟨d.val - 16, by omega⟩, by show 16 + (d.val - 16) = d.val; omega⟩
    obtain rfl : d = ⟨16 + j.val, lt_of_lt_of_le (Nat.add_lt_add_left j.isLt 16) (by decide)⟩ := Fin.ext hj.symm
    pointwise [rope1Vec]
    rw [dif_neg h1, dif_neg (by omega)]
    exact congrArg u (congrArg (ix4 b s 0) (Fin.ext (by show 16 + (16 + j.val - 8 - 8) = 16 + j.val; omega)))

end Cert.InprojSRefIdeal.Own

end
-- ==== Proof.InprojS.Ref.lean ====
/- The projection reference's twelve results, as functions of the arguments and at one element. -/
module

public import proofs.«01_k».proof.Proof.InprojS.RefHead

@[expose] public section

set_option maxRecDepth 16384

noncomputable section

namespace Cert.InprojSRefIdeal.Own

open Idealize.ShloMosaic Idealize.ShloMosaic.TcCoe Idealize.ShloMosaic.StableHlo Idealize.SL.Sem
open Cert.InprojSRefIdeal Cert.InprojSRefIdeal.Gen Cert.RouteOwn Cert.InprojOwn

variable (z : FVec Ideal S128x4x4932 .f32) (gq gk : FVec Ideal S64 .f32) (R : Fin 512)

/-- The first branch's columns. -/
def aVec : FVec Ideal S512x1792 .f32 :=
  shapeCast _ (extractStridedSlice S128x4x1792 ![0, 0, 0] z slices_S128x4x4932_S128x4x1792_0_0_0) shapeCasts_S128x4x1792_S512x1792

theorem aVec_apply (l : Fin 1792) : aVec z (ix2 R l) = z (ix3 (bOf R) (sOf R) ⟨l.val, by omega⟩) := by
  unfold bOf sOf
  pointwise [aVec]

/-- The queries, head by head. -/
def qHeads : FVec Ideal S128x4x8x64 .f32 :=
  shapeCast _ (extractStridedSlice S128x4x512 ![0, 0, 1792] z slices_S128x4x4932_S128x4x512_0_0_1792) shapeCasts_S128x4x512_S128x4x8x64

theorem qHeads_apply (b : Fin 128) (s : Fin 4) (h : Fin 8) (d : Fin 64) :
    qHeads z (ix4 b s h d) = z (ix3 b s ⟨1792 + (64 * h.val + d.val), by omega⟩) := by
  pointwise [qHeads]
  exact congrArg z (congrArg (ix3 b s) (Fin.ext (by show 1792 + (h.val * 64 + d.val) = 1792 + (64 * h.val + d.val); omega)))

/-- The queries. -/
def qVec : FVec Ideal S512x512 .bf16 :=
  truncf .bf16 (shapeCast _ (mulf (rope8Vec (norm8Vec (qHeads z) gq) cosVec sinVec) (broadcastInDim S128x4x8x64 ![] bcast_S_S128x4x8x64 (constant (F := Ideal) S_ .f32 0x3E38AA3B#32))) shapeCasts_S128x4x8x64_S512x512) bitsLt_bf16_f32

theorem qFlat_apply (u : FVec Ideal S128x4x8x64 .f32) (h : Fin 8) (d : Fin 64) :
    shapeCast S512x512 u shapeCasts_S128x4x8x64_S512x512 (ix2 R (⟨64 * h.val + d.val, by omega⟩ : Fin 512)) = u (ix4 (bOf R) (sOf R) h d) := by
  unfold bOf sOf
  pointwise

theorem qVec_apply (h : Fin 8) (d : Fin 64) :
    qVec z gq (ix2 R (⟨64 * h.val + d.val, by omega⟩ : Fin 512))
      = rope (headNorm (fun e => z (ix3 (bOf R) (sOf R) ⟨1792 + (64 * h.val + e.val), by omega⟩)) (fun e => gq (ix1 e)))
          (fun j => cosVec (ix2 (sOf R) j)) (fun j => sinVec (ix2 (sOf R) j)) d * Ideal.ofBits FTy.f32 0x3E38AA3B#32 := by
  refine Eq.trans (qFlat_apply R (mulf (rope8Vec (norm8Vec (qHeads z) gq) cosVec sinVec) (broadcastInDim S128x4x8x64 ![] bcast_S_S128x4x8x64 (constant (F := Ideal) S_ .f32 0x3E38AA3B#32))) h d) ?_
  show rope8Vec (norm8Vec (qHeads z) gq) cosVec sinVec (ix4 (bOf R) (sOf R) h d) * Ideal.ofBits FTy.f32 0x3E38AA3B#32 = _
  rw [rope8Vec_apply]
  simp only [norm8Vec_apply, qHeads_apply]

/-- The keys, head by head. -/
def kHeads : FVec Ideal S128x4x2x64 .f32 :=
  shapeCast _ (extractStridedSlice S128x4x128 ![0, 0, 2304] z slices_S128x4x4932_S128x4x128_0_0_2304) shapeCasts_S128x4x128_S128x4x2x64

theorem kHeads_apply (b : Fin 128) (s : Fin 4) (h : Fin 2) (d : Fin 64) :
    kHeads z (ix4 b s h d) = z (ix3 b s ⟨2304 + (64 * h.val + d.val), by omega⟩) := by
  pointwise [kHeads]
  exact congrArg z (congrArg (ix3 b s) (Fin.ext (by show 2304 + (h.val * 64 + d.val) = 2304 + (64 * h.val + d.val); omega)))

/-- The keys. -/
def kVec : FVec Ideal S512x128 .f32 :=
  shapeCast _ (rope2Vec (norm2Vec (kHeads z) gk) cosVec sinVec) shapeCasts_S128x4x2x64_S512x128

theorem kFlat_apply (u : FVec Ideal S128x4x2x64 .f32) (h : Fin 2) (d : Fin 64) :
    shapeCast S512x128 u shapeCasts_S128x4x2x64_S512x128 (ix2 R (lane h d)) = u (ix4 (bOf R) (sOf R) h d) := by
  unfold bOf sOf lane
  pointwise

theorem kVec_apply (h : Fin 2) (d : Fin 64) :
    kVec z gk (ix2 R (lane h d))
      = rope (headNorm (fun e => z (ix3 (bOf R) (sOf R) ⟨2304 + (64 * h.val + e.val), by omega⟩)) (fun e => gk (ix1 e)))
          (fun j => cosVec (ix2 (sOf R) j)) (fun j => sinVec (ix2 (sOf R) j)) d := by
  refine (kFlat_apply R _ h d).trans ((rope2Vec_apply _ _ _ _ _ _ _).trans ?_)
  refine congrArg (fun v => rope v _ _ d) (funext fun e => (norm2Vec_apply _ _ _ _ _ _).trans ?_)
  simp only [kHeads_apply]

/-- The values. -/
def vVec : FVec Ideal S512x128 .f32 :=
  shapeCast _ (extractStridedSlice S128x4x128 ![0, 0, 2432] z slices_S128x4x4932_S128x4x128_0_0_2432) shapeCasts_S128x4x128_S512x128

theorem vVec_apply (l : Fin 128) : vVec z (ix2 R l) = z (ix3 (bOf R) (sOf R) ⟨2432 + l.val, by omega⟩) := by
  unfold bOf sOf
  pointwise [vVec]

/-- The index queries, head by head. -/
def qiHeads : FVec Ideal S128x4x4x64 .f32 :=
  shapeCast _ (extractStridedSlice S128x4x256 ![0, 0, 2560] z slices_S128x4x4932_S128x4x256_0_0_2560) shapeCasts_S128x4x256_S128x4x4x64

theorem qiHeads_apply (b : Fin 128) (s : Fin 4) (h : Fin 4) (d : Fin 64) :
    qiHeads z (ix4 b s h d) = z (ix3 b s ⟨2560 + (64 * h.val + d.val), by omega⟩) := by
  pointwise [qiHeads]
  exact congrArg z (congrArg (ix3 b s) (Fin.ext (by show 2560 + (h.val * 64 + d.val) = 2560 + (64 * h.val + d.val); omega)))

/-- The index queries. -/
def qiVec : FVec Ideal S512x256 .bf16 :=
  truncf .bf16 (shapeCast _ (mulf (rope4Vec (qiHeads z) cosVec sinVec) (broadcastInDim S128x4x4x64 ![] bcast_S_S128x4x4x64 (constant (F := Ideal) S_ .f32 0x3E000000#32))) shapeCasts_S128x4x4x64_S512x256) bitsLt_bf16_f32

theorem qiFlat_apply (u : FVec Ideal S128x4x4x64 .f32) (h : Fin 4) (d : Fin 64) :
    shapeCast S512x256 u shapeCasts_S128x4x4x64_S512x256 (ix2 R (⟨64 * h.val + d.val, by omega⟩ : Fin 256)) = u (ix4 (bOf R) (sOf R) h d) := by
  unfold bOf sOf
  pointwise

theorem qiVec_apply (h : Fin 4) (d : Fin 64) :
    qiVec z (ix2 R (⟨64 * h.val + d.val, by omega⟩ : Fin 256))
      = rope (fun e => z (ix3 (bOf R) (sOf R) ⟨2560 + (64 * h.val + e.val), by omega⟩))
          (fun j => cosVec (ix2 (sOf R) j)) (fun j => sinVec (ix2 (sOf R) j)) d * Ideal.ofBits FTy.f32 0x3E000000#32 := by
  refine Eq.trans (qiFlat_apply R (mulf (rope4Vec (qiHeads z) cosVec sinVec) (broadcastInDim S128x4x4x64 ![] bcast_S_S128x4x4x64 (constant (F := Ideal) S_ .f32 0x3E000000#32))) h d) ?_
  show rope4Vec (qiHeads z) cosVec sinVec (ix4 (bOf R) (sOf R) h d) * Ideal.ofBits FTy.f32 0x3E000000#32 = _
  rw [rope4Vec_apply]
  simp only [qiHeads_apply]

/-- The index keys' columns. -/
def kiCols : FVec Ideal S128x4x64 .f32 := extractStridedSlice S128x4x64 ![0, 0, 2816] z slices_S128x4x4932_S128x4x64_0_0_2816

/-- The index keys. -/
def kiVec : FVec Ideal S512x64 .f32 :=
  shapeCast _ (rope1Vec (broadcastInDim S128x4x1x64 ![0, 1, 3] bcast_S128x4x64_S128x4x1x64_0_1_3 (kiCols z)) cosVec sinVec) shapeCasts_S128x4x1x64_S512x64

theorem kiHead_apply (b : Fin 128) (s : Fin 4) (d : Fin 64) :
    broadcastInDim S128x4x1x64 ![0, 1, 3] bcast_S128x4x64_S128x4x1x64_0_1_3 (kiCols z) (ix4 b s 0 d) = z (ix3 b s ⟨2816 + d.val, by omega⟩) := by
  pointwise [kiCols]

theorem kiFlat_apply (u : FVec Ideal S128x4x1x64 .f32) (d : Fin 64) :
    shapeCast S512x64 u shapeCasts_S128x4x1x64_S512x64 (ix2 R d) = u (ix4 (bOf R) (sOf R) 0 d) := by
  unfold bOf sOf
  pointwise

theorem kiVec_apply (d : Fin 64) :
    kiVec z (ix2 R d) = rope (fun e => z (ix3 (bOf R) (sOf R) ⟨2816 + e.val, by omega⟩))
          (fun j => cosVec (ix2 (sOf R) j)) (fun j => sinVec (ix2 (sOf R) j)) d := by
  refine (kiFlat_apply R _ d).trans ((rope1Vec_apply _ _ _ _ _ _ _).trans ?_)
  exact congrArg (fun v => rope v _ _ d) (funext fun e => kiHead_apply z _ _ e)

/-- The index keys, twice side by side. -/
def kiTwice (u : FVec Ideal S512x64 .f32) : FVec Ideal S512x128 .bf16 :=
  truncf .bf16 (concatenate S512x128 1 [⟨S512x64, u⟩, ⟨S512x64, u⟩] concatenates_S512x64_S512x64_S512x128_d1) bitsLt_bf16_f32

theorem kiTwice_apply (u : FVec Ideal S512x64 .f32) (p : Fin 2) (d : Fin 64) : kiTwice u (ix2 R (lane p d)) = u (ix2 R d) := by
  unfold lane
  fin_cases p
  · pointwise [kiTwice]
  · pointwise [kiTwice]

/-- The index weights, in the columns after the unturned index keys. -/
def wiVec : FVec Ideal S512x128 .f32 :=
  pad S512x128 ![0, 0] ![0, 60] ![0, 0] (shapeCast _ (mulf (concatenate S128x4x68 2 [⟨S128x4x64, kiCols z⟩, ⟨S128x4x4, extractStridedSlice S128x4x4 ![0, 0, 2880] z slices_S128x4x4932_S128x4x4_0_0_2880⟩] concatenates_S128x4x64_S128x4x4_S128x4x68_d2) (broadcastInDim S128x4x68 ![] bcast_S_S128x4x68 (constant (F := Ideal) S_ .f32 0x3F000000#32))) shapeCasts_S128x4x68_S512x68) (sitofp (F := Ideal) .f32 (constantI S_ 32 0#32)) pads_S512x68_S512x128_000_0600 h_S_

theorem wiVec_apply (l : Fin 68) : wiVec z (ix2 R ⟨l.val, by omega⟩)
    = z (ix3 (bOf R) (sOf R) ⟨2816 + l.val, by omega⟩) * Ideal.ofBits FTy.f32 0x3F000000#32 := by
  unfold bOf sOf
  pointwise [wiVec, kiCols]
  by_cases h : l.val < 64
  · rw [dif_pos h]
  · rw [dif_neg h]
    refine congrArg (fun i => z (ix3 _ _ i) * Ideal.ofBits FTy.f32 0x3F000000#32) (Fin.ext ?_)
    show 2880 + (l.val - 64) = 2816 + l.val
    omega

theorem wiVec_rest (l : Fin 60) : wiVec z (ix2 R ⟨68 + l.val, by omega⟩) = (0 : EReal) := by
  pointwise [wiVec, kiCols]
  show (((0#32 : BitVec 32).toInt : ℝ) : EReal) = 0
  simp

/-- The first gate. -/
def gaVec : FVec Ideal S512x1024 .bf16 :=
  truncf .bf16 (shapeCast _ (Host.divf (F := Ideal) (broadcastInDim S128x4x1024 ![] bcast_S_S128x4x1024 (constant (F := Ideal) S_ .f32 0x3F800000#32)) (addf (broadcastInDim S128x4x1024 ![] bcast_S_S128x4x1024 (constant (F := Ideal) S_ .f32 0x3F800000#32)) (Host.exp (F := Ideal) (Host.negf (F := Ideal) (extractStridedSlice S128x4x1024 ![0, 0, 2884] z slices_S128x4x4932_S128x4x1024_0_0_2884))))) shapeCasts_S128x4x1024_S512x1024) bitsLt_bf16_f32

theorem gaVec_apply (l : Fin 1024) : gaVec z (ix2 R l) = logistic (z (ix3 (bOf R) (sOf R) ⟨2884 + l.val, by omega⟩)) := by
  unfold bOf sOf
  pointwise [gaVec]
  rfl

/-- The second gate. -/
def gbVec : FVec Ideal S512x1024 .bf16 :=
  truncf .bf16 (shapeCast _ (Host.divf (F := Ideal) (broadcastInDim S128x4x1024 ![] bcast_S_S128x4x1024 (constant (F := Ideal) S_ .f32 0x3F800000#32)) (addf (broadcastInDim S128x4x1024 ![] bcast_S_S128x4x1024 (constant (F := Ideal) S_ .f32 0x3F800000#32)) (Host.exp (F := Ideal) (Host.negf (F := Ideal) (extractStridedSlice S128x4x1024 ![0, 0, 3908] z slices_S128x4x4932_S128x4x1024_0_0_3908))))) shapeCasts_S128x4x1024_S512x1024) bitsLt_bf16_f32

theorem gbVec_apply (l : Fin 1024) : gbVec z (ix2 R l) = logistic (z (ix3 (bOf R) (sOf R) ⟨3908 + l.val, by omega⟩)) := by
  unfold bOf sOf
  pointwise [gbVec]
  rfl

end Cert.InprojSRefIdeal.Own

end
-- ==== Proof.InprojS.Kernel.lean ====
/- The projection kernel's twelve result arrays are the reference's terms over the kernel's arguments. -/
module

public import proofs.«01_k».proof.Proof.InprojS.Reads
public import proofs.«01_k».proof.Proof.Inproj.Kernel
public import proofs.«01_k».proof.Proof.InprojS.Ref

@[expose] public section

set_option maxRecDepth 16384

noncomputable section

namespace Cert.InprojSIdeal.Own

open Idealize.ShloMosaic Idealize.ShloMosaic.TcCoe Idealize.SL.Sem
open Idealize.ShloMosaic.Pipeline (Dat)
open Cert.InprojSIdeal Cert.InprojSIdeal.Gen Cert.RouteOwn Cert.InprojOwn
open Cert.InprojIdeal.Own (zT catW catW_low catW_zero catW_high catW_real exists_col8 exists_col4 out7_apply out8_apply out9_apply out10_apply out11_apply out12_apply out13_apply out14_apply out15_apply out16_apply out17_apply out18_apply)
open Cert.InprojSRefIdeal.Own (bOf sOf zVec cosVec sinVec aVec qVec kVec vVec qiVec kiVec kiTwice wiVec gaVec gbVec)

variable (m : (ℓ : Loc nD τ sig) → Buf (Elt Ideal) ℓ) (c : Dev nD)

/-- The reference's projections, over the kernel's arguments. -/
abbrev zRef : FVec Ideal InprojSRefIdeal.S128x4x4932 .f32 := zVec (arg0 m c) (arg1 m c) (arg2 m c)

section Tile

variable (t : Fin cfg0.N) (a : Fin 512)

theorem pos_eq : pos a = sOf (row t a) := by
  have := lt_of_lt_of_eq t.isLt N_0
  exact Fin.ext (by show a.val % 4 = (t.val * 512 + a.val) % 4; omega)

theorem ang_eq : angT = InprojSRefIdeal.Own.angVec := rfl

/-- The cosines of a row's position. -/
abbrev cosR (j : Fin 8) : EReal := cosVec (ix2 (sOf (row t a)) j)

/-- The sines of a row's position. -/
abbrev sinR (j : Fin 8) : EReal := sinVec (ix2 (sOf (row t a)) j)

theorem cos_eq : (fun j => Host.cos (F := Ideal) angT (ix2 (pos a) j)) = cosR t a := by
  rw [pos_eq]
  rfl

theorem sin_eq : (fun j => Host.sin (F := Ideal) angT (ix2 (pos a) j)) = sinR t a := by
  rw [pos_eq]
  rfl

theorem hcos (p : Fin 2) (d : Fin 64) :
    (iblk m c 3 t : FVec Ideal S512x256 .f32) (ix2 a ⟨(lane p d).val, by omega⟩) = cosLane (cosR t a) d :=
  (read3c m c t a p d).trans (congrArg (fun f => cosLane f d) (cos_eq t a))

theorem hsin (p : Fin 2) (d : Fin 64) :
    (iblk m c 3 t : FVec Ideal S512x256 .f32) (ix2 a ⟨128 + (lane p d).val, by omega⟩) = sinLane (sinR t a) d :=
  (read3s m c t a p d).trans (congrArg (fun f => sinLane f d) (sin_eq t a))

/-- A column of a tile's projections. -/
abbrev zK (l : Fin 4992) : EReal := zT (iblk m c 0 t) (iblk m c 1 t) (iblk m c 2 t) a l

theorem z_col (l : Fin 4992) : zK m c t a l
    = proj (fun k => arg0 m c (ix3 (bOf (row t a)) (sOf (row t a)) k)) (fun k => arg1 m c (ix1 k)) (fun k => catW (arg2 m c) (ix2 k l)) := by
  unfold zK zT
  congr 1
  · exact funext fun k => read0 m c t a k
  · exact funext fun k => read1 m c t k
  · exact funext fun k => read2 m c t k l

theorem z_low (l : Fin 4992) (h : l.val < 2884) :
    zK m c t a l = zRef m c (ix3 (bOf (row t a)) (sOf (row t a)) ⟨l.val, lt_trans h (by norm_num)⟩) := by
  refine (z_col m c t a l).trans (Eq.trans ?_ (InprojSRefIdeal.Own.zVec_apply _ _ _ _ _ _).symm)
  exact congrArg (proj _ _) (funext fun k => catW_low _ k ⟨l.val, h⟩)

theorem z_high (l : Fin 2048) :
    zK m c t a ⟨2944 + l.val, by omega⟩ = zRef m c (ix3 (bOf (row t a)) (sOf (row t a)) ⟨2884 + l.val, by omega⟩) := by
  refine (z_col m c t a _).trans (Eq.trans ?_ (InprojSRefIdeal.Own.zVec_apply _ _ _ _ _ _).symm)
  exact congrArg (proj _ _) (funext fun k => catW_high _ k l)

theorem z_zero (l : Fin 60) : zK m c t a ⟨2884 + l.val, by omega⟩ = 0 := by
  refine (z_col m c t a _).trans ?_
  unfold proj
  refine Finset.sum_eq_zero fun k _ => ?_
  exact (congrArg (_ * ·) (catW_zero _ k l)).trans (mul_zero _)

variable (h1 : ∀ i, IsReal (arg1 m c i)) (h2 : ∀ i, IsReal (arg2 m c i))

include h1 h2 in
theorem z_real (l : Fin 4992) : IsReal (zK m c t a l) := by
  rw [z_col]
  exact proj_fin _ _ _ (fun k => h1 _) (fun k => catW_real _ h2 k l)

end Tile

theorem final7 : (dats m 0 c).arrAt 7 cfg0.N = aVec (zRef m c) := by
  refine (dats m 0 c).arrAt_eq_of_covers 7 _ (by decide +kernel) fun t hf y => ?_
  blk_simp
  rw [after0_7, out7_same]
  obtain ⟨a, b, rfl⟩ : ∃ (a : Fin 512) (b : Fin 1792), y = ix2 a b := ⟨y 0, y 1, eq_ix2 y⟩
  have hemb : ((cfg0.win 7).blk t).view.emb (ix2 a b) = ix2 (row t a) b := by
    unfold row
    blk_ext [idx t]
  rw [hemb]
  exact (out7_apply (iblk m c 0 t) (iblk m c 1 t) (iblk m c 2 t) (iblk m c 3 t) (iblk m c 4 t) (iblk m c 5 t) (iblk m c 6 t) a b).trans ((z_low m c t a _ (by show b.val < 2884; omega)).trans (InprojSRefIdeal.Own.aVec_apply _ _ b).symm)

theorem final8 (h1 : ∀ i, IsReal (arg1 m c i)) (h2 : ∀ i, IsReal (arg2 m c i)) : (dats m 0 c).arrAt 8 cfg0.N = qVec (zRef m c) (arg3 m c) := by
  refine (dats m 0 c).arrAt_eq_of_covers 8 _ (by decide +kernel) fun t hf y => ?_
  blk_simp
  rw [after0_8, out8_same]
  obtain ⟨a, b, rfl⟩ : ∃ (a : Fin 512) (b : Fin 512), y = ix2 a b := ⟨y 0, y 1, eq_ix2 y⟩
  have hemb : ((cfg0.win 8).blk t).view.emb (ix2 a b) = ix2 (row t a) b := by
    unfold row
    blk_ext [idx t]
  rw [hemb]
  obtain ⟨h, d, rfl⟩ := exists_col8 b
  refine (out8_apply (iblk m c 0 t) (iblk m c 1 t) (iblk m c 2 t) (iblk m c 3 t) (iblk m c 4 t) (iblk m c 5 t) (iblk m c 6 t) a (cosR t a) (sinR t a) (fun d => arg3 m c (ix1 d)) (hcos m c t a) (hsin m c t a) (read6 m c t)
    (z_real m c t a h1 h2) (read4 m c t) h d).trans (Eq.trans ?_ (InprojSRefIdeal.Own.qVec_apply _ _ (row t a) h d).symm)
  exact congrArg (fun v => rope (headNorm v _) _ _ d * _) (funext fun e => z_low m c t a _ (by show 1792 + (64 * h.val + e.val) < 2884; omega))

theorem final9 (h1 : ∀ i, IsReal (arg1 m c i)) (h2 : ∀ i, IsReal (arg2 m c i)) : (dats m 0 c).arrAt 9 cfg0.N = kVec (zRef m c) (arg4 m c) := by
  refine (dats m 0 c).arrAt_eq_of_covers 9 _ (by decide +kernel) fun t hf y => ?_
  blk_simp
  rw [after0_9, out9_same]
  obtain ⟨a, b, rfl⟩ : ∃ (a : Fin 512) (b : Fin 128), y = ix2 a b := ⟨y 0, y 1, eq_ix2 y⟩
  have hemb : ((cfg0.win 9).blk t).view.emb (ix2 a b) = ix2 (row t a) b := by
    unfold row
    blk_ext [idx t]
  rw [hemb]
  obtain ⟨p, d, rfl⟩ := exists_lane b
  refine (out9_apply (iblk m c 0 t) (iblk m c 1 t) (iblk m c 2 t) (iblk m c 3 t) (iblk m c 4 t) (iblk m c 5 t) (iblk m c 6 t) a (cosR t a) (sinR t a) (fun d => arg4 m c (ix1 d)) (hcos m c t a) (hsin m c t a) (read6 m c t)
    (z_real m c t a h1 h2) (read5 m c t) p d).trans (Eq.trans ?_ (InprojSRefIdeal.Own.kVec_apply _ _ (row t a) p d).symm)
  exact congrArg (fun v => rope (headNorm v _) _ _ d) (funext fun e => z_low m c t a ⟨2304 + (lane p e).val, by omega⟩ (by show 2304 + (64 * p.val + e.val) < 2884; omega))

theorem final11 (h1 : ∀ i, IsReal (arg1 m c i)) (h2 : ∀ i, IsReal (arg2 m c i)) : (dats m 0 c).arrAt 11 cfg0.N = (truncf .bf16 (kVec (zRef m c) (arg4 m c)) bitsLt_bf16_f32 : FVec Ideal S512x128 .bf16) := by
  refine (dats m 0 c).arrAt_eq_of_covers 11 _ (by decide +kernel) fun t hf y => ?_
  blk_simp
  rw [after0_11, out11_same]
  obtain ⟨a, b, rfl⟩ : ∃ (a : Fin 512) (b : Fin 128), y = ix2 a b := ⟨y 0, y 1, eq_ix2 y⟩
  have hemb : ((cfg0.win 11).blk t).view.emb (ix2 a b) = ix2 (row t a) b := by
    unfold row
    blk_ext [idx t]
  rw [hemb]
  obtain ⟨p, d, rfl⟩ := exists_lane b
  refine (out11_apply (iblk m c 0 t) (iblk m c 1 t) (iblk m c 2 t) (iblk m c 3 t) (iblk m c 4 t) (iblk m c 5 t) (iblk m c 6 t) a (cosR t a) (sinR t a) (fun d => arg4 m c (ix1 d)) (hcos m c t a) (hsin m c t a) (read6 m c t)
    (z_real m c t a h1 h2) (read5 m c t) p d).trans (Eq.trans ?_ (InprojSRefIdeal.Own.kVec_apply _ _ (row t a) p d).symm)
  exact congrArg (fun v => rope (headNorm v _) _ _ d) (funext fun e => z_low m c t a ⟨2304 + (lane p e).val, by omega⟩ (by show 2304 + (64 * p.val + e.val) < 2884; omega))

theorem final10 : (dats m 0 c).arrAt 10 cfg0.N = vVec (zRef m c) := by
  refine (dats m 0 c).arrAt_eq_of_covers 10 _ (by decide +kernel) fun t hf y => ?_
  blk_simp
  rw [after0_10, out10_same]
  obtain ⟨a, b, rfl⟩ : ∃ (a : Fin 512) (b : Fin 128), y = ix2 a b := ⟨y 0, y 1, eq_ix2 y⟩
  have hemb : ((cfg0.win 10).blk t).view.emb (ix2 a b) = ix2 (row t a) b := by
    unfold row
    blk_ext [idx t]
  rw [hemb]
  exact (out10_apply (iblk m c 0 t) (iblk m c 1 t) (iblk m c 2 t) (iblk m c 3 t) (iblk m c 4 t) (iblk m c 5 t) (iblk m c 6 t) a b).trans ((z_low m c t a _ (by show 2432 + b.val < 2884; omega)).trans (InprojSRefIdeal.Own.vVec_apply _ _ b).symm)

theorem final12 : (dats m 0 c).arrAt 12 cfg0.N = (truncf .bf16 (vVec (zRef m c)) bitsLt_bf16_f32 : FVec Ideal S512x128 .bf16) := by
  refine (dats m 0 c).arrAt_eq_of_covers 12 _ (by decide +kernel) fun t hf y => ?_
  blk_simp
  rw [after0_12, out12_same]
  obtain ⟨a, b, rfl⟩ : ∃ (a : Fin 512) (b : Fin 128), y = ix2 a b := ⟨y 0, y 1, eq_ix2 y⟩
  have hemb : ((cfg0.win 12).blk t).view.emb (ix2 a b) = ix2 (row t a) b := by
    unfold row
    blk_ext [idx t]
  rw [hemb]
  exact (out12_apply (iblk m c 0 t) (iblk m c 1 t) (iblk m c 2 t) (iblk m c 3 t) (iblk m c 4 t) (iblk m c 5 t) (iblk m c 6 t) a b).trans ((z_low m c t a _ (by show 2432 + b.val < 2884; omega)).trans (InprojSRefIdeal.Own.vVec_apply _ _ b).symm)

theorem final13 : (dats m 0 c).arrAt 13 cfg0.N = qiVec (zRef m c) := by
  refine (dats m 0 c).arrAt_eq_of_covers 13 _ (by decide +kernel) fun t hf y => ?_
  blk_simp
  rw [after0_13, out13_same]
  obtain ⟨a, b, rfl⟩ : ∃ (a : Fin 512) (b : Fin 256), y = ix2 a b := ⟨y 0, y 1, eq_ix2 y⟩
  have hemb : ((cfg0.win 13).blk t).view.emb (ix2 a b) = ix2 (row t a) b := by
    unfold row
    blk_ext [idx t]
  rw [hemb]
  obtain ⟨h, d, rfl⟩ := exists_col4 b
  refine (out13_apply (iblk m c 0 t) (iblk m c 1 t) (iblk m c 2 t) (iblk m c 3 t) (iblk m c 4 t) (iblk m c 5 t) (iblk m c 6 t) a (cosR t a) (sinR t a) (hcos m c t a) (hsin m c t a) h d).trans (Eq.trans ?_ (InprojSRefIdeal.Own.qiVec_apply _ (row t a) h d).symm)
  exact congrArg (fun v => rope v _ _ d * _) (funext fun e => z_low m c t a _ (by show 2560 + (64 * h.val + e.val) < 2884; omega))

theorem ki_row (t : Fin cfg0.N) (a : Fin 512) (d : Fin 64) :
    rope (fun e => zK m c t a ⟨2816 + (lane 0 e).val, by omega⟩) (cosR t a) (sinR t a) d = kiVec (zRef m c) (ix2 (row t a) d) := by
  refine Eq.trans ?_ (InprojSRefIdeal.Own.kiVec_apply _ (row t a) d).symm
  refine congrArg (fun v => rope v _ _ d) (funext fun e => ?_)
  refine (z_low m c t a ⟨2816 + (lane 0 e).val, by omega⟩ (by show 2816 + (64 * 0 + e.val) < 2884; omega)).trans ?_
  have hi : (⟨2816 + (lane 0 e).val, by omega⟩ : Fin 4932) = ⟨2816 + e.val, by omega⟩ := Fin.ext (by show 2816 + (64 * 0 + e.val) = 2816 + e.val; omega)
  exact congrArg (fun i => zRef m c (ix3 (bOf (row t a)) (sOf (row t a)) i)) hi

theorem final14 : (dats m 0 c).arrAt 14 cfg0.N = kiVec (zRef m c) := by
  refine (dats m 0 c).arrAt_eq_of_covers 14 _ (by decide +kernel) fun t hf y => ?_
  blk_simp
  rw [after0_14, out14_same]
  obtain ⟨a, b, rfl⟩ : ∃ (a : Fin 512) (b : Fin 64), y = ix2 a b := ⟨y 0, y 1, eq_ix2 y⟩
  have hemb : ((cfg0.win 14).blk t).view.emb (ix2 a b) = ix2 (row t a) b := by
    unfold row
    blk_ext [idx t]
  rw [hemb]
  exact (out14_apply (iblk m c 0 t) (iblk m c 1 t) (iblk m c 2 t) (iblk m c 3 t) (iblk m c 4 t) (iblk m c 5 t) (iblk m c 6 t) a (cosR t a) (sinR t a) (hcos m c t a) (hsin m c t a) b).trans (ki_row m c t a b)

theorem final15 : (dats m 0 c).arrAt 15 cfg0.N = kiTwice (kiVec (zRef m c)) := by
  refine (dats m 0 c).arrAt_eq_of_covers 15 _ (by decide +kernel) fun t hf y => ?_
  blk_simp
  rw [after0_15, out15_same]
  obtain ⟨a, b, rfl⟩ : ∃ (a : Fin 512) (b : Fin 128), y = ix2 a b := ⟨y 0, y 1, eq_ix2 y⟩
  have hemb : ((cfg0.win 15).blk t).view.emb (ix2 a b) = ix2 (row t a) b := by
    unfold row
    blk_ext [idx t]
  rw [hemb]
  obtain ⟨p, d, rfl⟩ := exists_lane b
  exact (out15_apply (iblk m c 0 t) (iblk m c 1 t) (iblk m c 2 t) (iblk m c 3 t) (iblk m c 4 t) (iblk m c 5 t) (iblk m c 6 t) a (cosR t a) (sinR t a) (hcos m c t a) (hsin m c t a) p d).trans
    ((ki_row m c t a d).trans (InprojSRefIdeal.Own.kiTwice_apply (row t a) _ p d).symm)

theorem final16 : (dats m 0 c).arrAt 16 cfg0.N = wiVec (zRef m c) := by
  refine (dats m 0 c).arrAt_eq_of_covers 16 _ (by decide +kernel) fun t hf y => ?_
  blk_simp
  rw [after0_16, out16_same]
  obtain ⟨a, b, rfl⟩ : ∃ (a : Fin 512) (b : Fin 128), y = ix2 a b := ⟨y 0, y 1, eq_ix2 y⟩
  have hemb : ((cfg0.win 16).blk t).view.emb (ix2 a b) = ix2 (row t a) b := by
    unfold row
    blk_ext [idx t]
  rw [hemb]
  refine (out16_apply (iblk m c 0 t) (iblk m c 1 t) (iblk m c 2 t) (iblk m c 3 t) (iblk m c 4 t) (iblk m c 5 t) (iblk m c 6 t) a b).trans ?_
  by_cases hb : b.val < 68
  · exact (congrArg (· * _) (z_low m c t a _ (by show 2816 + b.val < 2884; omega))).trans (InprojSRefIdeal.Own.wiVec_apply _ (row t a) ⟨b.val, hb⟩).symm
  · have e : (⟨2816 + b.val, by omega⟩ : Fin 4992) = ⟨2884 + (⟨b.val - 68, by omega⟩ : Fin 60).val, by show 2884 + (b.val - 68) < 4992; omega⟩ :=
      Fin.ext (by show 2816 + b.val = 2884 + (b.val - 68); omega)
    have e' : b = ⟨68 + (⟨b.val - 68, by omega⟩ : Fin 60).val, by show 68 + (b.val - 68) < 128; omega⟩ := Fin.ext (by show b.val = 68 + (b.val - 68); omega)
    refine (congrArg (fun i => zK m c t a i * _) e).trans ((congrArg (· * _) (z_zero m c t a _)).trans ((zero_mul _).trans ?_))
    exact ((InprojSRefIdeal.Own.wiVec_rest (zRef m c) (row t a) ⟨b.val - 68, by omega⟩).symm.trans (congrArg (fun i => wiVec (zRef m c) (ix2 (row t a) i)) e'.symm))

theorem final17 : (dats m 0 c).arrAt 17 cfg0.N = gaVec (zRef m c) := by
  refine (dats m 0 c).arrAt_eq_of_covers 17 _ (by decide +kernel) fun t hf y => ?_
  blk_simp
  rw [after0_17, out17_same]
  obtain ⟨a, b, rfl⟩ : ∃ (a : Fin 512) (b : Fin 1024), y = ix2 a b := ⟨y 0, y 1, eq_ix2 y⟩
  have hemb : ((cfg0.win 17).blk t).view.emb (ix2 a b) = ix2 (row t a) b := by
    unfold row
    blk_ext [idx t]
  rw [hemb]
  exact (out17_apply (iblk m c 0 t) (iblk m c 1 t) (iblk m c 2 t) (iblk m c 3 t) (iblk m c 4 t) (iblk m c 5 t) (iblk m c 6 t) a b).trans ((congrArg logistic (z_high m c t a ⟨b.val, by omega⟩)).trans (InprojSRefIdeal.Own.gaVec_apply _ (row t a) b).symm)

theorem final18 : (dats m 0 c).arrAt 18 cfg0.N = gbVec (zRef m c) := by
  refine (dats m 0 c).arrAt_eq_of_covers 18 _ (by decide +kernel) fun t hf y => ?_
  blk_simp
  rw [after0_18, out18_same]
  obtain ⟨a, b, rfl⟩ : ∃ (a : Fin 512) (b : Fin 1024), y = ix2 a b := ⟨y 0, y 1, eq_ix2 y⟩
  have hemb : ((cfg0.win 18).blk t).view.emb (ix2 a b) = ix2 (row t a) b := by
    unfold row
    blk_ext [idx t]
  rw [hemb]
  have e : (⟨3968 + b.val, by omega⟩ : Fin 4992) = ⟨2944 + (⟨1024 + b.val, by omega⟩ : Fin 2048).val, by show 2944 + (1024 + b.val) < 4992; omega⟩ :=
    Fin.ext (by show 3968 + b.val = 2944 + (1024 + b.val); omega)
  refine (out18_apply (iblk m c 0 t) (iblk m c 1 t) (iblk m c 2 t) (iblk m c 3 t) (iblk m c 4 t) (iblk m c 5 t) (iblk m c 6 t) a b).trans ((congrArg (fun i => logistic (zK m c t a i)) e).trans ((congrArg logistic (z_high m c t a _)).trans ?_))
  refine Eq.trans (congrArg (fun i => logistic (zRef m c (ix3 _ _ i))) (Fin.ext ?_)) (InprojSRefIdeal.Own.gbVec_apply _ (row t a) b).symm
  show 2884 + (1024 + b.val) = 3908 + b.val
  omega

end Cert.InprojSIdeal.Own

end
-- ==== Proof.InprojS.RefTerms.lean ====
/- The projection reference's results, each the named function of the arguments. -/
module

public import proofs.«01_k».proof.Proof.InprojS.Ref

@[expose] public section

set_option maxRecDepth 16384

noncomputable section

namespace Cert.InprojSRefIdeal.Own

open Idealize.ShloMosaic Idealize.ShloMosaic.TcCoe Idealize.ShloMosaic.StableHlo Idealize.SL.Sem
open Cert.InprojSRefIdeal Cert.InprojSRefIdeal.Gen

variable (m : (ℓ : Loc nD τ sig) → Buf (Elt Ideal) ℓ) (c : Dev nD)

/-- The projections, of the program's arguments. -/
abbrev zOf : FVec Ideal S128x4x4932 .f32 :=
  zVec (m ((c.tc : Thread nD τ).loc main_arg0)) (m ((c.tc : Thread nD τ).loc main_arg1)) (m ((c.tc : Thread nD τ).loc main_arg2))

theorem z_eq : Value.res_main_v16 (F := Ideal) (launchContents m c) = zOf m c := rfl

theorem cos_q : Host.cos (F := Ideal) (φ := .f32) (s := S4x8) (Value.res_main_v50 (F := Ideal) (launchContents m c)) = cosVec := rfl

theorem qn_eq : Value.res_main_v39 (F := Ideal) (launchContents m c) = norm8Vec (qHeads (zOf m c)) (m ((c.tc : Thread nD τ).loc main_arg3)) := rfl

theorem kn_eq : Value.res_main_v86 (F := Ideal) (launchContents m c) = norm2Vec (kHeads (zOf m c)) (m ((c.tc : Thread nD τ).loc main_arg4)) := rfl

theorem qi_eq : Value.res_main_v120 (F := Ideal) (launchContents m c) = qiHeads (zOf m c) := rfl

theorem ki_eq : Value.res_main_v195 (F := Ideal) (launchContents m c) = kiVec (zOf m c) := rfl

/-- All twelve results. -/
theorem run (ρ : Dev nD → PrngReg) :
    θ_run defs (onTc (τ := τ) (main (F := Ideal))) ⟨m, fun _ => 0, ρ⟩ fun r => ∀ c : Dev nD,
      r.2.mem ((c.tc : Thread nD τ).loc main_v196) = aVec (zOf m c)
      ∧ r.2.mem ((c.tc : Thread nD τ).loc main_v200) = qVec (zOf m c) (m ((c.tc : Thread nD τ).loc main_arg3))
      ∧ r.2.mem ((c.tc : Thread nD τ).loc main_v193) = kVec (zOf m c) (m ((c.tc : Thread nD τ).loc main_arg4))
      ∧ r.2.mem ((c.tc : Thread nD τ).loc main_v194) = vVec (zOf m c)
      ∧ r.2.mem ((c.tc : Thread nD τ).loc main_v201) = truncf .bf16 (kVec (zOf m c) (m ((c.tc : Thread nD τ).loc main_arg4))) bitsLt_bf16_f32
      ∧ r.2.mem ((c.tc : Thread nD τ).loc main_v202) = truncf .bf16 (vVec (zOf m c)) bitsLt_bf16_f32
      ∧ r.2.mem ((c.tc : Thread nD τ).loc main_v204) = qiVec (zOf m c)
      ∧ r.2.mem ((c.tc : Thread nD τ).loc main_v195) = kiVec (zOf m c)
      ∧ r.2.mem ((c.tc : Thread nD τ).loc main_v206) = kiTwice (kiVec (zOf m c))
      ∧ r.2.mem ((c.tc : Thread nD τ).loc main_v208) = wiVec (zOf m c)
      ∧ r.2.mem ((c.tc : Thread nD τ).loc main_v216) = gaVec (zOf m c)
      ∧ r.2.mem ((c.tc : Thread nD τ).loc main_v224) = gbVec (zOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run (F := Ideal) m ρ)
  obtain ⟨h0, h1, h2, h3, h4, h5, h6, h7, h8, h9, h10, h11, ha⟩ := h c
  exact ⟨h0.trans rfl, h1.trans rfl, h2.trans rfl, h3.trans rfl, h4.trans rfl, h5.trans rfl, h6.trans rfl, h7.trans rfl, h8.trans rfl,
    h9.trans rfl, h10.trans rfl, h11.trans rfl, ha⟩

end Cert.InprojSRefIdeal.Own

end
-- ==== Proof.InprojS.Pre.lean ====
/- What the precondition says of the projection's weights: every entry is a real number. -/
module

public import proofs.«01_k».proof.Defs
public import proofs.«01_k».proof.Proof.Gen.Pre_inproj_finite_sample
public import proofs.«01_k».proof.Proof.InprojS.Reads
public import proofs.«01_k».proof.Proof.Merge.Pre

@[expose] public section

set_option maxRecDepth 16384

noncomputable section

namespace Cert.InprojSIdeal.Own

open Idealize.ShloMosaic Idealize.ShloMosaic.TcCoe Idealize.SL.Sem
open Cert.InprojSIdeal Cert.InprojSIdeal.Gen Cert.RouteOwn

/-- The precondition, taken apart. -/
theorem pre_real (m : (ℓ : Loc nD τ sig) → Buf (Elt Ideal) ℓ) (h : Pre_InprojSIdeal_inproj_finite_sample m) (c : Dev nD) :
    (∀ i, IsReal (arg1 m c i)) ∧ ∀ i, IsReal (arg2 m c i) := by
  have hall : ∀ j, Cert.Pre_inproj_finite_sample.fn (F := Ideal) (arg0 m c) (arg1 m c) (arg2 m c) (arg3 m c) (arg4 m c) j = 1#1 := fun j => congrFun (h c) j
  have e := hall ix0
  dsimp only [Cert.Pre_inproj_finite_sample.fn] at e
  obtain ⟨e1, e2⟩ := MergeIdeal.Own.and_one _ _ e
  refine ⟨fun i => ?_, fun i => ?_⟩
  · exact MergeIdeal.Own.real_of_abs _ (Host.reduce_andi_all _ _ _ _ _ e1 i)
  · exact MergeIdeal.Own.real_of_abs _ (Host.reduce_andi_all _ _ _ _ _ e2 i)

end Cert.InprojSIdeal.Own

end
-- ==== Proof.WkvS.Block.lean ====
/- The recurrence kernel's state block, in terms of the body's expressions. -/
module

public import proofs.«01_k».proof.Proof.Gen.WkvSIdeal.Value
public import Idealize.ShloMosaic.Lib.Pipeline.ValueKit
public import Idealize.ShloMosaic.Lib.Pipeline.ReadBack

@[expose] public section

set_option maxRecDepth 16384

noncomputable section

namespace Cert.WkvSIdeal.Own

open Idealize.ShloMosaic Idealize.ShloMosaic.TcCoe Idealize.SL.Sem
open Idealize.ShloMosaic.Pipeline (Dat)
open Cert.WkvSIdeal Cert.WkvSIdeal.Gen

section Names

variable (x0 : FVec Ideal S1x16x1792 .f32) (x1 : FVec Ideal S1x1x1792 .f32) (x2 : FVec Ideal S1x64x512 .f32) (x3 : FVec Ideal S1x1792 .f32)
  (x4 : FVec Ideal S1x512 .f32) (x5 x6 : FVec Ideal S128x1024 .bf16) (x7 x9 x10 : FVec Ideal S1x512 .f32) (x14 : FVec Ideal S128x128 .bf16)
  (x15 : FVec Ideal S64x512 .bf16)

/-- The log-decay of the block's sixteen rows. -/
def vL : FVec Ideal S16x512 .f32 := k0_pay17 (k0_pay11 x0 (k0_pay4 (F := Ideal) x1) x3) (k0_pay12 x5) (k0_pay13 x6) (k0_pay14 x0 (k0_pay4 (F := Ideal) x1) x3) (k0_pay15 x0 (k0_pay4 (F := Ideal) x1) x3) x4
/-- The in-context learning rate. -/
def vA : FVec Ideal S16x512 .f32 := k0_pay18 (k0_pay11 x0 (k0_pay4 (F := Ideal) x1) x3) (k0_pay12 x5) (k0_pay13 x6) (k0_pay14 x0 (k0_pay4 (F := Ideal) x1) x3) (k0_pay15 x0 (k0_pay4 (F := Ideal) x1) x3) x7
/-- The removal key. -/
def vK : FVec Ideal S16x512 .f32 :=
  have k := k0_pay9 x0 (k0_pay4 (F := Ideal) x1) x3
  k0_pay31 x14 (k0_pay22 k x9) (k0_pay23 k x9) (k0_pay24 k x14 x9) (k0_pay29 k x9) (k0_pay30 k x14 x9)
/-- The key that is added. -/
def vQ : FVec Ideal S16x512 .f32 := k0_pay32 (k0_pay9 x0 (k0_pay4 (F := Ideal) x1) x3) (vA x0 x1 x3 x5 x6 x7) x10
/-- The value. -/
def vV : FVec Ideal S16x512 .f32 := k0_pay10 x0 (k0_pay4 (F := Ideal) x1) x3
/-- The receptance, which the state does not depend on. -/
def vR : FVec Ideal S16x512 .f32 := k0_pay48 (k0_pay8 x0 (k0_pay4 (F := Ideal) x1) x3) (k0_pay39 (vL x0 x1 x3 x4 x5 x6))

end Names

section Chunk

variable (S : FVec Ideal S64x512 .f32) (r L A K Q V : FVec Ideal S16x512 .f32) (E : FVec Ideal S64x512 .bf16)

def cA : FVec Ideal S16x512 .f32 := k0_pay49 (k0_pay34 L) (k0_pay35 K) (k0_pay39 L)
def cB : FVec Ideal S16x512 .f32 := k0_pay50 A (k0_pay35 K) (k0_pay39 L)
def cK : FVec Ideal S16x512 .f32 := k0_pay51 (k0_pay36 Q) (k0_pay39 L)
def cBw : FVec Ideal S16x512 .f32 := k0_pay52 A (k0_pay35 K) k0_pay38 (k0_pay39 L) (k0_pay40 L) (k0_pay42 L) (k0_pay43 L)
def cKw : FVec Ideal S16x512 .f32 := k0_pay53 (k0_pay36 Q) k0_pay38 (k0_pay39 L) (k0_pay40 L) (k0_pay42 L) (k0_pay43 L)
def cAb : FVec Ideal S128x128 .f32 := k0_pay64 r (cA L K) (cB L A K) (cK L Q) k0_pay55 k0_pay57
def cAk : FVec Ideal S128x128 .bf16 := k0_pay65 r (cA L K) (cB L A K) (cK L Q) k0_pay55 k0_pay57
def cTa : FVec Ideal S128x512 .bf16 := k0_pay71 k0_pay59 (k0_pay61 (cA L K) k0_pay55) (cAb r L A K Q)
def cTav : FVec Ideal S128x64 .bf16 :=
  k0_pay72 k0_pay55 k0_pay59 E (cAb r L A K Q) (cAk r L A K Q) (k0_pay68 V) (Scalar.ofBits (F := Ideal) .f32 0x00000000#32)
def cVp : FVec Ideal S128x64 .bf16 := k0_pay69 k0_pay55 E (k0_pay68 V) (Scalar.ofBits (F := Ideal) .f32 0x00000000#32)
def cBwp : FVec Ideal S128x512 .bf16 := k0_pay73 (cBw L A K) k0_pay55

/-- The state after the chunk. -/
def chunk : FVec Ideal S64x512 .f32 :=
  have ta := cTa r L A K Q
  have b := cBwp L A K
  k0_pay89 (k0_pay54 k0_pay38 (k0_pay40 L) (k0_pay42 L) (k0_pay43 L)) S (k0_pay83 S) (k0_pay85 S (k0_pay77 ta b)) (k0_pay86 S (k0_pay78 ta b)) (k0_pay87 S)
    (k0_pay88 (k0_pay79 ta b)) (k0_pay81 (k0_pay80 ta b)) (k0_pay82 (cKw L Q) k0_pay55 (cVp V E) (cTav r L A K Q V E) b)

end Chunk

variable (m : (ℓ : Loc nD τ sig) → Buf (Elt Ideal) ℓ)

/-- What a grid point leaves in the state's block. -/
theorem blockOut (c : Dev nD) (t : Fin cfg0.N) : (outsAt0 m c t).2 = k0_pay2 (F := Ideal) (chunk (k0_pay3 (iblk m c 2 t))
      (vR (iblk m c 0 t) (iblk m c 1 t) (iblk m c 3 t) (iblk m c 4 t) (iblk m c 5 t) (iblk m c 6 t))
      (vL (iblk m c 0 t) (iblk m c 1 t) (iblk m c 3 t) (iblk m c 4 t) (iblk m c 5 t) (iblk m c 6 t))
      (vA (iblk m c 0 t) (iblk m c 1 t) (iblk m c 3 t) (iblk m c 5 t) (iblk m c 6 t) (iblk m c 7 t))
      (vK (iblk m c 0 t) (iblk m c 1 t) (iblk m c 3 t) (iblk m c 9 t) (iblk m c 14 t))
      (vQ (iblk m c 0 t) (iblk m c 1 t) (iblk m c 3 t) (iblk m c 5 t) (iblk m c 6 t) (iblk m c 7 t) (iblk m c 10 t))
      (vV (iblk m c 0 t) (iblk m c 1 t) (iblk m c 3 t)) (iblk m c 15 t)) := by
  unfold outsAt0
  dsimp only
  frame_open
  simp (disch := decide) only [↓ View.readCov_skip, ↓ View.readCov_cons_toLoadRect, ↓ View.readCov_fill]
  frame_out
  rfl

end Cert.WkvSIdeal.Own

end
-- ==== Proof.WkvS.Real.lean ====
/- The recurrence over real numbers: the chunk's closed form, with its inverse by repeated squaring, is the step-by-step state. -/
module

public import proofs.«01_k».proof.Proof.Merge.Spec
public import Mathlib.Data.Matrix.Mul
public import Mathlib.Algebra.BigOperators.Fin
public import Mathlib.Tactic.NoncommRing
public import Mathlib.Analysis.SpecialFunctions.Exp

@[expose] public section

noncomputable section

namespace Cert.WkvOwn

open Matrix

/-- Row `j` of head `h` among the packed rows. -/
def rw' (h : Fin 8) (j : Fin 16) : Fin 128 := ⟨16 * h.val + j.val, by omega⟩

/-- Column `d` of head `h`. -/
def cl (h : Fin 8) (d : Fin 64) : Fin 512 := ⟨64 * h.val + d.val, by omega⟩

theorem exists_rw (R : Fin 128) : ∃ h j, R = rw' h j :=
  ⟨⟨R.val / 16, by omega⟩, ⟨R.val % 16, by omega⟩, Fin.ext (by show R.val = 16 * (R.val / 16) + R.val % 16; omega)⟩

theorem exists_cl (l : Fin 512) : ∃ h d, l = cl h d :=
  ⟨⟨l.val / 64, by omega⟩, ⟨l.val % 64, by omega⟩, Fin.ext (by show l.val = 64 * (l.val / 64) + l.val % 64; omega)⟩

theorem sum_rw {M : Type} [AddCommMonoid M] (f : Fin 128 → M) : ∑ R, f R = ∑ h, ∑ j, f (rw' h j) := by
  rw [← Fintype.sum_prod_type' (fun h j => f (rw' h j))]
  refine (Fintype.sum_equiv (finProdFinEquiv (m := 8) (n := 16)) _ _ fun x => ?_).symm
  refine congrArg f (Fin.ext ?_)
  show 16 * x.1.val + x.2.val = x.2.val + 16 * x.1.val
  omega

theorem sum_cl {M : Type} [AddCommMonoid M] (f : Fin 512 → M) : ∑ l, f l = ∑ h, ∑ d, f (cl h d) := by
  rw [← Fintype.sum_prod_type' (fun h d => f (cl h d))]
  refine (Fintype.sum_equiv (finProdFinEquiv (m := 8) (n := 64)) _ _ fun x => ?_).symm
  refine congrArg f (Fin.ext ?_)
  show 64 * x.1.val + x.2.val = x.2.val + 64 * x.1.val
  omega

/-- The rows of sixteen tokens, once per head, with the other heads' columns cleared. -/
def pk (x : Fin 16 → Fin 512 → ℝ) (R : Fin 128) (l : Fin 512) : ℝ :=
  if R.val / 16 = l.val / 64 then x ⟨R.val % 16, by omega⟩ l else 0

theorem pk_rw (x : Fin 16 → Fin 512 → ℝ) (h h' : Fin 8) (j : Fin 16) (d : Fin 64) :
    pk x (rw' h j) (cl h' d) = if h = h' then x j (cl h' d) else 0 := by
  unfold pk
  have e : ((rw' h j).val / 16 = (cl h' d).val / 64) ↔ h = h' := by
    rw [Fin.ext_iff]; show (16 * h.val + j.val) / 16 = (64 * h'.val + d.val) / 64 ↔ _; omega
  have e2 : (⟨(rw' h j).val % 16, by omega⟩ : Fin 16) = j := Fin.ext (by show (16 * h.val + j.val) % 16 = j.val; omega)
  simp only [e, e2]

section Low

/-- Entries are 0 unless both numbers are of one head and the row is at least `k` below. -/
def Low (k : ℕ) (M : Matrix (Fin 128) (Fin 128) ℝ) : Prop :=
  ∀ R R' : Fin 128, (R.val / 16 ≠ R'.val / 16 ∨ R.val < R'.val + k) → M R R' = 0

theorem Low.mul {a b : ℕ} {M N : Matrix (Fin 128) (Fin 128) ℝ} (hM : Low a M) (hN : Low b N) : Low (a + b) (M * N) := by
  intro R R' h
  rw [Matrix.mul_apply]
  refine Finset.sum_eq_zero fun k _ => ?_
  by_cases h1 : R.val / 16 ≠ k.val / 16 ∨ R.val < k.val + a
  · rw [hM R k h1, zero_mul]
  · rw [hN k R' (by omega), mul_zero]

theorem Low.add {a : ℕ} {M N : Matrix (Fin 128) (Fin 128) ℝ} (hM : Low a M) (hN : Low a N) : Low a (M + N) := by
  intro R R' h
  rw [Matrix.add_apply, hM R R' h, hN R R' h, add_zero]

theorem Low.mono {a : ℕ} {M : Matrix (Fin 128) (Fin 128) ℝ} (hM : Low a M) : Low 0 M :=
  fun R R' h => hM R R' (by omega)

theorem Low.one : Low 0 (1 : Matrix (Fin 128) (Fin 128) ℝ) := by
  intro R R' h
  exact Matrix.one_apply_ne (by rintro rfl; omega)

theorem Low.eq_zero {M : Matrix (Fin 128) (Fin 128) ℝ} (hM : Low 16 M) : M = 0 := by
  ext R R'
  exact hM R R' (by omega)

variable (X : Matrix (Fin 128) (Fin 128) ℝ)

/-- The inverse of `1 - X`, as the kernel computes it. -/
def inv : Matrix (Fin 128) (Fin 128) ℝ :=
  let a1 := 1 + X
  let l1 := X * X
  let a2 := a1 + a1 * l1
  let l2 := l1 * l1
  let a3 := a2 + a2 * l2
  let l3 := l2 * l2
  a3 + a3 * l3

theorem inv_step {a l : Matrix (Fin 128) (Fin 128) ℝ} (h : (1 - X) * a = 1 - l) : (1 - X) * (a + a * l) = 1 - l * l := by
  rw [mul_add, ← mul_assoc, h]
  noncomm_ring

theorem inv_mul (hX : Low 1 X) : (1 - X) * inv X = 1 := by
  have h1 : (1 - X) * (1 + X) = 1 - X * X := by noncomm_ring
  have h4 := inv_step X (inv_step X (inv_step X h1))
  have l4 : Low 16 (((X * X) * (X * X)) * ((X * X) * (X * X)) * (((X * X) * (X * X)) * ((X * X) * (X * X)))) := by
    have := hX.mul hX
    have := this.mul this
    have := this.mul this
    exact this.mul this
  rw [l4.eq_zero, sub_zero] at h4
  exact h4

theorem inv_low (hX : Low 1 X) : Low 0 (inv X) := by
  have m : ∀ {M N : Matrix (Fin 128) (Fin 128) ℝ}, Low 0 M → Low 0 N → Low 0 (M * N) := fun a b => a.mul b
  have x0 := hX.mono
  have a1 := Low.one.add x0
  have l1 := m x0 x0
  have a2 := a1.add (m a1 l1)
  have l2 := m l1 l1
  have a3 := a2.add (m a2 l2)
  have l3 := m l2 l2
  exact a3.add (m a3 l3)

end Low

variable (S0 : Fin 64 → Fin 512 → ℝ) (L K Q A V : Fin 16 → Fin 512 → ℝ)

/-- The log-decay summed to a token, that token's included. -/
def cum (i : Fin 16) (l : Fin 512) : ℝ := ∑ j : Fin 16, if j.val ≤ i.val then L j l else 0
/-- The log-decay summed over the chunk. -/
def tot (l : Fin 512) : ℝ := ∑ j : Fin 16, L j l
def ah (i : Fin 16) (l : Fin 512) : ℝ := -K i l * Real.exp (cum L i l - L i l)
def bh (i : Fin 16) (l : Fin 512) : ℝ := K i l * A i l * Real.exp (-cum L i l)
def kh (i : Fin 16) (l : Fin 512) : ℝ := Q i l * Real.exp (-cum L i l)
def bw (i : Fin 16) (l : Fin 512) : ℝ := K i l * A i l * Real.exp (tot L l - cum L i l)
def kw (i : Fin 16) (l : Fin 512) : ℝ := Q i l * Real.exp (tot L l - cum L i l)

/-- The products of two packed arrays' rows, below the diagonal of each head. -/
def low (x y : Fin 16 → Fin 512 → ℝ) : Matrix (Fin 128) (Fin 128) ℝ := fun R R' =>
  if R.val / 16 = R'.val / 16 ∧ R'.val < R.val then ∑ l, pk x R l * pk y R' l else 0

theorem low_low (x y : Fin 16 → Fin 512 → ℝ) : Low 1 (low x y) := by
  intro R R' h
  exact if_neg (by omega)

theorem low_rw (x y : Fin 16 → Fin 512 → ℝ) (h h' : Fin 8) (i j : Fin 16) :
    low x y (rw' h i) (rw' h' j) = if h = h' then (if j.val < i.val then ∑ d, x i (cl h d) * y j (cl h d) else 0) else 0 := by
  unfold low
  by_cases e : h = h'
  · subst e
    have c : ((rw' h i).val / 16 = (rw' h j).val / 16 ∧ (rw' h j).val < (rw' h i).val) ↔ j.val < i.val := by
      show ((16 * h.val + i.val) / 16 = (16 * h.val + j.val) / 16 ∧ 16 * h.val + j.val < 16 * h.val + i.val) ↔ _
      omega
    simp only [c, if_true]
    refine if_congr Iff.rfl ?_ rfl
    rw [sum_cl, Finset.sum_eq_single h]
    · simp only [pk_rw, if_true]
    · intro g _ hg
      refine Finset.sum_eq_zero fun d _ => ?_
      rw [pk_rw, if_neg (Ne.symm hg), zero_mul]
    · simp
  · rw [if_neg e, if_neg]
    rintro ⟨h1, -⟩
    exact e (Fin.ext (by
      have h1 : (16 * h.val + i.val) / 16 = (16 * h'.val + j.val) / 16 := h1
      omega))

/-- The values' rows, once per head. -/
def vp (R : Fin 128) (n : Fin 64) : ℝ := V ⟨R.val % 16, by omega⟩ (cl ⟨R.val / 16, by omega⟩ n)

theorem vp_rw (h : Fin 8) (j : Fin 16) (n : Fin 64) : vp V (rw' h j) n = V j (cl h n) := by
  unfold vp
  have e1 : (⟨(rw' h j).val % 16, by omega⟩ : Fin 16) = j := Fin.ext (by show (16 * h.val + j.val) % 16 = j.val; omega)
  have e2 : (⟨(rw' h j).val / 16, by omega⟩ : Fin 8) = h := Fin.ext (by show (16 * h.val + j.val) / 16 = h.val; omega)
  rw [e1, e2]

abbrev T : Matrix (Fin 128) (Fin 128) ℝ := inv (low (ah L K) (bh L K A))
def ta (R : Fin 128) (l : Fin 512) : ℝ := ∑ R', T L K A R R' * pk (ah L K) R' l
def akv (R : Fin 128) (n : Fin 64) : ℝ := ∑ R', low (ah L K) (kh L Q) R R' * vp V R' n
def tav (R : Fin 128) (n : Fin 64) : ℝ := ∑ R', T L K A R R' * akv L K Q V R' n
def mm (l l' : Fin 512) : ℝ := ∑ R, ta L K A R l * pk (bw L K A) R l'
def cc (n : Fin 64) (l : Fin 512) : ℝ :=
  ∑ R, tav L K Q A V R n * pk (bw L K A) R l + ∑ R, vp V R n * pk (kw L Q) R l

/-- Lane `e` of the tile of two heads that column `l` lies in. -/
def tl (l : Fin 512) (e : Fin 128) : Fin 512 := ⟨128 * (l.val / 128) + e.val, by omega⟩

/-- The state after the chunk, as the kernel computes it. -/
def out (n : Fin 64) (l : Fin 512) : ℝ :=
  S0 n l * Real.exp (tot L l) + ∑ e, S0 n (tl l e) * mm L K A (tl l e) l + cc L K Q A V n l

/-- The state after `i` tokens, step by step. -/
def st : ℕ → Fin 64 → Fin 8 → Fin 64 → ℝ
  | 0, n, h, d => S0 n (cl h d)
  | i + 1, n, h, d =>
    if g : i < 16 then
      st i n h d * Real.exp (L ⟨i, g⟩ (cl h d))
        + (∑ e, st i n h e * -K ⟨i, g⟩ (cl h e)) * (K ⟨i, g⟩ (cl h d) * A ⟨i, g⟩ (cl h d))
        + V ⟨i, g⟩ (cl h n) * Q ⟨i, g⟩ (cl h d)
    else st i n h d

/-- What the step adds along the first key: the state times the removal key. -/
def u (R : Fin 128) (n : Fin 64) : ℝ := ∑ l, ta L K A R l * S0 n l + tav L K Q A V R n

theorem ta_zero (h h' : Fin 8) (j : Fin 16) (d : Fin 64) (e : h ≠ h') : ta L K A (rw' h j) (cl h' d) = 0 := by
  unfold ta
  rw [sum_rw]
  refine Finset.sum_eq_zero fun g _ => Finset.sum_eq_zero fun i _ => ?_
  rw [pk_rw]
  by_cases c : g = h'
  · have z : T L K A (rw' h j) (rw' g i) = 0 := inv_low _ (low_low _ _) (rw' h j) (rw' g i) (Or.inl fun x => e (Fin.ext (by
      have x : (16 * h.val + j.val) / 16 = (16 * g.val + i.val) / 16 := x
      have := congrArg Fin.val c
      omega)))
    rw [z, zero_mul]
  · rw [if_neg c, mul_zero]

theorem u_eq (R : Fin 128) (n : Fin 64) :
    u S0 L K Q A V R n = (∑ l, pk (ah L K) R l * S0 n l + akv L K Q V R n)
      + ∑ R', low (ah L K) (bh L K A) R R' * u S0 L K Q A V R' n := by
  set X := low (ah L K) (bh L K A) with hX
  let w : Fin 128 → ℝ := fun R => ∑ l, pk (ah L K) R l * S0 n l + akv L K Q V R n
  have hu : (fun R => u S0 L K Q A V R n) = (T L K A) *ᵥ w := by
    funext R
    show ∑ l, (∑ R', T L K A R R' * pk (ah L K) R' l) * S0 n l + ∑ R', T L K A R R' * akv L K Q V R' n
      = ∑ R', T L K A R R' * (∑ l, pk (ah L K) R' l * S0 n l + akv L K Q V R' n)
    simp only [mul_add, Finset.sum_add_distrib]
    refine congrArg (· + _) ?_
    simp only [Finset.sum_mul, Finset.mul_sum, mul_assoc]
    exact Finset.sum_comm
  have h1 : (1 - X) *ᵥ (fun R => u S0 L K Q A V R n) = w := by
    rw [hu, Matrix.mulVec_mulVec, inv_mul X (low_low _ _), Matrix.one_mulVec]
  rw [Matrix.sub_mulVec, Matrix.one_mulVec] at h1
  have h2 := congrFun h1 R
  have h3 : u S0 L K Q A V R n - ∑ R', X R R' * u S0 L K Q A V R' n = w R := h2
  show _ = w R + _
  rw [← h3]
  ring

theorem sum_pk (f : Fin 128 → ℝ) (x : Fin 16 → Fin 512 → ℝ) (h : Fin 8) (d : Fin 64) :
    ∑ R, f R * pk x R (cl h d) = ∑ j, f (rw' h j) * x j (cl h d) := by
  rw [sum_rw, Finset.sum_eq_single h]
  · simp only [pk_rw, if_true]
  · intro g _ hg
    refine Finset.sum_eq_zero fun d _ => ?_
    rw [pk_rw, if_neg hg, mul_zero]
  · simp

theorem pk_sum (f : Fin 512 → ℝ) (x : Fin 16 → Fin 512 → ℝ) (h : Fin 8) (j : Fin 16) :
    ∑ l, pk x (rw' h j) l * f l = ∑ d, x j (cl h d) * f (cl h d) := by
  rw [sum_cl, Finset.sum_eq_single h]
  · simp only [pk_rw, if_true]
  · intro g _ hg
    refine Finset.sum_eq_zero fun d _ => ?_
    rw [pk_rw, if_neg (Ne.symm hg), zero_mul]
  · simp

theorem low_sum (f : Fin 128 → ℝ) (x y : Fin 16 → Fin 512 → ℝ) (h : Fin 8) (i : Fin 16) :
    ∑ R, low x y (rw' h i) R * f R
      = ∑ j : Fin 16, if j.val < i.val then (∑ d, x i (cl h d) * y j (cl h d)) * f (rw' h j) else 0 := by
  rw [sum_rw, Finset.sum_eq_single h]
  · refine Finset.sum_congr rfl fun j _ => ?_
    rw [low_rw, if_pos rfl]
    split_ifs <;> simp
  · intro g _ hg
    refine Finset.sum_eq_zero fun d _ => ?_
    rw [low_rw, if_neg (Ne.symm hg), zero_mul]
  · simp

theorem u_rw (h : Fin 8) (i : Fin 16) (n : Fin 64) :
    u S0 L K Q A V (rw' h i) n = ∑ d, ah L K i (cl h d) * (S0 n (cl h d)
      + ∑ j : Fin 16, if j.val < i.val then u S0 L K Q A V (rw' h j) n * bh L K A j (cl h d) + V j (cl h n) * kh L Q j (cl h d) else 0) := by
  rw [u_eq, pk_sum, low_sum]
  unfold akv
  rw [low_sum]
  simp only [vp_rw, mul_add, Finset.sum_add_distrib]
  rw [add_assoc, ← Finset.sum_add_distrib]
  refine congrArg (_ + ·) ?_
  simp only [Finset.mul_sum]
  rw [Finset.sum_comm]
  refine Finset.sum_congr rfl fun j _ => ?_
  split_ifs
  · rw [Finset.sum_mul, Finset.sum_mul, ← Finset.sum_add_distrib]
    refine Finset.sum_congr rfl fun d _ => ?_
    ring
  · simp

/-- The log-decay summed to before token `i`. -/
def cumx (i : ℕ) (l : Fin 512) : ℝ := ∑ j : Fin 16, if j.val < i then L j l else 0

theorem sum_lt_succ (f : Fin 16 → ℝ) (i : ℕ) (g : i < 16) :
    (∑ j : Fin 16, if j.val < i + 1 then f j else 0) = (∑ j : Fin 16, if j.val < i then f j else 0) + f ⟨i, g⟩ := by
  rw [← Finset.sum_erase_add (a := (⟨i, g⟩ : Fin 16)) _ _ (Finset.mem_univ _),
    ← Finset.sum_erase_add (a := (⟨i, g⟩ : Fin 16)) (f := fun j : Fin 16 => if j.val < i then f j else 0) _ (Finset.mem_univ _)]
  simp only [lt_irrefl, if_false, add_zero, Nat.lt_succ_self, if_true]
  refine congrArg (· + _) (Finset.sum_congr rfl fun j hj => ?_)
  have : j.val ≠ i := fun e => (Finset.mem_erase.mp hj).1 (Fin.ext e)
  exact if_congr (by omega) rfl rfl

theorem cum_eq (i : ℕ) (g : i < 16) (l : Fin 512) : cum L ⟨i, g⟩ l = cumx L i l + L ⟨i, g⟩ l := by
  unfold cum cumx
  rw [← sum_lt_succ (fun j => L j l) i g]
  exact Finset.sum_congr rfl fun j _ => if_congr (by simp only [Nat.lt_succ_iff]) rfl rfl

theorem st_eq (i : ℕ) (hi : i ≤ 16) (n : Fin 64) (h : Fin 8) (d : Fin 64) :
    st S0 L K Q A V i n h d = Real.exp (cumx L i (cl h d)) * (S0 n (cl h d)
      + ∑ j : Fin 16, if j.val < i then u S0 L K Q A V (rw' h j) n * bh L K A j (cl h d) + V j (cl h n) * kh L Q j (cl h d) else 0) := by
  induction i generalizing d with
  | zero => simp [st, cumx]
  | succ i ih =>
    have g : i < 16 := hi
    have ih := ih (le_of_lt g)
    have hs : (∑ e, st S0 L K Q A V i n h e * -K ⟨i, g⟩ (cl h e)) = u S0 L K Q A V (rw' h ⟨i, g⟩) n := by
      rw [u_rw]
      refine Finset.sum_congr rfl fun e _ => ?_
      rw [ih]
      unfold ah
      rw [cum_eq, add_sub_cancel_right]
      ring
    rw [st, dif_pos g, hs, ih, sum_lt_succ _ i g]
    have hc : cumx L (i + 1) (cl h d) = cumx L i (cl h d) + L ⟨i, g⟩ (cl h d) := sum_lt_succ (fun j => L j (cl h d)) i g
    have hb : Real.exp (cumx L (i + 1) (cl h d)) * bh L K A ⟨i, g⟩ (cl h d) = K ⟨i, g⟩ (cl h d) * A ⟨i, g⟩ (cl h d) := by
      unfold bh
      rw [cum_eq, hc, mul_comm, mul_assoc, ← Real.exp_add, neg_add_cancel, Real.exp_zero, mul_one]
    have hk : Real.exp (cumx L (i + 1) (cl h d)) * kh L Q ⟨i, g⟩ (cl h d) = Q ⟨i, g⟩ (cl h d) := by
      unfold kh
      rw [cum_eq, hc, mul_comm, mul_assoc, ← Real.exp_add, neg_add_cancel, Real.exp_zero, mul_one]
    have he : Real.exp (cumx L (i + 1) (cl h d)) = Real.exp (cumx L i (cl h d)) * Real.exp (L ⟨i, g⟩ (cl h d)) := by
      rw [hc, Real.exp_add]
    rw [← hb, ← hk, he]
    ring

theorem sum_tl (h : Fin 8) (d : Fin 64) (f : Fin 512 → ℝ) (hf : ∀ g e, g ≠ h → f (cl g e) = 0) :
    ∑ e, f (tl (cl h d) e) = ∑ l, f l := by
  have key : ∀ l : Fin 512, l ∉ Finset.univ.image (tl (cl h d)) → f l = 0 := by
    intro l hl
    obtain ⟨g, e, rfl⟩ := exists_cl l
    refine hf g e fun c => hl ?_
    subst c
    refine Finset.mem_image.mpr ⟨⟨(64 * g.val + e.val) % 128, by omega⟩, Finset.mem_univ _, Fin.ext ?_⟩
    show 128 * ((64 * g.val + d.val) / 128) + (64 * g.val + e.val) % 128 = 64 * g.val + e.val
    omega
  have inj : Function.Injective (tl (cl h d)) := by
    intro a b hab
    have : 128 * ((cl h d).val / 128) + a.val = 128 * ((cl h d).val / 128) + b.val := congrArg Fin.val hab
    exact Fin.ext (by omega)
  rw [← Finset.sum_subset (Finset.subset_univ (Finset.univ.image (tl (cl h d)))) (fun l _ hl => key l hl),
    Finset.sum_image (fun a _ b _ hab => inj hab)]

theorem out_eq (n : Fin 64) (h : Fin 8) (d : Fin 64) : out S0 L K Q A V n (cl h d) = st S0 L K Q A V 16 n h d := by
  have hm : ∀ l, mm L K A l (cl h d) = ∑ j, ta L K A (rw' h j) l * bw L K A j (cl h d) := fun l => sum_pk _ _ h d
  have h1 : ∑ e, S0 n (tl (cl h d) e) * mm L K A (tl (cl h d) e) (cl h d)
      = ∑ j, (∑ l, ta L K A (rw' h j) l * S0 n l) * bw L K A j (cl h d) := by
    rw [sum_tl h d (fun l => S0 n l * mm L K A l (cl h d))]
    · simp only [hm, Finset.mul_sum, Finset.sum_mul]
      rw [Finset.sum_comm]
      exact Finset.sum_congr rfl fun j _ => Finset.sum_congr rfl fun l _ => by ring
    · intro g e hg
      show S0 n (cl g e) * mm L K A (cl g e) (cl h d) = 0
      rw [hm]
      refine mul_eq_zero_of_right _ (Finset.sum_eq_zero fun j _ => ?_)
      rw [ta_zero L K A h g j e (Ne.symm hg), zero_mul]
  have ht : tot L (cl h d) = cumx L 16 (cl h d) := by
    unfold tot cumx
    exact Finset.sum_congr rfl fun j _ => (if_pos j.isLt).symm
  rw [st_eq _ _ _ _ _ _ 16 le_rfl]
  unfold out cc
  rw [h1, sum_pk, sum_pk, ← ht, mul_add, Finset.mul_sum, mul_comm (S0 n (cl h d)), add_assoc, ← Finset.sum_add_distrib,
    ← Finset.sum_add_distrib]
  refine congrArg (_ + ·) (Finset.sum_congr rfl fun j _ => ?_)
  rw [if_pos j.isLt, vp_rw]
  have e : Real.exp (tot L (cl h d) - cum L j (cl h d)) = Real.exp (tot L (cl h d)) * Real.exp (-cum L j (cl h d)) := by
    rw [← Real.exp_add, sub_eq_add_neg]
  unfold bw kw bh kh u
  rw [e]
  ring

/-- Tokens that decay nothing and add nothing leave the state. -/
theorem st_four (hL : ∀ i l, 4 ≤ i.val → L i l = 0) (hK : ∀ i l, 4 ≤ i.val → K i l = 0) (hQ : ∀ i l, 4 ≤ i.val → Q i l = 0)
    (n : Fin 64) (h : Fin 8) (d : Fin 64) : st S0 L K Q A V 16 n h d = st S0 L K Q A V 4 n h d := by
  have key : ∀ i, 4 ≤ i → st S0 L K Q A V i n h d = st S0 L K Q A V 4 n h d := by
    intro i hi
    induction i, hi using Nat.le_induction with
    | base => rfl
    | succ i hi ih =>
      rw [st]
      split_ifs with g
      · rw [hL _ _ hi, hK _ (cl h d) hi, hQ _ _ hi, ih]
        simp
      · exact ih
  exact key 16 (by norm_num)

end Cert.WkvOwn

end
-- ==== Proof.WkvS.Bits.lean ====
/- Which of the kernel's masks hold at which element. -/
module

public import proofs.«01_k».proof.Proof.Gen.WkvSIdeal.Skeleton
public import Idealize.ShloMosaic.Lib.KernelVsHost
public import Idealize.ShloMosaic.Lib.Pointwise

@[expose] public section

set_option maxRecDepth 16384

noncomputable section

namespace Cert.WkvSIdeal.Own

open Idealize.ShloMosaic Idealize.ShloMosaic.TcCoe Idealize.SL.Sem
open Cert.WkvSIdeal Cert.WkvSIdeal.Gen

theorem select_if {α : Type} (p : Prop) [Decidable p] (x y : α) :
    Scalar.select (BitVec.ofBool (decide p)) x y = if p then x else y := by
  by_cases h : p
  · simp [h, Scalar.select]
  · simp [h, Scalar.select]

theorem pay33_apply (i : Fin 16) (l : Fin 512) : k0_pay33 (ix2 i l) = BitVec.ofBool (decide (i.val < 4)) := by
  pointwise [k0_pay33]
  exact (by decide +kernel : ∀ i : Fin 16, IntOp.cmpi CmpIPredicate.slt (BitVec.ofNat 32 i.val) 4#32 = BitVec.ofBool (decide (i.val < 4))) i

theorem pay37_apply (i j : Fin 16) : k0_pay37 (ix2 i j) = 1#1 := by
  pointwise [k0_pay37]
  exact (by decide +kernel : ∀ i j : Fin 16, IntOp.cmpi CmpIPredicate.eq (IntOp.shrsi .vector (BitVec.ofNat 32 i.val) 4#32) (IntOp.shrsi .vector (BitVec.ofNat 32 j.val) 4#32) = 1#1) i j

theorem le16 : ∀ i j : Fin 16, IntOp.andi 1#1 (IntOp.cmpi CmpIPredicate.sle (BitVec.ofNat 32 j.val) (BitVec.ofNat 32 i.val)) = BitVec.ofBool (decide (j.val ≤ i.val)) := by
  decide +kernel

theorem pay55_apply (R : Fin 128) (l : Fin 512) : k0_pay55 (ix2 R l) = BitVec.ofBool (decide (R.val / 16 = l.val / 64)) := by
  pointwise [k0_pay55]
  rw [(by decide +kernel : ∀ R : Fin 128, IntOp.shrsi .vector (BitVec.ofNat 32 R.val) 4#32 = BitVec.ofNat 32 (R.val / 16)) R,
    (by decide +kernel : ∀ l : Fin 512, IntOp.shrsi .vector (BitVec.ofNat 32 l.val) 6#32 = BitVec.ofNat 32 (l.val / 64)) l]
  exact (by decide +kernel : ∀ a b : Fin 8, IntOp.cmpi CmpIPredicate.eq (BitVec.ofNat 32 a.val) (BitVec.ofNat 32 b.val) = BitVec.ofBool (decide (a.val = b.val)))
    ⟨R.val / 16, by omega⟩ ⟨l.val / 64, by omega⟩

theorem pay57_apply (R R' : Fin 128) : k0_pay57 (ix2 R R') = BitVec.ofBool (decide (R.val / 16 = R'.val / 16 ∧ R'.val < R.val)) := by
  pointwise [k0_pay57, k0_pay56]
  exact (by decide +kernel : ∀ R R' : Fin 128, IntOp.andi (IntOp.cmpi CmpIPredicate.eq (IntOp.shrsi .vector (BitVec.ofNat 32 R.val) 4#32) (IntOp.shrsi .vector (BitVec.ofNat 32 R'.val) 4#32))
    (IntOp.cmpi CmpIPredicate.slt (BitVec.ofNat 32 R'.val) (BitVec.ofNat 32 R.val)) = BitVec.ofBool (decide (R.val / 16 = R'.val / 16 ∧ R'.val < R.val))) R R'

theorem eq128 : ∀ R R' : Fin 128, IntOp.cmpi CmpIPredicate.eq (BitVec.ofNat 32 R.val) (BitVec.ofNat 32 R'.val) = BitVec.ofBool (decide (R = R')) := by
  decide +kernel

theorem lt64 : ∀ k : Fin 128, IntOp.cmpi CmpIPredicate.slt (BitVec.ofNat 32 k.val) 64#32 = BitVec.ofBool (decide (k.val < 64)) := by
  decide +kernel

theorem eq0 : ∀ i : Fin 16, IntOp.cmpi CmpIPredicate.eq (BitVec.ofNat 32 i.val) 0#32 = BitVec.ofBool (decide (i.val = 0)) := by
  decide +kernel

end Cert.WkvSIdeal.Own

end
-- ==== Proof.WkvS.PayB.lean ====
/- The chunk's vector expressions over real numbers. -/
module

public import proofs.«01_k».proof.Proof.Gen.WkvSIdeal.Skeleton
public import proofs.«01_k».proof.Proof.WkvS.Real
public import proofs.«01_k».proof.Proof.WkvS.Bits
public import Idealize.ShloMosaic.Lib.KernelVsHost
public import Idealize.ShloMosaic.Lib.Pointwise
public import Idealize.ShloMosaic.Lib.Pipeline.Value

@[expose] public section

set_option maxRecDepth 16384

noncomputable section

namespace Cert.WkvSIdeal.Own

open Idealize.ShloMosaic Idealize.ShloMosaic.TcCoe Idealize.SL.Sem
open Cert.WkvSIdeal Cert.WkvSIdeal.Gen Cert.WkvOwn Cert.RouteOwn

/-- An array of two axes holds the real numbers `f`. -/
abbrev Is {a b : ℕ} (X : (⟨2, ![a, b]⟩ : Shape).Idx → EReal) (f : Fin a → Fin b → ℝ) : Prop :=
  ∀ i l, X (ix2 i l) = ((f i l : ℝ) : EReal)

theorem csum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem csub (x : ℝ) : (x : EReal) - x = 0 := by
  rw [← EReal.coe_sub, sub_self, EReal.coe_zero]

theorem cif (p : Prop) [Decidable p] (x : ℝ) : (if p then (x : EReal) else 0) = ((if p then x else 0 : ℝ) : EReal) := by
  split_ifs <;> rfl

theorem cexp (x : ℝ) : Ideal.exp (x : EReal) = ((Real.exp x : ℝ) : EReal) := rfl

section Row

variable {L K Q A : Fin 16 → Fin 512 → ℝ}

/-- The first four rows of an array. -/
def four (f : Fin 16 → Fin 512 → ℝ) (i : Fin 16) (l : Fin 512) : ℝ := if i.val < 4 then f i l else 0

theorem pay34_is {X : FVec Ideal S16x512 .f32} {f : Fin 16 → Fin 512 → ℝ} (h : Is X f) : Is (k0_pay34 (F := Ideal) X) (four f) := by
  intro i l
  pointwise [k0_pay34]
  rw [pay33_apply, select_if, h, cif]
  rfl

theorem pay35_is {X : FVec Ideal S16x512 .f32} {f : Fin 16 → Fin 512 → ℝ} (h : Is X f) : Is (k0_pay35 (F := Ideal) X) (four f) := pay34_is h
theorem pay36_is {X : FVec Ideal S16x512 .f32} {f : Fin 16 → Fin 512 → ℝ} (h : Is X f) : Is (k0_pay36 (F := Ideal) X) (four f) := pay34_is h

theorem pay39_is {X : FVec Ideal S16x512 .f32} {f : Fin 16 → Fin 512 → ℝ} (h : Is X f) : Is (k0_pay39 (F := Ideal) X) (cum (four f)) := by
  have h4 := pay34_is h
  revert h4
  unfold k0_pay39
  generalize k0_pay34 (F := Ideal) X = Y
  intro h4 i l
  pointwise
  simp only [pay37_apply, le16, select_if, h4, csub, sub_zero, ite_self, Finset.sum_const_zero, add_zero, cif, csum]
  rfl

theorem pay44_is {X : FVec Ideal S16x512 .f32} {f : Fin 16 → Fin 512 → ℝ} (h : Is X f) :
    Is (k0_pay44 (F := Ideal) k0_pay38 (k0_pay40 X) (k0_pay42 X) (k0_pay43 X)) (fun _ => tot (four f)) := by
  have h4 := pay34_is h
  revert h4
  unfold k0_pay44 k0_pay43 k0_pay42 k0_pay41 k0_pay40 k0_pay38
  generalize k0_pay34 (F := Ideal) X = Y
  intro h4 i l
  pointwise
  have one : ∀ x y : EReal, Scalar.select 1#1 x y = x := fun _ _ => rfl
  simp only [pay37_apply, one, h4, csub, sub_zero, Finset.sum_const_zero, add_zero, csum]
  rfl

variable {x71 x66 x78 x179 c : FVec Ideal S16x512 .f32}

theorem pay49_is (hl : Is x66 L) (hk : Is x71 K) (hc : Is c (cum L)) : Is (k0_pay49 (F := Ideal) x66 x71 c) (ah L K) := by
  intro i l
  pointwise [k0_pay49]
  rw [hl, hk, hc, ← EReal.coe_sub, cexp, zero_sub, ← EReal.coe_neg, ← EReal.coe_mul]
  rfl

theorem pay50_is (ha : Is x78 A) (hk : Is x71 K) (hc : Is c (cum L)) : Is (k0_pay50 (F := Ideal) x78 x71 c) (bh L K A) := by
  intro i l
  pointwise [k0_pay50, k0_pay45, k0_pay46]
  rw [ha, hk, hc, zero_sub, ← EReal.coe_neg, cexp, ← EReal.coe_mul, ← EReal.coe_mul]
  rfl

theorem pay51_is (hq : Is x179 Q) (hc : Is c (cum L)) : Is (k0_pay51 (F := Ideal) x179 c) (kh L Q) := by
  intro i l
  pointwise [k0_pay51, k0_pay46]
  rw [hq, hc, zero_sub, ← EReal.coe_neg, cexp, ← EReal.coe_mul]
  rfl

variable {w196 : FVec Ideal S16x16 .bf16} {w211 w214 : FVec Ideal S16x512 .bf16} {w216 : FVec Ideal S16x512 .f32}

theorem pay52_is (ha : Is x78 A) (hk : Is x71 K) (hc : Is c (cum L))
    (ht : Is (k0_pay44 (F := Ideal) w196 w211 w214 w216) (fun _ => tot L)) :
    Is (k0_pay52 (F := Ideal) x78 x71 w196 c w211 w214 w216) (bw L K A) := by
  revert ht
  unfold k0_pay52 k0_pay45 k0_pay47
  generalize k0_pay44 (F := Ideal) w196 w211 w214 w216 = T
  intro ht i l
  pointwise
  rw [ha, hk, hc, ht, ← EReal.coe_sub, cexp, ← EReal.coe_mul, ← EReal.coe_mul]
  rfl

theorem pay53_is (hq : Is x179 Q) (hc : Is c (cum L))
    (ht : Is (k0_pay44 (F := Ideal) w196 w211 w214 w216) (fun _ => tot L)) :
    Is (k0_pay53 (F := Ideal) x179 w196 c w211 w214 w216) (kw L Q) := by
  revert ht
  unfold k0_pay53 k0_pay47
  generalize k0_pay44 (F := Ideal) w196 w211 w214 w216 = T
  intro ht i l
  pointwise
  rw [hq, hc, ht, ← EReal.coe_sub, cexp, ← EReal.coe_mul]
  rfl

theorem pay54_is (ht : Is (k0_pay44 (F := Ideal) w196 w211 w214 w216) (fun _ => tot L)) :
    Is (k0_pay54 (F := Ideal) w196 w211 w214 w216) (fun _ l => Real.exp (tot L l)) := by
  revert ht
  unfold k0_pay54
  generalize k0_pay44 (F := Ideal) w196 w211 w214 w216 = T
  intro ht i l
  pointwise
  rw [ht, cexp]

end Row

/-- Sixteen rows repeated eight times. -/
theorem tile_apply (x : FVec Ideal S16x512 .f32) (h) (R : Fin 128) (l : Fin 512) :
    concatenate S128x512 0 [⟨S16x512, x⟩, ⟨S16x512, x⟩, ⟨S16x512, x⟩, ⟨S16x512, x⟩, ⟨S16x512, x⟩, ⟨S16x512, x⟩, ⟨S16x512, x⟩, ⟨S16x512, x⟩] h
      (ix2 R l) = x (ix2 ⟨R.val % 16, by omega⟩ l) := by
  refine concatenate_replicate_apply (t := S128x512) (s₁ := S16x512) 0 8 x h rfl (ix2 R l) (ix2 ⟨R.val % 16, by omega⟩ l) rfl ?_
  intro b hb
  fin_cases b
  · exact absurd rfl hb
  · rfl

theorem pay61_is {x : FVec Ideal S16x512 .f32} {f : Fin 16 → Fin 512 → ℝ} (h : Is x f) : Is (k0_pay61 (F := Ideal) x k0_pay55) (pk f) := by
  intro R l
  have e := tile_apply x concatenates_S16x512_S16x512_S16x512_S16x512_S16x512_S16x512_S16x512_S16x512_S128x512_d0 R l
  revert e
  unfold k0_pay61
  generalize concatenate S128x512 0 _ _ = y
  intro e
  pointwise
  rw [e, pay55_apply, select_if, h, cif]
  rfl

theorem pay73_is {x : FVec Ideal S16x512 .f32} {f : Fin 16 → Fin 512 → ℝ} (h : Is x f) : Is (k0_pay73 (F := Ideal) x k0_pay55) (pk f) := pay61_is h

theorem cdot {n : ℕ} (f g : Fin n → ℝ) : ∑ k, ((f k : ℝ) : EReal) * ((g k : ℝ) : EReal) = ((∑ k, f k * g k : ℝ) : EReal) := by
  simp only [← EReal.coe_mul]
  exact csum _

/-- The products of the packed rows. -/
theorem pay63_eq (r a b k : FVec Ideal S16x512 .f32) (w : IVec S128x512 1) :
    k0_pay63 (F := Ideal) r a b k w = matmul dot_S256x512_S256x512_S256x256_1_1_0_0_n_n none
      (concatenate S256x512 0 [⟨S128x512, k0_pay61 a w⟩, ⟨S128x512, k0_pay62 r w⟩] concatenates_S128x512_S128x512_S256x512_d0)
      (concatenate S256x512 0 [⟨S128x512, k0_pay61 b w⟩, ⟨S128x512, k0_pay61 k w⟩] concatenates_S128x512_S128x512_S256x512_d0)
      (constant S256x256 .f32 0x00000000#32) := rfl

theorem pay64_is {a b : FVec Ideal S16x512 .f32} {f g : Fin 16 → Fin 512 → ℝ} (r k : FVec Ideal S16x512 .f32) (ha : Is a f) (hb : Is b g) :
    Is (k0_pay64 (F := Ideal) r a b k k0_pay55 k0_pay57) (low f g) := by
  have ha := pay61_is ha
  have hb := pay61_is hb
  revert ha hb
  unfold k0_pay64
  rw [pay63_eq]
  generalize k0_pay61 (F := Ideal) a k0_pay55 = A
  generalize k0_pay61 (F := Ideal) b k0_pay55 = B
  generalize k0_pay61 (F := Ideal) k k0_pay55 = K
  generalize k0_pay62 (F := Ideal) r k0_pay55 = R
  intro ha hb i j
  pointwise
  rw [pay57_apply, select_if]
  simp only [i.isLt, j.isLt, ↓reduceDIte, Fin.eta, ha, hb]
  rw [cdot, cif]
  rfl

theorem pay65_is {a k : FVec Ideal S16x512 .f32} {f g : Fin 16 → Fin 512 → ℝ} (r b : FVec Ideal S16x512 .f32) (ha : Is a f) (hb : Is k g) :
    Is (k0_pay65 (F := Ideal) r a b k k0_pay55 k0_pay57) (low f g) := by
  have ha := pay61_is ha
  have hb := pay61_is hb
  revert ha hb
  unfold k0_pay65
  rw [pay63_eq]
  generalize k0_pay61 (F := Ideal) a k0_pay55 = A
  generalize k0_pay61 (F := Ideal) b k0_pay55 = B
  generalize k0_pay61 (F := Ideal) k k0_pay55 = K
  generalize k0_pay62 (F := Ideal) r k0_pay55 = R
  intro ha hb i j
  pointwise
  rw [pay57_apply, select_if]
  have hj : ¬ (128 + j.val < 128) := by omega
  have hj' : ∀ h, (⟨128 + j.val - 128, h⟩ : Fin 128) = j := fun h => Fin.ext (by show 128 + j.val - 128 = j.val; omega)
  simp only [i.isLt, ↓reduceDIte, Fin.eta, ha, hj, hj', hb]
  rw [cdot, cif]
  rfl

theorem pay69_is {x : FVec Ideal S16x512 .f32} {V : Fin 16 → Fin 512 → ℝ} (hx : Is x V) {E : FVec Ideal S64x512 .bf16}
    (hE : ∀ n l, E (ix2 n l) = if l.val % 64 = n.val then 1 else 0) :
    Is (k0_pay69 (F := Ideal) k0_pay55 E (k0_pay68 x) (Scalar.ofBits (F := Ideal) .f32 0x00000000#32)) (vp V) := by
  have hv := fun R l => (tile_apply x concatenates_S16x512_S16x512_S16x512_S16x512_S16x512_S16x512_S16x512_S16x512_S128x512_d0 R l).trans (hx _ l)
  have hv : ∀ R l, k0_pay68 (F := Ideal) x (ix2 R l) = ((V ⟨R.val % 16, by omega⟩ l : ℝ) : EReal) := hv
  revert hv
  unfold k0_pay69
  generalize k0_pay68 (F := Ideal) x = T
  intro hv R n
  pointwise
  simp only [pay55_apply, select_if, hv, hE]
  rw [Finset.sum_eq_single (cl ⟨R.val / 16, by omega⟩ n)]
  · have h1 : (cl ⟨R.val / 16, by omega⟩ n).val % 64 = n.val := by show (64 * (R.val / 16) + n.val) % 64 = n.val; omega
    have h2 : R.val / 16 = (cl ⟨R.val / 16, by omega⟩ n).val / 64 := by show R.val / 16 = (64 * (R.val / 16) + n.val) / 64; omega
    rw [if_pos h2, if_pos h1, mul_one]
    rfl
  · intro l _ hl
    by_cases h1 : l.val % 64 = n.val
    · rw [if_neg (fun h2 : R.val / 16 = l.val / 64 => hl (Fin.ext (by show l.val = 64 * (R.val / 16) + n.val; omega)))]
    · rw [if_neg h1, mul_zero, ite_self]
  · simp

theorem add_is {X Y : FVec Ideal S128x128 .f32} {M N : Matrix (Fin 128) (Fin 128) ℝ} (hX : Is X M) (hY : Is Y N) : Is (addf X Y) (M + N) := by
  intro i j
  pointwise
  rw [hX, hY, ← EReal.coe_add]
  rfl

theorem mul_is {X Y : FVec Ideal S128x128 .bf16} {M N : Matrix (Fin 128) (Fin 128) ℝ} (hX : Is X M) (hY : Is Y N) :
    Is (matmul dot_S128x128_S128x128_S128x128_1_0_0_1_n_n none X Y (constant S128x128 .f32 0x00000000#32)) (M * N) := by
  intro i j
  pointwise
  simp only [hX, hY]
  rw [cdot]
  rfl

theorem pay59_is : Is (k0_pay59 (F := Ideal)) (1 : Matrix (Fin 128) (Fin 128) ℝ) := by
  intro i j
  pointwise [k0_pay59]
  rw [eq128, select_if, Matrix.one_apply]
  split_ifs <;> rfl

theorem pay70_is {X : FVec Ideal S128x128 .f32} {M : Matrix (Fin 128) (Fin 128) ℝ} (hX : Is X M) :
    Is (k0_pay70 (F := Ideal) k0_pay59 X) (inv M) := by
  have hB : Is (truncf .bf16 X bitsLt_bf16_f32 : FVec Ideal S128x128 .bf16) M := hX
  have l1 := mul_is hB hB
  have a1 := add_is pay59_is hX
  have t : ∀ {Y : FVec Ideal S128x128 .f32} {N : Matrix (Fin 128) (Fin 128) ℝ}, Is Y N → Is (truncf .bf16 Y bitsLt_bf16_f32 : FVec Ideal S128x128 .bf16) N := fun h => h
  have a2 := add_is a1 (mul_is (t a1) (t l1))
  have l2 := mul_is (t l1) (t l1)
  have a3 := add_is a2 (mul_is (t a2) (t l2))
  have l3 := mul_is (t l2) (t l2)
  exact t (add_is a3 (mul_is (t a3) (t l3)))

theorem pay71_is {X : FVec Ideal S128x128 .f32} {M : Matrix (Fin 128) (Fin 128) ℝ} (hX : Is X M) {P : FVec Ideal S128x512 .bf16}
    {p : Fin 128 → Fin 512 → ℝ} (hP : Is P p) : Is (k0_pay71 (F := Ideal) k0_pay59 P X) (fun R l => ∑ R', inv M R R' * p R' l) := by
  have hT := pay70_is hX
  revert hT
  unfold k0_pay71
  generalize k0_pay70 (F := Ideal) k0_pay59 X = T
  intro hT R l
  pointwise
  simp only [hT, hP, cdot]

theorem pay72_is {X : FVec Ideal S128x128 .f32} {M : Matrix (Fin 128) (Fin 128) ℝ} (hX : Is X M) {Y : FVec Ideal S128x128 .bf16}
    {N : Matrix (Fin 128) (Fin 128) ℝ} (hY : Is Y N) {E : FVec Ideal S64x512 .bf16} {T : FVec Ideal S128x512 .f32} {cst : Ideal .f32} {v : Fin 128 → Fin 64 → ℝ}
    (hv : Is (k0_pay69 (F := Ideal) k0_pay55 E T cst) v) :
    Is (k0_pay72 (F := Ideal) k0_pay55 k0_pay59 E X Y T cst) (fun R n => ∑ R', inv M R R' * ∑ R'', N R' R'' * v R'' n) := by
  have hT := pay70_is hX
  revert hT hv
  unfold k0_pay72
  generalize k0_pay70 (F := Ideal) k0_pay59 X = T
  generalize k0_pay69 (F := Ideal) k0_pay55 E _ cst = W
  intro hv hT R n
  pointwise
  simp only [hT, hY, hv, cdot]

section Tiles

variable {X Y : FVec Ideal S128x512 .bf16} {f g : Fin 128 → Fin 512 → ℝ}

theorem pay77_is (hX : Is X f) (hY : Is Y g) (e e' : Fin 128) : k0_pay77 (F := Ideal) X Y (ix4 0 0 e e')
    = ((∑ R, f R ⟨e.val, by omega⟩ * g R ⟨e'.val, by omega⟩ : ℝ) : EReal) := by
  pointwise [k0_pay77]
  simp only [hX, hY, cdot]

theorem pay78_is (hX : Is X f) (hY : Is Y g) (e e' : Fin 128) : k0_pay78 (F := Ideal) X Y (ix4 0 0 e e')
    = ((∑ R, f R ⟨128 + e.val, by omega⟩ * g R ⟨128 + e'.val, by omega⟩ : ℝ) : EReal) := by
  pointwise [k0_pay78]
  simp only [hX, hY, cdot]

theorem pay79_is (hX : Is X f) (hY : Is Y g) (e e' : Fin 128) : k0_pay79 (F := Ideal) X Y (ix4 0 0 e e')
    = ((∑ R, f R ⟨256 + e.val, by omega⟩ * g R ⟨256 + e'.val, by omega⟩ : ℝ) : EReal) := by
  pointwise [k0_pay79]
  simp only [hX, hY, cdot]

theorem pay81_is (hX : Is X f) (hY : Is Y g) (e e' : Fin 128) : k0_pay81 (F := Ideal) (k0_pay80 X Y) (ix4 0 0 e e')
    = ((∑ R, f R ⟨384 + e.val, by omega⟩ * g R ⟨384 + e'.val, by omega⟩ : ℝ) : EReal) := by
  pointwise [k0_pay81, k0_pay80]
  simp only [hX, hY, cdot]

theorem pay82_eq (x : FVec Ideal S16x512 .f32) (w : IVec S128x512 1) (V T : FVec Ideal S128x64 .bf16) (B : FVec Ideal S128x512 .bf16) :
    k0_pay82 (F := Ideal) x w V T B = shapeCast S1x64x512 (matmul dot_S256x64_S256x512_S64x512_0_0_1_1_n_n none
      (concatenate S256x64 0 [⟨S128x64, T⟩, ⟨S128x64, V⟩] concatenates_S128x64_S128x64_S256x64_d0)
      (concatenate S256x512 0 [⟨S128x512, B⟩, ⟨S128x512, k0_pay61 x w⟩] concatenates_S128x512_S128x512_S256x512_d0)
      (constant S64x512 .f32 0x00000000#32)) shapeCasts_S64x512_S1x64x512 := rfl

theorem pay82_is {x : FVec Ideal S16x512 .f32} {h : Fin 16 → Fin 512 → ℝ} (hx : Is x h) {V T : FVec Ideal S128x64 .bf16} {v t : Fin 128 → Fin 64 → ℝ}
    (hV : Is V v) (hT : Is T t) (hY : Is Y g) (n : Fin 64) (l : Fin 512) : k0_pay82 (F := Ideal) x k0_pay55 V T Y (ix3 0 n l)
      = ((∑ R, t R n * g R l + ∑ R, v R n * pk h R l : ℝ) : EReal) := by
  have hx := pay61_is hx
  revert hx
  rw [pay82_eq]
  generalize k0_pay61 (F := Ideal) x k0_pay55 = B
  intro hx
  pointwise
  simp only [hT, hV, hx, hY, cdot, ← EReal.coe_add]

end Tiles

theorem pay89_is {W : FVec Ideal S16x512 .f32} {S : FVec Ideal S64x512 .f32} {m0 m1 m2 m3 : FVec Ideal S1x1x128x128 .bf16} {C : FVec Ideal S1x64x512 .f32}
    {w : Fin 512 → ℝ} {s c : Fin 64 → Fin 512 → ℝ} {μ : Fin 512 → Fin 512 → ℝ} (hW : Is W (fun _ => w)) (hS : Is S s)
    (h0 : ∀ e e' : Fin 128, m0 (ix4 0 0 e e') = ((μ ⟨e.val, by omega⟩ ⟨e'.val, by omega⟩ : ℝ) : EReal))
    (h1 : ∀ e e' : Fin 128, m1 (ix4 0 0 e e') = ((μ ⟨128 + e.val, by omega⟩ ⟨128 + e'.val, by omega⟩ : ℝ) : EReal))
    (h2 : ∀ e e' : Fin 128, m2 (ix4 0 0 e e') = ((μ ⟨256 + e.val, by omega⟩ ⟨256 + e'.val, by omega⟩ : ℝ) : EReal))
    (h3 : ∀ e e' : Fin 128, m3 (ix4 0 0 e e') = ((μ ⟨384 + e.val, by omega⟩ ⟨384 + e'.val, by omega⟩ : ℝ) : EReal))
    (hC : ∀ n l, C (ix3 0 n l) = ((c n l : ℝ) : EReal)) (n : Fin 64) (l : Fin 512) :
    k0_pay89 (F := Ideal) W S (k0_pay83 S) (k0_pay85 S m0) (k0_pay86 S m1) (k0_pay87 S) (k0_pay88 m2) m3 C (ix2 n l)
      = ((s n l * w l + ∑ e, s n (tl l e) * μ (tl l e) l + c n l : ℝ) : EReal) := by
  pointwise [k0_pay89, k0_pay83, k0_pay85, k0_pay86, k0_pay87, k0_pay88]
  simp only [hS, h0, h1, h2, h3, hC, cdot]
  rw [hW, EReal.coe_add, EReal.coe_add, EReal.coe_mul]
  refine congrArg₂ (· + ·) (congrArg₂ (· + ·) rfl ?_) rfl
  by_cases g0 : l.val < 128
  · refine (dif_pos g0).trans ?_
    exact congrArg _ (Finset.sum_congr rfl fun e _ => by
        have a : (⟨e.val, by omega⟩ : Fin 512) = tl l e := Fin.ext (by show e.val = 128 * (l.val / 128) + e.val; omega)
        have b : (⟨l.val, by omega⟩ : Fin 512) = l := Fin.ext (by show l.val = l.val; omega)
        exact congrArg₂ (· * ·) (congrArg (s n) a) (congrArg₂ μ a b))
  refine (dif_neg g0).trans ?_
  by_cases g1 : l.val - 128 < 128
  · refine (dif_pos g1).trans ?_
    exact congrArg _ (Finset.sum_congr rfl fun e _ => by
        have a : (⟨128 + e.val, by omega⟩ : Fin 512) = tl l e := Fin.ext (by show 128 + e.val = 128 * (l.val / 128) + e.val; omega)
        have b : (⟨128 + (l.val - 128), by omega⟩ : Fin 512) = l := Fin.ext (by show 128 + (l.val - 128) = l.val; omega)
        exact congrArg₂ (· * ·) (congrArg (s n) a) (congrArg₂ μ a b))
  refine (dif_neg g1).trans ?_
  by_cases g2 : l.val - 128 - 128 < 128
  · refine (dif_pos g2).trans ?_
    exact congrArg _ (Finset.sum_congr rfl fun e _ => by
        have a : (⟨256 + e.val, by omega⟩ : Fin 512) = tl l e := Fin.ext (by show 256 + e.val = 128 * (l.val / 128) + e.val; omega)
        have b : (⟨256 + (l.val - 128 - 128), by omega⟩ : Fin 512) = l := Fin.ext (by show 256 + (l.val - 128 - 128) = l.val; omega)
        exact congrArg₂ (· * ·) (congrArg (s n) a) (congrArg₂ μ a b))
  refine (dif_neg g2).trans ?_
  exact congrArg _ (Finset.sum_congr rfl fun e _ => by
        have a : (⟨384 + e.val, by omega⟩ : Fin 512) = tl l e := Fin.ext (by show 384 + e.val = 128 * (l.val / 128) + e.val; omega)
        have b : (⟨384 + (l.val - 128 - 128 - 128), by omega⟩ : Fin 512) = l := Fin.ext (by show 384 + (l.val - 128 - 128 - 128) = l.val; omega)
        exact congrArg₂ (· * ·) (congrArg (s n) a) (congrArg₂ μ a b))

end Cert.WkvSIdeal.Own

end
-- ==== Proof.WkvS.Chunk.lean ====
/- The state after the chunk, over real numbers. -/
module

public import proofs.«01_k».proof.Proof.WkvS.Block
public import proofs.«01_k».proof.Proof.WkvS.PayB

@[expose] public section

noncomputable section

namespace Cert.WkvSIdeal.Own

open Idealize.ShloMosaic Idealize.ShloMosaic.TcCoe Idealize.SL.Sem
open Cert.WkvSIdeal Cert.WkvSIdeal.Gen Cert.WkvOwn

theorem chunk_is {S : FVec Ideal S64x512 .f32} (r : FVec Ideal S16x512 .f32) {L A K Q V : FVec Ideal S16x512 .f32} {E : FVec Ideal S64x512 .bf16}
    {s : Fin 64 → Fin 512 → ℝ} {l a k q v : Fin 16 → Fin 512 → ℝ} (hS : Is S s) (hL : Is L l) (hA : Is A a) (hK : Is K k) (hQ : Is Q q) (hV : Is V v)
    (hE : ∀ n l, E (ix2 n l) = if l.val % 64 = n.val then 1 else 0) :
    Is (chunk S r L A K Q V E) (out s (four l) (four k) (four q) a v) := by
  have hl := pay34_is hL
  have hk := pay35_is hK
  have hq := pay36_is hQ
  have hc := pay39_is hL
  have ht := pay44_is hL
  have ha := pay49_is hl hk hc
  have hb := pay50_is hA hk hc
  have hh := pay51_is hq hc
  have hbw := pay52_is hA hk hc ht
  have hkw := pay53_is hq hc ht
  have hab := pay64_is r (cK L Q) ha hb
  have hak := pay65_is r (cB L A K) ha hh
  have hta := pay71_is hab (pay61_is ha)
  have hvp := pay69_is hV hE
  have htav := pay72_is hab hak hvp
  have hbp := pay73_is hbw
  intro n x
  exact pay89_is (w := fun x => Real.exp (tot (four l) x)) (μ := mm (four l) (four k) a) (pay54_is ht) hS (pay77_is hta hbp) (pay78_is hta hbp)
    (pay79_is hta hbp) (pay81_is hta hbp) (pay82_is hkw hvp htav hbp) n x

end Cert.WkvSIdeal.Own

end
-- ==== Proof.WkvS.Spec.lean ====
/- The recurrence's rows over real numbers. -/
module

public import proofs.«01_k».proof.Proof.WkvS.Real
public import Idealize.ShloMosaic.Lib.KernelVsHost

@[expose] public section

noncomputable section

namespace Cert.WkvOwn

open Idealize.ShloMosaic

theorem lit_half : Ideal.ofBits FTy.f32 0x3F000000#32 = ((1 / 2 : ℝ) : EReal) := by
  simp [Ideal.ofBits, Ideal.ieee]
  rw [← EReal.coe_mul]
  norm_num

theorem lit_eps' : ∃ r : ℝ, 0 < r ∧ Ideal.ofBits FTy.f32 0x2B8CBCCC#32 = (r : EReal) := by
  refine ⟨9223372 * (2 ^ 63)⁻¹, by positivity, ?_⟩
  simp [Ideal.ofBits, Ideal.ieee]

/-- The least length a key is divided by. -/
def eps : ℝ := lit_eps'.choose
theorem eps_pos : 0 < eps := lit_eps'.choose_spec.1
theorem lit_eps : Ideal.ofBits FTy.f32 0x2B8CBCCC#32 = (eps : EReal) := lit_eps'.choose_spec.2

/-- A token's row mixed with the one before it. -/
def mix (z p mu : Fin 1792 → ℝ) (c : Fin 1792) : ℝ := z c + mu c * (p c - z c)

/-- The rows mixed, `p` standing before the first. -/
def zs (z : Fin 16 → Fin 1792 → ℝ) (p mu : Fin 1792 → ℝ) (i : Fin 16) : Fin 1792 → ℝ :=
  mix (z i) (if i.val = 0 then p else z ⟨i.val - 1, by omega⟩) mu

section Row

variable (x : Fin 1792 → ℝ) (w0 : Fin 512 → ℝ) (wd : Fin 64 → Fin 512 → ℝ) (a0 : Fin 512 → ℝ) (wa : Fin 64 → Fin 512 → ℝ) (kk ka : Fin 512 → ℝ)

def rU (l : Fin 512) : ℝ := -(w0 l + ∑ k : Fin 64, Real.tanh (x ⟨1536 + k.val, by omega⟩) * wd k l)
/-- The logarithm of the decay, from `u`. -/
def lw (u : ℝ) : ℝ := -Real.exp (-(max u 0 + Real.log (1 + Real.exp (-|u|))) - 1 / 2)
def rL (l : Fin 512) : ℝ := lw (rU x w0 wd l)
/-- The in-context learning rate. -/
def rA (l : Fin 512) : ℝ := 1 / (1 + Real.exp (-(a0 l + ∑ k : Fin 64, x ⟨1600 + k.val, by omega⟩ * wa k l)))
def rKr (l : Fin 512) : ℝ := x ⟨512 + l.val, by omega⟩ * kk l
/-- The removal key, of length one within its head. -/
def rK (l : Fin 512) : ℝ :=
  rKr x kk l / max (Real.sqrt (∑ e : Fin 64, rKr x kk (cl ⟨l.val / 64, by omega⟩ e) * rKr x kk (cl ⟨l.val / 64, by omega⟩ e))) eps
def rQ (l : Fin 512) : ℝ := x ⟨512 + l.val, by omega⟩ * (1 + (rA x a0 wa l - 1) * ka l)
def rV (l : Fin 512) : ℝ := x ⟨1024 + l.val, by omega⟩

end Row

/-! ### The same expressions over the extended reals -/

theorem cmax (x y : ℝ) : max (x : EReal) y = ((max x y : ℝ) : EReal) := (EReal.coe_strictMono.monotone.map_max).symm

theorem cabs (x : ℝ) : max (x : EReal) (-x) = ((|x| : ℝ) : EReal) := by
  rw [← EReal.coe_neg, cmax]; rfl

theorem cdiv {x y : ℝ} (h : 0 < y) : Ideal.div (x : EReal) y = ((x / y : ℝ) : EReal) := by
  unfold Ideal.div
  rw [if_neg (by rw [← EReal.coe_zero, EReal.coe_eq_coe_iff]; exact h.ne'), ← EReal.coe_inv, ← EReal.coe_mul, div_eq_mul_inv]

theorem csqrt {x : ℝ} (h : 0 ≤ x) : Ideal.sqrt (x : EReal) = ((Real.sqrt x : ℝ) : EReal) := by
  show (if x < 0 then ⊥ else ((Real.sqrt x : ℝ) : EReal)) = _
  rw [if_neg (by linarith)]

theorem clog1p (x : ℝ) : Ideal.log1p (Ideal.exp (x : EReal)) = ((Real.log (1 + Real.exp x) : ℝ) : EReal) := by
  show Ideal.log (1 + ((Real.exp x : ℝ) : EReal)) = _
  rw [← EReal.coe_one, ← EReal.coe_add]
  show (if 1 + Real.exp x ≤ 0 then ⊥ else ((Real.log (1 + Real.exp x) : ℝ) : EReal)) = _
  rw [if_neg (by have := Real.exp_pos x; linarith)]

theorem cexp' (x : ℝ) : Ideal.exp (x : EReal) = ((Real.exp x : ℝ) : EReal) := rfl

theorem csum' {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem clw (u : ℝ) : -Ideal.exp (-(max (u : EReal) 0 + Ideal.log1p (Ideal.exp (-((|u| : ℝ) : EReal)))) - ((1 / 2 : ℝ) : EReal)) = ((lw u : ℝ) : EReal) := by
  rw [← EReal.coe_neg, clog1p, ← EReal.coe_zero, cmax, ← EReal.coe_add, ← EReal.coe_neg, ← EReal.coe_sub, cexp', ← EReal.coe_neg]
  rfl

theorem ctanh (x : ℝ) : Ideal.tanh (x : EReal) = ((Real.tanh x : ℝ) : EReal) := rfl

/-- The decay's logarithm as the programs print it. -/
theorem clw' (u : ℝ) : -Ideal.exp (-(max (u : EReal) 0 + Ideal.log1p (Ideal.exp (-max (u : EReal) (-(u : EReal))))) - Ideal.ofBits FTy.f32 0x3F000000#32) = ((lw u : ℝ) : EReal) := by
  rw [lit_half, cabs, clw]

theorem cl_eq (h : Fin 8) (d : Fin 64) (p : h.val * 64 + d.val < 512) : (⟨h.val * 64 + d.val, p⟩ : Fin 512) = cl h d :=
  Fin.ext (by show h.val * 64 + d.val = 64 * h.val + d.val; omega)

theorem csum_ite {n : ℕ} (p : Fin n → Prop) [DecidablePred p] (f : Fin n → ℝ) :
    ∑ x, (if p x then ((f x : ℝ) : EReal) else 0) = ((∑ x, if p x then f x else 0 : ℝ) : EReal) := by
  rw [← csum']
  exact Finset.sum_congr rfl fun x _ => by split_ifs <;> rfl

/-- A sum over the lanes of a tile that lie in one of its two heads. -/
theorem head_sum (g : Fin 512 → ℝ) (l : Fin 512) (c : ℕ) (hc : c = l.val % 128 / 64) (i : Fin 128 → Fin 512)
    (hi : ∀ x, (i x).val = 128 * (l.val / 128) + x.val) :
    ∑ x : Fin 128, (if x.val / 64 = c then ((g (i x) : ℝ) : EReal) else 0) = ((∑ e : Fin 64, g (cl ⟨l.val / 64, by omega⟩ e) : ℝ) : EReal) := by
  rw [csum_ite]
  refine congrArg _ ?_
  rw [Fin.sum_univ_add (a := 64) (b := 64) (fun x : Fin 128 => if x.val / 64 = c then g (i x) else 0)]
  rcases (by omega : c = 0 ∨ c = 1) with h | h
  · have e2 : ∑ x : Fin 64, (if (Fin.natAdd 64 x : Fin 128).val / 64 = c then g (i (Fin.natAdd 64 x)) else 0) = 0 :=
      Finset.sum_eq_zero fun x _ => if_neg (by show ¬(64 + x.val) / 64 = c; omega)
    rw [e2, add_zero]
    refine Finset.sum_congr rfl fun x _ => (if_pos (by show x.val / 64 = c; omega)).trans (congrArg g (Fin.ext ?_))
    rw [hi]
    show 128 * (l.val / 128) + x.val = 64 * (l.val / 64) + x.val
    omega
  · have e2 : ∑ x : Fin 64, (if (Fin.castAdd 64 x : Fin 128).val / 64 = c then g (i (Fin.castAdd 64 x)) else 0) = 0 :=
      Finset.sum_eq_zero fun x _ => if_neg (by show ¬x.val / 64 = c; omega)
    rw [e2, zero_add]
    refine Finset.sum_congr rfl fun x _ => (if_pos (by show (64 + x.val) / 64 = c; omega)).trans (congrArg g (Fin.ext ?_))
    rw [hi]
    show 128 * (l.val / 128) + (64 + x.val) = 64 * (l.val / 64) + x.val
    omega

/-- The removal key as the programs print it. -/
theorem ckey (x : Fin 512 → ℝ) (l : Fin 512) (S : EReal) (h : S = ((∑ e : Fin 64, x (cl ⟨l.val / 64, by omega⟩ e) * x (cl ⟨l.val / 64, by omega⟩ e) : ℝ) : EReal)) :
    Ideal.div (x l : EReal) (max (Ideal.sqrt S) (Ideal.ofBits FTy.f32 0x2B8CBCCC#32))
      = ((x l / max (Real.sqrt (∑ e : Fin 64, x (cl ⟨l.val / 64, by omega⟩ e) * x (cl ⟨l.val / 64, by omega⟩ e))) eps : ℝ) : EReal) := by
  rw [h, csqrt (Finset.sum_nonneg fun e _ => mul_self_nonneg _), lit_eps, cmax, cdiv (lt_max_of_lt_right eps_pos)]

theorem csig (x : ℝ) : Ideal.div 1 (1 + Ideal.exp (-(x : EReal))) = ((1 / (1 + Real.exp (-x)) : ℝ) : EReal) := by
  rw [← EReal.coe_neg, cexp', ← EReal.coe_one, ← EReal.coe_add, cdiv (by have := Real.exp_pos (-x); linarith)]

end Cert.WkvOwn

end
-- ==== Proof.WkvS.PayA.lean ====
/- The rows of a grid point over real numbers. -/
module

public import proofs.«01_k».proof.Proof.WkvS.Spec
public import proofs.«01_k».proof.Proof.WkvS.PayB

@[expose] public section

set_option maxRecDepth 16384

noncomputable section

namespace Cert.WkvSIdeal.Own

open Idealize.ShloMosaic Idealize.ShloMosaic.TcCoe Idealize.SL.Sem
open Cert.WkvSIdeal Cert.WkvSIdeal.Gen Cert.WkvOwn

section Mix

variable {x0 : FVec Ideal S1x16x1792 .f32} {x1 x3 : FVec Ideal S1x1792 .f32} {z : Fin 16 → Fin 1792 → ℝ} {p mu : Fin 1792 → ℝ}

theorem pay7_is (h0 : ∀ i c, x0 (ix3 0 i c) = ((z i c : ℝ) : EReal)) (h1 : ∀ c, x1 (ix2 0 c) = ((p c : ℝ) : EReal))
    (h3 : ∀ c, x3 (ix2 0 c) = ((mu c : ℝ) : EReal)) : Is (k0_pay7 (F := Ideal) x0 x1 x3) (zs z p mu) := by
  intro i c
  pointwise [k0_pay7, k0_pay5]
  rw [eq0, select_if]
  unfold zs mix
  by_cases g : i.val = 0
  · rw [if_pos g, if_pos g, h0, h1, h3, ← EReal.coe_sub, ← EReal.coe_mul, ← EReal.coe_add]
  · have e : (⟨(i.val + 16 - 1) % 16, by omega⟩ : Fin 16) = ⟨i.val - 1, by omega⟩ := Fin.ext (by show (i.val + 16 - 1) % 16 = i.val - 1; omega)
    rw [if_neg g, if_neg g, h0, h0, h3, e, ← EReal.coe_sub, ← EReal.coe_mul, ← EReal.coe_add]

variable (h : Is (k0_pay7 (F := Ideal) x0 x1 x3) (zs z p mu))
include h

theorem pay9_is : Is (k0_pay9 (F := Ideal) x0 x1 x3) (fun i l => zs z p mu i ⟨512 + l.val, by omega⟩) := by
  intro i l
  unfold k0_pay9
  revert h
  generalize k0_pay7 (F := Ideal) x0 x1 x3 = Z
  intro h
  pointwise
  exact h _ _

theorem pay10_is : Is (k0_pay10 (F := Ideal) x0 x1 x3) (fun i l => rV (zs z p mu i) l) := by
  intro i l
  unfold k0_pay10
  revert h
  generalize k0_pay7 (F := Ideal) x0 x1 x3 = Z
  intro h
  pointwise
  exact h _ _

/-- The two low-rank projections' inputs side by side. -/
def act (x : Fin 1792 → ℝ) (k : Fin 128) : ℝ := if k.val < 64 then Real.tanh (x ⟨1536 + k.val, by omega⟩) else x ⟨1536 + k.val, by omega⟩

theorem pay11_is : Is (k0_pay11 (F := Ideal) x0 x1 x3) (fun i k => act (zs z p mu i) k) := by
  intro i k
  unfold k0_pay11
  revert h
  generalize k0_pay7 (F := Ideal) x0 x1 x3 = Z
  intro h
  pointwise
  rw [h]
  rw [lt64, select_if, ctanh]
  unfold act
  split_ifs <;> rfl

end Mix

section Rates

variable {w31 : FVec Ideal S16x128 .f32} {x5 x6 : FVec Ideal S128x1024 .bf16} {x : Fin 16 → Fin 1792 → ℝ} {wd wa : Fin 64 → Fin 512 → ℝ}

theorem pay16_is (h : Is w31 (fun i k => act (x i) k)) {M : Fin 128 → Fin 1024 → ℝ} (h5 : Is x5 M) (h6 : ∀ k c, x6 (ix2 k c) = 0) :
    Is (k0_pay16 (F := Ideal) w31 (k0_pay12 x5) (k0_pay13 x6) (truncf .bf16 w31 bitsLt_bf16_f32) w31) (fun i c => ∑ k, act (x i) k * M k c) := by
  intro i c
  pointwise [k0_pay16, k0_pay12, k0_pay13]
  simp only [h, h5, h6]
  simp only [csub, zero_mul, mul_zero, Finset.sum_const_zero, add_zero, cdot]

theorem pay17_is {w36 : FVec Ideal S16x128 .bf16} {w37 : FVec Ideal S16x128 .f32} {x4 : FVec Ideal S1x512 .f32} {g : Fin 16 → Fin 1024 → ℝ} {w0 : Fin 512 → ℝ}
    (h : Is (k0_pay16 (F := Ideal) w31 x5 x6 w36 w37) g) (h4 : ∀ l, x4 (ix2 0 l) = ((w0 l : ℝ) : EReal)) :
    Is (k0_pay17 (F := Ideal) w31 x5 x6 w36 w37 x4) (fun i l => lw (-(w0 l + g i ⟨l.val, by omega⟩))) := by
  intro i l
  unfold k0_pay17
  revert h
  generalize k0_pay16 (F := Ideal) w31 x5 x6 w36 w37 = Z
  intro h
  pointwise
  rw [h, h4]
  simp only [zero_sub]
  rw [← EReal.coe_add, ← EReal.coe_neg]
  exact clw' _

theorem pay18_is {w36 : FVec Ideal S16x128 .bf16} {w37 : FVec Ideal S16x128 .f32} {x7 : FVec Ideal S1x512 .f32} {g : Fin 16 → Fin 1024 → ℝ} {a0 : Fin 512 → ℝ}
    (h : Is (k0_pay16 (F := Ideal) w31 x5 x6 w36 w37) g) (h7 : ∀ l, x7 (ix2 0 l) = ((a0 l : ℝ) : EReal)) :
    Is (k0_pay18 (F := Ideal) w31 x5 x6 w36 w37 x7) (fun i l => 1 / (1 + Real.exp (-(a0 l + g i ⟨512 + l.val, by omega⟩)))) := by
  intro i l
  unfold k0_pay18
  revert h
  generalize k0_pay16 (F := Ideal) w31 x5 x6 w36 w37 = Z
  intro h
  pointwise
  rw [h, h7]
  rw [zero_sub, ← EReal.coe_add]
  exact csig _

end Rates

section Keys

variable {w24 : FVec Ideal S16x512 .f32} {x9 : FVec Ideal S1x512 .f32} {x14 : FVec Ideal S128x128 .bf16} {k : Fin 16 → Fin 512 → ℝ} {kk : Fin 512 → ℝ}

theorem pay22_is (h : Is w24 k) (h9 : ∀ l, x9 (ix2 0 l) = ((kk l : ℝ) : EReal)) : Is (k0_pay22 (F := Ideal) w24 x9) (fun i l => k i l * kk l) := by
  intro i l
  pointwise [k0_pay22]
  rw [h, h9, ← EReal.coe_mul]

theorem pay31_is {f : Fin 16 → Fin 512 → ℝ} (h : Is (k0_pay22 (F := Ideal) w24 x9) f)
    (hO : ∀ e e', x14 (ix2 e e') = if e.val / 64 = e'.val / 64 then 1 else 0) :
    Is (k0_pay31 (F := Ideal) x14 (k0_pay22 w24 x9) (k0_pay23 w24 x9) (k0_pay24 w24 x14 x9) (k0_pay29 w24 x9) (k0_pay30 w24 x14 x9))
      (fun i l => f i l / max (Real.sqrt (∑ e : Fin 64, f i (cl ⟨l.val / 64, by omega⟩ e) * f i (cl ⟨l.val / 64, by omega⟩ e))) eps) := by
  intro i l
  unfold k0_pay24 k0_pay29 k0_pay30 k0_pay28 k0_pay27 k0_pay26 k0_pay25 k0_pay23
  revert h
  generalize k0_pay22 (F := Ideal) w24 x9 = Y
  intro h
  pointwise [k0_pay31]
  simp only [h, hO]
  simp only [← EReal.coe_mul, csub, sub_zero, zero_mul, Finset.sum_const_zero, add_zero, mul_ite, mul_one, mul_zero, ite_self]
  refine ckey (f i) l _ ?_
  by_cases g0 : l.val < 128
  · exact (dif_pos g0).trans (head_sum (fun y => f i y * f i y) l _ (by omega) (fun x => ⟨x.val, by omega⟩) fun x => by show x.val = _; omega)
  refine (dif_neg g0).trans ?_
  by_cases g1 : l.val - 128 < 128
  · exact (dif_pos g1).trans (head_sum (fun y => f i y * f i y) l _ (by omega) (fun x => ⟨128 + x.val, by omega⟩) fun x => by show 128 + x.val = _; omega)
  refine (dif_neg g1).trans ?_
  by_cases g2 : l.val - 128 - 128 < 128
  · exact (dif_pos g2).trans (head_sum (fun y => f i y * f i y) l _ (by omega) (fun x => ⟨256 + x.val, by omega⟩) fun x => by show 256 + x.val = _; omega)
  exact (dif_neg g2).trans (head_sum (fun y => f i y * f i y) l _ (by omega) (fun x => ⟨384 + x.val, by omega⟩) fun x => by show 384 + x.val = _; omega)

theorem pay32_is {w78 : FVec Ideal S16x512 .f32} {x10 : FVec Ideal S1x512 .f32} {a : Fin 16 → Fin 512 → ℝ} {ka : Fin 512 → ℝ} (h : Is w24 k)
    (ha : Is w78 a) (h10 : ∀ l, x10 (ix2 0 l) = ((ka l : ℝ) : EReal)) :
    Is (k0_pay32 (F := Ideal) w24 w78 x10) (fun i l => k i l * (1 + (a i l - 1) * ka l)) := by
  intro i l
  pointwise [k0_pay32]
  rw [h, ha, h10]
  rw [← EReal.coe_one, ← EReal.coe_sub, ← EReal.coe_mul, ← EReal.coe_add, ← EReal.coe_mul]

end Keys

end Cert.WkvSIdeal.Own

end
-- ==== Proof.WkvS.Lit.lean ====
/- The constant matrices of the recurrence kernel: which entries are 1. -/
module

public import proofs.«01_k».proof.WkvSIdeal
public import Idealize.ShloMosaic.Lib.Pointwise

@[expose] public section

set_option maxRecDepth 16384

namespace Cert.WkvSIdeal.Own

open Idealize.ShloMosaic Cert.WkvSIdeal

theorem lit0_apply : ∀ k l : Fin 128, lit0 (S128x128.rowMajor (ix2 k l)) = if k.val / 64 = l.val / 64 then 0x3F80#16 else 0#16 := by
  decide +kernel

theorem lit1_0 : ∀ (n : Fin 8) (l : Fin 512), lit1 (S64x512.rowMajor (ix2 ⟨0 + n.val, by omega⟩ l)) = if l.val % 64 = 0 + n.val then 0x3F80#16 else 0#16 := by
  decide +kernel

end Cert.WkvSIdeal.Own
-- ==== Proof.WkvS.LitB.lean ====
/- The constant matrices of the recurrence kernel: which entries are 1 (rows 8–15, 16–23). -/
module

public import proofs.«01_k».proof.WkvSIdeal
public import Idealize.ShloMosaic.Lib.Pointwise

@[expose] public section

set_option maxRecDepth 16384

namespace Cert.WkvSIdeal.Own

open Idealize.ShloMosaic Cert.WkvSIdeal

theorem lit1_1 : ∀ (n : Fin 8) (l : Fin 512), lit1 (S64x512.rowMajor (ix2 ⟨8 + n.val, by omega⟩ l)) = if l.val % 64 = 8 + n.val then 0x3F80#16 else 0#16 := by
  decide +kernel

theorem lit1_2 : ∀ (n : Fin 8) (l : Fin 512), lit1 (S64x512.rowMajor (ix2 ⟨16 + n.val, by omega⟩ l)) = if l.val % 64 = 16 + n.val then 0x3F80#16 else 0#16 := by
  decide +kernel

end Cert.WkvSIdeal.Own
-- ==== Proof.WkvS.LitC.lean ====
/- The constant matrices of the recurrence kernel: which entries are 1 (rows 24–31, 32–39). -/
module

public import proofs.«01_k».proof.WkvSIdeal
public import Idealize.ShloMosaic.Lib.Pointwise

@[expose] public section

set_option maxRecDepth 16384

namespace Cert.WkvSIdeal.Own

open Idealize.ShloMosaic Cert.WkvSIdeal

theorem lit1_3 : ∀ (n : Fin 8) (l : Fin 512), lit1 (S64x512.rowMajor (ix2 ⟨24 + n.val, by omega⟩ l)) = if l.val % 64 = 24 + n.val then 0x3F80#16 else 0#16 := by
  decide +kernel

theorem lit1_4 : ∀ (n : Fin 8) (l : Fin 512), lit1 (S64x512.rowMajor (ix2 ⟨32 + n.val, by omega⟩ l)) = if l.val % 64 = 32 + n.val then 0x3F80#16 else 0#16 := by
  decide +kernel

end Cert.WkvSIdeal.Own
-- ==== Proof.WkvS.LitD.lean ====
/- The constant matrices of the recurrence kernel: which entries are 1 (rows 40–47). -/
module

public import proofs.«01_k».proof.WkvSIdeal
public import Idealize.ShloMosaic.Lib.Pointwise

@[expose] public section

set_option maxRecDepth 16384

namespace Cert.WkvSIdeal.Own

open Idealize.ShloMosaic Cert.WkvSIdeal

theorem lit1_5 : ∀ (n : Fin 8) (l : Fin 512), lit1 (S64x512.rowMajor (ix2 ⟨40 + n.val, by omega⟩ l)) = if l.val % 64 = 40 + n.val then 0x3F80#16 else 0#16 := by
  decide +kernel

end Cert.WkvSIdeal.Own
-- ==== Proof.WkvS.LitE.lean ====
/- The constant matrices of the recurrence kernel: which entries are 1 (rows 48–55). -/
module

public import proofs.«01_k».proof.WkvSIdeal
public import Idealize.ShloMosaic.Lib.Pointwise

@[expose] public section

set_option maxRecDepth 16384

namespace Cert.WkvSIdeal.Own

open Idealize.ShloMosaic Cert.WkvSIdeal

theorem lit1_6 : ∀ (n : Fin 8) (l : Fin 512), lit1 (S64x512.rowMajor (ix2 ⟨48 + n.val, by omega⟩ l)) = if l.val % 64 = 48 + n.val then 0x3F80#16 else 0#16 := by
  decide +kernel

end Cert.WkvSIdeal.Own
-- ==== Proof.WkvS.LitG.lean ====
/- The constant matrices of the recurrence kernel: which entries are 1 (rows 56–63). -/
module

public import proofs.«01_k».proof.WkvSIdeal
public import Idealize.ShloMosaic.Lib.Pointwise

@[expose] public section

set_option maxRecDepth 16384

namespace Cert.WkvSIdeal.Own

open Idealize.ShloMosaic Cert.WkvSIdeal

theorem lit1_7 : ∀ (n : Fin 8) (l : Fin 512), lit1 (S64x512.rowMajor (ix2 ⟨56 + n.val, by omega⟩ l)) = if l.val % 64 = 56 + n.val then 0x3F80#16 else 0#16 := by
  decide +kernel

end Cert.WkvSIdeal.Own
-- ==== Proof.WkvS.Reads.lean ====
/- What the recurrence kernel's windows read, from the arguments and from the arrays that the host lays out. -/
module

public import proofs.«01_k».proof.Proof.Gen.WkvSIdeal.Value
public import proofs.«01_k».proof.Proof.WkvS.Lit
public import proofs.«01_k».proof.Proof.WkvS.LitB
public import proofs.«01_k».proof.Proof.WkvS.LitC
public import proofs.«01_k».proof.Proof.WkvS.LitD
public import proofs.«01_k».proof.Proof.WkvS.LitE
public import proofs.«01_k».proof.Proof.WkvS.LitG
public import proofs.«01_k».proof.Proof.WkvS.Real
public import Idealize.ShloMosaic.Lib.Pipeline.ValueKit
public import Idealize.ShloMosaic.Lib.KernelVsHost
public import Idealize.ShloMosaic.Lib.Pointwise

@[expose] public section

set_option maxRecDepth 16384

noncomputable section

namespace Cert.WkvSIdeal.Own

open Idealize.ShloMosaic Idealize.ShloMosaic.TcCoe Idealize.SL.Sem
open Idealize.ShloMosaic.Pipeline (Dat)
open Cert.WkvSIdeal Cert.WkvSIdeal.Gen Cert.WkvOwn

variable (m : (ℓ : Loc nD τ sig) → Buf (Elt Ideal) ℓ)

/-- Where each window's block lies at a grid point: the rows and the state move, the weights stay. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0] ∧ win0_7.index t = ![0, 0]
    ∧ win0_9.index t = ![0, 0] ∧ win0_10.index t = ![0, 0] ∧ win0_14.index t = ![0, 0] ∧ win0_15.index t = ![0, 0]
    ∧ win0_17.index t = ![t.val, 0, 0] :=
  (by decide +kernel : ∀ t : Fin grid0.N, _)

/-- The batch that a grid point handles. -/
def bt (t : Fin cfg0.N) : Fin 128 := ⟨t.val, by have := lt_of_lt_of_eq t.isLt N_0; omega⟩

abbrev arg0 (c : Dev nD) : FVec Ideal S128x4x1792 .f32 := m ((c : Thread nD τ).loc main_arg0)
abbrev arg1 (c : Dev nD) : FVec Ideal S128x1792 .f32 := m ((c : Thread nD τ).loc main_arg1)
abbrev arg2 (c : Dev nD) : FVec Ideal S128x8x64x64 .f32 := m ((c : Thread nD τ).loc main_arg2)
abbrev arg3 (c : Dev nD) : FVec Ideal S1792 .f32 := m ((c : Thread nD τ).loc main_arg3)
abbrev arg4 (c : Dev nD) : FVec Ideal S512 .f32 := m ((c : Thread nD τ).loc main_arg4)
abbrev arg5 (c : Dev nD) : FVec Ideal S64x512 .f32 := m ((c : Thread nD τ).loc main_arg5)
abbrev arg6 (c : Dev nD) : FVec Ideal S512 .f32 := m ((c : Thread nD τ).loc main_arg6)
abbrev arg7 (c : Dev nD) : FVec Ideal S64x512 .f32 := m ((c : Thread nD τ).loc main_arg7)
abbrev arg9 (c : Dev nD) : FVec Ideal S512 .f32 := m ((c : Thread nD τ).loc main_arg9)
abbrev arg10 (c : Dev nD) : FVec Ideal S512 .f32 := m ((c : Thread nD τ).loc main_arg10)

/-- The rows padded to sixteen. -/
def padT (X : FVec Ideal S128x4x1792 .f32) : FVec Ideal S128x16x1792 .f32 :=
  pad S128x16x1792 ![0, 0, 0] ![0, 12, 0] ![0, 0, 0] X (sitofp (F := Ideal) .f32 (constantI S_ 32 0#32)) pads_S128x4x1792_S128x16x1792_000_0120_000 h_S_

/-- The state, transposed and joined. -/
def stT (X : FVec Ideal S128x8x64x64 .f32) : FVec Ideal S128x64x512 .f32 :=
  shapeCast S128x64x512 (transpose S128x64x8x64 [0, 2, 1, 3] X transposes_S128x8x64x64_S128x64x8x64_0_2_1_3) shapeCasts_S128x64x8x64_S128x64x512

/-- Both low-rank projections' weights, one block each. -/
def loT (X Y : FVec Ideal S64x512 .f32) : FVec Ideal S128x1024 .f32 :=
  concatenate S128x1024 0 [⟨S64x1024, concatenate S64x1024 1 [⟨S64x512, X⟩, ⟨S64x512, broadcastInDim S64x512 ![] bcast_S_S64x512 (constant (F := Ideal) S_ .f32 0x00000000#32)⟩] concatenates_S64x512_S64x512_S64x1024_d1⟩,
    ⟨S64x1024, concatenate S64x1024 1 [⟨S64x512, broadcastInDim S64x512 ![] bcast_S_S64x512 (constant (F := Ideal) S_ .f32 0x00000000#32)⟩, ⟨S64x512, Y⟩] concatenates_S64x512_S64x512_S64x1024_d1⟩] concatenates_S64x1024_S64x1024_S128x1024_d0

theorem padT_apply (X : FVec Ideal S128x4x1792 .f32) (b : Fin 128) (i : Fin 16) (c : Fin 1792) :
    padT X (ix3 b i c) = if h : i.val < 4 then X (ix3 b ⟨i.val, h⟩ c) else 0 := by
  pointwise [padT]
  have e : FloatOps.sitofp (F := Ideal) FTy.f32 0#32 = (0 : EReal) := by
    show (((0#32).toInt : ℝ) : EReal) = 0
    simp
  by_cases h : i.val < 4
  · rw [dif_pos h, dif_pos h]
  · rw [dif_neg h, dif_neg h]
    exact e

theorem stT_apply (X : FVec Ideal S128x8x64x64 .f32) (b : Fin 128) (n : Fin 64) (h : Fin 8) (d : Fin 64) :
    stT X (ix3 b n (cl h d)) = X (ix4 b h n d) := by
  pointwise [stT]
  have e1 : (⟨(cl h d).val / 64, by omega⟩ : Fin 8) = h := Fin.ext (by show (64 * h.val + d.val) / 64 = h.val; omega)
  have e2 : (⟨(cl h d).val % 64, by omega⟩ : Fin 64) = d := Fin.ext (by show (64 * h.val + d.val) % 64 = d.val; omega)
  rw [e1, e2]

theorem loT_apply (X Y : FVec Ideal S64x512 .f32) (k : Fin 128) (l : Fin 1024) :
    loT X Y (ix2 k l) = if h : k.val < 64 then (if h' : l.val < 512 then X (ix2 ⟨k.val, h⟩ ⟨l.val, h'⟩) else 0)
      else (if h' : l.val < 512 then 0 else Y (ix2 ⟨k.val - 64, by omega⟩ ⟨l.val - 512, by omega⟩)) := by
  pointwise [loT]

variable (c : Dev nD) (t : Fin cfg0.N)

theorem V_one : (V m c main_cst : FVec Ideal S128x128 .bf16) = (fun i => FloatOps.ofBits (F := Ideal) .bf16 (lit0 (S128x128.rowMajor i)) : FVec Ideal S128x128 .bf16) := by
  show StableHlo.after (hostOps0 ++ (hostOps0_1 ++ hostOps0_2)) _ (Proc.devRef .tc main_cst) = _
  rw [StableHlo.after_append, StableHlo.after_append]
  after_results
  rfl

theorem V_et : (V m c main_cst_0 : FVec Ideal S64x512 .bf16) = (fun i => FloatOps.ofBits (F := Ideal) .bf16 (lit1 (S64x512.rowMajor i)) : FVec Ideal S64x512 .bf16) := by
  show StableHlo.after (hostOps0 ++ (hostOps0_1 ++ hostOps0_2)) _ (Proc.devRef .tc main_cst_0) = _
  rw [StableHlo.after_append, StableHlo.after_append]
  after_results
  rfl

theorem V_hi : (V m c main_v4 : FVec Ideal S128x1024 .bf16) = loT (arg5 m c) (arg7 m c) := by
  show StableHlo.after (hostOps0 ++ (hostOps0_1 ++ hostOps0_2)) _ (Proc.devRef .tc main_v4) = _
  rw [StableHlo.after_append, StableHlo.after_append]
  after_results
  rfl

theorem V_lo : (V m c main_v7 : FVec Ideal S128x1024 .bf16) = (subf (loT (arg5 m c) (arg7 m c)) (loT (arg5 m c) (arg7 m c)) : FVec Ideal S128x1024 .f32) := by
  show StableHlo.after (hostOps0 ++ (hostOps0_1 ++ hostOps0_2)) _ (Proc.devRef .tc main_v7) = _
  rw [StableHlo.after_append, StableHlo.after_append]
  after_results
  rfl

theorem V_mu : (V m c main_v8 : FVec Ideal S1x1792 .f32) = shapeCast S1x1792 (arg3 m c) shapeCasts_S1792_S1x1792 := by
  show StableHlo.after (hostOps0 ++ (hostOps0_1 ++ hostOps0_2)) _ (Proc.devRef .tc main_v8) = _
  rw [StableHlo.after_append, StableHlo.after_append]
  after_results
  rfl

theorem V_w0 : (V m c main_v9 : FVec Ideal S1x512 .f32) = shapeCast S1x512 (arg4 m c) shapeCasts_S512_S1x512 := by
  show StableHlo.after (hostOps0 ++ (hostOps0_1 ++ hostOps0_2)) _ (Proc.devRef .tc main_v9) = _
  rw [StableHlo.after_append, StableHlo.after_append]
  after_results
  rfl

theorem V_a0 : (V m c main_v10 : FVec Ideal S1x512 .f32) = shapeCast S1x512 (arg6 m c) shapeCasts_S512_S1x512 := by
  show StableHlo.after (hostOps0 ++ (hostOps0_1 ++ hostOps0_2)) _ (Proc.devRef .tc main_v10) = _
  rw [StableHlo.after_append, StableHlo.after_append]
  after_results
  rfl

theorem V_kk : (V m c main_v12 : FVec Ideal S1x512 .f32) = shapeCast S1x512 (arg9 m c) shapeCasts_S512_S1x512 := by
  show StableHlo.after (hostOps0 ++ (hostOps0_1 ++ hostOps0_2)) _ (Proc.devRef .tc main_v12) = _
  rw [StableHlo.after_append, StableHlo.after_append]
  after_results
  rfl

theorem V_ka : (V m c main_v13 : FVec Ideal S1x512 .f32) = shapeCast S1x512 (arg10 m c) shapeCasts_S512_S1x512 := by
  show StableHlo.after (hostOps0 ++ (hostOps0_1 ++ hostOps0_2)) _ (Proc.devRef .tc main_v13) = _
  rw [StableHlo.after_append, StableHlo.after_append]
  after_results
  rfl

theorem V_z : (V m c main_v17 : FVec Ideal S128x16x1792 .f32) = padT (arg0 m c) := by
  show StableHlo.after (hostOps0 ++ (hostOps0_1 ++ hostOps0_2)) _ (Proc.devRef .tc main_v17) = _
  rw [StableHlo.after_append, StableHlo.after_append]
  after_results
  rfl

theorem V_p : (V m c main_v18 : FVec Ideal S128x1x1792 .f32) = shapeCast S128x1x1792 (arg1 m c) shapeCasts_S128x1792_S128x1x1792 := by
  show StableHlo.after (hostOps0 ++ (hostOps0_1 ++ hostOps0_2)) _ (Proc.devRef .tc main_v18) = _
  rw [StableHlo.after_append, StableHlo.after_append]
  after_results
  rfl

theorem V_s : (V m c main_v20 : FVec Ideal S128x64x512 .f32) = stT (arg2 m c) := by
  show StableHlo.after (hostOps0 ++ (hostOps0_1 ++ hostOps0_2)) _ (Proc.devRef .tc main_v20) = _
  rw [StableHlo.after_append, StableHlo.after_append]
  after_results
  rfl

theorem at0 (i : Fin 16) (k : Fin 1792) :
    (iblk m c 0 t : FVec Ideal S1x16x1792 .f32) (ix3 0 i k) = (V m c main_v17 : FVec Ideal S128x16x1792 .f32) (ix3 (bt t) i k) := by
  unfold bt
  blk_ext [iblk, idx t]

theorem at1 (k : Fin 1792) :
    (iblk m c 1 t : FVec Ideal S1x1x1792 .f32) (ix3 0 0 k) = (V m c main_v18 : FVec Ideal S128x1x1792 .f32) (ix3 (bt t) 0 k) := by
  unfold bt
  blk_ext [iblk, idx t]

theorem at2 (n : Fin 64) (l : Fin 512) :
    (iblk m c 2 t : FVec Ideal S1x64x512 .f32) (ix3 0 n l) = (V m c main_v20 : FVec Ideal S128x64x512 .f32) (ix3 (bt t) n l) := by
  unfold bt
  blk_ext [iblk, idx t]

theorem at3 (k : Fin 1792) :
    (iblk m c 3 t : FVec Ideal S1x1792 .f32) (ix2 0 k) = (V m c main_v8 : FVec Ideal S1x1792 .f32) (ix2 0 k) := by
  blk_ext [iblk, idx t]

theorem at4 (l : Fin 512) :
    (iblk m c 4 t : FVec Ideal S1x512 .f32) (ix2 0 l) = (V m c main_v9 : FVec Ideal S1x512 .f32) (ix2 0 l) := by
  blk_ext [iblk, idx t]

theorem at5 (k : Fin 128) (l : Fin 1024) :
    (iblk m c 5 t : FVec Ideal S128x1024 .bf16) (ix2 k l) = (V m c main_v4 : FVec Ideal S128x1024 .bf16) (ix2 k l) := by
  blk_ext [iblk, idx t]

theorem at6 (k : Fin 128) (l : Fin 1024) :
    (iblk m c 6 t : FVec Ideal S128x1024 .bf16) (ix2 k l) = (V m c main_v7 : FVec Ideal S128x1024 .bf16) (ix2 k l) := by
  blk_ext [iblk, idx t]

theorem at7 (l : Fin 512) :
    (iblk m c 7 t : FVec Ideal S1x512 .f32) (ix2 0 l) = (V m c main_v10 : FVec Ideal S1x512 .f32) (ix2 0 l) := by
  blk_ext [iblk, idx t]

theorem at9 (l : Fin 512) :
    (iblk m c 9 t : FVec Ideal S1x512 .f32) (ix2 0 l) = (V m c main_v12 : FVec Ideal S1x512 .f32) (ix2 0 l) := by
  blk_ext [iblk, idx t]

theorem at10 (l : Fin 512) :
    (iblk m c 10 t : FVec Ideal S1x512 .f32) (ix2 0 l) = (V m c main_v13 : FVec Ideal S1x512 .f32) (ix2 0 l) := by
  blk_ext [iblk, idx t]

theorem at14 (k l : Fin 128) :
    (iblk m c 14 t : FVec Ideal S128x128 .bf16) (ix2 k l) = (V m c main_cst : FVec Ideal S128x128 .bf16) (ix2 k l) := by
  blk_ext [iblk, idx t]

theorem at15 (n : Fin 64) (l : Fin 512) :
    (iblk m c 15 t : FVec Ideal S64x512 .bf16) (ix2 n l) = (V m c main_cst_0 : FVec Ideal S64x512 .bf16) (ix2 n l) := by
  blk_ext [iblk, idx t]

theorem bit_if (p : Prop) [Decidable p] : FloatOps.ofBits (F := Ideal) .bf16 (if p then 0x3F80#16 else 0#16) = (if p then (1 : EReal) else 0) := by
  split_ifs
  · show Ideal.ofBits FTy.bf16 0x3F80#16 = 1
    simp [Ideal.ofBits, Ideal.ieee]
    rw [← EReal.coe_mul]
    norm_num
  · show Ideal.ofBits FTy.bf16 0#16 = 0
    simp [Ideal.ofBits, Ideal.ieee]

theorem read14 (k l : Fin 128) : ((iblk m c 14 t : FVec Ideal S128x128 .bf16) (ix2 k l) : EReal) = (if k.val / 64 = l.val / 64 then (1 : EReal) else (0 : EReal)) := by
  refine (at14 m c t k l).trans ((congrFun (V_one m c) _).trans ?_)
  exact (congrArg (FloatOps.ofBits (F := Ideal) .bf16) (lit0_apply k l)).trans (bit_if _)

theorem lit1_apply (n : Fin 64) (l : Fin 512) : lit1 (S64x512.rowMajor (ix2 n l)) = if l.val % 64 = n.val then 0x3F80#16 else 0#16 := by
  have key : ∀ (q : ℕ) (r : Fin 8) (h : q + r.val < 64), n.val = q + r.val →
      lit1 (S64x512.rowMajor (ix2 ⟨q + r.val, h⟩ l)) = (if l.val % 64 = q + r.val then 0x3F80#16 else 0#16) →
      lit1 (S64x512.rowMajor (ix2 n l)) = if l.val % 64 = n.val then 0x3F80#16 else 0#16 := by
    intro q r h e g
    have en : n = ⟨q + r.val, h⟩ := Fin.ext e
    rw [en]
    exact g
  rcases (by omega : n.val / 8 = 0 ∨ n.val / 8 = 1 ∨ n.val / 8 = 2 ∨ n.val / 8 = 3 ∨ n.val / 8 = 4 ∨ n.val / 8 = 5 ∨ n.val / 8 = 6 ∨ n.val / 8 = 7)
    with g | g | g | g | g | g | g | g
  · exact key 0 ⟨n.val % 8, by omega⟩ (by show 0 + n.val % 8 < 64; omega) (by show n.val = 0 + n.val % 8; omega) (lit1_0 _ l)
  · exact key 8 ⟨n.val % 8, by omega⟩ (by show 8 + n.val % 8 < 64; omega) (by show n.val = 8 + n.val % 8; omega) (lit1_1 _ l)
  · exact key 16 ⟨n.val % 8, by omega⟩ (by show 16 + n.val % 8 < 64; omega) (by show n.val = 16 + n.val % 8; omega) (lit1_2 _ l)
  · exact key 24 ⟨n.val % 8, by omega⟩ (by show 24 + n.val % 8 < 64; omega) (by show n.val = 24 + n.val % 8; omega) (lit1_3 _ l)
  · exact key 32 ⟨n.val % 8, by omega⟩ (by show 32 + n.val % 8 < 64; omega) (by show n.val = 32 + n.val % 8; omega) (lit1_4 _ l)
  · exact key 40 ⟨n.val % 8, by omega⟩ (by show 40 + n.val % 8 < 64; omega) (by show n.val = 40 + n.val % 8; omega) (lit1_5 _ l)
  · exact key 48 ⟨n.val % 8, by omega⟩ (by show 48 + n.val % 8 < 64; omega) (by show n.val = 48 + n.val % 8; omega) (lit1_6 _ l)
  · exact key 56 ⟨n.val % 8, by omega⟩ (by show 56 + n.val % 8 < 64; omega) (by show n.val = 56 + n.val % 8; omega) (lit1_7 _ l)

theorem read15 (n : Fin 64) (l : Fin 512) : ((iblk m c 15 t : FVec Ideal S64x512 .bf16) (ix2 n l) : EReal) = (if l.val % 64 = n.val then (1 : EReal) else (0 : EReal)) := by
  refine (at15 m c t n l).trans ((congrFun (V_et m c) _).trans ?_)
  exact (congrArg (FloatOps.ofBits (F := Ideal) .bf16) (lit1_apply n l)).trans (bit_if _)

theorem read0 (i : Fin 16) (k : Fin 1792) :
    (iblk m c 0 t : FVec Ideal S1x16x1792 .f32) (ix3 0 i k) = if h : i.val < 4 then arg0 m c (ix3 (bt t) ⟨i.val, h⟩ k) else 0 :=
  (at0 m c t i k).trans ((congrFun (V_z m c) _).trans (padT_apply _ _ _ _))

theorem read1 (k : Fin 1792) : (iblk m c 1 t : FVec Ideal S1x1x1792 .f32) (ix3 0 0 k) = arg1 m c (ix2 (bt t) k) := by
  refine (at1 m c t k).trans ((congrFun (V_p m c) _).trans ?_)
  generalize arg1 m c = X
  pointwise

theorem read2 (n : Fin 64) (h : Fin 8) (d : Fin 64) :
    (iblk m c 2 t : FVec Ideal S1x64x512 .f32) (ix3 0 n (cl h d)) = arg2 m c (ix4 (bt t) h n d) :=
  (at2 m c t n _).trans ((congrFun (V_s m c) _).trans (stT_apply _ _ _ _ _))

theorem read3 (k : Fin 1792) : (iblk m c 3 t : FVec Ideal S1x1792 .f32) (ix2 0 k) = arg3 m c (ix1 k) := by
  refine (at3 m c t k).trans ((congrFun (V_mu m c) _).trans ?_)
  generalize arg3 m c = X
  pointwise

theorem read4 (l : Fin 512) : (iblk m c 4 t : FVec Ideal S1x512 .f32) (ix2 0 l) = arg4 m c (ix1 l) := by
  refine (at4 m c t l).trans ((congrFun (V_w0 m c) _).trans ?_)
  generalize arg4 m c = X
  pointwise

theorem read5 (k : Fin 128) (l : Fin 1024) : (iblk m c 5 t : FVec Ideal S128x1024 .bf16) (ix2 k l) = loT (arg5 m c) (arg7 m c) (ix2 k l) :=
  (at5 m c t k l).trans (congrFun (V_hi m c) _)

theorem read6 (k : Fin 128) (l : Fin 1024) : (iblk m c 6 t : FVec Ideal S128x1024 .bf16) (ix2 k l)
    = loT (arg5 m c) (arg7 m c) (ix2 k l) - loT (arg5 m c) (arg7 m c) (ix2 k l) :=
  (at6 m c t k l).trans (congrFun (V_lo m c) _)

theorem read7 (l : Fin 512) : (iblk m c 7 t : FVec Ideal S1x512 .f32) (ix2 0 l) = arg6 m c (ix1 l) := by
  refine (at7 m c t l).trans ((congrFun (V_a0 m c) _).trans ?_)
  generalize arg6 m c = X
  pointwise

theorem read9 (l : Fin 512) : (iblk m c 9 t : FVec Ideal S1x512 .f32) (ix2 0 l) = arg9 m c (ix1 l) := by
  refine (at9 m c t l).trans ((congrFun (V_kk m c) _).trans ?_)
  generalize arg9 m c = X
  pointwise

theorem read10 (l : Fin 512) : (iblk m c 10 t : FVec Ideal S1x512 .f32) (ix2 0 l) = arg10 m c (ix1 l) := by
  refine (at10 m c t l).trans ((congrFun (V_ka m c) _).trans ?_)
  generalize arg10 m c = X
  pointwise

end Cert.WkvSIdeal.Own

end
-- ==== Proof.WkvS.Ref.lean ====
/- The recurrence's reference at one element. -/
module

public import proofs.«01_k».proof.Proof.WkvS.Spec
public import proofs.«01_k».proof.Proof.Gen.WkvSRefIdeal.Run
public import Idealize.ShloMosaic.Lib.Pointwise

@[expose] public section

set_option maxRecDepth 16384

noncomputable section

namespace Cert.WkvSRefIdeal.Own

open Idealize.ShloMosaic Idealize.ShloMosaic.TcCoe Idealize.ShloMosaic.StableHlo Idealize.SL.Sem
open Cert.WkvSRefIdeal Cert.WkvSRefIdeal.Gen Cert.WkvSRefIdeal.Value Cert.WkvOwn

section Vec

variable (z p : FVec Ideal S128x1792 .f32) (mu : FVec Ideal S1792 .f32) (x : FVec Ideal S128x1792 .f32)
  (w0 : FVec Ideal S512 .f32) (wd : FVec Ideal S64x512 .f32) (a0 : FVec Ideal S512 .f32) (wa : FVec Ideal S64x512 .f32) (kk ka : FVec Ideal S512 .f32)
  (s : FVec Ideal S128x8x64x64 .f32)

def mixVec : FVec Ideal S128x1792 .f32 :=
  addf z (mulf (broadcastInDim S128x1792 ![0, 1] bcast_S1x1792_S128x1792_0_1 (broadcastInDim S1x1792 ![1] bcast_S1792_S1x1792_1 mu)) (subf p z))

def uVec : FVec Ideal S128x512 .f32 :=
  Host.negf (addf (broadcastInDim S128x512 ![0, 1] bcast_S1x512_S128x512_0_1 (broadcastInDim S1x512 ![1] bcast_S512_S1x512_1 w0)) (Host.dotGeneral dot_S128x64_S64x512_S128x512_1_0_0_1_n_n none (Host.tanh (extractStridedSlice S128x64 ![0, 1536] x slices_S128x1792_S128x64_0_1536)) wd))

def lVec (u : FVec Ideal S128x512 .f32) : FVec Ideal S128x512 .f32 :=
  Host.negf (Host.exp (subf (Host.negf (addf (maximumf u (broadcastInDim S128x512 ![] bcast_S_S128x512 (constant S_ .f32 0x00000000#32))) (Host.log1p (Host.exp (Host.negf (Host.absf u)))))) (broadcastInDim S128x512 ![] bcast_S_S128x512 (constant S_ .f32 0x3F000000#32))))

def aVec : FVec Ideal S128x512 .f32 :=
  Host.divf (broadcastInDim S128x512 ![] bcast_S_S128x512 (constant S_ .f32 0x3F800000#32)) (addf (broadcastInDim S128x512 ![] bcast_S_S128x512 (constant S_ .f32 0x3F800000#32)) (Host.exp (Host.negf (addf (broadcastInDim S128x512 ![0, 1] bcast_S1x512_S128x512_0_1 (broadcastInDim S1x512 ![1] bcast_S512_S1x512_1 a0)) (Host.dotGeneral dot_S128x64_S64x512_S128x512_1_0_0_1_n_n none (extractStridedSlice S128x64 ![0, 1600] x slices_S128x1792_S128x64_0_1600) wa)))))

def krVec : FVec Ideal S128x8x64 .f32 :=
  shapeCast _ (mulf (extractStridedSlice S128x512 ![0, 512] x slices_S128x1792_S128x512_0_512) (broadcastInDim S128x512 ![0, 1] bcast_S1x512_S128x512_0_1 (broadcastInDim S1x512 ![1] bcast_S512_S1x512_1 kk))) shapeCasts_S128x512_S128x8x64

def kVec (y : FVec Ideal S128x8x64 .f32) : FVec Ideal S128x8x64 .f32 :=
  Host.divf y (broadcastInDim S128x8x64 ![0, 1, 2] bcast_S128x8x1_S128x8x64_0_1_2 (maximumf (Host.sqrt (broadcastInDim S128x8x1 ![0, 1] bcast_S128x8_S128x8x1_0_1 (Host.reduceAdd (mulf y y) (constant S_ .f32 0x00000000#32) reducesTo_S128x8x64_S128x8_d2 h_S_))) (broadcastInDim S128x8x1 ![] bcast_S_S128x8x1 (constant S_ .f32 0x2B8CBCCC#32))))

def qVec (a : FVec Ideal S128x512 .f32) : FVec Ideal S128x512 .f32 :=
  mulf (extractStridedSlice S128x512 ![0, 512] x slices_S128x1792_S128x512_0_512) (addf (broadcastInDim S128x512 ![] bcast_S_S128x512 (constant S_ .f32 0x3F800000#32)) (mulf (subf a (broadcastInDim S128x512 ![] bcast_S_S128x512 (constant S_ .f32 0x3F800000#32))) (broadcastInDim S128x512 ![0, 1] bcast_S1x512_S128x512_0_1 (broadcastInDim S1x512 ![1] bcast_S512_S1x512_1 ka))))

def vVec : FVec Ideal S128x512 .f32 := extractStridedSlice S128x512 ![0, 1024] x slices_S128x1792_S128x512_0_1024

/-- One step of the recurrence, from the step's five arrays. -/
def updVec (L A Q V : FVec Ideal S128x512 .f32) (K : FVec Ideal S128x8x64 .f32) : FVec Ideal S128x8x64x64 .f32 :=
  addf (addf (mulf s (broadcastInDim S128x8x64x64 ![0, 1, 2, 3] bcast_S128x8x1x64_S128x8x64x64_0_1_2_3 (broadcastInDim S128x8x1x64 ![0, 1, 3] bcast_S128x8x64_S128x8x1x64_0_1_3 (shapeCast _ (Host.exp L) shapeCasts_S128x512_S128x8x64)))) (mulf (broadcastInDim S128x8x64x64 ![0, 1, 2, 3] bcast_S128x8x64x1_S128x8x64x64_0_1_2_3 (broadcastInDim S128x8x64x1 ![0, 1, 2] bcast_S128x8x64_S128x8x64x1_0_1_2 (Host.dotGeneral dot_S128x8x64x64_S128x8x64_S128x8x64_3_2_2_n_01_01 none s (Host.negf K)))) (broadcastInDim S128x8x64x64 ![0, 1, 2, 3] bcast_S128x8x1x64_S128x8x64x64_0_1_2_3 (broadcastInDim S128x8x1x64 ![0, 1, 3] bcast_S128x8x64_S128x8x1x64_0_1_3 (mulf K (shapeCast _ A shapeCasts_S128x512_S128x8x64)))))) (mulf (broadcastInDim S128x8x64x64 ![0, 1, 2, 3] bcast_S128x8x64x1_S128x8x64x64_0_1_2_3 (broadcastInDim S128x8x64x1 ![0, 1, 2] bcast_S128x8x64_S128x8x64x1_0_1_2 (shapeCast _ V shapeCasts_S128x512_S128x8x64))) (broadcastInDim S128x8x64x64 ![0, 1, 2, 3] bcast_S128x8x1x64_S128x8x64x64_0_1_2_3 (broadcastInDim S128x8x1x64 ![0, 1, 3] bcast_S128x8x64_S128x8x1x64_0_1_3 (shapeCast _ Q shapeCasts_S128x512_S128x8x64))))

/-- One step of the recurrence, from the token's mixed row. -/
def stepVec : FVec Ideal S128x8x64x64 .f32 :=
  updVec s (lVec (uVec x w0 wd)) (aVec x a0 wa) (qVec x ka (aVec x a0 wa)) (vVec x) (kVec (krVec x kk))

end Vec

section Real

variable {x : FVec Ideal S128x1792 .f32} {w0 : FVec Ideal S512 .f32} {wd : FVec Ideal S64x512 .f32} {a0 : FVec Ideal S512 .f32}
  {wa : FVec Ideal S64x512 .f32} {kk ka : FVec Ideal S512 .f32} {s : FVec Ideal S128x8x64x64 .f32}
  {y w0' a0' kk' ka' : ℝ} {rx : Fin 1792 → ℝ} {rw0 ra0 rkk rka : Fin 512 → ℝ} {rwd rwa : Fin 64 → Fin 512 → ℝ} {b : Fin 128}

theorem mixVec_is {z p : FVec Ideal S128x1792 .f32} {mu : FVec Ideal S1792 .f32} {rz rp rm : Fin 1792 → ℝ} (hz : ∀ c, z (ix2 b c) = ((rz c : ℝ) : EReal))
    (hp : ∀ c, p (ix2 b c) = ((rp c : ℝ) : EReal)) (hm : ∀ c, mu (ix1 c) = ((rm c : ℝ) : EReal)) (c : Fin 1792) :
    mixVec z p mu (ix2 b c) = ((mix rz rp rm c : ℝ) : EReal) := by
  pointwise [mixVec]
  rw [hz, hp, hm, ← EReal.coe_sub, ← EReal.coe_mul, ← EReal.coe_add]
  rfl

theorem uVec_is (hx : ∀ c, x (ix2 b c) = ((rx c : ℝ) : EReal)) (h0 : ∀ l, w0 (ix1 l) = ((rw0 l : ℝ) : EReal))
    (hd : ∀ k l, wd (ix2 k l) = ((rwd k l : ℝ) : EReal)) (l : Fin 512) : uVec x w0 wd (ix2 b l) = ((rU rx rw0 rwd l : ℝ) : EReal) := by
  pointwise [uVec]
  simp only [hx, h0, hd]
  simp only [ctanh, ← EReal.coe_mul, csum']
  rw [← EReal.coe_add, ← EReal.coe_neg]
  rfl

theorem lVec_is {u : FVec Ideal S128x512 .f32} {ru : Fin 512 → ℝ} (hu : ∀ l, u (ix2 b l) = ((ru l : ℝ) : EReal)) (l : Fin 512) :
    lVec u (ix2 b l) = ((lw (ru l) : ℝ) : EReal) := by
  pointwise [lVec]
  rw [hu]
  exact clw' _

theorem aVec_is (hx : ∀ c, x (ix2 b c) = ((rx c : ℝ) : EReal)) (h0 : ∀ l, a0 (ix1 l) = ((ra0 l : ℝ) : EReal))
    (hd : ∀ k l, wa (ix2 k l) = ((rwa k l : ℝ) : EReal)) (l : Fin 512) : aVec x a0 wa (ix2 b l) = ((rA rx ra0 rwa l : ℝ) : EReal) := by
  pointwise [aVec]
  simp only [hx, h0, hd]
  simp only [← EReal.coe_mul, csum']
  rw [← EReal.coe_add]
  exact csig _

theorem krVec_is (hx : ∀ c, x (ix2 b c) = ((rx c : ℝ) : EReal)) (hk : ∀ l, kk (ix1 l) = ((rkk l : ℝ) : EReal)) (h : Fin 8) (d : Fin 64) :
    krVec x kk (ix3 b h d) = ((rKr rx rkk (cl h d) : ℝ) : EReal) := by
  pointwise [krVec]
  rw [hx, hk]
  refine (EReal.coe_mul _ _).symm.trans (congrArg _ ?_)
  exact congrArg₂ (· * ·) (congrArg rx (Fin.ext (by show 512 + (h.val * 64 + d.val) = 512 + (64 * h.val + d.val); omega))) (congrArg rkk (cl_eq h d _))

theorem kVec_is {y : FVec Ideal S128x8x64 .f32} (hy : ∀ h d, y (ix3 b h d) = ((rKr rx rkk (cl h d) : ℝ) : EReal)) (h : Fin 8) (d : Fin 64) :
    kVec y (ix3 b h d) = ((rK rx rkk (cl h d) : ℝ) : EReal) := by
  pointwise [kVec]
  simp only [hy]
  refine ckey (rKr rx rkk) (cl h d) _ ?_
  have e : (⟨(cl h d).val / 64, by omega⟩ : Fin 8) = h := Fin.ext (by show (64 * h.val + d.val) / 64 = h.val; omega)
  rw [e]
  simp only [← EReal.coe_mul, csum']

theorem qVec_is {a : FVec Ideal S128x512 .f32} (hx : ∀ c, x (ix2 b c) = ((rx c : ℝ) : EReal)) (hk : ∀ l, ka (ix1 l) = ((rka l : ℝ) : EReal))
    (ha : ∀ l, a (ix2 b l) = ((rA rx ra0 rwa l : ℝ) : EReal)) (l : Fin 512) : qVec x ka a (ix2 b l) = ((rQ rx ra0 rwa rka l : ℝ) : EReal) := by
  pointwise [qVec]
  rw [hx, hk, ha]
  rw [← EReal.coe_one, ← EReal.coe_sub, ← EReal.coe_mul, ← EReal.coe_add, ← EReal.coe_mul]
  rfl

theorem vVec_is (hx : ∀ c, x (ix2 b c) = ((rx c : ℝ) : EReal)) (l : Fin 512) : vVec x (ix2 b l) = ((rV rx l : ℝ) : EReal) := by
  pointwise [vVec]
  exact hx _

theorem updVec_is {L A Q V : FVec Ideal S128x512 .f32} {K : FVec Ideal S128x8x64 .f32} {rl ra rk rq rv : Fin 512 → ℝ} {rs : Fin 64 → Fin 8 → Fin 64 → ℝ}
    (hs : ∀ h n d, s (ix4 b h n d) = ((rs n h d : ℝ) : EReal)) (hL : ∀ l, L (ix2 b l) = ((rl l : ℝ) : EReal)) (hA : ∀ l, A (ix2 b l) = ((ra l : ℝ) : EReal))
    (hQ : ∀ l, Q (ix2 b l) = ((rq l : ℝ) : EReal)) (hV : ∀ l, V (ix2 b l) = ((rv l : ℝ) : EReal))
    (hK : ∀ h d, K (ix3 b h d) = ((rk (cl h d) : ℝ) : EReal)) (h : Fin 8) (n d : Fin 64) :
    updVec s L A Q V K (ix4 b h n d) = ((rs n h d * Real.exp (rl (cl h d)) + (∑ e, rs n h e * -rk (cl h e)) * (rk (cl h d) * ra (cl h d))
      + rv (cl h n) * rq (cl h d) : ℝ) : EReal) := by
  pointwise [updVec]
  simp only [hs, hL, hA, hQ, hV, hK]
  simp only [cl_eq, cexp', ← EReal.coe_neg, ← EReal.coe_mul, csum', ← EReal.coe_add]

theorem stepVec_is (hx : ∀ c, x (ix2 b c) = ((rx c : ℝ) : EReal)) (h0 : ∀ l, w0 (ix1 l) = ((rw0 l : ℝ) : EReal))
    (hd : ∀ k l, wd (ix2 k l) = ((rwd k l : ℝ) : EReal)) (h0' : ∀ l, a0 (ix1 l) = ((ra0 l : ℝ) : EReal))
    (hd' : ∀ k l, wa (ix2 k l) = ((rwa k l : ℝ) : EReal)) (hk : ∀ l, kk (ix1 l) = ((rkk l : ℝ) : EReal)) (hk' : ∀ l, ka (ix1 l) = ((rka l : ℝ) : EReal))
    {rs : Fin 64 → Fin 8 → Fin 64 → ℝ} (hs : ∀ h n d, s (ix4 b h n d) = ((rs n h d : ℝ) : EReal)) (h : Fin 8) (n d : Fin 64) :
    stepVec x w0 wd a0 wa kk ka s (ix4 b h n d) = ((rs n h d * Real.exp (rL rx rw0 rwd (cl h d))
      + (∑ e, rs n h e * -rK rx rkk (cl h e)) * (rK rx rkk (cl h d) * rA rx ra0 rwa (cl h d))
      + rV rx (cl h n) * rQ rx ra0 rwa rka (cl h d) : ℝ) : EReal) :=
  have ha := aVec_is hx h0' hd'
  updVec_is hs (lVec_is (uVec_is hx h0 hd)) ha (qVec_is hx hk' ha) (vVec_is hx) (kVec_is (krVec_is hx hk)) h n d

end Real

/-! ### The four steps -/

variable (V0 : Valuation τ sig (Elt Ideal))

theorem mix0 : res_main_v6 V0 = mixVec (res_main_v1 V0) (V0 (Proc.devRef .tc main_arg1)) (V0 (Proc.devRef .tc main_arg3)) := rfl
theorem mix1 : res_main_v88 V0 = mixVec (res_main_v83 V0) (res_main_v1 V0) (V0 (Proc.devRef .tc main_arg3)) := rfl
theorem mix2 : res_main_v170 V0 = mixVec (res_main_v165 V0) (res_main_v83 V0) (V0 (Proc.devRef .tc main_arg3)) := rfl
theorem mix3 : res_main_v252 V0 = mixVec (res_main_v247 V0) (res_main_v165 V0) (V0 (Proc.devRef .tc main_arg3)) := rfl

/-- One step, with the launch's arrays. -/
abbrev stepOf (s : FVec Ideal S128x8x64x64 .f32) (x : FVec Ideal S128x1792 .f32) : FVec Ideal S128x8x64x64 .f32 :=
  stepVec x (V0 (Proc.devRef .tc main_arg4)) (V0 (Proc.devRef .tc main_arg5)) (V0 (Proc.devRef .tc main_arg6)) (V0 (Proc.devRef .tc main_arg7))
    (V0 (Proc.devRef .tc main_arg9)) (V0 (Proc.devRef .tc main_arg10)) s

theorem step0 : res_main_v81 V0 = stepOf V0 (V0 (Proc.devRef .tc main_arg2)) (res_main_v6 V0) := rfl
theorem step1 : res_main_v163 V0 = stepOf V0 (res_main_v81 V0) (res_main_v88 V0) := rfl
theorem step2 : res_main_v245 V0 = stepOf V0 (res_main_v163 V0) (res_main_v170 V0) := rfl

/-- The reference's state, transposed and joined. -/
def lastVec (s : FVec Ideal S128x8x64x64 .f32) : FVec Ideal S128x64x512 .f32 :=
  shapeCast _ (transpose S128x64x8x64 [0, 2, 1, 3] s transposes_S128x8x64x64_S128x64x8x64_0_2_1_3) shapeCasts_S128x64x8x64_S128x64x512

theorem step3 : val7 V0 (Proc.devRef .tc main_v329) = lastVec (stepOf V0 (res_main_v245 V0) (res_main_v252 V0)) := val7_main_v329 V0

theorem lastVec_apply (s : FVec Ideal S128x8x64x64 .f32) (b : Fin 128) (n : Fin 64) (h : Fin 8) (d : Fin 64) :
    lastVec s (ix3 b n (cl h d)) = s (ix4 b h n d) := by
  pointwise [lastVec]
  have e1 : (⟨(cl h d).val / 64, by omega⟩ : Fin 8) = h := Fin.ext (by show (64 * h.val + d.val) / 64 = h.val; omega)
  have e2 : (⟨(cl h d).val % 64, by omega⟩ : Fin 64) = d := Fin.ext (by show (64 * h.val + d.val) % 64 = d.val; omega)
  rw [e1, e2]

theorem tok0 (b : Fin 128) (c : Fin 1792) : res_main_v1 V0 (ix2 b c) = V0 (Proc.devRef .tc main_arg0) (ix3 b 0 c) := by
  pointwise [res_main_v1]
theorem tok1 (b : Fin 128) (c : Fin 1792) : res_main_v83 V0 (ix2 b c) = V0 (Proc.devRef .tc main_arg0) (ix3 b 1 c) := by
  pointwise [res_main_v83]
theorem tok2 (b : Fin 128) (c : Fin 1792) : res_main_v165 V0 (ix2 b c) = V0 (Proc.devRef .tc main_arg0) (ix3 b 2 c) := by
  pointwise [res_main_v165]
theorem tok3 (b : Fin 128) (c : Fin 1792) : res_main_v247 V0 (ix2 b c) = V0 (Proc.devRef .tc main_arg0) (ix3 b 3 c) := by
  pointwise [res_main_v247]

/-- The reference's state at one element: four steps of the recurrence. -/
theorem ref_apply (b : Fin 128) {z : Fin 16 → Fin 1792 → ℝ} {p mu : Fin 1792 → ℝ} {S : Fin 64 → Fin 512 → ℝ} {rw0 ra0 rkk rka : Fin 512 → ℝ}
    {rwd rwa : Fin 64 → Fin 512 → ℝ} {L K Q A W : Fin 16 → Fin 512 → ℝ}
    (hz : ∀ (i : Fin 4) c, (V0 (Proc.devRef .tc main_arg0) : FVec Ideal S128x4x1792 .f32) (ix3 b i c) = ((z ⟨i.val, by omega⟩ c : ℝ) : EReal))
    (hp : ∀ c, (V0 (Proc.devRef .tc main_arg1) : FVec Ideal S128x1792 .f32) (ix2 b c) = ((p c : ℝ) : EReal))
    (hs : ∀ h n d, (V0 (Proc.devRef .tc main_arg2) : FVec Ideal S128x8x64x64 .f32) (ix4 b h n d) = ((S n (cl h d) : ℝ) : EReal))
    (hm : ∀ c, (V0 (Proc.devRef .tc main_arg3) : FVec Ideal S1792 .f32) (ix1 c) = ((mu c : ℝ) : EReal))
    (h4 : ∀ l, (V0 (Proc.devRef .tc main_arg4) : FVec Ideal S512 .f32) (ix1 l) = ((rw0 l : ℝ) : EReal))
    (h5 : ∀ k l, (V0 (Proc.devRef .tc main_arg5) : FVec Ideal S64x512 .f32) (ix2 k l) = ((rwd k l : ℝ) : EReal))
    (h6 : ∀ l, (V0 (Proc.devRef .tc main_arg6) : FVec Ideal S512 .f32) (ix1 l) = ((ra0 l : ℝ) : EReal))
    (h7 : ∀ k l, (V0 (Proc.devRef .tc main_arg7) : FVec Ideal S64x512 .f32) (ix2 k l) = ((rwa k l : ℝ) : EReal))
    (h9 : ∀ l, (V0 (Proc.devRef .tc main_arg9) : FVec Ideal S512 .f32) (ix1 l) = ((rkk l : ℝ) : EReal))
    (h10 : ∀ l, (V0 (Proc.devRef .tc main_arg10) : FVec Ideal S512 .f32) (ix1 l) = ((rka l : ℝ) : EReal))
    (eL : ∀ i : Fin 16, i.val < 4 → L i = rL (zs z p mu i) rw0 rwd) (eK : ∀ i : Fin 16, i.val < 4 → K i = rK (zs z p mu i) rkk)
    (eQ : ∀ i : Fin 16, i.val < 4 → Q i = rQ (zs z p mu i) ra0 rwa rka) (eA : ∀ i : Fin 16, i.val < 4 → A i = rA (zs z p mu i) ra0 rwa)
    (eW : ∀ i : Fin 16, i.val < 4 → W i = rV (zs z p mu i)) (n : Fin 64) (h : Fin 8) (d : Fin 64) :
    lastVec (stepOf V0 (res_main_v245 V0) (res_main_v252 V0)) (ix3 b n (cl h d)) = ((st S L K Q A W 4 n h d : ℝ) : EReal) := by
  have x0 : ∀ c, res_main_v6 V0 (ix2 b c) = ((zs z p mu 0 c : ℝ) : EReal) := fun c => by
    rw [mix0]
    exact mixVec_is (fun c => (tok0 V0 b c).trans (hz 0 c)) hp hm c
  have x1 : ∀ c, res_main_v88 V0 (ix2 b c) = ((zs z p mu 1 c : ℝ) : EReal) := fun c => by
    rw [mix1]
    exact mixVec_is (fun c => (tok1 V0 b c).trans (hz 1 c)) (fun c => (tok0 V0 b c).trans (hz 0 c)) hm c
  have x2 : ∀ c, res_main_v170 V0 (ix2 b c) = ((zs z p mu 2 c : ℝ) : EReal) := fun c => by
    rw [mix2]
    exact mixVec_is (fun c => (tok2 V0 b c).trans (hz 2 c)) (fun c => (tok1 V0 b c).trans (hz 1 c)) hm c
  have x3 : ∀ c, res_main_v252 V0 (ix2 b c) = ((zs z p mu 3 c : ℝ) : EReal) := fun c => by
    rw [mix3]
    exact mixVec_is (fun c => (tok3 V0 b c).trans (hz 3 c)) (fun c => (tok2 V0 b c).trans (hz 2 c)) hm c
  have key : ∀ (i : ℕ) (hi : i < 4) (s : FVec Ideal S128x8x64x64 .f32) (x : FVec Ideal S128x1792 .f32),
      (∀ c, x (ix2 b c) = ((zs z p mu ⟨i, by omega⟩ c : ℝ) : EReal)) → (∀ h n d, s (ix4 b h n d) = ((st S L K Q A W i n h d : ℝ) : EReal)) →
      ∀ h n d, stepOf V0 s x (ix4 b h n d) = ((st S L K Q A W (i + 1) n h d : ℝ) : EReal) := by
    intro i hi s x hx hs h n d
    rw [st, dif_pos (by omega), eL _ hi, eK _ hi, eQ _ hi, eA _ hi, eW _ hi]
    exact stepVec_is hx h4 h5 h6 h7 h9 h10 hs h n d
  have s1 := key 0 (by omega) _ _ x0 hs
  rw [← step0] at s1
  have s2 := key 1 (by omega) _ _ x1 s1
  rw [← step1] at s2
  have s3 := key 2 (by omega) _ _ x2 s2
  rw [← step2] at s3
  rw [lastVec_apply]
  exact key 3 (by omega) _ _ x3 s3 h n d

end Cert.WkvSRefIdeal.Own

end
-- ==== Proof.WkvS.Kernel.lean ====
/- The recurrence kernel's state, block by block, is the reference's over the same arguments. -/
module

public import proofs.«01_k».proof.Proof.WkvS.Chunk
public import proofs.«01_k».proof.Proof.WkvS.PayA
public import proofs.«01_k».proof.Proof.WkvS.Reads
public import proofs.«01_k».proof.Proof.WkvS.Ref
public import proofs.«01_k».proof.Proof.Merge.Spec

@[expose] public section

set_option maxRecDepth 16384

noncomputable section

namespace Cert.WkvSIdeal.Own

open Idealize.ShloMosaic Idealize.ShloMosaic.TcCoe Idealize.SL.Sem
open Idealize.ShloMosaic.Pipeline (Dat)
open Cert.WkvSIdeal Cert.WkvSIdeal.Gen Cert.WkvOwn Cert.RouteOwn

/-- Both low-rank projections' weights as one matrix. -/
def lora (wd wa : Fin 64 → Fin 512 → ℝ) (k : Fin 128) (l : Fin 1024) : ℝ :=
  if h : k.val < 64 then (if h' : l.val < 512 then wd ⟨k.val, h⟩ ⟨l.val, h'⟩ else 0)
  else (if h' : l.val < 512 then 0 else wa ⟨k.val - 64, by omega⟩ ⟨l.val - 512, by omega⟩)

theorem lora_low (x : Fin 1792 → ℝ) (wd wa : Fin 64 → Fin 512 → ℝ) (l : Fin 512) (hl : l.val < 1024) :
    ∑ k, act x k * lora wd wa k ⟨l.val, hl⟩ = ∑ k : Fin 64, Real.tanh (x ⟨1536 + k.val, by omega⟩) * wd k l := by
  rw [Fin.sum_univ_add (a := 64) (b := 64) (fun k : Fin 128 => act x k * lora wd wa k ⟨l.val, hl⟩)]
  have e2 : ∑ k : Fin 64, act x (Fin.natAdd 64 k) * lora wd wa (Fin.natAdd 64 k) ⟨l.val, hl⟩ = 0 :=
    Finset.sum_eq_zero fun k _ => by
      have g : ¬ (Fin.natAdd 64 k : Fin 128).val < 64 := by show ¬ 64 + k.val < 64; omega
      unfold lora
      rw [dif_neg g, dif_pos l.isLt, mul_zero]
  rw [e2, add_zero]
  refine Finset.sum_congr rfl fun k _ => ?_
  have g : (Fin.castAdd 64 k : Fin 128).val < 64 := k.isLt
  unfold lora act
  rw [dif_pos g, dif_pos l.isLt, if_pos g]
  rfl

theorem lora_high (x : Fin 1792 → ℝ) (wd wa : Fin 64 → Fin 512 → ℝ) (l : Fin 512) (hl : 512 + l.val < 1024) :
    ∑ k, act x k * lora wd wa k ⟨512 + l.val, hl⟩ = ∑ k : Fin 64, x ⟨1600 + k.val, by omega⟩ * wa k l := by
  rw [Fin.sum_univ_add (a := 64) (b := 64) (fun k : Fin 128 => act x k * lora wd wa k ⟨512 + l.val, hl⟩)]
  have gl : ¬ (⟨512 + l.val, hl⟩ : Fin 1024).val < 512 := by show ¬ 512 + l.val < 512; omega
  have e1 : ∑ k : Fin 64, act x (Fin.castAdd 64 k) * lora wd wa (Fin.castAdd 64 k) ⟨512 + l.val, hl⟩ = 0 :=
    Finset.sum_eq_zero fun k _ => by
      have g : (Fin.castAdd 64 k : Fin 128).val < 64 := k.isLt
      unfold lora
      rw [dif_pos g, dif_neg gl, mul_zero]
  rw [e1, zero_add]
  refine Finset.sum_congr rfl fun k _ => ?_
  have g : ¬ (Fin.natAdd 64 k : Fin 128).val < 64 := by show ¬ 64 + k.val < 64; omega
  unfold lora act
  rw [dif_neg g, dif_neg gl, if_neg g]
  refine congrArg₂ (· * ·) (congrArg x (Fin.ext ?_)) (congrArg₂ wa (Fin.ext ?_) (Fin.ext ?_))
  · show 1536 + (64 + k.val) = 1600 + k.val
    omega
  · show 64 + k.val - 64 = k.val
    omega
  · show 512 + l.val - 512 = l.val
    omega

theorem pay4_apply (x : FVec Ideal S1x1x1792 .f32) (k : Fin 1792) : k0_pay4 (F := Ideal) x (ix2 0 k) = x (ix3 0 0 k) := by
  pointwise [k0_pay4]

theorem pay3_apply (x : FVec Ideal S1x64x512 .f32) (n : Fin 64) (l : Fin 512) : k0_pay3 (F := Ideal) x (ix2 n l) = x (ix3 0 n l) := by
  pointwise [k0_pay3]

theorem pay2_apply (x : FVec Ideal S64x512 .f32) (n : Fin 64) (l : Fin 512) : k0_pay2 (F := Ideal) x (ix3 0 n l) = x (ix2 n l) := by
  pointwise [k0_pay2]

section Block

variable {x0 : FVec Ideal S1x16x1792 .f32} {x1 : FVec Ideal S1x1x1792 .f32} {x2 : FVec Ideal S1x64x512 .f32} {x3 : FVec Ideal S1x1792 .f32}
  {x4 x7 x9 x10 : FVec Ideal S1x512 .f32} {x5 x6 : FVec Ideal S128x1024 .bf16} {x14 : FVec Ideal S128x128 .bf16} {x15 : FVec Ideal S64x512 .bf16}
  {z : Fin 16 → Fin 1792 → ℝ} {p mu : Fin 1792 → ℝ} {S : Fin 64 → Fin 512 → ℝ} {w0 a0 kk ka : Fin 512 → ℝ} {wd wa : Fin 64 → Fin 512 → ℝ}
  (h0 : ∀ i k, x0 (ix3 0 i k) = ((z i k : ℝ) : EReal)) (h1 : ∀ k, x1 (ix3 0 0 k) = ((p k : ℝ) : EReal))
  (h2 : ∀ n l, x2 (ix3 0 n l) = ((S n l : ℝ) : EReal)) (h3 : ∀ k, x3 (ix2 0 k) = ((mu k : ℝ) : EReal))
  (h4 : ∀ l, x4 (ix2 0 l) = ((w0 l : ℝ) : EReal)) (h5 : Is x5 (lora wd wa)) (h6 : ∀ k l, x6 (ix2 k l) = 0)
  (h7 : ∀ l, x7 (ix2 0 l) = ((a0 l : ℝ) : EReal)) (h9 : ∀ l, x9 (ix2 0 l) = ((kk l : ℝ) : EReal)) (h10 : ∀ l, x10 (ix2 0 l) = ((ka l : ℝ) : EReal))
  (h14 : ∀ k l : Fin 128, x14 (ix2 k l) = if k.val / 64 = l.val / 64 then (1 : EReal) else (0 : EReal))
  (h15 : ∀ (n : Fin 64) (l : Fin 512), x15 (ix2 n l) = if l.val % 64 = n.val then (1 : EReal) else (0 : EReal))

include h0 h1 h3

theorem vV_is : Is (vV x0 x1 x3) (fun i => rV (zs z p mu i)) := pay10_is (pay7_is h0 (fun k => (pay4_apply x1 k).trans (h1 k)) h3)

theorem vK_is (h9 : ∀ l, x9 (ix2 0 l) = ((kk l : ℝ) : EReal))
    (h14 : ∀ k l : Fin 128, x14 (ix2 k l) = if k.val / 64 = l.val / 64 then (1 : EReal) else (0 : EReal)) :
    Is (vK x0 x1 x3 x9 x14) (fun i => rK (zs z p mu i) kk) :=
  pay31_is (pay22_is (pay9_is (pay7_is h0 (fun k => (pay4_apply x1 k).trans (h1 k)) h3)) h9) h14

theorem low_is (h5 : Is x5 (lora wd wa)) (h6 : ∀ k l, x6 (ix2 k l) = 0) :
    Is (k0_pay16 (F := Ideal) (k0_pay11 x0 (k0_pay4 (F := Ideal) x1) x3) (k0_pay12 x5) (k0_pay13 x6) (k0_pay14 x0 (k0_pay4 (F := Ideal) x1) x3)
      (k0_pay15 x0 (k0_pay4 (F := Ideal) x1) x3)) (fun i l => ∑ k, act (zs z p mu i) k * lora wd wa k l) :=
  pay16_is (pay11_is (pay7_is h0 (fun k => (pay4_apply x1 k).trans (h1 k)) h3)) h5 h6

theorem vL_is (h4 : ∀ l, x4 (ix2 0 l) = ((w0 l : ℝ) : EReal)) (h5 : Is x5 (lora wd wa)) (h6 : ∀ k l, x6 (ix2 k l) = 0) :
    Is (vL x0 x1 x3 x4 x5 x6) (fun i => rL (zs z p mu i) w0 wd) := fun i l => by
  refine (pay17_is (low_is h0 h1 h3 h5 h6) h4 i l).trans ?_
  dsimp only
  rw [lora_low]
  rfl

theorem vA_is (h5 : Is x5 (lora wd wa)) (h6 : ∀ k l, x6 (ix2 k l) = 0) (h7 : ∀ l, x7 (ix2 0 l) = ((a0 l : ℝ) : EReal)) :
    Is (vA x0 x1 x3 x5 x6 x7) (fun i => rA (zs z p mu i) a0 wa) := fun i l => by
  refine (pay18_is (low_is h0 h1 h3 h5 h6) h7 i l).trans ?_
  dsimp only
  rw [lora_high]
  rfl

theorem vQ_is (h5 : Is x5 (lora wd wa)) (h6 : ∀ k l, x6 (ix2 k l) = 0) (h7 : ∀ l, x7 (ix2 0 l) = ((a0 l : ℝ) : EReal))
    (h10 : ∀ l, x10 (ix2 0 l) = ((ka l : ℝ) : EReal)) :
    Is (vQ x0 x1 x3 x5 x6 x7 x10) (fun i => rQ (zs z p mu i) a0 wa ka) :=
  pay32_is (pay9_is (pay7_is h0 (fun k => (pay4_apply x1 k).trans (h1 k)) h3)) (vA_is h0 h1 h3 h5 h6 h7) h10

include h2 h4 h5 h6 h7 h9 h10 h14 h15

/-- A block of the state, at one element. -/
theorem block_is (n : Fin 64) (h : Fin 8) (d : Fin 64) :
    k0_pay2 (F := Ideal) (chunk (k0_pay3 x2) (vR x0 x1 x3 x4 x5 x6) (vL x0 x1 x3 x4 x5 x6) (vA x0 x1 x3 x5 x6 x7) (vK x0 x1 x3 x9 x14)
      (vQ x0 x1 x3 x5 x6 x7 x10) (vV x0 x1 x3) x15) (ix3 0 n (cl h d))
      = ((st S (four fun i => rL (zs z p mu i) w0 wd) (four fun i => rK (zs z p mu i) kk) (four fun i => rQ (zs z p mu i) a0 wa ka)
          (fun i => rA (zs z p mu i) a0 wa) (fun i => rV (zs z p mu i)) 4 n h d : ℝ) : EReal) := by
  rw [pay2_apply]
  refine (chunk_is _ (fun n l => (pay3_apply x2 n l).trans (h2 n l)) (vL_is h0 h1 h3 h4 h5 h6) (vA_is h0 h1 h3 h5 h6 h7) (vK_is h0 h1 h3 h9 h14)
    (vQ_is h0 h1 h3 h5 h6 h7 h10) (vV_is h0 h1 h3) h15 n (cl h d)).trans ?_
  rw [out_eq, st_four]
  · exact fun i l hi => if_neg (by omega)
  · exact fun i l hi => if_neg (by omega)
  · exact fun i l hi => if_neg (by omega)

end Block

variable (m : (ℓ : Loc nD τ sig) → Buf (Elt Ideal) ℓ)

/-- Every entry of the arguments that the state depends on is a real number. -/
structure Reals (c : Dev nD) : Prop where
  r0 : ∀ i, IsReal (arg0 m c i)
  r1 : ∀ i, IsReal (arg1 m c i)
  r2 : ∀ i, IsReal (arg2 m c i)
  r3 : ∀ i, IsReal (arg3 m c i)
  r4 : ∀ i, IsReal (arg4 m c i)
  r5 : ∀ i, IsReal (arg5 m c i)
  r6 : ∀ i, IsReal (arg6 m c i)
  r7 : ∀ i, IsReal (arg7 m c i)
  r9 : ∀ i, IsReal (arg9 m c i)
  r10 : ∀ i, IsReal (arg10 m c i)

theorem coe_real {x : EReal} (h : IsReal x) : x = ((x.toReal : ℝ) : EReal) := by
  obtain ⟨r, rfl⟩ := h
  rfl

variable (c : Dev nD) (b : Fin 128)

def zR (i : Fin 16) (k : Fin 1792) : ℝ := if h : i.val < 4 then EReal.toReal (arg0 m c (ix3 b ⟨i.val, h⟩ k)) else 0
def pR (k : Fin 1792) : ℝ := EReal.toReal (arg1 m c (ix2 b k))
def sR (n : Fin 64) (l : Fin 512) : ℝ := EReal.toReal (arg2 m c (ix4 b ⟨l.val / 64, by omega⟩ n ⟨l.val % 64, by omega⟩))
def muR (k : Fin 1792) : ℝ := EReal.toReal (arg3 m c (ix1 k))
def w0R (l : Fin 512) : ℝ := EReal.toReal (arg4 m c (ix1 l))
def wdR (k : Fin 64) (l : Fin 512) : ℝ := EReal.toReal (arg5 m c (ix2 k l))
def a0R (l : Fin 512) : ℝ := EReal.toReal (arg6 m c (ix1 l))
def waR (k : Fin 64) (l : Fin 512) : ℝ := EReal.toReal (arg7 m c (ix2 k l))
def kkR (l : Fin 512) : ℝ := EReal.toReal (arg9 m c (ix1 l))
def kaR (l : Fin 512) : ℝ := EReal.toReal (arg10 m c (ix1 l))

/-- The state of one batch after its four tokens. -/
def last (n : Fin 64) (h : Fin 8) (d : Fin 64) : ℝ :=
  st (sR m c b) (four fun i => rL (zs (zR m c b) (pR m c b) (muR m c) i) (w0R m c) (wdR m c)) (four fun i => rK (zs (zR m c b) (pR m c b) (muR m c) i) (kkR m c))
    (four fun i => rQ (zs (zR m c b) (pR m c b) (muR m c) i) (a0R m c) (waR m c) (kaR m c)) (fun i => rA (zs (zR m c b) (pR m c b) (muR m c) i) (a0R m c) (waR m c))
    (fun i => rV (zs (zR m c b) (pR m c b) (muR m c) i)) 4 n h d

theorem sR_cl (hr : Reals m c) (h : Fin 8) (n d : Fin 64) : arg2 m c (ix4 b h n d) = ((sR m c b n (cl h d) : ℝ) : EReal) := by
  have e1 : (⟨(cl h d).val / 64, by omega⟩ : Fin 8) = h := Fin.ext (by show (64 * h.val + d.val) / 64 = h.val; omega)
  have e2 : (⟨(cl h d).val % 64, by omega⟩ : Fin 64) = d := Fin.ext (by show (64 * h.val + d.val) % 64 = d.val; omega)
  refine (coe_real (hr.r2 _)).trans ?_
  unfold sR
  rw [e1, e2]

theorem lo_is (hr : Reals m c) (k : Fin 128) (l : Fin 1024) :
    loT (arg5 m c) (arg7 m c) (ix2 k l) = ((lora (wdR m c) (waR m c) k l : ℝ) : EReal) := by
  rw [loT_apply]
  unfold lora wdR waR
  by_cases h : k.val < 64
  · rw [dif_pos h, dif_pos h]
    by_cases h' : l.val < 512
    · rw [dif_pos h', dif_pos h']
      exact coe_real (hr.r5 _)
    · rw [dif_neg h', dif_neg h']
      rfl
  · rw [dif_neg h, dif_neg h]
    by_cases h' : l.val < 512
    · rw [dif_pos h', dif_pos h']
      rfl
    · rw [dif_neg h', dif_neg h']
      exact coe_real (hr.r7 _)

/-- What a grid point leaves in the state's block, at one element. -/
theorem point_is (hr : Reals m c) (t : Fin cfg0.N) (n : Fin 64) (h : Fin 8) (d : Fin 64) :
    ((outsAt0 m c t).2 : FVec Ideal S1x64x512 .f32) (ix3 0 n (cl h d)) = ((last m c (bt t) n h d : ℝ) : EReal) := by
  rw [blockOut]
  refine block_is (z := zR m c (bt t)) (p := pR m c (bt t)) (S := sR m c (bt t)) (fun i k => (read0 m c t i k).trans ?_) (fun k => (read1 m c t k).trans (coe_real (hr.r1 _))) (fun n l => ?_)
    (fun k => (read3 m c t k).trans (coe_real (hr.r3 _))) (fun l => (read4 m c t l).trans (coe_real (hr.r4 _)))
    (fun k l => (read5 m c t k l).trans (lo_is m c hr k l)) (fun k l => (read6 m c t k l).trans ?_) (fun l => (read7 m c t l).trans (coe_real (hr.r6 _)))
    (fun l => (read9 m c t l).trans (coe_real (hr.r9 _))) (fun l => (read10 m c t l).trans (coe_real (hr.r10 _))) (read14 m c t) (read15 m c t) n h d
  · unfold zR
    by_cases g : i.val < 4
    · rw [dif_pos g, dif_pos g]
      exact coe_real (hr.r0 _)
    · rw [dif_neg g, dif_neg g]
      rfl
  · obtain ⟨h', d', rfl⟩ := exists_cl l
    exact (read2 m c t n h' d').trans (sR_cl m c (bt t) hr h' n d')
  · rw [lo_is m c hr, csub]

/-- The reference over the same arguments, at one element. -/
theorem ref_is (hr : Reals m c) (V0 : Valuation Cert.WkvSRefIdeal.τ Cert.WkvSRefIdeal.sig (Elt Ideal))
    (g0 : V0 (Proc.devRef .tc WkvSRefIdeal.main_arg0) = arg0 m c) (g1 : V0 (Proc.devRef .tc WkvSRefIdeal.main_arg1) = arg1 m c)
    (g2 : V0 (Proc.devRef .tc WkvSRefIdeal.main_arg2) = arg2 m c) (g3 : V0 (Proc.devRef .tc WkvSRefIdeal.main_arg3) = arg3 m c)
    (g4 : V0 (Proc.devRef .tc WkvSRefIdeal.main_arg4) = arg4 m c) (g5 : V0 (Proc.devRef .tc WkvSRefIdeal.main_arg5) = arg5 m c)
    (g6 : V0 (Proc.devRef .tc WkvSRefIdeal.main_arg6) = arg6 m c) (g7 : V0 (Proc.devRef .tc WkvSRefIdeal.main_arg7) = arg7 m c)
    (g9 : V0 (Proc.devRef .tc WkvSRefIdeal.main_arg9) = arg9 m c) (g10 : V0 (Proc.devRef .tc WkvSRefIdeal.main_arg10) = arg10 m c)
    (n : Fin 64) (h : Fin 8) (d : Fin 64) :
    WkvSRefIdeal.Own.lastVec (WkvSRefIdeal.Own.stepOf V0 (WkvSRefIdeal.Value.res_main_v245 V0) (WkvSRefIdeal.Value.res_main_v252 V0)) (ix3 b n (cl h d))
      = ((last m c b n h d : ℝ) : EReal) := by
  refine WkvSRefIdeal.Own.ref_apply V0 b (z := zR m c b) (p := pR m c b) (mu := muR m c) (rw0 := w0R m c) (ra0 := a0R m c) (rkk := kkR m c) (rka := kaR m c) (rwd := wdR m c) (rwa := waR m c)
    (fun i k => (congrFun g0 _).trans ?_) (fun k => (congrFun g1 _).trans (coe_real (hr.r1 _))) (fun h n d => (congrFun g2 _).trans (sR_cl m c b hr h n d))
    (fun k => (congrFun g3 _).trans (coe_real (hr.r3 _))) (fun l => (congrFun g4 _).trans (coe_real (hr.r4 _))) (fun k l => (congrFun g5 _).trans (coe_real (hr.r5 _)))
    (fun l => (congrFun g6 _).trans (coe_real (hr.r6 _))) (fun k l => (congrFun g7 _).trans (coe_real (hr.r7 _))) (fun l => (congrFun g9 _).trans (coe_real (hr.r9 _)))
    (fun l => (congrFun g10 _).trans (coe_real (hr.r10 _))) (fun i hi => funext fun l => if_pos hi) (fun i hi => funext fun l => if_pos hi)
    (fun i hi => funext fun l => if_pos hi) (fun i _ => rfl) (fun i _ => rfl) n h d
  refine (coe_real (hr.r0 _)).trans ?_
  unfold zR
  rw [dif_pos (show i.val < 4 from i.isLt)]

theorem final17 (hr : Reals m c) (R : FVec Ideal S128x64x512 .f32) (hR : ∀ b n h d, R (ix3 b n (cl h d)) = ((last m c b n h d : ℝ) : EReal)) :
    (dats m 0 c).arrAt 17 cfg0.N = R := by
  refine (dats m 0 c).arrAt_eq_of_covers 17 _ (by decide +kernel) fun t hf y => ?_
  blk_simp
  rw [after0_17]
  obtain ⟨a, n, l, rfl⟩ : ∃ (a : Fin 1) (n : Fin 64) (l : Fin 512), y = ix3 a n l := ⟨y 0, y 1, y 2, eq_ix3 y⟩
  obtain rfl : a = 0 := Fin.ext (by omega)
  have hemb : ((cfg0.win 17).blk t).view.emb (ix3 0 n l) = ix3 (bt t) n l := by
    unfold bt
    blk_ext [idx t]
  rw [hemb]
  obtain ⟨h, d, rfl⟩ := exists_cl l
  exact (point_is m c hr t n h d).trans (hR (bt t) n h d).symm

end Cert.WkvSIdeal.Own

end
-- ==== Proof.WkvS.Pre.lean ====
/- What the precondition says of the recurrence's arguments: every entry is a real number. -/
module

public import proofs.«01_k».proof.Defs
public import proofs.«01_k».proof.Proof.Gen.Pre_wkv_finite
public import proofs.«01_k».proof.Proof.WkvS.Kernel
public import proofs.«01_k».proof.Proof.Merge.Pre

@[expose] public section

set_option maxRecDepth 16384

noncomputable section

namespace Cert.WkvSIdeal.Own

open Idealize.ShloMosaic Idealize.ShloMosaic.TcCoe Idealize.SL.Sem
open Cert.WkvSIdeal Cert.WkvSIdeal.Gen Cert.RouteOwn

/-- The precondition, taken apart. -/
theorem pre_real (m : (ℓ : Loc nD τ sig) → Buf (Elt Ideal) ℓ) (h : Pre_WkvSIdeal_wkv_finite m) (c : Dev nD) : Reals m c := by
  have e := congrFun (h c) ix0
  dsimp only [Cert.Pre_wkv_finite.fn, Cert.Pre_wkv_finite.fn_part1, Cert.Pre_wkv_finite.fn_part2] at e
  obtain ⟨e, e10⟩ := MergeIdeal.Own.and_one _ _ e
  obtain ⟨e, e9⟩ := MergeIdeal.Own.and_one _ _ e
  obtain ⟨e, e7⟩ := MergeIdeal.Own.and_one _ _ e
  obtain ⟨e, e6⟩ := MergeIdeal.Own.and_one _ _ e
  obtain ⟨e, e5⟩ := MergeIdeal.Own.and_one _ _ e
  obtain ⟨e, e4⟩ := MergeIdeal.Own.and_one _ _ e
  obtain ⟨e, e3⟩ := MergeIdeal.Own.and_one _ _ e
  obtain ⟨e, e2⟩ := MergeIdeal.Own.and_one _ _ e
  obtain ⟨e0, e1⟩ := MergeIdeal.Own.and_one _ _ e
  exact ⟨fun i => MergeIdeal.Own.real_of_abs _ (Host.reduce_andi_all _ _ _ _ _ e0 i), fun i => MergeIdeal.Own.real_of_abs _ (Host.reduce_andi_all _ _ _ _ _ e1 i),
    fun i => MergeIdeal.Own.real_of_abs _ (Host.reduce_andi_all _ _ _ _ _ e2 i), fun i => MergeIdeal.Own.real_of_abs _ (Host.reduce_andi_all _ _ _ _ _ e3 i),
    fun i => MergeIdeal.Own.real_of_abs _ (Host.reduce_andi_all _ _ _ _ _ e4 i), fun i => MergeIdeal.Own.real_of_abs _ (Host.reduce_andi_all _ _ _ _ _ e5 i),
    fun i => MergeIdeal.Own.real_of_abs _ (Host.reduce_andi_all _ _ _ _ _ e6 i), fun i => MergeIdeal.Own.real_of_abs _ (Host.reduce_andi_all _ _ _ _ _ e7 i),
    fun i => MergeIdeal.Own.real_of_abs _ (Host.reduce_andi_all _ _ _ _ _ e9 i), fun i => MergeIdeal.Own.real_of_abs _ (Host.reduce_andi_all _ _ _ _ _ e10 i)⟩

end Cert.WkvSIdeal.Own

end
-- ==== Proof.lean ====
/- The certificate's claims, each from the module that proves it. -/
module

public import proofs.«01_k».proof.Defs
public import proofs.«01_k».proof.Proof.Gen.Moe.Frame
public import proofs.«01_k».proof.Proof.Gen.MoeIdeal.Value
public import proofs.«01_k».proof.Proof.Gen.MoeRefIdeal.Run
public import proofs.«01_k».proof.Proof.Moe.Kernel
public import proofs.«01_k».proof.Proof.Gen.Merge.Frame
public import proofs.«01_k».proof.Proof.Gen.MergeIdeal.Value
public import proofs.«01_k».proof.Proof.Gen.InprojIdeal.Value
public import proofs.«01_k».proof.Proof.Gen.InprojRefIdeal.Run
public import proofs.«01_k».proof.Proof.Gen.Inproj.Frame
public import proofs.«01_k».proof.Proof.Gen.Pre_inproj_finite
public import proofs.«01_k».proof.Proof.Gen.MergeRefIdeal.Run
public import proofs.«01_k».proof.Proof.Gen.Pre_router_finite
public import proofs.«01_k».proof.Proof.Merge.Kernel
public import proofs.«01_k».proof.Proof.Merge.GateTerm
public import proofs.«01_k».proof.Proof.Merge.Pre
public import proofs.«01_k».proof.Proof.Inproj.Kernel
public import proofs.«01_k».proof.Proof.Inproj.RefTerms
public import proofs.«01_k».proof.Proof.Inproj.Pre
public import proofs.«01_k».proof.Proof.Gen.MoeS.Frame
public import proofs.«01_k».proof.Proof.Gen.MoeSIdeal.Value
public import proofs.«01_k».proof.Proof.Gen.MoeSRefIdeal.Run
public import proofs.«01_k».proof.Proof.Gen.MergeS.Frame
public import proofs.«01_k».proof.Proof.Gen.MergeSIdeal.Value
public import proofs.«01_k».proof.Proof.Gen.MergeSRefIdeal.Run
public import proofs.«01_k».proof.Proof.Gen.InprojS.Frame
public import proofs.«01_k».proof.Proof.Gen.InprojSIdeal.Value
public import proofs.«01_k».proof.Proof.Gen.InprojSRefIdeal.Run
public import proofs.«01_k».proof.Proof.Gen.Pre_router_finite_sample
public import proofs.«01_k».proof.Proof.Gen.Pre_inproj_finite_sample
public import proofs.«01_k».proof.Proof.MoeS.Kernel
public import proofs.«01_k».proof.Proof.MergeS.Kernel
public import proofs.«01_k».proof.Proof.MergeS.GateTerm
public import proofs.«01_k».proof.Proof.MergeS.Pre
public import proofs.«01_k».proof.Proof.InprojS.Kernel
public import proofs.«01_k».proof.Proof.InprojS.RefTerms
public import proofs.«01_k».proof.Proof.InprojS.Pre
public import Idealize.ShloMosaic.Adequacy
public import Idealize.ShloMosaic.Init
public import Idealize.ShloMosaic.Lib.Quiescent
public import proofs.«01_k».proof.Proof.Gen.WkvS.Frame
public import proofs.«01_k».proof.Proof.Gen.WkvSIdeal.Value
public import proofs.«01_k».proof.Proof.Gen.WkvSRefIdeal.Run
public import proofs.«01_k».proof.Proof.Gen.Pre_wkv_finite
public import proofs.«01_k».proof.Proof.WkvS.Kernel
public import proofs.«01_k».proof.Proof.WkvS.Pre

@[expose] public section

noncomputable section

namespace Cert.Proof

open Idealize.ShloMosaic Idealize.SL.Sem

theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem algebraic_MoeIdeal_MoeRefIdeal : algebraic_MoeIdeal_MoeRefIdeal := by
  intro m ρ m' ρ' _ hagree
  refine ⟨_, Cert.MoeIdeal.Value.run (F := Ideal) m ρ, ?_⟩
  refine (θ_run Cert.MoeRefIdeal.defs _ _).mono (fun _ h c => ⟨?_, (h c).2⟩) (Cert.MoeRefIdeal.Value.run (F := Ideal) m' ρ')
  obtain ⟨h0, h1, h2, h3, h4, h5, h6, h7, h8, h9, h10⟩ := hagree c
  rw [(h c).1, Cert.MoeRefIdeal.Own.res_eq, h0, h1, h2, h3, h4, h5, h6, h7, h8, h9, h10]
  exact (Cert.MoeIdeal.Own.final m c).symm

theorem quiescent_MergeRefIdeal : quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

theorem quiescent_MergeRefIdeal_pre : quiescent_MergeRefIdeal_pre_router_finite := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

theorem algebraic_MergeIdeal_MergeRefIdeal : algebraic_MergeIdeal_MergeRefIdeal_pre_router_finite := by
  intro m ρ m' ρ' hpre hagree
  refine ⟨_, _, _, Cert.MergeIdeal.Value.run_blocks (F := Ideal) m ρ, ?_⟩
  refine (θ_run Cert.MergeRefIdeal.defs _ _).mono (fun _ h c => ⟨?_, ?_, ?_, (h c).2.2.2⟩) (Cert.MergeRefIdeal.Value.run (F := Ideal) m' ρ')
  all_goals obtain ⟨h0, h1, h2, h3, h4, h5, h6, h7, h8, h9, h10, h11, h12⟩ := hagree c
  · rw [(h c).1, Cert.MergeRefIdeal.Own.x1_eq, h0, h1, h2, h3, h4, h5, h6, h7]
    exact (Cert.MergeIdeal.Own.final12 m c).symm
  · rw [(h c).2.1, Cert.MergeRefIdeal.Own.t_eq, h0, h1, h2, h3, h4, h5, h6, h7, h8]
    exact (Cert.MergeIdeal.Own.final13 m c).symm
  · obtain ⟨r8, r9, r10, r11, r12⟩ := Cert.MergeIdeal.Own.pre_real m hpre c
    refine ((h c).2.2.1.trans (Cert.MergeRefIdeal.Own.gate_eq m' c)).trans ?_
    rw [h0, h1, h2, h3, h4, h5, h6, h7, h8, h9, h10, h11, h12]
    exact (Cert.MergeIdeal.Own.final14 m c r8 r9 r10 r11 r12).symm

theorem quiescent_InprojRefIdeal : quiescent_InprojRefIdeal := fun m ρ _ =>
  (θ_run Cert.InprojRefIdeal.defs _ _).mono (fun r h => ⟨fun c => (h c).2.2.2.2.2.2.2.2.2.2.2.2, sem_eq_zero_of_no_sems (by decide) r.2⟩)
    (Cert.InprojRefIdeal.Own.run m ρ)

theorem quiescent_InprojRefIdeal_pre : quiescent_InprojRefIdeal_pre_inproj_finite := fun m ρ _ =>
  (θ_run Cert.InprojRefIdeal.defs _ _).mono (fun r h => ⟨fun c => (h c).2.2.2.2.2.2.2.2.2.2.2.2, sem_eq_zero_of_no_sems (by decide) r.2⟩)
    (Cert.InprojRefIdeal.Own.run m ρ)

theorem algebraic_InprojIdeal_InprojRefIdeal : algebraic_InprojIdeal_InprojRefIdeal_pre_inproj_finite := by
  intro m ρ m' ρ' hpre hagree
  refine ⟨_, _, _, _, _, _, _, _, _, _, _, _, Cert.InprojIdeal.Value.run_blocks (F := Ideal) m ρ, ?_⟩
  refine (θ_run Cert.InprojRefIdeal.defs _ _).mono (fun _ h c => ?_) (Cert.InprojRefIdeal.Own.run m' ρ')
  obtain ⟨h0, h1, h2, h3, h4⟩ := hagree c
  obtain ⟨r1, r2⟩ := Cert.InprojIdeal.Own.pre_real m hpre c
  obtain ⟨g0, g1, g2, g3, g4, g5, g6, g7, g8, g9, g10, g11, ga⟩ := h c
  have hz : Cert.InprojRefIdeal.Own.zOf m' c = Cert.InprojIdeal.Own.zRef m c := by
    show Cert.InprojRefIdeal.Own.zVec _ _ _ = _
    rw [h0, h1, h2]
  have e0 := (g0.trans (congrArg (fun z => Cert.InprojRefIdeal.Own.aVec (z)) hz)).trans (Cert.InprojIdeal.Own.final7 m c).symm
  have e1 := (g1.trans (congr (congrArg Cert.InprojRefIdeal.Own.qVec hz) h3)).trans (Cert.InprojIdeal.Own.final8 m c r1 r2).symm
  have e2 := (g2.trans (congr (congrArg Cert.InprojRefIdeal.Own.kVec hz) h4)).trans (Cert.InprojIdeal.Own.final9 m c r1 r2).symm
  have e3 := (g3.trans (congrArg (fun z => Cert.InprojRefIdeal.Own.vVec (z)) hz)).trans (Cert.InprojIdeal.Own.final10 m c).symm
  have e4 := (g4.trans (congrArg (fun u => truncf .bf16 u Cert.InprojRefIdeal.Gen.bitsLt_bf16_f32) (congr (congrArg Cert.InprojRefIdeal.Own.kVec hz) h4))).trans (Cert.InprojIdeal.Own.final11 m c r1 r2).symm
  have e5 := (g5.trans (congrArg (fun z => truncf .bf16 (Cert.InprojRefIdeal.Own.vVec (z)) Cert.InprojRefIdeal.Gen.bitsLt_bf16_f32) hz)).trans (Cert.InprojIdeal.Own.final12 m c).symm
  have e6 := (g6.trans (congrArg (fun z => Cert.InprojRefIdeal.Own.qiVec (z)) hz)).trans (Cert.InprojIdeal.Own.final13 m c).symm
  have e7 := (g7.trans (congrArg (fun z => Cert.InprojRefIdeal.Own.kiVec (z)) hz)).trans (Cert.InprojIdeal.Own.final14 m c).symm
  have e8 := (g8.trans (congrArg (fun z => Cert.InprojRefIdeal.Own.kiTwice (Cert.InprojRefIdeal.Own.kiVec (z))) hz)).trans (Cert.InprojIdeal.Own.final15 m c).symm
  have e9 := (g9.trans (congrArg (fun z => Cert.InprojRefIdeal.Own.wiVec (z)) hz)).trans (Cert.InprojIdeal.Own.final16 m c).symm
  have e10 := (g10.trans (congrArg (fun z => Cert.InprojRefIdeal.Own.gaVec (z)) hz)).trans (Cert.InprojIdeal.Own.final17 m c).symm
  have e11 := (g11.trans (congrArg (fun z => Cert.InprojRefIdeal.Own.gbVec (z)) hz)).trans (Cert.InprojIdeal.Own.final18 m c).symm
  exact ⟨e0, e1, e2, e3, e4, e5, e6, e7, e8, e9, e10, e11, ga⟩

theorem quiescent_MoeSRefIdeal : quiescent_MoeSRefIdeal := fun m ρ _ =>
  (θ_run Cert.MoeSRefIdeal.defs _ _).mono (fun r h => ⟨fun c => (h c).2, sem_eq_zero_of_no_sems (by decide) r.2⟩)
    (Cert.MoeSRefIdeal.Value.run (F := Ideal) m ρ)

theorem algebraic_MoeSIdeal_MoeSRefIdeal : algebraic_MoeSIdeal_MoeSRefIdeal := by
  intro m ρ m' ρ' _ hagree
  refine ⟨_, Cert.MoeSIdeal.Value.run (F := Ideal) m ρ, ?_⟩
  refine (θ_run Cert.MoeSRefIdeal.defs _ _).mono (fun _ h c => ⟨?_, (h c).2⟩) (Cert.MoeSRefIdeal.Value.run (F := Ideal) m' ρ')
  obtain ⟨h0, h1, h2, h3, h4, h5, h6, h7, h8, h9, h10⟩ := hagree c
  rw [(h c).1, Cert.MoeSRefIdeal.Own.res_eq, h0, h1, h2, h3, h4, h5, h6, h7, h8, h9, h10]
  exact (Cert.MoeSIdeal.Own.final m c).symm

theorem quiescent_MergeSRefIdeal : quiescent_MergeSRefIdeal := fun m ρ _ =>
  (θ_run Cert.MergeSRefIdeal.defs _ _).mono (fun r h => ⟨fun c => (h c).2.2.2, sem_eq_zero_of_no_sems (by decide) r.2⟩)
    (Cert.MergeSRefIdeal.Value.run (F := Ideal) m ρ)

theorem quiescent_MergeSRefIdeal_pre : quiescent_MergeSRefIdeal_pre_router_finite_sample := fun m ρ _ =>
  (θ_run Cert.MergeSRefIdeal.defs _ _).mono (fun r h => ⟨fun c => (h c).2.2.2, sem_eq_zero_of_no_sems (by decide) r.2⟩)
    (Cert.MergeSRefIdeal.Value.run (F := Ideal) m ρ)

theorem algebraic_MergeSIdeal_MergeSRefIdeal : algebraic_MergeSIdeal_MergeSRefIdeal_pre_router_finite_sample := by
  intro m ρ m' ρ' hpre hagree
  refine ⟨_, _, _, Cert.MergeSIdeal.Value.run_blocks (F := Ideal) m ρ, ?_⟩
  refine (θ_run Cert.MergeSRefIdeal.defs _ _).mono (fun _ h c => ⟨?_, ?_, ?_, (h c).2.2.2⟩) (Cert.MergeSRefIdeal.Value.run (F := Ideal) m' ρ')
  all_goals obtain ⟨h0, h1, h2, h3, h4, h5, h6, h7, h8, h9, h10, h11, h12⟩ := hagree c
  · rw [(h c).1, Cert.MergeSRefIdeal.Own.x1_eq, h0, h1, h2, h3, h4, h5, h6, h7]
    exact (Cert.MergeSIdeal.Own.final12 m c).symm
  · rw [(h c).2.1, Cert.MergeSRefIdeal.Own.t_eq, h0, h1, h2, h3, h4, h5, h6, h7, h8]
    exact (Cert.MergeSIdeal.Own.final13 m c).symm
  · obtain ⟨r8, r9, r10, r11, r12⟩ := Cert.MergeSIdeal.Own.pre_real m hpre c
    refine ((h c).2.2.1.trans (Cert.MergeSRefIdeal.Own.gate_eq m' c)).trans ?_
    rw [h0, h1, h2, h3, h4, h5, h6, h7, h8, h9, h10, h11, h12]
    exact (Cert.MergeSIdeal.Own.final14 m c r8 r9 r10 r11 r12).symm

theorem quiescent_InprojSRefIdeal : quiescent_InprojSRefIdeal := fun m ρ _ =>
  (θ_run Cert.InprojSRefIdeal.defs _ _).mono (fun r h => ⟨fun c => (h c).2.2.2.2.2.2.2.2.2.2.2.2, sem_eq_zero_of_no_sems (by decide) r.2⟩)
    (Cert.InprojSRefIdeal.Own.run m ρ)

theorem quiescent_InprojSRefIdeal_pre : quiescent_InprojSRefIdeal_pre_inproj_finite_sample := fun m ρ _ =>
  (θ_run Cert.InprojSRefIdeal.defs _ _).mono (fun r h => ⟨fun c => (h c).2.2.2.2.2.2.2.2.2.2.2.2, sem_eq_zero_of_no_sems (by decide) r.2⟩)
    (Cert.InprojSRefIdeal.Own.run m ρ)

set_option maxHeartbeats 2000000 in
theorem algebraic_InprojSIdeal_InprojSRefIdeal : algebraic_InprojSIdeal_InprojSRefIdeal_pre_inproj_finite_sample := by
  intro m ρ m' ρ' hpre hagree
  refine ⟨_, _, _, _, _, _, _, _, _, _, _, _, Cert.InprojSIdeal.Value.run_blocks (F := Ideal) m ρ, ?_⟩
  refine (θ_run Cert.InprojSRefIdeal.defs _ _).mono (fun _ h c => ?_) (Cert.InprojSRefIdeal.Own.run m' ρ')
  obtain ⟨h0, h1, h2, h3, h4⟩ := hagree c
  obtain ⟨r1, r2⟩ := Cert.InprojSIdeal.Own.pre_real m hpre c
  obtain ⟨g0, g1, g2, g3, g4, g5, g6, g7, g8, g9, g10, g11, ga⟩ := h c
  have hz : Cert.InprojSRefIdeal.Own.zOf m' c = Cert.InprojSIdeal.Own.zRef m c := by
    show Cert.InprojSRefIdeal.Own.zVec _ _ _ = _
    rw [h0, h1, h2]
  have e0 := (g0.trans (congrArg (fun z => Cert.InprojSRefIdeal.Own.aVec (z)) hz)).trans (Cert.InprojSIdeal.Own.final7 m c).symm
  have e1 := (g1.trans (congr (congrArg Cert.InprojSRefIdeal.Own.qVec hz) h3)).trans (Cert.InprojSIdeal.Own.final8 m c r1 r2).symm
  have e2 := (g2.trans (congr (congrArg Cert.InprojSRefIdeal.Own.kVec hz) h4)).trans (Cert.InprojSIdeal.Own.final9 m c r1 r2).symm
  have e3 := (g3.trans (congrArg (fun z => Cert.InprojSRefIdeal.Own.vVec (z)) hz)).trans (Cert.InprojSIdeal.Own.final10 m c).symm
  have e4 := (g4.trans (congrArg (fun u => truncf .bf16 u Cert.InprojSRefIdeal.Gen.bitsLt_bf16_f32) (congr (congrArg Cert.InprojSRefIdeal.Own.kVec hz) h4))).trans (Cert.InprojSIdeal.Own.final11 m c r1 r2).symm
  have e5 := (g5.trans (congrArg (fun z => truncf .bf16 (Cert.InprojSRefIdeal.Own.vVec (z)) Cert.InprojSRefIdeal.Gen.bitsLt_bf16_f32) hz)).trans (Cert.InprojSIdeal.Own.final12 m c).symm
  have e6 := (g6.trans (congrArg (fun z => Cert.InprojSRefIdeal.Own.qiVec (z)) hz)).trans (Cert.InprojSIdeal.Own.final13 m c).symm
  have e7 := (g7.trans (congrArg (fun z => Cert.InprojSRefIdeal.Own.kiVec (z)) hz)).trans (Cert.InprojSIdeal.Own.final14 m c).symm
  have e8 := (g8.trans (congrArg (fun z => Cert.InprojSRefIdeal.Own.kiTwice (Cert.InprojSRefIdeal.Own.kiVec (z))) hz)).trans (Cert.InprojSIdeal.Own.final15 m c).symm
  have e9 := (g9.trans (congrArg (fun z => Cert.InprojSRefIdeal.Own.wiVec (z)) hz)).trans (Cert.InprojSIdeal.Own.final16 m c).symm
  have e10 := (g10.trans (congrArg (fun z => Cert.InprojSRefIdeal.Own.gaVec (z)) hz)).trans (Cert.InprojSIdeal.Own.final17 m c).symm
  have e11 := (g11.trans (congrArg (fun z => Cert.InprojSRefIdeal.Own.gbVec (z)) hz)).trans (Cert.InprojSIdeal.Own.final18 m c).symm
  exact ⟨e0, e1, e2, e3, e4, e5, e6, e7, e8, e9, e10, e11, ga⟩

theorem quiescent_WkvSRefIdeal : quiescent_WkvSRefIdeal := fun m ρ _ =>
  (θ_run Cert.WkvSRefIdeal.defs _ _).mono (fun r h => ⟨fun c => (h c).2, sem_eq_zero_of_no_sems (by decide) r.2⟩)
    (Cert.WkvSRefIdeal.Value.run m ρ)

theorem quiescent_WkvSRefIdeal_pre : quiescent_WkvSRefIdeal_pre_wkv_finite := fun m ρ _ =>
  (θ_run Cert.WkvSRefIdeal.defs _ _).mono (fun r h => ⟨fun c => (h c).2, sem_eq_zero_of_no_sems (by decide) r.2⟩)
    (Cert.WkvSRefIdeal.Value.run m ρ)

set_option maxHeartbeats 2000000 in
theorem algebraic_WkvSIdeal_WkvSRefIdeal : algebraic_WkvSIdeal_WkvSRefIdeal_pre_wkv_finite := by
  intro m ρ m' ρ' hpre hagree
  refine ⟨_, (θ_run Cert.WkvSIdeal.defs _ _).mono (fun _ h c => (h c).2) (Cert.WkvSIdeal.Value.run_blocks (F := Ideal) m ρ), ?_⟩
  refine (θ_run Cert.WkvSRefIdeal.defs _ _).mono (fun _ h c => ⟨(h c).1.trans ?_, (h c).2⟩) (Cert.WkvSRefIdeal.Value.run m' ρ')
  obtain ⟨h0, h1, h2, h3, h4, h5, h6, h7, h8, h9, h10, h11, h12, h13⟩ := hagree c
  have hr := Cert.WkvSIdeal.Own.pre_real m hpre c
  exact (Cert.WkvSIdeal.Own.final17 m c hr _ (fun b n h d => Cert.WkvSIdeal.Own.ref_is m c b hr (StableHlo.launchContents m' c) h0 h1 h2 h3 h4 h5 h6 h7 h9 h10 n h d)).symm

theorem claim : Cert.Claim := ⟨Cert.Moe.Gen.facts, Cert.MoeIdeal.Gen.facts, Cert.MoeRefIdeal.Gen.facts,
  Cert.Merge.Gen.facts, Cert.MergeIdeal.Gen.facts, Cert.MergeRefIdeal.Gen.facts,
  Cert.Inproj.Gen.facts, Cert.InprojIdeal.Gen.facts, Cert.InprojRefIdeal.Gen.facts,
  Cert.MoeS.Gen.facts, Cert.MoeSIdeal.Gen.facts, Cert.MoeSRefIdeal.Gen.facts,
  Cert.MergeS.Gen.facts, Cert.MergeSIdeal.Gen.facts, Cert.MergeSRefIdeal.Gen.facts,
  Cert.InprojS.Gen.facts, Cert.InprojSIdeal.Gen.facts, Cert.InprojSRefIdeal.Gen.facts,
  Cert.WkvS.Gen.facts, Cert.WkvSIdeal.Gen.facts, Cert.WkvSRefIdeal.Gen.facts,
  Cert.Pre_router_finite.Gen.facts, Cert.Pre_inproj_finite.Gen.facts,
  Cert.Pre_router_finite_sample.Gen.facts, Cert.Pre_inproj_finite_sample.Gen.facts, Cert.Pre_wkv_finite.Gen.facts,
  fun m ρ _ => Cert.Moe.Gen.frame m ρ, fun m ρ _ => Cert.MoeIdeal.Gen.frame m ρ, quiescent_MoeRefIdeal,
  fun m ρ _ => Cert.Merge.Gen.frame m ρ, fun m ρ _ => Cert.MergeIdeal.Gen.frame m ρ, fun m ρ _ => Cert.MergeIdeal.Gen.frame m ρ,
  quiescent_MergeRefIdeal, quiescent_MergeRefIdeal_pre,
  fun m ρ _ => Cert.Inproj.Gen.frame m ρ, fun m ρ _ => Cert.InprojIdeal.Gen.frame m ρ, fun m ρ _ => Cert.InprojIdeal.Gen.frame m ρ,
  quiescent_InprojRefIdeal, quiescent_InprojRefIdeal_pre,
  fun m ρ _ => Cert.MoeS.Gen.frame m ρ, fun m ρ _ => Cert.MoeSIdeal.Gen.frame m ρ, quiescent_MoeSRefIdeal,
  fun m ρ _ => Cert.MergeS.Gen.frame m ρ, fun m ρ _ => Cert.MergeSIdeal.Gen.frame m ρ, fun m ρ _ => Cert.MergeSIdeal.Gen.frame m ρ,
  quiescent_MergeSRefIdeal, quiescent_MergeSRefIdeal_pre,
  fun m ρ _ => Cert.InprojS.Gen.frame m ρ, fun m ρ _ => Cert.InprojSIdeal.Gen.frame m ρ, fun m ρ _ => Cert.InprojSIdeal.Gen.frame m ρ,
  quiescent_InprojSRefIdeal, quiescent_InprojSRefIdeal_pre,
  fun m ρ _ => Cert.WkvS.Gen.frame m ρ, fun m ρ _ => Cert.WkvSIdeal.Gen.frame m ρ, fun m ρ _ => Cert.WkvSIdeal.Gen.frame m ρ,
  quiescent_WkvSRefIdeal, quiescent_WkvSRefIdeal_pre,
  (trivial : preserves_Moe_MoeIdeal), algebraic_MoeIdeal_MoeRefIdeal,
  (trivial : preserves_Merge_MergeIdeal), algebraic_MergeIdeal_MergeRefIdeal,
  (trivial : preserves_Inproj_InprojIdeal), algebraic_InprojIdeal_InprojRefIdeal,
  (trivial : preserves_MoeS_MoeSIdeal), algebraic_MoeSIdeal_MoeSRefIdeal,
  (trivial : preserves_MergeS_MergeSIdeal), algebraic_MergeSIdeal_MergeSRefIdeal,
  (trivial : preserves_InprojS_InprojSIdeal), algebraic_InprojSIdeal_InprojSRefIdeal,
  (trivial : preserves_WkvS_WkvSIdeal), algebraic_WkvSIdeal_WkvSRefIdeal⟩

end Cert.Proof

end
